-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_FfDownDx (m : (ℓ : Loc Cert.FfDownDx.nD Cert.FfDownDx.τ Cert.FfDownDx.sig) → Buf (Elt Bits) ℓ) : Prop :=
  True

def Pre_FfDownDxIdeal (m : (ℓ : Loc Cert.FfDownDxIdeal.nD Cert.FfDownDxIdeal.τ Cert.FfDownDxIdeal.sig) → Buf (Elt Ideal) ℓ) : Prop :=
  True

def Pre_RefFfDownDxIdeal (m : (ℓ : Loc Cert.RefFfDownDxIdeal.nD Cert.RefFfDownDxIdeal.τ Cert.RefFfDownDxIdeal.sig) → Buf (Elt Ideal) ℓ) : Prop :=
  True

def Pre_FfDownDw (m : (ℓ : Loc Cert.FfDownDw.nD Cert.FfDownDw.τ Cert.FfDownDw.sig) → Buf (Elt Bits) ℓ) : Prop :=
  True

def Pre_FfDownDwIdeal (m : (ℓ : Loc Cert.FfDownDwIdeal.nD Cert.FfDownDwIdeal.τ Cert.FfDownDwIdeal.sig) → Buf (Elt Ideal) ℓ) : Prop :=
  True

def Pre_RefFfDownDwIdeal (m : (ℓ : Loc Cert.RefFfDownDwIdeal.nD Cert.RefFfDownDwIdeal.τ Cert.RefFfDownDwIdeal.sig) → Buf (Elt Ideal) ℓ) : Prop :=
  True

def Pre_FfUpDw (m : (ℓ : Loc Cert.FfUpDw.nD Cert.FfUpDw.τ Cert.FfUpDw.sig) → Buf (Elt Bits) ℓ) : Prop :=
  True

def Pre_FfUpDwIdeal (m : (ℓ : Loc Cert.FfUpDwIdeal.nD Cert.FfUpDwIdeal.τ Cert.FfUpDwIdeal.sig) → Buf (Elt Ideal) ℓ) : Prop :=
  True

def Pre_RefFfUpDwIdeal (m : (ℓ : Loc Cert.RefFfUpDwIdeal.nD Cert.RefFfUpDwIdeal.τ Cert.RefFfUpDwIdeal.sig) → Buf (Elt Ideal) ℓ) : Prop :=
  True

def Pre_FfUpDx (m : (ℓ : Loc Cert.FfUpDx.nD Cert.FfUpDx.τ Cert.FfUpDx.sig) → Buf (Elt Bits) ℓ) : Prop :=
  True

def Pre_FfUpDxIdeal (m : (ℓ : Loc Cert.FfUpDxIdeal.nD Cert.FfUpDxIdeal.τ Cert.FfUpDxIdeal.sig) → Buf (Elt Ideal) ℓ) : Prop :=
  True

def Pre_RefFfUpDxIdeal (m : (ℓ : Loc Cert.RefFfUpDxIdeal.nD Cert.RefFfUpDxIdeal.τ Cert.RefFfUpDxIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_RefOutDwIdeal (m : (ℓ : Loc Cert.RefOutDwIdeal.nD Cert.RefOutDwIdeal.τ Cert.RefOutDwIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_RefOutDxIdeal (m : (ℓ : Loc Cert.RefOutDxIdeal.nD Cert.RefOutDxIdeal.τ Cert.RefOutDxIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_RefInDwIdeal (m : (ℓ : Loc Cert.RefInDwIdeal.nD Cert.RefInDwIdeal.τ Cert.RefInDwIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_RefInDxIdeal (m : (ℓ : Loc Cert.RefInDxIdeal.nD Cert.RefInDxIdeal.τ Cert.RefInDxIdeal.sig) → Buf (Elt Ideal) ℓ) : Prop :=
  True

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_RefInFwdIdeal (m : (ℓ : Loc Cert.RefInFwdIdeal.nD Cert.RefInFwdIdeal.τ Cert.RefInFwdIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_RefOutFwdIdeal (m : (ℓ : Loc Cert.RefOutFwdIdeal.nD Cert.RefOutFwdIdeal.τ Cert.RefOutFwdIdeal.sig) → Buf (Elt Ideal) ℓ) : Prop :=
  True

def Pre_FfUpFwd (m : (ℓ : Loc Cert.FfUpFwd.nD Cert.FfUpFwd.τ Cert.FfUpFwd.sig) → Buf (Elt Bits) ℓ) : Prop :=
  True

def Pre_FfUpFwdIdeal (m : (ℓ : Loc Cert.FfUpFwdIdeal.nD Cert.FfUpFwdIdeal.τ Cert.FfUpFwdIdeal.sig) → Buf (Elt Ideal) ℓ) : Prop :=
  True

def Pre_RefFfUpFwdIdeal (m : (ℓ : Loc Cert.RefFfUpFwdIdeal.nD Cert.RefFfUpFwdIdeal.τ Cert.RefFfUpFwdIdeal.sig) → Buf (Elt Ideal) ℓ) : Prop :=
  True

def Pre_FfDownFwd (m : (ℓ : Loc Cert.FfDownFwd.nD Cert.FfDownFwd.τ Cert.FfDownFwd.sig) → Buf (Elt Bits) ℓ) : Prop :=
  True

def Pre_FfDownFwdIdeal (m : (ℓ : Loc Cert.FfDownFwdIdeal.nD Cert.FfDownFwdIdeal.τ Cert.FfDownFwdIdeal.sig) → Buf (Elt Ideal) ℓ) : Prop :=
  True

def Pre_RefFfDownFwdIdeal (m : (ℓ : Loc Cert.RefFfDownFwdIdeal.nD Cert.RefFfDownFwdIdeal.τ Cert.RefFfDownFwdIdeal.sig) → Buf (Elt Ideal) ℓ) : Prop :=
  True

def Pre_RmsBwd (m : (ℓ : Loc Cert.RmsBwd.nD Cert.RmsBwd.τ Cert.RmsBwd.sig) → Buf (Elt Bits) ℓ) : Prop :=
  True

def Pre_RmsBwdIdeal (m : (ℓ : Loc Cert.RmsBwdIdeal.nD Cert.RmsBwdIdeal.τ Cert.RmsBwdIdeal.sig) → Buf (Elt Ideal) ℓ) : Prop :=
  True

def Pre_RefRmsBwdIdeal (m : (ℓ : Loc Cert.RefRmsBwdIdeal.nD Cert.RefRmsBwdIdeal.τ Cert.RefRmsBwdIdeal.sig) → Buf (Elt Ideal) ℓ) : Prop :=
  True

def Pre_GateBwd (m : (ℓ : Loc Cert.GateBwd.nD Cert.GateBwd.τ Cert.GateBwd.sig) → Buf (Elt Bits) ℓ) : Prop :=
  True

def Pre_GateBwdIdeal (m : (ℓ : Loc Cert.GateBwdIdeal.nD Cert.GateBwdIdeal.τ Cert.GateBwdIdeal.sig) → Buf (Elt Ideal) ℓ) : Prop :=
  True

def Pre_RefGateBwdIdeal (m : (ℓ : Loc Cert.RefGateBwdIdeal.nD Cert.RefGateBwdIdeal.τ Cert.RefGateBwdIdeal.sig) → Buf (Elt Ideal) ℓ) : Prop :=
  True

def Pre_RmsFwd (m : (ℓ : Loc Cert.RmsFwd.nD Cert.RmsFwd.τ Cert.RmsFwd.sig) → Buf (Elt Bits) ℓ) : Prop :=
  True

def Pre_RmsFwdIdeal (m : (ℓ : Loc Cert.RmsFwdIdeal.nD Cert.RmsFwdIdeal.τ Cert.RmsFwdIdeal.sig) → Buf (Elt Ideal) ℓ) : Prop :=
  True

def Pre_RefRmsFwdIdeal (m : (ℓ : Loc Cert.RefRmsFwdIdeal.nD Cert.RefRmsFwdIdeal.τ Cert.RefRmsFwdIdeal.sig) → Buf (Elt Ideal) ℓ) : Prop :=
  True

def Pre_GateFwd (m : (ℓ : Loc Cert.GateFwd.nD Cert.GateFwd.τ Cert.GateFwd.sig) → Buf (Elt Bits) ℓ) : Prop :=
  True

def Pre_GateFwdIdeal (m : (ℓ : Loc Cert.GateFwdIdeal.nD Cert.GateFwdIdeal.τ Cert.GateFwdIdeal.sig) → Buf (Elt Ideal) ℓ) : Prop :=
  True

def Pre_RefGateFwdIdeal (m : (ℓ : Loc Cert.RefGateFwdIdeal.nD Cert.RefGateFwdIdeal.τ Cert.RefGateFwdIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_RefLossHeadIdeal (m : (ℓ : Loc Cert.RefLossHeadIdeal.nD Cert.RefLossHeadIdeal.τ Cert.RefLossHeadIdeal.sig) → Buf (Elt Ideal) ℓ) : Prop :=
  True

def Pre_ConvBwd (m : (ℓ : Loc Cert.ConvBwd.nD Cert.ConvBwd.τ Cert.ConvBwd.sig) → Buf (Elt Bits) ℓ) : Prop :=
  True

def Pre_ConvBwdIdeal (m : (ℓ : Loc Cert.ConvBwdIdeal.nD Cert.ConvBwdIdeal.τ Cert.ConvBwdIdeal.sig) → Buf (Elt Ideal) ℓ) : Prop :=
  True

def Pre_RefConvBwdIdeal (m : (ℓ : Loc Cert.RefConvBwdIdeal.nD Cert.RefConvBwdIdeal.τ Cert.RefConvBwdIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_RefConvFwdIdeal (m : (ℓ : Loc Cert.RefConvFwdIdeal.nD Cert.RefConvFwdIdeal.τ Cert.RefConvFwdIdeal.sig) → Buf (Elt Ideal) ℓ) : Prop :=
  True

def Pre_InDtDw (m : (ℓ : Loc Cert.InDtDw.nD Cert.InDtDw.τ Cert.InDtDw.sig) → Buf (Elt Bits) ℓ) : Prop :=
  True

def Pre_InDtDwIdeal (m : (ℓ : Loc Cert.InDtDwIdeal.nD Cert.InDtDwIdeal.τ Cert.InDtDwIdeal.sig) → Buf (Elt Ideal) ℓ) : Prop :=
  True

def Pre_RefInDtDwIdeal (m : (ℓ : Loc Cert.RefInDtDwIdeal.nD Cert.RefInDtDwIdeal.τ Cert.RefInDtDwIdeal.sig) → Buf (Elt Ideal) ℓ) : Prop :=
  True

def Pre_InDtDx (m : (ℓ : Loc Cert.InDtDx.nD Cert.InDtDx.τ Cert.InDtDx.sig) → Buf (Elt Bits) ℓ) : Prop :=
  True

def Pre_InDtDxIdeal (m : (ℓ : Loc Cert.InDtDxIdeal.nD Cert.InDtDxIdeal.τ Cert.InDtDxIdeal.sig) → Buf (Elt Ideal) ℓ) : Prop :=
  True

def Pre_RefInDtDxIdeal (m : (ℓ : Loc Cert.RefInDtDxIdeal.nD Cert.RefInDtDxIdeal.τ Cert.RefInDtDxIdeal.sig) → Buf (Elt Ideal) ℓ) : Prop :=
  True

def Pre_InDtFwd (m : (ℓ : Loc Cert.InDtFwd.nD Cert.InDtFwd.τ Cert.InDtFwd.sig) → Buf (Elt Bits) ℓ) : Prop :=
  True

def Pre_InDtFwdIdeal (m : (ℓ : Loc Cert.InDtFwdIdeal.nD Cert.InDtFwdIdeal.τ Cert.InDtFwdIdeal.sig) → Buf (Elt Ideal) ℓ) : Prop :=
  True

def Pre_RefInDtFwdIdeal (m : (ℓ : Loc Cert.RefInDtFwdIdeal.nD Cert.RefInDtFwdIdeal.τ Cert.RefInDtFwdIdeal.sig) → Buf (Elt Ideal) ℓ) : Prop :=
  True

def Pre_AdamFf (m : (ℓ : Loc Cert.AdamFf.nD Cert.AdamFf.τ Cert.AdamFf.sig) → Buf (Elt Bits) ℓ) : Prop :=
  True

def Pre_AdamFfIdeal (m : (ℓ : Loc Cert.AdamFfIdeal.nD Cert.AdamFfIdeal.τ Cert.AdamFfIdeal.sig) → Buf (Elt Ideal) ℓ) : Prop :=
  True

def Pre_RefAdamFfIdeal (m : (ℓ : Loc Cert.RefAdamFfIdeal.nD Cert.RefAdamFfIdeal.τ Cert.RefAdamFfIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_RefAdamOutIdeal (m : (ℓ : Loc Cert.RefAdamOutIdeal.nD Cert.RefAdamOutIdeal.τ Cert.RefAdamOutIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_RefAdamInIdeal (m : (ℓ : Loc Cert.RefAdamInIdeal.nD Cert.RefAdamInIdeal.τ Cert.RefAdamInIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_FfDownDx [hFfDownDx : Cert.FfDownDx.Facts] : Prop :=
  ∀ (m : (ℓ : Loc Cert.FfDownDx.nD Cert.FfDownDx.τ Cert.FfDownDx.sig) → Buf (Elt Bits) ℓ) (g : Dev Cert.FfDownDx.nD → PrngReg), Pre_FfDownDx m →
    θ_run (Cert.FfDownDx.defs (F := Bits)) (onTc (τ := Cert.FfDownDx.τ) (Cert.FfDownDx.main (F := Bits))) ⟨m, fun _ => 0, g⟩ (fun r => (∀ c : Dev Cert.FfDownDx.nD,
      r.2.mem ((c.tc : Thread Cert.FfDownDx.nD Cert.FfDownDx.τ).loc Cert.FfDownDx.main_arg0) = m ((c.tc : Thread Cert.FfDownDx.nD Cert.FfDownDx.τ).loc Cert.FfDownDx.main_arg0)
      ∧ r.2.mem ((c.tc : Thread Cert.FfDownDx.nD Cert.FfDownDx.τ).loc Cert.FfDownDx.main_arg1) = m ((c.tc : Thread Cert.FfDownDx.nD Cert.FfDownDx.τ).loc Cert.FfDownDx.main_arg1)
      ∧ r.2.mem ((c.tc : Thread Cert.FfDownDx.nD Cert.FfDownDx.τ).loc Cert.FfDownDx.main_arg2) = m ((c.tc : Thread Cert.FfDownDx.nD Cert.FfDownDx.τ).loc Cert.FfDownDx.main_arg2))
      ∧ r.2.sem = fun _ => 0)

def quiescent_FfDownDxIdeal [hFfDownDxIdeal : Cert.FfDownDxIdeal.Facts] : Prop :=
  ∀ (m : (ℓ : Loc Cert.FfDownDxIdeal.nD Cert.FfDownDxIdeal.τ Cert.FfDownDxIdeal.sig) → Buf (Elt Ideal) ℓ) (g : Dev Cert.FfDownDxIdeal.nD → PrngReg), Pre_FfDownDxIdeal m →
    θ_run (Cert.FfDownDxIdeal.defs (F := Ideal)) (onTc (τ := Cert.FfDownDxIdeal.τ) (Cert.FfDownDxIdeal.main (F := Ideal))) ⟨m, fun _ => 0, g⟩ (fun r => (∀ c : Dev Cert.FfDownDxIdeal.nD,
      r.2.mem ((c.tc : Thread Cert.FfDownDxIdeal.nD Cert.FfDownDxIdeal.τ).loc Cert.FfDownDxIdeal.main_arg0) = m ((c.tc : Thread Cert.FfDownDxIdeal.nD Cert.FfDownDxIdeal.τ).loc Cert.FfDownDxIdeal.main_arg0)
      ∧ r.2.mem ((c.tc : Thread Cert.FfDownDxIdeal.nD Cert.FfDownDxIdeal.τ).loc Cert.FfDownDxIdeal.main_arg1) = m ((c.tc : Thread Cert.FfDownDxIdeal.nD Cert.FfDownDxIdeal.τ).loc Cert.FfDownDxIdeal.main_arg1)
      ∧ r.2.mem ((c.tc : Thread Cert.FfDownDxIdeal.nD Cert.FfDownDxIdeal.τ).loc Cert.FfDownDxIdeal.main_arg2) = m ((c.tc : Thread Cert.FfDownDxIdeal.nD Cert.FfDownDxIdeal.τ).loc Cert.FfDownDxIdeal.main_arg2))
      ∧ r.2.sem = fun _ => 0)

def quiescent_RefFfDownDxIdeal [hRefFfDownDxIdeal : Cert.RefFfDownDxIdeal.Facts] : Prop :=
  ∀ (m : (ℓ : Loc Cert.RefFfDownDxIdeal.nD Cert.RefFfDownDxIdeal.τ Cert.RefFfDownDxIdeal.sig) → Buf (Elt Ideal) ℓ) (g : Dev Cert.RefFfDownDxIdeal.nD → PrngReg), Pre_RefFfDownDxIdeal m →
    θ_run (Cert.RefFfDownDxIdeal.defs (F := Ideal)) (onTc (τ := Cert.RefFfDownDxIdeal.τ) (Cert.RefFfDownDxIdeal.main (F := Ideal))) ⟨m, fun _ => 0, g⟩ (fun r => (∀ c : Dev Cert.RefFfDownDxIdeal.nD,
      r.2.mem ((c.tc : Thread Cert.RefFfDownDxIdeal.nD Cert.RefFfDownDxIdeal.τ).loc Cert.RefFfDownDxIdeal.main_arg0) = m ((c.tc : Thread Cert.RefFfDownDxIdeal.nD Cert.RefFfDownDxIdeal.τ).loc Cert.RefFfDownDxIdeal.main_arg0)
      ∧ r.2.mem ((c.tc : Thread Cert.RefFfDownDxIdeal.nD Cert.RefFfDownDxIdeal.τ).loc Cert.RefFfDownDxIdeal.main_arg1) = m ((c.tc : Thread Cert.RefFfDownDxIdeal.nD Cert.RefFfDownDxIdeal.τ).loc Cert.RefFfDownDxIdeal.main_arg1)
      ∧ r.2.mem ((c.tc : Thread Cert.RefFfDownDxIdeal.nD Cert.RefFfDownDxIdeal.τ).loc Cert.RefFfDownDxIdeal.main_arg2) = m ((c.tc : Thread Cert.RefFfDownDxIdeal.nD Cert.RefFfDownDxIdeal.τ).loc Cert.RefFfDownDxIdeal.main_arg2))
      ∧ r.2.sem = fun _ => 0)

def quiescent_FfDownDw [hFfDownDw : Cert.FfDownDw.Facts] : Prop :=
  ∀ (m : (ℓ : Loc Cert.FfDownDw.nD Cert.FfDownDw.τ Cert.FfDownDw.sig) → Buf (Elt Bits) ℓ) (g : Dev Cert.FfDownDw.nD → PrngReg), Pre_FfDownDw m →
    θ_run (Cert.FfDownDw.defs (F := Bits)) (onTc (τ := Cert.FfDownDw.τ) (Cert.FfDownDw.main (F := Bits))) ⟨m, fun _ => 0, g⟩ (fun r => (∀ c : Dev Cert.FfDownDw.nD,
      r.2.mem ((c.tc : Thread Cert.FfDownDw.nD Cert.FfDownDw.τ).loc Cert.FfDownDw.main_arg0) = m ((c.tc : Thread Cert.FfDownDw.nD Cert.FfDownDw.τ).loc Cert.FfDownDw.main_arg0)
      ∧ r.2.mem ((c.tc : Thread Cert.FfDownDw.nD Cert.FfDownDw.τ).loc Cert.FfDownDw.main_arg1) = m ((c.tc : Thread Cert.FfDownDw.nD Cert.FfDownDw.τ).loc Cert.FfDownDw.main_arg1))
      ∧ r.2.sem = fun _ => 0)

def quiescent_FfDownDwIdeal [hFfDownDwIdeal : Cert.FfDownDwIdeal.Facts] : Prop :=
  ∀ (m : (ℓ : Loc Cert.FfDownDwIdeal.nD Cert.FfDownDwIdeal.τ Cert.FfDownDwIdeal.sig) → Buf (Elt Ideal) ℓ) (g : Dev Cert.FfDownDwIdeal.nD → PrngReg), Pre_FfDownDwIdeal m →
    θ_run (Cert.FfDownDwIdeal.defs (F := Ideal)) (onTc (τ := Cert.FfDownDwIdeal.τ) (Cert.FfDownDwIdeal.main (F := Ideal))) ⟨m, fun _ => 0, g⟩ (fun r => (∀ c : Dev Cert.FfDownDwIdeal.nD,
      r.2.mem ((c.tc : Thread Cert.FfDownDwIdeal.nD Cert.FfDownDwIdeal.τ).loc Cert.FfDownDwIdeal.main_arg0) = m ((c.tc : Thread Cert.FfDownDwIdeal.nD Cert.FfDownDwIdeal.τ).loc Cert.FfDownDwIdeal.main_arg0)
      ∧ r.2.mem ((c.tc : Thread Cert.FfDownDwIdeal.nD Cert.FfDownDwIdeal.τ).loc Cert.FfDownDwIdeal.main_arg1) = m ((c.tc : Thread Cert.FfDownDwIdeal.nD Cert.FfDownDwIdeal.τ).loc Cert.FfDownDwIdeal.main_arg1))
      ∧ r.2.sem = fun _ => 0)

def quiescent_RefFfDownDwIdeal [hRefFfDownDwIdeal : Cert.RefFfDownDwIdeal.Facts] : Prop :=
  ∀ (m : (ℓ : Loc Cert.RefFfDownDwIdeal.nD Cert.RefFfDownDwIdeal.τ Cert.RefFfDownDwIdeal.sig) → Buf (Elt Ideal) ℓ) (g : Dev Cert.RefFfDownDwIdeal.nD → PrngReg), Pre_RefFfDownDwIdeal m →
    θ_run (Cert.RefFfDownDwIdeal.defs (F := Ideal)) (onTc (τ := Cert.RefFfDownDwIdeal.τ) (Cert.RefFfDownDwIdeal.main (F := Ideal))) ⟨m, fun _ => 0, g⟩ (fun r => (∀ c : Dev Cert.RefFfDownDwIdeal.nD,
      r.2.mem ((c.tc : Thread Cert.RefFfDownDwIdeal.nD Cert.RefFfDownDwIdeal.τ).loc Cert.RefFfDownDwIdeal.main_arg0) = m ((c.tc : Thread Cert.RefFfDownDwIdeal.nD Cert.RefFfDownDwIdeal.τ).loc Cert.RefFfDownDwIdeal.main_arg0)
      ∧ r.2.mem ((c.tc : Thread Cert.RefFfDownDwIdeal.nD Cert.RefFfDownDwIdeal.τ).loc Cert.RefFfDownDwIdeal.main_arg1) = m ((c.tc : Thread Cert.RefFfDownDwIdeal.nD Cert.RefFfDownDwIdeal.τ).loc Cert.RefFfDownDwIdeal.main_arg1))
      ∧ r.2.sem = fun _ => 0)

def quiescent_FfUpDw [hFfUpDw : Cert.FfUpDw.Facts] : Prop :=
  ∀ (m : (ℓ : Loc Cert.FfUpDw.nD Cert.FfUpDw.τ Cert.FfUpDw.sig) → Buf (Elt Bits) ℓ) (g : Dev Cert.FfUpDw.nD → PrngReg), Pre_FfUpDw m →
    θ_run (Cert.FfUpDw.defs (F := Bits)) (onTc (τ := Cert.FfUpDw.τ) (Cert.FfUpDw.main (F := Bits))) ⟨m, fun _ => 0, g⟩ (fun r => (∀ c : Dev Cert.FfUpDw.nD,
      r.2.mem ((c.tc : Thread Cert.FfUpDw.nD Cert.FfUpDw.τ).loc Cert.FfUpDw.main_arg0) = m ((c.tc : Thread Cert.FfUpDw.nD Cert.FfUpDw.τ).loc Cert.FfUpDw.main_arg0)
      ∧ r.2.mem ((c.tc : Thread Cert.FfUpDw.nD Cert.FfUpDw.τ).loc Cert.FfUpDw.main_arg1) = m ((c.tc : Thread Cert.FfUpDw.nD Cert.FfUpDw.τ).loc Cert.FfUpDw.main_arg1))
      ∧ r.2.sem = fun _ => 0)

def quiescent_FfUpDwIdeal [hFfUpDwIdeal : Cert.FfUpDwIdeal.Facts] : Prop :=
  ∀ (m : (ℓ : Loc Cert.FfUpDwIdeal.nD Cert.FfUpDwIdeal.τ Cert.FfUpDwIdeal.sig) → Buf (Elt Ideal) ℓ) (g : Dev Cert.FfUpDwIdeal.nD → PrngReg), Pre_FfUpDwIdeal m →
    θ_run (Cert.FfUpDwIdeal.defs (F := Ideal)) (onTc (τ := Cert.FfUpDwIdeal.τ) (Cert.FfUpDwIdeal.main (F := Ideal))) ⟨m, fun _ => 0, g⟩ (fun r => (∀ c : Dev Cert.FfUpDwIdeal.nD,
      r.2.mem ((c.tc : Thread Cert.FfUpDwIdeal.nD Cert.FfUpDwIdeal.τ).loc Cert.FfUpDwIdeal.main_arg0) = m ((c.tc : Thread Cert.FfUpDwIdeal.nD Cert.FfUpDwIdeal.τ).loc Cert.FfUpDwIdeal.main_arg0)
      ∧ r.2.mem ((c.tc : Thread Cert.FfUpDwIdeal.nD Cert.FfUpDwIdeal.τ).loc Cert.FfUpDwIdeal.main_arg1) = m ((c.tc : Thread Cert.FfUpDwIdeal.nD Cert.FfUpDwIdeal.τ).loc Cert.FfUpDwIdeal.main_arg1))
      ∧ r.2.sem = fun _ => 0)

def quiescent_RefFfUpDwIdeal [hRefFfUpDwIdeal : Cert.RefFfUpDwIdeal.Facts] : Prop :=
  ∀ (m : (ℓ : Loc Cert.RefFfUpDwIdeal.nD Cert.RefFfUpDwIdeal.τ Cert.RefFfUpDwIdeal.sig) → Buf (Elt Ideal) ℓ) (g : Dev Cert.RefFfUpDwIdeal.nD → PrngReg), Pre_RefFfUpDwIdeal m →
    θ_run (Cert.RefFfUpDwIdeal.defs (F := Ideal)) (onTc (τ := Cert.RefFfUpDwIdeal.τ) (Cert.RefFfUpDwIdeal.main (F := Ideal))) ⟨m, fun _ => 0, g⟩ (fun r => (∀ c : Dev Cert.RefFfUpDwIdeal.nD,
      r.2.mem ((c.tc : Thread Cert.RefFfUpDwIdeal.nD Cert.RefFfUpDwIdeal.τ).loc Cert.RefFfUpDwIdeal.main_arg0) = m ((c.tc : Thread Cert.RefFfUpDwIdeal.nD Cert.RefFfUpDwIdeal.τ).loc Cert.RefFfUpDwIdeal.main_arg0)
      ∧ r.2.mem ((c.tc : Thread Cert.RefFfUpDwIdeal.nD Cert.RefFfUpDwIdeal.τ).loc Cert.RefFfUpDwIdeal.main_arg1) = m ((c.tc : Thread Cert.RefFfUpDwIdeal.nD Cert.RefFfUpDwIdeal.τ).loc Cert.RefFfUpDwIdeal.main_arg1))
      ∧ r.2.sem = fun _ => 0)

def quiescent_FfUpDx [hFfUpDx : Cert.FfUpDx.Facts] : Prop :=
  ∀ (m : (ℓ : Loc Cert.FfUpDx.nD Cert.FfUpDx.τ Cert.FfUpDx.sig) → Buf (Elt Bits) ℓ) (g : Dev Cert.FfUpDx.nD → PrngReg), Pre_FfUpDx m →
    θ_run (Cert.FfUpDx.defs (F := Bits)) (onTc (τ := Cert.FfUpDx.τ) (Cert.FfUpDx.main (F := Bits))) ⟨m, fun _ => 0, g⟩ (fun r => (∀ c : Dev Cert.FfUpDx.nD,
      r.2.mem ((c.tc : Thread Cert.FfUpDx.nD Cert.FfUpDx.τ).loc Cert.FfUpDx.main_arg0) = m ((c.tc : Thread Cert.FfUpDx.nD Cert.FfUpDx.τ).loc Cert.FfUpDx.main_arg0)
      ∧ r.2.mem ((c.tc : Thread Cert.FfUpDx.nD Cert.FfUpDx.τ).loc Cert.FfUpDx.main_arg1) = m ((c.tc : Thread Cert.FfUpDx.nD Cert.FfUpDx.τ).loc Cert.FfUpDx.main_arg1))
      ∧ r.2.sem = fun _ => 0)

def quiescent_FfUpDxIdeal [hFfUpDxIdeal : Cert.FfUpDxIdeal.Facts] : Prop :=
  ∀ (m : (ℓ : Loc Cert.FfUpDxIdeal.nD Cert.FfUpDxIdeal.τ Cert.FfUpDxIdeal.sig) → Buf (Elt Ideal) ℓ) (g : Dev Cert.FfUpDxIdeal.nD → PrngReg), Pre_FfUpDxIdeal m →
    θ_run (Cert.FfUpDxIdeal.defs (F := Ideal)) (onTc (τ := Cert.FfUpDxIdeal.τ) (Cert.FfUpDxIdeal.main (F := Ideal))) ⟨m, fun _ => 0, g⟩ (fun r => (∀ c : Dev Cert.FfUpDxIdeal.nD,
      r.2.mem ((c.tc : Thread Cert.FfUpDxIdeal.nD Cert.FfUpDxIdeal.τ).loc Cert.FfUpDxIdeal.main_arg0) = m ((c.tc : Thread Cert.FfUpDxIdeal.nD Cert.FfUpDxIdeal.τ).loc Cert.FfUpDxIdeal.main_arg0)
      ∧ r.2.mem ((c.tc : Thread Cert.FfUpDxIdeal.nD Cert.FfUpDxIdeal.τ).loc Cert.FfUpDxIdeal.main_arg1) = m ((c.tc : Thread Cert.FfUpDxIdeal.nD Cert.FfUpDxIdeal.τ).loc Cert.FfUpDxIdeal.main_arg1))
      ∧ r.2.sem = fun _ => 0)

def quiescent_RefFfUpDxIdeal [hRefFfUpDxIdeal : Cert.RefFfUpDxIdeal.Facts] : Prop :=
  ∀ (m : (ℓ : Loc Cert.RefFfUpDxIdeal.nD Cert.RefFfUpDxIdeal.τ Cert.RefFfUpDxIdeal.sig) → Buf (Elt Ideal) ℓ) (g : Dev Cert.RefFfUpDxIdeal.nD → PrngReg), Pre_RefFfUpDxIdeal m →
    θ_run (Cert.RefFfUpDxIdeal.defs (F := Ideal)) (onTc (τ := Cert.RefFfUpDxIdeal.τ) (Cert.RefFfUpDxIdeal.main (F := Ideal))) ⟨m, fun _ => 0, g⟩ (fun r => (∀ c : Dev Cert.RefFfUpDxIdeal.nD,
      r.2.mem ((c.tc : Thread Cert.RefFfUpDxIdeal.nD Cert.RefFfUpDxIdeal.τ).loc Cert.RefFfUpDxIdeal.main_arg0) = m ((c.tc : Thread Cert.RefFfUpDxIdeal.nD Cert.RefFfUpDxIdeal.τ).loc Cert.RefFfUpDxIdeal.main_arg0)
      ∧ r.2.mem ((c.tc : Thread Cert.RefFfUpDxIdeal.nD Cert.RefFfUpDxIdeal.τ).loc Cert.RefFfUpDxIdeal.main_arg1) = m ((c.tc : Thread Cert.RefFfUpDxIdeal.nD Cert.RefFfUpDxIdeal.τ).loc Cert.RefFfUpDxIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_RefOutDwIdeal [hRefOutDwIdeal : Cert.RefOutDwIdeal.Facts] : Prop :=
  ∀ (m : (ℓ : Loc Cert.RefOutDwIdeal.nD Cert.RefOutDwIdeal.τ Cert.RefOutDwIdeal.sig) → Buf (Elt Ideal) ℓ) (g : Dev Cert.RefOutDwIdeal.nD → PrngReg), Pre_RefOutDwIdeal m →
    θ_run (Cert.RefOutDwIdeal.defs (F := Ideal)) (onTc (τ := Cert.RefOutDwIdeal.τ) (Cert.RefOutDwIdeal.main (F := Ideal))) ⟨m, fun _ => 0, g⟩ (fun r => (∀ c : Dev Cert.RefOutDwIdeal.nD,
      r.2.mem ((c.tc : Thread Cert.RefOutDwIdeal.nD Cert.RefOutDwIdeal.τ).loc Cert.RefOutDwIdeal.main_arg0) = m ((c.tc : Thread Cert.RefOutDwIdeal.nD Cert.RefOutDwIdeal.τ).loc Cert.RefOutDwIdeal.main_arg0)
      ∧ r.2.mem ((c.tc : Thread Cert.RefOutDwIdeal.nD Cert.RefOutDwIdeal.τ).loc Cert.RefOutDwIdeal.main_arg1) = m ((c.tc : Thread Cert.RefOutDwIdeal.nD Cert.RefOutDwIdeal.τ).loc Cert.RefOutDwIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_RefOutDxIdeal [hRefOutDxIdeal : Cert.RefOutDxIdeal.Facts] : Prop :=
  ∀ (m : (ℓ : Loc Cert.RefOutDxIdeal.nD Cert.RefOutDxIdeal.τ Cert.RefOutDxIdeal.sig) → Buf (Elt Ideal) ℓ) (g : Dev Cert.RefOutDxIdeal.nD → PrngReg), Pre_RefOutDxIdeal m →
    θ_run (Cert.RefOutDxIdeal.defs (F := Ideal)) (onTc (τ := Cert.RefOutDxIdeal.τ) (Cert.RefOutDxIdeal.main (F := Ideal))) ⟨m, fun _ => 0, g⟩ (fun r => (∀ c : Dev Cert.RefOutDxIdeal.nD,
      r.2.mem ((c.tc : Thread Cert.RefOutDxIdeal.nD Cert.RefOutDxIdeal.τ).loc Cert.RefOutDxIdeal.main_arg0) = m ((c.tc : Thread Cert.RefOutDxIdeal.nD Cert.RefOutDxIdeal.τ).loc Cert.RefOutDxIdeal.main_arg0)
      ∧ r.2.mem ((c.tc : Thread Cert.RefOutDxIdeal.nD Cert.RefOutDxIdeal.τ).loc Cert.RefOutDxIdeal.main_arg1) = m ((c.tc : Thread Cert.RefOutDxIdeal.nD Cert.RefOutDxIdeal.τ).loc Cert.RefOutDxIdeal.main_arg1))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_RefInDwIdeal [hRefInDwIdeal : Cert.RefInDwIdeal.Facts] : Prop :=
  ∀ (m : (ℓ : Loc Cert.RefInDwIdeal.nD Cert.RefInDwIdeal.τ Cert.RefInDwIdeal.sig) → Buf (Elt Ideal) ℓ) (g : Dev Cert.RefInDwIdeal.nD → PrngReg), Pre_RefInDwIdeal m →
    θ_run (Cert.RefInDwIdeal.defs (F := Ideal)) (onTc (τ := Cert.RefInDwIdeal.τ) (Cert.RefInDwIdeal.main (F := Ideal))) ⟨m, fun _ => 0, g⟩ (fun r => (∀ c : Dev Cert.RefInDwIdeal.nD,
      r.2.mem ((c.tc : Thread Cert.RefInDwIdeal.nD Cert.RefInDwIdeal.τ).loc Cert.RefInDwIdeal.main_arg0) = m ((c.tc : Thread Cert.RefInDwIdeal.nD Cert.RefInDwIdeal.τ).loc Cert.RefInDwIdeal.main_arg0)
      ∧ r.2.mem ((c.tc : Thread Cert.RefInDwIdeal.nD Cert.RefInDwIdeal.τ).loc Cert.RefInDwIdeal.main_arg1) = m ((c.tc : Thread Cert.RefInDwIdeal.nD Cert.RefInDwIdeal.τ).loc Cert.RefInDwIdeal.main_arg1))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ r.2.sem = fun _ => 0)

def quiescent_RefInDxIdeal [hRefInDxIdeal : Cert.RefInDxIdeal.Facts] : Prop :=
  ∀ (m : (ℓ : Loc Cert.RefInDxIdeal.nD Cert.RefInDxIdeal.τ Cert.RefInDxIdeal.sig) → Buf (Elt Ideal) ℓ) (g : Dev Cert.RefInDxIdeal.nD → PrngReg), Pre_RefInDxIdeal m →
    θ_run (Cert.RefInDxIdeal.defs (F := Ideal)) (onTc (τ := Cert.RefInDxIdeal.τ) (Cert.RefInDxIdeal.main (F := Ideal))) ⟨m, fun _ => 0, g⟩ (fun r => (∀ c : Dev Cert.RefInDxIdeal.nD,
      r.2.mem ((c.tc : Thread Cert.RefInDxIdeal.nD Cert.RefInDxIdeal.τ).loc Cert.RefInDxIdeal.main_arg0) = m ((c.tc : Thread Cert.RefInDxIdeal.nD Cert.RefInDxIdeal.τ).loc Cert.RefInDxIdeal.main_arg0)
      ∧ r.2.mem ((c.tc : Thread Cert.RefInDxIdeal.nD Cert.RefInDxIdeal.τ).loc Cert.RefInDxIdeal.main_arg1) = m ((c.tc : Thread Cert.RefInDxIdeal.nD Cert.RefInDxIdeal.τ).loc Cert.RefInDxIdeal.main_arg1))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ r.2.sem = fun _ => 0)

def quiescent_RefInFwdIdeal [hRefInFwdIdeal : Cert.RefInFwdIdeal.Facts] : Prop :=
  ∀ (m : (ℓ : Loc Cert.RefInFwdIdeal.nD Cert.RefInFwdIdeal.τ Cert.RefInFwdIdeal.sig) → Buf (Elt Ideal) ℓ) (g : Dev Cert.RefInFwdIdeal.nD → PrngReg), Pre_RefInFwdIdeal m →
    θ_run (Cert.RefInFwdIdeal.defs (F := Ideal)) (onTc (τ := Cert.RefInFwdIdeal.τ) (Cert.RefInFwdIdeal.main (F := Ideal))) ⟨m, fun _ => 0, g⟩ (fun r => (∀ c : Dev Cert.RefInFwdIdeal.nD,
      r.2.mem ((c.tc : Thread Cert.RefInFwdIdeal.nD Cert.RefInFwdIdeal.τ).loc Cert.RefInFwdIdeal.main_arg0) = m ((c.tc : Thread Cert.RefInFwdIdeal.nD Cert.RefInFwdIdeal.τ).loc Cert.RefInFwdIdeal.main_arg0)
      ∧ r.2.mem ((c.tc : Thread Cert.RefInFwdIdeal.nD Cert.RefInFwdIdeal.τ).loc Cert.RefInFwdIdeal.main_arg1) = m ((c.tc : Thread Cert.RefInFwdIdeal.nD Cert.RefInFwdIdeal.τ).loc Cert.RefInFwdIdeal.main_arg1))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1)
      ∧ r.2.mem ((c.tc : Thread Cert.OutFwd.nD Cert.OutFwd.τ).loc Cert.OutFwd.main_arg2) = m ((c.tc : Thread Cert.OutFwd.nD Cert.OutFwd.τ).loc Cert.OutFwd.main_arg2))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
      ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2))
      ∧ r.2.sem = fun _ => 0)

def quiescent_RefOutFwdIdeal [hRefOutFwdIdeal : Cert.RefOutFwdIdeal.Facts] : Prop :=
  ∀ (m : (ℓ : Loc Cert.RefOutFwdIdeal.nD Cert.RefOutFwdIdeal.τ Cert.RefOutFwdIdeal.sig) → Buf (Elt Ideal) ℓ) (g : Dev Cert.RefOutFwdIdeal.nD → PrngReg), Pre_RefOutFwdIdeal m →
    θ_run (Cert.RefOutFwdIdeal.defs (F := Ideal)) (onTc (τ := Cert.RefOutFwdIdeal.τ) (Cert.RefOutFwdIdeal.main (F := Ideal))) ⟨m, fun _ => 0, g⟩ (fun r => (∀ c : Dev Cert.RefOutFwdIdeal.nD,
      r.2.mem ((c.tc : Thread Cert.RefOutFwdIdeal.nD Cert.RefOutFwdIdeal.τ).loc Cert.RefOutFwdIdeal.main_arg0) = m ((c.tc : Thread Cert.RefOutFwdIdeal.nD Cert.RefOutFwdIdeal.τ).loc Cert.RefOutFwdIdeal.main_arg0)
      ∧ r.2.mem ((c.tc : Thread Cert.RefOutFwdIdeal.nD Cert.RefOutFwdIdeal.τ).loc Cert.RefOutFwdIdeal.main_arg1) = m ((c.tc : Thread Cert.RefOutFwdIdeal.nD Cert.RefOutFwdIdeal.τ).loc Cert.RefOutFwdIdeal.main_arg1)
      ∧ r.2.mem ((c.tc : Thread Cert.RefOutFwdIdeal.nD Cert.RefOutFwdIdeal.τ).loc Cert.RefOutFwdIdeal.main_arg2) = m ((c.tc : Thread Cert.RefOutFwdIdeal.nD Cert.RefOutFwdIdeal.τ).loc Cert.RefOutFwdIdeal.main_arg2))
      ∧ r.2.sem = fun _ => 0)

def quiescent_FfUpFwd [hFfUpFwd : Cert.FfUpFwd.Facts] : Prop :=
  ∀ (m : (ℓ : Loc Cert.FfUpFwd.nD Cert.FfUpFwd.τ Cert.FfUpFwd.sig) → Buf (Elt Bits) ℓ) (g : Dev Cert.FfUpFwd.nD → PrngReg), Pre_FfUpFwd m →
    θ_run (Cert.FfUpFwd.defs (F := Bits)) (onTc (τ := Cert.FfUpFwd.τ) (Cert.FfUpFwd.main (F := Bits))) ⟨m, fun _ => 0, g⟩ (fun r => (∀ c : Dev Cert.FfUpFwd.nD,
      r.2.mem ((c.tc : Thread Cert.FfUpFwd.nD Cert.FfUpFwd.τ).loc Cert.FfUpFwd.main_arg0) = m ((c.tc : Thread Cert.FfUpFwd.nD Cert.FfUpFwd.τ).loc Cert.FfUpFwd.main_arg0)
      ∧ r.2.mem ((c.tc : Thread Cert.FfUpFwd.nD Cert.FfUpFwd.τ).loc Cert.FfUpFwd.main_arg1) = m ((c.tc : Thread Cert.FfUpFwd.nD Cert.FfUpFwd.τ).loc Cert.FfUpFwd.main_arg1))
      ∧ r.2.sem = fun _ => 0)

def quiescent_FfUpFwdIdeal [hFfUpFwdIdeal : Cert.FfUpFwdIdeal.Facts] : Prop :=
  ∀ (m : (ℓ : Loc Cert.FfUpFwdIdeal.nD Cert.FfUpFwdIdeal.τ Cert.FfUpFwdIdeal.sig) → Buf (Elt Ideal) ℓ) (g : Dev Cert.FfUpFwdIdeal.nD → PrngReg), Pre_FfUpFwdIdeal m →
    θ_run (Cert.FfUpFwdIdeal.defs (F := Ideal)) (onTc (τ := Cert.FfUpFwdIdeal.τ) (Cert.FfUpFwdIdeal.main (F := Ideal))) ⟨m, fun _ => 0, g⟩ (fun r => (∀ c : Dev Cert.FfUpFwdIdeal.nD,
      r.2.mem ((c.tc : Thread Cert.FfUpFwdIdeal.nD Cert.FfUpFwdIdeal.τ).loc Cert.FfUpFwdIdeal.main_arg0) = m ((c.tc : Thread Cert.FfUpFwdIdeal.nD Cert.FfUpFwdIdeal.τ).loc Cert.FfUpFwdIdeal.main_arg0)
      ∧ r.2.mem ((c.tc : Thread Cert.FfUpFwdIdeal.nD Cert.FfUpFwdIdeal.τ).loc Cert.FfUpFwdIdeal.main_arg1) = m ((c.tc : Thread Cert.FfUpFwdIdeal.nD Cert.FfUpFwdIdeal.τ).loc Cert.FfUpFwdIdeal.main_arg1))
      ∧ r.2.sem = fun _ => 0)

def quiescent_RefFfUpFwdIdeal [hRefFfUpFwdIdeal : Cert.RefFfUpFwdIdeal.Facts] : Prop :=
  ∀ (m : (ℓ : Loc Cert.RefFfUpFwdIdeal.nD Cert.RefFfUpFwdIdeal.τ Cert.RefFfUpFwdIdeal.sig) → Buf (Elt Ideal) ℓ) (g : Dev Cert.RefFfUpFwdIdeal.nD → PrngReg), Pre_RefFfUpFwdIdeal m →
    θ_run (Cert.RefFfUpFwdIdeal.defs (F := Ideal)) (onTc (τ := Cert.RefFfUpFwdIdeal.τ) (Cert.RefFfUpFwdIdeal.main (F := Ideal))) ⟨m, fun _ => 0, g⟩ (fun r => (∀ c : Dev Cert.RefFfUpFwdIdeal.nD,
      r.2.mem ((c.tc : Thread Cert.RefFfUpFwdIdeal.nD Cert.RefFfUpFwdIdeal.τ).loc Cert.RefFfUpFwdIdeal.main_arg0) = m ((c.tc : Thread Cert.RefFfUpFwdIdeal.nD Cert.RefFfUpFwdIdeal.τ).loc Cert.RefFfUpFwdIdeal.main_arg0)
      ∧ r.2.mem ((c.tc : Thread Cert.RefFfUpFwdIdeal.nD Cert.RefFfUpFwdIdeal.τ).loc Cert.RefFfUpFwdIdeal.main_arg1) = m ((c.tc : Thread Cert.RefFfUpFwdIdeal.nD Cert.RefFfUpFwdIdeal.τ).loc Cert.RefFfUpFwdIdeal.main_arg1))
      ∧ r.2.sem = fun _ => 0)

def quiescent_FfDownFwd [hFfDownFwd : Cert.FfDownFwd.Facts] : Prop :=
  ∀ (m : (ℓ : Loc Cert.FfDownFwd.nD Cert.FfDownFwd.τ Cert.FfDownFwd.sig) → Buf (Elt Bits) ℓ) (g : Dev Cert.FfDownFwd.nD → PrngReg), Pre_FfDownFwd m →
    θ_run (Cert.FfDownFwd.defs (F := Bits)) (onTc (τ := Cert.FfDownFwd.τ) (Cert.FfDownFwd.main (F := Bits))) ⟨m, fun _ => 0, g⟩ (fun r => (∀ c : Dev Cert.FfDownFwd.nD,
      r.2.mem ((c.tc : Thread Cert.FfDownFwd.nD Cert.FfDownFwd.τ).loc Cert.FfDownFwd.main_arg0) = m ((c.tc : Thread Cert.FfDownFwd.nD Cert.FfDownFwd.τ).loc Cert.FfDownFwd.main_arg0)
      ∧ r.2.mem ((c.tc : Thread Cert.FfDownFwd.nD Cert.FfDownFwd.τ).loc Cert.FfDownFwd.main_arg1) = m ((c.tc : Thread Cert.FfDownFwd.nD Cert.FfDownFwd.τ).loc Cert.FfDownFwd.main_arg1)
      ∧ r.2.mem ((c.tc : Thread Cert.FfDownFwd.nD Cert.FfDownFwd.τ).loc Cert.FfDownFwd.main_arg2) = m ((c.tc : Thread Cert.FfDownFwd.nD Cert.FfDownFwd.τ).loc Cert.FfDownFwd.main_arg2))
      ∧ r.2.sem = fun _ => 0)

def quiescent_FfDownFwdIdeal [hFfDownFwdIdeal : Cert.FfDownFwdIdeal.Facts] : Prop :=
  ∀ (m : (ℓ : Loc Cert.FfDownFwdIdeal.nD Cert.FfDownFwdIdeal.τ Cert.FfDownFwdIdeal.sig) → Buf (Elt Ideal) ℓ) (g : Dev Cert.FfDownFwdIdeal.nD → PrngReg), Pre_FfDownFwdIdeal m →
    θ_run (Cert.FfDownFwdIdeal.defs (F := Ideal)) (onTc (τ := Cert.FfDownFwdIdeal.τ) (Cert.FfDownFwdIdeal.main (F := Ideal))) ⟨m, fun _ => 0, g⟩ (fun r => (∀ c : Dev Cert.FfDownFwdIdeal.nD,
      r.2.mem ((c.tc : Thread Cert.FfDownFwdIdeal.nD Cert.FfDownFwdIdeal.τ).loc Cert.FfDownFwdIdeal.main_arg0) = m ((c.tc : Thread Cert.FfDownFwdIdeal.nD Cert.FfDownFwdIdeal.τ).loc Cert.FfDownFwdIdeal.main_arg0)
      ∧ r.2.mem ((c.tc : Thread Cert.FfDownFwdIdeal.nD Cert.FfDownFwdIdeal.τ).loc Cert.FfDownFwdIdeal.main_arg1) = m ((c.tc : Thread Cert.FfDownFwdIdeal.nD Cert.FfDownFwdIdeal.τ).loc Cert.FfDownFwdIdeal.main_arg1)
      ∧ r.2.mem ((c.tc : Thread Cert.FfDownFwdIdeal.nD Cert.FfDownFwdIdeal.τ).loc Cert.FfDownFwdIdeal.main_arg2) = m ((c.tc : Thread Cert.FfDownFwdIdeal.nD Cert.FfDownFwdIdeal.τ).loc Cert.FfDownFwdIdeal.main_arg2))
      ∧ r.2.sem = fun _ => 0)

def quiescent_RefFfDownFwdIdeal [hRefFfDownFwdIdeal : Cert.RefFfDownFwdIdeal.Facts] : Prop :=
  ∀ (m : (ℓ : Loc Cert.RefFfDownFwdIdeal.nD Cert.RefFfDownFwdIdeal.τ Cert.RefFfDownFwdIdeal.sig) → Buf (Elt Ideal) ℓ) (g : Dev Cert.RefFfDownFwdIdeal.nD → PrngReg), Pre_RefFfDownFwdIdeal m →
    θ_run (Cert.RefFfDownFwdIdeal.defs (F := Ideal)) (onTc (τ := Cert.RefFfDownFwdIdeal.τ) (Cert.RefFfDownFwdIdeal.main (F := Ideal))) ⟨m, fun _ => 0, g⟩ (fun r => (∀ c : Dev Cert.RefFfDownFwdIdeal.nD,
      r.2.mem ((c.tc : Thread Cert.RefFfDownFwdIdeal.nD Cert.RefFfDownFwdIdeal.τ).loc Cert.RefFfDownFwdIdeal.main_arg0) = m ((c.tc : Thread Cert.RefFfDownFwdIdeal.nD Cert.RefFfDownFwdIdeal.τ).loc Cert.RefFfDownFwdIdeal.main_arg0)
      ∧ r.2.mem ((c.tc : Thread Cert.RefFfDownFwdIdeal.nD Cert.RefFfDownFwdIdeal.τ).loc Cert.RefFfDownFwdIdeal.main_arg1) = m ((c.tc : Thread Cert.RefFfDownFwdIdeal.nD Cert.RefFfDownFwdIdeal.τ).loc Cert.RefFfDownFwdIdeal.main_arg1)
      ∧ r.2.mem ((c.tc : Thread Cert.RefFfDownFwdIdeal.nD Cert.RefFfDownFwdIdeal.τ).loc Cert.RefFfDownFwdIdeal.main_arg2) = m ((c.tc : Thread Cert.RefFfDownFwdIdeal.nD Cert.RefFfDownFwdIdeal.τ).loc Cert.RefFfDownFwdIdeal.main_arg2))
      ∧ r.2.sem = fun _ => 0)

def quiescent_RmsBwd [hRmsBwd : Cert.RmsBwd.Facts] : Prop :=
  ∀ (m : (ℓ : Loc Cert.RmsBwd.nD Cert.RmsBwd.τ Cert.RmsBwd.sig) → Buf (Elt Bits) ℓ) (g : Dev Cert.RmsBwd.nD → PrngReg), Pre_RmsBwd m →
    θ_run (Cert.RmsBwd.defs (F := Bits)) (onTc (τ := Cert.RmsBwd.τ) (Cert.RmsBwd.main (F := Bits))) ⟨m, fun _ => 0, g⟩ (fun r => (∀ c : Dev Cert.RmsBwd.nD,
      r.2.mem ((c.tc : Thread Cert.RmsBwd.nD Cert.RmsBwd.τ).loc Cert.RmsBwd.main_arg0) = m ((c.tc : Thread Cert.RmsBwd.nD Cert.RmsBwd.τ).loc Cert.RmsBwd.main_arg0)
      ∧ r.2.mem ((c.tc : Thread Cert.RmsBwd.nD Cert.RmsBwd.τ).loc Cert.RmsBwd.main_arg1) = m ((c.tc : Thread Cert.RmsBwd.nD Cert.RmsBwd.τ).loc Cert.RmsBwd.main_arg1)
      ∧ r.2.mem ((c.tc : Thread Cert.RmsBwd.nD Cert.RmsBwd.τ).loc Cert.RmsBwd.main_arg2) = m ((c.tc : Thread Cert.RmsBwd.nD Cert.RmsBwd.τ).loc Cert.RmsBwd.main_arg2)
      ∧ r.2.mem ((c.tc : Thread Cert.RmsBwd.nD Cert.RmsBwd.τ).loc Cert.RmsBwd.main_arg3) = m ((c.tc : Thread Cert.RmsBwd.nD Cert.RmsBwd.τ).loc Cert.RmsBwd.main_arg3))
      ∧ r.2.sem = fun _ => 0)

def quiescent_RmsBwdIdeal [hRmsBwdIdeal : Cert.RmsBwdIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg), Pre_RmsBwdIdeal m →
    θ_run (Cert.RmsBwdIdeal.defs (F := Ideal)) (onTc (τ := Cert.RmsBwdIdeal.τ) (Cert.RmsBwdIdeal.main (F := Ideal))) ⟨m, fun _ => 0, g⟩ (fun r => (∀ c : Dev Cert.RmsBwdIdeal.nD,
      r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
      ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
      ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
      ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ r.2.sem = fun _ => 0)

def quiescent_RefRmsBwdIdeal [hRefRmsBwdIdeal : Cert.RefRmsBwdIdeal.Facts] : Prop :=
  ∀ (m : (ℓ : Loc Cert.RefRmsBwdIdeal.nD Cert.RefRmsBwdIdeal.τ Cert.RefRmsBwdIdeal.sig) → Buf (Elt Ideal) ℓ) (g : Dev Cert.RefRmsBwdIdeal.nD → PrngReg), Pre_RefRmsBwdIdeal m →
    θ_run (Cert.RefRmsBwdIdeal.defs (F := Ideal)) (onTc (τ := Cert.RefRmsBwdIdeal.τ) (Cert.RefRmsBwdIdeal.main (F := Ideal))) ⟨m, fun _ => 0, g⟩ (fun r => (∀ c : Dev Cert.RefRmsBwdIdeal.nD,
      r.2.mem ((c.tc : Thread Cert.RefRmsBwdIdeal.nD Cert.RefRmsBwdIdeal.τ).loc Cert.RefRmsBwdIdeal.main_arg0) = m ((c.tc : Thread Cert.RefRmsBwdIdeal.nD Cert.RefRmsBwdIdeal.τ).loc Cert.RefRmsBwdIdeal.main_arg0)
      ∧ r.2.mem ((c.tc : Thread Cert.RefRmsBwdIdeal.nD Cert.RefRmsBwdIdeal.τ).loc Cert.RefRmsBwdIdeal.main_arg1) = m ((c.tc : Thread Cert.RefRmsBwdIdeal.nD Cert.RefRmsBwdIdeal.τ).loc Cert.RefRmsBwdIdeal.main_arg1)
      ∧ r.2.mem ((c.tc : Thread Cert.RefRmsBwdIdeal.nD Cert.RefRmsBwdIdeal.τ).loc Cert.RefRmsBwdIdeal.main_arg2) = m ((c.tc : Thread Cert.RefRmsBwdIdeal.nD Cert.RefRmsBwdIdeal.τ).loc Cert.RefRmsBwdIdeal.main_arg2)
      ∧ r.2.mem ((c.tc : Thread Cert.RefRmsBwdIdeal.nD Cert.RefRmsBwdIdeal.τ).loc Cert.RefRmsBwdIdeal.main_arg3) = m ((c.tc : Thread Cert.RefRmsBwdIdeal.nD Cert.RefRmsBwdIdeal.τ).loc Cert.RefRmsBwdIdeal.main_arg3))
      ∧ r.2.sem = fun _ => 0)

def quiescent_GateBwd [hGateBwd : Cert.GateBwd.Facts] : Prop :=
  ∀ (m : (ℓ : Loc Cert.GateBwd.nD Cert.GateBwd.τ Cert.GateBwd.sig) → Buf (Elt Bits) ℓ) (g : Dev Cert.GateBwd.nD → PrngReg), Pre_GateBwd m →
    θ_run (Cert.GateBwd.defs (F := Bits)) (onTc (τ := Cert.GateBwd.τ) (Cert.GateBwd.main (F := Bits))) ⟨m, fun _ => 0, g⟩ (fun r => (∀ c : Dev Cert.GateBwd.nD,
      r.2.mem ((c.tc : Thread Cert.GateBwd.nD Cert.GateBwd.τ).loc Cert.GateBwd.main_arg0) = m ((c.tc : Thread Cert.GateBwd.nD Cert.GateBwd.τ).loc Cert.GateBwd.main_arg0)
      ∧ r.2.mem ((c.tc : Thread Cert.GateBwd.nD Cert.GateBwd.τ).loc Cert.GateBwd.main_arg1) = m ((c.tc : Thread Cert.GateBwd.nD Cert.GateBwd.τ).loc Cert.GateBwd.main_arg1)
      ∧ r.2.mem ((c.tc : Thread Cert.GateBwd.nD Cert.GateBwd.τ).loc Cert.GateBwd.main_arg2) = m ((c.tc : Thread Cert.GateBwd.nD Cert.GateBwd.τ).loc Cert.GateBwd.main_arg2)
      ∧ r.2.mem ((c.tc : Thread Cert.GateBwd.nD Cert.GateBwd.τ).loc Cert.GateBwd.main_arg3) = m ((c.tc : Thread Cert.GateBwd.nD Cert.GateBwd.τ).loc Cert.GateBwd.main_arg3)
      ∧ r.2.mem ((c.tc : Thread Cert.GateBwd.nD Cert.GateBwd.τ).loc Cert.GateBwd.main_arg4) = m ((c.tc : Thread Cert.GateBwd.nD Cert.GateBwd.τ).loc Cert.GateBwd.main_arg4)
      ∧ r.2.mem ((c.tc : Thread Cert.GateBwd.nD Cert.GateBwd.τ).loc Cert.GateBwd.main_arg5) = m ((c.tc : Thread Cert.GateBwd.nD Cert.GateBwd.τ).loc Cert.GateBwd.main_arg5))
      ∧ r.2.sem = fun _ => 0)

def quiescent_GateBwdIdeal [hGateBwdIdeal : Cert.GateBwdIdeal.Facts] : Prop :=
  ∀ (m : (ℓ : Loc Cert.GateBwdIdeal.nD Cert.GateBwdIdeal.τ Cert.GateBwdIdeal.sig) → Buf (Elt Ideal) ℓ) (g : Dev Cert.GateBwdIdeal.nD → PrngReg), Pre_GateBwdIdeal m →
    θ_run (Cert.GateBwdIdeal.defs (F := Ideal)) (onTc (τ := Cert.GateBwdIdeal.τ) (Cert.GateBwdIdeal.main (F := Ideal))) ⟨m, fun _ => 0, g⟩ (fun r => (∀ c : Dev Cert.GateBwdIdeal.nD,
      r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
      ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
      ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
      ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3)
      ∧ r.2.mem ((c.tc : Thread Cert.GateBwdIdeal.nD Cert.GateBwdIdeal.τ).loc Cert.GateBwdIdeal.main_arg4) = m ((c.tc : Thread Cert.GateBwdIdeal.nD Cert.GateBwdIdeal.τ).loc Cert.GateBwdIdeal.main_arg4)
      ∧ r.2.mem ((c.tc : Thread Cert.GateBwdIdeal.nD Cert.GateBwdIdeal.τ).loc Cert.GateBwdIdeal.main_arg5) = m ((c.tc : Thread Cert.GateBwdIdeal.nD Cert.GateBwdIdeal.τ).loc Cert.GateBwdIdeal.main_arg5))
      ∧ r.2.sem = fun _ => 0)

def quiescent_RefGateBwdIdeal [hRefGateBwdIdeal : Cert.RefGateBwdIdeal.Facts] : Prop :=
  ∀ (m : (ℓ : Loc Cert.RefGateBwdIdeal.nD Cert.RefGateBwdIdeal.τ Cert.RefGateBwdIdeal.sig) → Buf (Elt Ideal) ℓ) (g : Dev Cert.RefGateBwdIdeal.nD → PrngReg), Pre_RefGateBwdIdeal m →
    θ_run (Cert.RefGateBwdIdeal.defs (F := Ideal)) (onTc (τ := Cert.RefGateBwdIdeal.τ) (Cert.RefGateBwdIdeal.main (F := Ideal))) ⟨m, fun _ => 0, g⟩ (fun r => (∀ c : Dev Cert.RefGateBwdIdeal.nD,
      r.2.mem ((c.tc : Thread Cert.RefGateBwdIdeal.nD Cert.RefGateBwdIdeal.τ).loc Cert.RefGateBwdIdeal.main_arg0) = m ((c.tc : Thread Cert.RefGateBwdIdeal.nD Cert.RefGateBwdIdeal.τ).loc Cert.RefGateBwdIdeal.main_arg0)
      ∧ r.2.mem ((c.tc : Thread Cert.RefGateBwdIdeal.nD Cert.RefGateBwdIdeal.τ).loc Cert.RefGateBwdIdeal.main_arg1) = m ((c.tc : Thread Cert.RefGateBwdIdeal.nD Cert.RefGateBwdIdeal.τ).loc Cert.RefGateBwdIdeal.main_arg1)
      ∧ r.2.mem ((c.tc : Thread Cert.RefGateBwdIdeal.nD Cert.RefGateBwdIdeal.τ).loc Cert.RefGateBwdIdeal.main_arg2) = m ((c.tc : Thread Cert.RefGateBwdIdeal.nD Cert.RefGateBwdIdeal.τ).loc Cert.RefGateBwdIdeal.main_arg2)
      ∧ r.2.mem ((c.tc : Thread Cert.RefGateBwdIdeal.nD Cert.RefGateBwdIdeal.τ).loc Cert.RefGateBwdIdeal.main_arg3) = m ((c.tc : Thread Cert.RefGateBwdIdeal.nD Cert.RefGateBwdIdeal.τ).loc Cert.RefGateBwdIdeal.main_arg3)
      ∧ r.2.mem ((c.tc : Thread Cert.RefGateBwdIdeal.nD Cert.RefGateBwdIdeal.τ).loc Cert.RefGateBwdIdeal.main_arg4) = m ((c.tc : Thread Cert.RefGateBwdIdeal.nD Cert.RefGateBwdIdeal.τ).loc Cert.RefGateBwdIdeal.main_arg4)
      ∧ r.2.mem ((c.tc : Thread Cert.RefGateBwdIdeal.nD Cert.RefGateBwdIdeal.τ).loc Cert.RefGateBwdIdeal.main_arg5) = m ((c.tc : Thread Cert.RefGateBwdIdeal.nD Cert.RefGateBwdIdeal.τ).loc Cert.RefGateBwdIdeal.main_arg5))
      ∧ r.2.sem = fun _ => 0)

def quiescent_RmsFwd [hRmsFwd : Cert.RmsFwd.Facts] : Prop :=
  ∀ (m : (ℓ : Loc Cert.RmsFwd.nD Cert.RmsFwd.τ Cert.RmsFwd.sig) → Buf (Elt Bits) ℓ) (g : Dev Cert.RmsFwd.nD → PrngReg), Pre_RmsFwd m →
    θ_run (Cert.RmsFwd.defs (F := Bits)) (onTc (τ := Cert.RmsFwd.τ) (Cert.RmsFwd.main (F := Bits))) ⟨m, fun _ => 0, g⟩ (fun r => (∀ c : Dev Cert.RmsFwd.nD,
      r.2.mem ((c.tc : Thread Cert.RmsFwd.nD Cert.RmsFwd.τ).loc Cert.RmsFwd.main_arg0) = m ((c.tc : Thread Cert.RmsFwd.nD Cert.RmsFwd.τ).loc Cert.RmsFwd.main_arg0)
      ∧ r.2.mem ((c.tc : Thread Cert.RmsFwd.nD Cert.RmsFwd.τ).loc Cert.RmsFwd.main_arg1) = m ((c.tc : Thread Cert.RmsFwd.nD Cert.RmsFwd.τ).loc Cert.RmsFwd.main_arg1))
      ∧ r.2.sem = fun _ => 0)

def quiescent_RmsFwdIdeal [hRmsFwdIdeal : Cert.RmsFwdIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg), Pre_RmsFwdIdeal m →
    θ_run (Cert.RmsFwdIdeal.defs (F := Ideal)) (onTc (τ := Cert.RmsFwdIdeal.τ) (Cert.RmsFwdIdeal.main (F := Ideal))) ⟨m, fun _ => 0, g⟩ (fun r => (∀ c : Dev Cert.RmsFwdIdeal.nD,
      r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
      ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ r.2.sem = fun _ => 0)

def quiescent_RefRmsFwdIdeal [hRefRmsFwdIdeal : Cert.RefRmsFwdIdeal.Facts] : Prop :=
  ∀ (m : (ℓ : Loc Cert.RefRmsFwdIdeal.nD Cert.RefRmsFwdIdeal.τ Cert.RefRmsFwdIdeal.sig) → Buf (Elt Ideal) ℓ) (g : Dev Cert.RefRmsFwdIdeal.nD → PrngReg), Pre_RefRmsFwdIdeal m →
    θ_run (Cert.RefRmsFwdIdeal.defs (F := Ideal)) (onTc (τ := Cert.RefRmsFwdIdeal.τ) (Cert.RefRmsFwdIdeal.main (F := Ideal))) ⟨m, fun _ => 0, g⟩ (fun r => (∀ c : Dev Cert.RefRmsFwdIdeal.nD,
      r.2.mem ((c.tc : Thread Cert.RefRmsFwdIdeal.nD Cert.RefRmsFwdIdeal.τ).loc Cert.RefRmsFwdIdeal.main_arg0) = m ((c.tc : Thread Cert.RefRmsFwdIdeal.nD Cert.RefRmsFwdIdeal.τ).loc Cert.RefRmsFwdIdeal.main_arg0)
      ∧ r.2.mem ((c.tc : Thread Cert.RefRmsFwdIdeal.nD Cert.RefRmsFwdIdeal.τ).loc Cert.RefRmsFwdIdeal.main_arg1) = m ((c.tc : Thread Cert.RefRmsFwdIdeal.nD Cert.RefRmsFwdIdeal.τ).loc Cert.RefRmsFwdIdeal.main_arg1))
      ∧ r.2.sem = fun _ => 0)

def quiescent_GateFwd [hGateFwd : Cert.GateFwd.Facts] : Prop :=
  ∀ (m : (ℓ : Loc Cert.GateFwd.nD Cert.GateFwd.τ Cert.GateFwd.sig) → Buf (Elt Bits) ℓ) (g : Dev Cert.GateFwd.nD → PrngReg), Pre_GateFwd m →
    θ_run (Cert.GateFwd.defs (F := Bits)) (onTc (τ := Cert.GateFwd.τ) (Cert.GateFwd.main (F := Bits))) ⟨m, fun _ => 0, g⟩ (fun r => (∀ c : Dev Cert.GateFwd.nD,
      r.2.mem ((c.tc : Thread Cert.GateFwd.nD Cert.GateFwd.τ).loc Cert.GateFwd.main_arg0) = m ((c.tc : Thread Cert.GateFwd.nD Cert.GateFwd.τ).loc Cert.GateFwd.main_arg0)
      ∧ r.2.mem ((c.tc : Thread Cert.GateFwd.nD Cert.GateFwd.τ).loc Cert.GateFwd.main_arg1) = m ((c.tc : Thread Cert.GateFwd.nD Cert.GateFwd.τ).loc Cert.GateFwd.main_arg1)
      ∧ r.2.mem ((c.tc : Thread Cert.GateFwd.nD Cert.GateFwd.τ).loc Cert.GateFwd.main_arg2) = m ((c.tc : Thread Cert.GateFwd.nD Cert.GateFwd.τ).loc Cert.GateFwd.main_arg2)
      ∧ r.2.mem ((c.tc : Thread Cert.GateFwd.nD Cert.GateFwd.τ).loc Cert.GateFwd.main_arg3) = m ((c.tc : Thread Cert.GateFwd.nD Cert.GateFwd.τ).loc Cert.GateFwd.main_arg3)
      ∧ r.2.mem ((c.tc : Thread Cert.GateFwd.nD Cert.GateFwd.τ).loc Cert.GateFwd.main_arg4) = m ((c.tc : Thread Cert.GateFwd.nD Cert.GateFwd.τ).loc Cert.GateFwd.main_arg4))
      ∧ r.2.sem = fun _ => 0)

def quiescent_GateFwdIdeal [hGateFwdIdeal : Cert.GateFwdIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg), Pre_GateFwdIdeal m →
    θ_run (Cert.GateFwdIdeal.defs (F := Ideal)) (onTc (τ := Cert.GateFwdIdeal.τ) (Cert.GateFwdIdeal.main (F := Ideal))) ⟨m, fun _ => 0, g⟩ (fun r => (∀ c : Dev Cert.GateFwdIdeal.nD,
      r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
      ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1)
      ∧ r.2.mem ((c.tc : Thread Cert.GateFwdIdeal.nD Cert.GateFwdIdeal.τ).loc Cert.GateFwdIdeal.main_arg2) = m ((c.tc : Thread Cert.GateFwdIdeal.nD Cert.GateFwdIdeal.τ).loc Cert.GateFwdIdeal.main_arg2)
      ∧ r.2.mem ((c.tc : Thread Cert.GateFwdIdeal.nD Cert.GateFwdIdeal.τ).loc Cert.GateFwdIdeal.main_arg3) = m ((c.tc : Thread Cert.GateFwdIdeal.nD Cert.GateFwdIdeal.τ).loc Cert.GateFwdIdeal.main_arg3)
      ∧ r.2.mem ((c.tc : Thread Cert.GateFwdIdeal.nD Cert.GateFwdIdeal.τ).loc Cert.GateFwdIdeal.main_arg4) = m ((c.tc : Thread Cert.GateFwdIdeal.nD Cert.GateFwdIdeal.τ).loc Cert.GateFwdIdeal.main_arg4))
      ∧ r.2.sem = fun _ => 0)

def quiescent_RefGateFwdIdeal [hRefGateFwdIdeal : Cert.RefGateFwdIdeal.Facts] : Prop :=
  ∀ (m : (ℓ : Loc Cert.RefGateFwdIdeal.nD Cert.RefGateFwdIdeal.τ Cert.RefGateFwdIdeal.sig) → Buf (Elt Ideal) ℓ) (g : Dev Cert.RefGateFwdIdeal.nD → PrngReg), Pre_RefGateFwdIdeal m →
    θ_run (Cert.RefGateFwdIdeal.defs (F := Ideal)) (onTc (τ := Cert.RefGateFwdIdeal.τ) (Cert.RefGateFwdIdeal.main (F := Ideal))) ⟨m, fun _ => 0, g⟩ (fun r => (∀ c : Dev Cert.RefGateFwdIdeal.nD,
      r.2.mem ((c.tc : Thread Cert.RefGateFwdIdeal.nD Cert.RefGateFwdIdeal.τ).loc Cert.RefGateFwdIdeal.main_arg0) = m ((c.tc : Thread Cert.RefGateFwdIdeal.nD Cert.RefGateFwdIdeal.τ).loc Cert.RefGateFwdIdeal.main_arg0)
      ∧ r.2.mem ((c.tc : Thread Cert.RefGateFwdIdeal.nD Cert.RefGateFwdIdeal.τ).loc Cert.RefGateFwdIdeal.main_arg1) = m ((c.tc : Thread Cert.RefGateFwdIdeal.nD Cert.RefGateFwdIdeal.τ).loc Cert.RefGateFwdIdeal.main_arg1)
      ∧ r.2.mem ((c.tc : Thread Cert.RefGateFwdIdeal.nD Cert.RefGateFwdIdeal.τ).loc Cert.RefGateFwdIdeal.main_arg2) = m ((c.tc : Thread Cert.RefGateFwdIdeal.nD Cert.RefGateFwdIdeal.τ).loc Cert.RefGateFwdIdeal.main_arg2)
      ∧ r.2.mem ((c.tc : Thread Cert.RefGateFwdIdeal.nD Cert.RefGateFwdIdeal.τ).loc Cert.RefGateFwdIdeal.main_arg3) = m ((c.tc : Thread Cert.RefGateFwdIdeal.nD Cert.RefGateFwdIdeal.τ).loc Cert.RefGateFwdIdeal.main_arg3)
      ∧ r.2.mem ((c.tc : Thread Cert.RefGateFwdIdeal.nD Cert.RefGateFwdIdeal.τ).loc Cert.RefGateFwdIdeal.main_arg4) = m ((c.tc : Thread Cert.RefGateFwdIdeal.nD Cert.RefGateFwdIdeal.τ).loc Cert.RefGateFwdIdeal.main_arg4))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_RefLossHeadIdeal [hRefLossHeadIdeal : Cert.RefLossHeadIdeal.Facts] : Prop :=
  ∀ (m : (ℓ : Loc Cert.RefLossHeadIdeal.nD Cert.RefLossHeadIdeal.τ Cert.RefLossHeadIdeal.sig) → Buf (Elt Ideal) ℓ) (g : Dev Cert.RefLossHeadIdeal.nD → PrngReg), Pre_RefLossHeadIdeal m →
    θ_run (Cert.RefLossHeadIdeal.defs (F := Ideal)) (onTc (τ := Cert.RefLossHeadIdeal.τ) (Cert.RefLossHeadIdeal.main (F := Ideal))) ⟨m, fun _ => 0, g⟩ (fun r => (∀ c : Dev Cert.RefLossHeadIdeal.nD,
      r.2.mem ((c.tc : Thread Cert.RefLossHeadIdeal.nD Cert.RefLossHeadIdeal.τ).loc Cert.RefLossHeadIdeal.main_arg0) = m ((c.tc : Thread Cert.RefLossHeadIdeal.nD Cert.RefLossHeadIdeal.τ).loc Cert.RefLossHeadIdeal.main_arg0)
      ∧ r.2.mem ((c.tc : Thread Cert.RefLossHeadIdeal.nD Cert.RefLossHeadIdeal.τ).loc Cert.RefLossHeadIdeal.main_arg1) = m ((c.tc : Thread Cert.RefLossHeadIdeal.nD Cert.RefLossHeadIdeal.τ).loc Cert.RefLossHeadIdeal.main_arg1)
      ∧ r.2.mem ((c.tc : Thread Cert.RefLossHeadIdeal.nD Cert.RefLossHeadIdeal.τ).loc Cert.RefLossHeadIdeal.main_arg2) = m ((c.tc : Thread Cert.RefLossHeadIdeal.nD Cert.RefLossHeadIdeal.τ).loc Cert.RefLossHeadIdeal.main_arg2))
      ∧ r.2.sem = fun _ => 0)

def quiescent_ConvBwd [hConvBwd : Cert.ConvBwd.Facts] : Prop :=
  ∀ (m : (ℓ : Loc Cert.ConvBwd.nD Cert.ConvBwd.τ Cert.ConvBwd.sig) → Buf (Elt Bits) ℓ) (g : Dev Cert.ConvBwd.nD → PrngReg), Pre_ConvBwd m →
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2)
      ∧ r.2.mem ((c.tc : Thread Cert.ConvBwd.nD Cert.ConvBwd.τ).loc Cert.ConvBwd.main_arg3) = m ((c.tc : Thread Cert.ConvBwd.nD Cert.ConvBwd.τ).loc Cert.ConvBwd.main_arg3))
      ∧ r.2.sem = fun _ => 0)

def quiescent_ConvBwdIdeal [hConvBwdIdeal : Cert.ConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
      ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3))
      ∧ r.2.sem = fun _ => 0)

def quiescent_RefConvBwdIdeal [hRefConvBwdIdeal : Cert.RefConvBwdIdeal.Facts] : Prop :=
  ∀ (m : (ℓ : Loc Cert.RefConvBwdIdeal.nD Cert.RefConvBwdIdeal.τ Cert.RefConvBwdIdeal.sig) → Buf (Elt Ideal) ℓ) (g : Dev Cert.RefConvBwdIdeal.nD → PrngReg), Pre_RefConvBwdIdeal m →
    θ_run (Cert.RefConvBwdIdeal.defs (F := Ideal)) (onTc (τ := Cert.RefConvBwdIdeal.τ) (Cert.RefConvBwdIdeal.main (F := Ideal))) ⟨m, fun _ => 0, g⟩ (fun r => (∀ c : Dev Cert.RefConvBwdIdeal.nD,
      r.2.mem ((c.tc : Thread Cert.RefConvBwdIdeal.nD Cert.RefConvBwdIdeal.τ).loc Cert.RefConvBwdIdeal.main_arg0) = m ((c.tc : Thread Cert.RefConvBwdIdeal.nD Cert.RefConvBwdIdeal.τ).loc Cert.RefConvBwdIdeal.main_arg0)
      ∧ r.2.mem ((c.tc : Thread Cert.RefConvBwdIdeal.nD Cert.RefConvBwdIdeal.τ).loc Cert.RefConvBwdIdeal.main_arg1) = m ((c.tc : Thread Cert.RefConvBwdIdeal.nD Cert.RefConvBwdIdeal.τ).loc Cert.RefConvBwdIdeal.main_arg1)
      ∧ r.2.mem ((c.tc : Thread Cert.RefConvBwdIdeal.nD Cert.RefConvBwdIdeal.τ).loc Cert.RefConvBwdIdeal.main_arg2) = m ((c.tc : Thread Cert.RefConvBwdIdeal.nD Cert.RefConvBwdIdeal.τ).loc Cert.RefConvBwdIdeal.main_arg2)
      ∧ r.2.mem ((c.tc : Thread Cert.RefConvBwdIdeal.nD Cert.RefConvBwdIdeal.τ).loc Cert.RefConvBwdIdeal.main_arg3) = m ((c.tc : Thread Cert.RefConvBwdIdeal.nD Cert.RefConvBwdIdeal.τ).loc Cert.RefConvBwdIdeal.main_arg3))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1)
      ∧ r.2.mem ((c.tc : Thread Cert.ConvFwd.nD Cert.ConvFwd.τ).loc Cert.ConvFwd.main_arg2) = m ((c.tc : Thread Cert.ConvFwd.nD Cert.ConvFwd.τ).loc Cert.ConvFwd.main_arg2))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
      ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ r.2.sem = fun _ => 0)

def quiescent_RefConvFwdIdeal [hRefConvFwdIdeal : Cert.RefConvFwdIdeal.Facts] : Prop :=
  ∀ (m : (ℓ : Loc Cert.RefConvFwdIdeal.nD Cert.RefConvFwdIdeal.τ Cert.RefConvFwdIdeal.sig) → Buf (Elt Ideal) ℓ) (g : Dev Cert.RefConvFwdIdeal.nD → PrngReg), Pre_RefConvFwdIdeal m →
    θ_run (Cert.RefConvFwdIdeal.defs (F := Ideal)) (onTc (τ := Cert.RefConvFwdIdeal.τ) (Cert.RefConvFwdIdeal.main (F := Ideal))) ⟨m, fun _ => 0, g⟩ (fun r => (∀ c : Dev Cert.RefConvFwdIdeal.nD,
      r.2.mem ((c.tc : Thread Cert.RefConvFwdIdeal.nD Cert.RefConvFwdIdeal.τ).loc Cert.RefConvFwdIdeal.main_arg0) = m ((c.tc : Thread Cert.RefConvFwdIdeal.nD Cert.RefConvFwdIdeal.τ).loc Cert.RefConvFwdIdeal.main_arg0)
      ∧ r.2.mem ((c.tc : Thread Cert.RefConvFwdIdeal.nD Cert.RefConvFwdIdeal.τ).loc Cert.RefConvFwdIdeal.main_arg1) = m ((c.tc : Thread Cert.RefConvFwdIdeal.nD Cert.RefConvFwdIdeal.τ).loc Cert.RefConvFwdIdeal.main_arg1)
      ∧ r.2.mem ((c.tc : Thread Cert.RefConvFwdIdeal.nD Cert.RefConvFwdIdeal.τ).loc Cert.RefConvFwdIdeal.main_arg2) = m ((c.tc : Thread Cert.RefConvFwdIdeal.nD Cert.RefConvFwdIdeal.τ).loc Cert.RefConvFwdIdeal.main_arg2))
      ∧ r.2.sem = fun _ => 0)

def quiescent_InDtDw [hInDtDw : Cert.InDtDw.Facts] : Prop :=
  ∀ (m : (ℓ : Loc Cert.InDtDw.nD Cert.InDtDw.τ Cert.InDtDw.sig) → Buf (Elt Bits) ℓ) (g : Dev Cert.InDtDw.nD → PrngReg), Pre_InDtDw m →
    θ_run (Cert.InDtDw.defs (F := Bits)) (onTc (τ := Cert.InDtDw.τ) (Cert.InDtDw.main (F := Bits))) ⟨m, fun _ => 0, g⟩ (fun r => (∀ c : Dev Cert.InDtDw.nD,
      r.2.mem ((c.tc : Thread Cert.InDtDw.nD Cert.InDtDw.τ).loc Cert.InDtDw.main_arg0) = m ((c.tc : Thread Cert.InDtDw.nD Cert.InDtDw.τ).loc Cert.InDtDw.main_arg0)
      ∧ r.2.mem ((c.tc : Thread Cert.InDtDw.nD Cert.InDtDw.τ).loc Cert.InDtDw.main_arg1) = m ((c.tc : Thread Cert.InDtDw.nD Cert.InDtDw.τ).loc Cert.InDtDw.main_arg1))
      ∧ r.2.sem = fun _ => 0)

def quiescent_InDtDwIdeal [hInDtDwIdeal : Cert.InDtDwIdeal.Facts] : Prop :=
  ∀ (m : (ℓ : Loc Cert.InDtDwIdeal.nD Cert.InDtDwIdeal.τ Cert.InDtDwIdeal.sig) → Buf (Elt Ideal) ℓ) (g : Dev Cert.InDtDwIdeal.nD → PrngReg), Pre_InDtDwIdeal m →
    θ_run (Cert.InDtDwIdeal.defs (F := Ideal)) (onTc (τ := Cert.InDtDwIdeal.τ) (Cert.InDtDwIdeal.main (F := Ideal))) ⟨m, fun _ => 0, g⟩ (fun r => (∀ c : Dev Cert.InDtDwIdeal.nD,
      r.2.mem ((c.tc : Thread Cert.InDtDwIdeal.nD Cert.InDtDwIdeal.τ).loc Cert.InDtDwIdeal.main_arg0) = m ((c.tc : Thread Cert.InDtDwIdeal.nD Cert.InDtDwIdeal.τ).loc Cert.InDtDwIdeal.main_arg0)
      ∧ r.2.mem ((c.tc : Thread Cert.InDtDwIdeal.nD Cert.InDtDwIdeal.τ).loc Cert.InDtDwIdeal.main_arg1) = m ((c.tc : Thread Cert.InDtDwIdeal.nD Cert.InDtDwIdeal.τ).loc Cert.InDtDwIdeal.main_arg1))
      ∧ r.2.sem = fun _ => 0)

def quiescent_RefInDtDwIdeal [hRefInDtDwIdeal : Cert.RefInDtDwIdeal.Facts] : Prop :=
  ∀ (m : (ℓ : Loc Cert.RefInDtDwIdeal.nD Cert.RefInDtDwIdeal.τ Cert.RefInDtDwIdeal.sig) → Buf (Elt Ideal) ℓ) (g : Dev Cert.RefInDtDwIdeal.nD → PrngReg), Pre_RefInDtDwIdeal m →
    θ_run (Cert.RefInDtDwIdeal.defs (F := Ideal)) (onTc (τ := Cert.RefInDtDwIdeal.τ) (Cert.RefInDtDwIdeal.main (F := Ideal))) ⟨m, fun _ => 0, g⟩ (fun r => (∀ c : Dev Cert.RefInDtDwIdeal.nD,
      r.2.mem ((c.tc : Thread Cert.RefInDtDwIdeal.nD Cert.RefInDtDwIdeal.τ).loc Cert.RefInDtDwIdeal.main_arg0) = m ((c.tc : Thread Cert.RefInDtDwIdeal.nD Cert.RefInDtDwIdeal.τ).loc Cert.RefInDtDwIdeal.main_arg0)
      ∧ r.2.mem ((c.tc : Thread Cert.RefInDtDwIdeal.nD Cert.RefInDtDwIdeal.τ).loc Cert.RefInDtDwIdeal.main_arg1) = m ((c.tc : Thread Cert.RefInDtDwIdeal.nD Cert.RefInDtDwIdeal.τ).loc Cert.RefInDtDwIdeal.main_arg1))
      ∧ r.2.sem = fun _ => 0)

def quiescent_InDtDx [hInDtDx : Cert.InDtDx.Facts] : Prop :=
  ∀ (m : (ℓ : Loc Cert.InDtDx.nD Cert.InDtDx.τ Cert.InDtDx.sig) → Buf (Elt Bits) ℓ) (g : Dev Cert.InDtDx.nD → PrngReg), Pre_InDtDx m →
    θ_run (Cert.InDtDx.defs (F := Bits)) (onTc (τ := Cert.InDtDx.τ) (Cert.InDtDx.main (F := Bits))) ⟨m, fun _ => 0, g⟩ (fun r => (∀ c : Dev Cert.InDtDx.nD,
      r.2.mem ((c.tc : Thread Cert.InDtDx.nD Cert.InDtDx.τ).loc Cert.InDtDx.main_arg0) = m ((c.tc : Thread Cert.InDtDx.nD Cert.InDtDx.τ).loc Cert.InDtDx.main_arg0)
      ∧ r.2.mem ((c.tc : Thread Cert.InDtDx.nD Cert.InDtDx.τ).loc Cert.InDtDx.main_arg1) = m ((c.tc : Thread Cert.InDtDx.nD Cert.InDtDx.τ).loc Cert.InDtDx.main_arg1)
      ∧ r.2.mem ((c.tc : Thread Cert.InDtDx.nD Cert.InDtDx.τ).loc Cert.InDtDx.main_arg2) = m ((c.tc : Thread Cert.InDtDx.nD Cert.InDtDx.τ).loc Cert.InDtDx.main_arg2))
      ∧ r.2.sem = fun _ => 0)

def quiescent_InDtDxIdeal [hInDtDxIdeal : Cert.InDtDxIdeal.Facts] : Prop :=
  ∀ (m : (ℓ : Loc Cert.InDtDxIdeal.nD Cert.InDtDxIdeal.τ Cert.InDtDxIdeal.sig) → Buf (Elt Ideal) ℓ) (g : Dev Cert.InDtDxIdeal.nD → PrngReg), Pre_InDtDxIdeal m →
    θ_run (Cert.InDtDxIdeal.defs (F := Ideal)) (onTc (τ := Cert.InDtDxIdeal.τ) (Cert.InDtDxIdeal.main (F := Ideal))) ⟨m, fun _ => 0, g⟩ (fun r => (∀ c : Dev Cert.InDtDxIdeal.nD,
      r.2.mem ((c.tc : Thread Cert.InDtDxIdeal.nD Cert.InDtDxIdeal.τ).loc Cert.InDtDxIdeal.main_arg0) = m ((c.tc : Thread Cert.InDtDxIdeal.nD Cert.InDtDxIdeal.τ).loc Cert.InDtDxIdeal.main_arg0)
      ∧ r.2.mem ((c.tc : Thread Cert.InDtDxIdeal.nD Cert.InDtDxIdeal.τ).loc Cert.InDtDxIdeal.main_arg1) = m ((c.tc : Thread Cert.InDtDxIdeal.nD Cert.InDtDxIdeal.τ).loc Cert.InDtDxIdeal.main_arg1)
      ∧ r.2.mem ((c.tc : Thread Cert.InDtDxIdeal.nD Cert.InDtDxIdeal.τ).loc Cert.InDtDxIdeal.main_arg2) = m ((c.tc : Thread Cert.InDtDxIdeal.nD Cert.InDtDxIdeal.τ).loc Cert.InDtDxIdeal.main_arg2))
      ∧ r.2.sem = fun _ => 0)

def quiescent_RefInDtDxIdeal [hRefInDtDxIdeal : Cert.RefInDtDxIdeal.Facts] : Prop :=
  ∀ (m : (ℓ : Loc Cert.RefInDtDxIdeal.nD Cert.RefInDtDxIdeal.τ Cert.RefInDtDxIdeal.sig) → Buf (Elt Ideal) ℓ) (g : Dev Cert.RefInDtDxIdeal.nD → PrngReg), Pre_RefInDtDxIdeal m →
    θ_run (Cert.RefInDtDxIdeal.defs (F := Ideal)) (onTc (τ := Cert.RefInDtDxIdeal.τ) (Cert.RefInDtDxIdeal.main (F := Ideal))) ⟨m, fun _ => 0, g⟩ (fun r => (∀ c : Dev Cert.RefInDtDxIdeal.nD,
      r.2.mem ((c.tc : Thread Cert.RefInDtDxIdeal.nD Cert.RefInDtDxIdeal.τ).loc Cert.RefInDtDxIdeal.main_arg0) = m ((c.tc : Thread Cert.RefInDtDxIdeal.nD Cert.RefInDtDxIdeal.τ).loc Cert.RefInDtDxIdeal.main_arg0)
      ∧ r.2.mem ((c.tc : Thread Cert.RefInDtDxIdeal.nD Cert.RefInDtDxIdeal.τ).loc Cert.RefInDtDxIdeal.main_arg1) = m ((c.tc : Thread Cert.RefInDtDxIdeal.nD Cert.RefInDtDxIdeal.τ).loc Cert.RefInDtDxIdeal.main_arg1)
      ∧ r.2.mem ((c.tc : Thread Cert.RefInDtDxIdeal.nD Cert.RefInDtDxIdeal.τ).loc Cert.RefInDtDxIdeal.main_arg2) = m ((c.tc : Thread Cert.RefInDtDxIdeal.nD Cert.RefInDtDxIdeal.τ).loc Cert.RefInDtDxIdeal.main_arg2))
      ∧ r.2.sem = fun _ => 0)

def quiescent_InDtFwd [hInDtFwd : Cert.InDtFwd.Facts] : Prop :=
  ∀ (m : (ℓ : Loc Cert.InDtFwd.nD Cert.InDtFwd.τ Cert.InDtFwd.sig) → Buf (Elt Bits) ℓ) (g : Dev Cert.InDtFwd.nD → PrngReg), Pre_InDtFwd m →
    θ_run (Cert.InDtFwd.defs (F := Bits)) (onTc (τ := Cert.InDtFwd.τ) (Cert.InDtFwd.main (F := Bits))) ⟨m, fun _ => 0, g⟩ (fun r => (∀ c : Dev Cert.InDtFwd.nD,
      r.2.mem ((c.tc : Thread Cert.InDtFwd.nD Cert.InDtFwd.τ).loc Cert.InDtFwd.main_arg0) = m ((c.tc : Thread Cert.InDtFwd.nD Cert.InDtFwd.τ).loc Cert.InDtFwd.main_arg0)
      ∧ r.2.mem ((c.tc : Thread Cert.InDtFwd.nD Cert.InDtFwd.τ).loc Cert.InDtFwd.main_arg1) = m ((c.tc : Thread Cert.InDtFwd.nD Cert.InDtFwd.τ).loc Cert.InDtFwd.main_arg1))
      ∧ r.2.sem = fun _ => 0)

def quiescent_InDtFwdIdeal [hInDtFwdIdeal : Cert.InDtFwdIdeal.Facts] : Prop :=
  ∀ (m : (ℓ : Loc Cert.InDtFwdIdeal.nD Cert.InDtFwdIdeal.τ Cert.InDtFwdIdeal.sig) → Buf (Elt Ideal) ℓ) (g : Dev Cert.InDtFwdIdeal.nD → PrngReg), Pre_InDtFwdIdeal m →
    θ_run (Cert.InDtFwdIdeal.defs (F := Ideal)) (onTc (τ := Cert.InDtFwdIdeal.τ) (Cert.InDtFwdIdeal.main (F := Ideal))) ⟨m, fun _ => 0, g⟩ (fun r => (∀ c : Dev Cert.InDtFwdIdeal.nD,
      r.2.mem ((c.tc : Thread Cert.InDtFwdIdeal.nD Cert.InDtFwdIdeal.τ).loc Cert.InDtFwdIdeal.main_arg0) = m ((c.tc : Thread Cert.InDtFwdIdeal.nD Cert.InDtFwdIdeal.τ).loc Cert.InDtFwdIdeal.main_arg0)
      ∧ r.2.mem ((c.tc : Thread Cert.InDtFwdIdeal.nD Cert.InDtFwdIdeal.τ).loc Cert.InDtFwdIdeal.main_arg1) = m ((c.tc : Thread Cert.InDtFwdIdeal.nD Cert.InDtFwdIdeal.τ).loc Cert.InDtFwdIdeal.main_arg1))
      ∧ r.2.sem = fun _ => 0)

def quiescent_RefInDtFwdIdeal [hRefInDtFwdIdeal : Cert.RefInDtFwdIdeal.Facts] : Prop :=
  ∀ (m : (ℓ : Loc Cert.RefInDtFwdIdeal.nD Cert.RefInDtFwdIdeal.τ Cert.RefInDtFwdIdeal.sig) → Buf (Elt Ideal) ℓ) (g : Dev Cert.RefInDtFwdIdeal.nD → PrngReg), Pre_RefInDtFwdIdeal m →
    θ_run (Cert.RefInDtFwdIdeal.defs (F := Ideal)) (onTc (τ := Cert.RefInDtFwdIdeal.τ) (Cert.RefInDtFwdIdeal.main (F := Ideal))) ⟨m, fun _ => 0, g⟩ (fun r => (∀ c : Dev Cert.RefInDtFwdIdeal.nD,
      r.2.mem ((c.tc : Thread Cert.RefInDtFwdIdeal.nD Cert.RefInDtFwdIdeal.τ).loc Cert.RefInDtFwdIdeal.main_arg0) = m ((c.tc : Thread Cert.RefInDtFwdIdeal.nD Cert.RefInDtFwdIdeal.τ).loc Cert.RefInDtFwdIdeal.main_arg0)
      ∧ r.2.mem ((c.tc : Thread Cert.RefInDtFwdIdeal.nD Cert.RefInDtFwdIdeal.τ).loc Cert.RefInDtFwdIdeal.main_arg1) = m ((c.tc : Thread Cert.RefInDtFwdIdeal.nD Cert.RefInDtFwdIdeal.τ).loc Cert.RefInDtFwdIdeal.main_arg1))
      ∧ r.2.sem = fun _ => 0)

def quiescent_AdamFf [hAdamFf : Cert.AdamFf.Facts] : Prop :=
  ∀ (m : (ℓ : Loc Cert.AdamFf.nD Cert.AdamFf.τ Cert.AdamFf.sig) → Buf (Elt Bits) ℓ) (g : Dev Cert.AdamFf.nD → PrngReg), Pre_AdamFf m →
    θ_run (Cert.AdamFf.defs (F := Bits)) (onTc (τ := Cert.AdamFf.τ) (Cert.AdamFf.main (F := Bits))) ⟨m, fun _ => 0, g⟩ (fun r => (∀ c : Dev Cert.AdamFf.nD,
      r.2.mem ((c.tc : Thread Cert.AdamFf.nD Cert.AdamFf.τ).loc Cert.AdamFf.main_arg0) = m ((c.tc : Thread Cert.AdamFf.nD Cert.AdamFf.τ).loc Cert.AdamFf.main_arg0)
      ∧ r.2.mem ((c.tc : Thread Cert.AdamFf.nD Cert.AdamFf.τ).loc Cert.AdamFf.main_arg1) = m ((c.tc : Thread Cert.AdamFf.nD Cert.AdamFf.τ).loc Cert.AdamFf.main_arg1)
      ∧ r.2.mem ((c.tc : Thread Cert.AdamFf.nD Cert.AdamFf.τ).loc Cert.AdamFf.main_arg2) = m ((c.tc : Thread Cert.AdamFf.nD Cert.AdamFf.τ).loc Cert.AdamFf.main_arg2)
      ∧ r.2.mem ((c.tc : Thread Cert.AdamFf.nD Cert.AdamFf.τ).loc Cert.AdamFf.main_arg3) = m ((c.tc : Thread Cert.AdamFf.nD Cert.AdamFf.τ).loc Cert.AdamFf.main_arg3))
      ∧ r.2.sem = fun _ => 0)

def quiescent_AdamFfIdeal [hAdamFfIdeal : Cert.AdamFfIdeal.Facts] : Prop :=
  ∀ (m : (ℓ : Loc Cert.AdamFfIdeal.nD Cert.AdamFfIdeal.τ Cert.AdamFfIdeal.sig) → Buf (Elt Ideal) ℓ) (g : Dev Cert.AdamFfIdeal.nD → PrngReg), Pre_AdamFfIdeal m →
    θ_run (Cert.AdamFfIdeal.defs (F := Ideal)) (onTc (τ := Cert.AdamFfIdeal.τ) (Cert.AdamFfIdeal.main (F := Ideal))) ⟨m, fun _ => 0, g⟩ (fun r => (∀ c : Dev Cert.AdamFfIdeal.nD,
      r.2.mem ((c.tc : Thread Cert.AdamFfIdeal.nD Cert.AdamFfIdeal.τ).loc Cert.AdamFfIdeal.main_arg0) = m ((c.tc : Thread Cert.AdamFfIdeal.nD Cert.AdamFfIdeal.τ).loc Cert.AdamFfIdeal.main_arg0)
      ∧ r.2.mem ((c.tc : Thread Cert.AdamFfIdeal.nD Cert.AdamFfIdeal.τ).loc Cert.AdamFfIdeal.main_arg1) = m ((c.tc : Thread Cert.AdamFfIdeal.nD Cert.AdamFfIdeal.τ).loc Cert.AdamFfIdeal.main_arg1)
      ∧ r.2.mem ((c.tc : Thread Cert.AdamFfIdeal.nD Cert.AdamFfIdeal.τ).loc Cert.AdamFfIdeal.main_arg2) = m ((c.tc : Thread Cert.AdamFfIdeal.nD Cert.AdamFfIdeal.τ).loc Cert.AdamFfIdeal.main_arg2)
      ∧ r.2.mem ((c.tc : Thread Cert.AdamFfIdeal.nD Cert.AdamFfIdeal.τ).loc Cert.AdamFfIdeal.main_arg3) = m ((c.tc : Thread Cert.AdamFfIdeal.nD Cert.AdamFfIdeal.τ).loc Cert.AdamFfIdeal.main_arg3))
      ∧ r.2.sem = fun _ => 0)

def quiescent_RefAdamFfIdeal [hRefAdamFfIdeal : Cert.RefAdamFfIdeal.Facts] : Prop :=
  ∀ (m : (ℓ : Loc Cert.RefAdamFfIdeal.nD Cert.RefAdamFfIdeal.τ Cert.RefAdamFfIdeal.sig) → Buf (Elt Ideal) ℓ) (g : Dev Cert.RefAdamFfIdeal.nD → PrngReg), Pre_RefAdamFfIdeal m →
    θ_run (Cert.RefAdamFfIdeal.defs (F := Ideal)) (onTc (τ := Cert.RefAdamFfIdeal.τ) (Cert.RefAdamFfIdeal.main (F := Ideal))) ⟨m, fun _ => 0, g⟩ (fun r => (∀ c : Dev Cert.RefAdamFfIdeal.nD,
      r.2.mem ((c.tc : Thread Cert.RefAdamFfIdeal.nD Cert.RefAdamFfIdeal.τ).loc Cert.RefAdamFfIdeal.main_arg0) = m ((c.tc : Thread Cert.RefAdamFfIdeal.nD Cert.RefAdamFfIdeal.τ).loc Cert.RefAdamFfIdeal.main_arg0)
      ∧ r.2.mem ((c.tc : Thread Cert.RefAdamFfIdeal.nD Cert.RefAdamFfIdeal.τ).loc Cert.RefAdamFfIdeal.main_arg1) = m ((c.tc : Thread Cert.RefAdamFfIdeal.nD Cert.RefAdamFfIdeal.τ).loc Cert.RefAdamFfIdeal.main_arg1)
      ∧ r.2.mem ((c.tc : Thread Cert.RefAdamFfIdeal.nD Cert.RefAdamFfIdeal.τ).loc Cert.RefAdamFfIdeal.main_arg2) = m ((c.tc : Thread Cert.RefAdamFfIdeal.nD Cert.RefAdamFfIdeal.τ).loc Cert.RefAdamFfIdeal.main_arg2)
      ∧ r.2.mem ((c.tc : Thread Cert.RefAdamFfIdeal.nD Cert.RefAdamFfIdeal.τ).loc Cert.RefAdamFfIdeal.main_arg3) = m ((c.tc : Thread Cert.RefAdamFfIdeal.nD Cert.RefAdamFfIdeal.τ).loc Cert.RefAdamFfIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_RefAdamOutIdeal [hRefAdamOutIdeal : Cert.RefAdamOutIdeal.Facts] : Prop :=
  ∀ (m : (ℓ : Loc Cert.RefAdamOutIdeal.nD Cert.RefAdamOutIdeal.τ Cert.RefAdamOutIdeal.sig) → Buf (Elt Ideal) ℓ) (g : Dev Cert.RefAdamOutIdeal.nD → PrngReg), Pre_RefAdamOutIdeal m →
    θ_run (Cert.RefAdamOutIdeal.defs (F := Ideal)) (onTc (τ := Cert.RefAdamOutIdeal.τ) (Cert.RefAdamOutIdeal.main (F := Ideal))) ⟨m, fun _ => 0, g⟩ (fun r => (∀ c : Dev Cert.RefAdamOutIdeal.nD,
      r.2.mem ((c.tc : Thread Cert.RefAdamOutIdeal.nD Cert.RefAdamOutIdeal.τ).loc Cert.RefAdamOutIdeal.main_arg0) = m ((c.tc : Thread Cert.RefAdamOutIdeal.nD Cert.RefAdamOutIdeal.τ).loc Cert.RefAdamOutIdeal.main_arg0)
      ∧ r.2.mem ((c.tc : Thread Cert.RefAdamOutIdeal.nD Cert.RefAdamOutIdeal.τ).loc Cert.RefAdamOutIdeal.main_arg1) = m ((c.tc : Thread Cert.RefAdamOutIdeal.nD Cert.RefAdamOutIdeal.τ).loc Cert.RefAdamOutIdeal.main_arg1)
      ∧ r.2.mem ((c.tc : Thread Cert.RefAdamOutIdeal.nD Cert.RefAdamOutIdeal.τ).loc Cert.RefAdamOutIdeal.main_arg2) = m ((c.tc : Thread Cert.RefAdamOutIdeal.nD Cert.RefAdamOutIdeal.τ).loc Cert.RefAdamOutIdeal.main_arg2)
      ∧ r.2.mem ((c.tc : Thread Cert.RefAdamOutIdeal.nD Cert.RefAdamOutIdeal.τ).loc Cert.RefAdamOutIdeal.main_arg3) = m ((c.tc : Thread Cert.RefAdamOutIdeal.nD Cert.RefAdamOutIdeal.τ).loc Cert.RefAdamOutIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_RefAdamInIdeal [hRefAdamInIdeal : Cert.RefAdamInIdeal.Facts] : Prop :=
  ∀ (m : (ℓ : Loc Cert.RefAdamInIdeal.nD Cert.RefAdamInIdeal.τ Cert.RefAdamInIdeal.sig) → Buf (Elt Ideal) ℓ) (g : Dev Cert.RefAdamInIdeal.nD → PrngReg), Pre_RefAdamInIdeal m →
    θ_run (Cert.RefAdamInIdeal.defs (F := Ideal)) (onTc (τ := Cert.RefAdamInIdeal.τ) (Cert.RefAdamInIdeal.main (F := Ideal))) ⟨m, fun _ => 0, g⟩ (fun r => (∀ c : Dev Cert.RefAdamInIdeal.nD,
      r.2.mem ((c.tc : Thread Cert.RefAdamInIdeal.nD Cert.RefAdamInIdeal.τ).loc Cert.RefAdamInIdeal.main_arg0) = m ((c.tc : Thread Cert.RefAdamInIdeal.nD Cert.RefAdamInIdeal.τ).loc Cert.RefAdamInIdeal.main_arg0)
      ∧ r.2.mem ((c.tc : Thread Cert.RefAdamInIdeal.nD Cert.RefAdamInIdeal.τ).loc Cert.RefAdamInIdeal.main_arg1) = m ((c.tc : Thread Cert.RefAdamInIdeal.nD Cert.RefAdamInIdeal.τ).loc Cert.RefAdamInIdeal.main_arg1)
      ∧ r.2.mem ((c.tc : Thread Cert.RefAdamInIdeal.nD Cert.RefAdamInIdeal.τ).loc Cert.RefAdamInIdeal.main_arg2) = m ((c.tc : Thread Cert.RefAdamInIdeal.nD Cert.RefAdamInIdeal.τ).loc Cert.RefAdamInIdeal.main_arg2)
      ∧ r.2.mem ((c.tc : Thread Cert.RefAdamInIdeal.nD Cert.RefAdamInIdeal.τ).loc Cert.RefAdamInIdeal.main_arg3) = m ((c.tc : Thread Cert.RefAdamInIdeal.nD Cert.RefAdamInIdeal.τ).loc Cert.RefAdamInIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)) (v5 : (c : Dev Cert.KernelIdeal.nD) → Buf (Elt Ideal) ((c.tc : Thread Cert.KernelIdeal.nD Cert.KernelIdeal.τ).loc Cert.KernelIdeal.main_v3_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_v3_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_v142) = v1 c
          ∧ r.2.mem ((c.tc : Thread Cert.ReferenceIdeal.nD Cert.ReferenceIdeal.τ).loc Cert.ReferenceIdeal.main_v143) = v2 c
          ∧ r.2.mem ((c.tc : Thread Cert.ReferenceIdeal.nD Cert.ReferenceIdeal.τ).loc Cert.ReferenceIdeal.main_v144) = v3 c
          ∧ r.2.mem ((c.tc : Thread Cert.ReferenceIdeal.nD Cert.ReferenceIdeal.τ).loc Cert.ReferenceIdeal.main_v82) = v4 c
          ∧ r.2.mem ((c.tc : Thread Cert.ReferenceIdeal.nD Cert.ReferenceIdeal.τ).loc Cert.ReferenceIdeal.main_v145) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_FfDownDx_FfDownDxIdeal : Prop :=
  True

def algebraic_FfDownDxIdeal_RefFfDownDxIdeal [hFfDownDxIdeal : Cert.FfDownDxIdeal.Facts] [hRefFfDownDxIdeal : Cert.RefFfDownDxIdeal.Facts] : Prop :=
  ∀ (m : (ℓ : Loc Cert.FfDownDxIdeal.nD Cert.FfDownDxIdeal.τ Cert.FfDownDxIdeal.sig) → Buf (Elt Ideal) ℓ) (g : Dev Cert.FfDownDxIdeal.nD → PrngReg)
    (m' : (ℓ : Loc Cert.RefFfDownDxIdeal.nD Cert.RefFfDownDxIdeal.τ Cert.RefFfDownDxIdeal.sig) → Buf (Elt Ideal) ℓ) (g' : Dev Cert.RefFfDownDxIdeal.nD → PrngReg), Pre_FfDownDxIdeal m →
    (∀ c : Dev Cert.FfDownDxIdeal.nD,
      m' ((c.tc : Thread Cert.RefFfDownDxIdeal.nD Cert.RefFfDownDxIdeal.τ).loc Cert.RefFfDownDxIdeal.main_arg0) = m ((c.tc : Thread Cert.FfDownDxIdeal.nD Cert.FfDownDxIdeal.τ).loc Cert.FfDownDxIdeal.main_arg0)
      ∧ m' ((c.tc : Thread Cert.RefFfDownDxIdeal.nD Cert.RefFfDownDxIdeal.τ).loc Cert.RefFfDownDxIdeal.main_arg1) = m ((c.tc : Thread Cert.FfDownDxIdeal.nD Cert.FfDownDxIdeal.τ).loc Cert.FfDownDxIdeal.main_arg1)
      ∧ m' ((c.tc : Thread Cert.RefFfDownDxIdeal.nD Cert.RefFfDownDxIdeal.τ).loc Cert.RefFfDownDxIdeal.main_arg2) = m ((c.tc : Thread Cert.FfDownDxIdeal.nD Cert.FfDownDxIdeal.τ).loc Cert.FfDownDxIdeal.main_arg2)) →
    ∃ (v0 : (c : Dev Cert.FfDownDxIdeal.nD) → Buf (Elt Ideal) ((c.tc : Thread Cert.FfDownDxIdeal.nD Cert.FfDownDxIdeal.τ).loc Cert.FfDownDxIdeal.main_v2)),
      θ_run (Cert.FfDownDxIdeal.defs (F := Ideal)) (onTc (τ := Cert.FfDownDxIdeal.τ) (Cert.FfDownDxIdeal.main (F := Ideal))) ⟨m, fun _ => 0, g⟩ (fun r => ∀ c : Dev Cert.FfDownDxIdeal.nD,
          r.2.mem ((c.tc : Thread Cert.FfDownDxIdeal.nD Cert.FfDownDxIdeal.τ).loc Cert.FfDownDxIdeal.main_v2) = v0 c
          ∧ r.2.mem ((c.tc : Thread Cert.FfDownDxIdeal.nD Cert.FfDownDxIdeal.τ).loc Cert.FfDownDxIdeal.main_arg0) = m ((c.tc : Thread Cert.FfDownDxIdeal.nD Cert.FfDownDxIdeal.τ).loc Cert.FfDownDxIdeal.main_arg0)
          ∧ r.2.mem ((c.tc : Thread Cert.FfDownDxIdeal.nD Cert.FfDownDxIdeal.τ).loc Cert.FfDownDxIdeal.main_arg1) = m ((c.tc : Thread Cert.FfDownDxIdeal.nD Cert.FfDownDxIdeal.τ).loc Cert.FfDownDxIdeal.main_arg1)
          ∧ r.2.mem ((c.tc : Thread Cert.FfDownDxIdeal.nD Cert.FfDownDxIdeal.τ).loc Cert.FfDownDxIdeal.main_arg2) = m ((c.tc : Thread Cert.FfDownDxIdeal.nD Cert.FfDownDxIdeal.τ).loc Cert.FfDownDxIdeal.main_arg2))
      ∧ θ_run (Cert.RefFfDownDxIdeal.defs (F := Ideal)) (onTc (τ := Cert.RefFfDownDxIdeal.τ) (Cert.RefFfDownDxIdeal.main (F := Ideal))) ⟨m', fun _ => 0, g'⟩ (fun r => ∀ c : Dev Cert.RefFfDownDxIdeal.nD,
          r.2.mem ((c.tc : Thread Cert.RefFfDownDxIdeal.nD Cert.RefFfDownDxIdeal.τ).loc Cert.RefFfDownDxIdeal.main_v12) = v0 c
          ∧ r.2.mem ((c.tc : Thread Cert.RefFfDownDxIdeal.nD Cert.RefFfDownDxIdeal.τ).loc Cert.RefFfDownDxIdeal.main_arg0) = m' ((c.tc : Thread Cert.RefFfDownDxIdeal.nD Cert.RefFfDownDxIdeal.τ).loc Cert.RefFfDownDxIdeal.main_arg0)
          ∧ r.2.mem ((c.tc : Thread Cert.RefFfDownDxIdeal.nD Cert.RefFfDownDxIdeal.τ).loc Cert.RefFfDownDxIdeal.main_arg1) = m' ((c.tc : Thread Cert.RefFfDownDxIdeal.nD Cert.RefFfDownDxIdeal.τ).loc Cert.RefFfDownDxIdeal.main_arg1)
          ∧ r.2.mem ((c.tc : Thread Cert.RefFfDownDxIdeal.nD Cert.RefFfDownDxIdeal.τ).loc Cert.RefFfDownDxIdeal.main_arg2) = m' ((c.tc : Thread Cert.RefFfDownDxIdeal.nD Cert.RefFfDownDxIdeal.τ).loc Cert.RefFfDownDxIdeal.main_arg2))

def preserves_FfDownDw_FfDownDwIdeal : Prop :=
  True

def algebraic_FfDownDwIdeal_RefFfDownDwIdeal [hFfDownDwIdeal : Cert.FfDownDwIdeal.Facts] [hRefFfDownDwIdeal : Cert.RefFfDownDwIdeal.Facts] : Prop :=
  ∀ (m : (ℓ : Loc Cert.FfDownDwIdeal.nD Cert.FfDownDwIdeal.τ Cert.FfDownDwIdeal.sig) → Buf (Elt Ideal) ℓ) (g : Dev Cert.FfDownDwIdeal.nD → PrngReg)
    (m' : (ℓ : Loc Cert.RefFfDownDwIdeal.nD Cert.RefFfDownDwIdeal.τ Cert.RefFfDownDwIdeal.sig) → Buf (Elt Ideal) ℓ) (g' : Dev Cert.RefFfDownDwIdeal.nD → PrngReg), Pre_FfDownDwIdeal m →
    (∀ c : Dev Cert.FfDownDwIdeal.nD,
      m' ((c.tc : Thread Cert.RefFfDownDwIdeal.nD Cert.RefFfDownDwIdeal.τ).loc Cert.RefFfDownDwIdeal.main_arg0) = m ((c.tc : Thread Cert.FfDownDwIdeal.nD Cert.FfDownDwIdeal.τ).loc Cert.FfDownDwIdeal.main_arg0)
      ∧ m' ((c.tc : Thread Cert.RefFfDownDwIdeal.nD Cert.RefFfDownDwIdeal.τ).loc Cert.RefFfDownDwIdeal.main_arg1) = m ((c.tc : Thread Cert.FfDownDwIdeal.nD Cert.FfDownDwIdeal.τ).loc Cert.FfDownDwIdeal.main_arg1)) →
    ∃ (v0 : (c : Dev Cert.FfDownDwIdeal.nD) → Buf (Elt Ideal) ((c.tc : Thread Cert.FfDownDwIdeal.nD Cert.FfDownDwIdeal.τ).loc Cert.FfDownDwIdeal.main_v4)),
      θ_run (Cert.FfDownDwIdeal.defs (F := Ideal)) (onTc (τ := Cert.FfDownDwIdeal.τ) (Cert.FfDownDwIdeal.main (F := Ideal))) ⟨m, fun _ => 0, g⟩ (fun r => ∀ c : Dev Cert.FfDownDwIdeal.nD,
          r.2.mem ((c.tc : Thread Cert.FfDownDwIdeal.nD Cert.FfDownDwIdeal.τ).loc Cert.FfDownDwIdeal.main_v4) = v0 c
          ∧ r.2.mem ((c.tc : Thread Cert.FfDownDwIdeal.nD Cert.FfDownDwIdeal.τ).loc Cert.FfDownDwIdeal.main_arg0) = m ((c.tc : Thread Cert.FfDownDwIdeal.nD Cert.FfDownDwIdeal.τ).loc Cert.FfDownDwIdeal.main_arg0)
          ∧ r.2.mem ((c.tc : Thread Cert.FfDownDwIdeal.nD Cert.FfDownDwIdeal.τ).loc Cert.FfDownDwIdeal.main_arg1) = m ((c.tc : Thread Cert.FfDownDwIdeal.nD Cert.FfDownDwIdeal.τ).loc Cert.FfDownDwIdeal.main_arg1))
      ∧ θ_run (Cert.RefFfDownDwIdeal.defs (F := Ideal)) (onTc (τ := Cert.RefFfDownDwIdeal.τ) (Cert.RefFfDownDwIdeal.main (F := Ideal))) ⟨m', fun _ => 0, g'⟩ (fun r => ∀ c : Dev Cert.RefFfDownDwIdeal.nD,
          r.2.mem ((c.tc : Thread Cert.RefFfDownDwIdeal.nD Cert.RefFfDownDwIdeal.τ).loc Cert.RefFfDownDwIdeal.main_v5) = v0 c
          ∧ r.2.mem ((c.tc : Thread Cert.RefFfDownDwIdeal.nD Cert.RefFfDownDwIdeal.τ).loc Cert.RefFfDownDwIdeal.main_arg0) = m' ((c.tc : Thread Cert.RefFfDownDwIdeal.nD Cert.RefFfDownDwIdeal.τ).loc Cert.RefFfDownDwIdeal.main_arg0)
          ∧ r.2.mem ((c.tc : Thread Cert.RefFfDownDwIdeal.nD Cert.RefFfDownDwIdeal.τ).loc Cert.RefFfDownDwIdeal.main_arg1) = m' ((c.tc : Thread Cert.RefFfDownDwIdeal.nD Cert.RefFfDownDwIdeal.τ).loc Cert.RefFfDownDwIdeal.main_arg1))

def preserves_FfUpDw_FfUpDwIdeal : Prop :=
  True

def algebraic_FfUpDwIdeal_RefFfUpDwIdeal [hFfUpDwIdeal : Cert.FfUpDwIdeal.Facts] [hRefFfUpDwIdeal : Cert.RefFfUpDwIdeal.Facts] : Prop :=
  ∀ (m : (ℓ : Loc Cert.FfUpDwIdeal.nD Cert.FfUpDwIdeal.τ Cert.FfUpDwIdeal.sig) → Buf (Elt Ideal) ℓ) (g : Dev Cert.FfUpDwIdeal.nD → PrngReg)
    (m' : (ℓ : Loc Cert.RefFfUpDwIdeal.nD Cert.RefFfUpDwIdeal.τ Cert.RefFfUpDwIdeal.sig) → Buf (Elt Ideal) ℓ) (g' : Dev Cert.RefFfUpDwIdeal.nD → PrngReg), Pre_FfUpDwIdeal m →
    (∀ c : Dev Cert.FfUpDwIdeal.nD,
      m' ((c.tc : Thread Cert.RefFfUpDwIdeal.nD Cert.RefFfUpDwIdeal.τ).loc Cert.RefFfUpDwIdeal.main_arg0) = m ((c.tc : Thread Cert.FfUpDwIdeal.nD Cert.FfUpDwIdeal.τ).loc Cert.FfUpDwIdeal.main_arg0)
      ∧ m' ((c.tc : Thread Cert.RefFfUpDwIdeal.nD Cert.RefFfUpDwIdeal.τ).loc Cert.RefFfUpDwIdeal.main_arg1) = m ((c.tc : Thread Cert.FfUpDwIdeal.nD Cert.FfUpDwIdeal.τ).loc Cert.FfUpDwIdeal.main_arg1)) →
    ∃ (v0 : (c : Dev Cert.FfUpDwIdeal.nD) → Buf (Elt Ideal) ((c.tc : Thread Cert.FfUpDwIdeal.nD Cert.FfUpDwIdeal.τ).loc Cert.FfUpDwIdeal.main_v2)),
      θ_run (Cert.FfUpDwIdeal.defs (F := Ideal)) (onTc (τ := Cert.FfUpDwIdeal.τ) (Cert.FfUpDwIdeal.main (F := Ideal))) ⟨m, fun _ => 0, g⟩ (fun r => ∀ c : Dev Cert.FfUpDwIdeal.nD,
          r.2.mem ((c.tc : Thread Cert.FfUpDwIdeal.nD Cert.FfUpDwIdeal.τ).loc Cert.FfUpDwIdeal.main_v2) = v0 c
          ∧ r.2.mem ((c.tc : Thread Cert.FfUpDwIdeal.nD Cert.FfUpDwIdeal.τ).loc Cert.FfUpDwIdeal.main_arg0) = m ((c.tc : Thread Cert.FfUpDwIdeal.nD Cert.FfUpDwIdeal.τ).loc Cert.FfUpDwIdeal.main_arg0)
          ∧ r.2.mem ((c.tc : Thread Cert.FfUpDwIdeal.nD Cert.FfUpDwIdeal.τ).loc Cert.FfUpDwIdeal.main_arg1) = m ((c.tc : Thread Cert.FfUpDwIdeal.nD Cert.FfUpDwIdeal.τ).loc Cert.FfUpDwIdeal.main_arg1))
      ∧ θ_run (Cert.RefFfUpDwIdeal.defs (F := Ideal)) (onTc (τ := Cert.RefFfUpDwIdeal.τ) (Cert.RefFfUpDwIdeal.main (F := Ideal))) ⟨m', fun _ => 0, g'⟩ (fun r => ∀ c : Dev Cert.RefFfUpDwIdeal.nD,
          r.2.mem ((c.tc : Thread Cert.RefFfUpDwIdeal.nD Cert.RefFfUpDwIdeal.τ).loc Cert.RefFfUpDwIdeal.main_v5) = v0 c
          ∧ r.2.mem ((c.tc : Thread Cert.RefFfUpDwIdeal.nD Cert.RefFfUpDwIdeal.τ).loc Cert.RefFfUpDwIdeal.main_arg0) = m' ((c.tc : Thread Cert.RefFfUpDwIdeal.nD Cert.RefFfUpDwIdeal.τ).loc Cert.RefFfUpDwIdeal.main_arg0)
          ∧ r.2.mem ((c.tc : Thread Cert.RefFfUpDwIdeal.nD Cert.RefFfUpDwIdeal.τ).loc Cert.RefFfUpDwIdeal.main_arg1) = m' ((c.tc : Thread Cert.RefFfUpDwIdeal.nD Cert.RefFfUpDwIdeal.τ).loc Cert.RefFfUpDwIdeal.main_arg1))

def preserves_FfUpDx_FfUpDxIdeal : Prop :=
  True

def algebraic_FfUpDxIdeal_RefFfUpDxIdeal [hFfUpDxIdeal : Cert.FfUpDxIdeal.Facts] [hRefFfUpDxIdeal : Cert.RefFfUpDxIdeal.Facts] : Prop :=
  ∀ (m : (ℓ : Loc Cert.FfUpDxIdeal.nD Cert.FfUpDxIdeal.τ Cert.FfUpDxIdeal.sig) → Buf (Elt Ideal) ℓ) (g : Dev Cert.FfUpDxIdeal.nD → PrngReg)
    (m' : (ℓ : Loc Cert.RefFfUpDxIdeal.nD Cert.RefFfUpDxIdeal.τ Cert.RefFfUpDxIdeal.sig) → Buf (Elt Ideal) ℓ) (g' : Dev Cert.RefFfUpDxIdeal.nD → PrngReg), Pre_FfUpDxIdeal m →
    (∀ c : Dev Cert.FfUpDxIdeal.nD,
      m' ((c.tc : Thread Cert.RefFfUpDxIdeal.nD Cert.RefFfUpDxIdeal.τ).loc Cert.RefFfUpDxIdeal.main_arg0) = m ((c.tc : Thread Cert.FfUpDxIdeal.nD Cert.FfUpDxIdeal.τ).loc Cert.FfUpDxIdeal.main_arg0)
      ∧ m' ((c.tc : Thread Cert.RefFfUpDxIdeal.nD Cert.RefFfUpDxIdeal.τ).loc Cert.RefFfUpDxIdeal.main_arg1) = m ((c.tc : Thread Cert.FfUpDxIdeal.nD Cert.FfUpDxIdeal.τ).loc Cert.FfUpDxIdeal.main_arg1)) →
    ∃ (v0 : (c : Dev Cert.FfUpDxIdeal.nD) → Buf (Elt Ideal) ((c.tc : Thread Cert.FfUpDxIdeal.nD Cert.FfUpDxIdeal.τ).loc Cert.FfUpDxIdeal.main_v4)),
      θ_run (Cert.FfUpDxIdeal.defs (F := Ideal)) (onTc (τ := Cert.FfUpDxIdeal.τ) (Cert.FfUpDxIdeal.main (F := Ideal))) ⟨m, fun _ => 0, g⟩ (fun r => ∀ c : Dev Cert.FfUpDxIdeal.nD,
          r.2.mem ((c.tc : Thread Cert.FfUpDxIdeal.nD Cert.FfUpDxIdeal.τ).loc Cert.FfUpDxIdeal.main_v4) = v0 c
          ∧ r.2.mem ((c.tc : Thread Cert.FfUpDxIdeal.nD Cert.FfUpDxIdeal.τ).loc Cert.FfUpDxIdeal.main_arg0) = m ((c.tc : Thread Cert.FfUpDxIdeal.nD Cert.FfUpDxIdeal.τ).loc Cert.FfUpDxIdeal.main_arg0)
          ∧ r.2.mem ((c.tc : Thread Cert.FfUpDxIdeal.nD Cert.FfUpDxIdeal.τ).loc Cert.FfUpDxIdeal.main_arg1) = m ((c.tc : Thread Cert.FfUpDxIdeal.nD Cert.FfUpDxIdeal.τ).loc Cert.FfUpDxIdeal.main_arg1))
      ∧ θ_run (Cert.RefFfUpDxIdeal.defs (F := Ideal)) (onTc (τ := Cert.RefFfUpDxIdeal.τ) (Cert.RefFfUpDxIdeal.main (F := Ideal))) ⟨m', fun _ => 0, g'⟩ (fun r => ∀ c : Dev Cert.RefFfUpDxIdeal.nD,
          r.2.mem ((c.tc : Thread Cert.RefFfUpDxIdeal.nD Cert.RefFfUpDxIdeal.τ).loc Cert.RefFfUpDxIdeal.main_v2) = v0 c
          ∧ r.2.mem ((c.tc : Thread Cert.RefFfUpDxIdeal.nD Cert.RefFfUpDxIdeal.τ).loc Cert.RefFfUpDxIdeal.main_arg0) = m' ((c.tc : Thread Cert.RefFfUpDxIdeal.nD Cert.RefFfUpDxIdeal.τ).loc Cert.RefFfUpDxIdeal.main_arg0)
          ∧ r.2.mem ((c.tc : Thread Cert.RefFfUpDxIdeal.nD Cert.RefFfUpDxIdeal.τ).loc Cert.RefFfUpDxIdeal.main_arg1) = m' ((c.tc : Thread Cert.RefFfUpDxIdeal.nD Cert.RefFfUpDxIdeal.τ).loc Cert.RefFfUpDxIdeal.main_arg1))

def preserves_OutDw_OutDwIdeal : Prop :=
  True

def algebraic_OutDwIdeal_RefOutDwIdeal [hOutDwIdeal : Cert.OutDwIdeal.Facts] [hRefOutDwIdeal : Cert.RefOutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.RefOutDwIdeal.nD Cert.RefOutDwIdeal.τ Cert.RefOutDwIdeal.sig) → Buf (Elt Ideal) ℓ) (g' : Dev Cert.RefOutDwIdeal.nD → PrngReg), Pre_OutDwIdeal m →
    (∀ c : Dev Cert.OutDwIdeal.nD,
      m' ((c.tc : Thread Cert.RefOutDwIdeal.nD Cert.RefOutDwIdeal.τ).loc Cert.RefOutDwIdeal.main_arg0) = m ((c.tc : Thread Cert.OutDwIdeal.nD Cert.OutDwIdeal.τ).loc Cert.OutDwIdeal.main_arg0)
      ∧ m' ((c.tc : Thread Cert.RefOutDwIdeal.nD Cert.RefOutDwIdeal.τ).loc Cert.RefOutDwIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v2)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v2) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.RefOutDwIdeal.defs (F := Ideal)) (onTc (τ := Cert.RefOutDwIdeal.τ) (Cert.RefOutDwIdeal.main (F := Ideal))) ⟨m', fun _ => 0, g'⟩ (fun r => ∀ c : Dev Cert.RefOutDwIdeal.nD,
          r.2.mem ((c.tc : Thread Cert.RefOutDwIdeal.nD Cert.RefOutDwIdeal.τ).loc Cert.RefOutDwIdeal.main_v3) = v0 c
          ∧ r.2.mem ((c.tc : Thread Cert.RefOutDwIdeal.nD Cert.RefOutDwIdeal.τ).loc Cert.RefOutDwIdeal.main_arg0) = m' ((c.tc : Thread Cert.RefOutDwIdeal.nD Cert.RefOutDwIdeal.τ).loc Cert.RefOutDwIdeal.main_arg0)
          ∧ r.2.mem ((c.tc : Thread Cert.RefOutDwIdeal.nD Cert.RefOutDwIdeal.τ).loc Cert.RefOutDwIdeal.main_arg1) = m' ((c.tc : Thread Cert.RefOutDwIdeal.nD Cert.RefOutDwIdeal.τ).loc Cert.RefOutDwIdeal.main_arg1))

def preserves_OutDx_OutDxIdeal : Prop :=
  True

def algebraic_OutDxIdeal_RefOutDxIdeal [hOutDxIdeal : Cert.OutDxIdeal.Facts] [hRefOutDxIdeal : Cert.RefOutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.RefOutDxIdeal.nD Cert.RefOutDxIdeal.τ Cert.RefOutDxIdeal.sig) → Buf (Elt Ideal) ℓ) (g' : Dev Cert.RefOutDxIdeal.nD → PrngReg), Pre_OutDxIdeal m →
    (∀ c : Dev Cert.OutDxIdeal.nD,
      m' ((c.tc : Thread Cert.RefOutDxIdeal.nD Cert.RefOutDxIdeal.τ).loc Cert.RefOutDxIdeal.main_arg0) = m ((c.tc : Thread Cert.OutDxIdeal.nD Cert.OutDxIdeal.τ).loc Cert.OutDxIdeal.main_arg0)
      ∧ m' ((c.tc : Thread Cert.RefOutDxIdeal.nD Cert.RefOutDxIdeal.τ).loc Cert.RefOutDxIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v2)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v2) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.RefOutDxIdeal.defs (F := Ideal)) (onTc (τ := Cert.RefOutDxIdeal.τ) (Cert.RefOutDxIdeal.main (F := Ideal))) ⟨m', fun _ => 0, g'⟩ (fun r => ∀ c : Dev Cert.RefOutDxIdeal.nD,
          r.2.mem ((c.tc : Thread Cert.RefOutDxIdeal.nD Cert.RefOutDxIdeal.τ).loc Cert.RefOutDxIdeal.main_v2) = v0 c
          ∧ r.2.mem ((c.tc : Thread Cert.RefOutDxIdeal.nD Cert.RefOutDxIdeal.τ).loc Cert.RefOutDxIdeal.main_arg0) = m' ((c.tc : Thread Cert.RefOutDxIdeal.nD Cert.RefOutDxIdeal.τ).loc Cert.RefOutDxIdeal.main_arg0)
          ∧ r.2.mem ((c.tc : Thread Cert.RefOutDxIdeal.nD Cert.RefOutDxIdeal.τ).loc Cert.RefOutDxIdeal.main_arg1) = m' ((c.tc : Thread Cert.RefOutDxIdeal.nD Cert.RefOutDxIdeal.τ).loc Cert.RefOutDxIdeal.main_arg1))

def preserves_InDw_InDwIdeal : Prop :=
  True

def algebraic_InDwIdeal_RefInDwIdeal [hInDwIdeal : Cert.InDwIdeal.Facts] [hRefInDwIdeal : Cert.RefInDwIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.RefInDwIdeal.nD Cert.RefInDwIdeal.τ Cert.RefInDwIdeal.sig) → Buf (Elt Ideal) ℓ) (g' : Dev Cert.RefInDwIdeal.nD → PrngReg), Pre_InDwIdeal m →
    (∀ c : Dev Cert.InDwIdeal.nD,
      m' ((c.tc : Thread Cert.RefInDwIdeal.nD Cert.RefInDwIdeal.τ).loc Cert.RefInDwIdeal.main_arg0) = m ((c.tc : Thread Cert.InDwIdeal.nD Cert.InDwIdeal.τ).loc Cert.InDwIdeal.main_arg0)
      ∧ m' ((c.tc : Thread Cert.RefInDwIdeal.nD Cert.RefInDwIdeal.τ).loc Cert.RefInDwIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v2)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v2) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.RefInDwIdeal.defs (F := Ideal)) (onTc (τ := Cert.RefInDwIdeal.τ) (Cert.RefInDwIdeal.main (F := Ideal))) ⟨m', fun _ => 0, g'⟩ (fun r => ∀ c : Dev Cert.RefInDwIdeal.nD,
          r.2.mem ((c.tc : Thread Cert.RefInDwIdeal.nD Cert.RefInDwIdeal.τ).loc Cert.RefInDwIdeal.main_v3) = v0 c
          ∧ r.2.mem ((c.tc : Thread Cert.RefInDwIdeal.nD Cert.RefInDwIdeal.τ).loc Cert.RefInDwIdeal.main_arg0) = m' ((c.tc : Thread Cert.RefInDwIdeal.nD Cert.RefInDwIdeal.τ).loc Cert.RefInDwIdeal.main_arg0)
          ∧ r.2.mem ((c.tc : Thread Cert.RefInDwIdeal.nD Cert.RefInDwIdeal.τ).loc Cert.RefInDwIdeal.main_arg1) = m' ((c.tc : Thread Cert.RefInDwIdeal.nD Cert.RefInDwIdeal.τ).loc Cert.RefInDwIdeal.main_arg1))

def preserves_InDx_InDxIdeal : Prop :=
  True

def algebraic_InDxIdeal_RefInDxIdeal [hInDxIdeal : Cert.InDxIdeal.Facts] [hRefInDxIdeal : Cert.RefInDxIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.RefInDxIdeal.nD Cert.RefInDxIdeal.τ Cert.RefInDxIdeal.sig) → Buf (Elt Ideal) ℓ) (g' : Dev Cert.RefInDxIdeal.nD → PrngReg), Pre_InDxIdeal m →
    (∀ c : Dev Cert.InDxIdeal.nD,
      m' ((c.tc : Thread Cert.RefInDxIdeal.nD Cert.RefInDxIdeal.τ).loc Cert.RefInDxIdeal.main_arg0) = m ((c.tc : Thread Cert.InDxIdeal.nD Cert.InDxIdeal.τ).loc Cert.InDxIdeal.main_arg0)
      ∧ m' ((c.tc : Thread Cert.RefInDxIdeal.nD Cert.RefInDxIdeal.τ).loc Cert.RefInDxIdeal.main_arg1) = m ((c.tc : Thread Cert.InDxIdeal.nD Cert.InDxIdeal.τ).loc Cert.InDxIdeal.main_arg1)) →
    ∃ (v0 : (c : Dev Cert.InDxIdeal.nD) → Buf (Elt Ideal) ((c.tc : Thread Cert.InDxIdeal.nD Cert.InDxIdeal.τ).loc Cert.InDxIdeal.main_v2)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v2) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ θ_run (Cert.RefInDxIdeal.defs (F := Ideal)) (onTc (τ := Cert.RefInDxIdeal.τ) (Cert.RefInDxIdeal.main (F := Ideal))) ⟨m', fun _ => 0, g'⟩ (fun r => ∀ c : Dev Cert.RefInDxIdeal.nD,
          r.2.mem ((c.tc : Thread Cert.RefInDxIdeal.nD Cert.RefInDxIdeal.τ).loc Cert.RefInDxIdeal.main_v2) = v0 c
          ∧ r.2.mem ((c.tc : Thread Cert.RefInDxIdeal.nD Cert.RefInDxIdeal.τ).loc Cert.RefInDxIdeal.main_arg0) = m' ((c.tc : Thread Cert.RefInDxIdeal.nD Cert.RefInDxIdeal.τ).loc Cert.RefInDxIdeal.main_arg0)
          ∧ r.2.mem ((c.tc : Thread Cert.RefInDxIdeal.nD Cert.RefInDxIdeal.τ).loc Cert.RefInDxIdeal.main_arg1) = m' ((c.tc : Thread Cert.RefInDxIdeal.nD Cert.RefInDxIdeal.τ).loc Cert.RefInDxIdeal.main_arg1))

def preserves_InFwd_InFwdIdeal : Prop :=
  True

def algebraic_InFwdIdeal_RefInFwdIdeal [hInFwdIdeal : Cert.InFwdIdeal.Facts] [hRefInFwdIdeal : Cert.RefInFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.RefInFwdIdeal.nD Cert.RefInFwdIdeal.τ Cert.RefInFwdIdeal.sig) → Buf (Elt Ideal) ℓ) (g' : Dev Cert.RefInFwdIdeal.nD → PrngReg), Pre_InFwdIdeal m →
    (∀ c : Dev Cert.InFwdIdeal.nD,
      m' ((c.tc : Thread Cert.RefInFwdIdeal.nD Cert.RefInFwdIdeal.τ).loc Cert.RefInFwdIdeal.main_arg0) = m ((c.tc : Thread Cert.InFwdIdeal.nD Cert.InFwdIdeal.τ).loc Cert.InFwdIdeal.main_arg0)
      ∧ m' ((c.tc : Thread Cert.RefInFwdIdeal.nD Cert.RefInFwdIdeal.τ).loc Cert.RefInFwdIdeal.main_arg1) = m ((c.tc : Thread Cert.InFwdIdeal.nD Cert.InFwdIdeal.τ).loc Cert.InFwdIdeal.main_arg1)) →
    ∃ (v0 : (c : Dev Cert.InFwdIdeal.nD) → Buf (Elt Ideal) ((c.tc : Thread Cert.InFwdIdeal.nD Cert.InFwdIdeal.τ).loc Cert.InFwdIdeal.main_v2)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v2) = v0 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ θ_run (Cert.RefInFwdIdeal.defs (F := Ideal)) (onTc (τ := Cert.RefInFwdIdeal.τ) (Cert.RefInFwdIdeal.main (F := Ideal))) ⟨m', fun _ => 0, g'⟩ (fun r => ∀ c : Dev Cert.RefInFwdIdeal.nD,
          r.2.mem ((c.tc : Thread Cert.RefInFwdIdeal.nD Cert.RefInFwdIdeal.τ).loc Cert.RefInFwdIdeal.main_v0) = v0 c
          ∧ r.2.mem ((c.tc : Thread Cert.RefInFwdIdeal.nD Cert.RefInFwdIdeal.τ).loc Cert.RefInFwdIdeal.main_arg0) = m' ((c.tc : Thread Cert.RefInFwdIdeal.nD Cert.RefInFwdIdeal.τ).loc Cert.RefInFwdIdeal.main_arg0)
          ∧ r.2.mem ((c.tc : Thread Cert.RefInFwdIdeal.nD Cert.RefInFwdIdeal.τ).loc Cert.RefInFwdIdeal.main_arg1) = m' ((c.tc : Thread Cert.RefInFwdIdeal.nD Cert.RefInFwdIdeal.τ).loc Cert.RefInFwdIdeal.main_arg1))

def preserves_OutFwd_OutFwdIdeal : Prop :=
  True

def algebraic_OutFwdIdeal_RefOutFwdIdeal [hOutFwdIdeal : Cert.OutFwdIdeal.Facts] [hRefOutFwdIdeal : Cert.RefOutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.RefOutFwdIdeal.nD Cert.RefOutFwdIdeal.τ Cert.RefOutFwdIdeal.sig) → Buf (Elt Ideal) ℓ) (g' : Dev Cert.RefOutFwdIdeal.nD → PrngReg), Pre_OutFwdIdeal m →
    (∀ c : Dev Cert.OutFwdIdeal.nD,
      m' ((c.tc : Thread Cert.RefOutFwdIdeal.nD Cert.RefOutFwdIdeal.τ).loc Cert.RefOutFwdIdeal.main_arg0) = m ((c.tc : Thread Cert.OutFwdIdeal.nD Cert.OutFwdIdeal.τ).loc Cert.OutFwdIdeal.main_arg0)
      ∧ m' ((c.tc : Thread Cert.RefOutFwdIdeal.nD Cert.RefOutFwdIdeal.τ).loc Cert.RefOutFwdIdeal.main_arg1) = m ((c.tc : Thread Cert.OutFwdIdeal.nD Cert.OutFwdIdeal.τ).loc Cert.OutFwdIdeal.main_arg1)
      ∧ m' ((c.tc : Thread Cert.RefOutFwdIdeal.nD Cert.RefOutFwdIdeal.τ).loc Cert.RefOutFwdIdeal.main_arg2) = m ((c.tc : Thread Cert.OutFwdIdeal.nD Cert.OutFwdIdeal.τ).loc Cert.OutFwdIdeal.main_arg2)) →
    ∃ (v0 : (c : Dev Cert.OutFwdIdeal.nD) → Buf (Elt Ideal) ((c.tc : Thread Cert.OutFwdIdeal.nD Cert.OutFwdIdeal.τ).loc Cert.OutFwdIdeal.main_v2)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v2) = v0 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
          ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2))
      ∧ θ_run (Cert.RefOutFwdIdeal.defs (F := Ideal)) (onTc (τ := Cert.RefOutFwdIdeal.τ) (Cert.RefOutFwdIdeal.main (F := Ideal))) ⟨m', fun _ => 0, g'⟩ (fun r => ∀ c : Dev Cert.RefOutFwdIdeal.nD,
          r.2.mem ((c.tc : Thread Cert.RefOutFwdIdeal.nD Cert.RefOutFwdIdeal.τ).loc Cert.RefOutFwdIdeal.main_v1) = v0 c
          ∧ r.2.mem ((c.tc : Thread Cert.RefOutFwdIdeal.nD Cert.RefOutFwdIdeal.τ).loc Cert.RefOutFwdIdeal.main_arg0) = m' ((c.tc : Thread Cert.RefOutFwdIdeal.nD Cert.RefOutFwdIdeal.τ).loc Cert.RefOutFwdIdeal.main_arg0)
          ∧ r.2.mem ((c.tc : Thread Cert.RefOutFwdIdeal.nD Cert.RefOutFwdIdeal.τ).loc Cert.RefOutFwdIdeal.main_arg1) = m' ((c.tc : Thread Cert.RefOutFwdIdeal.nD Cert.RefOutFwdIdeal.τ).loc Cert.RefOutFwdIdeal.main_arg1)
          ∧ r.2.mem ((c.tc : Thread Cert.RefOutFwdIdeal.nD Cert.RefOutFwdIdeal.τ).loc Cert.RefOutFwdIdeal.main_arg2) = m' ((c.tc : Thread Cert.RefOutFwdIdeal.nD Cert.RefOutFwdIdeal.τ).loc Cert.RefOutFwdIdeal.main_arg2))

def preserves_FfUpFwd_FfUpFwdIdeal : Prop :=
  True

def algebraic_FfUpFwdIdeal_RefFfUpFwdIdeal [hFfUpFwdIdeal : Cert.FfUpFwdIdeal.Facts] [hRefFfUpFwdIdeal : Cert.RefFfUpFwdIdeal.Facts] : Prop :=
  ∀ (m : (ℓ : Loc Cert.FfUpFwdIdeal.nD Cert.FfUpFwdIdeal.τ Cert.FfUpFwdIdeal.sig) → Buf (Elt Ideal) ℓ) (g : Dev Cert.FfUpFwdIdeal.nD → PrngReg)
    (m' : (ℓ : Loc Cert.RefFfUpFwdIdeal.nD Cert.RefFfUpFwdIdeal.τ Cert.RefFfUpFwdIdeal.sig) → Buf (Elt Ideal) ℓ) (g' : Dev Cert.RefFfUpFwdIdeal.nD → PrngReg), Pre_FfUpFwdIdeal m →
    (∀ c : Dev Cert.FfUpFwdIdeal.nD,
      m' ((c.tc : Thread Cert.RefFfUpFwdIdeal.nD Cert.RefFfUpFwdIdeal.τ).loc Cert.RefFfUpFwdIdeal.main_arg0) = m ((c.tc : Thread Cert.FfUpFwdIdeal.nD Cert.FfUpFwdIdeal.τ).loc Cert.FfUpFwdIdeal.main_arg0)
      ∧ m' ((c.tc : Thread Cert.RefFfUpFwdIdeal.nD Cert.RefFfUpFwdIdeal.τ).loc Cert.RefFfUpFwdIdeal.main_arg1) = m ((c.tc : Thread Cert.FfUpFwdIdeal.nD Cert.FfUpFwdIdeal.τ).loc Cert.FfUpFwdIdeal.main_arg1)) →
    ∃ (v0 : (c : Dev Cert.FfUpFwdIdeal.nD) → Buf (Elt Ideal) ((c.tc : Thread Cert.FfUpFwdIdeal.nD Cert.FfUpFwdIdeal.τ).loc Cert.FfUpFwdIdeal.main_v4_0)) (v1 : (c : Dev Cert.FfUpFwdIdeal.nD) → Buf (Elt Ideal) ((c.tc : Thread Cert.FfUpFwdIdeal.nD Cert.FfUpFwdIdeal.τ).loc Cert.FfUpFwdIdeal.main_v4_1)),
      θ_run (Cert.FfUpFwdIdeal.defs (F := Ideal)) (onTc (τ := Cert.FfUpFwdIdeal.τ) (Cert.FfUpFwdIdeal.main (F := Ideal))) ⟨m, fun _ => 0, g⟩ (fun r => ∀ c : Dev Cert.FfUpFwdIdeal.nD,
          r.2.mem ((c.tc : Thread Cert.FfUpFwdIdeal.nD Cert.FfUpFwdIdeal.τ).loc Cert.FfUpFwdIdeal.main_v4_0) = v0 c
          ∧ r.2.mem ((c.tc : Thread Cert.FfUpFwdIdeal.nD Cert.FfUpFwdIdeal.τ).loc Cert.FfUpFwdIdeal.main_v4_1) = v1 c
          ∧ r.2.mem ((c.tc : Thread Cert.FfUpFwdIdeal.nD Cert.FfUpFwdIdeal.τ).loc Cert.FfUpFwdIdeal.main_arg0) = m ((c.tc : Thread Cert.FfUpFwdIdeal.nD Cert.FfUpFwdIdeal.τ).loc Cert.FfUpFwdIdeal.main_arg0)
          ∧ r.2.mem ((c.tc : Thread Cert.FfUpFwdIdeal.nD Cert.FfUpFwdIdeal.τ).loc Cert.FfUpFwdIdeal.main_arg1) = m ((c.tc : Thread Cert.FfUpFwdIdeal.nD Cert.FfUpFwdIdeal.τ).loc Cert.FfUpFwdIdeal.main_arg1))
      ∧ θ_run (Cert.RefFfUpFwdIdeal.defs (F := Ideal)) (onTc (τ := Cert.RefFfUpFwdIdeal.τ) (Cert.RefFfUpFwdIdeal.main (F := Ideal))) ⟨m', fun _ => 0, g'⟩ (fun r => ∀ c : Dev Cert.RefFfUpFwdIdeal.nD,
          r.2.mem ((c.tc : Thread Cert.RefFfUpFwdIdeal.nD Cert.RefFfUpFwdIdeal.τ).loc Cert.RefFfUpFwdIdeal.main_v0) = v0 c
          ∧ r.2.mem ((c.tc : Thread Cert.RefFfUpFwdIdeal.nD Cert.RefFfUpFwdIdeal.τ).loc Cert.RefFfUpFwdIdeal.main_v3) = v1 c
          ∧ r.2.mem ((c.tc : Thread Cert.RefFfUpFwdIdeal.nD Cert.RefFfUpFwdIdeal.τ).loc Cert.RefFfUpFwdIdeal.main_arg0) = m' ((c.tc : Thread Cert.RefFfUpFwdIdeal.nD Cert.RefFfUpFwdIdeal.τ).loc Cert.RefFfUpFwdIdeal.main_arg0)
          ∧ r.2.mem ((c.tc : Thread Cert.RefFfUpFwdIdeal.nD Cert.RefFfUpFwdIdeal.τ).loc Cert.RefFfUpFwdIdeal.main_arg1) = m' ((c.tc : Thread Cert.RefFfUpFwdIdeal.nD Cert.RefFfUpFwdIdeal.τ).loc Cert.RefFfUpFwdIdeal.main_arg1))

def preserves_FfDownFwd_FfDownFwdIdeal : Prop :=
  True

def algebraic_FfDownFwdIdeal_RefFfDownFwdIdeal [hFfDownFwdIdeal : Cert.FfDownFwdIdeal.Facts] [hRefFfDownFwdIdeal : Cert.RefFfDownFwdIdeal.Facts] : Prop :=
  ∀ (m : (ℓ : Loc Cert.FfDownFwdIdeal.nD Cert.FfDownFwdIdeal.τ Cert.FfDownFwdIdeal.sig) → Buf (Elt Ideal) ℓ) (g : Dev Cert.FfDownFwdIdeal.nD → PrngReg)
    (m' : (ℓ : Loc Cert.RefFfDownFwdIdeal.nD Cert.RefFfDownFwdIdeal.τ Cert.RefFfDownFwdIdeal.sig) → Buf (Elt Ideal) ℓ) (g' : Dev Cert.RefFfDownFwdIdeal.nD → PrngReg), Pre_FfDownFwdIdeal m →
    (∀ c : Dev Cert.FfDownFwdIdeal.nD,
      m' ((c.tc : Thread Cert.RefFfDownFwdIdeal.nD Cert.RefFfDownFwdIdeal.τ).loc Cert.RefFfDownFwdIdeal.main_arg0) = m ((c.tc : Thread Cert.FfDownFwdIdeal.nD Cert.FfDownFwdIdeal.τ).loc Cert.FfDownFwdIdeal.main_arg0)
      ∧ m' ((c.tc : Thread Cert.RefFfDownFwdIdeal.nD Cert.RefFfDownFwdIdeal.τ).loc Cert.RefFfDownFwdIdeal.main_arg1) = m ((c.tc : Thread Cert.FfDownFwdIdeal.nD Cert.FfDownFwdIdeal.τ).loc Cert.FfDownFwdIdeal.main_arg1)
      ∧ m' ((c.tc : Thread Cert.RefFfDownFwdIdeal.nD Cert.RefFfDownFwdIdeal.τ).loc Cert.RefFfDownFwdIdeal.main_arg2) = m ((c.tc : Thread Cert.FfDownFwdIdeal.nD Cert.FfDownFwdIdeal.τ).loc Cert.FfDownFwdIdeal.main_arg2)) →
    ∃ (v0 : (c : Dev Cert.FfDownFwdIdeal.nD) → Buf (Elt Ideal) ((c.tc : Thread Cert.FfDownFwdIdeal.nD Cert.FfDownFwdIdeal.τ).loc Cert.FfDownFwdIdeal.main_v4)),
      θ_run (Cert.FfDownFwdIdeal.defs (F := Ideal)) (onTc (τ := Cert.FfDownFwdIdeal.τ) (Cert.FfDownFwdIdeal.main (F := Ideal))) ⟨m, fun _ => 0, g⟩ (fun r => ∀ c : Dev Cert.FfDownFwdIdeal.nD,
          r.2.mem ((c.tc : Thread Cert.FfDownFwdIdeal.nD Cert.FfDownFwdIdeal.τ).loc Cert.FfDownFwdIdeal.main_v4) = v0 c
          ∧ r.2.mem ((c.tc : Thread Cert.FfDownFwdIdeal.nD Cert.FfDownFwdIdeal.τ).loc Cert.FfDownFwdIdeal.main_arg0) = m ((c.tc : Thread Cert.FfDownFwdIdeal.nD Cert.FfDownFwdIdeal.τ).loc Cert.FfDownFwdIdeal.main_arg0)
          ∧ r.2.mem ((c.tc : Thread Cert.FfDownFwdIdeal.nD Cert.FfDownFwdIdeal.τ).loc Cert.FfDownFwdIdeal.main_arg1) = m ((c.tc : Thread Cert.FfDownFwdIdeal.nD Cert.FfDownFwdIdeal.τ).loc Cert.FfDownFwdIdeal.main_arg1)
          ∧ r.2.mem ((c.tc : Thread Cert.FfDownFwdIdeal.nD Cert.FfDownFwdIdeal.τ).loc Cert.FfDownFwdIdeal.main_arg2) = m ((c.tc : Thread Cert.FfDownFwdIdeal.nD Cert.FfDownFwdIdeal.τ).loc Cert.FfDownFwdIdeal.main_arg2))
      ∧ θ_run (Cert.RefFfDownFwdIdeal.defs (F := Ideal)) (onTc (τ := Cert.RefFfDownFwdIdeal.τ) (Cert.RefFfDownFwdIdeal.main (F := Ideal))) ⟨m', fun _ => 0, g'⟩ (fun r => ∀ c : Dev Cert.RefFfDownFwdIdeal.nD,
          r.2.mem ((c.tc : Thread Cert.RefFfDownFwdIdeal.nD Cert.RefFfDownFwdIdeal.τ).loc Cert.RefFfDownFwdIdeal.main_v3) = v0 c
          ∧ r.2.mem ((c.tc : Thread Cert.RefFfDownFwdIdeal.nD Cert.RefFfDownFwdIdeal.τ).loc Cert.RefFfDownFwdIdeal.main_arg0) = m' ((c.tc : Thread Cert.RefFfDownFwdIdeal.nD Cert.RefFfDownFwdIdeal.τ).loc Cert.RefFfDownFwdIdeal.main_arg0)
          ∧ r.2.mem ((c.tc : Thread Cert.RefFfDownFwdIdeal.nD Cert.RefFfDownFwdIdeal.τ).loc Cert.RefFfDownFwdIdeal.main_arg1) = m' ((c.tc : Thread Cert.RefFfDownFwdIdeal.nD Cert.RefFfDownFwdIdeal.τ).loc Cert.RefFfDownFwdIdeal.main_arg1)
          ∧ r.2.mem ((c.tc : Thread Cert.RefFfDownFwdIdeal.nD Cert.RefFfDownFwdIdeal.τ).loc Cert.RefFfDownFwdIdeal.main_arg2) = m' ((c.tc : Thread Cert.RefFfDownFwdIdeal.nD Cert.RefFfDownFwdIdeal.τ).loc Cert.RefFfDownFwdIdeal.main_arg2))

def preserves_RmsBwd_RmsBwdIdeal : Prop :=
  True

def algebraic_RmsBwdIdeal_RefRmsBwdIdeal [hRmsBwdIdeal : Cert.RmsBwdIdeal.Facts] [hRefRmsBwdIdeal : Cert.RefRmsBwdIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg)
    (m' : (ℓ : Loc Cert.RefRmsBwdIdeal.nD Cert.RefRmsBwdIdeal.τ Cert.RefRmsBwdIdeal.sig) → Buf (Elt Ideal) ℓ) (g' : Dev Cert.RefRmsBwdIdeal.nD → PrngReg), Pre_RmsBwdIdeal m →
    (∀ c : Dev Cert.RmsBwdIdeal.nD,
      m' ((c.tc : Thread Cert.RefRmsBwdIdeal.nD Cert.RefRmsBwdIdeal.τ).loc Cert.RefRmsBwdIdeal.main_arg0) = m ((c.tc : Thread Cert.RmsBwdIdeal.nD Cert.RmsBwdIdeal.τ).loc Cert.RmsBwdIdeal.main_arg0)
      ∧ m' ((c.tc : Thread Cert.RefRmsBwdIdeal.nD Cert.RefRmsBwdIdeal.τ).loc Cert.RefRmsBwdIdeal.main_arg1) = m ((c.tc : Thread Cert.RmsBwdIdeal.nD Cert.RmsBwdIdeal.τ).loc Cert.RmsBwdIdeal.main_arg1)
      ∧ m' ((c.tc : Thread Cert.RefRmsBwdIdeal.nD Cert.RefRmsBwdIdeal.τ).loc Cert.RefRmsBwdIdeal.main_arg2) = m ((c.tc : Thread Cert.RmsBwdIdeal.nD Cert.RmsBwdIdeal.τ).loc Cert.RmsBwdIdeal.main_arg2)
      ∧ m' ((c.tc : Thread Cert.RefRmsBwdIdeal.nD Cert.RefRmsBwdIdeal.τ).loc Cert.RefRmsBwdIdeal.main_arg3) = m ((c.tc : Thread Cert.RmsBwdIdeal.nD Cert.RmsBwdIdeal.τ).loc Cert.RmsBwdIdeal.main_arg3)) →
    ∃ (v0 : (c : Dev Cert.RmsBwdIdeal.nD) → Buf (Elt Ideal) ((c.tc : Thread Cert.RmsBwdIdeal.nD Cert.RmsBwdIdeal.τ).loc Cert.RmsBwdIdeal.main_v1_0)) (v1 : (c : Dev Cert.RmsBwdIdeal.nD) → Buf (Elt Ideal) ((c.tc : Thread Cert.RmsBwdIdeal.nD Cert.RmsBwdIdeal.τ).loc Cert.RmsBwdIdeal.main_v1_1)) (v2 : (c : Dev Cert.RmsBwdIdeal.nD) → Buf (Elt Ideal) ((c.tc : Thread Cert.RmsBwdIdeal.nD Cert.RmsBwdIdeal.τ).loc Cert.RmsBwdIdeal.main_v1_2)),
      θ_run (Cert.RmsBwdIdeal.defs (F := Ideal)) (onTc (τ := Cert.RmsBwdIdeal.τ) (Cert.RmsBwdIdeal.main (F := Ideal))) ⟨m, fun _ => 0, g⟩ (fun r => ∀ c : Dev Cert.RmsBwdIdeal.nD,
          r.2.mem ((c.tc : Thread Cert.RmsBwdIdeal.nD Cert.RmsBwdIdeal.τ).loc Cert.RmsBwdIdeal.main_v1_0) = v0 c
          ∧ r.2.mem ((c.tc : Thread Cert.RmsBwdIdeal.nD Cert.RmsBwdIdeal.τ).loc Cert.RmsBwdIdeal.main_v1_1) = v1 c
          ∧ r.2.mem ((c.tc : Thread Cert.RmsBwdIdeal.nD Cert.RmsBwdIdeal.τ).loc Cert.RmsBwdIdeal.main_v1_2) = v2 c
          ∧ r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
          ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
          ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
          ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ θ_run (Cert.RefRmsBwdIdeal.defs (F := Ideal)) (onTc (τ := Cert.RefRmsBwdIdeal.τ) (Cert.RefRmsBwdIdeal.main (F := Ideal))) ⟨m', fun _ => 0, g'⟩ (fun r => ∀ c : Dev Cert.RefRmsBwdIdeal.nD,
          r.2.mem ((c.tc : Thread Cert.RefRmsBwdIdeal.nD Cert.RefRmsBwdIdeal.τ).loc Cert.RefRmsBwdIdeal.main_v36) = v0 c
          ∧ r.2.mem ((c.tc : Thread Cert.RefRmsBwdIdeal.nD Cert.RefRmsBwdIdeal.τ).loc Cert.RefRmsBwdIdeal.main_v37) = v1 c
          ∧ r.2.mem ((c.tc : Thread Cert.RefRmsBwdIdeal.nD Cert.RefRmsBwdIdeal.τ).loc Cert.RefRmsBwdIdeal.main_v38) = v2 c
          ∧ r.2.mem ((c.tc : Thread Cert.RefRmsBwdIdeal.nD Cert.RefRmsBwdIdeal.τ).loc Cert.RefRmsBwdIdeal.main_arg0) = m' ((c.tc : Thread Cert.RefRmsBwdIdeal.nD Cert.RefRmsBwdIdeal.τ).loc Cert.RefRmsBwdIdeal.main_arg0)
          ∧ r.2.mem ((c.tc : Thread Cert.RefRmsBwdIdeal.nD Cert.RefRmsBwdIdeal.τ).loc Cert.RefRmsBwdIdeal.main_arg1) = m' ((c.tc : Thread Cert.RefRmsBwdIdeal.nD Cert.RefRmsBwdIdeal.τ).loc Cert.RefRmsBwdIdeal.main_arg1)
          ∧ r.2.mem ((c.tc : Thread Cert.RefRmsBwdIdeal.nD Cert.RefRmsBwdIdeal.τ).loc Cert.RefRmsBwdIdeal.main_arg2) = m' ((c.tc : Thread Cert.RefRmsBwdIdeal.nD Cert.RefRmsBwdIdeal.τ).loc Cert.RefRmsBwdIdeal.main_arg2)
          ∧ r.2.mem ((c.tc : Thread Cert.RefRmsBwdIdeal.nD Cert.RefRmsBwdIdeal.τ).loc Cert.RefRmsBwdIdeal.main_arg3) = m' ((c.tc : Thread Cert.RefRmsBwdIdeal.nD Cert.RefRmsBwdIdeal.τ).loc Cert.RefRmsBwdIdeal.main_arg3))

def preserves_GateBwd_GateBwdIdeal : Prop :=
  True

def algebraic_GateBwdIdeal_RefGateBwdIdeal [hGateBwdIdeal : Cert.GateBwdIdeal.Facts] [hRefGateBwdIdeal : Cert.RefGateBwdIdeal.Facts] : Prop :=
  ∀ (m : (ℓ : Loc Cert.GateBwdIdeal.nD Cert.GateBwdIdeal.τ Cert.GateBwdIdeal.sig) → Buf (Elt Ideal) ℓ) (g : Dev Cert.GateBwdIdeal.nD → PrngReg)
    (m' : (ℓ : Loc Cert.RefGateBwdIdeal.nD Cert.RefGateBwdIdeal.τ Cert.RefGateBwdIdeal.sig) → Buf (Elt Ideal) ℓ) (g' : Dev Cert.RefGateBwdIdeal.nD → PrngReg), Pre_GateBwdIdeal m →
    (∀ c : Dev Cert.GateBwdIdeal.nD,
      m' ((c.tc : Thread Cert.RefGateBwdIdeal.nD Cert.RefGateBwdIdeal.τ).loc Cert.RefGateBwdIdeal.main_arg0) = m ((c.tc : Thread Cert.GateBwdIdeal.nD Cert.GateBwdIdeal.τ).loc Cert.GateBwdIdeal.main_arg0)
      ∧ m' ((c.tc : Thread Cert.RefGateBwdIdeal.nD Cert.RefGateBwdIdeal.τ).loc Cert.RefGateBwdIdeal.main_arg1) = m ((c.tc : Thread Cert.GateBwdIdeal.nD Cert.GateBwdIdeal.τ).loc Cert.GateBwdIdeal.main_arg1)
      ∧ m' ((c.tc : Thread Cert.RefGateBwdIdeal.nD Cert.RefGateBwdIdeal.τ).loc Cert.RefGateBwdIdeal.main_arg2) = m ((c.tc : Thread Cert.GateBwdIdeal.nD Cert.GateBwdIdeal.τ).loc Cert.GateBwdIdeal.main_arg2)
      ∧ m' ((c.tc : Thread Cert.RefGateBwdIdeal.nD Cert.RefGateBwdIdeal.τ).loc Cert.RefGateBwdIdeal.main_arg3) = m ((c.tc : Thread Cert.GateBwdIdeal.nD Cert.GateBwdIdeal.τ).loc Cert.GateBwdIdeal.main_arg3)
      ∧ m' ((c.tc : Thread Cert.RefGateBwdIdeal.nD Cert.RefGateBwdIdeal.τ).loc Cert.RefGateBwdIdeal.main_arg4) = m ((c.tc : Thread Cert.GateBwdIdeal.nD Cert.GateBwdIdeal.τ).loc Cert.GateBwdIdeal.main_arg4)
      ∧ m' ((c.tc : Thread Cert.RefGateBwdIdeal.nD Cert.RefGateBwdIdeal.τ).loc Cert.RefGateBwdIdeal.main_arg5) = m ((c.tc : Thread Cert.GateBwdIdeal.nD Cert.GateBwdIdeal.τ).loc Cert.GateBwdIdeal.main_arg5)) →
    ∃ (v0 : (c : Dev Cert.GateBwdIdeal.nD) → Buf (Elt Ideal) ((c.tc : Thread Cert.GateBwdIdeal.nD Cert.GateBwdIdeal.τ).loc Cert.GateBwdIdeal.main_v4_0)) (v1 : (c : Dev Cert.GateBwdIdeal.nD) → Buf (Elt Ideal) ((c.tc : Thread Cert.GateBwdIdeal.nD Cert.GateBwdIdeal.τ).loc Cert.GateBwdIdeal.main_v4_1)) (v2 : (c : Dev Cert.GateBwdIdeal.nD) → Buf (Elt Ideal) ((c.tc : Thread Cert.GateBwdIdeal.nD Cert.GateBwdIdeal.τ).loc Cert.GateBwdIdeal.main_v4_2)) (v3 : (c : Dev Cert.GateBwdIdeal.nD) → Buf (Elt Ideal) ((c.tc : Thread Cert.GateBwdIdeal.nD Cert.GateBwdIdeal.τ).loc Cert.GateBwdIdeal.main_v4_3)) (v4 : (c : Dev Cert.GateBwdIdeal.nD) → Buf (Elt Ideal) ((c.tc : Thread Cert.GateBwdIdeal.nD Cert.GateBwdIdeal.τ).loc Cert.GateBwdIdeal.main_v4_4)),
      θ_run (Cert.GateBwdIdeal.defs (F := Ideal)) (onTc (τ := Cert.GateBwdIdeal.τ) (Cert.GateBwdIdeal.main (F := Ideal))) ⟨m, fun _ => 0, g⟩ (fun r => ∀ c : Dev Cert.GateBwdIdeal.nD,
          r.2.mem ((c.tc : Thread Cert.GateBwdIdeal.nD Cert.GateBwdIdeal.τ).loc Cert.GateBwdIdeal.main_v4_0) = v0 c
          ∧ r.2.mem ((c.tc : Thread Cert.GateBwdIdeal.nD Cert.GateBwdIdeal.τ).loc Cert.GateBwdIdeal.main_v4_1) = v1 c
          ∧ r.2.mem ((c.tc : Thread Cert.GateBwdIdeal.nD Cert.GateBwdIdeal.τ).loc Cert.GateBwdIdeal.main_v4_2) = v2 c
          ∧ r.2.mem ((c.tc : Thread Cert.GateBwdIdeal.nD Cert.GateBwdIdeal.τ).loc Cert.GateBwdIdeal.main_v4_3) = v3 c
          ∧ r.2.mem ((c.tc : Thread Cert.GateBwdIdeal.nD Cert.GateBwdIdeal.τ).loc Cert.GateBwdIdeal.main_v4_4) = v4 c
          ∧ r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
          ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
          ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
          ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3)
          ∧ r.2.mem ((c.tc : Thread Cert.GateBwdIdeal.nD Cert.GateBwdIdeal.τ).loc Cert.GateBwdIdeal.main_arg4) = m ((c.tc : Thread Cert.GateBwdIdeal.nD Cert.GateBwdIdeal.τ).loc Cert.GateBwdIdeal.main_arg4)
          ∧ r.2.mem ((c.tc : Thread Cert.GateBwdIdeal.nD Cert.GateBwdIdeal.τ).loc Cert.GateBwdIdeal.main_arg5) = m ((c.tc : Thread Cert.GateBwdIdeal.nD Cert.GateBwdIdeal.τ).loc Cert.GateBwdIdeal.main_arg5))
      ∧ θ_run (Cert.RefGateBwdIdeal.defs (F := Ideal)) (onTc (τ := Cert.RefGateBwdIdeal.τ) (Cert.RefGateBwdIdeal.main (F := Ideal))) ⟨m', fun _ => 0, g'⟩ (fun r => ∀ c : Dev Cert.RefGateBwdIdeal.nD,
          r.2.mem ((c.tc : Thread Cert.RefGateBwdIdeal.nD Cert.RefGateBwdIdeal.τ).loc Cert.RefGateBwdIdeal.main_v68) = v0 c
          ∧ r.2.mem ((c.tc : Thread Cert.RefGateBwdIdeal.nD Cert.RefGateBwdIdeal.τ).loc Cert.RefGateBwdIdeal.main_v67) = v1 c
          ∧ r.2.mem ((c.tc : Thread Cert.RefGateBwdIdeal.nD Cert.RefGateBwdIdeal.τ).loc Cert.RefGateBwdIdeal.main_v69) = v2 c
          ∧ r.2.mem ((c.tc : Thread Cert.RefGateBwdIdeal.nD Cert.RefGateBwdIdeal.τ).loc Cert.RefGateBwdIdeal.main_v70) = v3 c
          ∧ r.2.mem ((c.tc : Thread Cert.RefGateBwdIdeal.nD Cert.RefGateBwdIdeal.τ).loc Cert.RefGateBwdIdeal.main_v71) = v4 c
          ∧ r.2.mem ((c.tc : Thread Cert.RefGateBwdIdeal.nD Cert.RefGateBwdIdeal.τ).loc Cert.RefGateBwdIdeal.main_arg0) = m' ((c.tc : Thread Cert.RefGateBwdIdeal.nD Cert.RefGateBwdIdeal.τ).loc Cert.RefGateBwdIdeal.main_arg0)
          ∧ r.2.mem ((c.tc : Thread Cert.RefGateBwdIdeal.nD Cert.RefGateBwdIdeal.τ).loc Cert.RefGateBwdIdeal.main_arg1) = m' ((c.tc : Thread Cert.RefGateBwdIdeal.nD Cert.RefGateBwdIdeal.τ).loc Cert.RefGateBwdIdeal.main_arg1)
          ∧ r.2.mem ((c.tc : Thread Cert.RefGateBwdIdeal.nD Cert.RefGateBwdIdeal.τ).loc Cert.RefGateBwdIdeal.main_arg2) = m' ((c.tc : Thread Cert.RefGateBwdIdeal.nD Cert.RefGateBwdIdeal.τ).loc Cert.RefGateBwdIdeal.main_arg2)
          ∧ r.2.mem ((c.tc : Thread Cert.RefGateBwdIdeal.nD Cert.RefGateBwdIdeal.τ).loc Cert.RefGateBwdIdeal.main_arg3) = m' ((c.tc : Thread Cert.RefGateBwdIdeal.nD Cert.RefGateBwdIdeal.τ).loc Cert.RefGateBwdIdeal.main_arg3)
          ∧ r.2.mem ((c.tc : Thread Cert.RefGateBwdIdeal.nD Cert.RefGateBwdIdeal.τ).loc Cert.RefGateBwdIdeal.main_arg4) = m' ((c.tc : Thread Cert.RefGateBwdIdeal.nD Cert.RefGateBwdIdeal.τ).loc Cert.RefGateBwdIdeal.main_arg4)
          ∧ r.2.mem ((c.tc : Thread Cert.RefGateBwdIdeal.nD Cert.RefGateBwdIdeal.τ).loc Cert.RefGateBwdIdeal.main_arg5) = m' ((c.tc : Thread Cert.RefGateBwdIdeal.nD Cert.RefGateBwdIdeal.τ).loc Cert.RefGateBwdIdeal.main_arg5))

def preserves_RmsFwd_RmsFwdIdeal : Prop :=
  True

def algebraic_RmsFwdIdeal_RefRmsFwdIdeal [hRmsFwdIdeal : Cert.RmsFwdIdeal.Facts] [hRefRmsFwdIdeal : Cert.RefRmsFwdIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg)
    (m' : (ℓ : Loc Cert.RefRmsFwdIdeal.nD Cert.RefRmsFwdIdeal.τ Cert.RefRmsFwdIdeal.sig) → Buf (Elt Ideal) ℓ) (g' : Dev Cert.RefRmsFwdIdeal.nD → PrngReg), Pre_RmsFwdIdeal m →
    (∀ c : Dev Cert.RmsFwdIdeal.nD,
      m' ((c.tc : Thread Cert.RefRmsFwdIdeal.nD Cert.RefRmsFwdIdeal.τ).loc Cert.RefRmsFwdIdeal.main_arg0) = m ((c.tc : Thread Cert.RmsFwdIdeal.nD Cert.RmsFwdIdeal.τ).loc Cert.RmsFwdIdeal.main_arg0)
      ∧ m' ((c.tc : Thread Cert.RefRmsFwdIdeal.nD Cert.RefRmsFwdIdeal.τ).loc Cert.RefRmsFwdIdeal.main_arg1) = m ((c.tc : Thread Cert.RmsFwdIdeal.nD Cert.RmsFwdIdeal.τ).loc Cert.RmsFwdIdeal.main_arg1)) →
    ∃ (v0 : (c : Dev Cert.RmsFwdIdeal.nD) → Buf (Elt Ideal) ((c.tc : Thread Cert.RmsFwdIdeal.nD Cert.RmsFwdIdeal.τ).loc Cert.RmsFwdIdeal.main_v1)),
      θ_run (Cert.RmsFwdIdeal.defs (F := Ideal)) (onTc (τ := Cert.RmsFwdIdeal.τ) (Cert.RmsFwdIdeal.main (F := Ideal))) ⟨m, fun _ => 0, g⟩ (fun r => ∀ c : Dev Cert.RmsFwdIdeal.nD,
          r.2.mem ((c.tc : Thread Cert.RmsFwdIdeal.nD Cert.RmsFwdIdeal.τ).loc Cert.RmsFwdIdeal.main_v1) = v0 c
          ∧ r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
          ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ θ_run (Cert.RefRmsFwdIdeal.defs (F := Ideal)) (onTc (τ := Cert.RefRmsFwdIdeal.τ) (Cert.RefRmsFwdIdeal.main (F := Ideal))) ⟨m', fun _ => 0, g'⟩ (fun r => ∀ c : Dev Cert.RefRmsFwdIdeal.nD,
          r.2.mem ((c.tc : Thread Cert.RefRmsFwdIdeal.nD Cert.RefRmsFwdIdeal.τ).loc Cert.RefRmsFwdIdeal.main_v13) = v0 c
          ∧ r.2.mem ((c.tc : Thread Cert.RefRmsFwdIdeal.nD Cert.RefRmsFwdIdeal.τ).loc Cert.RefRmsFwdIdeal.main_arg0) = m' ((c.tc : Thread Cert.RefRmsFwdIdeal.nD Cert.RefRmsFwdIdeal.τ).loc Cert.RefRmsFwdIdeal.main_arg0)
          ∧ r.2.mem ((c.tc : Thread Cert.RefRmsFwdIdeal.nD Cert.RefRmsFwdIdeal.τ).loc Cert.RefRmsFwdIdeal.main_arg1) = m' ((c.tc : Thread Cert.RefRmsFwdIdeal.nD Cert.RefRmsFwdIdeal.τ).loc Cert.RefRmsFwdIdeal.main_arg1))

def preserves_GateFwd_GateFwdIdeal : Prop :=
  True

def algebraic_GateFwdIdeal_RefGateFwdIdeal [hGateFwdIdeal : Cert.GateFwdIdeal.Facts] [hRefGateFwdIdeal : Cert.RefGateFwdIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg)
    (m' : (ℓ : Loc Cert.RefGateFwdIdeal.nD Cert.RefGateFwdIdeal.τ Cert.RefGateFwdIdeal.sig) → Buf (Elt Ideal) ℓ) (g' : Dev Cert.RefGateFwdIdeal.nD → PrngReg), Pre_GateFwdIdeal m →
    (∀ c : Dev Cert.GateFwdIdeal.nD,
      m' ((c.tc : Thread Cert.RefGateFwdIdeal.nD Cert.RefGateFwdIdeal.τ).loc Cert.RefGateFwdIdeal.main_arg0) = m ((c.tc : Thread Cert.GateFwdIdeal.nD Cert.GateFwdIdeal.τ).loc Cert.GateFwdIdeal.main_arg0)
      ∧ m' ((c.tc : Thread Cert.RefGateFwdIdeal.nD Cert.RefGateFwdIdeal.τ).loc Cert.RefGateFwdIdeal.main_arg1) = m ((c.tc : Thread Cert.GateFwdIdeal.nD Cert.GateFwdIdeal.τ).loc Cert.GateFwdIdeal.main_arg1)
      ∧ m' ((c.tc : Thread Cert.RefGateFwdIdeal.nD Cert.RefGateFwdIdeal.τ).loc Cert.RefGateFwdIdeal.main_arg2) = m ((c.tc : Thread Cert.GateFwdIdeal.nD Cert.GateFwdIdeal.τ).loc Cert.GateFwdIdeal.main_arg2)
      ∧ m' ((c.tc : Thread Cert.RefGateFwdIdeal.nD Cert.RefGateFwdIdeal.τ).loc Cert.RefGateFwdIdeal.main_arg3) = m ((c.tc : Thread Cert.GateFwdIdeal.nD Cert.GateFwdIdeal.τ).loc Cert.GateFwdIdeal.main_arg3)
      ∧ m' ((c.tc : Thread Cert.RefGateFwdIdeal.nD Cert.RefGateFwdIdeal.τ).loc Cert.RefGateFwdIdeal.main_arg4) = m ((c.tc : Thread Cert.GateFwdIdeal.nD Cert.GateFwdIdeal.τ).loc Cert.GateFwdIdeal.main_arg4)) →
    ∃ (v0 : (c : Dev Cert.GateFwdIdeal.nD) → Buf (Elt Ideal) ((c.tc : Thread Cert.GateFwdIdeal.nD Cert.GateFwdIdeal.τ).loc Cert.GateFwdIdeal.main_v4)),
      θ_run (Cert.GateFwdIdeal.defs (F := Ideal)) (onTc (τ := Cert.GateFwdIdeal.τ) (Cert.GateFwdIdeal.main (F := Ideal))) ⟨m, fun _ => 0, g⟩ (fun r => ∀ c : Dev Cert.GateFwdIdeal.nD,
          r.2.mem ((c.tc : Thread Cert.GateFwdIdeal.nD Cert.GateFwdIdeal.τ).loc Cert.GateFwdIdeal.main_v4) = v0 c
          ∧ r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
          ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1)
          ∧ r.2.mem ((c.tc : Thread Cert.GateFwdIdeal.nD Cert.GateFwdIdeal.τ).loc Cert.GateFwdIdeal.main_arg2) = m ((c.tc : Thread Cert.GateFwdIdeal.nD Cert.GateFwdIdeal.τ).loc Cert.GateFwdIdeal.main_arg2)
          ∧ r.2.mem ((c.tc : Thread Cert.GateFwdIdeal.nD Cert.GateFwdIdeal.τ).loc Cert.GateFwdIdeal.main_arg3) = m ((c.tc : Thread Cert.GateFwdIdeal.nD Cert.GateFwdIdeal.τ).loc Cert.GateFwdIdeal.main_arg3)
          ∧ r.2.mem ((c.tc : Thread Cert.GateFwdIdeal.nD Cert.GateFwdIdeal.τ).loc Cert.GateFwdIdeal.main_arg4) = m ((c.tc : Thread Cert.GateFwdIdeal.nD Cert.GateFwdIdeal.τ).loc Cert.GateFwdIdeal.main_arg4))
      ∧ θ_run (Cert.RefGateFwdIdeal.defs (F := Ideal)) (onTc (τ := Cert.RefGateFwdIdeal.τ) (Cert.RefGateFwdIdeal.main (F := Ideal))) ⟨m', fun _ => 0, g'⟩ (fun r => ∀ c : Dev Cert.RefGateFwdIdeal.nD,
          r.2.mem ((c.tc : Thread Cert.RefGateFwdIdeal.nD Cert.RefGateFwdIdeal.τ).loc Cert.RefGateFwdIdeal.main_v29) = v0 c
          ∧ r.2.mem ((c.tc : Thread Cert.RefGateFwdIdeal.nD Cert.RefGateFwdIdeal.τ).loc Cert.RefGateFwdIdeal.main_arg0) = m' ((c.tc : Thread Cert.RefGateFwdIdeal.nD Cert.RefGateFwdIdeal.τ).loc Cert.RefGateFwdIdeal.main_arg0)
          ∧ r.2.mem ((c.tc : Thread Cert.RefGateFwdIdeal.nD Cert.RefGateFwdIdeal.τ).loc Cert.RefGateFwdIdeal.main_arg1) = m' ((c.tc : Thread Cert.RefGateFwdIdeal.nD Cert.RefGateFwdIdeal.τ).loc Cert.RefGateFwdIdeal.main_arg1)
          ∧ r.2.mem ((c.tc : Thread Cert.RefGateFwdIdeal.nD Cert.RefGateFwdIdeal.τ).loc Cert.RefGateFwdIdeal.main_arg2) = m' ((c.tc : Thread Cert.RefGateFwdIdeal.nD Cert.RefGateFwdIdeal.τ).loc Cert.RefGateFwdIdeal.main_arg2)
          ∧ r.2.mem ((c.tc : Thread Cert.RefGateFwdIdeal.nD Cert.RefGateFwdIdeal.τ).loc Cert.RefGateFwdIdeal.main_arg3) = m' ((c.tc : Thread Cert.RefGateFwdIdeal.nD Cert.RefGateFwdIdeal.τ).loc Cert.RefGateFwdIdeal.main_arg3)
          ∧ r.2.mem ((c.tc : Thread Cert.RefGateFwdIdeal.nD Cert.RefGateFwdIdeal.τ).loc Cert.RefGateFwdIdeal.main_arg4) = m' ((c.tc : Thread Cert.RefGateFwdIdeal.nD Cert.RefGateFwdIdeal.τ).loc Cert.RefGateFwdIdeal.main_arg4))

def preserves_LossHead_LossHeadIdeal : Prop :=
  True

def algebraic_LossHeadIdeal_RefLossHeadIdeal [hLossHeadIdeal : Cert.LossHeadIdeal.Facts] [hRefLossHeadIdeal : Cert.RefLossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.RefLossHeadIdeal.nD Cert.RefLossHeadIdeal.τ Cert.RefLossHeadIdeal.sig) → Buf (Elt Ideal) ℓ) (g' : Dev Cert.RefLossHeadIdeal.nD → PrngReg), Pre_LossHeadIdeal m →
    (∀ c : Dev Cert.LossHeadIdeal.nD,
      m' ((c.tc : Thread Cert.RefLossHeadIdeal.nD Cert.RefLossHeadIdeal.τ).loc Cert.RefLossHeadIdeal.main_arg0) = m ((c.tc : Thread Cert.LossHeadIdeal.nD Cert.LossHeadIdeal.τ).loc Cert.LossHeadIdeal.main_arg0)
      ∧ m' ((c.tc : Thread Cert.RefLossHeadIdeal.nD Cert.RefLossHeadIdeal.τ).loc Cert.RefLossHeadIdeal.main_arg1) = m ((c.tc : Thread Cert.LossHeadIdeal.nD Cert.LossHeadIdeal.τ).loc Cert.LossHeadIdeal.main_arg1)
      ∧ m' ((c.tc : Thread Cert.RefLossHeadIdeal.nD Cert.RefLossHeadIdeal.τ).loc Cert.RefLossHeadIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v1_0)) (v1 : (c : Dev Cert.LossHeadIdeal.nD) → Buf (Elt Ideal) ((c.tc : Thread Cert.LossHeadIdeal.nD Cert.LossHeadIdeal.τ).loc Cert.LossHeadIdeal.main_v1_1)) (v2 : (c : Dev Cert.LossHeadIdeal.nD) → Buf (Elt Ideal) ((c.tc : Thread Cert.LossHeadIdeal.nD Cert.LossHeadIdeal.τ).loc Cert.LossHeadIdeal.main_v1_2)) (v3 : (c : Dev Cert.LossHeadIdeal.nD) → Buf (Elt Ideal) ((c.tc : Thread Cert.LossHeadIdeal.nD Cert.LossHeadIdeal.τ).loc Cert.LossHeadIdeal.main_v1_3)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v1_0) = v0 c
          ∧ r.2.mem ((c.tc : Thread Cert.LossHeadIdeal.nD Cert.LossHeadIdeal.τ).loc Cert.LossHeadIdeal.main_v1_1) = v1 c
          ∧ r.2.mem ((c.tc : Thread Cert.LossHeadIdeal.nD Cert.LossHeadIdeal.τ).loc Cert.LossHeadIdeal.main_v1_2) = v2 c
          ∧ r.2.mem ((c.tc : Thread Cert.LossHeadIdeal.nD Cert.LossHeadIdeal.τ).loc Cert.LossHeadIdeal.main_v1_3) = v3 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.RefLossHeadIdeal.defs (F := Ideal)) (onTc (τ := Cert.RefLossHeadIdeal.τ) (Cert.RefLossHeadIdeal.main (F := Ideal))) ⟨m', fun _ => 0, g'⟩ (fun r => ∀ c : Dev Cert.RefLossHeadIdeal.nD,
          r.2.mem ((c.tc : Thread Cert.RefLossHeadIdeal.nD Cert.RefLossHeadIdeal.τ).loc Cert.RefLossHeadIdeal.main_v51) = v0 c
          ∧ r.2.mem ((c.tc : Thread Cert.RefLossHeadIdeal.nD Cert.RefLossHeadIdeal.τ).loc Cert.RefLossHeadIdeal.main_v50) = v1 c
          ∧ r.2.mem ((c.tc : Thread Cert.RefLossHeadIdeal.nD Cert.RefLossHeadIdeal.τ).loc Cert.RefLossHeadIdeal.main_v52) = v2 c
          ∧ r.2.mem ((c.tc : Thread Cert.RefLossHeadIdeal.nD Cert.RefLossHeadIdeal.τ).loc Cert.RefLossHeadIdeal.main_v53) = v3 c
          ∧ r.2.mem ((c.tc : Thread Cert.RefLossHeadIdeal.nD Cert.RefLossHeadIdeal.τ).loc Cert.RefLossHeadIdeal.main_arg0) = m' ((c.tc : Thread Cert.RefLossHeadIdeal.nD Cert.RefLossHeadIdeal.τ).loc Cert.RefLossHeadIdeal.main_arg0)
          ∧ r.2.mem ((c.tc : Thread Cert.RefLossHeadIdeal.nD Cert.RefLossHeadIdeal.τ).loc Cert.RefLossHeadIdeal.main_arg1) = m' ((c.tc : Thread Cert.RefLossHeadIdeal.nD Cert.RefLossHeadIdeal.τ).loc Cert.RefLossHeadIdeal.main_arg1)
          ∧ r.2.mem ((c.tc : Thread Cert.RefLossHeadIdeal.nD Cert.RefLossHeadIdeal.τ).loc Cert.RefLossHeadIdeal.main_arg2) = m' ((c.tc : Thread Cert.RefLossHeadIdeal.nD Cert.RefLossHeadIdeal.τ).loc Cert.RefLossHeadIdeal.main_arg2))

def preserves_ConvBwd_ConvBwdIdeal : Prop :=
  True

def algebraic_ConvBwdIdeal_RefConvBwdIdeal [hConvBwdIdeal : Cert.ConvBwdIdeal.Facts] [hRefConvBwdIdeal : Cert.RefConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg)
    (m' : (ℓ : Loc Cert.RefConvBwdIdeal.nD Cert.RefConvBwdIdeal.τ Cert.RefConvBwdIdeal.sig) → Buf (Elt Ideal) ℓ) (g' : Dev Cert.RefConvBwdIdeal.nD → PrngReg), Pre_ConvBwdIdeal m →
    (∀ c : Dev Cert.ConvBwdIdeal.nD,
      m' ((c.tc : Thread Cert.RefConvBwdIdeal.nD Cert.RefConvBwdIdeal.τ).loc Cert.RefConvBwdIdeal.main_arg0) = m ((c.tc : Thread Cert.ConvBwdIdeal.nD Cert.ConvBwdIdeal.τ).loc Cert.ConvBwdIdeal.main_arg0)
      ∧ m' ((c.tc : Thread Cert.RefConvBwdIdeal.nD Cert.RefConvBwdIdeal.τ).loc Cert.RefConvBwdIdeal.main_arg1) = m ((c.tc : Thread Cert.ConvBwdIdeal.nD Cert.ConvBwdIdeal.τ).loc Cert.ConvBwdIdeal.main_arg1)
      ∧ m' ((c.tc : Thread Cert.RefConvBwdIdeal.nD Cert.RefConvBwdIdeal.τ).loc Cert.RefConvBwdIdeal.main_arg2) = m ((c.tc : Thread Cert.ConvBwdIdeal.nD Cert.ConvBwdIdeal.τ).loc Cert.ConvBwdIdeal.main_arg2)
      ∧ m' ((c.tc : Thread Cert.RefConvBwdIdeal.nD Cert.RefConvBwdIdeal.τ).loc Cert.RefConvBwdIdeal.main_arg3) = m ((c.tc : Thread Cert.ConvBwdIdeal.nD Cert.ConvBwdIdeal.τ).loc Cert.ConvBwdIdeal.main_arg3)) →
    ∃ (v0 : (c : Dev Cert.ConvBwdIdeal.nD) → Buf (Elt Ideal) ((c.tc : Thread Cert.ConvBwdIdeal.nD Cert.ConvBwdIdeal.τ).loc Cert.ConvBwdIdeal.main_v2_0)) (v1 : (c : Dev Cert.ConvBwdIdeal.nD) → Buf (Elt Ideal) ((c.tc : Thread Cert.ConvBwdIdeal.nD Cert.ConvBwdIdeal.τ).loc Cert.ConvBwdIdeal.main_v2_1)) (v2 : (c : Dev Cert.ConvBwdIdeal.nD) → Buf (Elt Ideal) ((c.tc : Thread Cert.ConvBwdIdeal.nD Cert.ConvBwdIdeal.τ).loc Cert.ConvBwdIdeal.main_v2_2)),
      θ_run (Cert.ConvBwdIdeal.defs (F := Ideal)) (onTc (τ := Cert.ConvBwdIdeal.τ) (Cert.ConvBwdIdeal.main (F := Ideal))) ⟨m, fun _ => 0, g⟩ (fun r => ∀ c : Dev Cert.ConvBwdIdeal.nD,
          r.2.mem ((c.tc : Thread Cert.ConvBwdIdeal.nD Cert.ConvBwdIdeal.τ).loc Cert.ConvBwdIdeal.main_v2_0) = v0 c
          ∧ r.2.mem ((c.tc : Thread Cert.ConvBwdIdeal.nD Cert.ConvBwdIdeal.τ).loc Cert.ConvBwdIdeal.main_v2_1) = v1 c
          ∧ r.2.mem ((c.tc : Thread Cert.ConvBwdIdeal.nD Cert.ConvBwdIdeal.τ).loc Cert.ConvBwdIdeal.main_v2_2) = v2 c
          ∧ r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
          ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
          ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
          ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3))
      ∧ θ_run (Cert.RefConvBwdIdeal.defs (F := Ideal)) (onTc (τ := Cert.RefConvBwdIdeal.τ) (Cert.RefConvBwdIdeal.main (F := Ideal))) ⟨m', fun _ => 0, g'⟩ (fun r => ∀ c : Dev Cert.RefConvBwdIdeal.nD,
          r.2.mem ((c.tc : Thread Cert.RefConvBwdIdeal.nD Cert.RefConvBwdIdeal.τ).loc Cert.RefConvBwdIdeal.main_v89) = v0 c
          ∧ r.2.mem ((c.tc : Thread Cert.RefConvBwdIdeal.nD Cert.RefConvBwdIdeal.τ).loc Cert.RefConvBwdIdeal.main_v90) = v1 c
          ∧ r.2.mem ((c.tc : Thread Cert.RefConvBwdIdeal.nD Cert.RefConvBwdIdeal.τ).loc Cert.RefConvBwdIdeal.main_v91) = v2 c
          ∧ r.2.mem ((c.tc : Thread Cert.RefConvBwdIdeal.nD Cert.RefConvBwdIdeal.τ).loc Cert.RefConvBwdIdeal.main_arg0) = m' ((c.tc : Thread Cert.RefConvBwdIdeal.nD Cert.RefConvBwdIdeal.τ).loc Cert.RefConvBwdIdeal.main_arg0)
          ∧ r.2.mem ((c.tc : Thread Cert.RefConvBwdIdeal.nD Cert.RefConvBwdIdeal.τ).loc Cert.RefConvBwdIdeal.main_arg1) = m' ((c.tc : Thread Cert.RefConvBwdIdeal.nD Cert.RefConvBwdIdeal.τ).loc Cert.RefConvBwdIdeal.main_arg1)
          ∧ r.2.mem ((c.tc : Thread Cert.RefConvBwdIdeal.nD Cert.RefConvBwdIdeal.τ).loc Cert.RefConvBwdIdeal.main_arg2) = m' ((c.tc : Thread Cert.RefConvBwdIdeal.nD Cert.RefConvBwdIdeal.τ).loc Cert.RefConvBwdIdeal.main_arg2)
          ∧ r.2.mem ((c.tc : Thread Cert.RefConvBwdIdeal.nD Cert.RefConvBwdIdeal.τ).loc Cert.RefConvBwdIdeal.main_arg3) = m' ((c.tc : Thread Cert.RefConvBwdIdeal.nD Cert.RefConvBwdIdeal.τ).loc Cert.RefConvBwdIdeal.main_arg3))

def preserves_ConvFwd_ConvFwdIdeal : Prop :=
  True

def algebraic_ConvFwdIdeal_RefConvFwdIdeal [hConvFwdIdeal : Cert.ConvFwdIdeal.Facts] [hRefConvFwdIdeal : Cert.RefConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.RefConvFwdIdeal.nD Cert.RefConvFwdIdeal.τ Cert.RefConvFwdIdeal.sig) → Buf (Elt Ideal) ℓ) (g' : Dev Cert.RefConvFwdIdeal.nD → PrngReg), Pre_ConvFwdIdeal m →
    (∀ c : Dev Cert.ConvFwdIdeal.nD,
      m' ((c.tc : Thread Cert.RefConvFwdIdeal.nD Cert.RefConvFwdIdeal.τ).loc Cert.RefConvFwdIdeal.main_arg0) = m ((c.tc : Thread Cert.ConvFwdIdeal.nD Cert.ConvFwdIdeal.τ).loc Cert.ConvFwdIdeal.main_arg0)
      ∧ m' ((c.tc : Thread Cert.RefConvFwdIdeal.nD Cert.RefConvFwdIdeal.τ).loc Cert.RefConvFwdIdeal.main_arg1) = m ((c.tc : Thread Cert.ConvFwdIdeal.nD Cert.ConvFwdIdeal.τ).loc Cert.ConvFwdIdeal.main_arg1)
      ∧ m' ((c.tc : Thread Cert.RefConvFwdIdeal.nD Cert.RefConvFwdIdeal.τ).loc Cert.RefConvFwdIdeal.main_arg2) = m ((c.tc : Thread Cert.ConvFwdIdeal.nD Cert.ConvFwdIdeal.τ).loc Cert.ConvFwdIdeal.main_arg2)) →
    ∃ (v0 : (c : Dev Cert.ConvFwdIdeal.nD) → Buf (Elt Ideal) ((c.tc : Thread Cert.ConvFwdIdeal.nD Cert.ConvFwdIdeal.τ).loc Cert.ConvFwdIdeal.main_v2)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v2) = v0 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
          ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ θ_run (Cert.RefConvFwdIdeal.defs (F := Ideal)) (onTc (τ := Cert.RefConvFwdIdeal.τ) (Cert.RefConvFwdIdeal.main (F := Ideal))) ⟨m', fun _ => 0, g'⟩ (fun r => ∀ c : Dev Cert.RefConvFwdIdeal.nD,
          r.2.mem ((c.tc : Thread Cert.RefConvFwdIdeal.nD Cert.RefConvFwdIdeal.τ).loc Cert.RefConvFwdIdeal.main_v37) = v0 c
          ∧ r.2.mem ((c.tc : Thread Cert.RefConvFwdIdeal.nD Cert.RefConvFwdIdeal.τ).loc Cert.RefConvFwdIdeal.main_arg0) = m' ((c.tc : Thread Cert.RefConvFwdIdeal.nD Cert.RefConvFwdIdeal.τ).loc Cert.RefConvFwdIdeal.main_arg0)
          ∧ r.2.mem ((c.tc : Thread Cert.RefConvFwdIdeal.nD Cert.RefConvFwdIdeal.τ).loc Cert.RefConvFwdIdeal.main_arg1) = m' ((c.tc : Thread Cert.RefConvFwdIdeal.nD Cert.RefConvFwdIdeal.τ).loc Cert.RefConvFwdIdeal.main_arg1)
          ∧ r.2.mem ((c.tc : Thread Cert.RefConvFwdIdeal.nD Cert.RefConvFwdIdeal.τ).loc Cert.RefConvFwdIdeal.main_arg2) = m' ((c.tc : Thread Cert.RefConvFwdIdeal.nD Cert.RefConvFwdIdeal.τ).loc Cert.RefConvFwdIdeal.main_arg2))

def preserves_InDtDw_InDtDwIdeal : Prop :=
  True

def algebraic_InDtDwIdeal_RefInDtDwIdeal [hInDtDwIdeal : Cert.InDtDwIdeal.Facts] [hRefInDtDwIdeal : Cert.RefInDtDwIdeal.Facts] : Prop :=
  ∀ (m : (ℓ : Loc Cert.InDtDwIdeal.nD Cert.InDtDwIdeal.τ Cert.InDtDwIdeal.sig) → Buf (Elt Ideal) ℓ) (g : Dev Cert.InDtDwIdeal.nD → PrngReg)
    (m' : (ℓ : Loc Cert.RefInDtDwIdeal.nD Cert.RefInDtDwIdeal.τ Cert.RefInDtDwIdeal.sig) → Buf (Elt Ideal) ℓ) (g' : Dev Cert.RefInDtDwIdeal.nD → PrngReg), Pre_InDtDwIdeal m →
    (∀ c : Dev Cert.InDtDwIdeal.nD,
      m' ((c.tc : Thread Cert.RefInDtDwIdeal.nD Cert.RefInDtDwIdeal.τ).loc Cert.RefInDtDwIdeal.main_arg0) = m ((c.tc : Thread Cert.InDtDwIdeal.nD Cert.InDtDwIdeal.τ).loc Cert.InDtDwIdeal.main_arg0)
      ∧ m' ((c.tc : Thread Cert.RefInDtDwIdeal.nD Cert.RefInDtDwIdeal.τ).loc Cert.RefInDtDwIdeal.main_arg1) = m ((c.tc : Thread Cert.InDtDwIdeal.nD Cert.InDtDwIdeal.τ).loc Cert.InDtDwIdeal.main_arg1)) →
    ∃ (v0 : (c : Dev Cert.InDtDwIdeal.nD) → Buf (Elt Ideal) ((c.tc : Thread Cert.InDtDwIdeal.nD Cert.InDtDwIdeal.τ).loc Cert.InDtDwIdeal.main_v2)),
      θ_run (Cert.InDtDwIdeal.defs (F := Ideal)) (onTc (τ := Cert.InDtDwIdeal.τ) (Cert.InDtDwIdeal.main (F := Ideal))) ⟨m, fun _ => 0, g⟩ (fun r => ∀ c : Dev Cert.InDtDwIdeal.nD,
          r.2.mem ((c.tc : Thread Cert.InDtDwIdeal.nD Cert.InDtDwIdeal.τ).loc Cert.InDtDwIdeal.main_v2) = v0 c
          ∧ r.2.mem ((c.tc : Thread Cert.InDtDwIdeal.nD Cert.InDtDwIdeal.τ).loc Cert.InDtDwIdeal.main_arg0) = m ((c.tc : Thread Cert.InDtDwIdeal.nD Cert.InDtDwIdeal.τ).loc Cert.InDtDwIdeal.main_arg0)
          ∧ r.2.mem ((c.tc : Thread Cert.InDtDwIdeal.nD Cert.InDtDwIdeal.τ).loc Cert.InDtDwIdeal.main_arg1) = m ((c.tc : Thread Cert.InDtDwIdeal.nD Cert.InDtDwIdeal.τ).loc Cert.InDtDwIdeal.main_arg1))
      ∧ θ_run (Cert.RefInDtDwIdeal.defs (F := Ideal)) (onTc (τ := Cert.RefInDtDwIdeal.τ) (Cert.RefInDtDwIdeal.main (F := Ideal))) ⟨m', fun _ => 0, g'⟩ (fun r => ∀ c : Dev Cert.RefInDtDwIdeal.nD,
          r.2.mem ((c.tc : Thread Cert.RefInDtDwIdeal.nD Cert.RefInDtDwIdeal.τ).loc Cert.RefInDtDwIdeal.main_v3) = v0 c
          ∧ r.2.mem ((c.tc : Thread Cert.RefInDtDwIdeal.nD Cert.RefInDtDwIdeal.τ).loc Cert.RefInDtDwIdeal.main_arg0) = m' ((c.tc : Thread Cert.RefInDtDwIdeal.nD Cert.RefInDtDwIdeal.τ).loc Cert.RefInDtDwIdeal.main_arg0)
          ∧ r.2.mem ((c.tc : Thread Cert.RefInDtDwIdeal.nD Cert.RefInDtDwIdeal.τ).loc Cert.RefInDtDwIdeal.main_arg1) = m' ((c.tc : Thread Cert.RefInDtDwIdeal.nD Cert.RefInDtDwIdeal.τ).loc Cert.RefInDtDwIdeal.main_arg1))

def preserves_InDtDx_InDtDxIdeal : Prop :=
  True

def algebraic_InDtDxIdeal_RefInDtDxIdeal [hInDtDxIdeal : Cert.InDtDxIdeal.Facts] [hRefInDtDxIdeal : Cert.RefInDtDxIdeal.Facts] : Prop :=
  ∀ (m : (ℓ : Loc Cert.InDtDxIdeal.nD Cert.InDtDxIdeal.τ Cert.InDtDxIdeal.sig) → Buf (Elt Ideal) ℓ) (g : Dev Cert.InDtDxIdeal.nD → PrngReg)
    (m' : (ℓ : Loc Cert.RefInDtDxIdeal.nD Cert.RefInDtDxIdeal.τ Cert.RefInDtDxIdeal.sig) → Buf (Elt Ideal) ℓ) (g' : Dev Cert.RefInDtDxIdeal.nD → PrngReg), Pre_InDtDxIdeal m →
    (∀ c : Dev Cert.InDtDxIdeal.nD,
      m' ((c.tc : Thread Cert.RefInDtDxIdeal.nD Cert.RefInDtDxIdeal.τ).loc Cert.RefInDtDxIdeal.main_arg0) = m ((c.tc : Thread Cert.InDtDxIdeal.nD Cert.InDtDxIdeal.τ).loc Cert.InDtDxIdeal.main_arg0)
      ∧ m' ((c.tc : Thread Cert.RefInDtDxIdeal.nD Cert.RefInDtDxIdeal.τ).loc Cert.RefInDtDxIdeal.main_arg1) = m ((c.tc : Thread Cert.InDtDxIdeal.nD Cert.InDtDxIdeal.τ).loc Cert.InDtDxIdeal.main_arg1)
      ∧ m' ((c.tc : Thread Cert.RefInDtDxIdeal.nD Cert.RefInDtDxIdeal.τ).loc Cert.RefInDtDxIdeal.main_arg2) = m ((c.tc : Thread Cert.InDtDxIdeal.nD Cert.InDtDxIdeal.τ).loc Cert.InDtDxIdeal.main_arg2)) →
    ∃ (v0 : (c : Dev Cert.InDtDxIdeal.nD) → Buf (Elt Ideal) ((c.tc : Thread Cert.InDtDxIdeal.nD Cert.InDtDxIdeal.τ).loc Cert.InDtDxIdeal.main_v2)),
      θ_run (Cert.InDtDxIdeal.defs (F := Ideal)) (onTc (τ := Cert.InDtDxIdeal.τ) (Cert.InDtDxIdeal.main (F := Ideal))) ⟨m, fun _ => 0, g⟩ (fun r => ∀ c : Dev Cert.InDtDxIdeal.nD,
          r.2.mem ((c.tc : Thread Cert.InDtDxIdeal.nD Cert.InDtDxIdeal.τ).loc Cert.InDtDxIdeal.main_v2) = v0 c
          ∧ r.2.mem ((c.tc : Thread Cert.InDtDxIdeal.nD Cert.InDtDxIdeal.τ).loc Cert.InDtDxIdeal.main_arg0) = m ((c.tc : Thread Cert.InDtDxIdeal.nD Cert.InDtDxIdeal.τ).loc Cert.InDtDxIdeal.main_arg0)
          ∧ r.2.mem ((c.tc : Thread Cert.InDtDxIdeal.nD Cert.InDtDxIdeal.τ).loc Cert.InDtDxIdeal.main_arg1) = m ((c.tc : Thread Cert.InDtDxIdeal.nD Cert.InDtDxIdeal.τ).loc Cert.InDtDxIdeal.main_arg1)
          ∧ r.2.mem ((c.tc : Thread Cert.InDtDxIdeal.nD Cert.InDtDxIdeal.τ).loc Cert.InDtDxIdeal.main_arg2) = m ((c.tc : Thread Cert.InDtDxIdeal.nD Cert.InDtDxIdeal.τ).loc Cert.InDtDxIdeal.main_arg2))
      ∧ θ_run (Cert.RefInDtDxIdeal.defs (F := Ideal)) (onTc (τ := Cert.RefInDtDxIdeal.τ) (Cert.RefInDtDxIdeal.main (F := Ideal))) ⟨m', fun _ => 0, g'⟩ (fun r => ∀ c : Dev Cert.RefInDtDxIdeal.nD,
          r.2.mem ((c.tc : Thread Cert.RefInDtDxIdeal.nD Cert.RefInDtDxIdeal.τ).loc Cert.RefInDtDxIdeal.main_v3) = v0 c
          ∧ r.2.mem ((c.tc : Thread Cert.RefInDtDxIdeal.nD Cert.RefInDtDxIdeal.τ).loc Cert.RefInDtDxIdeal.main_arg0) = m' ((c.tc : Thread Cert.RefInDtDxIdeal.nD Cert.RefInDtDxIdeal.τ).loc Cert.RefInDtDxIdeal.main_arg0)
          ∧ r.2.mem ((c.tc : Thread Cert.RefInDtDxIdeal.nD Cert.RefInDtDxIdeal.τ).loc Cert.RefInDtDxIdeal.main_arg1) = m' ((c.tc : Thread Cert.RefInDtDxIdeal.nD Cert.RefInDtDxIdeal.τ).loc Cert.RefInDtDxIdeal.main_arg1)
          ∧ r.2.mem ((c.tc : Thread Cert.RefInDtDxIdeal.nD Cert.RefInDtDxIdeal.τ).loc Cert.RefInDtDxIdeal.main_arg2) = m' ((c.tc : Thread Cert.RefInDtDxIdeal.nD Cert.RefInDtDxIdeal.τ).loc Cert.RefInDtDxIdeal.main_arg2))

def preserves_InDtFwd_InDtFwdIdeal : Prop :=
  True

def algebraic_InDtFwdIdeal_RefInDtFwdIdeal [hInDtFwdIdeal : Cert.InDtFwdIdeal.Facts] [hRefInDtFwdIdeal : Cert.RefInDtFwdIdeal.Facts] : Prop :=
  ∀ (m : (ℓ : Loc Cert.InDtFwdIdeal.nD Cert.InDtFwdIdeal.τ Cert.InDtFwdIdeal.sig) → Buf (Elt Ideal) ℓ) (g : Dev Cert.InDtFwdIdeal.nD → PrngReg)
    (m' : (ℓ : Loc Cert.RefInDtFwdIdeal.nD Cert.RefInDtFwdIdeal.τ Cert.RefInDtFwdIdeal.sig) → Buf (Elt Ideal) ℓ) (g' : Dev Cert.RefInDtFwdIdeal.nD → PrngReg), Pre_InDtFwdIdeal m →
    (∀ c : Dev Cert.InDtFwdIdeal.nD,
      m' ((c.tc : Thread Cert.RefInDtFwdIdeal.nD Cert.RefInDtFwdIdeal.τ).loc Cert.RefInDtFwdIdeal.main_arg0) = m ((c.tc : Thread Cert.InDtFwdIdeal.nD Cert.InDtFwdIdeal.τ).loc Cert.InDtFwdIdeal.main_arg0)
      ∧ m' ((c.tc : Thread Cert.RefInDtFwdIdeal.nD Cert.RefInDtFwdIdeal.τ).loc Cert.RefInDtFwdIdeal.main_arg1) = m ((c.tc : Thread Cert.InDtFwdIdeal.nD Cert.InDtFwdIdeal.τ).loc Cert.InDtFwdIdeal.main_arg1)) →
    ∃ (v0 : (c : Dev Cert.InDtFwdIdeal.nD) → Buf (Elt Ideal) ((c.tc : Thread Cert.InDtFwdIdeal.nD Cert.InDtFwdIdeal.τ).loc Cert.InDtFwdIdeal.main_v2)),
      θ_run (Cert.InDtFwdIdeal.defs (F := Ideal)) (onTc (τ := Cert.InDtFwdIdeal.τ) (Cert.InDtFwdIdeal.main (F := Ideal))) ⟨m, fun _ => 0, g⟩ (fun r => ∀ c : Dev Cert.InDtFwdIdeal.nD,
          r.2.mem ((c.tc : Thread Cert.InDtFwdIdeal.nD Cert.InDtFwdIdeal.τ).loc Cert.InDtFwdIdeal.main_v2) = v0 c
          ∧ r.2.mem ((c.tc : Thread Cert.InDtFwdIdeal.nD Cert.InDtFwdIdeal.τ).loc Cert.InDtFwdIdeal.main_arg0) = m ((c.tc : Thread Cert.InDtFwdIdeal.nD Cert.InDtFwdIdeal.τ).loc Cert.InDtFwdIdeal.main_arg0)
          ∧ r.2.mem ((c.tc : Thread Cert.InDtFwdIdeal.nD Cert.InDtFwdIdeal.τ).loc Cert.InDtFwdIdeal.main_arg1) = m ((c.tc : Thread Cert.InDtFwdIdeal.nD Cert.InDtFwdIdeal.τ).loc Cert.InDtFwdIdeal.main_arg1))
      ∧ θ_run (Cert.RefInDtFwdIdeal.defs (F := Ideal)) (onTc (τ := Cert.RefInDtFwdIdeal.τ) (Cert.RefInDtFwdIdeal.main (F := Ideal))) ⟨m', fun _ => 0, g'⟩ (fun r => ∀ c : Dev Cert.RefInDtFwdIdeal.nD,
          r.2.mem ((c.tc : Thread Cert.RefInDtFwdIdeal.nD Cert.RefInDtFwdIdeal.τ).loc Cert.RefInDtFwdIdeal.main_v0) = v0 c
          ∧ r.2.mem ((c.tc : Thread Cert.RefInDtFwdIdeal.nD Cert.RefInDtFwdIdeal.τ).loc Cert.RefInDtFwdIdeal.main_arg0) = m' ((c.tc : Thread Cert.RefInDtFwdIdeal.nD Cert.RefInDtFwdIdeal.τ).loc Cert.RefInDtFwdIdeal.main_arg0)
          ∧ r.2.mem ((c.tc : Thread Cert.RefInDtFwdIdeal.nD Cert.RefInDtFwdIdeal.τ).loc Cert.RefInDtFwdIdeal.main_arg1) = m' ((c.tc : Thread Cert.RefInDtFwdIdeal.nD Cert.RefInDtFwdIdeal.τ).loc Cert.RefInDtFwdIdeal.main_arg1))

def preserves_AdamFf_AdamFfIdeal : Prop :=
  True

def algebraic_AdamFfIdeal_RefAdamFfIdeal [hAdamFfIdeal : Cert.AdamFfIdeal.Facts] [hRefAdamFfIdeal : Cert.RefAdamFfIdeal.Facts] : Prop :=
  ∀ (m : (ℓ : Loc Cert.AdamFfIdeal.nD Cert.AdamFfIdeal.τ Cert.AdamFfIdeal.sig) → Buf (Elt Ideal) ℓ) (g : Dev Cert.AdamFfIdeal.nD → PrngReg)
    (m' : (ℓ : Loc Cert.RefAdamFfIdeal.nD Cert.RefAdamFfIdeal.τ Cert.RefAdamFfIdeal.sig) → Buf (Elt Ideal) ℓ) (g' : Dev Cert.RefAdamFfIdeal.nD → PrngReg), Pre_AdamFfIdeal m →
    (∀ c : Dev Cert.AdamFfIdeal.nD,
      m' ((c.tc : Thread Cert.RefAdamFfIdeal.nD Cert.RefAdamFfIdeal.τ).loc Cert.RefAdamFfIdeal.main_arg0) = m ((c.tc : Thread Cert.AdamFfIdeal.nD Cert.AdamFfIdeal.τ).loc Cert.AdamFfIdeal.main_arg0)
      ∧ m' ((c.tc : Thread Cert.RefAdamFfIdeal.nD Cert.RefAdamFfIdeal.τ).loc Cert.RefAdamFfIdeal.main_arg1) = m ((c.tc : Thread Cert.AdamFfIdeal.nD Cert.AdamFfIdeal.τ).loc Cert.AdamFfIdeal.main_arg1)
      ∧ m' ((c.tc : Thread Cert.RefAdamFfIdeal.nD Cert.RefAdamFfIdeal.τ).loc Cert.RefAdamFfIdeal.main_arg2) = m ((c.tc : Thread Cert.AdamFfIdeal.nD Cert.AdamFfIdeal.τ).loc Cert.AdamFfIdeal.main_arg2)
      ∧ m' ((c.tc : Thread Cert.RefAdamFfIdeal.nD Cert.RefAdamFfIdeal.τ).loc Cert.RefAdamFfIdeal.main_arg3) = m ((c.tc : Thread Cert.AdamFfIdeal.nD Cert.AdamFfIdeal.τ).loc Cert.AdamFfIdeal.main_arg3)) →
    ∃ (v0 : (c : Dev Cert.AdamFfIdeal.nD) → Buf (Elt Ideal) ((c.tc : Thread Cert.AdamFfIdeal.nD Cert.AdamFfIdeal.τ).loc Cert.AdamFfIdeal.main_v4_0)) (v1 : (c : Dev Cert.AdamFfIdeal.nD) → Buf (Elt Ideal) ((c.tc : Thread Cert.AdamFfIdeal.nD Cert.AdamFfIdeal.τ).loc Cert.AdamFfIdeal.main_v4_1)) (v2 : (c : Dev Cert.AdamFfIdeal.nD) → Buf (Elt Ideal) ((c.tc : Thread Cert.AdamFfIdeal.nD Cert.AdamFfIdeal.τ).loc Cert.AdamFfIdeal.main_v4_2)),
      θ_run (Cert.AdamFfIdeal.defs (F := Ideal)) (onTc (τ := Cert.AdamFfIdeal.τ) (Cert.AdamFfIdeal.main (F := Ideal))) ⟨m, fun _ => 0, g⟩ (fun r => ∀ c : Dev Cert.AdamFfIdeal.nD,
          r.2.mem ((c.tc : Thread Cert.AdamFfIdeal.nD Cert.AdamFfIdeal.τ).loc Cert.AdamFfIdeal.main_v4_0) = v0 c
          ∧ r.2.mem ((c.tc : Thread Cert.AdamFfIdeal.nD Cert.AdamFfIdeal.τ).loc Cert.AdamFfIdeal.main_v4_1) = v1 c
          ∧ r.2.mem ((c.tc : Thread Cert.AdamFfIdeal.nD Cert.AdamFfIdeal.τ).loc Cert.AdamFfIdeal.main_v4_2) = v2 c
          ∧ r.2.mem ((c.tc : Thread Cert.AdamFfIdeal.nD Cert.AdamFfIdeal.τ).loc Cert.AdamFfIdeal.main_arg0) = m ((c.tc : Thread Cert.AdamFfIdeal.nD Cert.AdamFfIdeal.τ).loc Cert.AdamFfIdeal.main_arg0)
          ∧ r.2.mem ((c.tc : Thread Cert.AdamFfIdeal.nD Cert.AdamFfIdeal.τ).loc Cert.AdamFfIdeal.main_arg1) = m ((c.tc : Thread Cert.AdamFfIdeal.nD Cert.AdamFfIdeal.τ).loc Cert.AdamFfIdeal.main_arg1)
          ∧ r.2.mem ((c.tc : Thread Cert.AdamFfIdeal.nD Cert.AdamFfIdeal.τ).loc Cert.AdamFfIdeal.main_arg2) = m ((c.tc : Thread Cert.AdamFfIdeal.nD Cert.AdamFfIdeal.τ).loc Cert.AdamFfIdeal.main_arg2)
          ∧ r.2.mem ((c.tc : Thread Cert.AdamFfIdeal.nD Cert.AdamFfIdeal.τ).loc Cert.AdamFfIdeal.main_arg3) = m ((c.tc : Thread Cert.AdamFfIdeal.nD Cert.AdamFfIdeal.τ).loc Cert.AdamFfIdeal.main_arg3))
      ∧ θ_run (Cert.RefAdamFfIdeal.defs (F := Ideal)) (onTc (τ := Cert.RefAdamFfIdeal.τ) (Cert.RefAdamFfIdeal.main (F := Ideal))) ⟨m', fun _ => 0, g'⟩ (fun r => ∀ c : Dev Cert.RefAdamFfIdeal.nD,
          r.2.mem ((c.tc : Thread Cert.RefAdamFfIdeal.nD Cert.RefAdamFfIdeal.τ).loc Cert.RefAdamFfIdeal.main_v24) = v0 c
          ∧ r.2.mem ((c.tc : Thread Cert.RefAdamFfIdeal.nD Cert.RefAdamFfIdeal.τ).loc Cert.RefAdamFfIdeal.main_v25) = v1 c
          ∧ r.2.mem ((c.tc : Thread Cert.RefAdamFfIdeal.nD Cert.RefAdamFfIdeal.τ).loc Cert.RefAdamFfIdeal.main_v26) = v2 c
          ∧ r.2.mem ((c.tc : Thread Cert.RefAdamFfIdeal.nD Cert.RefAdamFfIdeal.τ).loc Cert.RefAdamFfIdeal.main_arg0) = m' ((c.tc : Thread Cert.RefAdamFfIdeal.nD Cert.RefAdamFfIdeal.τ).loc Cert.RefAdamFfIdeal.main_arg0)
          ∧ r.2.mem ((c.tc : Thread Cert.RefAdamFfIdeal.nD Cert.RefAdamFfIdeal.τ).loc Cert.RefAdamFfIdeal.main_arg1) = m' ((c.tc : Thread Cert.RefAdamFfIdeal.nD Cert.RefAdamFfIdeal.τ).loc Cert.RefAdamFfIdeal.main_arg1)
          ∧ r.2.mem ((c.tc : Thread Cert.RefAdamFfIdeal.nD Cert.RefAdamFfIdeal.τ).loc Cert.RefAdamFfIdeal.main_arg2) = m' ((c.tc : Thread Cert.RefAdamFfIdeal.nD Cert.RefAdamFfIdeal.τ).loc Cert.RefAdamFfIdeal.main_arg2)
          ∧ r.2.mem ((c.tc : Thread Cert.RefAdamFfIdeal.nD Cert.RefAdamFfIdeal.τ).loc Cert.RefAdamFfIdeal.main_arg3) = m' ((c.tc : Thread Cert.RefAdamFfIdeal.nD Cert.RefAdamFfIdeal.τ).loc Cert.RefAdamFfIdeal.main_arg3))

def preserves_AdamOut_AdamOutIdeal : Prop :=
  True

def algebraic_AdamOutIdeal_RefAdamOutIdeal [hAdamOutIdeal : Cert.AdamOutIdeal.Facts] [hRefAdamOutIdeal : Cert.RefAdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.RefAdamOutIdeal.nD Cert.RefAdamOutIdeal.τ Cert.RefAdamOutIdeal.sig) → Buf (Elt Ideal) ℓ) (g' : Dev Cert.RefAdamOutIdeal.nD → PrngReg), Pre_AdamOutIdeal m →
    (∀ c : Dev Cert.AdamOutIdeal.nD,
      m' ((c.tc : Thread Cert.RefAdamOutIdeal.nD Cert.RefAdamOutIdeal.τ).loc Cert.RefAdamOutIdeal.main_arg0) = m ((c.tc : Thread Cert.AdamOutIdeal.nD Cert.AdamOutIdeal.τ).loc Cert.AdamOutIdeal.main_arg0)
      ∧ m' ((c.tc : Thread Cert.RefAdamOutIdeal.nD Cert.RefAdamOutIdeal.τ).loc Cert.RefAdamOutIdeal.main_arg1) = m ((c.tc : Thread Cert.AdamOutIdeal.nD Cert.AdamOutIdeal.τ).loc Cert.AdamOutIdeal.main_arg1)
      ∧ m' ((c.tc : Thread Cert.RefAdamOutIdeal.nD Cert.RefAdamOutIdeal.τ).loc Cert.RefAdamOutIdeal.main_arg2) = m ((c.tc : Thread Cert.AdamOutIdeal.nD Cert.AdamOutIdeal.τ).loc Cert.AdamOutIdeal.main_arg2)
      ∧ m' ((c.tc : Thread Cert.RefAdamOutIdeal.nD Cert.RefAdamOutIdeal.τ).loc Cert.RefAdamOutIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v4_0)) (v1 : (c : Dev Cert.AdamOutIdeal.nD) → Buf (Elt Ideal) ((c.tc : Thread Cert.AdamOutIdeal.nD Cert.AdamOutIdeal.τ).loc Cert.AdamOutIdeal.main_v4_1)) (v2 : (c : Dev Cert.AdamOutIdeal.nD) → Buf (Elt Ideal) ((c.tc : Thread Cert.AdamOutIdeal.nD Cert.AdamOutIdeal.τ).loc Cert.AdamOutIdeal.main_v4_2)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v4_0) = v0 c
          ∧ r.2.mem ((c.tc : Thread Cert.AdamOutIdeal.nD Cert.AdamOutIdeal.τ).loc Cert.AdamOutIdeal.main_v4_1) = v1 c
          ∧ r.2.mem ((c.tc : Thread Cert.AdamOutIdeal.nD Cert.AdamOutIdeal.τ).loc Cert.AdamOutIdeal.main_v4_2) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.RefAdamOutIdeal.defs (F := Ideal)) (onTc (τ := Cert.RefAdamOutIdeal.τ) (Cert.RefAdamOutIdeal.main (F := Ideal))) ⟨m', fun _ => 0, g'⟩ (fun r => ∀ c : Dev Cert.RefAdamOutIdeal.nD,
          r.2.mem ((c.tc : Thread Cert.RefAdamOutIdeal.nD Cert.RefAdamOutIdeal.τ).loc Cert.RefAdamOutIdeal.main_v24) = v0 c
          ∧ r.2.mem ((c.tc : Thread Cert.RefAdamOutIdeal.nD Cert.RefAdamOutIdeal.τ).loc Cert.RefAdamOutIdeal.main_v25) = v1 c
          ∧ r.2.mem ((c.tc : Thread Cert.RefAdamOutIdeal.nD Cert.RefAdamOutIdeal.τ).loc Cert.RefAdamOutIdeal.main_v26) = v2 c
          ∧ r.2.mem ((c.tc : Thread Cert.RefAdamOutIdeal.nD Cert.RefAdamOutIdeal.τ).loc Cert.RefAdamOutIdeal.main_arg0) = m' ((c.tc : Thread Cert.RefAdamOutIdeal.nD Cert.RefAdamOutIdeal.τ).loc Cert.RefAdamOutIdeal.main_arg0)
          ∧ r.2.mem ((c.tc : Thread Cert.RefAdamOutIdeal.nD Cert.RefAdamOutIdeal.τ).loc Cert.RefAdamOutIdeal.main_arg1) = m' ((c.tc : Thread Cert.RefAdamOutIdeal.nD Cert.RefAdamOutIdeal.τ).loc Cert.RefAdamOutIdeal.main_arg1)
          ∧ r.2.mem ((c.tc : Thread Cert.RefAdamOutIdeal.nD Cert.RefAdamOutIdeal.τ).loc Cert.RefAdamOutIdeal.main_arg2) = m' ((c.tc : Thread Cert.RefAdamOutIdeal.nD Cert.RefAdamOutIdeal.τ).loc Cert.RefAdamOutIdeal.main_arg2)
          ∧ r.2.mem ((c.tc : Thread Cert.RefAdamOutIdeal.nD Cert.RefAdamOutIdeal.τ).loc Cert.RefAdamOutIdeal.main_arg3) = m' ((c.tc : Thread Cert.RefAdamOutIdeal.nD Cert.RefAdamOutIdeal.τ).loc Cert.RefAdamOutIdeal.main_arg3))

def preserves_AdamIn_AdamInIdeal : Prop :=
  True

def algebraic_AdamInIdeal_RefAdamInIdeal [hAdamInIdeal : Cert.AdamInIdeal.Facts] [hRefAdamInIdeal : Cert.RefAdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.RefAdamInIdeal.nD Cert.RefAdamInIdeal.τ Cert.RefAdamInIdeal.sig) → Buf (Elt Ideal) ℓ) (g' : Dev Cert.RefAdamInIdeal.nD → PrngReg), Pre_AdamInIdeal m →
    (∀ c : Dev Cert.AdamInIdeal.nD,
      m' ((c.tc : Thread Cert.RefAdamInIdeal.nD Cert.RefAdamInIdeal.τ).loc Cert.RefAdamInIdeal.main_arg0) = m ((c.tc : Thread Cert.AdamInIdeal.nD Cert.AdamInIdeal.τ).loc Cert.AdamInIdeal.main_arg0)
      ∧ m' ((c.tc : Thread Cert.RefAdamInIdeal.nD Cert.RefAdamInIdeal.τ).loc Cert.RefAdamInIdeal.main_arg1) = m ((c.tc : Thread Cert.AdamInIdeal.nD Cert.AdamInIdeal.τ).loc Cert.AdamInIdeal.main_arg1)
      ∧ m' ((c.tc : Thread Cert.RefAdamInIdeal.nD Cert.RefAdamInIdeal.τ).loc Cert.RefAdamInIdeal.main_arg2) = m ((c.tc : Thread Cert.AdamInIdeal.nD Cert.AdamInIdeal.τ).loc Cert.AdamInIdeal.main_arg2)
      ∧ m' ((c.tc : Thread Cert.RefAdamInIdeal.nD Cert.RefAdamInIdeal.τ).loc Cert.RefAdamInIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v4_0)) (v1 : (c : Dev Cert.AdamInIdeal.nD) → Buf (Elt Ideal) ((c.tc : Thread Cert.AdamInIdeal.nD Cert.AdamInIdeal.τ).loc Cert.AdamInIdeal.main_v4_1)) (v2 : (c : Dev Cert.AdamInIdeal.nD) → Buf (Elt Ideal) ((c.tc : Thread Cert.AdamInIdeal.nD Cert.AdamInIdeal.τ).loc Cert.AdamInIdeal.main_v4_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v4_0) = v0 c
          ∧ r.2.mem ((c.tc : Thread Cert.AdamInIdeal.nD Cert.AdamInIdeal.τ).loc Cert.AdamInIdeal.main_v4_1) = v1 c
          ∧ r.2.mem ((c.tc : Thread Cert.AdamInIdeal.nD Cert.AdamInIdeal.τ).loc Cert.AdamInIdeal.main_v4_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.RefAdamInIdeal.defs (F := Ideal)) (onTc (τ := Cert.RefAdamInIdeal.τ) (Cert.RefAdamInIdeal.main (F := Ideal))) ⟨m', fun _ => 0, g'⟩ (fun r => ∀ c : Dev Cert.RefAdamInIdeal.nD,
          r.2.mem ((c.tc : Thread Cert.RefAdamInIdeal.nD Cert.RefAdamInIdeal.τ).loc Cert.RefAdamInIdeal.main_v24) = v0 c
          ∧ r.2.mem ((c.tc : Thread Cert.RefAdamInIdeal.nD Cert.RefAdamInIdeal.τ).loc Cert.RefAdamInIdeal.main_v25) = v1 c
          ∧ r.2.mem ((c.tc : Thread Cert.RefAdamInIdeal.nD Cert.RefAdamInIdeal.τ).loc Cert.RefAdamInIdeal.main_v26) = v2 c
          ∧ r.2.mem ((c.tc : Thread Cert.RefAdamInIdeal.nD Cert.RefAdamInIdeal.τ).loc Cert.RefAdamInIdeal.main_arg0) = m' ((c.tc : Thread Cert.RefAdamInIdeal.nD Cert.RefAdamInIdeal.τ).loc Cert.RefAdamInIdeal.main_arg0)
          ∧ r.2.mem ((c.tc : Thread Cert.RefAdamInIdeal.nD Cert.RefAdamInIdeal.τ).loc Cert.RefAdamInIdeal.main_arg1) = m' ((c.tc : Thread Cert.RefAdamInIdeal.nD Cert.RefAdamInIdeal.τ).loc Cert.RefAdamInIdeal.main_arg1)
          ∧ r.2.mem ((c.tc : Thread Cert.RefAdamInIdeal.nD Cert.RefAdamInIdeal.τ).loc Cert.RefAdamInIdeal.main_arg2) = m' ((c.tc : Thread Cert.RefAdamInIdeal.nD Cert.RefAdamInIdeal.τ).loc Cert.RefAdamInIdeal.main_arg2)
          ∧ r.2.mem ((c.tc : Thread Cert.RefAdamInIdeal.nD Cert.RefAdamInIdeal.τ).loc Cert.RefAdamInIdeal.main_arg3) = m' ((c.tc : Thread Cert.RefAdamInIdeal.nD Cert.RefAdamInIdeal.τ).loc Cert.RefAdamInIdeal.main_arg3))

def Claim : Prop :=
  ∃ (hKernel : Cert.Kernel.Facts) (hKernelIdeal : Cert.KernelIdeal.Facts) (hReferenceIdeal : Cert.ReferenceIdeal.Facts) (hFfDownDx : Cert.FfDownDx.Facts) (hFfDownDxIdeal : Cert.FfDownDxIdeal.Facts) (hRefFfDownDxIdeal : Cert.RefFfDownDxIdeal.Facts) (hFfDownDw : Cert.FfDownDw.Facts) (hFfDownDwIdeal : Cert.FfDownDwIdeal.Facts) (hRefFfDownDwIdeal : Cert.RefFfDownDwIdeal.Facts) (hFfUpDw : Cert.FfUpDw.Facts) (hFfUpDwIdeal : Cert.FfUpDwIdeal.Facts) (hRefFfUpDwIdeal : Cert.RefFfUpDwIdeal.Facts) (hFfUpDx : Cert.FfUpDx.Facts) (hFfUpDxIdeal : Cert.FfUpDxIdeal.Facts) (hRefFfUpDxIdeal : Cert.RefFfUpDxIdeal.Facts) (hOutDw : Cert.OutDw.Facts) (hOutDwIdeal : Cert.OutDwIdeal.Facts) (hRefOutDwIdeal : Cert.RefOutDwIdeal.Facts) (hOutDx : Cert.OutDx.Facts) (hOutDxIdeal : Cert.OutDxIdeal.Facts) (hRefOutDxIdeal : Cert.RefOutDxIdeal.Facts) (hInDw : Cert.InDw.Facts) (hInDwIdeal : Cert.InDwIdeal.Facts) (hRefInDwIdeal : Cert.RefInDwIdeal.Facts) (hInDx : Cert.InDx.Facts) (hInDxIdeal : Cert.InDxIdeal.Facts) (hRefInDxIdeal : Cert.RefInDxIdeal.Facts) (hInFwd : Cert.InFwd.Facts) (hInFwdIdeal : Cert.InFwdIdeal.Facts) (hRefInFwdIdeal : Cert.RefInFwdIdeal.Facts) (hOutFwd : Cert.OutFwd.Facts) (hOutFwdIdeal : Cert.OutFwdIdeal.Facts) (hRefOutFwdIdeal : Cert.RefOutFwdIdeal.Facts) (hFfUpFwd : Cert.FfUpFwd.Facts) (hFfUpFwdIdeal : Cert.FfUpFwdIdeal.Facts) (hRefFfUpFwdIdeal : Cert.RefFfUpFwdIdeal.Facts) (hFfDownFwd : Cert.FfDownFwd.Facts) (hFfDownFwdIdeal : Cert.FfDownFwdIdeal.Facts) (hRefFfDownFwdIdeal : Cert.RefFfDownFwdIdeal.Facts) (hRmsBwd : Cert.RmsBwd.Facts) (hRmsBwdIdeal : Cert.RmsBwdIdeal.Facts) (hRefRmsBwdIdeal : Cert.RefRmsBwdIdeal.Facts) (hGateBwd : Cert.GateBwd.Facts) (hGateBwdIdeal : Cert.GateBwdIdeal.Facts) (hRefGateBwdIdeal : Cert.RefGateBwdIdeal.Facts) (hRmsFwd : Cert.RmsFwd.Facts) (hRmsFwdIdeal : Cert.RmsFwdIdeal.Facts) (hRefRmsFwdIdeal : Cert.RefRmsFwdIdeal.Facts) (hGateFwd : Cert.GateFwd.Facts) (hGateFwdIdeal : Cert.GateFwdIdeal.Facts) (hRefGateFwdIdeal : Cert.RefGateFwdIdeal.Facts) (hLossHead : Cert.LossHead.Facts) (hLossHeadIdeal : Cert.LossHeadIdeal.Facts) (hRefLossHeadIdeal : Cert.RefLossHeadIdeal.Facts) (hConvBwd : Cert.ConvBwd.Facts) (hConvBwdIdeal : Cert.ConvBwdIdeal.Facts) (hRefConvBwdIdeal : Cert.RefConvBwdIdeal.Facts) (hConvFwd : Cert.ConvFwd.Facts) (hConvFwdIdeal : Cert.ConvFwdIdeal.Facts) (hRefConvFwdIdeal : Cert.RefConvFwdIdeal.Facts) (hInDtDw : Cert.InDtDw.Facts) (hInDtDwIdeal : Cert.InDtDwIdeal.Facts) (hRefInDtDwIdeal : Cert.RefInDtDwIdeal.Facts) (hInDtDx : Cert.InDtDx.Facts) (hInDtDxIdeal : Cert.InDtDxIdeal.Facts) (hRefInDtDxIdeal : Cert.RefInDtDxIdeal.Facts) (hInDtFwd : Cert.InDtFwd.Facts) (hInDtFwdIdeal : Cert.InDtFwdIdeal.Facts) (hRefInDtFwdIdeal : Cert.RefInDtFwdIdeal.Facts) (hAdamFf : Cert.AdamFf.Facts) (hAdamFfIdeal : Cert.AdamFfIdeal.Facts) (hRefAdamFfIdeal : Cert.RefAdamFfIdeal.Facts) (hAdamOut : Cert.AdamOut.Facts) (hAdamOutIdeal : Cert.AdamOutIdeal.Facts) (hRefAdamOutIdeal : Cert.RefAdamOutIdeal.Facts) (hAdamIn : Cert.AdamIn.Facts) (hAdamInIdeal : Cert.AdamInIdeal.Facts) (hRefAdamInIdeal : Cert.RefAdamInIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_FfDownDx (hFfDownDx := hFfDownDx)
    ∧ quiescent_FfDownDxIdeal (hFfDownDxIdeal := hFfDownDxIdeal)
    ∧ quiescent_RefFfDownDxIdeal (hRefFfDownDxIdeal := hRefFfDownDxIdeal)
    ∧ quiescent_FfDownDw (hFfDownDw := hFfDownDw)
    ∧ quiescent_FfDownDwIdeal (hFfDownDwIdeal := hFfDownDwIdeal)
    ∧ quiescent_RefFfDownDwIdeal (hRefFfDownDwIdeal := hRefFfDownDwIdeal)
    ∧ quiescent_FfUpDw (hFfUpDw := hFfUpDw)
    ∧ quiescent_FfUpDwIdeal (hFfUpDwIdeal := hFfUpDwIdeal)
    ∧ quiescent_RefFfUpDwIdeal (hRefFfUpDwIdeal := hRefFfUpDwIdeal)
    ∧ quiescent_FfUpDx (hFfUpDx := hFfUpDx)
    ∧ quiescent_FfUpDxIdeal (hFfUpDxIdeal := hFfUpDxIdeal)
    ∧ quiescent_RefFfUpDxIdeal (hRefFfUpDxIdeal := hRefFfUpDxIdeal)
    ∧ quiescent_OutDw (hOutDw := hOutDw)
    ∧ quiescent_OutDwIdeal (hOutDwIdeal := hOutDwIdeal)
    ∧ quiescent_RefOutDwIdeal (hRefOutDwIdeal := hRefOutDwIdeal)
    ∧ quiescent_OutDx (hOutDx := hOutDx)
    ∧ quiescent_OutDxIdeal (hOutDxIdeal := hOutDxIdeal)
    ∧ quiescent_RefOutDxIdeal (hRefOutDxIdeal := hRefOutDxIdeal)
    ∧ quiescent_InDw (hInDw := hInDw)
    ∧ quiescent_InDwIdeal (hInDwIdeal := hInDwIdeal)
    ∧ quiescent_RefInDwIdeal (hRefInDwIdeal := hRefInDwIdeal)
    ∧ quiescent_InDx (hInDx := hInDx)
    ∧ quiescent_InDxIdeal (hInDxIdeal := hInDxIdeal)
    ∧ quiescent_RefInDxIdeal (hRefInDxIdeal := hRefInDxIdeal)
    ∧ quiescent_InFwd (hInFwd := hInFwd)
    ∧ quiescent_InFwdIdeal (hInFwdIdeal := hInFwdIdeal)
    ∧ quiescent_RefInFwdIdeal (hRefInFwdIdeal := hRefInFwdIdeal)
    ∧ quiescent_OutFwd (hOutFwd := hOutFwd)
    ∧ quiescent_OutFwdIdeal (hOutFwdIdeal := hOutFwdIdeal)
    ∧ quiescent_RefOutFwdIdeal (hRefOutFwdIdeal := hRefOutFwdIdeal)
    ∧ quiescent_FfUpFwd (hFfUpFwd := hFfUpFwd)
    ∧ quiescent_FfUpFwdIdeal (hFfUpFwdIdeal := hFfUpFwdIdeal)
    ∧ quiescent_RefFfUpFwdIdeal (hRefFfUpFwdIdeal := hRefFfUpFwdIdeal)
    ∧ quiescent_FfDownFwd (hFfDownFwd := hFfDownFwd)
    ∧ quiescent_FfDownFwdIdeal (hFfDownFwdIdeal := hFfDownFwdIdeal)
    ∧ quiescent_RefFfDownFwdIdeal (hRefFfDownFwdIdeal := hRefFfDownFwdIdeal)
    ∧ quiescent_RmsBwd (hRmsBwd := hRmsBwd)
    ∧ quiescent_RmsBwdIdeal (hRmsBwdIdeal := hRmsBwdIdeal)
    ∧ quiescent_RefRmsBwdIdeal (hRefRmsBwdIdeal := hRefRmsBwdIdeal)
    ∧ quiescent_GateBwd (hGateBwd := hGateBwd)
    ∧ quiescent_GateBwdIdeal (hGateBwdIdeal := hGateBwdIdeal)
    ∧ quiescent_RefGateBwdIdeal (hRefGateBwdIdeal := hRefGateBwdIdeal)
    ∧ quiescent_RmsFwd (hRmsFwd := hRmsFwd)
    ∧ quiescent_RmsFwdIdeal (hRmsFwdIdeal := hRmsFwdIdeal)
    ∧ quiescent_RefRmsFwdIdeal (hRefRmsFwdIdeal := hRefRmsFwdIdeal)
    ∧ quiescent_GateFwd (hGateFwd := hGateFwd)
    ∧ quiescent_GateFwdIdeal (hGateFwdIdeal := hGateFwdIdeal)
    ∧ quiescent_RefGateFwdIdeal (hRefGateFwdIdeal := hRefGateFwdIdeal)
    ∧ quiescent_LossHead (hLossHead := hLossHead)
    ∧ quiescent_LossHeadIdeal (hLossHeadIdeal := hLossHeadIdeal)
    ∧ quiescent_RefLossHeadIdeal (hRefLossHeadIdeal := hRefLossHeadIdeal)
    ∧ quiescent_ConvBwd (hConvBwd := hConvBwd)
    ∧ quiescent_ConvBwdIdeal (hConvBwdIdeal := hConvBwdIdeal)
    ∧ quiescent_RefConvBwdIdeal (hRefConvBwdIdeal := hRefConvBwdIdeal)
    ∧ quiescent_ConvFwd (hConvFwd := hConvFwd)
    ∧ quiescent_ConvFwdIdeal (hConvFwdIdeal := hConvFwdIdeal)
    ∧ quiescent_RefConvFwdIdeal (hRefConvFwdIdeal := hRefConvFwdIdeal)
    ∧ quiescent_InDtDw (hInDtDw := hInDtDw)
    ∧ quiescent_InDtDwIdeal (hInDtDwIdeal := hInDtDwIdeal)
    ∧ quiescent_RefInDtDwIdeal (hRefInDtDwIdeal := hRefInDtDwIdeal)
    ∧ quiescent_InDtDx (hInDtDx := hInDtDx)
    ∧ quiescent_InDtDxIdeal (hInDtDxIdeal := hInDtDxIdeal)
    ∧ quiescent_RefInDtDxIdeal (hRefInDtDxIdeal := hRefInDtDxIdeal)
    ∧ quiescent_InDtFwd (hInDtFwd := hInDtFwd)
    ∧ quiescent_InDtFwdIdeal (hInDtFwdIdeal := hInDtFwdIdeal)
    ∧ quiescent_RefInDtFwdIdeal (hRefInDtFwdIdeal := hRefInDtFwdIdeal)
    ∧ quiescent_AdamFf (hAdamFf := hAdamFf)
    ∧ quiescent_AdamFfIdeal (hAdamFfIdeal := hAdamFfIdeal)
    ∧ quiescent_RefAdamFfIdeal (hRefAdamFfIdeal := hRefAdamFfIdeal)
    ∧ quiescent_AdamOut (hAdamOut := hAdamOut)
    ∧ quiescent_AdamOutIdeal (hAdamOutIdeal := hAdamOutIdeal)
    ∧ quiescent_RefAdamOutIdeal (hRefAdamOutIdeal := hRefAdamOutIdeal)
    ∧ quiescent_AdamIn (hAdamIn := hAdamIn)
    ∧ quiescent_AdamInIdeal (hAdamInIdeal := hAdamInIdeal)
    ∧ quiescent_RefAdamInIdeal (hRefAdamInIdeal := hRefAdamInIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_FfDownDx_FfDownDxIdeal
    ∧ algebraic_FfDownDxIdeal_RefFfDownDxIdeal (hFfDownDxIdeal := hFfDownDxIdeal) (hRefFfDownDxIdeal := hRefFfDownDxIdeal)
    ∧ preserves_FfDownDw_FfDownDwIdeal
    ∧ algebraic_FfDownDwIdeal_RefFfDownDwIdeal (hFfDownDwIdeal := hFfDownDwIdeal) (hRefFfDownDwIdeal := hRefFfDownDwIdeal)
    ∧ preserves_FfUpDw_FfUpDwIdeal
    ∧ algebraic_FfUpDwIdeal_RefFfUpDwIdeal (hFfUpDwIdeal := hFfUpDwIdeal) (hRefFfUpDwIdeal := hRefFfUpDwIdeal)
    ∧ preserves_FfUpDx_FfUpDxIdeal
    ∧ algebraic_FfUpDxIdeal_RefFfUpDxIdeal (hFfUpDxIdeal := hFfUpDxIdeal) (hRefFfUpDxIdeal := hRefFfUpDxIdeal)
    ∧ preserves_OutDw_OutDwIdeal
    ∧ algebraic_OutDwIdeal_RefOutDwIdeal (hOutDwIdeal := hOutDwIdeal) (hRefOutDwIdeal := hRefOutDwIdeal)
    ∧ preserves_OutDx_OutDxIdeal
    ∧ algebraic_OutDxIdeal_RefOutDxIdeal (hOutDxIdeal := hOutDxIdeal) (hRefOutDxIdeal := hRefOutDxIdeal)
    ∧ preserves_InDw_InDwIdeal
    ∧ algebraic_InDwIdeal_RefInDwIdeal (hInDwIdeal := hInDwIdeal) (hRefInDwIdeal := hRefInDwIdeal)
    ∧ preserves_InDx_InDxIdeal
    ∧ algebraic_InDxIdeal_RefInDxIdeal (hInDxIdeal := hInDxIdeal) (hRefInDxIdeal := hRefInDxIdeal)
    ∧ preserves_InFwd_InFwdIdeal
    ∧ algebraic_InFwdIdeal_RefInFwdIdeal (hInFwdIdeal := hInFwdIdeal) (hRefInFwdIdeal := hRefInFwdIdeal)
    ∧ preserves_OutFwd_OutFwdIdeal
    ∧ algebraic_OutFwdIdeal_RefOutFwdIdeal (hOutFwdIdeal := hOutFwdIdeal) (hRefOutFwdIdeal := hRefOutFwdIdeal)
    ∧ preserves_FfUpFwd_FfUpFwdIdeal
    ∧ algebraic_FfUpFwdIdeal_RefFfUpFwdIdeal (hFfUpFwdIdeal := hFfUpFwdIdeal) (hRefFfUpFwdIdeal := hRefFfUpFwdIdeal)
    ∧ preserves_FfDownFwd_FfDownFwdIdeal
    ∧ algebraic_FfDownFwdIdeal_RefFfDownFwdIdeal (hFfDownFwdIdeal := hFfDownFwdIdeal) (hRefFfDownFwdIdeal := hRefFfDownFwdIdeal)
    ∧ preserves_RmsBwd_RmsBwdIdeal
    ∧ algebraic_RmsBwdIdeal_RefRmsBwdIdeal (hRmsBwdIdeal := hRmsBwdIdeal) (hRefRmsBwdIdeal := hRefRmsBwdIdeal)
    ∧ preserves_GateBwd_GateBwdIdeal
    ∧ algebraic_GateBwdIdeal_RefGateBwdIdeal (hGateBwdIdeal := hGateBwdIdeal) (hRefGateBwdIdeal := hRefGateBwdIdeal)
    ∧ preserves_RmsFwd_RmsFwdIdeal
    ∧ algebraic_RmsFwdIdeal_RefRmsFwdIdeal (hRmsFwdIdeal := hRmsFwdIdeal) (hRefRmsFwdIdeal := hRefRmsFwdIdeal)
    ∧ preserves_GateFwd_GateFwdIdeal
    ∧ algebraic_GateFwdIdeal_RefGateFwdIdeal (hGateFwdIdeal := hGateFwdIdeal) (hRefGateFwdIdeal := hRefGateFwdIdeal)
    ∧ preserves_LossHead_LossHeadIdeal
    ∧ algebraic_LossHeadIdeal_RefLossHeadIdeal (hLossHeadIdeal := hLossHeadIdeal) (hRefLossHeadIdeal := hRefLossHeadIdeal)
    ∧ preserves_ConvBwd_ConvBwdIdeal
    ∧ algebraic_ConvBwdIdeal_RefConvBwdIdeal (hConvBwdIdeal := hConvBwdIdeal) (hRefConvBwdIdeal := hRefConvBwdIdeal)
    ∧ preserves_ConvFwd_ConvFwdIdeal
    ∧ algebraic_ConvFwdIdeal_RefConvFwdIdeal (hConvFwdIdeal := hConvFwdIdeal) (hRefConvFwdIdeal := hRefConvFwdIdeal)
    ∧ preserves_InDtDw_InDtDwIdeal
    ∧ algebraic_InDtDwIdeal_RefInDtDwIdeal (hInDtDwIdeal := hInDtDwIdeal) (hRefInDtDwIdeal := hRefInDtDwIdeal)
    ∧ preserves_InDtDx_InDtDxIdeal
    ∧ algebraic_InDtDxIdeal_RefInDtDxIdeal (hInDtDxIdeal := hInDtDxIdeal) (hRefInDtDxIdeal := hRefInDtDxIdeal)
    ∧ preserves_InDtFwd_InDtFwdIdeal
    ∧ algebraic_InDtFwdIdeal_RefInDtFwdIdeal (hInDtFwdIdeal := hInDtFwdIdeal) (hRefInDtFwdIdeal := hRefInDtFwdIdeal)
    ∧ preserves_AdamFf_AdamFfIdeal
    ∧ algebraic_AdamFfIdeal_RefAdamFfIdeal (hAdamFfIdeal := hAdamFfIdeal) (hRefAdamFfIdeal := hRefAdamFfIdeal)
    ∧ preserves_AdamOut_AdamOutIdeal
    ∧ algebraic_AdamOutIdeal_RefAdamOutIdeal (hAdamOutIdeal := hAdamOutIdeal) (hRefAdamOutIdeal := hRefAdamOutIdeal)
    ∧ preserves_AdamIn_AdamInIdeal
    ∧ algebraic_AdamInIdeal_RefAdamInIdeal (hAdamInIdeal := hAdamInIdeal) (hRefAdamInIdeal := hRefAdamInIdeal)
-- ==== Pre_finite.lean ====
abbrev S4096x4608 : Shape := ⟨2, ![4096, 4608]⟩
abbrev S512 : Shape := ⟨1, ![512]⟩
abbrev S8x128x128 : Shape := ⟨3, ![8, 128, 128]⟩
abbrev S8x128 : Shape := ⟨2, ![8, 128]⟩
abbrev S4096x2048 : Shape := ⟨2, ![4096, 2048]⟩
abbrev S_ : Shape := ⟨0, ![]⟩

class Facts : Prop where
  bcast_S_S4096x4608 : S_.BroadcastsInDim S4096x4608 (![] : Fin 0 → Fin S4096x4608.rank)
  reducesTo_S4096x4608_S_d0_1 : S4096x4608.ReducesTo [0, 1] S_
  h_S_ : 0 < S_.numel
  bcast_S_S512 : S_.BroadcastsInDim S512 (![] : Fin 0 → Fin S512.rank)
  reducesTo_S512_S_d0 : S512.ReducesTo [0] S_
  bcast_S_S8x128x128 : S_.BroadcastsInDim S8x128x128 (![] : Fin 0 → Fin S8x128x128.rank)
  reducesTo_S8x128x128_S_d0_1_2 : S8x128x128.ReducesTo [0, 1, 2] S_
  bcast_S_S8x128 : S_.BroadcastsInDim S8x128 (![] : Fin 0 → Fin S8x128.rank)
  reducesTo_S8x128_S_d0_1 : S8x128.ReducesTo [0, 1] S_
  bcast_S_S4096x2048 : S_.BroadcastsInDim S4096x2048 (![] : Fin 0 → Fin S4096x2048.rank)
  reducesTo_S4096x2048_S_d0_1 : S4096x2048.ReducesTo [0, 1] S_

variable [Facts]

def fn_part1 {F : FTy → Type} [FloatOps F] (main_arg4 : FVec F S8x128 .f32) (main_arg5 : FVec F S4096x2048 .f32) (main_v13 : IVec S_ 1) (main_v16 : IVec S8x128x128 1) : IVec S_ 1 :=
  let main_c_5 : IVec S_ 1 := constantI S_ 1 1#1
  let main_v17 : IVec S_ 1 := (fun x v => Host.reduce IntOp.andi x v reducesTo_S8x128x128_S_d0_1_2 h_S_) main_v16 main_c_5
  let main_v18 : IVec S_ 1 := andi main_v13 main_v17
  let main_v19 : FVec F S8x128 .f32 := Host.absf main_arg4
  let main_cst_6 : FVec F S_ .f32 := constant S_ .f32 0x7F800000#32
  let main_v20 : FVec F S8x128 .f32 := broadcastInDim S8x128 ![] bcast_S_S8x128 main_cst_6
  let main_v21 : IVec S8x128 1 := cmpf .olt main_v19 main_v20
  let main_c_7 : IVec S_ 1 := constantI S_ 1 1#1
  let main_v22 : IVec S_ 1 := (fun x v => Host.reduce IntOp.andi x v reducesTo_S8x128_S_d0_1 h_S_) main_v21 main_c_7
  let main_v23 : IVec S_ 1 := andi main_v18 main_v22
  let main_v24 : FVec F S4096x2048 .f32 := Host.absf main_arg5
  let main_cst_8 : FVec F S_ .f32 := constant S_ .f32 0x7F800000#32
  let main_v25 : FVec F S4096x2048 .f32 := broadcastInDim S4096x2048 ![] bcast_S_S4096x2048 main_cst_8
  let main_v26 : IVec S4096x2048 1 := cmpf .olt main_v24 main_v25
  let main_c_9 : IVec S_ 1 := constantI S_ 1 1#1
  let main_v27 : IVec S_ 1 := (fun x v => Host.reduce IntOp.andi x v reducesTo_S4096x2048_S_d0_1 h_S_) main_v26 main_c_9
  let main_v28 : IVec S_ 1 := andi main_v23 main_v27
  main_v28

def fn {F : FTy → Type} [FloatOps F] (main_arg0 : FVec F S4096x4608 .f32) (main_arg1 : FVec F S512 .f32) (main_arg2 : FVec F S512 .f32) (main_arg3 : FVec F S8x128x128 .f32) (main_arg4 : FVec F S8x128 .f32) (main_arg5 : FVec F S4096x2048 .f32) : IVec S_ 1 :=
  let main_v0 : FVec F S4096x4608 .f32 := Host.absf main_arg0
  let main_cst : FVec F S_ .f32 := constant S_ .f32 0x7F800000#32
  let main_v1 : FVec F S4096x4608 .f32 := broadcastInDim S4096x4608 ![] bcast_S_S4096x4608 main_cst
  let main_v2 : IVec S4096x4608 1 := cmpf .olt main_v0 main_v1
  let main_c : IVec S_ 1 := constantI S_ 1 1#1
  let main_v3 : IVec S_ 1 := (fun x v => Host.reduce IntOp.andi x v reducesTo_S4096x4608_S_d0_1 h_S_) main_v2 main_c
  let main_v4 : FVec F S512 .f32 := Host.absf main_arg1
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S8x128x128 .f32 := Host.absf main_arg3
  let main_cst_4 : FVec F S_ .f32 := constant S_ .f32 0x7F800000#32
  let main_v15 : FVec F S8x128x128 .f32 := broadcastInDim S8x128x128 ![] bcast_S_S8x128x128 main_cst_4
  let main_v16 : IVec S8x128x128 1 := cmpf .olt main_v14 main_v15
  fn_part1 (F := F) main_arg4 main_arg5 main_v13 main_v16
-- ==== Kernel.lean ====
abbrev S4096x4608 : Shape := ⟨2, ![4096, 4608]⟩
abbrev S512 : Shape := ⟨1, ![512]⟩
abbrev S8x128x128 : Shape := ⟨3, ![8, 128, 128]⟩
abbrev S8x128 : Shape := ⟨2, ![8, 128]⟩
abbrev S4096x2048 : Shape := ⟨2, ![4096, 2048]⟩
abbrev S1x512 : Shape := ⟨2, ![1, 512]⟩
abbrev S4x2x128 : Shape := ⟨3, ![4, 2, 128]⟩
abbrev S4096x512 : Shape := ⟨2, ![4096, 512]⟩
abbrev S512x128 : Shape := ⟨2, ![512, 128]⟩
abbrev S1x128 : Shape := ⟨2, ![1, 128]⟩
abbrev S2x128x128 : Shape := ⟨3, ![2, 128, 128]⟩
abbrev S1x2x128 : Shape := ⟨3, ![1, 2, 128]⟩
abbrev S2x128 : Shape := ⟨2, ![2, 128]⟩
abbrev S128x128 : Shape := ⟨2, ![128, 128]⟩
abbrev S1x128x128 : Shape := ⟨3, ![1, 128, 128]⟩
abbrev S1x1x128 : Shape := ⟨3, ![1, 1, 128]⟩
abbrev S128 : Shape := ⟨1, ![128]⟩

abbrev nBuf : Space → Nat
  | .hbm => 15
  | .vmem => 26
  | .smem => 0
  | _ => 0

abbrev bufTy : (tb : Table) → Fin (tcTables nBuf tb) → BufTy
  | .hbm, ⟨0, _⟩ => ⟨S4096x4608, .f32⟩
  | .hbm, ⟨1, _⟩ => ⟨S512, .f32⟩
  | .hbm, ⟨2, _⟩ => ⟨S512, .f32⟩
  | .hbm, ⟨3, _⟩ => ⟨S8x128x128, .f32⟩
  | .hbm, ⟨4, _⟩ => ⟨S8x128, .f32⟩
  | .hbm, ⟨5, _⟩ => ⟨S4096x2048, .f32⟩
  | .hbm, ⟨6, _⟩ => ⟨S1x512, .f32⟩
  | .hbm, ⟨7, _⟩ => ⟨S1x512, .f32⟩
  | .hbm, ⟨8, _⟩ => ⟨S4x2x128, .f32⟩
  | .hbm, ⟨9, _⟩ => ⟨S4096x512, .bf16⟩
  | .hbm, ⟨10, _⟩ => ⟨S4096x512, .bf16⟩
  | .hbm, ⟨11, _⟩ => ⟨S1x512, .f32⟩
  | .hbm, ⟨12, _⟩ => ⟨S1x512, .f32⟩
  | .hbm, ⟨13, _⟩ => ⟨S8x128x128, .f32⟩
  | .hbm, ⟨14, _⟩ => ⟨S4x2x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S2x128x128, .f32⟩
  | .local _ .vmem, ⟨9, _⟩ => ⟨S2x128x128, .f32⟩
  | .local _ .vmem, ⟨10, _⟩ => ⟨S1x2x128, .f32⟩
  | .local _ .vmem, ⟨11, _⟩ => ⟨S1x2x128, .f32⟩
  | .local _ .vmem, ⟨12, _⟩ => ⟨S512x128, .f32⟩
  | .local _ .vmem, ⟨13, _⟩ => ⟨S512x128, .f32⟩
  | .local _ .vmem, ⟨14, _⟩ => ⟨S512x128, .bf16⟩
  | .local _ .vmem, ⟨15, _⟩ => ⟨S512x128, .bf16⟩
  | .local _ .vmem, ⟨16, _⟩ => ⟨S512x128, .bf16⟩
  | .local _ .vmem, ⟨17, _⟩ => ⟨S512x128, .bf16⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S2x128x128, .f32⟩
  | .local _ .vmem, ⟨23, _⟩ => ⟨S2x128x128, .f32⟩
  | .local _ .vmem, ⟨24, _⟩ => ⟨S1x2x128, .f32⟩
  | .local _ .vmem, ⟨25, _⟩ => ⟨S1x2x128, .f32⟩
  | _, _ => ⟨S4096x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_v3_5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S2x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x2x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== ReferenceIdeal.lean ====
abbrev S4096x4608 : Shape := ⟨2, ![4096, 4608]⟩
abbrev S512 : Shape := ⟨1, ![512]⟩
abbrev S8x128x128 : Shape := ⟨3, ![8, 128, 128]⟩
abbrev S8x128 : Shape := ⟨2, ![8, 128]⟩
abbrev S4096x2048 : Shape := ⟨2, ![4096, 2048]⟩
abbrev S4096x512 : Shape := ⟨2, ![4096, 512]⟩
abbrev S2x2048x512 : Shape := ⟨3, ![2, 2048, 512]⟩
abbrev S_ : Shape := ⟨0, ![]⟩
abbrev S2x2048x8x64 : Shape := ⟨4, ![2, 2048, 8, 64]⟩
abbrev S2x2048x8 : Shape := ⟨3, ![2, 2048, 8]⟩
abbrev S2x2048x8x1 : Shape := ⟨4, ![2, 2048, 8, 1]⟩
abbrev S1x1x512 : Shape := ⟨3, ![1, 1, 512]⟩
abbrev S2x16x128x8x64 : Shape := ⟨5, ![2, 16, 128, 8, 64]⟩
abbrev S128x128 : Shape := ⟨2, ![128, 128]⟩
abbrev S8x2x16x64x128 : Shape := ⟨5, ![8, 2, 16, 64, 128]⟩
abbrev S128x8 : Shape := ⟨2, ![128, 8]⟩
abbrev S128x8x1 : Shape := ⟨3, ![128, 8, 1]⟩
abbrev S1x1x128x8x1 : Shape := ⟨5, ![1, 1, 128, 8, 1]⟩
abbrev S1x512 : Shape := ⟨2, ![1, 512]⟩
abbrev S4x2x128 : Shape := ⟨3, ![4, 2, 128]⟩

abbrev nBuf : Space → Nat
  | .hbm => 196
  | .vmem => 0
  | .smem => 0
  | _ => 0

abbrev hbmTy0_0 (i : Nat) : BufTy := match i % 128 with
  | 0 => ⟨S4096x4608, .f32⟩
  | 1 => ⟨S512, .f32⟩
  | 2 => ⟨S512, .f32⟩
  | 3 => ⟨S8x128x128, .f32⟩
  | 4 => ⟨S8x128, .f32⟩
  | 5 => ⟨S4096x2048, .f32⟩
  | 6 => ⟨S4096x512, .f32⟩
  | 7 => ⟨S2x2048x512, .f32⟩
  | 8 => ⟨S4096x512, .f32⟩
  | 9 => ⟨S2x2048x512, .f32⟩
  | 10 => ⟨S4096x512, .f32⟩
  | 11 => ⟨S2x2048x512, .f32⟩
  | 12 => ⟨S_, .f32⟩
  | 13 => ⟨S2x2048x512, .f32⟩
  | 14 => ⟨S2x2048x512, .f32⟩
  | 15 => ⟨S2x2048x512, .f32⟩
  | 16 => ⟨S_, .f32⟩
  | 17 => ⟨S2x2048x512, .f32⟩
  | 18 => ⟨S2x2048x512, .f32⟩
  | 19 => ⟨S2x2048x512, .f32⟩
  | 20 => ⟨S2x2048x512, .f32⟩
  | 21 => ⟨S2x2048x512, .f32⟩
  | 22 => ⟨S2x2048x512, .f32⟩
  | 23 => ⟨S2x2048x512, .f32⟩
  | 24 => ⟨S_, .f32⟩
  | 25 => ⟨S2x2048x512, .f32⟩
  | 26 => ⟨S2x2048x512, .f32⟩
  | 27 => ⟨S2x2048x512, .f32⟩
  | 28 => ⟨S_, .f32⟩
  | 29 => ⟨S2x2048x512, .f32⟩
  | 30 => ⟨S2x2048x512, .f32⟩
  | 31 => ⟨S2x2048x512, .f32⟩
  | 32 => ⟨S2x2048x512, .f32⟩
  | 33 => ⟨S2x2048x512, .f32⟩
  | 34 => ⟨S2x2048x512, .f32⟩
  | 35 => ⟨S2x2048x512, .f32⟩
  | 36 => ⟨S2x2048x8x64, .f32⟩
  | 37 => ⟨S_, .f32⟩
  | 38 => ⟨S2x2048x8, .f32⟩
  | 39 => ⟨S2x2048x8x1, .f32⟩
  | 40 => ⟨S_, .f32⟩
  | 41 => ⟨S2x2048x8x1, .f32⟩
  | 42 => ⟨S2x2048x8x1, .f32⟩
  | 43 => ⟨S2x2048x8x64, .f32⟩
  | 44 => ⟨S2x2048x8x64, .f32⟩
  | 45 => ⟨S2x2048x8x64, .f32⟩
  | 46 => ⟨S_, .f32⟩
  | 47 => ⟨S2x2048x8, .f32⟩
  | 48 => ⟨S2x2048x8x1, .f32⟩
  | 49 => ⟨S_, .f32⟩
  | 50 => ⟨S2x2048x8x1, .f32⟩
  | 51 => ⟨S2x2048x8x1, .f32⟩
  | 52 => ⟨S_, .f32⟩
  | 53 => ⟨S2x2048x8x1, .f32⟩
  | 54 => ⟨S2x2048x8x1, .f32⟩
  | 55 => ⟨S2x2048x8x1, .f32⟩
  | 56 => ⟨S2x2048x8x1, .f32⟩
  | 57 => ⟨S_, .f32⟩
  | 58 => ⟨S2x2048x8x1, .f32⟩
  | 59 => ⟨S2x2048x8x1, .f32⟩
  | 60 => ⟨S2x2048x8x64, .f32⟩
  | 61 => ⟨S2x2048x8x64, .f32⟩
  | 62 => ⟨S2x2048x512, .f32⟩
  | 63 => ⟨S1x1x512, .f32⟩
  | 64 => ⟨S2x2048x512, .f32⟩
  | 65 => ⟨S2x2048x512, .f32⟩
  | 66 => ⟨S1x1x512, .f32⟩
  | 67 => ⟨S2x2048x512, .f32⟩
  | 68 => ⟨S2x2048x512, .f32⟩
  | 69 => ⟨S2x16x128x8x64, .f32⟩
  | 70 => ⟨S_, .i1⟩
  | 71 => ⟨S128x128, .i1⟩
  | 72 => ⟨S128x128, .i32⟩
  | 73 => ⟨S_, .i32⟩
  | 74 => ⟨S128x128, .i32⟩
  | 75 => ⟨S128x128, .i32⟩
  | 76 => ⟨S128x128, .i32⟩
  | 77 => ⟨S128x128, .i1⟩
  | 78 => ⟨S_, .i1⟩
  | 79 => ⟨S128x128, .i1⟩
  | 80 => ⟨S128x128, .i1⟩
  | 81 => ⟨S_, .f32⟩
  | 82 => ⟨S8x128x128, .f32⟩
  | 83 => ⟨S8x128x128, .i1⟩
  | 84 => ⟨S8x128x128, .f32⟩
  | 85 => ⟨S_, .f32⟩
  | 86 => ⟨S8x128x128, .f32⟩
  | 87 => ⟨S8x2x16x64x128, .f32⟩
  | 88 => ⟨S2x16x128x8x64, .f32⟩
  | 89 => ⟨S128x8, .f32⟩
  | 90 => ⟨S128x8x1, .f32⟩
  | 91 => ⟨S1x1x128x8x1, .f32⟩
  | 92 => ⟨S2x16x128x8x64, .f32⟩
  | 93 => ⟨S2x16x128x8x64, .f32⟩
  | 94 => ⟨S2x16x128x8x64, .f32⟩
  | 95 => ⟨S2x16x128x8x64, .f32⟩
  | 96 => ⟨S2x2048x512, .f32⟩
  | 97 => ⟨S2x16x128x8x64, .f32⟩
  | 98 => ⟨S2x16x128x8x64, .f32⟩
  | 99 => ⟨S2x16x128x8x64, .f32⟩
  | 100 => ⟨S2x2048x512, .f32⟩
  | 101 => ⟨S_, .f32⟩
  | 102 => ⟨S128x8, .f32⟩
  | 103 => ⟨S1x1x128x8x1, .f32⟩
  | 104 => ⟨S_, .f32⟩
  | 105 => ⟨S128x8, .f32⟩
  | 106 => ⟨S128x8x1, .f32⟩
  | 107 => ⟨S_, .f32⟩
  | 108 => ⟨S128x8, .f32⟩
  | 109 => ⟨S8x128, .f32⟩
  | 110 => ⟨S8x2x16x64x128, .f32⟩
  | 111 => ⟨S8x128x128, .f32⟩
  | 112 => ⟨S8x2x16x64x128, .f32⟩
  | 113 => ⟨S2x16x128x8x64, .f32⟩
  | 114 => ⟨S_, .f32⟩
  | 115 => ⟨S8x128x128, .f32⟩
  | 116 => ⟨S8x128x128, .f32⟩
  | 117 => ⟨S2x2048x512, .f32⟩
  | 118 => ⟨S_, .f32⟩
  | 119 => ⟨S512, .f32⟩
  | 120 => ⟨S1x1x512, .f32⟩
  | 121 => ⟨S_, .f32⟩
  | 122 => ⟨S512, .f32⟩
  | 123 => ⟨S2x2048x512, .f32⟩
  | 124 => ⟨S_, .f32⟩
  | 125 => ⟨S512, .f32⟩
  | 126 => ⟨S1x1x512, .f32⟩
  | 127 => ⟨S2x2048x512, .f32⟩
  | _ => ⟨S4096x4608, .f32⟩

abbrev hbmTy0_1 (i : Nat) : BufTy := match i % 128 with
  | 0 => ⟨S2x2048x512, .f32⟩
  | 1 => ⟨S_, .f32⟩
  | 2 => ⟨S512, .f32⟩
  | 3 => ⟨S2x2048x8x64, .f32⟩
  | 4 => ⟨S2x2048x8x64, .f32⟩
  | 5 => ⟨S_, .f32⟩
  | 6 => ⟨S2x2048x8, .f32⟩
  | 7 => ⟨S2x2048x8x1, .f32⟩
  | 8 => ⟨S2x2048x8x64, .f32⟩
  | 9 => ⟨S2x2048x8x64, .f32⟩
  | 10 => ⟨S2x2048x8x1, .f32⟩
  | 11 => ⟨S_, .f32⟩
  | 12 => ⟨S2x2048x8x1, .f32⟩
  | 13 => ⟨S2x2048x8x1, .f32⟩
  | 14 => ⟨S_, .f32⟩
  | 15 => ⟨S2x2048x8, .f32⟩
  | 16 => ⟨S2x2048x8x64, .f32⟩
  | 17 => ⟨S2x2048x8x64, .f32⟩
  | 18 => ⟨S2x2048x8x64, .f32⟩
  | 19 => ⟨S2x2048x8x64, .f32⟩
  | 20 => ⟨S2x2048x8x64, .f32⟩
  | 21 => ⟨S2x2048x8x64, .f32⟩
  | 22 => ⟨S_, .f32⟩
  | 23 => ⟨S2x2048x8, .f32⟩
  | 24 => ⟨S2x2048x8x1, .f32⟩
  | 25 => ⟨S_, .f32⟩
  | 26 => ⟨S2x2048x8x1, .f32⟩
  | 27 => ⟨S2x2048x8x1, .f32⟩
  | 28 => ⟨S_, .f32⟩
  | 29 => ⟨S2x2048x8, .f32⟩
  | 30 => ⟨S2x2048x8x64, .f32⟩
  | 31 => ⟨S2x2048x8x64, .f32⟩
  | 32 => ⟨S2x2048x512, .f32⟩
  | 33 => ⟨S2x2048x512, .f32⟩
  | 34 => ⟨S2x2048x512, .f32⟩
  | 35 => ⟨S_, .f32⟩
  | 36 => ⟨S2x2048x512, .f32⟩
  | 37 => ⟨S2x2048x512, .f32⟩
  | 38 => ⟨S2x2048x512, .f32⟩
  | 39 => ⟨S_, .f32⟩
  | 40 => ⟨S2x2048x512, .f32⟩
  | 41 => ⟨S2x2048x512, .f32⟩
  | 42 => ⟨S2x2048x512, .f32⟩
  | 43 => ⟨S_, .f32⟩
  | 44 => ⟨S2x2048x512, .f32⟩
  | 45 => ⟨S2x2048x512, .f32⟩
  | 46 => ⟨S2x2048x512, .f32⟩
  | 47 => ⟨S2x2048x512, .f32⟩
  | 48 => ⟨S2x2048x512, .f32⟩
  | 49 => ⟨S_, .f32⟩
  | 50 => ⟨S2x2048x512, .f32⟩
  | 51 => ⟨S2x2048x512, .f32⟩
  | 52 => ⟨S2x2048x512, .f32⟩
  | 53 => ⟨S_, .f32⟩
  | 54 => ⟨S2x2048x512, .f32⟩
  | 55 => ⟨S2x2048x512, .f32⟩
  | 56 => ⟨S2x2048x512, .f32⟩
  | 57 => ⟨S_, .f32⟩
  | 58 => ⟨S2x2048x512, .f32⟩
  | 59 => ⟨S2x2048x512, .f32⟩
  | 60 => ⟨S2x2048x512, .f32⟩
  | 61 => ⟨S4096x512, .f32⟩
  | 62 => ⟨S4096x512, .bf16⟩
  | 63 => ⟨S4096x512, .f32⟩
  | 64 => ⟨S4096x512, .bf16⟩
  | 65 => ⟨S1x512, .f32⟩
  | 66 => ⟨S1x512, .f32⟩
  | 67 => ⟨S4x2x128, .f32⟩
  | _ => ⟨S4096x4608, .f32⟩

abbrev hbmTy (i : Nat) : BufTy := match i / 128 with
  | 0 => hbmTy0_0 i
  | 1 => hbmTy0_1 i
  | _ => ⟨S4096x4608, .f32⟩

abbrev bufTy : (tb : Table) → Fin (tcTables nBuf tb) → BufTy
  | .hbm, ⟨i, _⟩ => hbmTy i
  | _, _ => ⟨S4096x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_c : Ref sig .tc := ⟨.hbm, 70, rfl⟩
abbrev main_v54 : Ref sig .tc := ⟨.hbm, 71, rfl⟩
abbrev main_call0_v0 : Ref sig .tc := ⟨.hbm, 72, rfl⟩
abbrev main_call0_c : Ref sig .tc := ⟨.hbm, 73, rfl⟩
abbrev main_call0_v1 : Ref sig .tc := ⟨.hbm, 74, rfl⟩
abbrev main_call0_v2 : Ref sig .tc := ⟨.hbm, 75, rfl⟩
abbrev main_call0_v3 : Ref sig .tc := ⟨.hbm, 76, rfl⟩
abbrev main_call0_v4 : Ref sig .tc := ⟨.hbm, 77, rfl⟩
abbrev main_call0_c_0 : Ref sig .tc := ⟨.hbm, 78, rfl⟩
abbrev main_call0_v5 : Ref sig .tc := ⟨.hbm, 79, rfl⟩
abbrev main_v55 : Ref sig .tc := ⟨.hbm, 80, rfl⟩
abbrev main_cst_9 : Ref sig .tc := ⟨.hbm, 81, rfl⟩
abbrev main_v56 : Ref sig .tc := ⟨.hbm, 82, rfl⟩
abbrev main_v57_1 : Ref sig .tc := ⟨.hbm, 83, rfl⟩
abbrev main_v57_0 : Ref sig .tc := ⟨.hbm, 84, rfl⟩
abbrev main_call1_cst : Ref sig .tc := ⟨.hbm, 85, rfl⟩
abbrev main_v57_2 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_10 : Ref sig .tc := ⟨.hbm, 101, rfl⟩
abbrev main_v72 : Ref sig .tc := ⟨.hbm, 102, rfl⟩
abbrev main_v73 : Ref sig .tc := ⟨.hbm, 103, rfl⟩
abbrev main_cst_11 : Ref sig .tc := ⟨.hbm, 104, rfl⟩
abbrev main_v74 : Ref sig .tc := ⟨.hbm, 105, rfl⟩
abbrev main_v75 : Ref sig .tc := ⟨.hbm, 106, rfl⟩
abbrev main_cst_12 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_call2_cst : Ref sig .tc := ⟨.hbm, 114, rfl⟩
abbrev main_call2_v0 : Ref sig .tc := ⟨.hbm, 115, rfl⟩
abbrev main_v82 : Ref sig .tc := ⟨.hbm, 116, rfl⟩
abbrev main_v83 : Ref sig .tc := ⟨.hbm, 117, rfl⟩
abbrev main_cst_13 : Ref sig .tc := ⟨.hbm, 118, rfl⟩
abbrev main_v84 : Ref sig .tc := ⟨.hbm, 119, rfl⟩
abbrev main_v85 : Ref sig .tc := ⟨.hbm, 120, rfl⟩
abbrev main_cst_14 : Ref sig .tc := ⟨.hbm, 121, rfl⟩
abbrev main_v86 : Ref sig .tc := ⟨.hbm, 122, rfl⟩
abbrev main_v87 : Ref sig .tc := ⟨.hbm, 123, rfl⟩
abbrev main_cst_15 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_cst_16 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_cst_17 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_cst_18 : Ref sig .tc := ⟨.hbm, 139, rfl⟩
abbrev main_v100 : Ref sig .tc := ⟨.hbm, 140, rfl⟩
abbrev main_v101 : Ref sig .tc := ⟨.hbm, 141, rfl⟩
abbrev main_cst_19 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_cst_20 : Ref sig .tc := ⟨.hbm, 150, rfl⟩
abbrev main_v109 : Ref sig .tc := ⟨.hbm, 151, rfl⟩
abbrev main_v110 : Ref sig .tc := ⟨.hbm, 152, rfl⟩
abbrev main_cst_21 : Ref sig .tc := ⟨.hbm, 153, rfl⟩
abbrev main_v111 : Ref sig .tc := ⟨.hbm, 154, rfl⟩
abbrev main_v112 : Ref sig .tc := ⟨.hbm, 155, rfl⟩
abbrev main_cst_22 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_cst_23 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_cst_24 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_cst_25 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_cst_26 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_cst_27 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_cst_28 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩

abbrev nD : Nat := 1
abbrev τ : Topo := Topo.v7x

variable {F : FTy → Type} [FloatOps F]
-- ==== FfDownDx.lean ====
abbrev S4096x4096 : Shape := ⟨2, ![4096, 4096]⟩
abbrev S4096x1024 : Shape := ⟨2, ![4096, 1024]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S4096x1024, .bf16⟩
  | .hbm, ⟨4, _⟩ => ⟨S4096x1024, .bf16⟩
  | .hbm, ⟨5, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefFfDownDxIdeal.lean ====
abbrev S4096x4096 : Shape := ⟨2, ![4096, 4096]⟩
abbrev S4096x1024 : Shape := ⟨2, ![4096, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .i1⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x1024, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== FfDownDw.lean ====
abbrev S4096x4096 : Shape := ⟨2, ![4096, 4096]⟩
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 5
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S_, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .bf16⟩
  | .hbm, ⟨7, _⟩ => ⟨S4096x1024, .bf16⟩
  | .hbm, ⟨8, _⟩ => ⟨S4096x1024, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .f32⟩
  | .local _ .vmem, ⟨4, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefFfDownDwIdeal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S_, .f32⟩
  | .hbm, ⟨3, _⟩ => ⟨S4096x1024, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x1024, .f32⟩
  | .hbm, ⟨9, _⟩ => ⟨S1024x4096, .f32⟩
  | .hbm, ⟨10, _⟩ => ⟨S4096x1024, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== FfUpDw.lean ====
abbrev S4096x1024 : Shape := ⟨2, ![4096, 1024]⟩
abbrev S4096x4096 : Shape := ⟨2, ![4096, 4096]⟩
abbrev S4x1024x1024 : Shape := ⟨3, ![4, 1024, 1024]⟩
abbrev S1x1024x1024 : Shape := ⟨3, ![1, 1024, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x1024, .bf16⟩
  | .hbm, ⟨3, _⟩ => ⟨S4096x4096, .bf16⟩
  | .hbm, ⟨4, _⟩ => ⟨S4x1024x1024, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1x1024x1024, .f32⟩
  | .local _ .vmem, ⟨4, _⟩ => ⟨S1x1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefFfUpDwIdeal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩
abbrev S1024x4x1024 : Shape := ⟨3, ![1024, 4, 1024]⟩
abbrev S4x1024x1024 : Shape := ⟨3, ![4, 1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S_, .f32⟩
  | .hbm, ⟨3, _⟩ => ⟨S1024x4096, .f32⟩
  | .hbm, ⟨4, _⟩ => ⟨S4096x4096, .f32⟩
  | .hbm, ⟨5, _⟩ => ⟨S4096x1024, .f32⟩
  | .hbm, ⟨6, _⟩ => ⟨S1024x4096, .f32⟩
  | .hbm, ⟨7, _⟩ => ⟨S1024x4x1024, .f32⟩
  | .hbm, ⟨8, _⟩ => ⟨S4x1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== FfUpDx.lean ====
abbrev S1024x4096 : Shape := ⟨2, ![1024, 4096]⟩
abbrev S4096x4096 : Shape := ⟨2, ![4096, 4096]⟩
abbrev S1024x4x1024 : Shape := ⟨3, ![1024, 4, 1024]⟩
abbrev S4x1024x1024 : Shape := ⟨3, ![4, 1024, 1024]⟩
abbrev S4096x1024 : Shape := ⟨2, ![4096, 1024]⟩
abbrev S1024x1024 : Shape := ⟨2, ![1024, 1024]⟩
abbrev S1x1024x1024 : Shape := ⟨3, ![1, 1024, 1024]⟩

abbrev nBuf : Space → Nat
  | .hbm => 7
  | .vmem => 5
  | .smem => 0
  | _ => 0

abbrev bufTy : (tb : Table) → Fin (tcTables nBuf tb) → BufTy
  | .hbm, ⟨0, _⟩ => ⟨S1024x4096, .f32⟩
  | .hbm, ⟨1, _⟩ => ⟨S4096x4096, .f32⟩
  | .hbm, ⟨2, _⟩ => ⟨S4096x4096, .bf16⟩
  | .hbm, ⟨3, _⟩ => ⟨S1024x4096, .bf16⟩
  | .hbm, ⟨4, _⟩ => ⟨S1024x4x1024, .bf16⟩
  | .hbm, ⟨5, _⟩ => ⟨S4x1024x1024, .bf16⟩
  | .hbm, ⟨6, _⟩ => ⟨S4096x1024, .f32⟩
  | .local _ .vmem, ⟨0, _⟩ => ⟨S1024x4096, .bf16⟩
  | .local _ .vmem, ⟨1, _⟩ => ⟨S1024x4096, .bf16⟩
  | .local _ .vmem, ⟨2, _⟩ => ⟨S4x1024x1024, .bf16⟩
  | .local _ .vmem, ⟨3, _⟩ => ⟨S1024x1024, .f32⟩
  | .local _ .vmem, ⟨4, _⟩ => ⟨S1024x1024, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefFfUpDxIdeal.lean ====
abbrev S1024x4096 : Shape := ⟨2, ![1024, 4096]⟩
abbrev S4096x4096 : Shape := ⟨2, ![4096, 4096]⟩
abbrev S_ : Shape := ⟨0, ![]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S4096x4096, .f32⟩
  | .hbm, ⟨2, _⟩ => ⟨S_, .f32⟩
  | .hbm, ⟨3, _⟩ => ⟨S4096x1024, .f32⟩
  | .hbm, ⟨4, _⟩ => ⟨S4096x4096, .f32⟩
  | .hbm, ⟨5, _⟩ => ⟨S4096x1024, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== OutDw.lean ====
abbrev S4096x2048 : Shape := ⟨2, ![4096, 2048]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x2048, .bf16⟩
  | .hbm, ⟨3, _⟩ => ⟨S4096x1024, .bf16⟩
  | .hbm, ⟨4, _⟩ => ⟨S2048x1024, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .f32⟩
  | .local _ .vmem, ⟨4, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutDwIdeal.lean ====
abbrev S4096x2048 : Shape := ⟨2, ![4096, 2048]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x2048, .bf16⟩
  | .hbm, ⟨3, _⟩ => ⟨S4096x1024, .bf16⟩
  | .hbm, ⟨4, _⟩ => ⟨S2048x1024, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .f32⟩
  | .local _ .vmem, ⟨4, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefOutDwIdeal.lean ====
abbrev S4096x2048 : Shape := ⟨2, ![4096, 2048]⟩
abbrev S4096x1024 : Shape := ⟨2, ![4096, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S_, .f32⟩
  | .hbm, ⟨3, _⟩ => ⟨S2048x1024, .f32⟩
  | .hbm, ⟨4, _⟩ => ⟨S4096x1024, .f32⟩
  | .hbm, ⟨5, _⟩ => ⟨S1024x2048, .f32⟩
  | .hbm, ⟨6, _⟩ => ⟨S2048x1024, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutDx.lean ====
abbrev S2048x1024 : Shape := ⟨2, ![2048, 1024]⟩
abbrev S4096x1024 : Shape := ⟨2, ![4096, 1024]⟩
abbrev S4096x2048 : Shape := ⟨2, ![4096, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S4096x1024, .f32⟩
  | .hbm, ⟨2, _⟩ => ⟨S4096x1024, .bf16⟩
  | .hbm, ⟨3, _⟩ => ⟨S2048x1024, .bf16⟩
  | .hbm, ⟨4, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutDxIdeal.lean ====
abbrev S2048x1024 : Shape := ⟨2, ![2048, 1024]⟩
abbrev S4096x1024 : Shape := ⟨2, ![4096, 1024]⟩
abbrev S4096x2048 : Shape := ⟨2, ![4096, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S4096x1024, .f32⟩
  | .hbm, ⟨2, _⟩ => ⟨S4096x1024, .bf16⟩
  | .hbm, ⟨3, _⟩ => ⟨S2048x1024, .bf16⟩
  | .hbm, ⟨4, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefOutDxIdeal.lean ====
abbrev S2048x1024 : Shape := ⟨2, ![2048, 1024]⟩
abbrev S4096x1024 : Shape := ⟨2, ![4096, 1024]⟩
abbrev S_ : Shape := ⟨0, ![]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S4096x1024, .f32⟩
  | .hbm, ⟨2, _⟩ => ⟨S_, .f32⟩
  | .hbm, ⟨3, _⟩ => ⟨S4096x2048, .f32⟩
  | .hbm, ⟨4, _⟩ => ⟨S4096x1024, .f32⟩
  | .hbm, ⟨5, _⟩ => ⟨S4096x2048, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== InDw.lean ====
abbrev S4096x1024 : Shape := ⟨2, ![4096, 1024]⟩
abbrev S4096x4608 : Shape := ⟨2, ![4096, 4608]⟩
abbrev S1024x4608 : Shape := ⟨2, ![1024, 4608]⟩
abbrev S4096x768 : Shape := ⟨2, ![4096, 768]⟩
abbrev S1024x768 : Shape := ⟨2, ![1024, 768]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x4608, .f32⟩
  | .hbm, ⟨2, _⟩ => ⟨S4096x1024, .bf16⟩
  | .hbm, ⟨3, _⟩ => ⟨S4096x4608, .bf16⟩
  | .hbm, ⟨4, _⟩ => ⟨S1024x4608, .f32⟩
  | .local _ .vmem, ⟨0, _⟩ => ⟨S4096x1024, .bf16⟩
  | .local _ .vmem, ⟨1, _⟩ => ⟨S4096x768, .bf16⟩
  | .local _ .vmem, ⟨2, _⟩ => ⟨S4096x768, .bf16⟩
  | .local _ .vmem, ⟨3, _⟩ => ⟨S1024x768, .f32⟩
  | .local _ .vmem, ⟨4, _⟩ => ⟨S1024x768, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InDwIdeal.lean ====
abbrev S4096x1024 : Shape := ⟨2, ![4096, 1024]⟩
abbrev S4096x4608 : Shape := ⟨2, ![4096, 4608]⟩
abbrev S1024x4608 : Shape := ⟨2, ![1024, 4608]⟩
abbrev S4096x768 : Shape := ⟨2, ![4096, 768]⟩
abbrev S1024x768 : Shape := ⟨2, ![1024, 768]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x4608, .f32⟩
  | .hbm, ⟨2, _⟩ => ⟨S4096x1024, .bf16⟩
  | .hbm, ⟨3, _⟩ => ⟨S4096x4608, .bf16⟩
  | .hbm, ⟨4, _⟩ => ⟨S1024x4608, .f32⟩
  | .local _ .vmem, ⟨0, _⟩ => ⟨S4096x1024, .bf16⟩
  | .local _ .vmem, ⟨1, _⟩ => ⟨S4096x768, .bf16⟩
  | .local _ .vmem, ⟨2, _⟩ => ⟨S4096x768, .bf16⟩
  | .local _ .vmem, ⟨3, _⟩ => ⟨S1024x768, .f32⟩
  | .local _ .vmem, ⟨4, _⟩ => ⟨S1024x768, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefInDwIdeal.lean ====
abbrev S4096x1024 : Shape := ⟨2, ![4096, 1024]⟩
abbrev S4096x4608 : Shape := ⟨2, ![4096, 4608]⟩
abbrev S_ : Shape := ⟨0, ![]⟩
abbrev S1024x4608 : Shape := ⟨2, ![1024, 4608]⟩
abbrev S4608x1024 : Shape := ⟨2, ![4608, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4608, .f32⟩
  | .hbm, ⟨2, _⟩ => ⟨S_, .f32⟩
  | .hbm, ⟨3, _⟩ => ⟨S1024x4608, .f32⟩
  | .hbm, ⟨4, _⟩ => ⟨S4096x4608, .f32⟩
  | .hbm, ⟨5, _⟩ => ⟨S4608x1024, .f32⟩
  | .hbm, ⟨6, _⟩ => ⟨S1024x4608, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== InDx.lean ====
abbrev S1024x4608 : Shape := ⟨2, ![1024, 4608]⟩
abbrev S4096x4608 : Shape := ⟨2, ![4096, 4608]⟩
abbrev S4096x1024 : Shape := ⟨2, ![4096, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S1024x4608, .f32⟩
  | .hbm, ⟨1, _⟩ => ⟨S4096x4608, .f32⟩
  | .hbm, ⟨2, _⟩ => ⟨S4096x4608, .bf16⟩
  | .hbm, ⟨3, _⟩ => ⟨S1024x4608, .bf16⟩
  | .hbm, ⟨4, _⟩ => ⟨S4096x1024, .f32⟩
  | .local _ .vmem, ⟨0, _⟩ => ⟨S1024x4608, .bf16⟩
  | .local _ .vmem, ⟨1, _⟩ => ⟨S1024x4608, .bf16⟩
  | .local _ .vmem, ⟨2, _⟩ => ⟨S1024x4608, .bf16⟩
  | .local _ .vmem, ⟨3, _⟩ => ⟨S1024x1024, .f32⟩
  | .local _ .vmem, ⟨4, _⟩ => ⟨S1024x1024, .f32⟩
  | _, _ => ⟨S1024x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4608 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x4608 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefInDxIdeal.lean ====
abbrev S1024x4608 : Shape := ⟨2, ![1024, 4608]⟩
abbrev S4096x4608 : Shape := ⟨2, ![4096, 4608]⟩
abbrev S_ : Shape := ⟨0, ![]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1024x4608, .f32⟩
  | .hbm, ⟨1, _⟩ => ⟨S4096x4608, .f32⟩
  | .hbm, ⟨2, _⟩ => ⟨S_, .f32⟩
  | .hbm, ⟨3, _⟩ => ⟨S4096x1024, .f32⟩
  | .hbm, ⟨4, _⟩ => ⟨S4096x4608, .f32⟩
  | .hbm, ⟨5, _⟩ => ⟨S4096x1024, .f32⟩
  | _, _ => ⟨S1024x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== InFwd.lean ====
abbrev S4096x1024 : Shape := ⟨2, ![4096, 1024]⟩
abbrev S1024x4608 : Shape := ⟨2, ![1024, 4608]⟩
abbrev S4096x4608 : Shape := ⟨2, ![4096, 4608]⟩
abbrev S1024x1024 : Shape := ⟨2, ![1024, 1024]⟩
abbrev S1024x1536 : Shape := ⟨2, ![1024, 1536]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x4608, .f32⟩
  | .hbm, ⟨2, _⟩ => ⟨S4096x1024, .bf16⟩
  | .hbm, ⟨3, _⟩ => ⟨S1024x4608, .bf16⟩
  | .hbm, ⟨4, _⟩ => ⟨S4096x4608, .f32⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .f32⟩
  | .local _ .vmem, ⟨5, _⟩ => ⟨S1024x1536, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InFwdIdeal.lean ====
abbrev S4096x1024 : Shape := ⟨2, ![4096, 1024]⟩
abbrev S1024x4608 : Shape := ⟨2, ![1024, 4608]⟩
abbrev S4096x4608 : Shape := ⟨2, ![4096, 4608]⟩
abbrev S1024x1024 : Shape := ⟨2, ![1024, 1024]⟩
abbrev S1024x1536 : Shape := ⟨2, ![1024, 1536]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x4608, .f32⟩
  | .hbm, ⟨2, _⟩ => ⟨S4096x1024, .bf16⟩
  | .hbm, ⟨3, _⟩ => ⟨S1024x4608, .bf16⟩
  | .hbm, ⟨4, _⟩ => ⟨S4096x4608, .f32⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .f32⟩
  | .local _ .vmem, ⟨5, _⟩ => ⟨S1024x1536, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefInFwdIdeal.lean ====
abbrev S4096x1024 : Shape := ⟨2, ![4096, 1024]⟩
abbrev S1024x4608 : Shape := ⟨2, ![1024, 4608]⟩
abbrev S4096x4608 : Shape := ⟨2, ![4096, 4608]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4608, .f32⟩
  | .hbm, ⟨2, _⟩ => ⟨S4096x4608, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== OutFwd.lean ====
abbrev S4096x1024 : Shape := ⟨2, ![4096, 1024]⟩
abbrev S4096x2048 : Shape := ⟨2, ![4096, 2048]⟩
abbrev S2048x1024 : Shape := ⟨2, ![2048, 1024]⟩
abbrev S1024x2048 : Shape := ⟨2, ![1024, 2048]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S2048x1024, .f32⟩
  | .hbm, ⟨3, _⟩ => ⟨S4096x2048, .bf16⟩
  | .hbm, ⟨4, _⟩ => ⟨S2048x1024, .bf16⟩
  | .hbm, ⟨5, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefOutFwdIdeal.lean ====
abbrev S4096x1024 : Shape := ⟨2, ![4096, 1024]⟩
abbrev S4096x2048 : Shape := ⟨2, ![4096, 2048]⟩
abbrev S2048x1024 : Shape := ⟨2, ![2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S2048x1024, .f32⟩
  | .hbm, ⟨3, _⟩ => ⟨S4096x1024, .f32⟩
  | .hbm, ⟨4, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== FfUpFwd.lean ====
abbrev S4096x1024 : Shape := ⟨2, ![4096, 1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S4096x4096 : Shape := ⟨2, ![4096, 4096]⟩
abbrev S1024x1024 : Shape := ⟨2, ![1024, 1024]⟩
abbrev S1x1024x1024 : Shape := ⟨3, ![1, 1024, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .bf16⟩
  | .hbm, ⟨3, _⟩ => ⟨S1024x4096, .bf16⟩
  | .hbm, ⟨4, _⟩ => ⟨S1024x4x1024, .bf16⟩
  | .hbm, ⟨5, _⟩ => ⟨S4x1024x1024, .bf16⟩
  | .hbm, ⟨6, _⟩ => ⟨S4096x4096, .f32⟩
  | .hbm, ⟨7, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefFfUpFwdIdeal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x4096, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== FfDownFwd.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 10
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x1024, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .bf16⟩
  | .hbm, ⟨8, _⟩ => ⟨S4096x1024, .bf16⟩
  | .hbm, ⟨9, _⟩ => ⟨S4096x1024, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefFfDownFwdIdeal.lean ====
abbrev S4096x1024 : Shape := ⟨2, ![4096, 1024]⟩
abbrev S4096x4096 : Shape := ⟨2, ![4096, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x1024, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x1024, .f32⟩
  | .hbm, ⟨8, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩

abbrev nD : Nat := 1
abbrev τ : Topo := Topo.v7x

variable {F : FTy → Type} [FloatOps F]
-- ==== RmsBwd.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RefRmsBwdIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 52
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .bf16⟩
  | .hbm, ⟨51, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== GateBwd.lean ====
abbrev S4096x1024 : Shape := ⟨2, ![4096, 1024]⟩
abbrev S4096x1536 : Shape := ⟨2, ![4096, 1536]⟩
abbrev S4096x4608 : Shape := ⟨2, ![4096, 4608]⟩
abbrev S16 : Shape := ⟨1, ![16]⟩
abbrev S1024 : Shape := ⟨1, ![1024]⟩
abbrev S4096x2048 : Shape := ⟨2, ![4096, 2048]⟩
abbrev S16x64 : Shape := ⟨2, ![16, 64]⟩
abbrev S1x1024 : Shape := ⟨2, ![1, 1024]⟩
abbrev S512x512 : Shape := ⟨2, ![512, 512]⟩
abbrev S1x512 : Shape := ⟨2, ![1, 512]⟩
abbrev S512 : Shape := ⟨1, ![512]⟩
abbrev S512x1 : Shape := ⟨2, ![512, 1]⟩

abbrev nBuf : Space → Nat
  | .hbm => 15
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S4096x1536, .f32⟩
  | .hbm, ⟨2, _⟩ => ⟨S4096x4608, .f32⟩
  | .hbm, ⟨3, _⟩ => ⟨S16, .f32⟩
  | .hbm, ⟨4, _⟩ => ⟨S1024, .f32⟩
  | .hbm, ⟨5, _⟩ => ⟨S4096x2048, .f32⟩
  | .hbm, ⟨6, _⟩ => ⟨S16x64, .f32⟩
  | .hbm, ⟨7, _⟩ => ⟨S1024, .f32⟩
  | .hbm, ⟨8, _⟩ => ⟨S1x1024, .f32⟩
  | .hbm, ⟨9, _⟩ => ⟨S1x1024, .f32⟩
  | .hbm, ⟨10, _⟩ => ⟨S4096x1024, .f32⟩
  | .hbm, ⟨11, _⟩ => ⟨S4096x1024, .f32⟩
  | .hbm, ⟨12, _⟩ => ⟨S4096x1024, .bf16⟩
  | .hbm, ⟨13, _⟩ => ⟨S1x1024, .f32⟩
  | .hbm, ⟨14, _⟩ => ⟨S1x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .bf16⟩
  | .local _ .vmem, ⟨17, _⟩ => ⟨S512x512, .bf16⟩
  | .local _ .vmem, ⟨18, _⟩ => ⟨S1x512, .f32⟩
  | .local _ .vmem, ⟨19, _⟩ => ⟨S1x512, .f32⟩
  | .local _ .vmem, ⟨20, _⟩ => ⟨S1x512, .f32⟩
  | .local _ .vmem, ⟨21, _⟩ => ⟨S1x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== RefGateBwdIdeal.lean ====
abbrev S4096x1024 : Shape := ⟨2, ![4096, 1024]⟩
abbrev S4096x1536 : Shape := ⟨2, ![4096, 1536]⟩
abbrev S4096x4608 : Shape := ⟨2, ![4096, 4608]⟩
abbrev S16 : Shape := ⟨1, ![16]⟩
abbrev S1024 : Shape := ⟨1, ![1024]⟩
abbrev S4096x2048 : Shape := ⟨2, ![4096, 2048]⟩
abbrev S2x2048x1024 : Shape := ⟨3, ![2, 2048, 1024]⟩
abbrev S16x1 : Shape := ⟨2, ![16, 1]⟩
abbrev S16x64 : Shape := ⟨2, ![16, 64]⟩
abbrev S2x2048x16x64 : Shape := ⟨4, ![2, 2048, 16, 64]⟩
abbrev S1x1x16x64 : Shape := ⟨4, ![1, 1, 16, 64]⟩
abbrev S_ : Shape := ⟨0, ![]⟩
abbrev S2x2048x2x512 : Shape := ⟨4, ![2, 2048, 2, 512]⟩
abbrev S2x2048x2 : Shape := ⟨3, ![2, 2048, 2]⟩
abbrev S2x2048x2x1 : Shape := ⟨4, ![2, 2048, 2, 1]⟩
abbrev S1x1x1024 : Shape := ⟨3, ![1, 1, 1024]⟩
abbrev S1x1024 : Shape := ⟨2, ![1, 1024]⟩

abbrev nBuf : Space → Nat
  | .hbm => 104
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1536, .f32⟩
  | .hbm, ⟨2, _⟩ => ⟨S4096x4608, .f32⟩
  | .hbm, ⟨3, _⟩ => ⟨S16, .f32⟩
  | .hbm, ⟨4, _⟩ => ⟨S1024, .f32⟩
  | .hbm, ⟨5, _⟩ => ⟨S4096x2048, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S2x2048x1024, .f32⟩
  | .hbm, ⟨10, _⟩ => ⟨S16x1, .f32⟩
  | .hbm, ⟨11, _⟩ => ⟨S16x64, .f32⟩
  | .hbm, ⟨12, _⟩ => ⟨S2x2048x16x64, .f32⟩
  | .hbm, ⟨13, _⟩ => ⟨S2x2048x16x64, .f32⟩
  | .hbm, ⟨14, _⟩ => ⟨S1x1x16x64, .f32⟩
  | .hbm, ⟨15, _⟩ => ⟨S2x2048x16x64, .f32⟩
  | .hbm, ⟨16, _⟩ => ⟨S2x2048x16x64, .f32⟩
  | .hbm, ⟨17, _⟩ => ⟨S2x2048x16x64, .f32⟩
  | .hbm, ⟨18, _⟩ => ⟨S2x2048x1024, .f32⟩
  | .hbm, ⟨19, _⟩ => ⟨S2x2048x1024, .f32⟩
  | .hbm, ⟨20, _⟩ => ⟨S2x2048x1024, .f32⟩
  | .hbm, ⟨21, _⟩ => ⟨S2x2048x1024, .f32⟩
  | .hbm, ⟨22, _⟩ => ⟨S_, .f32⟩
  | .hbm, ⟨23, _⟩ => ⟨S2x2048x1024, .f32⟩
  | .hbm, ⟨24, _⟩ => ⟨S2x2048x1024, .f32⟩
  | .hbm, ⟨25, _⟩ => ⟨S_, .f32⟩
  | .hbm, ⟨26, _⟩ => ⟨S2x2048x1024, .f32⟩
  | .hbm, ⟨27, _⟩ => ⟨S2x2048x1024, .f32⟩
  | .hbm, ⟨28, _⟩ => ⟨S_, .f32⟩
  | .hbm, ⟨29, _⟩ => ⟨S2x2048x1024, .f32⟩
  | .hbm, ⟨30, _⟩ => ⟨S2x2048x1024, .f32⟩
  | .hbm, ⟨31, _⟩ => ⟨S2x2048x1024, .f32⟩
  | .hbm, ⟨32, _⟩ => ⟨S2x2048x1024, .f32⟩
  | .hbm, ⟨33, _⟩ => ⟨S2x2048x1024, .f32⟩
  | .hbm, ⟨34, _⟩ => ⟨S2x2048x2x512, .f32⟩
  | .hbm, ⟨35, _⟩ => ⟨S2x2048x2x512, .f32⟩
  | .hbm, ⟨36, _⟩ => ⟨S_, .f32⟩
  | .hbm, ⟨37, _⟩ => ⟨S2x2048x2, .f32⟩
  | .hbm, ⟨38, _⟩ => ⟨S2x2048x2x1, .f32⟩
  | .hbm, ⟨39, _⟩ => ⟨S_, .f32⟩
  | .hbm, ⟨40, _⟩ => ⟨S2x2048x2x1, .f32⟩
  | .hbm, ⟨41, _⟩ => ⟨S2x2048x2x1, .f32⟩
  | .hbm, ⟨42, _⟩ => ⟨S_, .f32⟩
  | .hbm, ⟨43, _⟩ => ⟨S2x2048x2x1, .f32⟩
  | .hbm, ⟨44, _⟩ => ⟨S2x2048x2x1, .f32⟩
  | .hbm, ⟨45, _⟩ => ⟨S2x2048x2x1, .f32⟩
  | .hbm, ⟨46, _⟩ => ⟨S2x2048x2x1, .f32⟩
  | .hbm, ⟨47, _⟩ => ⟨S_, .f32⟩
  | .hbm, ⟨48, _⟩ => ⟨S2x2048x2x1, .f32⟩
  | .hbm, ⟨49, _⟩ => ⟨S2x2048x2x1, .f32⟩
  | .hbm, ⟨50, _⟩ => ⟨S2x2048x2x512, .f32⟩
  | .hbm, ⟨51, _⟩ => ⟨S2x2048x2x512, .f32⟩
  | .hbm, ⟨52, _⟩ => ⟨S2x2048x1024, .f32⟩
  | .hbm, ⟨53, _⟩ => ⟨S1x1x1024, .f32⟩
  | .hbm, ⟨54, _⟩ => ⟨S2x2048x1024, .f32⟩
  | .hbm, ⟨55, _⟩ => ⟨S2x2048x1024, .f32⟩
  | .hbm, ⟨56, _⟩ => ⟨S2x2048x1024, .f32⟩
  | .hbm, ⟨57, _⟩ => ⟨S_, .f32⟩
  | .hbm, ⟨58, _⟩ => ⟨S1024, .f32⟩
  | .hbm, ⟨59, _⟩ => ⟨S1x1x1024, .f32⟩
  | .hbm, ⟨60, _⟩ => ⟨S2x2048x1024, .f32⟩
  | .hbm, ⟨61, _⟩ => ⟨S2x2048x1024, .f32⟩
  | .hbm, ⟨62, _⟩ => ⟨S_, .f32⟩
  | .hbm, ⟨63, _⟩ => ⟨S1024, .f32⟩
  | .hbm, ⟨64, _⟩ => ⟨S2x2048x2x512, .f32⟩
  | .hbm, ⟨65, _⟩ => ⟨S2x2048x2x512, .f32⟩
  | .hbm, ⟨66, _⟩ => ⟨S_, .f32⟩
  | .hbm, ⟨67, _⟩ => ⟨S2x2048x2, .f32⟩
  | .hbm, ⟨68, _⟩ => ⟨S2x2048x2x1, .f32⟩
  | .hbm, ⟨69, _⟩ => ⟨S2x2048x2x512, .f32⟩
  | .hbm, ⟨70, _⟩ => ⟨S2x2048x2x512, .f32⟩
  | .hbm, ⟨71, _⟩ => ⟨S2x2048x2x1, .f32⟩
  | .hbm, ⟨72, _⟩ => ⟨S_, .f32⟩
  | .hbm, ⟨73, _⟩ => ⟨S2x2048x2x1, .f32⟩
  | .hbm, ⟨74, _⟩ => ⟨S2x2048x2x1, .f32⟩
  | .hbm, ⟨75, _⟩ => ⟨S_, .f32⟩
  | .hbm, ⟨76, _⟩ => ⟨S2x2048x2, .f32⟩
  | .hbm, ⟨77, _⟩ => ⟨S2x2048x2x512, .f32⟩
  | .hbm, ⟨78, _⟩ => ⟨S2x2048x2x512, .f32⟩
  | .hbm, ⟨79, _⟩ => ⟨S2x2048x2x512, .f32⟩
  | .hbm, ⟨80, _⟩ => ⟨S2x2048x2x512, .f32⟩
  | .hbm, ⟨81, _⟩ => ⟨S2x2048x2x512, .f32⟩
  | .hbm, ⟨82, _⟩ => ⟨S2x2048x1024, .f32⟩
  | .hbm, ⟨83, _⟩ => ⟨S2x2048x1024, .f32⟩
  | .hbm, ⟨84, _⟩ => ⟨S2x2048x1024, .f32⟩
  | .hbm, ⟨85, _⟩ => ⟨S2x2048x1024, .f32⟩
  | .hbm, ⟨86, _⟩ => ⟨S2x2048x1024, .f32⟩
  | .hbm, ⟨87, _⟩ => ⟨S2x2048x1024, .f32⟩
  | .hbm, ⟨88, _⟩ => ⟨S2x2048x1024, .f32⟩
  | .hbm, ⟨89, _⟩ => ⟨S4096x1024, .f32⟩
  | .hbm, ⟨90, _⟩ => ⟨S2x2048x16x64, .f32⟩
  | .hbm, ⟨91, _⟩ => ⟨S2x2048x16x64, .f32⟩
  | .hbm, ⟨92, _⟩ => ⟨S2x2048x16x64, .f32⟩
  | .hbm, ⟨93, _⟩ => ⟨S2x2048x16x64, .f32⟩
  | .hbm, ⟨94, _⟩ => ⟨S_, .f32⟩
  | .hbm, ⟨95, _⟩ => ⟨S16x64, .f32⟩
  | .hbm, ⟨96, _⟩ => ⟨S1x1x16x64, .f32⟩
  | .hbm, ⟨97, _⟩ => ⟨S_, .f32⟩
  | .hbm, ⟨98, _⟩ => ⟨S16x64, .f32⟩
  | .hbm, ⟨99, _⟩ => ⟨S4096x1024, .f32⟩
  | .hbm, ⟨100, _⟩ => ⟨S4096x1024, .f32⟩
  | .hbm, ⟨101, _⟩ => ⟨S4096x1024, .bf16⟩
  | .hbm, ⟨102, _⟩ => ⟨S1x1024, .f32⟩
  | .hbm, ⟨103, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_call0_v0 : Ref sig .tc := ⟨.hbm, 20, rfl⟩
abbrev main_call0_v1 : Ref sig .tc := ⟨.hbm, 21, rfl⟩
abbrev main_call0_cst : Ref sig .tc := ⟨.hbm, 22, rfl⟩
abbrev main_call0_v2 : Ref sig .tc := ⟨.hbm, 23, rfl⟩
abbrev main_call0_v3 : Ref sig .tc := ⟨.hbm, 24, rfl⟩
abbrev main_call0_cst_0 : Ref sig .tc := ⟨.hbm, 25, rfl⟩
abbrev main_call0_v4 : Ref sig .tc := ⟨.hbm, 26, rfl⟩
abbrev main_v14_2 : Ref sig .tc := ⟨.hbm, 27, rfl⟩
abbrev main_call0_cst_1 : Ref sig .tc := ⟨.hbm, 28, rfl⟩
abbrev main_call0_v6 : Ref sig .tc := ⟨.hbm, 29, rfl⟩
abbrev main_call0_v7 : Ref sig .tc := ⟨.hbm, 30, rfl⟩
abbrev main_v14_1 : Ref sig .tc := ⟨.hbm, 31, rfl⟩
abbrev main_v14_0 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst : Ref sig .tc := ⟨.hbm, 36, rfl⟩
abbrev main_v18 : Ref sig .tc := ⟨.hbm, 37, rfl⟩
abbrev main_v19 : Ref sig .tc := ⟨.hbm, 38, rfl⟩
abbrev main_cst_0 : Ref sig .tc := ⟨.hbm, 39, rfl⟩
abbrev main_v20 : Ref sig .tc := ⟨.hbm, 40, rfl⟩
abbrev main_v21 : Ref sig .tc := ⟨.hbm, 41, rfl⟩
abbrev main_cst_1 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_2 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_3 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_4 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_5 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_6 : Ref sig .tc := ⟨.hbm, 72, rfl⟩
abbrev main_v47 : Ref sig .tc := ⟨.hbm, 73, rfl⟩
abbrev main_v48 : Ref sig .tc := ⟨.hbm, 74, rfl⟩
abbrev main_cst_7 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_call1_v0 : Ref sig .tc := ⟨.hbm, 85, rfl⟩
abbrev main_call1_v1 : Ref sig .tc := ⟨.hbm, 86, rfl⟩
abbrev main_call1_v2 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_8 : Ref sig .tc := ⟨.hbm, 94, rfl⟩
abbrev main_v64 : Ref sig .tc := ⟨.hbm, 95, rfl⟩
abbrev main_v65 : Ref sig .tc := ⟨.hbm, 96, rfl⟩
abbrev main_cst_9 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩

abbrev nD : Nat := 1
abbrev τ : Topo := Topo.v7x

variable {F : FTy → Type} [FloatOps F]
-- ==== RmsFwd.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x1024, .f32⟩
  | .hbm, ⟨3, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RefRmsFwdIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== GateFwd.lean ====
abbrev S4096x1024 : Shape := ⟨2, ![4096, 1024]⟩
abbrev S4096x1536 : Shape := ⟨2, ![4096, 1536]⟩
abbrev S4096x4608 : Shape := ⟨2, ![4096, 4608]⟩
abbrev S16 : Shape := ⟨1, ![16]⟩
abbrev S1024 : Shape := ⟨1, ![1024]⟩
abbrev S16x64 : Shape := ⟨2, ![16, 64]⟩
abbrev S1x1024 : Shape := ⟨2, ![1, 1024]⟩
abbrev S512x512 : Shape := ⟨2, ![512, 512]⟩
abbrev S1x512 : Shape := ⟨2, ![1, 512]⟩
abbrev S512 : Shape := ⟨1, ![512]⟩
abbrev S512x1 : Shape := ⟨2, ![512, 1]⟩

abbrev nBuf : Space → Nat
  | .hbm => 10
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x1536, .f32⟩
  | .hbm, ⟨2, _⟩ => ⟨S4096x4608, .f32⟩
  | .hbm, ⟨3, _⟩ => ⟨S16, .f32⟩
  | .hbm, ⟨4, _⟩ => ⟨S1024, .f32⟩
  | .hbm, ⟨5, _⟩ => ⟨S16x64, .f32⟩
  | .hbm, ⟨6, _⟩ => ⟨S1024, .f32⟩
  | .hbm, ⟨7, _⟩ => ⟨S1x1024, .f32⟩
  | .hbm, ⟨8, _⟩ => ⟨S1x1024, .f32⟩
  | .hbm, ⟨9, _⟩ => ⟨S4096x1024, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S512x512, .bf16⟩
  | .local _ .vmem, ⟨11, _⟩ => ⟨S512x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RefGateFwdIdeal.lean ====
abbrev S4096x1024 : Shape := ⟨2, ![4096, 1024]⟩
abbrev S4096x1536 : Shape := ⟨2, ![4096, 1536]⟩
abbrev S4096x4608 : Shape := ⟨2, ![4096, 4608]⟩
abbrev S16 : Shape := ⟨1, ![16]⟩
abbrev S1024 : Shape := ⟨1, ![1024]⟩
abbrev S16x1 : Shape := ⟨2, ![16, 1]⟩
abbrev S2x2048x16x64 : Shape := ⟨4, ![2, 2048, 16, 64]⟩
abbrev S1x1x16x1 : Shape := ⟨4, ![1, 1, 16, 1]⟩
abbrev S2x2048x1024 : Shape := ⟨3, ![2, 2048, 1024]⟩
abbrev S_ : Shape := ⟨0, ![]⟩
abbrev S2x2048x2x512 : Shape := ⟨4, ![2, 2048, 2, 512]⟩
abbrev S2x2048x2 : Shape := ⟨3, ![2, 2048, 2]⟩
abbrev S2x2048x2x1 : Shape := ⟨4, ![2, 2048, 2, 1]⟩
abbrev S1x1x1024 : Shape := ⟨3, ![1, 1, 1024]⟩

abbrev nBuf : Space → Nat
  | .hbm => 46
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1536, .f32⟩
  | .hbm, ⟨2, _⟩ => ⟨S4096x4608, .f32⟩
  | .hbm, ⟨3, _⟩ => ⟨S16, .f32⟩
  | .hbm, ⟨4, _⟩ => ⟨S1024, .f32⟩
  | .hbm, ⟨5, _⟩ => ⟨S4096x1024, .f32⟩
  | .hbm, ⟨6, _⟩ => ⟨S4096x1024, .f32⟩
  | .hbm, ⟨7, _⟩ => ⟨S16x1, .f32⟩
  | .hbm, ⟨8, _⟩ => ⟨S2x2048x16x64, .f32⟩
  | .hbm, ⟨9, _⟩ => ⟨S2x2048x16x64, .f32⟩
  | .hbm, ⟨10, _⟩ => ⟨S1x1x16x1, .f32⟩
  | .hbm, ⟨11, _⟩ => ⟨S2x2048x16x64, .f32⟩
  | .hbm, ⟨12, _⟩ => ⟨S2x2048x16x64, .f32⟩
  | .hbm, ⟨13, _⟩ => ⟨S2x2048x16x64, .f32⟩
  | .hbm, ⟨14, _⟩ => ⟨S2x2048x1024, .f32⟩
  | .hbm, ⟨15, _⟩ => ⟨S2x2048x1024, .f32⟩
  | .hbm, ⟨16, _⟩ => ⟨S2x2048x1024, .f32⟩
  | .hbm, ⟨17, _⟩ => ⟨S2x2048x1024, .f32⟩
  | .hbm, ⟨18, _⟩ => ⟨S_, .f32⟩
  | .hbm, ⟨19, _⟩ => ⟨S2x2048x1024, .f32⟩
  | .hbm, ⟨20, _⟩ => ⟨S2x2048x1024, .f32⟩
  | .hbm, ⟨21, _⟩ => ⟨S_, .f32⟩
  | .hbm, ⟨22, _⟩ => ⟨S2x2048x1024, .f32⟩
  | .hbm, ⟨23, _⟩ => ⟨S2x2048x1024, .f32⟩
  | .hbm, ⟨24, _⟩ => ⟨S2x2048x1024, .f32⟩
  | .hbm, ⟨25, _⟩ => ⟨S2x2048x1024, .f32⟩
  | .hbm, ⟨26, _⟩ => ⟨S2x2048x2x512, .f32⟩
  | .hbm, ⟨27, _⟩ => ⟨S2x2048x2x512, .f32⟩
  | .hbm, ⟨28, _⟩ => ⟨S_, .f32⟩
  | .hbm, ⟨29, _⟩ => ⟨S2x2048x2, .f32⟩
  | .hbm, ⟨30, _⟩ => ⟨S2x2048x2x1, .f32⟩
  | .hbm, ⟨31, _⟩ => ⟨S_, .f32⟩
  | .hbm, ⟨32, _⟩ => ⟨S2x2048x2x1, .f32⟩
  | .hbm, ⟨33, _⟩ => ⟨S2x2048x2x1, .f32⟩
  | .hbm, ⟨34, _⟩ => ⟨S_, .f32⟩
  | .hbm, ⟨35, _⟩ => ⟨S2x2048x2x1, .f32⟩
  | .hbm, ⟨36, _⟩ => ⟨S2x2048x2x1, .f32⟩
  | .hbm, ⟨37, _⟩ => ⟨S2x2048x2x1, .f32⟩
  | .hbm, ⟨38, _⟩ => ⟨S2x2048x2x512, .f32⟩
  | .hbm, ⟨39, _⟩ => ⟨S2x2048x2x512, .f32⟩
  | .hbm, ⟨40, _⟩ => ⟨S2x2048x1024, .f32⟩
  | .hbm, ⟨41, _⟩ => ⟨S1x1x1024, .f32⟩
  | .hbm, ⟨42, _⟩ => ⟨S2x2048x1024, .f32⟩
  | .hbm, ⟨43, _⟩ => ⟨S2x2048x1024, .f32⟩
  | .hbm, ⟨44, _⟩ => ⟨S4096x1024, .f32⟩
  | .hbm, ⟨45, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_cst_0 : Ref sig .tc := ⟨.hbm, 31, rfl⟩
abbrev main_v17 : Ref sig .tc := ⟨.hbm, 32, rfl⟩
abbrev main_v18 : Ref sig .tc := ⟨.hbm, 33, rfl⟩
abbrev main_cst_1 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩

abbrev nD : Nat := 1
abbrev τ : Topo := Topo.v7x

variable {F : FTy → Type} [FloatOps F]
-- ==== LossHead.lean ====
abbrev S4096x1024 : Shape := ⟨2, ![4096, 1024]⟩
abbrev S1024 : Shape := ⟨1, ![1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 8
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S1x1024, .f32⟩
  | .hbm, ⟨4, _⟩ => ⟨S1x128, .f32⟩
  | .hbm, ⟨5, _⟩ => ⟨S4096x1024, .f32⟩
  | .hbm, ⟨6, _⟩ => ⟨S4096x1024, .bf16⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x128, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RefLossHeadIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S1x128, .f32⟩
  | .hbm, ⟨72, _⟩ => ⟨S4096x1024, .bf16⟩
  | .hbm, ⟨73, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== ConvBwd.lean ====
abbrev S4096x4608 : Shape := ⟨2, ![4096, 4608]⟩
abbrev S4x1536 : Shape := ⟨2, ![4, 1536]⟩
abbrev S1536 : Shape := ⟨1, ![1536]⟩
abbrev S4096x1536 : Shape := ⟨2, ![4096, 1536]⟩
abbrev S_ : Shape := ⟨0, ![]⟩
abbrev S32x1536 : Shape := ⟨2, ![32, 1536]⟩
abbrev S1x1536 : Shape := ⟨2, ![1, 1536]⟩
abbrev S2048x128 : Shape := ⟨2, ![2048, 128]⟩
abbrev S32x128 : Shape := ⟨2, ![32, 128]⟩
abbrev S1x128 : Shape := ⟨2, ![1, 128]⟩
abbrev S2080x128 : Shape := ⟨2, ![2080, 128]⟩
abbrev S256x128 : Shape := ⟨2, ![256, 128]⟩
abbrev S128 : Shape := ⟨1, ![128]⟩

abbrev nBuf : Space → Nat
  | .hbm => 11
  | .vmem => 16
  | .smem => 0
  | _ => 0

abbrev bufTy : (tb : Table) → Fin (tcTables nBuf tb) → BufTy
  | .hbm, ⟨0, _⟩ => ⟨S4096x4608, .f32⟩
  | .hbm, ⟨1, _⟩ => ⟨S4x1536, .f32⟩
  | .hbm, ⟨2, _⟩ => ⟨S1536, .f32⟩
  | .hbm, ⟨3, _⟩ => ⟨S4096x1536, .f32⟩
  | .hbm, ⟨4, _⟩ => ⟨S_, .i32⟩
  | .hbm, ⟨5, _⟩ => ⟨S_, .f32⟩
  | .hbm, ⟨6, _⟩ => ⟨S32x1536, .f32⟩
  | .hbm, ⟨7, _⟩ => ⟨S1x1536, .f32⟩
  | .hbm, ⟨8, _⟩ => ⟨S4096x1536, .bf16⟩
  | .hbm, ⟨9, _⟩ => ⟨S32x1536, .f32⟩
  | .hbm, ⟨10, _⟩ => ⟨S1x1536, .f32⟩
  | .local _ .vmem, ⟨0, _⟩ => ⟨S2048x128, .f32⟩
  | .local _ .vmem, ⟨1, _⟩ => ⟨S2048x128, .f32⟩
  | .local _ .vmem, ⟨2, _⟩ => ⟨S32x128, .f32⟩
  | .local _ .vmem, ⟨3, _⟩ => ⟨S32x128, .f32⟩
  | .local _ .vmem, ⟨4, _⟩ => ⟨S1x128, .f32⟩
  | .local _ .vmem, ⟨5, _⟩ => ⟨S1x128, .f32⟩
  | .local _ .vmem, ⟨6, _⟩ => ⟨S2048x128, .f32⟩
  | .local _ .vmem, ⟨7, _⟩ => ⟨S2048x128, .f32⟩
  | .local _ .vmem, ⟨8, _⟩ => ⟨S2048x128, .bf16⟩
  | .local _ .vmem, ⟨9, _⟩ => ⟨S2048x128, .bf16⟩
  | .local _ .vmem, ⟨10, _⟩ => ⟨S32x128, .f32⟩
  | .local _ .vmem, ⟨11, _⟩ => ⟨S32x128, .f32⟩
  | .local _ .vmem, ⟨12, _⟩ => ⟨S1x128, .f32⟩
  | .local _ .vmem, ⟨13, _⟩ => ⟨S1x128, .f32⟩
  | .local _ .vmem, ⟨14, _⟩ => ⟨S2080x128, .f32⟩
  | .local _ .vmem, ⟨15, _⟩ => ⟨S2080x128, .f32⟩
  | _, _ => ⟨S4096x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![12, 2], ![false, false]⟩

def cc0_transform_0 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== RefConvBwdIdeal.lean ====
abbrev S4096x4608 : Shape := ⟨2, ![4096, 4608]⟩
abbrev S4x1536 : Shape := ⟨2, ![4, 1536]⟩
abbrev S1536 : Shape := ⟨1, ![1536]⟩
abbrev S4096x1536 : Shape := ⟨2, ![4096, 1536]⟩
abbrev S2x2048x1536 : Shape := ⟨3, ![2, 2048, 1536]⟩
abbrev S_ : Shape := ⟨0, ![]⟩
abbrev S2x3x1536 : Shape := ⟨3, ![2, 3, 1536]⟩
abbrev S2x2051x1536 : Shape := ⟨3, ![2, 2051, 1536]⟩
abbrev S1x1536 : Shape := ⟨2, ![1, 1536]⟩
abbrev S1x1x1536 : Shape := ⟨3, ![1, 1, 1536]⟩
abbrev S32x1536 : Shape := ⟨2, ![32, 1536]⟩

abbrev nBuf : Space → Nat
  | .hbm => 134
  | .vmem => 0
  | .smem => 0
  | _ => 0

abbrev hbmTy0_0 (i : Nat) : BufTy := match i % 128 with
  | 0 => ⟨S4096x4608, .f32⟩
  | 1 => ⟨S4x1536, .f32⟩
  | 2 => ⟨S1536, .f32⟩
  | 3 => ⟨S4096x1536, .f32⟩
  | 4 => ⟨S4096x1536, .f32⟩
  | 5 => ⟨S2x2048x1536, .f32⟩
  | 6 => ⟨S_, .f32⟩
  | 7 => ⟨S2x3x1536, .f32⟩
  | 8 => ⟨S2x2051x1536, .f32⟩
  | 9 => ⟨S_, .f32⟩
  | 10 => ⟨S2x3x1536, .f32⟩
  | 11 => ⟨S1x1536, .f32⟩
  | 12 => ⟨S1536, .f32⟩
  | 13 => ⟨S2x2048x1536, .f32⟩
  | 14 => ⟨S1x1x1536, .f32⟩
  | 15 => ⟨S2x2048x1536, .f32⟩
  | 16 => ⟨S2x2048x1536, .f32⟩
  | 17 => ⟨S_, .f32⟩
  | 18 => ⟨S2x2048x1536, .f32⟩
  | 19 => ⟨S2x2048x1536, .f32⟩
  | 20 => ⟨S1x1536, .f32⟩
  | 21 => ⟨S1536, .f32⟩
  | 22 => ⟨S2x2048x1536, .f32⟩
  | 23 => ⟨S1x1x1536, .f32⟩
  | 24 => ⟨S2x2048x1536, .f32⟩
  | 25 => ⟨S2x2048x1536, .f32⟩
  | 26 => ⟨S2x2048x1536, .f32⟩
  | 27 => ⟨S1x1536, .f32⟩
  | 28 => ⟨S1536, .f32⟩
  | 29 => ⟨S2x2048x1536, .f32⟩
  | 30 => ⟨S1x1x1536, .f32⟩
  | 31 => ⟨S2x2048x1536, .f32⟩
  | 32 => ⟨S2x2048x1536, .f32⟩
  | 33 => ⟨S2x2048x1536, .f32⟩
  | 34 => ⟨S1x1536, .f32⟩
  | 35 => ⟨S1536, .f32⟩
  | 36 => ⟨S2x2048x1536, .f32⟩
  | 37 => ⟨S1x1x1536, .f32⟩
  | 38 => ⟨S2x2048x1536, .f32⟩
  | 39 => ⟨S2x2048x1536, .f32⟩
  | 40 => ⟨S2x2048x1536, .f32⟩
  | 41 => ⟨S1x1x1536, .f32⟩
  | 42 => ⟨S2x2048x1536, .f32⟩
  | 43 => ⟨S2x2048x1536, .f32⟩
  | 44 => ⟨S2x2048x1536, .f32⟩
  | 45 => ⟨S2x2048x1536, .f32⟩
  | 46 => ⟨S_, .f32⟩
  | 47 => ⟨S2x2048x1536, .f32⟩
  | 48 => ⟨S2x2048x1536, .f32⟩
  | 49 => ⟨S_, .f32⟩
  | 50 => ⟨S2x2048x1536, .f32⟩
  | 51 => ⟨S2x2048x1536, .f32⟩
  | 52 => ⟨S_, .f32⟩
  | 53 => ⟨S2x2048x1536, .f32⟩
  | 54 => ⟨S2x2048x1536, .f32⟩
  | 55 => ⟨S2x2048x1536, .f32⟩
  | 56 => ⟨S2x2048x1536, .f32⟩
  | 57 => ⟨S4096x1536, .f32⟩
  | 58 => ⟨S2x2048x1536, .f32⟩
  | 59 => ⟨S2x2048x1536, .f32⟩
  | 60 => ⟨S2x2048x1536, .f32⟩
  | 61 => ⟨S2x2048x1536, .f32⟩
  | 62 => ⟨S2x2048x1536, .f32⟩
  | 63 => ⟨S_, .f32⟩
  | 64 => ⟨S1536, .f32⟩
  | 65 => ⟨S1x1x1536, .f32⟩
  | 66 => ⟨S_, .f32⟩
  | 67 => ⟨S1536, .f32⟩
  | 68 => ⟨S2x2048x1536, .f32⟩
  | 69 => ⟨S2x2048x1536, .f32⟩
  | 70 => ⟨S2x2048x1536, .f32⟩
  | 71 => ⟨S_, .f32⟩
  | 72 => ⟨S1536, .f32⟩
  | 73 => ⟨S1x1x1536, .f32⟩
  | 74 => ⟨S_, .f32⟩
  | 75 => ⟨S1536, .f32⟩
  | 76 => ⟨S_, .f32⟩
  | 77 => ⟨S2x2051x1536, .f32⟩
  | 78 => ⟨S1x1536, .f32⟩
  | 79 => ⟨S_, .f32⟩
  | 80 => ⟨S4x1536, .f32⟩
  | 81 => ⟨S2x2048x1536, .f32⟩
  | 82 => ⟨S2x2048x1536, .f32⟩
  | 83 => ⟨S2x2048x1536, .f32⟩
  | 84 => ⟨S_, .f32⟩
  | 85 => ⟨S1536, .f32⟩
  | 86 => ⟨S1x1x1536, .f32⟩
  | 87 => ⟨S_, .f32⟩
  | 88 => ⟨S1536, .f32⟩
  | 89 => ⟨S_, .f32⟩
  | 90 => ⟨S2x2051x1536, .f32⟩
  | 91 => ⟨S2x2051x1536, .f32⟩
  | 92 => ⟨S1x1536, .f32⟩
  | 93 => ⟨S_, .f32⟩
  | 94 => ⟨S4x1536, .f32⟩
  | 95 => ⟨S4x1536, .f32⟩
  | 96 => ⟨S2x2048x1536, .f32⟩
  | 97 => ⟨S2x2048x1536, .f32⟩
  | 98 => ⟨S2x2048x1536, .f32⟩
  | 99 => ⟨S_, .f32⟩
  | 100 => ⟨S1536, .f32⟩
  | 101 => ⟨S1x1x1536, .f32⟩
  | 102 => ⟨S_, .f32⟩
  | 103 => ⟨S1536, .f32⟩
  | 104 => ⟨S_, .f32⟩
  | 105 => ⟨S2x2051x1536, .f32⟩
  | 106 => ⟨S2x2051x1536, .f32⟩
  | 107 => ⟨S1x1536, .f32⟩
  | 108 => ⟨S_, .f32⟩
  | 109 => ⟨S4x1536, .f32⟩
  | 110 => ⟨S4x1536, .f32⟩
  | 111 => ⟨S2x2048x1536, .f32⟩
  | 112 => ⟨S2x2048x1536, .f32⟩
  | 113 => ⟨S2x2048x1536, .f32⟩
  | 114 => ⟨S_, .f32⟩
  | 115 => ⟨S1536, .f32⟩
  | 116 => ⟨S1x1x1536, .f32⟩
  | 117 => ⟨S_, .f32⟩
  | 118 => ⟨S1536, .f32⟩
  | 119 => ⟨S_, .f32⟩
  | 120 => ⟨S2x2051x1536, .f32⟩
  | 121 => ⟨S2x2051x1536, .f32⟩
  | 122 => ⟨S1x1536, .f32⟩
  | 123 => ⟨S_, .f32⟩
  | 124 => ⟨S4x1536, .f32⟩
  | 125 => ⟨S4x1536, .f32⟩
  | 126 => ⟨S2x3x1536, .f32⟩
  | 127 => ⟨S2x2048x1536, .f32⟩
  | _ => ⟨S4096x4608, .f32⟩

abbrev hbmTy0_1 (i : Nat) : BufTy := match i % 128 with
  | 0 => ⟨S4096x1536, .f32⟩
  | 1 => ⟨S4096x1536, .bf16⟩
  | 2 => ⟨S_, .i32⟩
  | 3 => ⟨S_, .f32⟩
  | 4 => ⟨S32x1536, .f32⟩
  | 5 => ⟨S1x1536, .f32⟩
  | _ => ⟨S4096x4608, .f32⟩

abbrev hbmTy (i : Nat) : BufTy := match i / 128 with
  | 0 => hbmTy0_0 i
  | 1 => hbmTy0_1 i
  | _ => ⟨S4096x4608, .f32⟩

abbrev bufTy : (tb : Table) → Fin (tcTables nBuf tb) → BufTy
  | .hbm, ⟨i, _⟩ => hbmTy i
  | _, _ => ⟨S4096x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_v37_2 : Ref sig .tc := ⟨.hbm, 51, rfl⟩
abbrev main_call0_cst_1 : Ref sig .tc := ⟨.hbm, 52, rfl⟩
abbrev main_call0_v6 : Ref sig .tc := ⟨.hbm, 53, rfl⟩
abbrev main_call0_v7 : Ref sig .tc := ⟨.hbm, 54, rfl⟩
abbrev main_v37_1 : Ref sig .tc := ⟨.hbm, 55, rfl⟩
abbrev main_v37_0 : Ref sig .tc := ⟨.hbm, 56, rfl⟩
abbrev main_v38 : Ref sig .tc := ⟨.hbm, 57, rfl⟩
abbrev main_v39 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v40 : Ref sig .tc := ⟨.hbm, 62, rfl⟩
abbrev main_cst_2 : Ref sig .tc := ⟨.hbm, 63, rfl⟩
abbrev main_v41 : Ref sig .tc := ⟨.hbm, 64, rfl⟩
abbrev main_v42 : Ref sig .tc := ⟨.hbm, 65, rfl⟩
abbrev main_cst_3 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_4 : Ref sig .tc := ⟨.hbm, 71, rfl⟩
abbrev main_v47 : Ref sig .tc := ⟨.hbm, 72, rfl⟩
abbrev main_v48 : Ref sig .tc := ⟨.hbm, 73, rfl⟩
abbrev main_cst_5 : Ref sig .tc := ⟨.hbm, 74, rfl⟩
abbrev main_v49 : Ref sig .tc := ⟨.hbm, 75, rfl⟩
abbrev main_cst_6 : Ref sig .tc := ⟨.hbm, 76, rfl⟩
abbrev main_v50 : Ref sig .tc := ⟨.hbm, 77, rfl⟩
abbrev main_v51 : Ref sig .tc := ⟨.hbm, 78, rfl⟩
abbrev main_cst_7 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_8 : Ref sig .tc := ⟨.hbm, 84, rfl⟩
abbrev main_v56 : Ref sig .tc := ⟨.hbm, 85, rfl⟩
abbrev main_v57 : Ref sig .tc := ⟨.hbm, 86, rfl⟩
abbrev main_cst_9 : Ref sig .tc := ⟨.hbm, 87, rfl⟩
abbrev main_v58 : Ref sig .tc := ⟨.hbm, 88, rfl⟩
abbrev main_cst_10 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_11 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_12 : Ref sig .tc := ⟨.hbm, 99, rfl⟩
abbrev main_v67 : Ref sig .tc := ⟨.hbm, 100, rfl⟩
abbrev main_v68 : Ref sig .tc := ⟨.hbm, 101, rfl⟩
abbrev main_cst_13 : Ref sig .tc := ⟨.hbm, 102, rfl⟩
abbrev main_v69 : Ref sig .tc := ⟨.hbm, 103, rfl⟩
abbrev main_cst_14 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_cst_15 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_cst_16 : Ref sig .tc := ⟨.hbm, 114, rfl⟩
abbrev main_v78 : Ref sig .tc := ⟨.hbm, 115, rfl⟩
abbrev main_v79 : Ref sig .tc := ⟨.hbm, 116, rfl⟩
abbrev main_cst_17 : Ref sig .tc := ⟨.hbm, 117, rfl⟩
abbrev main_v80 : Ref sig .tc := ⟨.hbm, 118, rfl⟩
abbrev main_cst_18 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_cst_19 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_c : Ref sig .tc := ⟨.hbm, 130, rfl⟩
abbrev main_call2_v0 : Ref sig .tc := ⟨.hbm, 131, rfl⟩
abbrev main_v90 : Ref sig .tc := ⟨.hbm, 132, rfl⟩
abbrev main_v91 : Ref sig .tc := ⟨.hbm, 133, rfl⟩

abbrev nD : Nat := 1
abbrev τ : Topo := Topo.v7x

variable {F : FTy → Type} [FloatOps F]
-- ==== ConvFwd.lean ====
abbrev S4096x4608 : Shape := ⟨2, ![4096, 4608]⟩
abbrev S4x1536 : Shape := ⟨2, ![4, 1536]⟩
abbrev S1536 : Shape := ⟨1, ![1536]⟩
abbrev S_ : Shape := ⟨0, ![]⟩
abbrev S32x1536 : Shape := ⟨2, ![32, 1536]⟩
abbrev S1x1536 : Shape := ⟨2, ![1, 1536]⟩
abbrev S4096x1536 : Shape := ⟨2, ![4096, 1536]⟩
abbrev S2048x128 : Shape := ⟨2, ![2048, 128]⟩
abbrev S32x128 : Shape := ⟨2, ![32, 128]⟩
abbrev S1x128 : Shape := ⟨2, ![1, 128]⟩
abbrev S2080x128 : Shape := ⟨2, ![2080, 128]⟩
abbrev S256x128 : Shape := ⟨2, ![256, 128]⟩

abbrev nBuf : Space → Nat
  | .hbm => 8
  | .vmem => 9
  | .smem => 0
  | _ => 0

abbrev bufTy : (tb : Table) → Fin (tcTables nBuf tb) → BufTy
  | .hbm, ⟨0, _⟩ => ⟨S4096x4608, .f32⟩
  | .hbm, ⟨1, _⟩ => ⟨S4x1536, .f32⟩
  | .hbm, ⟨2, _⟩ => ⟨S1536, .f32⟩
  | .hbm, ⟨3, _⟩ => ⟨S_, .i32⟩
  | .hbm, ⟨4, _⟩ => ⟨S_, .f32⟩
  | .hbm, ⟨5, _⟩ => ⟨S32x1536, .f32⟩
  | .hbm, ⟨6, _⟩ => ⟨S1x1536, .f32⟩
  | .hbm, ⟨7, _⟩ => ⟨S4096x1536, .f32⟩
  | .local _ .vmem, ⟨0, _⟩ => ⟨S2048x128, .f32⟩
  | .local _ .vmem, ⟨1, _⟩ => ⟨S2048x128, .f32⟩
  | .local _ .vmem, ⟨2, _⟩ => ⟨S32x128, .f32⟩
  | .local _ .vmem, ⟨3, _⟩ => ⟨S32x128, .f32⟩
  | .local _ .vmem, ⟨4, _⟩ => ⟨S1x128, .f32⟩
  | .local _ .vmem, ⟨5, _⟩ => ⟨S1x128, .f32⟩
  | .local _ .vmem, ⟨6, _⟩ => ⟨S2048x128, .f32⟩
  | .local _ .vmem, ⟨7, _⟩ => ⟨S2048x128, .f32⟩
  | .local _ .vmem, ⟨8, _⟩ => ⟨S2080x128, .f32⟩
  | _, _ => ⟨S4096x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 12], ![false, false]⟩

def cc0_transform_0 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefConvFwdIdeal.lean ====
abbrev S4096x4608 : Shape := ⟨2, ![4096, 4608]⟩
abbrev S4x1536 : Shape := ⟨2, ![4, 1536]⟩
abbrev S1536 : Shape := ⟨1, ![1536]⟩
abbrev S4096x1536 : Shape := ⟨2, ![4096, 1536]⟩
abbrev S2x2048x1536 : Shape := ⟨3, ![2, 2048, 1536]⟩
abbrev S_ : Shape := ⟨0, ![]⟩
abbrev S2x3x1536 : Shape := ⟨3, ![2, 3, 1536]⟩
abbrev S2x2051x1536 : Shape := ⟨3, ![2, 2051, 1536]⟩
abbrev S1x1536 : Shape := ⟨2, ![1, 1536]⟩
abbrev S1x1x1536 : Shape := ⟨3, ![1, 1, 1536]⟩

abbrev nBuf : Space → Nat
  | .hbm => 51
  | .vmem => 0
  | .smem => 0
  | _ => 0

abbrev bufTy : (tb : Table) → Fin (tcTables nBuf tb) → BufTy
  | .hbm, ⟨0, _⟩ => ⟨S4096x4608, .f32⟩
  | .hbm, ⟨1, _⟩ => ⟨S4x1536, .f32⟩
  | .hbm, ⟨2, _⟩ => ⟨S1536, .f32⟩
  | .hbm, ⟨3, _⟩ => ⟨S4096x1536, .f32⟩
  | .hbm, ⟨4, _⟩ => ⟨S2x2048x1536, .f32⟩
  | .hbm, ⟨5, _⟩ => ⟨S_, .f32⟩
  | .hbm, ⟨6, _⟩ => ⟨S2x3x1536, .f32⟩
  | .hbm, ⟨7, _⟩ => ⟨S2x2051x1536, .f32⟩
  | .hbm, ⟨8, _⟩ => ⟨S1x1536, .f32⟩
  | .hbm, ⟨9, _⟩ => ⟨S1536, .f32⟩
  | .hbm, ⟨10, _⟩ => ⟨S2x2048x1536, .f32⟩
  | .hbm, ⟨11, _⟩ => ⟨S1x1x1536, .f32⟩
  | .hbm, ⟨12, _⟩ => ⟨S2x2048x1536, .f32⟩
  | .hbm, ⟨13, _⟩ => ⟨S2x2048x1536, .f32⟩
  | .hbm, ⟨14, _⟩ => ⟨S_, .f32⟩
  | .hbm, ⟨15, _⟩ => ⟨S2x2048x1536, .f32⟩
  | .hbm, ⟨16, _⟩ => ⟨S2x2048x1536, .f32⟩
  | .hbm, ⟨17, _⟩ => ⟨S1x1536, .f32⟩
  | .hbm, ⟨18, _⟩ => ⟨S1536, .f32⟩
  | .hbm, ⟨19, _⟩ => ⟨S2x2048x1536, .f32⟩
  | .hbm, ⟨20, _⟩ => ⟨S1x1x1536, .f32⟩
  | .hbm, ⟨21, _⟩ => ⟨S2x2048x1536, .f32⟩
  | .hbm, ⟨22, _⟩ => ⟨S2x2048x1536, .f32⟩
  | .hbm, ⟨23, _⟩ => ⟨S2x2048x1536, .f32⟩
  | .hbm, ⟨24, _⟩ => ⟨S1x1536, .f32⟩
  | .hbm, ⟨25, _⟩ => ⟨S1536, .f32⟩
  | .hbm, ⟨26, _⟩ => ⟨S2x2048x1536, .f32⟩
  | .hbm, ⟨27, _⟩ => ⟨S1x1x1536, .f32⟩
  | .hbm, ⟨28, _⟩ => ⟨S2x2048x1536, .f32⟩
  | .hbm, ⟨29, _⟩ => ⟨S2x2048x1536, .f32⟩
  | .hbm, ⟨30, _⟩ => ⟨S2x2048x1536, .f32⟩
  | .hbm, ⟨31, _⟩ => ⟨S1x1536, .f32⟩
  | .hbm, ⟨32, _⟩ => ⟨S1536, .f32⟩
  | .hbm, ⟨33, _⟩ => ⟨S2x2048x1536, .f32⟩
  | .hbm, ⟨34, _⟩ => ⟨S1x1x1536, .f32⟩
  | .hbm, ⟨35, _⟩ => ⟨S2x2048x1536, .f32⟩
  | .hbm, ⟨36, _⟩ => ⟨S2x2048x1536, .f32⟩
  | .hbm, ⟨37, _⟩ => ⟨S2x2048x1536, .f32⟩
  | .hbm, ⟨38, _⟩ => ⟨S1x1x1536, .f32⟩
  | .hbm, ⟨39, _⟩ => ⟨S2x2048x1536, .f32⟩
  | .hbm, ⟨40, _⟩ => ⟨S2x2048x1536, .f32⟩
  | .hbm, ⟨41, _⟩ => ⟨S2x2048x1536, .f32⟩
  | .hbm, ⟨42, _⟩ => ⟨S2x2048x1536, .f32⟩
  | .hbm, ⟨43, _⟩ => ⟨S_, .f32⟩
  | .hbm, ⟨44, _⟩ => ⟨S2x2048x1536, .f32⟩
  | .hbm, ⟨45, _⟩ => ⟨S2x2048x1536, .f32⟩
  | .hbm, ⟨46, _⟩ => ⟨S_, .f32⟩
  | .hbm, ⟨47, _⟩ => ⟨S2x2048x1536, .f32⟩
  | .hbm, ⟨48, _⟩ => ⟨S2x2048x1536, .f32⟩
  | .hbm, ⟨49, _⟩ => ⟨S2x2048x1536, .f32⟩
  | .hbm, ⟨50, _⟩ => ⟨S4096x1536, .f32⟩
  | _, _ => ⟨S4096x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== InDtDw.lean ====
abbrev S4096x1024 : Shape := ⟨2, ![4096, 1024]⟩
abbrev S4096x256 : Shape := ⟨2, ![4096, 256]⟩
abbrev S1024x256 : Shape := ⟨2, ![1024, 256]⟩

abbrev nBuf : Space → Nat
  | .hbm => 5
  | .vmem => 3
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S4096x1024, .bf16⟩
  | .hbm, ⟨3, _⟩ => ⟨S4096x256, .bf16⟩
  | .hbm, ⟨4, _⟩ => ⟨S1024x256, .f32⟩
  | .local _ .vmem, ⟨0, _⟩ => ⟨S4096x1024, .bf16⟩
  | .local _ .vmem, ⟨1, _⟩ => ⟨S4096x256, .bf16⟩
  | .local _ .vmem, ⟨2, _⟩ => ⟨S1024x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== RefInDtDwIdeal.lean ====
abbrev S4096x1024 : Shape := ⟨2, ![4096, 1024]⟩
abbrev S4096x256 : Shape := ⟨2, ![4096, 256]⟩
abbrev S_ : Shape := ⟨0, ![]⟩
abbrev S1024x256 : Shape := ⟨2, ![1024, 256]⟩
abbrev S256x1024 : Shape := ⟨2, ![256, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S_, .f32⟩
  | .hbm, ⟨3, _⟩ => ⟨S1024x256, .f32⟩
  | .hbm, ⟨4, _⟩ => ⟨S4096x256, .f32⟩
  | .hbm, ⟨5, _⟩ => ⟨S256x1024, .f32⟩
  | .hbm, ⟨6, _⟩ => ⟨S1024x256, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== InDtDx.lean ====
abbrev S4096x1024 : Shape := ⟨2, ![4096, 1024]⟩
abbrev S1024x256 : Shape := ⟨2, ![1024, 256]⟩
abbrev S4096x256 : Shape := ⟨2, ![4096, 256]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x256, .f32⟩
  | .hbm, ⟨2, _⟩ => ⟨S4096x256, .f32⟩
  | .hbm, ⟨3, _⟩ => ⟨S4096x256, .bf16⟩
  | .hbm, ⟨4, _⟩ => ⟨S1024x256, .bf16⟩
  | .hbm, ⟨5, _⟩ => ⟨S4096x1024, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefInDtDxIdeal.lean ====
abbrev S4096x1024 : Shape := ⟨2, ![4096, 1024]⟩
abbrev S1024x256 : Shape := ⟨2, ![1024, 256]⟩
abbrev S4096x256 : Shape := ⟨2, ![4096, 256]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x256, .f32⟩
  | .hbm, ⟨2, _⟩ => ⟨S4096x256, .f32⟩
  | .hbm, ⟨3, _⟩ => ⟨S_, .f32⟩
  | .hbm, ⟨4, _⟩ => ⟨S4096x1024, .f32⟩
  | .hbm, ⟨5, _⟩ => ⟨S4096x256, .f32⟩
  | .hbm, ⟨6, _⟩ => ⟨S4096x1024, .f32⟩
  | .hbm, ⟨7, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== InDtFwd.lean ====
abbrev S4096x1024 : Shape := ⟨2, ![4096, 1024]⟩
abbrev S1024x256 : Shape := ⟨2, ![1024, 256]⟩
abbrev S4096x256 : Shape := ⟨2, ![4096, 256]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x256, .f32⟩
  | .hbm, ⟨2, _⟩ => ⟨S4096x1024, .bf16⟩
  | .hbm, ⟨3, _⟩ => ⟨S1024x256, .bf16⟩
  | .hbm, ⟨4, _⟩ => ⟨S4096x256, .f32⟩
  | .local _ .vmem, ⟨0, _⟩ => ⟨S1024x1024, .bf16⟩
  | .local _ .vmem, ⟨1, _⟩ => ⟨S1024x1024, .bf16⟩
  | .local _ .vmem, ⟨2, _⟩ => ⟨S1024x256, .bf16⟩
  | .local _ .vmem, ⟨3, _⟩ => ⟨S1024x256, .f32⟩
  | .local _ .vmem, ⟨4, _⟩ => ⟨S1024x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefInDtFwdIdeal.lean ====
abbrev S4096x1024 : Shape := ⟨2, ![4096, 1024]⟩
abbrev S1024x256 : Shape := ⟨2, ![1024, 256]⟩
abbrev S4096x256 : Shape := ⟨2, ![4096, 256]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x256, .f32⟩
  | .hbm, ⟨2, _⟩ => ⟨S4096x256, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== AdamFf.lean ====
abbrev S4x1024x1024 : Shape := ⟨3, ![4, 1024, 1024]⟩
abbrev S4096x1024 : Shape := ⟨2, ![4096, 1024]⟩
abbrev S512x1024 : Shape := ⟨2, ![512, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x1024, .f32⟩
  | .hbm, ⟨1, _⟩ => ⟨S4x1024x1024, .f32⟩
  | .hbm, ⟨2, _⟩ => ⟨S4x1024x1024, .f32⟩
  | .hbm, ⟨3, _⟩ => ⟨S4x1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamFfIdeal.lean ====
abbrev S4x1024x1024 : Shape := ⟨3, ![4, 1024, 1024]⟩
abbrev S4096x1024 : Shape := ⟨2, ![4096, 1024]⟩
abbrev S512x1024 : Shape := ⟨2, ![512, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x1024, .f32⟩
  | .hbm, ⟨1, _⟩ => ⟨S4x1024x1024, .f32⟩
  | .hbm, ⟨2, _⟩ => ⟨S4x1024x1024, .f32⟩
  | .hbm, ⟨3, _⟩ => ⟨S4x1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RefAdamFfIdeal.lean ====
abbrev S4x1024x1024 : Shape := ⟨3, ![4, 1024, 1024]⟩
abbrev S_ : Shape := ⟨0, ![]⟩
abbrev S4096x1024 : Shape := ⟨2, ![4096, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x1024, .f32⟩
  | .hbm, ⟨1, _⟩ => ⟨S4x1024x1024, .f32⟩
  | .hbm, ⟨2, _⟩ => ⟨S4x1024x1024, .f32⟩
  | .hbm, ⟨3, _⟩ => ⟨S4x1024x1024, .f32⟩
  | .hbm, ⟨4, _⟩ => ⟨S_, .f32⟩
  | .hbm, ⟨5, _⟩ => ⟨S4x1024x1024, .f32⟩
  | .hbm, ⟨6, _⟩ => ⟨S4x1024x1024, .f32⟩
  | .hbm, ⟨7, _⟩ => ⟨S_, .f32⟩
  | .hbm, ⟨8, _⟩ => ⟨S4x1024x1024, .f32⟩
  | .hbm, ⟨9, _⟩ => ⟨S4x1024x1024, .f32⟩
  | .hbm, ⟨10, _⟩ => ⟨S4x1024x1024, .f32⟩
  | .hbm, ⟨11, _⟩ => ⟨S_, .f32⟩
  | .hbm, ⟨12, _⟩ => ⟨S4x1024x1024, .f32⟩
  | .hbm, ⟨13, _⟩ => ⟨S4x1024x1024, .f32⟩
  | .hbm, ⟨14, _⟩ => ⟨S4x1024x1024, .f32⟩
  | .hbm, ⟨15, _⟩ => ⟨S_, .f32⟩
  | .hbm, ⟨16, _⟩ => ⟨S4x1024x1024, .f32⟩
  | .hbm, ⟨17, _⟩ => ⟨S4x1024x1024, .f32⟩
  | .hbm, ⟨18, _⟩ => ⟨S4x1024x1024, .f32⟩
  | .hbm, ⟨19, _⟩ => ⟨S_, .f32⟩
  | .hbm, ⟨20, _⟩ => ⟨S4x1024x1024, .f32⟩
  | .hbm, ⟨21, _⟩ => ⟨S4x1024x1024, .f32⟩
  | .hbm, ⟨22, _⟩ => ⟨S_, .f32⟩
  | .hbm, ⟨23, _⟩ => ⟨S4x1024x1024, .f32⟩
  | .hbm, ⟨24, _⟩ => ⟨S4x1024x1024, .f32⟩
  | .hbm, ⟨25, _⟩ => ⟨S4x1024x1024, .f32⟩
  | .hbm, ⟨26, _⟩ => ⟨S_, .f32⟩
  | .hbm, ⟨27, _⟩ => ⟨S4x1024x1024, .f32⟩
  | .hbm, ⟨28, _⟩ => ⟨S4x1024x1024, .f32⟩
  | .hbm, ⟨29, _⟩ => ⟨S4x1024x1024, .f32⟩
  | .hbm, ⟨30, _⟩ => ⟨S_, .f32⟩
  | .hbm, ⟨31, _⟩ => ⟨S4x1024x1024, .f32⟩
  | .hbm, ⟨32, _⟩ => ⟨S4x1024x1024, .f32⟩
  | .hbm, ⟨33, _⟩ => ⟨S4x1024x1024, .f32⟩
  | .hbm, ⟨34, _⟩ => ⟨S_, .f32⟩
  | .hbm, ⟨35, _⟩ => ⟨S4x1024x1024, .f32⟩
  | .hbm, ⟨36, _⟩ => ⟨S4x1024x1024, .f32⟩
  | .hbm, ⟨37, _⟩ => ⟨S4096x1024, .f32⟩
  | .hbm, ⟨38, _⟩ => ⟨S4096x1024, .f32⟩
  | .hbm, ⟨39, _⟩ => ⟨S4096x1024, .f32⟩
  | _, _ => ⟨S4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamOut.lean ====
abbrev S4x512x1024 : Shape := ⟨3, ![4, 512, 1024]⟩
abbrev S2048x1024 : Shape := ⟨2, ![2048, 1024]⟩
abbrev S512x1024 : Shape := ⟨2, ![512, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x512x1024, .f32⟩
  | .hbm, ⟨1, _⟩ => ⟨S4x512x1024, .f32⟩
  | .hbm, ⟨2, _⟩ => ⟨S4x512x1024, .f32⟩
  | .hbm, ⟨3, _⟩ => ⟨S4x512x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S4x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamOutIdeal.lean ====
abbrev S4x512x1024 : Shape := ⟨3, ![4, 512, 1024]⟩
abbrev S2048x1024 : Shape := ⟨2, ![2048, 1024]⟩
abbrev S512x1024 : Shape := ⟨2, ![512, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x512x1024, .f32⟩
  | .hbm, ⟨1, _⟩ => ⟨S4x512x1024, .f32⟩
  | .hbm, ⟨2, _⟩ => ⟨S4x512x1024, .f32⟩
  | .hbm, ⟨3, _⟩ => ⟨S4x512x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S4x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RefAdamOutIdeal.lean ====
abbrev S4x512x1024 : Shape := ⟨3, ![4, 512, 1024]⟩
abbrev S_ : Shape := ⟨0, ![]⟩
abbrev S2048x1024 : Shape := ⟨2, ![2048, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x512x1024, .f32⟩
  | .hbm, ⟨1, _⟩ => ⟨S4x512x1024, .f32⟩
  | .hbm, ⟨2, _⟩ => ⟨S4x512x1024, .f32⟩
  | .hbm, ⟨3, _⟩ => ⟨S4x512x1024, .f32⟩
  | .hbm, ⟨4, _⟩ => ⟨S_, .f32⟩
  | .hbm, ⟨5, _⟩ => ⟨S4x512x1024, .f32⟩
  | .hbm, ⟨6, _⟩ => ⟨S4x512x1024, .f32⟩
  | .hbm, ⟨7, _⟩ => ⟨S_, .f32⟩
  | .hbm, ⟨8, _⟩ => ⟨S4x512x1024, .f32⟩
  | .hbm, ⟨9, _⟩ => ⟨S4x512x1024, .f32⟩
  | .hbm, ⟨10, _⟩ => ⟨S4x512x1024, .f32⟩
  | .hbm, ⟨11, _⟩ => ⟨S_, .f32⟩
  | .hbm, ⟨12, _⟩ => ⟨S4x512x1024, .f32⟩
  | .hbm, ⟨13, _⟩ => ⟨S4x512x1024, .f32⟩
  | .hbm, ⟨14, _⟩ => ⟨S4x512x1024, .f32⟩
  | .hbm, ⟨15, _⟩ => ⟨S_, .f32⟩
  | .hbm, ⟨16, _⟩ => ⟨S4x512x1024, .f32⟩
  | .hbm, ⟨17, _⟩ => ⟨S4x512x1024, .f32⟩
  | .hbm, ⟨18, _⟩ => ⟨S4x512x1024, .f32⟩
  | .hbm, ⟨19, _⟩ => ⟨S_, .f32⟩
  | .hbm, ⟨20, _⟩ => ⟨S4x512x1024, .f32⟩
  | .hbm, ⟨21, _⟩ => ⟨S4x512x1024, .f32⟩
  | .hbm, ⟨22, _⟩ => ⟨S_, .f32⟩
  | .hbm, ⟨23, _⟩ => ⟨S4x512x1024, .f32⟩
  | .hbm, ⟨24, _⟩ => ⟨S4x512x1024, .f32⟩
  | .hbm, ⟨25, _⟩ => ⟨S4x512x1024, .f32⟩
  | .hbm, ⟨26, _⟩ => ⟨S_, .f32⟩
  | .hbm, ⟨27, _⟩ => ⟨S4x512x1024, .f32⟩
  | .hbm, ⟨28, _⟩ => ⟨S4x512x1024, .f32⟩
  | .hbm, ⟨29, _⟩ => ⟨S4x512x1024, .f32⟩
  | .hbm, ⟨30, _⟩ => ⟨S_, .f32⟩
  | .hbm, ⟨31, _⟩ => ⟨S4x512x1024, .f32⟩
  | .hbm, ⟨32, _⟩ => ⟨S4x512x1024, .f32⟩
  | .hbm, ⟨33, _⟩ => ⟨S4x512x1024, .f32⟩
  | .hbm, ⟨34, _⟩ => ⟨S_, .f32⟩
  | .hbm, ⟨35, _⟩ => ⟨S4x512x1024, .f32⟩
  | .hbm, ⟨36, _⟩ => ⟨S4x512x1024, .f32⟩
  | .hbm, ⟨37, _⟩ => ⟨S2048x1024, .f32⟩
  | .hbm, ⟨38, _⟩ => ⟨S2048x1024, .f32⟩
  | .hbm, ⟨39, _⟩ => ⟨S2048x1024, .f32⟩
  | _, _ => ⟨S4x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamIn.lean ====
abbrev S4x1024x1156 : Shape := ⟨3, ![4, 1024, 1156]⟩
abbrev S4096x1156 : Shape := ⟨2, ![4096, 1156]⟩
abbrev S256x1156 : Shape := ⟨2, ![256, 1156]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x1156, .f32⟩
  | .hbm, ⟨1, _⟩ => ⟨S4x1024x1156, .f32⟩
  | .hbm, ⟨2, _⟩ => ⟨S4x1024x1156, .f32⟩
  | .hbm, ⟨3, _⟩ => ⟨S4x1024x1156, .f32⟩
  | .hbm, ⟨4, _⟩ => ⟨S4096x1156, .f32⟩
  | .hbm, ⟨5, _⟩ => ⟨S4096x1156, .f32⟩
  | .hbm, ⟨6, _⟩ => ⟨S4096x1156, .f32⟩
  | .hbm, ⟨7, _⟩ => ⟨S4096x1156, .f32⟩
  | .hbm, ⟨8, _⟩ => ⟨S4096x1156, .f32⟩
  | .hbm, ⟨9, _⟩ => ⟨S4096x1156, .f32⟩
  | .hbm, ⟨10, _⟩ => ⟨S4096x1156, .f32⟩
  | .local _ .vmem, ⟨0, _⟩ => ⟨S256x1156, .f32⟩
  | .local _ .vmem, ⟨1, _⟩ => ⟨S256x1156, .f32⟩
  | .local _ .vmem, ⟨2, _⟩ => ⟨S256x1156, .f32⟩
  | .local _ .vmem, ⟨3, _⟩ => ⟨S256x1156, .f32⟩
  | .local _ .vmem, ⟨4, _⟩ => ⟨S256x1156, .f32⟩
  | .local _ .vmem, ⟨5, _⟩ => ⟨S256x1156, .f32⟩
  | .local _ .vmem, ⟨6, _⟩ => ⟨S256x1156, .f32⟩
  | .local _ .vmem, ⟨7, _⟩ => ⟨S256x1156, .f32⟩
  | .local _ .vmem, ⟨8, _⟩ => ⟨S256x1156, .f32⟩
  | .local _ .vmem, ⟨9, _⟩ => ⟨S256x1156, .f32⟩
  | .local _ .vmem, ⟨10, _⟩ => ⟨S256x1156, .f32⟩
  | .local _ .vmem, ⟨11, _⟩ => ⟨S256x1156, .f32⟩
  | .local _ .vmem, ⟨12, _⟩ => ⟨S256x1156, .f32⟩
  | .local _ .vmem, ⟨13, _⟩ => ⟨S256x1156, .f32⟩
  | _, _ => ⟨S4x1024x1156, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1156 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1156 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1156 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1156 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1156 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1156 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1156 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RefAdamInIdeal.lean ====
abbrev S4x1024x1156 : Shape := ⟨3, ![4, 1024, 1156]⟩
abbrev S_ : Shape := ⟨0, ![]⟩
abbrev S4096x1156 : Shape := ⟨2, ![4096, 1156]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x1156, .f32⟩
  | .hbm, ⟨1, _⟩ => ⟨S4x1024x1156, .f32⟩
  | .hbm, ⟨2, _⟩ => ⟨S4x1024x1156, .f32⟩
  | .hbm, ⟨3, _⟩ => ⟨S4x1024x1156, .f32⟩
  | .hbm, ⟨4, _⟩ => ⟨S_, .f32⟩
  | .hbm, ⟨5, _⟩ => ⟨S4x1024x1156, .f32⟩
  | .hbm, ⟨6, _⟩ => ⟨S4x1024x1156, .f32⟩
  | .hbm, ⟨7, _⟩ => ⟨S_, .f32⟩
  | .hbm, ⟨8, _⟩ => ⟨S4x1024x1156, .f32⟩
  | .hbm, ⟨9, _⟩ => ⟨S4x1024x1156, .f32⟩
  | .hbm, ⟨10, _⟩ => ⟨S4x1024x1156, .f32⟩
  | .hbm, ⟨11, _⟩ => ⟨S_, .f32⟩
  | .hbm, ⟨12, _⟩ => ⟨S4x1024x1156, .f32⟩
  | .hbm, ⟨13, _⟩ => ⟨S4x1024x1156, .f32⟩
  | .hbm, ⟨14, _⟩ => ⟨S4x1024x1156, .f32⟩
  | .hbm, ⟨15, _⟩ => ⟨S_, .f32⟩
  | .hbm, ⟨16, _⟩ => ⟨S4x1024x1156, .f32⟩
  | .hbm, ⟨17, _⟩ => ⟨S4x1024x1156, .f32⟩
  | .hbm, ⟨18, _⟩ => ⟨S4x1024x1156, .f32⟩
  | .hbm, ⟨19, _⟩ => ⟨S_, .f32⟩
  | .hbm, ⟨20, _⟩ => ⟨S4x1024x1156, .f32⟩
  | .hbm, ⟨21, _⟩ => ⟨S4x1024x1156, .f32⟩
  | .hbm, ⟨22, _⟩ => ⟨S_, .f32⟩
  | .hbm, ⟨23, _⟩ => ⟨S4x1024x1156, .f32⟩
  | .hbm, ⟨24, _⟩ => ⟨S4x1024x1156, .f32⟩
  | .hbm, ⟨25, _⟩ => ⟨S4x1024x1156, .f32⟩
  | .hbm, ⟨26, _⟩ => ⟨S_, .f32⟩
  | .hbm, ⟨27, _⟩ => ⟨S4x1024x1156, .f32⟩
  | .hbm, ⟨28, _⟩ => ⟨S4x1024x1156, .f32⟩
  | .hbm, ⟨29, _⟩ => ⟨S4x1024x1156, .f32⟩
  | .hbm, ⟨30, _⟩ => ⟨S_, .f32⟩
  | .hbm, ⟨31, _⟩ => ⟨S4x1024x1156, .f32⟩
  | .hbm, ⟨32, _⟩ => ⟨S4x1024x1156, .f32⟩
  | .hbm, ⟨33, _⟩ => ⟨S4x1024x1156, .f32⟩
  | .hbm, ⟨34, _⟩ => ⟨S_, .f32⟩
  | .hbm, ⟨35, _⟩ => ⟨S4x1024x1156, .f32⟩
  | .hbm, ⟨36, _⟩ => ⟨S4x1024x1156, .f32⟩
  | .hbm, ⟨37, _⟩ => ⟨S4096x1156, .f32⟩
  | .hbm, ⟨38, _⟩ => ⟨S4096x1156, .f32⟩
  | .hbm, ⟨39, _⟩ => ⟨S4096x1156, .f32⟩
  | _, _ => ⟨S4x1024x1156, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Proof.Up.lean ====
module

public import Idealize.ShloMosaic.Lib.Pipeline.ValueKit
public import Idealize.ShloMosaic.Lib.Pointwise
public import Idealize.ShloMosaic.PureOps.Ideal.Laws

/-! Arrays of real numbers among the arrays of extended reals: the elementwise operations on arrays that hold real numbers
are the real operations. -/

@[expose] public section

set_option maxRecDepth 16384

namespace Cert.Up

open Idealize.ShloMosaic

variable {s : Shape} {φ : FTy}

/-- An array of real numbers as an array of ideal floats. -/
noncomputable def up (X : s.Idx → ℝ) : s.Idx → EReal := fun i => (X i : EReal)

theorem up_apply (X : s.Idx → ℝ) (i : s.Idx) : up X i = (X i : EReal) := rfl

/-- The error function on the reals. -/
noncomputable def rerf (r : ℝ) : ℝ := 2 / Real.sqrt Real.pi * ∫ t in (0 : ℝ)..r, Real.exp (-(t ^ 2))

theorem erf_real (r : ℝ) : Ideal.erf r = (rerf r : EReal) := rfl

/-- A finite sum of real numbers is the same sum among the extended reals. -/
theorem coe_sum {ι : Type} (S : Finset ι) (f : ι → ℝ) : ((∑ i ∈ S, f i : ℝ) : EReal) = ∑ i ∈ S, (f i : EReal) := by
  classical
  induction S using Finset.induction_on with
  | empty => simp
  | insert a S h ih => rw [Finset.sum_insert h, Finset.sum_insert h, EReal.coe_add, ih]

theorem div_real (x y : ℝ) (h : y ≠ 0) : Ideal.div x y = ((x / y : ℝ) : EReal) := by
  rw [Ideal.div_coe h, ← EReal.coe_mul]; congr 1; field_simp

theorem rsqrt_real (x : ℝ) (h : 0 < x) : Ideal.rsqrt x = (((Real.sqrt x)⁻¹ : ℝ) : EReal) := by
  rw [Ideal.rsqrt_coe, if_neg (not_lt.mpr h.le), if_neg h.ne']

theorem erfc_neg_real (x : ℝ) : Ideal.erfc ((-x : ℝ) : EReal) = ((1 + rerf x : ℝ) : EReal) := by
  rw [EReal.coe_neg, Ideal.erfc_neg, erf_real, EReal.coe_add, EReal.coe_one]

theorem mul_up (X Y : s.Idx → ℝ) : (mulf (φ := φ) (F := Ideal) (up X) (up Y) : s.Idx → EReal) = up fun i => X i * Y i := by
  funext i; simp only [mulf, up, Ideal.mulf_def, EReal.coe_mul]
theorem add_up (X Y : s.Idx → ℝ) : (addf (φ := φ) (F := Ideal) (up X) (up Y) : s.Idx → EReal) = up fun i => X i + Y i := by
  funext i; simp only [addf, up, Ideal.addf_def, EReal.coe_add]
theorem sub_up (X Y : s.Idx → ℝ) : (subf (φ := φ) (F := Ideal) (up X) (up Y) : s.Idx → EReal) = up fun i => X i - Y i := by
  funext i; simp only [subf, up, Ideal.subf_def, EReal.coe_sub]
theorem exp_up (X : s.Idx → ℝ) : (exp (φ := φ) (F := Ideal) (up X) : s.Idx → EReal) = up fun i => Real.exp (X i) := by
  funext i; simp only [exp, up, Ideal.exp_def, Ideal.exp_coe]
theorem erf_up (X : s.Idx → ℝ) : (erf (φ := φ) (F := Ideal) (up X) : s.Idx → EReal) = up fun i => rerf (X i) := by
  funext i; simp only [erf, up, Ideal.erf_def, erf_real]
theorem rsqrt_up (X : s.Idx → ℝ) (h : ∀ i, 0 < X i) :
    (rsqrt (φ := φ) (F := Ideal) (up X) : s.Idx → EReal) = up fun i => (Real.sqrt (X i))⁻¹ := by
  funext i; simp only [rsqrt, up, Ideal.rsqrt_def, rsqrt_real _ (h i)]
theorem div_up (X Y : s.Idx → ℝ) (h : ∀ i, Y i ≠ 0) :
    (divf (φ := φ) (F := Ideal) (up X) (up Y) : s.Idx → EReal) = up fun i => X i / Y i := by
  funext i; simp only [divf, up, Ideal.divf_def, div_real _ _ (h i)]
theorem trunc_up (X : s.Idx → ℝ) (h) : (truncf (F := Ideal) (φ := .f32) .bf16 (up X) h : s.Idx → EReal) = up X := by
  funext i; simp only [truncf, up, Ideal.truncf_def]
theorem ext_up (X : s.Idx → ℝ) (h) : (extf (F := Ideal) (φ := .bf16) .f32 (up X) h : s.Idx → EReal) = up X := by
  funext i; simp only [extf, up, Ideal.extf_def]
theorem select_up (P : s.Idx → Prop) [∀ i, Decidable (P i)] (c : IVec s 1) (hc : ∀ i, c i = 1#1 ↔ P i) (X Y : s.Idx → ℝ) :
    (select c (up X) (up Y) : s.Idx → EReal) = up fun i => if P i then X i else Y i := by
  funext i
  by_cases h : P i
  · simp [select, Scalar.select, up, h, (hc i).mpr h]
  · simp [select, Scalar.select, up, h, mt (hc i).mp h]

/-! ### The literals -/

/-- The f32 word nearest to the reciprocal root of two, as a real number. -/
noncomputable def cR : ℝ := 11863283 / 16777216
/-- The f32 word nearest to twice the reciprocal root of pi. -/
noncomputable def tR : ℝ := 9465531 / 8388608
/-- The f32 word nearest to a hundred-thousandth. -/
noncomputable def eR : ℝ := 10995116 / 1099511627776

theorem eR_pos : 0 < eR := by unfold eR; norm_num

theorem lit_half : Ideal.ofBits .f32 0x3F000000#32 = ((1 / 2 : ℝ) : EReal) := by
  simp [Ideal.ofBits, Ideal.ieee, -EReal.coe_mul]; norm_num
theorem lit_nhalf : Ideal.ofBits .f32 0xBF000000#32 = ((-(1 / 2) : ℝ) : EReal) := by
  simp [Ideal.ofBits, Ideal.ieee, -EReal.coe_mul]; norm_num
theorem lit_one : Ideal.ofBits .f32 0x3F800000#32 = ((1 : ℝ) : EReal) := by
  simp [Ideal.ofBits, Ideal.ieee, -EReal.coe_mul]; norm_num
theorem lit_zero : Ideal.ofBits .f32 0x00000000#32 = ((0 : ℝ) : EReal) := by
  simp [Ideal.ofBits, Ideal.ieee, -EReal.coe_mul]
theorem lit_64 : Ideal.ofBits .f32 0x42800000#32 = ((64 : ℝ) : EReal) := by
  simp [Ideal.ofBits, Ideal.ieee, -EReal.coe_mul]; norm_num
theorem lit_inv64 : Ideal.ofBits .f32 0x3C800000#32 = ((1 / 64 : ℝ) : EReal) := by
  simp [Ideal.ofBits, Ideal.ieee, -EReal.coe_mul]; norm_num
theorem lit_c : Ideal.ofBits .f32 0x3F3504F3#32 = (cR : EReal) := by
  unfold cR; simp [Ideal.ofBits, Ideal.ieee, -EReal.coe_mul]; norm_num
theorem lit_t : Ideal.ofBits .f32 0x3F906EBB#32 = (tR : EReal) := by
  unfold tR; simp [Ideal.ofBits, Ideal.ieee, -EReal.coe_mul]; norm_num
theorem lit_nt : Ideal.ofBits .f32 0xBF906EBB#32 = ((-tR : ℝ) : EReal) := by
  unfold tR; simp [Ideal.ofBits, Ideal.ieee, -EReal.coe_mul]; norm_num
theorem lit_e : Ideal.ofBits .f32 0x3727C5AC#32 = (eR : EReal) := by
  unfold eR; simp [Ideal.ofBits, Ideal.ieee, -EReal.coe_mul]; norm_num

end Cert.Up
-- ==== Proof.Model.lean ====
module

public import proofs.«01_k».proof.Proof.Up

/-! The gradient of the gated mixer over the real numbers. Rows and columns are natural numbers: a row runs over the 4096
rows of the two sequences, a column over the 512 columns of the branch (head `c / 64`, lane `c % 64`), a chunk is 128
consecutive rows. -/

@[expose] public section

noncomputable section

namespace Cert.Model

open Cert.Up

/-- One plus the error function, at `x` over the root of two. -/
def erf1 (x : ℝ) : ℝ := 1 + rerf (x * cR)
/-- The activation. -/
def gelu (x : ℝ) : ℝ := 1 / 2 * x * erf1 x
/-- The bell curve of the activation's derivative. -/
def bell (x : ℝ) : ℝ := Real.exp (0 - x * cR * (x * cR))
/-- The activation's derivative at `x`, applied to `d`. -/
def geluBwd (x d : ℝ) : ℝ := tR * (1 / 2 * x * d) * bell x * cR + 1 / 2 * (d * erf1 x)

/-- The mean over the head a column lies in. -/
def mean (M : ℕ → ℕ → ℝ) (r c : ℕ) : ℝ := (∑ p : Fin 64, M r (64 * (c / 64) + p)) / 64

section
variable (U V D : ℕ → ℕ → ℝ) (G B : ℕ → ℝ) (W : ℕ → ℕ → ℕ → ℝ) (S : ℕ → ℕ → ℝ)

/-- The second branch, activated, -/
def act (r c : ℕ) : ℝ := gelu (V r c)
/-- centred, -/
def xc (r c : ℕ) : ℝ := act V r c - mean (act V) r c
/-- its variance, with the constant under the root, -/
def vare (r c : ℕ) : ℝ := mean (fun r c => xc V r c * xc V r c) r c + eR
/-- the reciprocal root, -/
def rs (r c : ℕ) : ℝ := (Real.sqrt (vare V r c))⁻¹
/-- normalised, -/
def xn (r c : ℕ) : ℝ := xc V r c * rs V r c
/-- scaled and shifted. -/
def vn (r c : ℕ) : ℝ := xn V r c * G c + B c
/-- The weights of a head on and below the diagonal. -/
def tw (h t s : ℕ) : ℝ := if s ≤ t then W h t s else 0
/-- The mixed rows of a chunk. -/
def mix (r c : ℕ) : ℝ :=
  (∑ s : Fin 128, tw W (c / 64) (r % 128) s * vn V G B (128 * (r / 128) + s) c) + S (c / 64) (r % 128)

/-- The gradient of the mixed rows. -/
def dm (r c : ℕ) : ℝ := gelu (U r c) * D r c
/-- The gradient of `vn`. -/
def dvn (r c : ℕ) : ℝ := ∑ t : Fin 128, tw W (c / 64) t (r % 128) * dm U D (128 * (r / 128) + t) c
/-- The gradient of `xn`. -/
def dxn (r c : ℕ) : ℝ := dvn U D W r c * G c
/-- Half the gradient that comes through the variance, averaged over a head. -/
def dvar (r c : ℕ) : ℝ :=
  mean (fun r c => xc V r c * dxn U D G W r c * (-(1 / 2) * (rs V r c / vare V r c))) r c
/-- The gradient of the centred activation. -/
def dxc (r c : ℕ) : ℝ := dxn U D G W r c * rs V r c + xc V r c * dvar U V D G W r c + dvar U V D G W r c * xc V r c
/-- The gradient of the activation. -/
def dact (r c : ℕ) : ℝ := dxc U V D G W r c + mean (fun r c => 0 - dxc U V D G W r c) r c

/-- The gradient of the second branch, -/
def dv (r c : ℕ) : ℝ := geluBwd (V r c) (dact U V D G W r c)
/-- of the gate, -/
def du (r c : ℕ) : ℝ := geluBwd (U r c) (D r c * mix V G B W S r c)
/-- of the scale, -/
def dg (c : ℕ) : ℝ := ∑ r : Fin 4096, xn V r c * dvn U D W r c
/-- of the shift, -/
def db (c : ℕ) : ℝ := ∑ r : Fin 4096, dvn U D W r c
/-- of the weights, one chunk's part, -/
def dwPart (k h t s : ℕ) : ℝ :=
  if s ≤ t then ∑ p : Fin 64, dm U D (128 * k + t) (64 * h + p) * vn V G B (128 * k + s) (64 * h + p) else 0
/-- of the weights, -/
def dw (h t s : ℕ) : ℝ := ∑ k : Fin 32, dwPart U V D G B k h t s
/-- and of the offsets. -/
def ds (h t : ℕ) : ℝ := ∑ k : Fin 32, ∑ p : Fin 64, dm U D (128 * k + t) (64 * h + p)
end

theorem mean_sq_nonneg (M : ℕ → ℕ → ℝ) (r c : ℕ) : 0 ≤ mean (fun r c => M r c * M r c) r c :=
  div_nonneg (Finset.sum_nonneg fun _ _ => mul_self_nonneg _) (by norm_num)

theorem vare_pos (V : ℕ → ℕ → ℝ) (r c : ℕ) : 0 < vare V r c :=
  add_pos_of_nonneg_of_pos (mean_sq_nonneg _ r c) eR_pos

end Cert.Model
-- ==== Proof.Chunk.lean ====
module

public import proofs.«01_k».proof.Proof.Gen.KernelIdeal.Skeleton
public import Idealize.ShloMosaic.Lib.Pipeline.ValueKit

/-! The gradient of one 128-row chunk of the gated mixer, as the kernel computes it for one lane block of 128 columns (two
heads of 64), in named stages over any reading of the floats. Every chunk of the kernel's body is an instance of these
stages, whatever way its operations are grouped. -/

@[expose] public section

set_option maxRecDepth 16384

namespace Cert.KernelIdeal.Chunk

open Cert.KernelIdeal Cert.KernelIdeal.Gen Idealize.ShloMosaic Idealize.SL.Sem

variable {F : FTy → Type} [FloatOps F]

local notation "M32" => FVec F S128x128 FTy.f32
local notation "R32" => FVec F S1x128 FTy.f32

/-- A block holding one f32 literal everywhere. -/
noncomputable def lit (w : BitVec 32) : M32 := broadcast S128x128 (Scalar.ofBits .f32 w : F .f32)

/-- The block product rows by columns, with the operands passed through bf16. -/
noncomputable def nn (a b : M32) : M32 :=
  matmul dot_S128x128_S128x128_S128x128_1_0_0_1_n_n none (truncf .bf16 a bitsLt_bf16_f32)
    (truncf .bf16 b bitsLt_bf16_f32) (constant S128x128 .f32 0x00000000#32)
/-- The block product `a bᵀ`. -/
noncomputable def nt (a b : M32) : M32 :=
  matmul dot_S128x128_S128x128_S128x128_1_1_0_0_n_n none (truncf .bf16 a bitsLt_bf16_f32)
    (truncf .bf16 b bitsLt_bf16_f32) (constant S128x128 .f32 0x00000000#32)
/-- The block product `aᵀ b`. -/
noncomputable def tn (a b : M32) : M32 :=
  matmul dot_S128x128_S128x128_S128x128_0_0_1_1_n_n none (truncf .bf16 a bitsLt_bf16_f32)
    (truncf .bf16 b bitsLt_bf16_f32) (constant S128x128 .f32 0x00000000#32)

/-- True where both coordinates lie in the same half of the 128 lanes. -/
noncomputable def sameHalf : IVec S128x128 1 :=
  xori (xori (cmpi .slt (iota .tc S128x128 32 [0] iota_S128x128_d0_w32) (broadcast S128x128 64#32))
    (cmpi .slt (iota .tc S128x128 32 [1] iota_S128x128_d1_w32) (broadcast S128x128 64#32))) (constantI S128x128 1 1#1)
/-- True on and below the diagonal. -/
noncomputable def lower : IVec S128x128 1 :=
  cmpi .sge (iota .tc S128x128 32 [0] iota_S128x128_d0_w32) (iota .tc S128x128 32 [1] iota_S128x128_d1_w32)
/-- True on the first 64 lanes. -/
noncomputable def firstHalf : IVec S128x128 1 :=
  cmpi .slt (iota .tc S128x128 32 [1] iota_S128x128_d1_w32) (broadcast S128x128 64#32)

/-- The matrix that averages over the 64 lanes of a head. -/
noncomputable def avg : M32 := select sameHalf (lit 0x3C800000#32) (lit 0x00000000#32)
/-- The mean over a head, from the bf16 part of `x` and its remainder. -/
noncomputable def gmean (x : M32) : M32 :=
  addf (nn x avg) (nn (subf x (extf .f32 (truncf .bf16 x bitsLt_bf16_f32) bitsLt_bf16_f32)) avg)

/-- One half of `x`. -/
noncomputable def half (x : M32) : M32 := mulf (lit 0x3F000000#32) x
/-- `x` over the root of two. -/
noncomputable def cx (x : M32) : M32 := mulf x (lit 0x3F3504F3#32)
/-- The exponential of minus the square of `cx`. -/
noncomputable def bell (x : M32) : M32 := exp (subf (lit 0x00000000#32) (mulf (cx x) (cx x)))
/-- One plus the error function of `cx`. -/
noncomputable def erf1 (x : M32) : M32 := addf (lit 0x3F800000#32) (erf (cx x))
/-- The gated linear unit's activation. -/
noncomputable def gelu (x : M32) : M32 := mulf (half x) (erf1 x)
/-- The gradient of `gelu` at `x`, applied to `ct`. -/
noncomputable def geluBwd (x ct : M32) : M32 :=
  addf (mulf (mulf (mulf (lit 0x3F906EBB#32) (mulf (half x) ct)) (bell x)) (lit 0x3F3504F3#32))
    (mulf (lit 0x3F000000#32) (mulf ct (erf1 x)))

/-- A row repeated down the block. -/
noncomputable def rowB (r : R32) : M32 := broadcastTo S128x128 r broadcasts_S1x128_S128x128
/-- A row turned into a column and repeated along the block. -/
noncomputable def colB (r : R32) : M32 :=
  transpose S128x128 [1, 0] (broadcastTo S128x128 (shapeCast S1x128 r shapeCasts_S1x128_S1x128) broadcasts_S1x128_S128x128)
    transposes_S128x128_p1_0_S128x128
/-- The sum of the rows of a block. -/
noncomputable def colSum (x : M32) : R32 :=
  shapeCast S1x128 (multiReduction .add [0] S128 x 0x00000000#32 reduces_S128x128_S128 (.inl rfl) rfl) shapeCasts_S128_S1x128
/-- The transposed block. -/
noncomputable def tr (x : M32) : M32 := transpose S128x128 [1, 0] x transposes_S128x128_p1_0_S128x128
/-- The part of a block on and below the diagonal. -/
noncomputable def tril (x : M32) : M32 := select lower x (lit 0x00000000#32)

/-- The centred activation. -/
noncomputable def xc (bv : M32) : M32 := subf (gelu bv) (gmean (gelu bv))
/-- The variance over a head, plus the constant under the root. -/
noncomputable def vare (bv : M32) : M32 := addf (gmean (mulf (xc bv) (xc bv))) (lit 0x3727C5AC#32)
/-- The reciprocal of the root of `vare`. -/
noncomputable def rs (bv : M32) : M32 := rsqrt (vare bv)
/-- The normalised activation. -/
noncomputable def xn (bv : M32) : M32 := mulf (xc bv) (rs bv)
/-- The normalised activation, scaled and shifted. -/
noncomputable def vn (bv : M32) (g b : R32) : M32 := addf (mulf (xn bv) (rowB g)) (rowB b)
/-- The mixed chunk: each head's lanes by that head's weights and offsets. -/
noncomputable def mix (bv : M32) (g b : R32) (w0 w1 : M32) (b0 b1 : R32) : M32 :=
  select firstHalf (addf (nn (tril w0) (vn bv g b)) (colB b0)) (addf (nn (tril w1) (vn bv g b)) (colB b1))

/-- The gradient of the mixed chunk, first head's lanes. -/
noncomputable def dm0 (bu dy : M32) : M32 := select firstHalf (mulf (gelu bu) dy) (lit 0x00000000#32)
/-- The gradient of the mixed chunk, second head's lanes. -/
noncomputable def dm1 (bu dy : M32) : M32 := select firstHalf (lit 0x00000000#32) (mulf (gelu bu) dy)
/-- The gradient of `vn`. -/
noncomputable def dvn (bu w0 w1 dy : M32) : M32 := addf (tn (tril w1) (dm1 bu dy)) (tn (tril w0) (dm0 bu dy))
/-- The gradient of `xn`. -/
noncomputable def dxn (bu : M32) (g : R32) (w0 w1 dy : M32) : M32 := mulf (dvn bu w0 w1 dy) (rowB g)
/-- Half the gradient of the centred activation that comes through the variance, averaged over a head. -/
noncomputable def dvar (bu bv : M32) (g : R32) (w0 w1 dy : M32) : M32 :=
  gmean (mulf (mulf (xc bv) (dxn bu g w0 w1 dy)) (mulf (lit 0xBF000000#32) (divf (rs bv) (vare bv))))
/-- The gradient of the centred activation. -/
noncomputable def dxc (bu bv : M32) (g : R32) (w0 w1 dy : M32) : M32 :=
  addf (addf (mulf (dxn bu g w0 w1 dy) (rs bv)) (mulf (xc bv) (dvar bu bv g w0 w1 dy)))
    (mulf (dvar bu bv g w0 w1 dy) (xc bv))
/-- The gradient of the activation. -/
noncomputable def dact (bu bv : M32) (g : R32) (w0 w1 dy : M32) : M32 :=
  addf (dxc bu bv g w0 w1 dy) (gmean (subf (lit 0x00000000#32) (dxc bu bv g w0 w1 dy)))

/-- The chunk's gradient of the second branch, -/
noncomputable def oBv (bu bv : M32) (g : R32) (w0 w1 dy : M32) : FVec F S128x128 .bf16 :=
  truncf .bf16 (geluBwd bv (dact bu bv g w0 w1 dy)) bitsLt_bf16_f32
/-- of the gate, -/
noncomputable def oBu (bu bv : M32) (g b : R32) (w0 w1 : M32) (b0 b1 : R32) (dy : M32) : FVec F S128x128 .bf16 :=
  truncf .bf16 (geluBwd bu (mulf dy (mix bv g b w0 w1 b0 b1))) bitsLt_bf16_f32
/-- of the scale, -/
noncomputable def oG (bu bv : M32) (w0 w1 dy : M32) : R32 := colSum (mulf (xn bv) (dvn bu w0 w1 dy))
/-- of the shift, -/
noncomputable def oB (bu w0 w1 dy : M32) : R32 := colSum (dvn bu w0 w1 dy)
/-- of the first head's weights, -/
noncomputable def oW0 (bu bv : M32) (g b : R32) (dy : M32) : M32 := tril (nt (dm0 bu dy) (vn bv g b))
/-- of the second head's weights, -/
noncomputable def oW1 (bu bv : M32) (g b : R32) (dy : M32) : M32 := tril (nt (dm1 bu dy) (vn bv g b))
/-- of the first head's offsets, -/
noncomputable def oB0 (bu dy : M32) : R32 := colSum (tr (dm0 bu dy))
/-- and of the second head's offsets. -/
noncomputable def oB1 (bu dy : M32) : R32 := colSum (tr (dm1 bu dy))

end Cert.KernelIdeal.Chunk
-- ==== Proof.ChunkUp.lean ====
module

public import proofs.«01_k».proof.Proof.Model
public import proofs.«01_k».proof.Proof.Chunk

/-! The named stages of a chunk at real inputs: each is the corresponding stage of the real model, read in the window of
128 rows and 128 columns the chunk lies in. -/

@[expose] public section

set_option maxRecDepth 16384

namespace Cert.KernelIdeal.Chunk

open Cert.KernelIdeal Cert.KernelIdeal.Gen Idealize.ShloMosaic Idealize.SL.Sem Cert.Up Cert.Model

local notation "M32" => FVec Ideal S128x128 FTy.f32
local notation "R32" => FVec Ideal S1x128 FTy.f32

/-- The row of an index of a block, -/
def r0 (i : S128x128.Idx) : Fin 128 := i 0
/-- its column, -/
def c0 (i : S128x128.Idx) : Fin 128 := i 1
/-- the column of an index of a row. -/
def l0 (i : S1x128.Idx) : Fin 128 := i 1
theorem r0_ix2 (a b : Fin 128) : r0 (ix2 a b) = a := rfl
theorem c0_ix2 (a b : Fin 128) : c0 (ix2 a b) = b := rfl
theorem l0_ix2 (a : Fin 1) (b : Fin 128) : l0 (ix2 a b) = b := rfl

/-- The window of chunk `k` and lane block `j`. -/
def wd (k j : ℕ) (M : ℕ → ℕ → ℝ) : S128x128.Idx → ℝ := fun i => M (128 * k + (r0 i).val) (128 * j + (c0 i).val)
/-- The row of lane block `j`. -/
def rv (j : ℕ) (v : ℕ → ℝ) : S1x128.Idx → ℝ := fun i => v (128 * j + (l0 i).val)
/-- The weights of a head. -/
def wh (h : ℕ) (W : ℕ → ℕ → ℕ → ℝ) : S128x128.Idx → ℝ := fun i => W h (r0 i).val (c0 i).val
/-- The offsets of a head. -/
def sh (h : ℕ) (S : ℕ → ℕ → ℝ) : S1x128.Idx → ℝ := fun i => S h (l0 i).val

/-- The lane test, as a statement about numbers. -/
theorem slt64 : ∀ a : Fin 128, IntOp.cmpi .slt (BitVec.ofNat 32 a.val) 64#32 = if a.val < 64 then 1#1 else 0#1 := by
  decide +kernel
/-- The diagonal test, as a statement about numbers. -/
theorem sge (a b : Fin 128) : IntOp.cmpi .sge (BitVec.ofNat 32 a.val) (BitVec.ofNat 32 b.val) = if b.val ≤ a.val then 1#1 else 0#1 := by
  revert a b; decide +kernel

/-- The mask of the averaging matrix holds where both lanes lie in the same half. -/
theorem sameHalf_iff (i : S128x128.Idx) : sameHalf i = 1#1 ↔ ((i 0).val < 64 ↔ (i 1).val < 64) := by
  have h0 := slt64 (i 0); have h1 := slt64 (i 1)
  by_cases a : (i 0).val < 64 <;> by_cases b : (i 1).val < 64 <;> simp only [a, b, if_true, if_false] at h0 h1 <;>
    · pointwise [sameHalf]
      simp only [h0, h1, a, b]
      decide
/-- The mask of the weights holds on and below the diagonal. -/
theorem lower_iff (i : S128x128.Idx) : lower i = 1#1 ↔ (i 1).val ≤ (i 0).val := by
  have h0 := sge (i 0) (i 1)
  by_cases a : (i 1).val ≤ (i 0).val <;> simp only [a, if_true, if_false] at h0 <;>
    · pointwise [lower]
      simp [h0, a]
/-- The mask of the lanes holds on the first head. -/
theorem firstHalf_iff (i : S128x128.Idx) : firstHalf i = 1#1 ↔ (i 1).val < 64 := by
  have h1 := slt64 (i 1)
  by_cases b : (i 1).val < 64 <;> simp only [b, if_true, if_false] at h1 <;>
    · pointwise [firstHalf]
      simp [h1, b]

/-- A literal block at a real number. -/
theorem lit_up (w : BitVec 32) (r : ℝ) (h : Ideal.ofBits .f32 w = (r : EReal)) :
    (lit (F := Ideal) w : S128x128.Idx → EReal) = up fun _ => r := by
  funext i; exact h

/-- The product of two real blocks, -/
theorem nn_up (X Y : S128x128.Idx → ℝ) : (nn (F := Ideal) (up X) (up Y) : S128x128.Idx → EReal)
    = up fun i => ∑ k : Fin 128, X (ix2 (r0 i) k) * Y (ix2 k (c0 i)) := by
  funext i
  simp only [nn, trunc_up]
  pointwise
  simp only [up, coe_sum, EReal.coe_mul]; rfl
/-- with the second operand transposed, -/
theorem nt_up (X Y : S128x128.Idx → ℝ) : (nt (F := Ideal) (up X) (up Y) : S128x128.Idx → EReal)
    = up fun i => ∑ k : Fin 128, X (ix2 (r0 i) k) * Y (ix2 (c0 i) k) := by
  funext i
  simp only [nt, trunc_up]
  pointwise
  simp only [up, coe_sum, EReal.coe_mul]; rfl
/-- and with the first operand transposed. -/
theorem tn_up (X Y : S128x128.Idx → ℝ) : (tn (F := Ideal) (up X) (up Y) : S128x128.Idx → EReal)
    = up fun i => ∑ k : Fin 128, X (ix2 k (r0 i)) * Y (ix2 k (c0 i)) := by
  funext i
  simp only [tn, trunc_up]
  pointwise
  simp only [up, coe_sum, EReal.coe_mul]; rfl

/-- The averaging matrix. -/
theorem avg_up : (avg (F := Ideal) : S128x128.Idx → EReal)
    = up fun i => if ((r0 i).val < 64 ↔ (c0 i).val < 64) then 1 / 64 else 0 := by
  rw [avg, lit_up _ _ lit_inv64, lit_up _ _ lit_zero, select_up (fun i => ((r0 i).val < 64 ↔ (c0 i).val < 64)) _ sameHalf_iff]

/-- A sum over 128 lanes that sees only the half of the lane `c` is the sum over that half. -/
theorem sum_half (f : ℕ → ℝ) (c : Fin 128) :
    ∑ k : Fin 128, (if (k.val < 64 ↔ c.val < 64) then f k.val else 0) = ∑ p : Fin 64, f (64 * (c.val / 64) + p) := by
  rw [Fin.sum_univ_two_halves 64 64 (by norm_num)]
  by_cases h : c.val < 64
  · have h0 : c.val / 64 = 0 := by omega
    have e : ∀ k : Fin 64, ¬ 64 + k.val < 64 := fun k => by omega
    simp [h, h0, e]
  · have h0 : c.val / 64 = 1 := by have := c.isLt; omega
    have e : ∀ k : Fin 64, ¬ 64 + k.val < 64 := fun k => by omega
    simp [h, h0, e]

/-- The mean over a head, in a window. -/
theorem gmean_wd (k j : ℕ) (M : ℕ → ℕ → ℝ) :
    (gmean (F := Ideal) (up (wd k j M)) : S128x128.Idx → EReal) = up (wd k j (mean M)) := by
  have ht : (truncf (F := Ideal) .bf16 (up (wd k j M)) bitsLt_bf16_f32 : S128x128.Idx → EReal) = up (wd k j M) := trunc_up _ _
  rw [gmean, ht]
  erw [ext_up]
  rw [sub_up, avg_up, nn_up, nn_up, add_up]
  congr 1; funext i
  have := sum_half (fun p => M (128 * k + (r0 i).val) (128 * j + p)) (c0 i)
  simp only [wd, mean, sub_self, zero_mul, Finset.sum_const_zero, add_zero, r0_ix2, c0_ix2, l0_ix2, mul_ite, mul_zero]
  have e : ∀ p : Fin 64, 64 * ((128 * j + (c0 i).val) / 64) + p.val = 128 * j + (64 * ((c0 i).val / 64) + p.val) := fun p => by omega
  simp only [e, ← this]
  rw [div_eq_mul_one_div (∑ k : Fin 128, _), Finset.sum_mul]
  refine Finset.sum_congr rfl fun q _ => ?_
  by_cases h : (q.val < 64 ↔ (c0 i).val < 64)
  · rw [if_pos h]; erw [if_pos h]
  · rw [if_neg h]; erw [if_neg h]; ring

theorem half_up (X : S128x128.Idx → ℝ) : (half (F := Ideal) (up X) : S128x128.Idx → EReal) = up fun i => 1 / 2 * X i := by
  rw [half, lit_up _ _ lit_half, mul_up]
theorem cx_up (X : S128x128.Idx → ℝ) : (cx (F := Ideal) (up X) : S128x128.Idx → EReal) = up fun i => X i * cR := by
  rw [cx, lit_up _ _ lit_c, mul_up]
theorem bell_up (X : S128x128.Idx → ℝ) : (bell (F := Ideal) (up X) : S128x128.Idx → EReal) = up fun i => Model.bell (X i) := by
  rw [bell, cx_up, mul_up, lit_up _ _ lit_zero, sub_up, exp_up]; rfl
theorem erf1_up (X : S128x128.Idx → ℝ) : (erf1 (F := Ideal) (up X) : S128x128.Idx → EReal) = up fun i => Model.erf1 (X i) := by
  rw [erf1, cx_up, erf_up, lit_up _ _ lit_one, add_up]; rfl
/-- The activation at real inputs. -/
theorem gelu_up (X : S128x128.Idx → ℝ) : (gelu (F := Ideal) (up X) : S128x128.Idx → EReal) = up fun i => Model.gelu (X i) := by
  rw [gelu, half_up, erf1_up, mul_up]; rfl
/-- The activation's gradient at real inputs. -/
theorem geluBwd_up (X Y : S128x128.Idx → ℝ) :
    (geluBwd (F := Ideal) (up X) (up Y) : S128x128.Idx → EReal) = up fun i => Model.geluBwd (X i) (Y i) := by
  rw [geluBwd, half_up, erf1_up, bell_up, lit_up _ _ lit_half, lit_up _ _ lit_t, lit_up _ _ lit_c, mul_up, mul_up, mul_up, mul_up,
    mul_up, mul_up, add_up]; rfl

theorem rowB_up (X : S1x128.Idx → ℝ) : (rowB (F := Ideal) (up X) : S128x128.Idx → EReal) = up fun i => X (ix2 0 (c0 i)) := by
  funext i; pointwise [rowB, up]; rfl
theorem colB_up (X : S1x128.Idx → ℝ) : (colB (F := Ideal) (up X) : S128x128.Idx → EReal) = up fun i => X (ix2 0 (r0 i)) := by
  funext i; pointwise [colB, up]; rfl
theorem tr_up (X : S128x128.Idx → ℝ) : (tr (F := Ideal) (up X) : S128x128.Idx → EReal) = up fun i => X (ix2 (c0 i) (r0 i)) := by
  funext i; pointwise [tr, up]; rfl
theorem colSum_up (X : S128x128.Idx → ℝ) : (colSum (F := Ideal) (up X) : S1x128.Idx → EReal)
    = up fun i => ∑ r : Fin 128, X (ix2 r (l0 i)) := by
  funext i; pointwise [colSum]
  simp only [up, coe_sum]; rfl
theorem tril_up (X : S128x128.Idx → ℝ) : (tril (F := Ideal) (up X) : S128x128.Idx → EReal)
    = up fun i => if (c0 i).val ≤ (r0 i).val then X i else 0 := by
  rw [tril, lit_up _ _ lit_zero, select_up (fun i => (c0 i).val ≤ (r0 i).val) _ lower_iff]

variable (k j : ℕ) (U V D : ℕ → ℕ → ℝ) (G B : ℕ → ℝ) (W : ℕ → ℕ → ℕ → ℝ) (S : ℕ → ℕ → ℝ)

/-- The centred activation in a window, -/
theorem xc_wd : (xc (F := Ideal) (up (wd k j V)) : S128x128.Idx → EReal) = up (wd k j (Model.xc V)) := by
  have h : (gelu (F := Ideal) (up (wd k j V)) : S128x128.Idx → EReal) = up (wd k j (act V)) := gelu_up _
  rw [xc, h, gmean_wd, sub_up]; rfl
/-- its variance, -/
theorem vare_wd : (vare (F := Ideal) (up (wd k j V)) : S128x128.Idx → EReal) = up (wd k j (Model.vare V)) := by
  have h : (mulf (up (wd k j (Model.xc V))) (up (wd k j (Model.xc V))) : FVec Ideal S128x128 .f32)
      = up (wd k j fun r c => Model.xc V r c * Model.xc V r c) := mul_up _ _
  rw [vare, xc_wd, h, gmean_wd, lit_up _ _ lit_e, add_up]; rfl
/-- the reciprocal root, -/
theorem rs_wd : (rs (F := Ideal) (up (wd k j V)) : S128x128.Idx → EReal) = up (wd k j (Model.rs V)) := by
  rw [rs, vare_wd, rsqrt_up (wd k j (Model.vare V)) fun i => vare_pos V _ _]; rfl
/-- normalised, -/
theorem xn_wd : (xn (F := Ideal) (up (wd k j V)) : S128x128.Idx → EReal) = up (wd k j (Model.xn V)) := by
  rw [xn, xc_wd, rs_wd, mul_up]; rfl
/-- scaled and shifted. -/
theorem vn_wd : (vn (F := Ideal) (up (wd k j V)) (up (rv j G)) (up (rv j B)) : S128x128.Idx → EReal) = up (wd k j (Model.vn V G B)) := by
  rw [vn, xn_wd, rowB_up, rowB_up, mul_up, add_up]; rfl

theorem row_mod (a : Fin 128) : (128 * k + a.val) % 128 = a.val := by omega
theorem row_div (a : Fin 128) : (128 * k + a.val) / 128 = k := by omega
theorem head_lo (a : Fin 128) (h : a.val < 64) : (128 * j + a.val) / 64 = 2 * j := by omega
theorem head_hi (a : Fin 128) (h : ¬ a.val < 64) : (128 * j + a.val) / 64 = 2 * j + 1 := by omega

/-- The mixed rows in a window. -/
theorem mix_wd : (mix (F := Ideal) (up (wd k j V)) (up (rv j G)) (up (rv j B)) (up (wh (2 * j) W)) (up (wh (2 * j + 1) W))
    (up (sh (2 * j) S)) (up (sh (2 * j + 1) S)) : S128x128.Idx → EReal) = up (wd k j (Model.mix V G B W S)) := by
  rw [mix, vn_wd, tril_up, tril_up, nn_up, nn_up, colB_up, colB_up, add_up, add_up,
    select_up (fun i => (c0 i).val < 64) _ firstHalf_iff]
  congr 1; funext i
  by_cases h : (c0 i).val < 64
  · simp only [if_pos h, wd, Model.mix, row_mod, row_div, head_lo j (c0 i) h, tw, wh, sh, r0_ix2, c0_ix2, l0_ix2]; rfl
  · simp only [if_neg h, wd, Model.mix, row_mod, row_div, head_hi j (c0 i) h, tw, wh, sh, r0_ix2, c0_ix2, l0_ix2]; rfl

/-- The gradient of the mixed rows in a window. -/
theorem dmul_wd : (mulf (gelu (F := Ideal) (up (wd k j U))) (up (wd k j D)) : FVec Ideal S128x128 .f32) = up (wd k j (dm U D)) := by
  rw [gelu_up]; exact mul_up _ _
theorem dm0_wd : (dm0 (F := Ideal) (up (wd k j U)) (up (wd k j D)) : S128x128.Idx → EReal)
    = up fun i => if (c0 i).val < 64 then wd k j (dm U D) i else 0 := by
  rw [dm0, dmul_wd, lit_up _ _ lit_zero, select_up (fun i => (c0 i).val < 64) _ firstHalf_iff]
theorem dm1_wd : (dm1 (F := Ideal) (up (wd k j U)) (up (wd k j D)) : S128x128.Idx → EReal)
    = up fun i => if (c0 i).val < 64 then 0 else wd k j (dm U D) i := by
  rw [dm1, dmul_wd, lit_up _ _ lit_zero, select_up (fun i => (c0 i).val < 64) _ firstHalf_iff]

/-- The gradient of the normalised branch in a window, -/
theorem dvn_wd : (dvn (F := Ideal) (up (wd k j U)) (up (wh (2 * j) W)) (up (wh (2 * j + 1) W)) (up (wd k j D)) : S128x128.Idx → EReal)
    = up (wd k j (Model.dvn U D W)) := by
  rw [dvn, dm0_wd, dm1_wd, tril_up, tril_up, tn_up, tn_up, add_up]
  congr 1; funext i
  by_cases h : (c0 i).val < 64
  · refine Eq.trans (congrArg₂ (· + ·) (Finset.sum_eq_zero fun p _ => ?_) (Finset.sum_congr rfl fun p _ => ?_)) (zero_add (Model.dvn U D W (128 * k + (r0 i).val) (128 * j + (c0 i).val)))
    · exact (congrArg _ (if_pos h)).trans (mul_zero _)
    · refine (congrArg _ (if_pos h)).trans ?_
      simp only [wd, row_mod, row_div, head_lo j (c0 i) h, tw, wh, r0_ix2, c0_ix2]; rfl
  · refine Eq.trans (congrArg₂ (· + ·) (Finset.sum_congr rfl fun p _ => ?_) (Finset.sum_eq_zero fun p _ => ?_)) (add_zero (Model.dvn U D W (128 * k + (r0 i).val) (128 * j + (c0 i).val)))
    · refine (congrArg _ (if_neg h)).trans ?_
      simp only [wd, row_mod, row_div, head_hi j (c0 i) h, tw, wh, r0_ix2, c0_ix2]; rfl
    · exact (congrArg _ (if_neg h)).trans (mul_zero _)
/-- before the scale, -/
theorem dxn_wd : (dxn (F := Ideal) (up (wd k j U)) (up (rv j G)) (up (wh (2 * j) W)) (up (wh (2 * j + 1) W)) (up (wd k j D)) : S128x128.Idx → EReal)
    = up (wd k j (Model.dxn U D G W)) := by
  rw [dxn, dvn_wd, rowB_up, mul_up]; rfl
/-- through the variance, -/
theorem dvar_wd : (dvar (F := Ideal) (up (wd k j U)) (up (wd k j V)) (up (rv j G)) (up (wh (2 * j) W)) (up (wh (2 * j + 1) W)) (up (wd k j D)) : S128x128.Idx → EReal)
    = up (wd k j (Model.dvar U V D G W)) := by
  rw [dvar, xc_wd, dxn_wd, rs_wd, vare_wd, lit_up _ _ lit_nhalf, div_up _ (wd k j (Model.vare V)) fun i => (vare_pos V _ _).ne', mul_up, mul_up, mul_up]
  exact gmean_wd k j fun r c => Model.xc V r c * Model.dxn U D G W r c * (-(1 / 2) * (Model.rs V r c / Model.vare V r c))
/-- centred, -/
theorem dxc_wd : (dxc (F := Ideal) (up (wd k j U)) (up (wd k j V)) (up (rv j G)) (up (wh (2 * j) W)) (up (wh (2 * j + 1) W)) (up (wd k j D)) : S128x128.Idx → EReal)
    = up (wd k j (Model.dxc U V D G W)) := by
  rw [dxc, xc_wd, dxn_wd, rs_wd, dvar_wd, mul_up, mul_up, mul_up, add_up, add_up]; rfl
/-- and of the activation. -/
theorem dact_wd : (dact (F := Ideal) (up (wd k j U)) (up (wd k j V)) (up (rv j G)) (up (wh (2 * j) W)) (up (wh (2 * j + 1) W)) (up (wd k j D)) : S128x128.Idx → EReal)
    = up (wd k j (Model.dact U V D G W)) := by
  have h : (subf (up fun _ => 0) (up (wd k j (Model.dxc U V D G W))) : FVec Ideal S128x128 .f32)
      = up (wd k j fun r c => 0 - Model.dxc U V D G W r c) := sub_up _ _
  rw [dact, dxc_wd, lit_up _ _ lit_zero, h, gmean_wd, add_up]; rfl

/-- The gradient of the second branch in a window, -/
theorem oBv_wd : (oBv (F := Ideal) (up (wd k j U)) (up (wd k j V)) (up (rv j G)) (up (wh (2 * j) W)) (up (wh (2 * j + 1) W)) (up (wd k j D)) : S128x128.Idx → EReal)
    = up (wd k j (Model.dv U V D G W)) := by
  rw [oBv, dact_wd, geluBwd_up, trunc_up]; rfl
/-- of the gate, -/
theorem oBu_wd : (oBu (F := Ideal) (up (wd k j U)) (up (wd k j V)) (up (rv j G)) (up (rv j B)) (up (wh (2 * j) W)) (up (wh (2 * j + 1) W))
    (up (sh (2 * j) S)) (up (sh (2 * j + 1) S)) (up (wd k j D)) : S128x128.Idx → EReal) = up (wd k j (Model.du U V D G B W S)) := by
  rw [oBu, mix_wd, mul_up, geluBwd_up, trunc_up]; rfl
/-- of the scale, -/
theorem oG_wd : (oG (F := Ideal) (up (wd k j U)) (up (wd k j V)) (up (wh (2 * j) W)) (up (wh (2 * j + 1) W)) (up (wd k j D)) : S1x128.Idx → EReal)
    = up (rv j fun c => ∑ r : Fin 128, Model.xn V (128 * k + r) c * Model.dvn U D W (128 * k + r) c) := by
  rw [oG, xn_wd, dvn_wd, mul_up, colSum_up]; rfl
/-- of the shift, -/
theorem oB_wd : (oB (F := Ideal) (up (wd k j U)) (up (wh (2 * j) W)) (up (wh (2 * j + 1) W)) (up (wd k j D)) : S1x128.Idx → EReal)
    = up (rv j fun c => ∑ r : Fin 128, Model.dvn U D W (128 * k + r) c) := by
  rw [oB, dvn_wd, colSum_up]; rfl
/-- of the first head's weights, -/
theorem oW0_wd : (oW0 (F := Ideal) (up (wd k j U)) (up (wd k j V)) (up (rv j G)) (up (rv j B)) (up (wd k j D)) : S128x128.Idx → EReal)
    = up (wh (2 * j) (dwPart U V D G B k)) := by
  rw [oW0, dm0_wd, vn_wd, nt_up, tril_up]
  congr 1; funext i
  have e : ∀ p : Fin 64, 64 * (2 * j) + p.val = 128 * j + p.val := fun p => by omega
  have n : ∀ p : Fin 64, ¬ 64 + p.val < 64 := fun p => by omega
  simp only [wh, dwPart, wd, r0_ix2, c0_ix2, l0_ix2, e]
  rw [Fin.sum_univ_two_halves 64 64 (by norm_num)]
  simp [n]
/-- of the second head's weights, -/
theorem oW1_wd : (oW1 (F := Ideal) (up (wd k j U)) (up (wd k j V)) (up (rv j G)) (up (rv j B)) (up (wd k j D)) : S128x128.Idx → EReal)
    = up (wh (2 * j + 1) (dwPart U V D G B k)) := by
  rw [oW1, dm1_wd, vn_wd, nt_up, tril_up]
  congr 1; funext i
  have e : ∀ p : Fin 64, 64 * (2 * j + 1) + p.val = 128 * j + (64 + p.val) := fun p => by omega
  have n : ∀ p : Fin 64, ¬ 64 + p.val < 64 := fun p => by omega
  simp only [wh, dwPart, wd, r0_ix2, c0_ix2, l0_ix2, e]
  rw [Fin.sum_univ_two_halves 64 64 (by norm_num)]
  simp [n]
/-- of the first head's offsets, -/
theorem oB0_wd : (oB0 (F := Ideal) (up (wd k j U)) (up (wd k j D)) : S1x128.Idx → EReal)
    = up (sh (2 * j) fun h t => ∑ p : Fin 64, dm U D (128 * k + t) (64 * h + p)) := by
  rw [oB0, dm0_wd, tr_up, colSum_up]
  congr 1; funext i
  have e : ∀ p : Fin 64, 64 * (2 * j) + p.val = 128 * j + p.val := fun p => by omega
  have n : ∀ p : Fin 64, ¬ 64 + p.val < 64 := fun p => by omega
  simp only [sh, wd, r0_ix2, c0_ix2, l0_ix2, e]
  rw [Fin.sum_univ_two_halves 64 64 (by norm_num)]
  simp [n]
/-- and of the second head's offsets. -/
theorem oB1_wd : (oB1 (F := Ideal) (up (wd k j U)) (up (wd k j D)) : S1x128.Idx → EReal)
    = up (sh (2 * j + 1) fun h t => ∑ p : Fin 64, dm U D (128 * k + t) (64 * h + p)) := by
  rw [oB1, dm1_wd, tr_up, colSum_up]
  congr 1; funext i
  have e : ∀ p : Fin 64, 64 * (2 * j + 1) + p.val = 128 * j + (64 + p.val) := fun p => by omega
  have n : ∀ p : Fin 64, ¬ 64 + p.val < 64 := fun p => by omega
  simp only [sh, wd, r0_ix2, c0_ix2, l0_ix2, e]
  rw [Fin.sum_univ_two_halves 64 64 (by norm_num)]
  simp [n]

end Cert.KernelIdeal.Chunk
-- ==== Proof.KOut.lean ====
module

public import proofs.«01_k».proof.Proof.Chunk
public import proofs.«01_k».proof.Proof.Gen.KernelIdeal.Frame
public import Idealize.ShloMosaic.Lib.Pipeline.ValueKit
public import Idealize.ShloMosaic.Lib.Pipeline.ReadBack

/-! What one grid point leaves in each output block, through the named stages of a chunk. -/

@[expose] public section

set_option maxRecDepth 16384

namespace Cert.KernelIdeal.Chunk

open Cert.KernelIdeal Cert.KernelIdeal.Gen Idealize.ShloMosaic Idealize.ShloMosaic.TcCoe Idealize.SL.Sem

variable {F : FTy → Type} [FloatOps F] (m : (ℓ : Loc nD τ sig) → Buf (Elt F) ℓ) (c : Dev nD) (t : Fin cfg0.N)

local notation "M32" => FVec F S128x128 FTy.f32
local notation "R32" => FVec F S1x128 FTy.f32

/-- The four 128-row chunks of a block of 512 rows. -/
noncomputable def rows (x : Vec F S512x128 .f32) : Fin 4 → M32
  | 0 => View.ld x (Rect.unit ![0, 0] ![128, 128] inb_S512x128_S128x128_0_0)
  | 1 => View.ld x (Rect.unit ![128, 0] ![128, 128] inb_S512x128_S128x128_128_0)
  | 2 => View.ld x (Rect.unit ![256, 0] ![128, 128] inb_S512x128_S128x128_256_0)
  | 3 => View.ld x (Rect.unit ![384, 0] ![128, 128] inb_S512x128_S128x128_384_0)

/-- The gate's rows at this grid point, -/
noncomputable def bu (k : Fin 4) : M32 := rows (iblk m c 0 t) k
/-- the second branch's rows, -/
noncomputable def bv (k : Fin 4) : M32 := rows (iblk m c 1 t) k
/-- the incoming gradient's rows, -/
noncomputable def dy (k : Fin 4) : M32 := rows (iblk m c 6 t) k
/-- the scale, -/
noncomputable def gg : R32 := shapeCast S1x128 (iblk m c 2 t) shapeCasts_S1x128_S1x128
/-- the shift, -/
noncomputable def bb : R32 := shapeCast S1x128 (iblk m c 3 t) shapeCasts_S1x128_S1x128
/-- the first head's weights, -/
noncomputable def w0 : M32 := shapeCast S128x128 (View.ld (iblk m c 4 t) (Rect.unit ![0, 0, 0] ![1, 128, 128] inb_S2x128x128_S1x128x128_0_0_0)) shapeCasts_S1x128x128_S128x128
/-- the second head's weights, -/
noncomputable def w1 : M32 := shapeCast S128x128 (View.ld (iblk m c 4 t) (Rect.unit ![1, 0, 0] ![1, 128, 128] inb_S2x128x128_S1x128x128_1_0_0)) shapeCasts_S1x128x128_S128x128
/-- the first head's offsets, -/
noncomputable def b0 : R32 := shapeCast S1x128 (View.ld (iblk m c 5 t) (Rect.unit ![0, 0, 0] ![1, 1, 128] inb_S1x2x128_S1x1x128_0_0_0)) shapeCasts_S1x1x128_S1x128
/-- and the second head's offsets. -/
noncomputable def b1 : R32 := shapeCast S1x128 (View.ld (iblk m c 5 t) (Rect.unit ![0, 1, 0] ![1, 1, 128] inb_S1x2x128_S1x1x128_0_1_0)) shapeCasts_S1x1x128_S1x128

/-- A row read back before a chunk's row is added to it. -/
noncomputable def sc (x : R32) : R32 := shapeCast S1x128 x shapeCasts_S1x128_S1x128

/-- Four chunks' rows added to a row, one after the other. -/
noncomputable def addRows (x : R32) (r : Fin 4 → R32) : R32 := addf (sc (addf (sc (addf (sc (addf (sc x) (r 0))) (r 1))) (r 2))) (r 3)

/-- The chunk's scale gradient at this grid point, -/
noncomputable def pG (k : Fin 4) : R32 := oG (bu m c t k) (bv m c t k) (w0 m c t) (w1 m c t) (dy m c t k)
/-- its shift gradient. -/
noncomputable def pB (k : Fin 4) : R32 := oB (bu m c t k) (w0 m c t) (w1 m c t) (dy m c t k)

/-- The chunk's gradient of the first head's weights at this grid point, -/
noncomputable def pW0 (k : Fin 4) : M32 := oW0 (bu m c t k) (bv m c t k) (gg m c t) (bb m c t) (dy m c t k)
/-- of the second head's weights, -/
noncomputable def pW1 (k : Fin 4) : M32 := oW1 (bu m c t k) (bv m c t k) (gg m c t) (bb m c t) (dy m c t k)
/-- of the first head's offsets, -/
noncomputable def pB0 (k : Fin 4) : R32 := oB0 (bu m c t k) (dy m c t k)
/-- of the second head's offsets, -/
noncomputable def pB1 (k : Fin 4) : R32 := oB1 (bu m c t k) (dy m c t k)
/-- of the gate's rows, -/
noncomputable def pU (k : Fin 4) : FVec F S128x128 .bf16 :=
  oBu (bu m c t k) (bv m c t k) (gg m c t) (bb m c t) (w0 m c t) (w1 m c t) (b0 m c t) (b1 m c t) (dy m c t k)
/-- and of the second branch's rows. -/
noncomputable def pV (k : Fin 4) : FVec F S128x128 .bf16 :=
  oBv (bu m c t k) (bv m c t k) (gg m c t) (w0 m c t) (w1 m c t) (dy m c t k)

/-- Four chunks one under the other. -/
noncomputable def tiles (p : Fin 4 → FVec F S128x128 .bf16) : Vec F S512x128 .bf16 :=
  View.canon [⟨Rect.unit ![384, 0] ![128, 128] inb_S512x128_S128x128_384_0, p 3⟩,
    ⟨Rect.unit ![256, 0] ![128, 128] inb_S512x128_S128x128_256_0, p 2⟩,
    ⟨Rect.unit ![128, 0] ![128, 128] inb_S512x128_S128x128_128_0, p 1⟩,
    ⟨Rect.unit ![0, 0] ![128, 128] inb_S512x128_S128x128_0_0, p 0⟩]

/-- A page to which a block is added. -/
noncomputable def addPage (x : FVec F S1x128x128 .f32) (d : M32) : FVec F S1x128x128 .f32 :=
  shapeCast S1x128x128 (addf (shapeCast S128x128 x shapeCasts_S1x128x128_S128x128) d) shapeCasts_S128x128_S1x128x128
/-- Four blocks added to a page, one after the other. -/
noncomputable def addPages (x : FVec F S1x128x128 .f32) (d : Fin 4 → M32) : FVec F S1x128x128 .f32 :=
  addPage (addPage (addPage (addPage x (d 0)) (d 1)) (d 2)) (d 3)
/-- A one-row page to which a row is added. -/
noncomputable def addLine (x : FVec F S1x1x128 .f32) (d : R32) : FVec F S1x1x128 .f32 :=
  shapeCast S1x1x128 (addf (shapeCast S1x128 x shapeCasts_S1x1x128_S1x128) d) shapeCasts_S1x128_S1x1x128
/-- Four rows added to a one-row page, one after the other. -/
noncomputable def addLines (x : FVec F S1x1x128 .f32) (d : Fin 4 → R32) : FVec F S1x1x128 .f32 :=
  addLine (addLine (addLine (addLine x (d 0)) (d 1)) (d 2)) (d 3)

/-- One page of a pair of pages. -/
noncomputable def page0 (x : Vec F S2x128x128 .f32) : FVec F S1x128x128 .f32 :=
  View.ld x (Rect.unit ![0, 0, 0] ![1, 128, 128] inb_S2x128x128_S1x128x128_0_0_0)
/-- The other page. -/
noncomputable def page1 (x : Vec F S2x128x128 .f32) : FVec F S1x128x128 .f32 :=
  View.ld x (Rect.unit ![1, 0, 0] ![1, 128, 128] inb_S2x128x128_S1x128x128_1_0_0)
/-- One row of a pair of rows. -/
noncomputable def line0 (x : Vec F S1x2x128 .f32) : FVec F S1x1x128 .f32 :=
  View.ld x (Rect.unit ![0, 0, 0] ![1, 1, 128] inb_S1x2x128_S1x1x128_0_0_0)
/-- The other row. -/
noncomputable def line1 (x : Vec F S1x2x128 .f32) : FVec F S1x1x128 .f32 :=
  View.ld x (Rect.unit ![0, 1, 0] ![1, 1, 128] inb_S1x2x128_S1x1x128_0_1_0)

/-- Two pages, one after the other. -/
noncomputable def twoPages (p q : FVec F S1x128x128 .f32) : Vec F S2x128x128 .f32 := fun y =>
  if (y 0).val = 0 then p (ix3 0 (y 1) (y 2)) else q (ix3 0 (y 1) (y 2))
/-- Two rows, one under the other. -/
noncomputable def twoLines (p q : FVec F S1x1x128 .f32) : Vec F S1x2x128 .f32 := fun y =>
  if (y 1).val = 0 then p (ix3 0 0 (y 2)) else q (ix3 0 0 (y 2))

variable (F) in
/-- A row of zeros. -/
noncomputable def zRow : R32 := broadcast S1x128 (Scalar.ofBits .f32 0x00000000#32 : F .f32)
variable (F) in
/-- A pair of pages of zeros. -/
noncomputable def zPages : FVec F S2x128x128 .f32 := broadcast S2x128x128 (Scalar.ofBits .f32 0x00000000#32 : F .f32)
variable (F) in
/-- A pair of rows of zeros. -/
noncomputable def zLines : FVec F S1x2x128 .f32 := broadcast S1x2x128 (Scalar.ofBits .f32 0x00000000#32 : F .f32)

/-- What was left in the output blocks at the point before. -/
noncomputable abbrev prev := outsAt0 m c (t.val - 1) (Nat.lt_of_le_of_lt (Nat.sub_le _ _) t.isLt)

theorem outU_A (h0 : t.val % 8 = 0) : (outsAt0 m c t.val t.isLt).1 = tiles (pU m c t) := by
  rw [outsAt0_A m c t h0]; dsimp only; frame_out; rfl
theorem outU_B (h0 : ¬ t.val % 8 = 0) : (outsAt0 m c t.val t.isLt).1 = tiles (pU m c t) := by
  rw [outsAt0_B m c t h0]; dsimp only; frame_out; rfl
theorem outV_A (h0 : t.val % 8 = 0) : (outsAt0 m c t.val t.isLt).2.1 = tiles (pV m c t) := by
  rw [outsAt0_A m c t h0]; dsimp only; frame_out; rfl
theorem outV_B (h0 : ¬ t.val % 8 = 0) : (outsAt0 m c t.val t.isLt).2.1 = tiles (pV m c t) := by
  rw [outsAt0_B m c t h0]; dsimp only; frame_out; rfl
theorem outG_A (h0 : t.val % 8 = 0) : (outsAt0 m c t.val t.isLt).2.2.1 = addRows (zRow F) (pG m c t) := by
  rw [outsAt0_A m c t h0]; dsimp only; frame_out; rfl
theorem outG_B (h0 : ¬ t.val % 8 = 0) : (outsAt0 m c t.val t.isLt).2.2.1 = addRows (prev m c t).2.2.1 (pG m c t) := by
  rw [outsAt0_B m c t h0]; dsimp only; frame_out; rfl
theorem outB_A (h0 : t.val % 8 = 0) : (outsAt0 m c t.val t.isLt).2.2.2.1 = addRows (zRow F) (pB m c t) := by
  rw [outsAt0_A m c t h0]; dsimp only; frame_out; rfl
theorem outB_B (h0 : ¬ t.val % 8 = 0) : (outsAt0 m c t.val t.isLt).2.2.2.1 = addRows (prev m c t).2.2.2.1 (pB m c t) := by
  rw [outsAt0_B m c t h0]; dsimp only; frame_out; rfl

/-- The two pages of a pair, stored last, are what is there. -/
theorem canon_pages (p q : Vec F S1x128x128 .f32) (L : List (View.Piece (Elt F) S2x128x128 .f32)) :
    View.canon (⟨Rect.unit (s := S2x128x128) ![1, 0, 0] ![1, 128, 128] inb_S2x128x128_S1x128x128_1_0_0, q⟩ :: ⟨Rect.unit (s := S2x128x128) ![0, 0, 0] ![1, 128, 128] inb_S2x128x128_S1x128x128_0_0_0, p⟩ :: L) = twoPages p q := by
  funext y
  by_cases h : (y 0).val = 0
  · have e : (Rect.unit (s := S2x128x128) ![0, 0, 0] ![1, 128, 128] inb_S2x128x128_S1x128x128_0_0_0).emb (ix3 (0 : Fin 1) (y 1) (y 2) : S1x128x128.Idx) = y := by
      funext a; apply Fin.ext; simp only [Rect.emb_apply]; fin_cases a <;> simp <;> omega
    rw [View.canon_cons_of_not_mem _ _ (fun hm => ?_), twoPages, if_pos h]
    · conv_lhs => rw [← e]
      exact View.canon_cons_emb (Rect.unit (s := S2x128x128) ![0, 0, 0] ![1, 128, 128] inb_S2x128x128_S1x128x128_0_0_0) p L _
    · have := (Rect.mem_set_unit (inb := inb_S2x128x128_S1x128x128_1_0_0).mp hm 0).1
      simp at this; omega
  · have e : (Rect.unit (s := S2x128x128) ![1, 0, 0] ![1, 128, 128] inb_S2x128x128_S1x128x128_1_0_0).emb (ix3 (0 : Fin 1) (y 1) (y 2) : S1x128x128.Idx) = y := by
      have h2 : (y 0).val < 2 := (y 0).isLt
      funext a; apply Fin.ext; simp only [Rect.emb_apply]; fin_cases a <;> simp <;> omega
    rw [twoPages, if_neg h]
    conv_lhs => rw [← e]
    exact View.canon_cons_emb (Rect.unit (s := S2x128x128) ![1, 0, 0] ![1, 128, 128] inb_S2x128x128_S1x128x128_1_0_0) q _ _

/-- The two lines of a pair, stored last, are what is there. -/
theorem canon_lines (p q : Vec F S1x1x128 .f32) (L : List (View.Piece (Elt F) S1x2x128 .f32)) :
    View.canon (⟨Rect.unit (s := S1x2x128) ![0, 1, 0] ![1, 1, 128] inb_S1x2x128_S1x1x128_0_1_0, q⟩ :: ⟨Rect.unit (s := S1x2x128) ![0, 0, 0] ![1, 1, 128] inb_S1x2x128_S1x1x128_0_0_0, p⟩ :: L) = twoLines p q := by
  funext y
  by_cases h : (y 1).val = 0
  · have e : (Rect.unit (s := S1x2x128) ![0, 0, 0] ![1, 1, 128] inb_S1x2x128_S1x1x128_0_0_0).emb (ix3 (0 : Fin 1) (0 : Fin 1) (y 2) : S1x1x128.Idx) = y := by
      funext a; apply Fin.ext; simp only [Rect.emb_apply]; fin_cases a <;> simp <;> omega
    rw [View.canon_cons_of_not_mem _ _ (fun hm => ?_), twoLines, if_pos h]
    · conv_lhs => rw [← e]
      exact View.canon_cons_emb (Rect.unit (s := S1x2x128) ![0, 0, 0] ![1, 1, 128] inb_S1x2x128_S1x1x128_0_0_0) p L _
    · have := (Rect.mem_set_unit (inb := inb_S1x2x128_S1x1x128_0_1_0).mp hm 1).1
      simp at this; omega
  · have e : (Rect.unit (s := S1x2x128) ![0, 1, 0] ![1, 1, 128] inb_S1x2x128_S1x1x128_0_1_0).emb (ix3 (0 : Fin 1) (0 : Fin 1) (y 2) : S1x1x128.Idx) = y := by
      have h2 : (y 1).val < 2 := (y 1).isLt
      funext a; apply Fin.ext; simp only [Rect.emb_apply]; fin_cases a <;> simp <;> omega
    rw [twoLines, if_neg h]
    conv_lhs => rw [← e]
    exact View.canon_cons_emb (Rect.unit (s := S1x2x128) ![0, 1, 0] ![1, 1, 128] inb_S1x2x128_S1x1x128_0_1_0) q _ _

section
variable {sig : RefSig} {κ : Kind} {sp : Space}
theorem skip_page1 (v : View sig κ sp S2x128x128 .f32) (w : FVec F S1x128x128 .f32) (L : List (View.Piece (Elt F) S2x128x128 .f32)) :
    v.readCov (⟨Rect.unit ![1, 0, 0] ![1, 128, 128] inb_S2x128x128_S1x128x128_1_0_0, w⟩ :: L)
        (Rect.unit ![0, 0, 0] ![1, 128, 128] inb_S2x128x128_S1x128x128_0_0_0).toLoadRect
      = v.readCov L (Rect.unit ![0, 0, 0] ![1, 128, 128] inb_S2x128x128_S1x128x128_0_0_0).toLoadRect :=
  View.readCov_skip v _ _ _ _ (by decide +kernel)
theorem skip_page0 (v : View sig κ sp S2x128x128 .f32) (w : FVec F S1x128x128 .f32) (L : List (View.Piece (Elt F) S2x128x128 .f32)) :
    v.readCov (⟨Rect.unit ![0, 0, 0] ![1, 128, 128] inb_S2x128x128_S1x128x128_0_0_0, w⟩ :: L)
        (Rect.unit ![1, 0, 0] ![1, 128, 128] inb_S2x128x128_S1x128x128_1_0_0).toLoadRect
      = v.readCov L (Rect.unit ![1, 0, 0] ![1, 128, 128] inb_S2x128x128_S1x128x128_1_0_0).toLoadRect :=
  View.readCov_skip v _ _ _ _ (by decide +kernel)
theorem fill_pages (v : View sig κ sp S2x128x128 .f32) (w : Vec F S2x128x128 .f32) (r : Rect S2x128x128) :
    v.readCov [⟨Rect.unit ![0, 0, 0] ![2, 128, 128] inb_S2x128x128_S2x128x128_0_0_0, w⟩] r.toLoadRect = View.ld w r :=
  View.readCov_fill v inb_S2x128x128_S2x128x128_0_0_0 w [] r (by decide)
theorem skip_line1 (v : View sig κ sp S1x2x128 .f32) (w : FVec F S1x1x128 .f32) (L : List (View.Piece (Elt F) S1x2x128 .f32)) :
    v.readCov (⟨Rect.unit ![0, 1, 0] ![1, 1, 128] inb_S1x2x128_S1x1x128_0_1_0, w⟩ :: L)
        (Rect.unit ![0, 0, 0] ![1, 1, 128] inb_S1x2x128_S1x1x128_0_0_0).toLoadRect
      = v.readCov L (Rect.unit ![0, 0, 0] ![1, 1, 128] inb_S1x2x128_S1x1x128_0_0_0).toLoadRect :=
  View.readCov_skip v _ _ _ _ (by decide +kernel)
theorem skip_line0 (v : View sig κ sp S1x2x128 .f32) (w : FVec F S1x1x128 .f32) (L : List (View.Piece (Elt F) S1x2x128 .f32)) :
    v.readCov (⟨Rect.unit ![0, 0, 0] ![1, 1, 128] inb_S1x2x128_S1x1x128_0_0_0, w⟩ :: L)
        (Rect.unit ![0, 1, 0] ![1, 1, 128] inb_S1x2x128_S1x1x128_0_1_0).toLoadRect
      = v.readCov L (Rect.unit ![0, 1, 0] ![1, 1, 128] inb_S1x2x128_S1x1x128_0_1_0).toLoadRect :=
  View.readCov_skip v _ _ _ _ (by decide +kernel)
theorem fill_lines (v : View sig κ sp S1x2x128 .f32) (w : Vec F S1x2x128 .f32) (r : Rect S1x2x128) :
    v.readCov [⟨Rect.unit ![0, 0, 0] ![1, 2, 128] inb_S1x2x128_S1x2x128_0_0_0, w⟩] r.toLoadRect = View.ld w r :=
  View.readCov_fill v inb_S1x2x128_S1x2x128_0_0_0 w [] r (by decide)
end

theorem outW_A (h0 : t.val % 8 = 0) : (outsAt0 m c t.val t.isLt).2.2.2.2.1
    = twoPages (addPages (page0 (zPages F)) (pW0 m c t)) (addPages (page1 (zPages F)) (pW1 m c t)) := by
  rw [outsAt0_A m c t h0]; dsimp only; frame_out
  simp only [View.readCov_cons_toLoadRect, skip_page0, skip_page1, fill_pages]
  rw [canon_pages]; rfl
theorem outW_B (h0 : ¬ t.val % 8 = 0) : (outsAt0 m c t.val t.isLt).2.2.2.2.1
    = twoPages (addPages (page0 (prev m c t).2.2.2.2.1) (pW0 m c t)) (addPages (page1 (prev m c t).2.2.2.2.1) (pW1 m c t)) := by
  rw [outsAt0_B m c t h0]; dsimp only; frame_out
  simp only [View.readCov_cons_toLoadRect, skip_page0, skip_page1, fill_pages]
  rw [canon_pages]; rfl
theorem outS_A (h0 : t.val % 8 = 0) : (outsAt0 m c t.val t.isLt).2.2.2.2.2
    = twoLines (addLines (line0 (zLines F)) (pB0 m c t)) (addLines (line1 (zLines F)) (pB1 m c t)) := by
  rw [outsAt0_A m c t h0]; dsimp only; frame_out
  simp only [View.readCov_cons_toLoadRect, skip_line0, skip_line1, fill_lines]
  rw [canon_lines]; rfl
theorem outS_B (h0 : ¬ t.val % 8 = 0) : (outsAt0 m c t.val t.isLt).2.2.2.2.2
    = twoLines (addLines (line0 (prev m c t).2.2.2.2.2) (pB0 m c t)) (addLines (line1 (prev m c t).2.2.2.2.2) (pB1 m c t)) := by
  rw [outsAt0_B m c t h0]; dsimp only; frame_out
  simp only [View.readCov_cons_toLoadRect, skip_line0, skip_line1, fill_lines]
  rw [canon_lines]; rfl

end Cert.KernelIdeal.Chunk
-- ==== Proof.KIn.lean ====
module

public import proofs.«01_k».proof.Proof.ChunkUp
public import proofs.«01_k».proof.Proof.KOut

/-! The kernel's input blocks at a grid point, when the arguments hold real numbers: windows of the argument arrays. -/

@[expose] public section

set_option maxRecDepth 16384

namespace Cert.KernelIdeal.Chunk

open Cert.KernelIdeal Cert.KernelIdeal.Gen Idealize.ShloMosaic Idealize.ShloMosaic.TcCoe Idealize.SL.Sem Cert.Up Cert.Model

/-- The projected rows as a function of row and column, -/
noncomputable def aP (x : FVec Ideal S4096x4608 .f32) (r c : ℕ) : ℝ := (x (ix2 (Fin.ofNat 4096 r) (Fin.ofNat 4608 c)) : EReal).toReal
/-- the incoming gradient, -/
noncomputable def aD (x : FVec Ideal S4096x2048 .f32) (r c : ℕ) : ℝ := (x (ix2 (Fin.ofNat 4096 r) (Fin.ofNat 2048 c)) : EReal).toReal
/-- a vector over the columns, -/
noncomputable def aV (x : FVec Ideal S512 .f32) (c : ℕ) : ℝ := (x (ix1 (Fin.ofNat 512 c)) : EReal).toReal
/-- the heads' weights, -/
noncomputable def aW (x : FVec Ideal S8x128x128 .f32) (h t s : ℕ) : ℝ := (x (ix3 (Fin.ofNat 8 h) (Fin.ofNat 128 t) (Fin.ofNat 128 s)) : EReal).toReal
/-- and the heads' offsets. -/
noncomputable def aS (x : FVec Ideal S8x128 .f32) (h t : ℕ) : ℝ := (x (ix2 (Fin.ofNat 8 h) (Fin.ofNat 128 t)) : EReal).toReal

/-- Every entry is a real number. -/
def Rl {s : Shape} (x : s.Idx → EReal) : Prop := ∀ i, x i = ((x i).toReal : EReal)

/-! An entry of an argument array, at the numbers its index stands for. -/

theorem aP_eq (x : FVec Ideal S4096x4608 .f32) (h : Rl x) (i : S4096x4608.Idx) (r c : ℕ) (hr : (i 0).val = r) (hc : (i 1).val = c) :
    x i = (aP x r c : EReal) := by
  have e : (ix2 (Fin.ofNat 4096 r) (Fin.ofNat 4608 c) : S4096x4608.Idx) = i := by
    subst hr hc; idx_vars i; blk_ext <;> exact Nat.mod_eq_of_lt (by assumption)
  rw [h i, aP, e]
theorem aD_eq (x : FVec Ideal S4096x2048 .f32) (h : Rl x) (i : S4096x2048.Idx) (r c : ℕ) (hr : (i 0).val = r) (hc : (i 1).val = c) :
    x i = (aD x r c : EReal) := by
  have e : (ix2 (Fin.ofNat 4096 r) (Fin.ofNat 2048 c) : S4096x2048.Idx) = i := by
    subst hr hc; idx_vars i; blk_ext <;> exact Nat.mod_eq_of_lt (by assumption)
  rw [h i, aD, e]
theorem aV_eq (x : FVec Ideal S512 .f32) (h : Rl x) (i : S512.Idx) (r : ℕ) (hr : (i 0).val = r) :
    x i = (aV x r : EReal) := by
  have e : (ix1 (Fin.ofNat 512 r) : S512.Idx) = i := by
    subst hr; idx_vars i; blk_ext <;> exact Nat.mod_eq_of_lt (by assumption)
  rw [h i, aV, e]
theorem aW_eq (x : FVec Ideal S8x128x128 .f32) (h : Rl x) (i : S8x128x128.Idx) (r c s : ℕ) (hr : (i 0).val = r) (hc : (i 1).val = c) (hs : (i 2).val = s) :
    x i = (aW x r c s : EReal) := by
  have e : (ix3 (Fin.ofNat 8 r) (Fin.ofNat 128 c) (Fin.ofNat 128 s) : S8x128x128.Idx) = i := by
    subst hr hc hs; idx_vars i; blk_ext <;> exact Nat.mod_eq_of_lt (by assumption)
  rw [h i, aW, e]
theorem aS_eq (x : FVec Ideal S8x128 .f32) (h : Rl x) (i : S8x128.Idx) (r c : ℕ) (hr : (i 0).val = r) (hc : (i 1).val = c) :
    x i = (aS x r c : EReal) := by
  have e : (ix2 (Fin.ofNat 8 r) (Fin.ofNat 128 c) : S8x128.Idx) = i := by
    subst hr hc; idx_vars i; blk_ext <;> exact Nat.mod_eq_of_lt (by assumption)
  rw [h i, aS, e]

variable (m : (ℓ : Loc nD τ sig) → Buf (Elt Ideal) ℓ) (c : Dev nD) (t : Fin cfg0.N)

theorem idx : ∀ t : Fin cfg0.N, win0_0.index t = ![t.val % 8, 8 + t.val / 8] ∧ win0_1.index t = ![t.val % 8, 12 + t.val / 8]
    ∧ win0_2.index t = ![0, t.val / 8] ∧ win0_3.index t = ![0, t.val / 8] ∧ win0_4.index t = ![t.val / 8, 0, 0]
    ∧ win0_5.index t = ![t.val / 8, 0, 0] ∧ win0_6.index t = ![t.val % 8, 4 + t.val / 8] ∧ win0_7.index t = ![t.val % 8, t.val / 8]
    ∧ win0_8.index t = ![t.val % 8, t.val / 8] ∧ win0_9.index t = ![0, t.val / 8] ∧ win0_10.index t = ![0, t.val / 8]
    ∧ win0_11.index t = ![t.val / 8, 0, 0] ∧ win0_12.index t = ![t.val / 8, 0, 0] :=
  (by decide +kernel : ∀ t : Fin grid0.N, _)

/-- The gate's block: rows of the projected array, columns from 1024 on. -/
theorem iblk0 (h : Rl (s := S4096x4608) (m ((c : Thread nD τ).loc main_arg0))) (y : S512x128.Idx) :
    (iblk m c 0 t y : EReal) = (aP (m ((c : Thread nD τ).loc main_arg0)) (512 * (t.val % 8) + (y 0).val) (1024 + (128 * (t.val / 8) + (y 1).val)) : EReal) := by
  blk_simp [iblk]
  rw [V_main_arg0]
  refine aP_eq _ h _ _ _ ?_ ?_
  all_goals (blk_simp [idx t]; try omega)

/-- The second branch's block: columns from 1536 on. -/
theorem iblk1 (h : Rl (s := S4096x4608) (m ((c : Thread nD τ).loc main_arg0))) (y : S512x128.Idx) :
    (iblk m c 1 t y : EReal) = (aP (m ((c : Thread nD τ).loc main_arg0)) (512 * (t.val % 8) + (y 0).val) (1536 + (128 * (t.val / 8) + (y 1).val)) : EReal) := by
  blk_simp [iblk]
  rw [V_main_arg0]
  refine aP_eq _ h _ _ _ ?_ ?_
  all_goals (blk_simp [idx t]; try omega)

/-- The incoming gradient's block: columns from 512 on. -/
theorem iblk6 (h : Rl (s := S4096x2048) (m ((c : Thread nD τ).loc main_arg5))) (y : S512x128.Idx) :
    (iblk m c 6 t y : EReal) = (aD (m ((c : Thread nD τ).loc main_arg5)) (512 * (t.val % 8) + (y 0).val) (512 + (128 * (t.val / 8) + (y 1).val)) : EReal) := by
  blk_simp [iblk]
  rw [V_main_arg5]
  refine aD_eq _ h _ _ _ ?_ ?_
  all_goals (blk_simp [idx t]; try omega)

/-- The scale's block. -/
theorem iblk2 (h : Rl (s := S512) (m ((c : Thread nD τ).loc main_arg1))) (y : S1x128.Idx) :
    (iblk m c 2 t y : EReal) = (aV (m ((c : Thread nD τ).loc main_arg1)) (128 * (t.val / 8) + (y 1).val) : EReal) := by
  blk_simp [iblk]
  entry_read
  pointwise
  refine aV_eq _ h _ _ ?_
  all_goals (blk_simp [idx t]; try omega)

/-- The shift's block. -/
theorem iblk3 (h : Rl (s := S512) (m ((c : Thread nD τ).loc main_arg2))) (y : S1x128.Idx) :
    (iblk m c 3 t y : EReal) = (aV (m ((c : Thread nD τ).loc main_arg2)) (128 * (t.val / 8) + (y 1).val) : EReal) := by
  blk_simp [iblk]
  entry_read
  pointwise
  refine aV_eq _ h _ _ ?_
  all_goals (blk_simp [idx t]; try omega)

/-- The weights' block: the two heads of the lane block. -/
theorem iblk4 (h : Rl (s := S8x128x128) (m ((c : Thread nD τ).loc main_arg3))) (y : S2x128x128.Idx) :
    (iblk m c 4 t y : EReal) = (aW (m ((c : Thread nD τ).loc main_arg3)) (2 * (t.val / 8) + (y 0).val) (y 1).val (y 2).val : EReal) := by
  blk_simp [iblk]
  rw [V_main_arg3]
  refine aW_eq _ h _ _ _ _ ?_ ?_ ?_
  all_goals (blk_simp [idx t]; try omega)

/-- The offsets' block. -/
theorem iblk5 (h : Rl (s := S8x128) (m ((c : Thread nD τ).loc main_arg4))) (y : S1x2x128.Idx) :
    (iblk m c 5 t y : EReal) = (aS (m ((c : Thread nD τ).loc main_arg4)) (2 * (t.val / 8) + (y 1).val) (y 2).val : EReal) := by
  blk_simp [iblk]
  entry_read
  pointwise
  refine aS_eq _ h _ _ _ ?_ ?_
  all_goals (blk_simp [idx t]; (try dsimp only); (try omega))

/-- The chunks of a block that is a window of a real array are windows of it. -/
theorem rows_wd (x : FVec Ideal S512x128 .f32) (X : ℕ → ℕ → ℝ) (R C : ℕ)
    (h : ∀ y : S512x128.Idx, x y = (X (512 * R + (y 0).val) (128 * C + (y 1).val) : EReal)) (k : Fin 4) :
    (rows (F := Ideal) x k : S128x128.Idx → EReal) = up (wd (4 * R + k) C X) := by
  funext i
  fin_cases k <;>
    · refine (h _).trans ?_
      simp only [up, wd, r0, c0, Rect.emb_apply]
      congr 2 <;> simp <;> omega

/-- The gate's chunks, -/
theorem bu_wd (h : Rl (s := S4096x4608) (m ((c : Thread nD τ).loc main_arg0))) (k : Fin 4) :
    (bu m c t k : S128x128.Idx → EReal) = up (wd (4 * (t.val % 8) + k) (t.val / 8) fun r q => aP (m ((c : Thread nD τ).loc main_arg0)) r (1024 + q)) :=
  rows_wd _ (fun r q => aP (m ((c : Thread nD τ).loc main_arg0)) r (1024 + q)) _ _ (iblk0 m c t h) k
/-- the second branch's chunks, -/
theorem bv_wd (h : Rl (s := S4096x4608) (m ((c : Thread nD τ).loc main_arg0))) (k : Fin 4) :
    (bv m c t k : S128x128.Idx → EReal) = up (wd (4 * (t.val % 8) + k) (t.val / 8) fun r q => aP (m ((c : Thread nD τ).loc main_arg0)) r (1536 + q)) :=
  rows_wd _ (fun r q => aP (m ((c : Thread nD τ).loc main_arg0)) r (1536 + q)) _ _ (iblk1 m c t h) k
/-- the incoming gradient's chunks, -/
theorem dy_wd (h : Rl (s := S4096x2048) (m ((c : Thread nD τ).loc main_arg5))) (k : Fin 4) :
    (dy m c t k : S128x128.Idx → EReal) = up (wd (4 * (t.val % 8) + k) (t.val / 8) fun r q => aD (m ((c : Thread nD τ).loc main_arg5)) r (512 + q)) :=
  rows_wd _ (fun r q => aD (m ((c : Thread nD τ).loc main_arg5)) r (512 + q)) _ _ (iblk6 m c t h) k
/-- the scale, -/
theorem gg_rv (h : Rl (s := S512) (m ((c : Thread nD τ).loc main_arg1))) :
    (gg m c t : S1x128.Idx → EReal) = up (rv (t.val / 8) (aV (m ((c : Thread nD τ).loc main_arg1)))) := by
  funext i
  pointwise [gg]
  exact iblk2 m c t h i
/-- the shift, -/
theorem bb_rv (h : Rl (s := S512) (m ((c : Thread nD τ).loc main_arg2))) :
    (bb m c t : S1x128.Idx → EReal) = up (rv (t.val / 8) (aV (m ((c : Thread nD τ).loc main_arg2)))) := by
  funext i
  pointwise [bb]
  exact iblk3 m c t h i
/-- One page of a pair, as a block, -/
theorem cast_page0 (x : Vec Ideal S2x128x128 .f32) (i : S128x128.Idx) :
    (shapeCast S128x128 (page0 (F := Ideal) x) shapeCasts_S1x128x128_S128x128 : S128x128.Idx → EReal) i
      = x (ix3 0 (i 0) (i 1)) := by
  pointwise [page0]
/-- the other page, -/
theorem cast_page1 (x : Vec Ideal S2x128x128 .f32) (i : S128x128.Idx) :
    (shapeCast S128x128 (page1 (F := Ideal) x) shapeCasts_S1x128x128_S128x128 : S128x128.Idx → EReal) i
      = x (ix3 1 (i 0) (i 1)) := by
  pointwise [page1]
/-- one row of a pair, as a row, -/
theorem cast_line0 (x : Vec Ideal S1x2x128 .f32) (i : S1x128.Idx) :
    (shapeCast S1x128 (line0 (F := Ideal) x) shapeCasts_S1x1x128_S1x128 : S1x128.Idx → EReal) i
      = x (ix3 0 0 (i 1)) := by
  pointwise [line0]
/-- and the other row. -/
theorem cast_line1 (x : Vec Ideal S1x2x128 .f32) (i : S1x128.Idx) :
    (shapeCast S1x128 (line1 (F := Ideal) x) shapeCasts_S1x1x128_S1x128 : S1x128.Idx → EReal) i
      = x (ix3 0 1 (i 1)) := by
  pointwise [line1]

/-- the first head's weights, -/
theorem w0_wh (h : Rl (s := S8x128x128) (m ((c : Thread nD τ).loc main_arg3))) :
    (w0 m c t : S128x128.Idx → EReal) = up (wh (2 * (t.val / 8)) (aW (m ((c : Thread nD τ).loc main_arg3)))) := by
  funext i
  refine (cast_page0 _ i).trans ((iblk4 m c t h _).trans ?_)
  simp [up, wh, r0, c0]
/-- the second head's weights, -/
theorem w1_wh (h : Rl (s := S8x128x128) (m ((c : Thread nD τ).loc main_arg3))) :
    (w1 m c t : S128x128.Idx → EReal) = up (wh (2 * (t.val / 8) + 1) (aW (m ((c : Thread nD τ).loc main_arg3)))) := by
  funext i
  refine (cast_page1 _ i).trans ((iblk4 m c t h _).trans ?_)
  simp [up, wh, r0, c0]
/-- the first head's offsets, -/
theorem b0_sh (h : Rl (s := S8x128) (m ((c : Thread nD τ).loc main_arg4))) :
    (b0 m c t : S1x128.Idx → EReal) = up (sh (2 * (t.val / 8)) (aS (m ((c : Thread nD τ).loc main_arg4)))) := by
  funext i
  refine (cast_line0 _ i).trans ((iblk5 m c t h _).trans ?_)
  simp [up, sh, l0]
/-- and the second head's offsets. -/
theorem b1_sh (h : Rl (s := S8x128) (m ((c : Thread nD τ).loc main_arg4))) :
    (b1 m c t : S1x128.Idx → EReal) = up (sh (2 * (t.val / 8) + 1) (aS (m ((c : Thread nD τ).loc main_arg4)))) := by
  funext i
  refine (cast_line1 _ i).trans ((iblk5 m c t h _).trans ?_)
  simp [up, sh, l0]

end Cert.KernelIdeal.Chunk
-- ==== Proof.KVal.lean ====
module

public import proofs.«01_k».proof.Proof.KIn

/-! The kernel's six result arrays after the run, when the arguments hold real numbers: the gradients of the real model. -/

@[expose] public section

set_option maxRecDepth 16384

namespace Cert.KernelIdeal.Chunk

open Cert.KernelIdeal Cert.KernelIdeal.Gen Idealize.ShloMosaic Idealize.ShloMosaic.TcCoe Idealize.SL.Sem Cert.Up Cert.Model

variable (m : (ℓ : Loc nD τ sig) → Buf (Elt Ideal) ℓ) (c : Dev nD) (t : Fin cfg0.N)

/-- Every argument array of a device holds real numbers. -/
structure Real6 : Prop where
  p : Rl (s := S4096x4608) (m ((c : Thread nD τ).loc main_arg0))
  g : Rl (s := S512) (m ((c : Thread nD τ).loc main_arg1))
  b : Rl (s := S512) (m ((c : Thread nD τ).loc main_arg2))
  w : Rl (s := S8x128x128) (m ((c : Thread nD τ).loc main_arg3))
  s : Rl (s := S8x128) (m ((c : Thread nD τ).loc main_arg4))
  d : Rl (s := S4096x2048) (m ((c : Thread nD τ).loc main_arg5))

/-- The gate, -/
noncomputable def U (r q : ℕ) : ℝ := aP (m ((c : Thread nD τ).loc main_arg0)) r (1024 + q)
/-- the second branch, -/
noncomputable def V' (r q : ℕ) : ℝ := aP (m ((c : Thread nD τ).loc main_arg0)) r (1536 + q)
/-- the incoming gradient, -/
noncomputable def D (r q : ℕ) : ℝ := aD (m ((c : Thread nD τ).loc main_arg5)) r (512 + q)
/-- the scale, -/
noncomputable def G : ℕ → ℝ := aV (m ((c : Thread nD τ).loc main_arg1))
/-- the shift, -/
noncomputable def B : ℕ → ℝ := aV (m ((c : Thread nD τ).loc main_arg2))
/-- the weights -/
noncomputable def W : ℕ → ℕ → ℕ → ℝ := aW (m ((c : Thread nD τ).loc main_arg3))
/-- and the offsets, over the reals. -/
noncomputable def S : ℕ → ℕ → ℝ := aS (m ((c : Thread nD τ).loc main_arg4))

variable (h : Real6 m c)
include h

/-- What each chunk gives at a grid point: for the gate, -/
theorem pU_wd (k : Fin 4) : (pU m c t k : S128x128.Idx → EReal)
    = up (wd (4 * (t.val % 8) + k) (t.val / 8) (du (U m c) (V' m c) (D m c) (G m c) (B m c) (W m c) (S m c))) := by
  rw [pU, bu_wd m c t h.p, bv_wd m c t h.p, dy_wd m c t h.d, gg_rv m c t h.g, bb_rv m c t h.b, w0_wh m c t h.w, w1_wh m c t h.w,
    b0_sh m c t h.s, b1_sh m c t h.s]
  exact oBu_wd _ _ (U m c) (V' m c) (D m c) (G m c) (B m c) (W m c) (S m c)
/-- for the second branch, -/
theorem pV_wd (k : Fin 4) : (pV m c t k : S128x128.Idx → EReal)
    = up (wd (4 * (t.val % 8) + k) (t.val / 8) (dv (U m c) (V' m c) (D m c) (G m c) (W m c))) := by
  rw [pV, bu_wd m c t h.p, bv_wd m c t h.p, dy_wd m c t h.d, gg_rv m c t h.g, w0_wh m c t h.w, w1_wh m c t h.w]
  exact oBv_wd _ _ (U m c) (V' m c) (D m c) (G m c) (W m c)
/-- for the scale, -/
theorem pG_rv (k : Fin 4) : (pG m c t k : S1x128.Idx → EReal)
    = up (rv (t.val / 8) fun q => ∑ r : Fin 128, Model.xn (V' m c) (128 * (4 * (t.val % 8) + k) + r) q * Model.dvn (U m c) (D m c) (W m c) (128 * (4 * (t.val % 8) + k) + r) q) := by
  rw [pG, bu_wd m c t h.p, bv_wd m c t h.p, dy_wd m c t h.d, w0_wh m c t h.w, w1_wh m c t h.w]
  exact oG_wd _ _ (U m c) (V' m c) (D m c) (W m c)
/-- for the shift, -/
theorem pB_rv (k : Fin 4) : (pB m c t k : S1x128.Idx → EReal)
    = up (rv (t.val / 8) fun q => ∑ r : Fin 128, Model.dvn (U m c) (D m c) (W m c) (128 * (4 * (t.val % 8) + k) + r) q) := by
  rw [pB, bu_wd m c t h.p, dy_wd m c t h.d, w0_wh m c t h.w, w1_wh m c t h.w]
  exact oB_wd _ _ (U m c) (D m c) (W m c)
/-- for the weights of the two heads, -/
theorem pW0_wh (k : Fin 4) : (pW0 m c t k : S128x128.Idx → EReal)
    = up (wh (2 * (t.val / 8)) (dwPart (U m c) (V' m c) (D m c) (G m c) (B m c) (4 * (t.val % 8) + k))) := by
  rw [pW0, bu_wd m c t h.p, bv_wd m c t h.p, dy_wd m c t h.d, gg_rv m c t h.g, bb_rv m c t h.b]
  exact oW0_wd _ _ (U m c) (V' m c) (D m c) (G m c) (B m c)
theorem pW1_wh (k : Fin 4) : (pW1 m c t k : S128x128.Idx → EReal)
    = up (wh (2 * (t.val / 8) + 1) (dwPart (U m c) (V' m c) (D m c) (G m c) (B m c) (4 * (t.val % 8) + k))) := by
  rw [pW1, bu_wd m c t h.p, bv_wd m c t h.p, dy_wd m c t h.d, gg_rv m c t h.g, bb_rv m c t h.b]
  exact oW1_wd _ _ (U m c) (V' m c) (D m c) (G m c) (B m c)
/-- and for their offsets. -/
theorem pB0_sh (k : Fin 4) : (pB0 m c t k : S1x128.Idx → EReal)
    = up (sh (2 * (t.val / 8)) fun h t' => ∑ p : Fin 64, dm (U m c) (D m c) (128 * (4 * (t.val % 8) + k) + t') (64 * h + p)) := by
  rw [pB0, bu_wd m c t h.p, dy_wd m c t h.d]
  exact oB0_wd _ _ (U m c) (D m c)
theorem pB1_sh (k : Fin 4) : (pB1 m c t k : S1x128.Idx → EReal)
    = up (sh (2 * (t.val / 8) + 1) fun h t' => ∑ p : Fin 64, dm (U m c) (D m c) (128 * (4 * (t.val % 8) + k) + t') (64 * h + p)) := by
  rw [pB1, bu_wd m c t h.p, dy_wd m c t h.d]
  exact oB1_wd _ _ (U m c) (D m c)

omit h in
/-- Four real rows added to a real row. -/
theorem addRows_up (X : S1x128.Idx → ℝ) (r : Fin 4 → FVec Ideal S1x128 .f32) (Y : Fin 4 → S1x128.Idx → ℝ)
    (hr : ∀ k, (r k : S1x128.Idx → EReal) = up (Y k)) :
    (addRows (F := Ideal) (up X) r : S1x128.Idx → EReal) = up fun i => X i + Y 0 i + Y 1 i + Y 2 i + Y 3 i := by
  have hs : ∀ Z : S1x128.Idx → ℝ, (sc (F := Ideal) (up Z) : S1x128.Idx → EReal) = up Z := fun Z => by
    funext i; pointwise [sc]
  rw [addRows, hr, hr, hr, hr, hs, add_up, hs, add_up, hs, add_up, hs, add_up]
omit h in
/-- Four real blocks added to the first page of a real pair. -/
theorem addPages_up (x : FVec Ideal S1x128x128 .f32) (X : S128x128.Idx → ℝ)
    (hx : (shapeCast S128x128 x shapeCasts_S1x128x128_S128x128 : S128x128.Idx → EReal) = up X)
    (d : Fin 4 → FVec Ideal S128x128 .f32) (Y : Fin 4 → S128x128.Idx → ℝ) (hd : ∀ k, (d k : S128x128.Idx → EReal) = up (Y k)) :
    (shapeCast S128x128 (addPages (F := Ideal) x d) shapeCasts_S1x128x128_S128x128 : S128x128.Idx → EReal)
      = up fun i => X i + Y 0 i + Y 1 i + Y 2 i + Y 3 i := by
  have hs : ∀ z : FVec Ideal S128x128 .f32, shapeCast S128x128 (shapeCast S1x128x128 z shapeCasts_S128x128_S1x128x128)
      shapeCasts_S1x128x128_S128x128 = z := fun z => by funext i; pointwise
  simp only [addPages, addPage, hs]
  rw [hx, hd, hd, hd, hd, add_up, add_up, add_up, add_up]
omit h in
/-- Four real rows added to a real one-row page. -/
theorem addLines_up (x : FVec Ideal S1x1x128 .f32) (X : S1x128.Idx → ℝ)
    (hx : (shapeCast S1x128 x shapeCasts_S1x1x128_S1x128 : S1x128.Idx → EReal) = up X)
    (d : Fin 4 → FVec Ideal S1x128 .f32) (Y : Fin 4 → S1x128.Idx → ℝ) (hd : ∀ k, (d k : S1x128.Idx → EReal) = up (Y k)) :
    (shapeCast S1x128 (addLines (F := Ideal) x d) shapeCasts_S1x1x128_S1x128 : S1x128.Idx → EReal)
      = up fun i => X i + Y 0 i + Y 1 i + Y 2 i + Y 3 i := by
  have hs : ∀ z : FVec Ideal S1x128 .f32, shapeCast S1x128 (shapeCast S1x1x128 z shapeCasts_S1x128_S1x1x128)
      shapeCasts_S1x1x128_S1x128 = z := fun z => by funext i; pointwise
  simp only [addLines, addLine, hs]
  rw [hx, hd, hd, hd, hd, add_up, add_up, add_up, add_up]

omit h in
/-- Four more terms of a sum. -/
theorem sum4 (s : ℕ) (f : ℕ → ℝ) : (∑ q ∈ Finset.range (4 * s), f q) + f (4 * s + 0) + f (4 * s + 1) + f (4 * s + 2) + f (4 * s + 3)
    = ∑ q ∈ Finset.range (4 * (s + 1)), f q := by
  rw [show 4 * (s + 1) = 4 * s + 1 + 1 + 1 + 1 by ring]
  simp only [Finset.sum_range_succ]; rfl

/-- The scale's block after a point: the sum over the chunks so far. -/
theorem accG : ∀ (n : ℕ) (hn : n < cfg0.N), ((outsAt0 m c n hn).2.2.1 : S1x128.Idx → EReal)
    = up (rv (n / 8) fun q => ∑ k ∈ Finset.range (4 * (n % 8 + 1)), ∑ r : Fin 128, Model.xn (V' m c) (128 * k + r) q * Model.dvn (U m c) (D m c) (W m c) (128 * k + r) q) := by
  intro n
  induction n using Nat.strong_induction_on with
  | _ n ih =>
    intro hn
    by_cases h0 : n % 8 = 0
    · have z : (zRow Ideal : S1x128.Idx → EReal) = up fun _ => 0 := by funext i; exact lit_zero
      refine (outG_A m c ⟨n, hn⟩ h0).trans ?_
      rw [z, addRows_up _ _ _ (pG_rv m c ⟨n, hn⟩ h)]
      congr 1; funext i
      simp only [rv]
      rw [← sum4, h0]; simp
    · refine (outG_B m c ⟨n, hn⟩ h0).trans ?_
      have e := ih (n - 1) (by omega) (Nat.lt_of_le_of_lt (Nat.sub_le _ _) hn)
      rw [show (n - 1) / 8 = n / 8 by omega, show (n - 1) % 8 + 1 = n % 8 by omega] at e
      rw [show (prev m c ⟨n, hn⟩).2.2.1 = _ from e, addRows_up _ _ _ (pG_rv m c ⟨n, hn⟩ h)]
      congr 1; funext i
      simp only [rv]
      rw [← sum4]; rfl

/-- The shift's block after a point. -/
theorem accB : ∀ (n : ℕ) (hn : n < cfg0.N), ((outsAt0 m c n hn).2.2.2.1 : S1x128.Idx → EReal)
    = up (rv (n / 8) fun q => ∑ k ∈ Finset.range (4 * (n % 8 + 1)), ∑ r : Fin 128, Model.dvn (U m c) (D m c) (W m c) (128 * k + r) q) := by
  intro n
  induction n using Nat.strong_induction_on with
  | _ n ih =>
    intro hn
    by_cases h0 : n % 8 = 0
    · have z : (zRow Ideal : S1x128.Idx → EReal) = up fun _ => 0 := by funext i; exact lit_zero
      refine (outB_A m c ⟨n, hn⟩ h0).trans ?_
      rw [z, addRows_up _ _ _ (pB_rv m c ⟨n, hn⟩ h)]
      congr 1; funext i
      simp only [rv]
      rw [← sum4, h0]; simp
    · refine (outB_B m c ⟨n, hn⟩ h0).trans ?_
      have e := ih (n - 1) (by omega) (Nat.lt_of_le_of_lt (Nat.sub_le _ _) hn)
      rw [show (n - 1) / 8 = n / 8 by omega, show (n - 1) % 8 + 1 = n % 8 by omega] at e
      rw [show (prev m c ⟨n, hn⟩).2.2.2.1 = _ from e, addRows_up _ _ _ (pB_rv m c ⟨n, hn⟩ h)]
      congr 1; funext i
      simp only [rv]
      rw [← sum4]; rfl

omit h in
/-- A pair of pages each of whose pages is a real block. -/
theorem twoPages_up (p q : FVec Ideal S1x128x128 .f32) (X : ℕ → ℕ → ℕ → ℝ) (a : ℕ)
    (hp : (shapeCast S128x128 p shapeCasts_S1x128x128_S128x128 : S128x128.Idx → EReal) = up (wh a X))
    (hq : (shapeCast S128x128 q shapeCasts_S1x128x128_S128x128 : S128x128.Idx → EReal) = up (wh (a + 1) X)) :
    (twoPages (F := Ideal) p q : S2x128x128.Idx → EReal) = up fun y => X (a + (y 0).val) (y 1).val (y 2).val := by
  have hs : ∀ (z : FVec Ideal S1x128x128 .f32) (a b : Fin 128), shapeCast S128x128 z shapeCasts_S1x128x128_S128x128 (ix2 a b) = z (ix3 0 a b) :=
    fun z a b => by pointwise
  funext y
  rw [twoPages]
  by_cases e : (y 0).val = 0
  · rw [if_pos e]
    refine (hs p (y 1) (y 2)).symm.trans ((congrFun hp _).trans ?_)
    simp only [up, wh, e]; rfl
  · have e1 : (y 0).val = 1 := by have : (y 0).val < 2 := (y 0).isLt; omega
    rw [if_neg e]
    refine (hs q (y 1) (y 2)).symm.trans ((congrFun hq _).trans ?_)
    simp only [up, wh, e1]; rfl
omit h in
/-- A pair of rows each of which is a real row. -/
theorem twoLines_up (p q : FVec Ideal S1x1x128 .f32) (X : ℕ → ℕ → ℝ) (a : ℕ)
    (hp : (shapeCast S1x128 p shapeCasts_S1x1x128_S1x128 : S1x128.Idx → EReal) = up (sh a X))
    (hq : (shapeCast S1x128 q shapeCasts_S1x1x128_S1x128 : S1x128.Idx → EReal) = up (sh (a + 1) X)) :
    (twoLines (F := Ideal) p q : S1x2x128.Idx → EReal) = up fun y => X (a + (y 1).val) (y 2).val := by
  have hs : ∀ (z : FVec Ideal S1x1x128 .f32) (b : Fin 128), shapeCast S1x128 z shapeCasts_S1x1x128_S1x128 (ix2 0 b) = z (ix3 0 0 b) :=
    fun z b => by pointwise
  funext y
  rw [twoLines]
  by_cases e : (y 1).val = 0
  · rw [if_pos e]
    refine (hs p (y 2)).symm.trans ((congrFun hp _).trans ?_)
    simp only [up, sh, e]; rfl
  · have e1 : (y 1).val = 1 := by have : (y 1).val < 2 := (y 1).isLt; omega
    rw [if_neg e]
    refine (hs q (y 2)).symm.trans ((congrFun hq _).trans ?_)
    simp only [up, sh, e1]; rfl

/-- The weights' block after a point. -/
theorem accW : ∀ (n : ℕ) (hn : n < cfg0.N), ((outsAt0 m c n hn).2.2.2.2.1 : S2x128x128.Idx → EReal)
    = up fun y => (fun a t s => ∑ k ∈ Finset.range (4 * (n % 8 + 1)), dwPart (U m c) (V' m c) (D m c) (G m c) (B m c) k a t s)
        (2 * (n / 8) + (y 0).val) (y 1).val (y 2).val := by
  intro n
  induction n using Nat.strong_induction_on with
  | _ n ih =>
    intro hn
    by_cases h0 : n % 8 = 0
    · refine (outW_A m c ⟨n, hn⟩ h0).trans (twoPages_up _ _
          (fun a t s => ∑ k ∈ Finset.range (4 * (n % 8 + 1)), dwPart (U m c) (V' m c) (D m c) (G m c) (B m c) k a t s) (2 * (n / 8)) ?_ ?_)
      · rw [addPages_up _ (fun _ => 0) (by funext i; exact (cast_page0 _ i).trans lit_zero) _ _ (pW0_wh m c ⟨n, hn⟩ h)]
        congr 1; funext i; simp only [wh]; rw [← sum4, h0]; simp
      · rw [addPages_up _ (fun _ => 0) (by funext i; exact (cast_page1 _ i).trans lit_zero) _ _ (pW1_wh m c ⟨n, hn⟩ h)]
        congr 1; funext i; simp only [wh]; rw [← sum4, h0]; simp
    · have e := ih (n - 1) (by omega) (Nat.lt_of_le_of_lt (Nat.sub_le _ _) hn)
      rw [show (n - 1) / 8 = n / 8 by omega, show (n - 1) % 8 + 1 = n % 8 by omega] at e
      have e' : (prev m c ⟨n, hn⟩).2.2.2.2.1 = _ := e
      refine (outW_B m c ⟨n, hn⟩ h0).trans (twoPages_up _ _
          (fun a t s => ∑ k ∈ Finset.range (4 * (n % 8 + 1)), dwPart (U m c) (V' m c) (D m c) (G m c) (B m c) k a t s) (2 * (n / 8)) ?_ ?_)
      · rw [addPages_up _ (wh (2 * (n / 8)) fun a t s => ∑ k ∈ Finset.range (4 * (n % 8)), dwPart (U m c) (V' m c) (D m c) (G m c) (B m c) k a t s)
          (by funext i; exact (cast_page0 _ i).trans (congrFun e' _)) _ _ (pW0_wh m c ⟨n, hn⟩ h)]
        congr 1; funext i; simp only [wh]; rw [← sum4]; rfl
      · rw [addPages_up _ (wh (2 * (n / 8) + 1) fun a t s => ∑ k ∈ Finset.range (4 * (n % 8)), dwPart (U m c) (V' m c) (D m c) (G m c) (B m c) k a t s)
          (by funext i; exact (cast_page1 _ i).trans (congrFun e' _)) _ _ (pW1_wh m c ⟨n, hn⟩ h)]
        congr 1; funext i; simp only [wh]; rw [← sum4]; rfl
/-- The offsets' block after a point. -/
theorem accS : ∀ (n : ℕ) (hn : n < cfg0.N), ((outsAt0 m c n hn).2.2.2.2.2 : S1x2x128.Idx → EReal)
    = up fun y => (fun a t => ∑ k ∈ Finset.range (4 * (n % 8 + 1)), ∑ p : Fin 64, dm (U m c) (D m c) (128 * k + t) (64 * a + p))
        (2 * (n / 8) + (y 1).val) (y 2).val := by
  intro n
  induction n using Nat.strong_induction_on with
  | _ n ih =>
    intro hn
    by_cases h0 : n % 8 = 0
    · refine (outS_A m c ⟨n, hn⟩ h0).trans (twoLines_up _ _
          (fun a t => ∑ k ∈ Finset.range (4 * (n % 8 + 1)), ∑ p : Fin 64, dm (U m c) (D m c) (128 * k + t) (64 * a + p)) (2 * (n / 8)) ?_ ?_)
      · rw [addLines_up _ (fun _ => 0) (by funext i; exact (cast_line0 _ i).trans lit_zero) _ _ (pB0_sh m c ⟨n, hn⟩ h)]
        congr 1; funext i; simp only [sh]; rw [← sum4, h0]; simp
      · rw [addLines_up _ (fun _ => 0) (by funext i; exact (cast_line1 _ i).trans lit_zero) _ _ (pB1_sh m c ⟨n, hn⟩ h)]
        congr 1; funext i; simp only [sh]; rw [← sum4, h0]; simp
    · have e := ih (n - 1) (by omega) (Nat.lt_of_le_of_lt (Nat.sub_le _ _) hn)
      rw [show (n - 1) / 8 = n / 8 by omega, show (n - 1) % 8 + 1 = n % 8 by omega] at e
      have e' : (prev m c ⟨n, hn⟩).2.2.2.2.2 = _ := e
      refine (outS_B m c ⟨n, hn⟩ h0).trans (twoLines_up _ _
          (fun a t => ∑ k ∈ Finset.range (4 * (n % 8 + 1)), ∑ p : Fin 64, dm (U m c) (D m c) (128 * k + t) (64 * a + p)) (2 * (n / 8)) ?_ ?_)
      · rw [addLines_up _ (sh (2 * (n / 8)) fun a t => ∑ k ∈ Finset.range (4 * (n % 8)), ∑ p : Fin 64, dm (U m c) (D m c) (128 * k + t) (64 * a + p))
          (by funext i; exact (cast_line0 _ i).trans (congrFun e' _)) _ _ (pB0_sh m c ⟨n, hn⟩ h)]
        congr 1; funext i; simp only [sh]; rw [← sum4]; rfl
      · rw [addLines_up _ (sh (2 * (n / 8) + 1) fun a t => ∑ k ∈ Finset.range (4 * (n % 8)), ∑ p : Fin 64, dm (U m c) (D m c) (128 * k + t) (64 * a + p))
          (by funext i; exact (cast_line1 _ i).trans (congrFun e' _)) _ _ (pB1_sh m c ⟨n, hn⟩ h)]
        congr 1; funext i; simp only [sh]; rw [← sum4]; rfl

omit h in
/-- Four windows one under the other are a window. -/
theorem tiles_wd (p : Fin 4 → FVec Ideal S128x128 .bf16) (R C : ℕ) (X : ℕ → ℕ → ℝ)
    (hp : ∀ k : Fin 4, (p k : S128x128.Idx → EReal) = up (wd (4 * R + k) C X)) (y : S512x128.Idx) :
    (tiles (F := Ideal) p y : EReal) = (X (512 * R + (y 0).val) (128 * C + (y 1).val) : EReal) := by
  have key : ∀ (k : Fin 4) (x : S128x128.Idx) (a b : ℕ), a = 512 * R + 128 * k.val + (x 0).val → b = 128 * C + (x 1).val →
      (p k x : EReal) = (X a b : EReal) := fun k x a b ha hb => by
    rw [hp k]; simp only [up, wd, r0, c0]; rw [ha, hb]; congr 2; ring
  rw [tiles]
  canon_tiles x h
  · refine key 3 x _ _ ?_ ?_ <;> omega
  · refine key 2 x _ _ ?_ ?_ <;> omega
  · refine key 1 x _ _ ?_ ?_ <;> omega
  · refine key 0 x _ _ ?_ ?_ <;> omega

omit h in
/-- A sum over 4096 rows is the sum over the 32 chunks of 128 rows. -/
theorem sum_rows (f : ℕ → ℝ) : ∑ r : Fin 4096, f r.val = ∑ k ∈ Finset.range 32, ∑ r : Fin 128, f (128 * k + r.val) := by
  rw [Fin.sum_univ_tiles 32 128 (by norm_num), Finset.sum_range]
  refine Finset.sum_congr rfl fun k _ => Finset.sum_congr rfl fun r _ => ?_
  show f (k.val * 128 + r.val) = _
  rw [Nat.mul_comm]

/-- The gate's gradient after the run, -/
theorem finU : ((dats m 0 c).arrAt 7 cfg0.N : S4096x512.Idx → EReal)
    = up fun i => du (U m c) (V' m c) (D m c) (G m c) (B m c) (W m c) (S m c) (i 0).val (i 1).val := by
  refine (dats m 0 c).arrAt_eq_of_covers 7 _ (by decide +kernel) fun t hf y => ?_
  blk_simp
  rw [after0_7]
  have e : (outsAt0 m c t.val t.isLt).1 = tiles (pU m c t) := by
    by_cases h0 : t.val % 8 = 0
    · exact outU_A m c t h0
    · exact outU_B m c t h0
  rw [e]
  refine (tiles_wd _ _ _ _ (pU_wd m c t h) y).trans ?_
  simp only [up]
  blk_simp [idx t]
  rw [Nat.mul_comm (t.val % 8) 512, Nat.mul_comm (t.val / 8) 128]

/-- the second branch's, -/
theorem finV : ((dats m 0 c).arrAt 8 cfg0.N : S4096x512.Idx → EReal)
    = up fun i => dv (U m c) (V' m c) (D m c) (G m c) (W m c) (i 0).val (i 1).val := by
  refine (dats m 0 c).arrAt_eq_of_covers 8 _ (by decide +kernel) fun t hf y => ?_
  blk_simp
  rw [after0_8]
  have e : (outsAt0 m c t.val t.isLt).2.1 = tiles (pV m c t) := by
    by_cases h0 : t.val % 8 = 0
    · exact outV_A m c t h0
    · exact outV_B m c t h0
  rw [e]
  refine (tiles_wd _ _ _ _ (pV_wd m c t h) y).trans ?_
  simp only [up]
  blk_simp [idx t]
  rw [Nat.mul_comm (t.val % 8) 512, Nat.mul_comm (t.val / 8) 128]

/-- the scale's, -/
theorem finG : ((dats m 0 c).arrAt 9 cfg0.N : S1x512.Idx → EReal)
    = up fun i => dg (U m c) (V' m c) (D m c) (W m c) (i 1).val := by
  refine (dats m 0 c).arrAt_eq_of_covers 9 _ (by decide +kernel) fun t hf y => ?_
  blk_simp
  rw [after0_9]
  refine (congrFun (accG m c h t.val t.isLt) y).trans ?_
  have h7 := (flush0_9 t).mp hf
  simp only [up, rv, l0, h7]
  blk_simp [idx t]
  rw [Nat.mul_comm (t.val / 8) 128, dg, sum_rows fun r => Model.xn (V' m c) r _ * Model.dvn (U m c) (D m c) (W m c) r _]
/-- the shift's, -/
theorem finB : ((dats m 0 c).arrAt 10 cfg0.N : S1x512.Idx → EReal)
    = up fun i => db (U m c) (D m c) (W m c) (i 1).val := by
  refine (dats m 0 c).arrAt_eq_of_covers 10 _ (by decide +kernel) fun t hf y => ?_
  blk_simp
  rw [after0_10]
  refine (congrFun (accB m c h t.val t.isLt) y).trans ?_
  have h7 := (flush0_10 t).mp hf
  simp only [up, rv, l0, h7]
  blk_simp [idx t]
  rw [Nat.mul_comm (t.val / 8) 128, db, sum_rows fun r => Model.dvn (U m c) (D m c) (W m c) r _]
/-- the weights', -/
theorem finW : ((dats m 0 c).arrAt 11 cfg0.N : S8x128x128.Idx → EReal)
    = up fun i => dw (U m c) (V' m c) (D m c) (G m c) (B m c) (i 0).val (i 1).val (i 2).val := by
  refine (dats m 0 c).arrAt_eq_of_covers 11 _ (by decide +kernel) fun t hf y => ?_
  blk_simp
  rw [after0_11]
  refine (congrFun (accW m c h t.val t.isLt) y).trans ?_
  have h7 := (flush0_11 t).mp hf
  simp only [up, rv, l0, h7]
  blk_simp [idx t]
  rw [Nat.mul_comm (t.val / 8) 2, dw, Finset.sum_range]
/-- and the offsets'. -/
theorem finS : ((dats m 0 c).arrAt 12 cfg0.N : S4x2x128.Idx → EReal)
    = up fun i => ds (U m c) (D m c) (2 * (i 0).val + (i 1).val) (i 2).val := by
  refine (dats m 0 c).arrAt_eq_of_covers 12 _ (by decide +kernel) fun t hf y => ?_
  blk_simp
  rw [after0_12]
  refine (congrFun (accS m c h t.val t.isLt) y).trans ?_
  have h7 := (flush0_12 t).mp hf
  simp only [up, rv, l0, h7]
  blk_simp [idx t]
  rw [ds, Finset.sum_range]

end Cert.KernelIdeal.Chunk
-- ==== Proof.Lay.lean ====
module

public import proofs.«01_k».proof.Proof.KIn
public import proofs.«01_k».proof.Proof.Gen.ReferenceIdeal.Read

/-! Arrays of real numbers laid out by rows and columns: `lay r c M` holds, at the index `i`, the number `M (r i) (c i)`. The
reference's reshapes and broadcasts change the two coordinate functions, and its elementwise operations the function `M`. -/

@[expose] public section

set_option maxRecDepth 16384

namespace Cert.Lay

open Idealize.ShloMosaic Cert.Up Cert.ReferenceIdeal

variable {s : Shape} {φ : FTy} {r c : s.Idx → ℕ}

/-- The array that holds `M (r i) (c i)` at `i`. -/
noncomputable def lay (r c : s.Idx → ℕ) (M : ℕ → ℕ → ℝ) : s.Idx → EReal := up fun i => M (r i) (c i)

/-- Two layouts agree at two indices that stand for the same row and column. -/
theorem lay_eq {t : Shape} {r' c' : t.Idx → ℕ} (M : ℕ → ℕ → ℝ) (j : s.Idx) (i : t.Idx) (hr : r j = r' i) (hc : c j = c' i) :
    lay r c M j = lay r' c' M i := by
  show ((M (r j) (c j) : ℝ) : EReal) = ((M (r' i) (c' i) : ℝ) : EReal); rw [hr, hc]

/-- Equal functions give equal arrays. -/
theorem lay_ext {M N : ℕ → ℕ → ℝ} (h : ∀ a b, M a b = N a b) : (lay r c M : s.Idx → EReal) = lay r c N := by
  have e : M = N := funext fun a => funext fun b => h a b
  rw [e]

/-- An elementwise product, -/
theorem mul_lay (M N : ℕ → ℕ → ℝ) : (mulf (φ := φ) (F := Ideal) (lay r c M) (lay r c N) : s.Idx → EReal) = lay r c fun a b => M a b * N a b :=
  mul_up _ _
/-- a sum, -/
theorem add_lay (M N : ℕ → ℕ → ℝ) : (addf (φ := φ) (F := Ideal) (lay r c M) (lay r c N) : s.Idx → EReal) = lay r c fun a b => M a b + N a b :=
  add_up _ _
/-- a difference, -/
theorem sub_lay (M N : ℕ → ℕ → ℝ) : (subf (φ := φ) (F := Ideal) (lay r c M) (lay r c N) : s.Idx → EReal) = lay r c fun a b => M a b - N a b :=
  sub_up _ _
/-- the host's negation, -/
theorem neg_lay (M : ℕ → ℕ → ℝ) : (Host.negf (φ := φ) (F := Ideal) (lay r c M) : s.Idx → EReal) = lay r c fun a b => -M a b := by
  funext i; simp only [Host.negf, lay, up, Ideal.hostNegf_def, Ideal.negf_def, EReal.coe_neg]
/-- its exponential, -/
theorem exp_lay (M : ℕ → ℕ → ℝ) : (Host.exp (φ := φ) (F := Ideal) (lay r c M) : s.Idx → EReal) = lay r c fun a b => Real.exp (M a b) := by
  funext i; simp only [Host.exp, lay, up, Ideal.hostUnary_exp_def, Ideal.exp_coe]
/-- its complementary error function of a negated argument, -/
theorem erfc_lay (M : ℕ → ℕ → ℝ) : (Host.erfc (φ := φ) (F := Ideal) (lay r c fun a b => -M a b) : s.Idx → EReal) = lay r c fun a b => 1 + rerf (M a b) := by
  funext i; simp only [Host.erfc, lay, up, Ideal.hostUnary_erfc_def, erfc_neg_real]
/-- its reciprocal root of positive numbers, -/
theorem rsqrt_lay (M : ℕ → ℕ → ℝ) (h : ∀ a b, 0 < M a b) : (Host.rsqrt (φ := φ) (F := Ideal) (lay r c M) : s.Idx → EReal) = lay r c fun a b => (Real.sqrt (M a b))⁻¹ := by
  funext i; simp only [Host.rsqrt, lay, up, Ideal.hostUnary_rsqrt_def, rsqrt_real _ (h _ _)]
/-- and its quotient by numbers other than zero. -/
theorem div_lay (M N : ℕ → ℕ → ℝ) (h : ∀ a b, N a b ≠ 0) : (Host.divf (φ := φ) (F := Ideal) (lay r c M) (lay r c N) : s.Idx → EReal) = lay r c fun a b => M a b / N a b := by
  funext i; simp only [Host.divf, lay, up, Ideal.hostDivf_def, div_real _ _ (h _ _)]

/-- A broadcast number is a constant layout. -/
theorem bc_lay (w : ℝ) (b : BitVec 32) (hb : Ideal.ofBits .f32 b = (w : EReal)) (d) (h : S_.BroadcastsInDim s d) :
    (broadcastInDim s d h (constant (F := Ideal) S_ .f32 b) : s.Idx → EReal) = lay r c fun _ _ => w := by
  funext i; exact hb

/-! The layouts of the reference's arrays: `rK` the row and `cK` the column an index stands for. -/

/-- [2, 2048, 512]: row, -/
def r3 (i : S2x2048x512.Idx) : ℕ := 2048 * (i 0).val + (i 1).val
/-- and column. -/
def c3 (i : S2x2048x512.Idx) : ℕ := (i 2).val
/-- [2, 2048, 8, 64]: row, -/
def r4 (i : S2x2048x8x64.Idx) : ℕ := 2048 * (i 0).val + (i 1).val
/-- and column, the head times 64 plus the lane. -/
def c4 (i : S2x2048x8x64.Idx) : ℕ := 64 * (i 2).val + (i 3).val
/-- [2, 2048, 8, 1]: row, -/
def rh (i : S2x2048x8x1.Idx) : ℕ := 2048 * (i 0).val + (i 1).val
/-- and the head's first column. -/
def ch (i : S2x2048x8x1.Idx) : ℕ := 64 * (i 2).val
/-- [2, 2048, 8]: row, -/
def rk (i : S2x2048x8.Idx) : ℕ := 2048 * (i 0).val + (i 1).val
/-- and the head's first column. -/
def ck (i : S2x2048x8.Idx) : ℕ := 64 * (i 2).val
/-- [2, 16, 128, 8, 64]: row, -/
def r5 (i : S2x16x128x8x64.Idx) : ℕ := 2048 * (i 0).val + 128 * (i 1).val + (i 2).val
/-- and column. -/
def c5 (i : S2x16x128x8x64.Idx) : ℕ := 64 * (i 3).val + (i 4).val
/-- [8, 2, 16, 64, 128]: row, -/
def rt (i : S8x2x16x64x128.Idx) : ℕ := 2048 * (i 1).val + 128 * (i 2).val + (i 4).val
/-- and column. -/
def ct (i : S8x2x16x64x128.Idx) : ℕ := 64 * (i 0).val + (i 3).val
/-- [4096, 512]: row, -/
def r2 (i : S4096x512.Idx) : ℕ := (i 0).val
/-- and column. -/
def c2 (i : S4096x512.Idx) : ℕ := (i 1).val

/-! The ranges of the indices' coordinates. -/

theorem b2 (i : S4096x512.Idx) : (i 0).val < 4096 ∧ (i 1).val < 512 := ⟨(i 0).isLt, (i 1).isLt⟩
theorem b3 (i : S2x2048x512.Idx) : (i 0).val < 2 ∧ (i 1).val < 2048 ∧ (i 2).val < 512 := ⟨(i 0).isLt, (i 1).isLt, (i 2).isLt⟩
theorem b4 (i : S2x2048x8x64.Idx) : (i 0).val < 2 ∧ (i 1).val < 2048 ∧ (i 2).val < 8 ∧ (i 3).val < 64 :=
  ⟨(i 0).isLt, (i 1).isLt, (i 2).isLt, (i 3).isLt⟩
theorem bh (i : S2x2048x8x1.Idx) : (i 0).val < 2 ∧ (i 1).val < 2048 ∧ (i 2).val < 8 ∧ (i 3).val < 1 :=
  ⟨(i 0).isLt, (i 1).isLt, (i 2).isLt, (i 3).isLt⟩
theorem bk (i : S2x2048x8.Idx) : (i 0).val < 2 ∧ (i 1).val < 2048 ∧ (i 2).val < 8 := ⟨(i 0).isLt, (i 1).isLt, (i 2).isLt⟩
theorem b5 (i : S2x16x128x8x64.Idx) : (i 0).val < 2 ∧ (i 1).val < 16 ∧ (i 2).val < 128 ∧ (i 3).val < 8 ∧ (i 4).val < 64 :=
  ⟨(i 0).isLt, (i 1).isLt, (i 2).isLt, (i 3).isLt, (i 4).isLt⟩
theorem bt (i : S8x2x16x64x128.Idx) : (i 0).val < 8 ∧ (i 1).val < 2 ∧ (i 2).val < 16 ∧ (i 3).val < 64 ∧ (i 4).val < 128 :=
  ⟨(i 0).isLt, (i 1).isLt, (i 2).isLt, (i 3).isLt, (i 4).isLt⟩

end Cert.Lay
-- ==== Proof.RefA.lean ====
module

public import proofs.«01_k».proof.Proof.Lay

/-! The reference, operation by operation, up to the gradient of the mixed rows: each of its arrays is a layout of the
model's function. -/

@[expose] public section

set_option maxRecDepth 16384

namespace Cert.ReferenceIdeal.Read

open Cert.ReferenceIdeal Cert.ReferenceIdeal.Gen Idealize.ShloMosaic Idealize.ShloMosaic.TcCoe Cert.Up Cert.Model Cert.Lay
open Cert.KernelIdeal.Chunk (aP aD aV aW aS Rl aP_eq aD_eq aV_eq aW_eq aS_eq)

/-- The reference's arguments, holding real numbers. -/
structure Args where
  x0 : FVec Ideal S4096x4608 .f32
  x1 : FVec Ideal S512 .f32
  x2 : FVec Ideal S512 .f32
  x3 : FVec Ideal S8x128x128 .f32
  x4 : FVec Ideal S8x128 .f32
  x5 : FVec Ideal S4096x2048 .f32
  h0 : Rl (s := S4096x4608) x0
  h1 : Rl (s := S512) x1
  h2 : Rl (s := S512) x2
  h3 : Rl (s := S8x128x128) x3
  h4 : Rl (s := S8x128) x4
  h5 : Rl (s := S4096x2048) x5

variable (A : Args)

/-- The gate's columns of the projected rows, -/
noncomputable def Args.U (r c : ℕ) : ℝ := aP A.x0 r (1024 + c)
/-- the second branch's, -/
noncomputable def Args.V (r c : ℕ) : ℝ := aP A.x0 r (1536 + c)
/-- the mixer's columns of the incoming gradient, -/
noncomputable def Args.D (r c : ℕ) : ℝ := aD A.x5 r (512 + c)
/-- the scale, -/
noncomputable def Args.G (c : ℕ) : ℝ := aV A.x1 c
/-- the shift, -/
noncomputable def Args.B (c : ℕ) : ℝ := aV A.x2 c
/-- the weights, -/
noncomputable def Args.W (h t s : ℕ) : ℝ := aW A.x3 h t s
/-- and the offsets. -/
noncomputable def Args.S (h t : ℕ) : ℝ := aS A.x4 h t

/-! The operands. -/

theorem l1 : val_main_v1 (F := Ideal) A.x0 = lay r3 c3 A.U := by
  funext i; rw [val_main_v1_apply, val_main_v0_apply]
  refine aP_eq A.x0 A.h0 _ _ _ ?_ ?_
  all_goals have := b3 i; simp only [r3, c3]; omega
theorem l3 : val_main_v3 (F := Ideal) A.x0 = lay r3 c3 A.V := by
  funext i; rw [val_main_v3_apply, val_main_v2_apply]
  refine aP_eq A.x0 A.h0 _ _ _ ?_ ?_
  all_goals have := b3 i; simp only [r3, c3]; omega
theorem l5 : val_main_v5 (F := Ideal) A.x5 = lay r3 c3 A.D := by
  funext i; rw [val_main_v5_apply, val_main_v4_apply]
  refine aD_eq A.x5 A.h5 _ _ _ ?_ ?_
  all_goals have := b3 i; simp only [r3, c3]; omega

/-! The activation of the gate and of the second branch, and the factors its derivative is made of. -/

theorem l7 : val_main_v7 (F := Ideal) A.x0 = lay r3 c3 fun a b => 1 / 2 * A.U a b := by
  unfold val_main_v7 val_main_v6 val_main_cst
  rw [l1, bc_lay (r := r3) (c := c3) _ _ lit_half, mul_lay]
theorem l10 : val_main_v10 (F := Ideal) A.x0 = lay r3 c3 fun a b => -(A.U a b * cR) := by
  unfold val_main_v10 val_main_v8 val_main_v9 val_main_cst_0
  rw [l1, bc_lay (r := r3) (c := c3) _ _ lit_c, neg_lay, mul_lay]
  exact lay_ext fun a b => by ring
theorem l11 : val_main_v11 (F := Ideal) A.x0 = lay r3 c3 fun a b => erf1 (A.U a b) := by
  unfold val_main_v11
  rw [l10, erfc_lay]; rfl
theorem l14 : val_main_v14 (F := Ideal) A.x0 = lay r3 c3 fun a b => bell (A.U a b) := by
  unfold val_main_v14 val_main_v13 val_main_v12
  rw [l10, mul_lay, neg_lay, exp_lay]
  exact lay_ext fun a b => by unfold bell; congr 1; ring
theorem l15 : val_main_v15 (F := Ideal) A.x0 = lay r3 c3 fun a b => gelu (A.U a b) := by
  unfold val_main_v15
  rw [l7, l11, mul_lay]; rfl
theorem l17 : val_main_v17 (F := Ideal) A.x0 = lay r3 c3 fun a b => 1 / 2 * A.V a b := by
  unfold val_main_v17 val_main_v16 val_main_cst_1
  rw [l3, bc_lay (r := r3) (c := c3) _ _ lit_half, mul_lay]
theorem l20 : val_main_v20 (F := Ideal) A.x0 = lay r3 c3 fun a b => -(A.V a b * cR) := by
  unfold val_main_v20 val_main_v18 val_main_v19 val_main_cst_2
  rw [l3, bc_lay (r := r3) (c := c3) _ _ lit_c, neg_lay, mul_lay]
  exact lay_ext fun a b => by ring
theorem l21 : val_main_v21 (F := Ideal) A.x0 = lay r3 c3 fun a b => erf1 (A.V a b) := by
  unfold val_main_v21
  rw [l20, erfc_lay]; rfl
theorem l24 : val_main_v24 (F := Ideal) A.x0 = lay r3 c3 fun a b => bell (A.V a b) := by
  unfold val_main_v24 val_main_v23 val_main_v22
  rw [l20, mul_lay, neg_lay, exp_lay]
  exact lay_ext fun a b => by unfold bell; congr 1; ring
theorem l25 : val_main_v25 (F := Ideal) A.x0 = lay r3 c3 (act A.V) := by
  unfold val_main_v25
  rw [l17, l21, mul_lay]; rfl

/-! The normalisation over a head's columns. -/

/-- The sum over the head a column lies in. -/
noncomputable def hsum (M : ℕ → ℕ → ℝ) (r c : ℕ) : ℝ := ∑ p : Fin 64, M r (64 * (c / 64) + p)

/-- A function that does not change within a head. -/
def Head (M : ℕ → ℕ → ℝ) : Prop := ∀ a b, M a (64 * (b / 64)) = M a b

/-- A sum over a head does not change within it; -/
theorem hsum_head (M : ℕ → ℕ → ℝ) : Head (hsum M) := fun a b => by
  unfold hsum; rw [show 64 * (b / 64) / 64 = b / 64 by omega]
/-- neither does a mean, -/
theorem mean_head (M : ℕ → ℕ → ℝ) : Head (mean M) := fun a b => congrArg (· / 64) (hsum_head M a b)
/-- the variance -/
theorem vare_head (V : ℕ → ℕ → ℝ) : Head (vare V) := fun a b => congrArg (· + eR) (mean_head _ a b)
/-- and its reciprocal root. -/
theorem rs_head (V : ℕ → ℕ → ℝ) : Head (rs V) := fun a b => congrArg (fun x => (Real.sqrt x)⁻¹) (vare_head V a b)

/-- A sum along the last axis of the split layout, from the zero literal. -/
theorem hsum_lay (M : ℕ → ℕ → ℝ) (i : S2x2048x8.Idx) (f : Fin 64 → S2x2048x8x64.Idx)
    (hr : ∀ k, r4 (f k) = rk i) (hc : ∀ k, c4 (f k) = ck i + k.val) :
    Ideal.ofBits .f32 0x00000000#32 + ∑ k, lay r4 c4 M (f k) = lay rk ck (hsum M) i := by
  have e : ∀ k, lay r4 c4 M (f k) = ((M (rk i) (64 * (ck i / 64) + k.val) : ℝ) : EReal) := fun k => by
    show ((M (r4 (f k)) (c4 (f k)) : ℝ) : EReal) = _
    rw [hr k, hc k, show ck i = 64 * (ck i / 64) by unfold ck; omega, show 64 * (64 * (ck i / 64) / 64) = 64 * (ck i / 64) by omega]
  rw [Finset.sum_congr rfl fun k _ => e k, lit_zero, EReal.coe_zero, zero_add, ← coe_sum]; rfl

/-- A function that does not change within a head, spread over the head's columns. -/
theorem spread_h (M : ℕ → ℕ → ℝ) (hM : Head M) (i : S2x2048x8x64.Idx) (j : S2x2048x8x1.Idx) (hr : rh j = r4 i)
    (hc : ch j = 64 * (i 2).val) : lay rh ch M j = lay r4 c4 M i := by
  show ((M (rh j) (ch j) : ℝ) : EReal) = ((M (r4 i) (c4 i) : ℝ) : EReal)
  have := b4 i
  rw [hr, hc, ← hM (r4 i) (c4 i), show c4 i / 64 = (i 2).val by unfold c4; omega]
/-- The same from the layout without the last axis. -/
theorem spread_k (M : ℕ → ℕ → ℝ) (hM : Head M) (i : S2x2048x8x64.Idx) (j : S2x2048x8.Idx) (hr : rk j = r4 i)
    (hc : ck j = 64 * (i 2).val) : lay rk ck M j = lay r4 c4 M i := by
  show ((M (rk j) (ck j) : ℝ) : EReal) = ((M (r4 i) (c4 i) : ℝ) : EReal)
  have := b4 i
  rw [hr, hc, ← hM (r4 i) (c4 i), show c4 i / 64 = (i 2).val by unfold c4; omega]

theorem l26 : val_main_v26 (F := Ideal) A.x0 = lay r4 c4 (act A.V) := by
  funext i; rw [val_main_v26_apply, l25]
  refine lay_eq _ _ _ ?_ ?_
  all_goals have := b4 i; simp only [r3, c3, r4, c4]; omega
theorem l27 : val_main_v27 (F := Ideal) A.x0 = lay rk ck (hsum (act A.V)) := by
  funext i; rw [val_main_v27_apply, l26]; exact hsum_lay _ i _ (fun _ => rfl) (fun _ => rfl)
theorem l28 : val_main_v28 (F := Ideal) A.x0 = lay rh ch (hsum (act A.V)) := by
  funext i; rw [val_main_v28_apply, l27]; exact lay_eq _ _ _ rfl rfl
theorem l30 : val_main_v30 (F := Ideal) A.x0 = lay rh ch (mean (act A.V)) := by
  unfold val_main_v30 val_main_v29 val_main_cst_4
  rw [l28, bc_lay (r := rh) (c := ch) _ _ lit_64, div_lay _ _ fun _ _ => by norm_num]; rfl
theorem l32 : val_main_v32 (F := Ideal) A.x0 = lay r4 c4 (xc A.V) := by
  have e : val_main_v31 (F := Ideal) A.x0 = lay r4 c4 (mean (act A.V)) := by
    funext i; rw [val_main_v31_apply, l30]; exact spread_h _ (mean_head _) i _ rfl rfl
  unfold val_main_v32
  rw [l26, e, sub_lay]; rfl
theorem l34 : val_main_v34 (F := Ideal) A.x0 = lay rk ck (hsum fun r c => xc A.V r c * xc A.V r c) := by
  have e : val_main_v33 (F := Ideal) A.x0 = lay r4 c4 fun r c => xc A.V r c * xc A.V r c := by
    unfold val_main_v33; rw [l32, mul_lay]
  funext i; rw [val_main_v34_apply, e]; exact hsum_lay _ i _ (fun _ => rfl) (fun _ => rfl)
theorem l39 : val_main_v39 (F := Ideal) A.x0 = lay rh ch (vare A.V) := by
  have e : val_main_v35 (F := Ideal) A.x0 = lay rh ch (hsum fun r c => xc A.V r c * xc A.V r c) := by
    funext i; rw [val_main_v35_apply, l34]; exact lay_eq _ _ _ rfl rfl
  unfold val_main_v39 val_main_v37 val_main_v36 val_main_cst_6 val_main_v38 val_main_cst_7
  rw [e, bc_lay (r := rh) (c := ch) _ _ lit_64, bc_lay (r := rh) (c := ch) _ _ lit_e, div_lay _ _ fun _ _ => by norm_num, add_lay]; rfl
theorem l40 : val_main_v40 (F := Ideal) A.x0 = lay rh ch (rs A.V) := by
  unfold val_main_v40; rw [l39, rsqrt_lay _ (vare_pos A.V)]; rfl
theorem l43 : val_main_v43 (F := Ideal) A.x0 = lay rh ch fun r c => -(1 / 2) * (rs A.V r c / vare A.V r c) := by
  unfold val_main_v43 val_main_v42 val_main_cst_8 val_main_v41
  rw [l39, l40, bc_lay (r := rh) (c := ch) _ _ lit_nhalf, div_lay _ _ fun a b => (vare_pos A.V a b).ne', mul_lay]
theorem l45 : val_main_v45 (F := Ideal) A.x0 = lay r4 c4 (xn A.V) := by
  have e : val_main_v44 (F := Ideal) A.x0 = lay r4 c4 (rs A.V) := by
    funext i; rw [val_main_v44_apply, l40]; exact spread_h _ (rs_head _) i _ rfl rfl
  unfold val_main_v45
  rw [l32, e, mul_lay]; rfl
theorem l46 : val_main_v46 (F := Ideal) A.x0 = lay r3 c3 (xn A.V) := by
  funext i; rw [val_main_v46_apply, l45]
  refine lay_eq _ _ _ ?_ ?_
  all_goals have := b3 i; simp only [r3, c3, r4, c4]; omega
theorem l52 : val_main_v52 (F := Ideal) A.x0 A.x1 A.x2 = lay r3 c3 (vn A.V A.G A.B) := by
  have g : val_main_v48 (F := Ideal) A.x1 = lay r3 c3 fun _ b => A.G b := by
    funext i; rw [val_main_v48_apply, val_main_v47_apply]; exact aV_eq A.x1 A.h1 _ _ rfl
  have b : val_main_v51 (F := Ideal) A.x2 = lay r3 c3 fun _ b => A.B b := by
    funext i; rw [val_main_v51_apply, val_main_v50_apply]; exact aV_eq A.x2 A.h2 _ _ rfl
  unfold val_main_v52 val_main_v49
  rw [l46, g, b, mul_lay, add_lay]; rfl
theorem l53 : val_main_v53 (F := Ideal) A.x0 A.x1 A.x2 = lay r5 c5 (vn A.V A.G A.B) := by
  funext i; rw [val_main_v53_apply, l52]
  refine lay_eq _ _ _ ?_ ?_
  all_goals have := b5 i; simp only [r3, c3, r5, c5]; omega

/-! The weights on and below the diagonal, and the mixed rows. -/

/-- The mask holds on and below the diagonal. -/
theorem mask_iff (i : S8x128x128.Idx) : val_main_v57_1 (F := Ideal) i = 1#1 ↔ (i 2).val ≤ (i 1).val := by
  have h := (by decide +kernel : ∀ p q : Fin 128, Scalar.select (IntOp.cmpi .sge (IntOp.addi (BitVec.ofNat 32 p.val) 0#32) (BitVec.ofNat 32 q.val)) 1#1 0#1 = 1#1 ↔ q.val ≤ p.val)
  rw [val_main_v57_1_apply, val_main_v55_apply, val_main_v54_apply, val_main_call0_v5_apply, val_main_call0_v4_apply, val_main_call0_v2_apply, val_main_call0_v1_apply]
  exact h (i 1) (i 2)
/-- The masked weights. -/
theorem l57 (i : S8x128x128.Idx) : val_main_v57_0 (F := Ideal) A.x3 i = ((tw A.W (i 0).val (i 1).val (i 2).val : ℝ) : EReal) := by
  rw [val_main_v57_0_apply, Scalar.select, tw]
  by_cases h : (i 2).val ≤ (i 1).val
  · rw [if_pos h, (mask_iff i).mpr h]; exact aW_eq A.x3 A.h3 i _ _ _ rfl rfl rfl
  · have e : ¬ val_main_v57_1 (F := Ideal) i = 1#1 := fun q => h ((mask_iff i).mp q)
    rw [if_neg h]; exact (if_neg e).trans lit_zero

theorem l58 : val_main_v58 (F := Ideal) A.x0 A.x1 A.x2 A.x3
    = lay rt ct fun r c => ∑ s : Fin 128, vn A.V A.G A.B (128 * (r / 128) + s) c * tw A.W (c / 64) (r % 128) s := by
  funext i; rw [val_main_v58_apply, l53]
  show _ = ((∑ s : Fin 128, vn A.V A.G A.B (128 * (rt i / 128) + s) (ct i) * tw A.W (ct i / 64) (rt i % 128) s : ℝ) : EReal)
  rw [coe_sum]
  have := bt i
  have hr : ∀ k : Fin 128, r5 (lidx_main_v58 i k) = 128 * (rt i / 128) + k.val := fun k => by simp only [r5, rt]; omega
  have hc : ∀ k : Fin 128, c5 (lidx_main_v58 i k) = ct i := fun k => rfl
  have hh : (i 0).val = ct i / 64 := by unfold ct; omega
  have ht : (i 4).val = rt i % 128 := by unfold rt; omega
  refine Finset.sum_congr rfl fun k _ => ?_
  have e := l57 A (ridx_main_v58 i k)
  rw [show (ridx_main_v58 i k 0).val = ct i / 64 from hh, show (ridx_main_v58 i k 1).val = rt i % 128 from ht] at e
  rw [e, EReal.coe_mul, ← hr k, ← hc k]; rfl
theorem l59 : val_main_v59 (F := Ideal) A.x0 A.x1 A.x2 A.x3
    = lay r5 c5 fun r c => ∑ s : Fin 128, vn A.V A.G A.B (128 * (r / 128) + s) c * tw A.W (c / 64) (r % 128) s := by
  funext i; rw [val_main_v59_apply, l58]; exact lay_eq _ _ _ rfl rfl
theorem l63 : val_main_v63 (F := Ideal) A.x4 = lay r5 c5 fun r c => A.S (c / 64) (r % 128) := by
  funext i; rw [val_main_v63_apply, val_main_v62_apply, val_main_v61_apply, val_main_v60_apply]
  have := b5 i
  refine aS_eq A.x4 A.h4 _ _ _ ?_ ?_
  all_goals simp only [r5, c5]; omega
theorem l64 : val_main_v64 (F := Ideal) A.x0 A.x1 A.x2 A.x3 A.x4 = lay r5 c5 (mix A.V A.G A.B A.W A.S) := by
  unfold val_main_v64; rw [l59, l63, add_lay]
  exact lay_ext fun a b => congrArg (· + A.S (b / 64) (a % 128)) (Finset.sum_congr rfl fun s _ => mul_comm _ _)
theorem l68 : val_main_v68 (F := Ideal) A.x5 = lay r5 c5 A.D := by
  funext i; rw [val_main_v68_apply, l5]
  refine lay_eq _ _ _ ?_ ?_
  all_goals have := b5 i; simp only [r3, c3, r5, c5]; omega
/-- The gradient of the mixed rows. -/
theorem l69 : val_main_v69 (F := Ideal) A.x0 A.x5 = lay r5 c5 (dm A.U A.D) := by
  have e : val_main_v65 (F := Ideal) A.x0 = lay r5 c5 fun a b => gelu (A.U a b) := by
    funext i; rw [val_main_v65_apply, l15]
    refine lay_eq _ _ _ ?_ ?_
    all_goals have := b5 i; simp only [r3, c3, r5, c5]; omega
  unfold val_main_v69; rw [e, l68, mul_lay]; rfl
/-- The gradient of the activated gate. -/
theorem l71 : val_main_v71 (F := Ideal) A.x0 A.x1 A.x2 A.x3 A.x4 A.x5 = lay r3 c3 fun a b => A.D a b * mix A.V A.G A.B A.W A.S a b := by
  have e : val_main_v70 (F := Ideal) A.x0 A.x1 A.x2 A.x3 A.x4 A.x5 = lay r5 c5 fun a b => A.D a b * mix A.V A.G A.B A.W A.S a b := by
    unfold val_main_v70; rw [l68, l64, mul_lay]
  funext i; rw [val_main_v71_apply, e]
  refine lay_eq _ _ _ ?_ ?_
  all_goals have := b3 i; simp only [r3, c3, r5, c5]; omega

end Cert.ReferenceIdeal.Read
-- ==== Proof.Finite.lean ====
module

public import proofs.«01_k».proof.Defs
public import proofs.«01_k».proof.Proof.KVal
public import proofs.«01_k».proof.Proof.RefA
public import Idealize.ShloMosaic.Lib.ReduceAll

/-! What the precondition says: an array all of whose magnitudes are below infinity holds real numbers. -/

@[expose] public section

set_option maxRecDepth 16384

namespace Cert.Finite

open Idealize.ShloMosaic Idealize.SL.Sem Cert.Up

/-- The side conditions of the printed precondition. -/
instance facts : Cert.Pre_finite.Facts where
  bcast_S_S4096x4608 := by decide
  reducesTo_S4096x4608_S_d0_1 := by decide
  h_S_ := by decide
  bcast_S_S512 := by decide
  reducesTo_S512_S_d0 := by decide
  bcast_S_S8x128x128 := by decide
  reducesTo_S8x128x128_S_d0_1_2 := by decide
  bcast_S_S8x128 := by decide
  reducesTo_S8x128_S_d0_1 := by decide
  bcast_S_S4096x2048 := by decide
  reducesTo_S4096x2048_S_d0_1 := by decide

/-- A number whose magnitude is below infinity is a real number. -/
theorem real_of_abs_lt (x : EReal) (h : max x (-x) < ⊤) : x = ((x.toReal : ℝ) : EReal) := by
  refine (EReal.coe_toReal ?_ ?_).symm
  · rintro rfl
    simp at h
  · rintro rfl
    simp at h

/-- An array of which "every magnitude is below infinity" came out true holds real numbers. -/
theorem real_of_all {s : Shape} {axes : List (Fin s.rank)} (x : FVec Ideal s .f32) (b : Pre_finite.S_.BroadcastsInDim s (![] : Fin 0 → Fin s.rank))
    (h : s.ReducesTo axes Pre_finite.S_) (hu : 0 < Pre_finite.S_.numel) (j : Pre_finite.S_.Idx)
    (e : Host.reduce IntOp.andi (cmpf .olt (Host.absf x) (broadcastInDim s ![] b (constant (F := Ideal) Pre_finite.S_ .f32 0x7F800000#32)))
      (constantI Pre_finite.S_ 1 1#1) h hu j = 1#1) (i : s.Idx) : (x i : EReal) = (((x i : EReal).toReal : ℝ) : EReal) := by
  haveI : Subsingleton Pre_finite.S_.Idx := ⟨fun a b => funext fun k => k.elim0⟩
  have hi : FloatOps.cmpf .olt (FloatOps.hostAbsf (x i)) (FloatOps.ofBits .f32 0x7F800000#32 : Ideal .f32) = 1#1 :=
    Host.reduce_andi_all _ _ h hu j e i
  have htop : (FloatOps.ofBits .f32 0x7F800000#32 : Ideal .f32) = (⊤ : EReal) := by
    show Ideal.ofBits .f32 0x7F800000#32 = ⊤
    simp [Ideal.ofBits, Ideal.ieee]
  rw [htop, Ideal.hostAbsf_def, Ideal.absf_def, Ideal.cmpf_def] at hi
  refine real_of_abs_lt _ ?_
  by_contra hn
  simp [Ideal.cmp, hn] at hi

/-- The precondition's six conjuncts, read one by one. -/
theorem reals (x0 : FVec Ideal Pre_finite.S4096x4608 .f32) (x1 x2 : FVec Ideal Pre_finite.S512 .f32) (x3 : FVec Ideal Pre_finite.S8x128x128 .f32)
    (x4 : FVec Ideal Pre_finite.S8x128 .f32) (x5 : FVec Ideal Pre_finite.S4096x2048 .f32)
    (e : Pre_finite.fn (F := Ideal) x0 x1 x2 x3 x4 x5 = fun _ => 1#1) :
    (∀ i, (x0 i : EReal) = (((x0 i : EReal).toReal : ℝ) : EReal)) ∧ (∀ i, (x1 i : EReal) = (((x1 i : EReal).toReal : ℝ) : EReal))
      ∧ (∀ i, (x2 i : EReal) = (((x2 i : EReal).toReal : ℝ) : EReal)) ∧ (∀ i, (x3 i : EReal) = (((x3 i : EReal).toReal : ℝ) : EReal))
      ∧ (∀ i, (x4 i : EReal) = (((x4 i : EReal).toReal : ℝ) : EReal)) ∧ (∀ i, (x5 i : EReal) = (((x5 i : EReal).toReal : ℝ) : EReal)) := by
  have e0 := congrFun e (fun k => k.elim0)
  obtain ⟨e1, h5⟩ := IntOp.andi_eq_one.1 e0
  obtain ⟨e2, h4⟩ := IntOp.andi_eq_one.1 e1
  obtain ⟨e3, h3⟩ := IntOp.andi_eq_one.1 e2
  obtain ⟨e4, h2⟩ := IntOp.andi_eq_one.1 e3
  obtain ⟨h0, h1⟩ := IntOp.andi_eq_one.1 e4
  exact ⟨real_of_all x0 _ _ _ _ h0, real_of_all x1 _ _ _ _ h1, real_of_all x2 _ _ _ _ h2, real_of_all x3 _ _ _ _ h3,
    real_of_all x4 _ _ _ _ h4, real_of_all x5 _ _ _ _ h5⟩

end Cert.Finite
-- ==== Proof.RefB.lean ====
module

public import proofs.«01_k».proof.Proof.RefA

/-! The reference, operation by operation, from the gradient of the mixed rows to its six results. -/

@[expose] public section

set_option maxRecDepth 16384

namespace Cert.ReferenceIdeal.Read

open Cert.ReferenceIdeal Cert.ReferenceIdeal.Gen Idealize.ShloMosaic Idealize.ShloMosaic.TcCoe Cert.Up Cert.Model Cert.Lay

variable (A : Args)

/-- The host's sum over several axes from the zero literal, along a parametrisation of the indices it adds up. -/
theorem sum_along {s t : Shape} {axes : List (Fin s.rank)} (h : s.ReducesTo axes t) {κ : Type} [Fintype κ] (j : t.Idx)
    (g : κ → s.Idx) (hg : Function.Injective g) (hp : ∀ i, h.drop i = j ↔ ∃ k, g k = i) (X : s.Idx → ℝ) :
    (Host.reduceAdd (F := Ideal) (φ := .f32) (up X) (constant (F := Ideal) S_ .f32 0x00000000#32) h h_S_ : t.Idx → EReal) j
      = ((∑ k, X (g k) : ℝ) : EReal) := by
  simp only [Host.reduceAdd, Ideal.hostReduceAdd_def]
  refine (congrArg (Ideal.ofBits .f32 0x00000000#32 + ·) (Finset.sum_filter_eq_sum_of_fiber _ g hg hp _)).trans ?_
  show _ + ∑ k, ((X (g k) : ℝ) : EReal) = _
  rw [lit_zero, EReal.coe_zero, zero_add, coe_sum]

/-! The gradient of the offsets. -/

/-- The row `t` of the chunk `k` in the head `h`'s column `p`. -/
def rowOf (t : Fin 128) (h : Fin 8) (k : Fin 32 × Fin 64) : S2x16x128x8x64.Idx :=
  ix5 (⟨k.1.val / 16, by omega⟩ : Fin 2) (⟨k.1.val % 16, by omega⟩ : Fin 16) t h k.2

theorem l72 (j : S128x8.Idx) : val_main_v72 (F := Ideal) A.x0 A.x5 j = ((ds A.U A.D (j 1).val (j 0).val : ℝ) : EReal) := by
  unfold val_main_v72 val_main_cst_10; rw [l69]
  refine (sum_along _ j (rowOf (j 0) (j 1)) ?_ ?_ _).trans ?_
  · intro a b e
    have h0 : a.1.val / 16 = b.1.val / 16 := congrArg Fin.val (congrFun e 0)
    have h1 : a.1.val % 16 = b.1.val % 16 := congrArg Fin.val (congrFun e 1)
    exact Prod.ext (Fin.ext (by omega)) (congrFun e 4)
  · intro i
    have hb := b5 i
    constructor
    · intro e
      refine ⟨(⟨16 * (i 0).val + (i 1).val, by omega⟩, i 4), ?_⟩
      funext a; apply Fin.ext
      match a with
      | ⟨0, _⟩ => show (16 * (i 0).val + (i 1).val) / 16 = (i 0).val; omega
      | ⟨1, _⟩ => show (16 * (i 0).val + (i 1).val) % 16 = (i 1).val; omega
      | ⟨2, _⟩ => exact (congrArg Fin.val (congrFun e 0)).symm
      | ⟨3, _⟩ => exact (congrArg Fin.val (congrFun e 1)).symm
      | ⟨4, _⟩ => rfl
    · rintro ⟨k, rfl⟩
      funext b; apply Fin.ext
      match b with
      | ⟨0, _⟩ => rfl
      | ⟨1, _⟩ => rfl
  · rw [Fintype.sum_prod_type]
    refine congrArg _ (Finset.sum_congr rfl fun k _ => Finset.sum_congr rfl fun p _ => ?_)
    refine congrArg₂ (dm A.U A.D) ?_ rfl
    show 2048 * (k.val / 16) + 128 * (k.val % 16) + (j 0).val = 128 * k.val + (j 0).val
    omega

theorem l77 (i : S8x128.Idx) : val_main_v77 (F := Ideal) A.x0 A.x5 i = ((ds A.U A.D (i 0).val (i 1).val : ℝ) : EReal) := by
  have e73 : val_main_v73 (F := Ideal) A.x0 A.x5 = up fun i => ds A.U A.D (i 3).val (i 2).val := by
    funext i; rw [val_main_v73_apply, l72]
    have h3 : (i 3).val < 8 := (i 3).isLt
    have h2 : (i 2).val < 128 := (i 2).isLt
    have h0 : (i 0).val < 1 := (i 0).isLt
    have h1 : (i 1).val < 1 := (i 1).isLt
    have h4 : (i 4).val < 1 := (i 4).isLt
    refine congrArg _ (congrArg₂ (ds A.U A.D) ?_ ?_) <;> simp only [] <;> omega
  have e74 : val_main_v74 (F := Ideal) A.x0 A.x5 = up fun i => ds A.U A.D (i 1).val (i 0).val := by
    funext j
    unfold val_main_v74 val_main_cst_11; rw [e73]
    refine (sum_along _ j (fun _ : Unit => (ix5 (0 : Fin 1) (0 : Fin 1) (j 0 : Fin 128) (j 1 : Fin 8) (0 : Fin 1) : S1x1x128x8x1.Idx)) (fun _ _ _ => rfl) ?_ _).trans ?_
    · intro i
      have h0 : (i 0).val < 1 := (i 0).isLt
      have h1 : (i 1).val < 1 := (i 1).isLt
      have h4 : (i 4).val < 1 := (i 4).isLt
      constructor
      · intro e
        refine ⟨(), ?_⟩
        funext a; apply Fin.ext
        match a with
        | ⟨0, _⟩ => show 0 = (i 0).val; omega
        | ⟨1, _⟩ => show 0 = (i 1).val; omega
        | ⟨2, _⟩ => exact (congrArg Fin.val (congrFun e 0)).symm
        | ⟨3, _⟩ => exact (congrArg Fin.val (congrFun e 1)).symm
        | ⟨4, _⟩ => show 0 = (i 4).val; omega
      · rintro ⟨k, rfl⟩
        funext b; apply Fin.ext
        match b with
        | ⟨0, _⟩ => rfl
        | ⟨1, _⟩ => rfl
    · rw [Fintype.sum_unique]; rfl
  rw [val_main_v77_apply, val_main_v76_apply]
  show Ideal.ofBits .f32 0x00000000#32 + _ = _
  rw [Fin.sum_univ_one, val_main_v75_apply, e74, lit_zero, EReal.coe_zero, zero_add]; rfl
/-- The gradient of the offsets. -/
theorem l145 : val_main_v145 (F := Ideal) A.x0 A.x5 = up fun i => ds A.U A.D (2 * (i 0).val + (i 1).val) (i 2).val := by
  funext i; rw [val_main_v145_apply, l77]
  have h0 : (i 0).val < 4 := (i 0).isLt
  have h1 : (i 1).val < 2 := (i 1).isLt
  have h2 : (i 2).val < 128 := (i 2).isLt
  refine congrArg _ (congrArg₂ (ds A.U A.D) ?_ ?_) <;> simp only [] <;> omega

/-! The gradient of the weights. -/

theorem l78 : val_main_v78 (F := Ideal) A.x0 A.x5 = lay rt ct (dm A.U A.D) := by
  funext i; rw [val_main_v78_apply, l69]; exact lay_eq _ _ _ rfl rfl

/-- The product's contraction index at the chunk and the head's column. -/
def atChunk (k : Fin 32 × Fin 64) : dot_S8x2x16x64x128_S2x16x128x8x64_S8x128x128_123_014_4_2_0_3.contr.Idx := fun a => match a with
  | ⟨0, _⟩ => (⟨k.1.val / 16, by omega⟩ : Fin 2)
  | ⟨1, _⟩ => (⟨k.1.val % 16, by omega⟩ : Fin 16)
  | ⟨2, _⟩ => (k.2 : Fin 64)

theorem atChunk_bij : Function.Bijective atChunk := by
  constructor
  · intro a b e
    have h0 : a.1.val / 16 = b.1.val / 16 := congrArg Fin.val (congrFun e ⟨0, by decide⟩)
    have h1 : a.1.val % 16 = b.1.val % 16 := congrArg Fin.val (congrFun e ⟨1, by decide⟩)
    have h2 : a.2.val = b.2.val := congrArg Fin.val (congrFun e ⟨2, by decide⟩)
    exact Prod.ext (Fin.ext (by omega)) (Fin.ext h2)
  · intro q
    have h0 : (q ⟨0, by decide⟩).val < 2 := (q ⟨0, by decide⟩).isLt
    have h1 : (q ⟨1, by decide⟩).val < 16 := (q ⟨1, by decide⟩).isLt
    refine ⟨(⟨16 * (q ⟨0, by decide⟩).val + (q ⟨1, by decide⟩).val, by omega⟩, (⟨(q ⟨2, by decide⟩).val, (q ⟨2, by decide⟩).isLt⟩ : Fin 64)), ?_⟩
    funext a; apply Fin.ext
    match a with
    | ⟨0, _⟩ => show (16 * (q ⟨0, by decide⟩).val + (q ⟨1, by decide⟩).val) / 16 = (q ⟨0, by decide⟩).val; omega
    | ⟨1, _⟩ => show (16 * (q ⟨0, by decide⟩).val + (q ⟨1, by decide⟩).val) % 16 = (q ⟨1, by decide⟩).val; omega
    | ⟨2, _⟩ => rfl

/-- The left operand's row and column at a chunk and a head's column, -/
theorem dw_lhs (i : S8x128x128.Idx) (k : Fin 32 × Fin 64) :
    rt (dot_S8x2x16x64x128_S2x16x128x8x64_S8x128x128_123_014_4_2_0_3.lhsIdx i (atChunk k)) = 128 * k.1.val + (i 1).val
    ∧ ct (dot_S8x2x16x64x128_S2x16x128x8x64_S8x128x128_123_014_4_2_0_3.lhsIdx i (atChunk k)) = 64 * (i 0).val + k.2.val := by
  constructor
  · show 2048 * (k.1.val / 16) + 128 * (k.1.val % 16) + (i 1).val = _; omega
  · rfl
/-- and the right operand's. -/
theorem dw_rhs (i : S8x128x128.Idx) (k : Fin 32 × Fin 64) :
    r5 (dot_S8x2x16x64x128_S2x16x128x8x64_S8x128x128_123_014_4_2_0_3.rhsIdx i (atChunk k)) = 128 * k.1.val + (i 2).val
    ∧ c5 (dot_S8x2x16x64x128_S2x16x128x8x64_S8x128x128_123_014_4_2_0_3.rhsIdx i (atChunk k)) = 64 * (i 0).val + k.2.val := by
  constructor
  · show 2048 * (k.1.val / 16) + 128 * (k.1.val % 16) + (i 2).val = _; omega
  · rfl

theorem l79 (i : S8x128x128.Idx) : val_main_v79 (F := Ideal) A.x0 A.x1 A.x2 A.x5 i
    = ((∑ k : Fin 32, ∑ p : Fin 64, dm A.U A.D (128 * k + (i 1).val) (64 * (i 0).val + p) * vn A.V A.G A.B (128 * k + (i 2).val) (64 * (i 0).val + p) : ℝ) : EReal) := by
  unfold val_main_v79
  rw [l78, l53]
  simp only [Host.dotGeneral]
  rw [Ideal.dotGeneral_apply, ← atChunk_bij.sum_comp, ← Fintype.sum_prod_type', coe_sum]
  refine Finset.sum_congr rfl fun k _ => ?_
  show ((dm A.U A.D (rt _) (ct _) : ℝ) : EReal) * ((vn A.V A.G A.B (r5 _) (c5 _) : ℝ) : EReal) = _
  rw [(dw_lhs i k).1, (dw_lhs i k).2, (dw_rhs i k).1, (dw_rhs i k).2, ← EReal.coe_mul]

/-- The gradient of the weights. -/
theorem l82 : val_main_v82 (F := Ideal) A.x0 A.x1 A.x2 A.x5 = up fun i => dw A.U A.V A.D A.G A.B (i 0).val (i 1).val (i 2).val := by
  funext i
  rw [val_main_v82_apply, Scalar.select]
  show _ = ((dw A.U A.V A.D A.G A.B (i 0).val (i 1).val (i 2).val : ℝ) : EReal)
  unfold dw dwPart
  by_cases h : (i 2).val ≤ (i 1).val
  · rw [(mask_iff i).mpr h]; simp only [if_pos h]; exact l79 A i
  · have e : ¬ val_main_v57_1 (F := Ideal) i = 1#1 := fun q => h ((mask_iff i).mp q)
    simp only [if_neg h, Finset.sum_const_zero]; exact (if_neg e).trans lit_zero

/-! The gradient of the scaled rows, and of the scale and the shift. -/

theorem l83 : val_main_v83 (F := Ideal) A.x0 A.x3 A.x5 = lay r3 c3 (dvn A.U A.D A.W) := by
  have e80 : val_main_v80 (F := Ideal) A.x0 A.x3 A.x5 = lay rt ct (dvn A.U A.D A.W) := by
    funext i; rw [val_main_v80_apply, l78]
    show _ = ((∑ t : Fin 128, tw A.W (ct i / 64) t (rt i % 128) * dm A.U A.D (128 * (rt i / 128) + t) (ct i) : ℝ) : EReal)
    rw [coe_sum]
    have := bt i
    have hr : ∀ k : Fin 128, rt (lidx_main_v80 i k) = 128 * (rt i / 128) + k.val := fun k => by simp only [rt]; omega
    have hc : ∀ k : Fin 128, ct (lidx_main_v80 i k) = ct i := fun k => rfl
    have hh : (i 0).val = ct i / 64 := by unfold ct; omega
    have ht : (i 4).val = rt i % 128 := by unfold rt; omega
    refine Finset.sum_congr rfl fun k _ => ?_
    have e := l57 A (ridx_main_v80 i k)
    rw [show (ridx_main_v80 i k 0).val = ct i / 64 from hh, show (ridx_main_v80 i k 2).val = rt i % 128 from ht] at e
    rw [e, mul_comm, EReal.coe_mul, ← hr k, ← hc k]; rfl
  have e81 : val_main_v81 (F := Ideal) A.x0 A.x3 A.x5 = lay r5 c5 (dvn A.U A.D A.W) := by
    funext i; rw [val_main_v81_apply, e80]; exact lay_eq _ _ _ rfl rfl
  funext i; rw [val_main_v83_apply, e81]
  refine lay_eq _ _ _ ?_ ?_
  all_goals have := b3 i; simp only [r3, c3, r5, c5]; omega

/-- The sum over all rows of a column. -/
theorem rows_sum (M : ℕ → ℕ → ℝ) (j : S512.Idx) :
    (Host.reduceAdd (F := Ideal) (φ := .f32) (lay r3 c3 M) (constant (F := Ideal) S_ .f32 0x00000000#32) reducesTo_S2x2048x512_S512_d0_1 h_S_ : S512.Idx → EReal) j
      = ((∑ r : Fin 4096, M r (j 0).val : ℝ) : EReal) := by
  refine (sum_along _ j (fun r : Fin 4096 => (ix3 (⟨r.val / 2048, by omega⟩ : Fin 2) (⟨r.val % 2048, by omega⟩ : Fin 2048) (j 0 : Fin 512) : S2x2048x512.Idx)) ?_ ?_ _).trans ?_
  · intro a b e
    have h0 : a.val / 2048 = b.val / 2048 := congrArg Fin.val (congrFun e 0)
    have h1 : a.val % 2048 = b.val % 2048 := congrArg Fin.val (congrFun e 1)
    exact Fin.ext (by omega)
  · intro i
    have hb := b3 i
    constructor
    · intro e
      refine ⟨⟨2048 * (i 0).val + (i 1).val, by omega⟩, ?_⟩
      funext a; apply Fin.ext
      match a with
      | ⟨0, _⟩ => show (2048 * (i 0).val + (i 1).val) / 2048 = (i 0).val; omega
      | ⟨1, _⟩ => show (2048 * (i 0).val + (i 1).val) % 2048 = (i 1).val; omega
      | ⟨2, _⟩ => exact (congrArg Fin.val (congrFun e 0)).symm
    · rintro ⟨k, rfl⟩
      funext b; apply Fin.ext
      match b with
      | ⟨0, _⟩ => rfl
  · refine congrArg _ (Finset.sum_congr rfl fun r _ => congrArg₂ M ?_ rfl)
    show 2048 * (r.val / 2048) + r.val % 2048 = r.val
    omega
/-- A further sum over the two axes of length one changes nothing. -/
theorem unit_sum (f : ℕ → ℝ) (j : S512.Idx) :
    (Host.reduceAdd (F := Ideal) (φ := .f32) (up fun i : S1x1x512.Idx => f (i 2).val) (constant (F := Ideal) S_ .f32 0x00000000#32) reducesTo_S1x1x512_S512_d0_1 h_S_ : S512.Idx → EReal) j
      = ((f (j 0).val : ℝ) : EReal) := by
  refine (sum_along _ j (fun _ : Unit => (ix3 (0 : Fin 1) (0 : Fin 1) (j 0 : Fin 512) : S1x1x512.Idx)) (fun _ _ _ => rfl) ?_ _).trans ?_
  · intro i
    have h0 : (i 0).val < 1 := (i 0).isLt
    have h1 : (i 1).val < 1 := (i 1).isLt
    constructor
    · intro e
      refine ⟨(), ?_⟩
      funext a; apply Fin.ext
      match a with
      | ⟨0, _⟩ => show 0 = (i 0).val; omega
      | ⟨1, _⟩ => show 0 = (i 1).val; omega
      | ⟨2, _⟩ => exact (congrArg Fin.val (congrFun e 0)).symm
    · rintro ⟨k, rfl⟩
      funext b; apply Fin.ext
      match b with
      | ⟨0, _⟩ => rfl
  · rw [Fintype.sum_unique]; rfl

/-- The gradient of the shift. -/
theorem l144 : val_main_v144 (F := Ideal) A.x0 A.x3 A.x5 = up fun i => db A.U A.D A.W (i 1).val := by
  have e84 : ∀ j, val_main_v84 (F := Ideal) A.x0 A.x3 A.x5 j = ((db A.U A.D A.W (j 0).val : ℝ) : EReal) := fun j => by
    unfold val_main_v84 val_main_cst_13; rw [l83]; exact rows_sum _ j
  have e85 : val_main_v85 (F := Ideal) A.x0 A.x3 A.x5 = up fun i => db A.U A.D A.W (i 2).val := by
    funext i; rw [val_main_v85_apply, e84]
    have h0 : (i 0).val < 1 := (i 0).isLt
    have h1 : (i 1).val < 1 := (i 1).isLt
    refine congrArg _ (congrArg (db A.U A.D A.W) ?_); simp only []; omega
  funext i; rw [val_main_v144_apply]
  unfold val_main_v86 val_main_cst_14; rw [e85, unit_sum]
  have h0 : (i 0).val < 1 := (i 0).isLt
  refine congrArg _ (congrArg (db A.U A.D A.W) ?_); simp only []; omega
/-- The gradient of the scale. -/
theorem l143 : val_main_v143 (F := Ideal) A.x0 A.x3 A.x5 = up fun i => dg A.U A.V A.D A.W (i 1).val := by
  have e88 : ∀ j, val_main_v88 (F := Ideal) A.x0 A.x3 A.x5 j = ((dg A.U A.V A.D A.W (j 0).val : ℝ) : EReal) := fun j => by
    unfold val_main_v88 val_main_cst_15 val_main_v87; rw [l46, l83, mul_lay]; exact rows_sum _ j
  have e89 : val_main_v89 (F := Ideal) A.x0 A.x3 A.x5 = up fun i => dg A.U A.V A.D A.W (i 2).val := by
    funext i; rw [val_main_v89_apply, e88]
    have h0 : (i 0).val < 1 := (i 0).isLt
    have h1 : (i 1).val < 1 := (i 1).isLt
    refine congrArg _ (congrArg (dg A.U A.V A.D A.W) ?_); simp only []; omega
  funext i; rw [val_main_v143_apply]
  unfold val_main_v92 val_main_cst_16; rw [e89, unit_sum]
  have h0 : (i 0).val < 1 := (i 0).isLt
  refine congrArg _ (congrArg (dg A.U A.V A.D A.W) ?_); simp only []; omega

/-! Back through the normalisation. -/

theorem l93 : val_main_v93 (F := Ideal) A.x0 A.x1 A.x3 A.x5 = lay r4 c4 (dxn A.U A.D A.G A.W) := by
  have g : val_main_v90 (F := Ideal) A.x1 = lay r3 c3 fun _ b => A.G b := by
    funext i; rw [val_main_v90_apply, val_main_v47_apply]; exact Cert.KernelIdeal.Chunk.aV_eq A.x1 A.h1 _ _ rfl
  have e : val_main_v91 (F := Ideal) A.x0 A.x1 A.x3 A.x5 = lay r3 c3 (dxn A.U A.D A.G A.W) := by
    unfold val_main_v91; rw [l83, g, mul_lay]; rfl
  funext i; rw [val_main_v93_apply, e]
  refine lay_eq _ _ _ ?_ ?_
  all_goals have := b4 i; simp only [r3, c3, r4, c4]; omega
/-- A factor that does not change within a head leaves the head's sum. -/
theorem dvar_eq (a b : ℕ) : hsum (fun r c => xc A.V r c * dxn A.U A.D A.G A.W r c) a b * (-(1 / 2) * (rs A.V a b / vare A.V a b)) / 64
    = dvar A.U A.V A.D A.G A.W a b := by
  unfold dvar mean hsum
  rw [Finset.sum_mul]
  refine congrArg (· / 64) (Finset.sum_congr rfl fun p _ => ?_)
  have h : 64 * ((64 * (b / 64) + p.val) / 64) = 64 * (b / 64) := by omega
  dsimp only
  rw [← rs_head A.V a b, ← vare_head A.V a b, ← rs_head A.V a (64 * (b / 64) + p), ← vare_head A.V a (64 * (b / 64) + p), h]
theorem l103 : val_main_v103 (F := Ideal) A.x0 A.x1 A.x3 A.x5 = lay r4 c4 (dvar A.U A.V A.D A.G A.W) := by
  have e94 : val_main_v94 (F := Ideal) A.x0 A.x1 A.x3 A.x5 = lay r4 c4 fun r c => xc A.V r c * dxn A.U A.D A.G A.W r c := by
    unfold val_main_v94; rw [l32, l93, mul_lay]
  have e95 : val_main_v95 (F := Ideal) A.x0 A.x1 A.x3 A.x5 = lay rk ck (hsum fun r c => xc A.V r c * dxn A.U A.D A.G A.W r c) := by
    funext i; rw [val_main_v95_apply, e94]; exact hsum_lay _ i _ (fun _ => rfl) (fun _ => rfl)
  have e96 : val_main_v96 (F := Ideal) A.x0 A.x1 A.x3 A.x5 = lay rh ch (hsum fun r c => xc A.V r c * dxn A.U A.D A.G A.W r c) := by
    funext i; rw [val_main_v96_apply, e95]
    refine lay_eq _ _ _ ?_ ?_
    all_goals have := bh i; simp only [rh, ch, rk, ck]; omega
  have e101 : val_main_v101 (F := Ideal) A.x0 A.x1 A.x3 A.x5 = lay rh ch (dvar A.U A.V A.D A.G A.W) := by
    unfold val_main_v101 val_main_v99 val_main_v100 val_main_cst_18
    rw [e96, l43, bc_lay (r := rh) (c := ch) _ _ lit_64, mul_lay, div_lay _ _ fun _ _ => by norm_num]
    exact lay_ext (dvar_eq A)
  have e102 : val_main_v102 (F := Ideal) A.x0 A.x1 A.x3 A.x5 = lay rk ck (dvar A.U A.V A.D A.G A.W) := by
    funext i; rw [val_main_v102_apply, e101, Fin.sum_univ_one]
    show Ideal.ofBits .f32 0x00000000#32 + _ = _
    rw [lit_zero, EReal.coe_zero, zero_add]; exact lay_eq _ _ _ rfl rfl
  funext i; rw [val_main_v103_apply, e102]; exact spread_k _ (mean_head _) i _ rfl rfl
theorem l107 : val_main_v107 (F := Ideal) A.x0 A.x1 A.x3 A.x5 = lay r4 c4 (dxc A.U A.V A.D A.G A.W) := by
  have e97 : val_main_v97 (F := Ideal) A.x0 = lay r4 c4 (rs A.V) := by
    funext i; rw [val_main_v97_apply, l40]; exact spread_h _ (rs_head _) i _ rfl rfl
  unfold val_main_v107 val_main_v105 val_main_v98 val_main_v104 val_main_v106
  rw [l93, e97, l32, l103]
  simp only [mul_lay, add_lay]; rfl
theorem l116 : val_main_v116 (F := Ideal) A.x0 A.x1 A.x3 A.x5 = lay r3 c3 (dact A.U A.V A.D A.G A.W) := by
  have e108 : val_main_v108 (F := Ideal) A.x0 A.x1 A.x3 A.x5 = lay r4 c4 fun r c => 0 - dxc A.U A.V A.D A.G A.W r c := by
    unfold val_main_v108; rw [l107, neg_lay]; exact lay_ext fun a b => by ring
  have e109 : val_main_v109 (F := Ideal) A.x0 A.x1 A.x3 A.x5 = lay rk ck (hsum fun r c => 0 - dxc A.U A.V A.D A.G A.W r c) := by
    funext i; rw [val_main_v109_apply, e108]; exact hsum_lay _ i _ (fun _ => rfl) (fun _ => rfl)
  have e110 : val_main_v110 (F := Ideal) A.x0 A.x1 A.x3 A.x5 = lay rh ch (hsum fun r c => 0 - dxc A.U A.V A.D A.G A.W r c) := by
    funext i; rw [val_main_v110_apply, e109]
    refine lay_eq _ _ _ ?_ ?_
    all_goals have := bh i; simp only [rh, ch, rk, ck]; omega
  have e112 : val_main_v112 (F := Ideal) A.x0 A.x1 A.x3 A.x5 = lay rh ch (mean fun r c => 0 - dxc A.U A.V A.D A.G A.W r c) := by
    unfold val_main_v112 val_main_v111 val_main_cst_21
    rw [e110, bc_lay (r := rh) (c := ch) _ _ lit_64, div_lay _ _ fun _ _ => by norm_num]; rfl
  have e113 : val_main_v113 (F := Ideal) A.x0 A.x1 A.x3 A.x5 = lay rk ck (mean fun r c => 0 - dxc A.U A.V A.D A.G A.W r c) := by
    funext i; rw [val_main_v113_apply, e112, Fin.sum_univ_one]
    show Ideal.ofBits .f32 0x00000000#32 + _ = _
    rw [lit_zero, EReal.coe_zero, zero_add]; exact lay_eq _ _ _ rfl rfl
  have e114 : val_main_v114 (F := Ideal) A.x0 A.x1 A.x3 A.x5 = lay r4 c4 (mean fun r c => 0 - dxc A.U A.V A.D A.G A.W r c) := by
    funext i; rw [val_main_v114_apply, e113]; exact spread_k _ (mean_head _) i _ rfl rfl
  have e115 : val_main_v115 (F := Ideal) A.x0 A.x1 A.x3 A.x5 = lay r4 c4 (dact A.U A.V A.D A.G A.W) := by
    unfold val_main_v115; rw [l107, e114, add_lay]; rfl
  funext i; rw [val_main_v116_apply, e115]
  refine lay_eq _ _ _ ?_ ?_
  all_goals have := b3 i; simp only [r3, c3, r4, c4]; omega

/-! Back through the activation. -/

/-- The last reshape, to 4096 rows. -/
theorem rows_lay (M : ℕ → ℕ → ℝ) (i : S4096x512.Idx) (j : S2x2048x512.Idx) (hr : r3 j = (i 0).val) (hc : c3 j = (i 1).val) :
    lay r3 c3 M j = ((M (i 0).val (i 1).val : ℝ) : EReal) := by
  show ((M (r3 j) (c3 j) : ℝ) : EReal) = _; rw [hr, hc]
/-- The gradient of the second branch. -/
theorem l142 : val_main_v142 (F := Ideal) A.x0 A.x1 A.x3 A.x5 = up fun i => dv A.U A.V A.D A.G A.W (i 0).val (i 1).val := by
  have e : val_main_v127 (F := Ideal) A.x0 A.x1 A.x3 A.x5 = lay r3 c3 (dv A.U A.V A.D A.G A.W) := by
    unfold val_main_v127 val_main_v124 val_main_v123 val_main_v122 val_main_cst_24 val_main_v121 val_main_v120 val_main_v119 val_main_cst_23
      val_main_v117 val_main_v126 val_main_v125 val_main_cst_25 val_main_v118
    rw [l17, l116, l21, l24, bc_lay (r := r3) (c := c3) _ _ lit_nt, bc_lay (r := r3) (c := c3) _ _ lit_c, bc_lay (r := r3) (c := c3) _ _ lit_half]
    simp only [mul_lay, neg_lay, add_lay]
    exact lay_ext fun a b => by unfold dv geluBwd; ring
  funext i; rw [val_main_v142_apply, val_main_v141_apply, e]
  refine rows_lay _ i _ ?_ ?_
  all_goals have := b2 i; simp only [r3, c3]; omega
/-- The gradient of the gate. -/
theorem l140 : val_main_v140 (F := Ideal) A.x0 A.x1 A.x2 A.x3 A.x4 A.x5 = up fun i => du A.U A.V A.D A.G A.B A.W A.S (i 0).val (i 1).val := by
  have e : val_main_v138 (F := Ideal) A.x0 A.x1 A.x2 A.x3 A.x4 A.x5 = lay r3 c3 (du A.U A.V A.D A.G A.B A.W A.S) := by
    unfold val_main_v138 val_main_v135 val_main_v134 val_main_v133 val_main_cst_27 val_main_v132 val_main_v131 val_main_v130 val_main_cst_26
      val_main_v128 val_main_v137 val_main_v136 val_main_cst_28 val_main_v129
    rw [l7, l71, l11, l14, bc_lay (r := r3) (c := c3) _ _ lit_nt, bc_lay (r := r3) (c := c3) _ _ lit_c, bc_lay (r := r3) (c := c3) _ _ lit_half]
    simp only [mul_lay, neg_lay, add_lay]
    exact lay_ext fun a b => by unfold du geluBwd; ring
  funext i; rw [val_main_v140_apply, val_main_v139_apply, e]
  refine rows_lay _ i _ ?_ ?_
  all_goals have := b2 i; simp only [r3, c3]; omega

end Cert.ReferenceIdeal.Read
-- ==== Proof.Mat.lean ====
module

public import Idealize.ShloMosaic.Lib.Pipeline.ValueKit
public import Idealize.ShloMosaic.Lib.Pointwise
public import Idealize.ShloMosaic.PureOps.Ideal.Laws

/-! Matrices read at plain numbers: block products and whole products are compared through them. -/

@[expose] public section

namespace Cert.Mat

open Idealize.ShloMosaic

/-- A matrix's entry at two numbers (their remainders by the extents). -/
def at2 {M K : ℕ} [NeZero M] [NeZero K] (x : (⟨2, ![M, K]⟩ : Shape).Idx → EReal) (r c : ℕ) : EReal :=
  x (ValueIdx.ix2 (Fin.ofNat M r) (Fin.ofNat K c))

/-- An entry, at the numbers that its index stands for. -/
theorem at2_eq {M K : ℕ} [NeZero M] [NeZero K] (x : (⟨2, ![M, K]⟩ : Shape).Idx → EReal) (i : (⟨2, ![M, K]⟩ : Shape).Idx) (r c : ℕ)
    (hr : (i 0).val = r) (hc : (i 1).val = c) : x i = at2 x r c := by
  subst hr hc
  unfold at2
  congr 1
  funext a
  apply Fin.ext
  fin_cases a
  · exact (Nat.mod_eq_of_lt (i 0).isLt).symm
  · exact (Nat.mod_eq_of_lt (i 1).isLt).symm

/-- A sum over 4096 numbers, as the four sums over 1024 that a kernel takes chip by chip. -/
theorem sum_four (f : ℕ → EReal) : ∑ k : Fin 4096, f k.val
    = ((∑ k : Fin 1024, f k.val) + (∑ k : Fin 1024, f (1024 + k.val)) + ∑ k : Fin 1024, f (2048 + k.val)) + ∑ k : Fin 1024, f (3072 + k.val) := by
  simp only [← Finset.sum_range (fun k => f k), ← Finset.sum_range (fun k => f (1024 + k)), ← Finset.sum_range (fun k => f (2048 + k)),
    ← Finset.sum_range (fun k => f (3072 + k))]
  rw [show (4096 : ℕ) = 3072 + 1024 from rfl, Finset.sum_range_add, show (3072 : ℕ) = 2048 + 1024 from rfl, Finset.sum_range_add,
    show (2048 : ℕ) = 1024 + 1024 from rfl, Finset.sum_range_add]

end Cert.Mat
-- ==== Proof.FfDownDx.lean ====
module

public import proofs.«01_k».proof.Defs
public import proofs.«01_k».proof.Proof.Mat
public import Idealize.ShloMosaic.Lib.Pipeline.ValueKit
public import Idealize.ShloMosaic.Lib.Pointwise
public import Idealize.ShloMosaic.PureOps.Ideal.Laws
public import proofs.«01_k».proof.Proof.Gen.FfDownDx
public import proofs.«01_k».proof.Proof.Gen.FfDownDx.Skeleton
public import proofs.«01_k».proof.Proof.Gen.FfDownDx.Launch
public import proofs.«01_k».proof.Proof.Gen.FfDownDx.Points
public import proofs.«01_k».proof.Proof.Gen.FfDownDx.Frame
public import proofs.«01_k».proof.Proof.Gen.FfDownDxIdeal
public import proofs.«01_k».proof.Proof.Gen.FfDownDxIdeal.Skeleton
public import proofs.«01_k».proof.Proof.Gen.FfDownDxIdeal.Launch
public import proofs.«01_k».proof.Proof.Gen.FfDownDxIdeal.Points
public import proofs.«01_k».proof.Proof.Gen.FfDownDxIdeal.Frame
public import proofs.«01_k».proof.Proof.Gen.FfDownDxIdeal.Value
public import proofs.«01_k».proof.Proof.Gen.RefFfDownDxIdeal
public import proofs.«01_k».proof.Proof.Gen.RefFfDownDxIdeal.Run
public import proofs.«01_k».proof.Proof.Gen.RefFfDownDxIdeal.Read

/-! The gradient of the second feed-forward product's input, up to the first product's result: the kernel's result array is the reference's. -/

@[expose] public section

set_option maxRecDepth 16384

namespace Cert.FfDownDxIdeal.Prod

open Cert.FfDownDxIdeal Cert.FfDownDxIdeal.Gen Idealize.ShloMosaic Idealize.ShloMosaic.TcCoe Idealize.SL.Sem Cert.Mat

variable (m : (ℓ : Loc nD τ sig) → Buf (Elt Ideal) ℓ) (c : Dev nD)

/-- The blocks that a grid point takes and gives. -/
theorem idx : ∀ t : Fin cfg0.N, win0_0.index t = ![t.val / 4, 0] ∧ win0_1.index t = ![t.val % 4, 0] ∧ win0_2.index t = ![t.val / 4, t.val % 4] ∧ win0_3.index t = ![t.val / 4, t.val % 4] :=
  (by decide +kernel : ∀ t : Fin grid0.N, _)

/-- A block of the result: the product of the two blocks times twice the positive part of the saved values. -/
theorem block (a b : FVec Ideal S1024x1024 .bf16) (u : FVec Ideal S1024x1024 .f32) (A B : ℕ → ℕ → EReal)
    (ha : ∀ y : S1024x1024.Idx, (a y : EReal) = A (y 0).val (y 1).val) (hb : ∀ y : S1024x1024.Idx, (b y : EReal) = B (y 0).val (y 1).val) (y : S1024x1024.Idx) :
    (out0_3 (F := Ideal) a b u y : EReal) = (∑ k : Fin 1024, A (y 0).val k.val * B (y 1).val k.val) * (Ideal.ofBits .f32 0x40000000#32 * max (u y) 0) := by
  unfold out0_3
  rw [View.canon_unit_zero (by funext a; fin_cases a <;> rfl), View.ld_unit_zero (by funext a; fin_cases a <;> rfl),
    View.ld_unit_zero (by funext a; fin_cases a <;> rfl), View.ld_unit_zero (by funext a; fin_cases a <;> rfl)]
  pointwise [k0_pay1]
  exact congrArg₂ _ (Finset.sum_congr rfl fun k _ => congrArg₂ _ (ha _) (hb _)) rfl

/-- The cotangent's block. -/
theorem iblk0 (t : Fin cfg0.N) (y : S1024x1024.Idx) : (iblk m c 0 t y : EReal)
    = at2 (M := 4096) (K := 1024) (m ((c : Thread nD τ).loc main_arg2)) (1024 * (t.val / 4) + (y 0).val) (y 1).val := by
  blk_simp [iblk]
  entry_read
  pointwise
  refine at2_eq _ _ _ _ ?_ ?_
  all_goals (blk_simp [idx t]; try omega)

/-- The weights' block. -/
theorem iblk1 (t : Fin cfg0.N) (y : S1024x1024.Idx) : (iblk m c 1 t y : EReal)
    = at2 (M := 4096) (K := 1024) (m ((c : Thread nD τ).loc main_arg1)) (1024 * (t.val % 4) + (y 0).val) (y 1).val := by
  blk_simp [iblk]
  entry_read
  pointwise
  refine at2_eq _ _ _ _ ?_ ?_
  all_goals (blk_simp [idx t]; try omega)

/-- The saved values' block. -/
theorem iblk2 (t : Fin cfg0.N) (y : S1024x1024.Idx) : (iblk m c 2 t y : EReal)
    = at2 (M := 4096) (K := 4096) (m ((c : Thread nD τ).loc main_arg0)) (1024 * (t.val / 4) + (y 0).val) (1024 * (t.val % 4) + (y 1).val) := by
  blk_simp [iblk]
  entry_read
  pointwise
  refine at2_eq _ _ _ _ ?_ ?_
  all_goals (blk_simp [idx t]; try omega)

/-- The reference's result at an entry: it takes zero where the saved value is not positive, which the kernel's factor is there too. -/
theorem ref (u : (⟨S4096x4096, .f32⟩ : BufTy).Contents (Elt Ideal)) (w d : (⟨S4096x1024, .f32⟩ : BufTy).Contents (Elt Ideal)) (i : S4096x4096.Idx) :
    (Cert.RefFfDownDxIdeal.Read.val_main_v12 (F := Ideal) u w d i : EReal)
      = (Cert.RefFfDownDxIdeal.Read.val_main_v8 (F := Ideal) w d i : EReal) * (Ideal.ofBits .f32 0x40000000#32 * max (u i) 0) := by
  rw [Cert.RefFfDownDxIdeal.Read.val_main_v12_apply, Cert.RefFfDownDxIdeal.Read.val_main_v11_apply, Cert.RefFfDownDxIdeal.Read.val_main_v10_apply,
    Cert.RefFfDownDxIdeal.Read.val_main_v9_apply, Cert.RefFfDownDxIdeal.Read.val_main_v6_apply, Cert.RefFfDownDxIdeal.Read.val_main_v5_apply,
    Cert.RefFfDownDxIdeal.Read.val_main_v2_apply, Cert.RefFfDownDxIdeal.Read.val_main_v1_apply, Cert.RefFfDownDxIdeal.Read.val_main_v0_apply,
    Cert.RefFfDownDxIdeal.Read.val_main_call0_v0_apply, Cert.RefFfDownDxIdeal.Read.val_main_call0_cst_apply, Cert.RefFfDownDxIdeal.Read.val_main_cst_apply,
    Cert.RefFfDownDxIdeal.Read.val_main_cst_1_apply, Cert.RefFfDownDxIdeal.Read.val_main_cst_2_apply]
  generalize Cert.RefFfDownDxIdeal.Read.val_main_v8 (F := Ideal) w d i = x
  pointwise
  split_ifs with h
  · rfl
  · rw [max_eq_right (not_lt.mp h), mul_zero, mul_zero]

/-- The result array is the reference's product. -/
theorem fin : ((dats m 0 c).arrAt 3 cfg0.N : S4096x4096.Idx → EReal)
    = Cert.RefFfDownDxIdeal.Read.val_main_v12 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  have e0 : (((win0_3.blk t).view.emb y : S4096x4096.Idx) 0).val = 1024 * (t.val / 4) + (y 0).val := by blk_simp [idx t]; try omega
  have e1 : (((win0_3.blk t).view.emb y : S4096x4096.Idx) 1).val = 1024 * (t.val % 4) + (y 1).val := by blk_simp [idx t]; try omega
  refine (block _ _ _ (fun r k => at2 (M := 4096) (K := 1024) (m ((c : Thread nD τ).loc main_arg2)) (1024 * (t.val / 4) + r) k)
    (fun r k => at2 (M := 4096) (K := 1024) (m ((c : Thread nD τ).loc main_arg1)) (1024 * (t.val % 4) + r) k) (iblk0 m c t) (iblk1 m c t) y).trans ?_
  rw [iblk2]
  refine Eq.trans ?_ (ref _ _ _ _).symm
  refine congrArg₂ _ ?_ (congrArg (fun z => Ideal.ofBits .f32 0x40000000#32 * max z 0) (at2_eq _ _ _ _ e0 e1).symm)
  refine Eq.trans ?_ (Cert.RefFfDownDxIdeal.Read.val_main_v8_apply _ _ _).symm
  refine Finset.sum_congr rfl fun k _ => congrArg₂ _ (at2_eq _ _ _ _ ?_ ?_).symm (at2_eq _ _ _ _ ?_ ?_).symm
  exacts [e0, rfl, e1, rfl]

end Cert.FfDownDxIdeal.Prod

namespace Cert.FfDownDxIdeal

open Idealize.ShloMosaic Idealize.SL.Sem

/-- The reference's run terminates, keeps its arguments and leaves every semaphore at zero. -/
theorem frame_reference : Cert.quiescent_RefFfDownDxIdeal := fun m ρ _ =>
  (θ_run Cert.RefFfDownDxIdeal.defs _ _).mono
    (fun r h => ⟨fun c => (h c).2, Idealize.ShloMosaic.sem_eq_zero_of_no_sems (by decide) r.2⟩)
    (Cert.RefFfDownDxIdeal.Value.run (F := Ideal) m ρ)

/-- The reference's result is the kernel's. -/
theorem algebraic : Cert.algebraic_FfDownDxIdeal_RefFfDownDxIdeal := by
  intro m ρ m' ρ' _ hagree
  refine ⟨_, Cert.FfDownDxIdeal.Value.run_blocks (F := Ideal) m ρ, ?_⟩
  refine (θ_run Cert.RefFfDownDxIdeal.defs _ _).mono (fun _ h c => ⟨(h c).1.trans ?_, (h c).2⟩) (Cert.RefFfDownDxIdeal.Value.run (F := Ideal) m' ρ')
  obtain ⟨a0, a1, a2⟩ := hagree c
  rw [a0, a1, a2]
  exact (Cert.RefFfDownDxIdeal.Read.val_main_v12_eq (F := Ideal) _ _ _).trans (Prod.fin m c).symm

end Cert.FfDownDxIdeal
-- ==== Proof.FfDownDw.lean ====
module

public import proofs.«01_k».proof.Defs
public import proofs.«01_k».proof.Proof.Mat
public import Idealize.ShloMosaic.Lib.Pipeline.ValueKit
public import Idealize.ShloMosaic.Lib.Pointwise
public import Idealize.ShloMosaic.PureOps.Ideal.Laws
public import proofs.«01_k».proof.Proof.Gen.FfDownDw
public import proofs.«01_k».proof.Proof.Gen.FfDownDw.Skeleton
public import proofs.«01_k».proof.Proof.Gen.FfDownDw.Launch
public import proofs.«01_k».proof.Proof.Gen.FfDownDw.Points
public import proofs.«01_k».proof.Proof.Gen.FfDownDw.Frame
public import proofs.«01_k».proof.Proof.Gen.FfDownDwIdeal
public import proofs.«01_k».proof.Proof.Gen.FfDownDwIdeal.Skeleton
public import proofs.«01_k».proof.Proof.Gen.FfDownDwIdeal.Launch
public import proofs.«01_k».proof.Proof.Gen.FfDownDwIdeal.Points
public import proofs.«01_k».proof.Proof.Gen.FfDownDwIdeal.Frame
public import proofs.«01_k».proof.Proof.Gen.FfDownDwIdeal.Value
public import proofs.«01_k».proof.Proof.Gen.RefFfDownDwIdeal
public import proofs.«01_k».proof.Proof.Gen.RefFfDownDwIdeal.Run
public import proofs.«01_k».proof.Proof.Gen.RefFfDownDwIdeal.Read

/-! The gradient of the second feed-forward product's weights: the kernel's result array is the reference's. -/

@[expose] public section

set_option maxRecDepth 16384

namespace Cert.FfDownDwIdeal.Prod

open Cert.FfDownDwIdeal Cert.FfDownDwIdeal.Gen Idealize.ShloMosaic Idealize.ShloMosaic.TcCoe Idealize.SL.Sem Cert.Mat

variable (m : (ℓ : Loc nD τ sig) → Buf (Elt Ideal) ℓ) (c : Dev nD)

/-- The blocks that a grid point takes and gives. -/
theorem idx : ∀ t : Fin cfg0.N, win0_0.index t = ![0, t.val] ∧ win0_1.index t = ![0, 0] ∧ win0_2.index t = ![t.val, 0] :=
  (by decide +kernel : ∀ t : Fin grid0.N, _)

/-- A block of the result is the product of the two blocks. -/
theorem block (a : FVec Ideal S4096x1024 .bf16) (b : FVec Ideal S4096x1024 .bf16) (A B : ℕ → ℕ → EReal)
    (ha : ∀ y : S4096x1024.Idx, (a y : EReal) = A (y 0).val (y 1).val) (hb : ∀ y : S4096x1024.Idx, (b y : EReal) = B (y 0).val (y 1).val) (y : S1024x1024.Idx) :
    (out0_2 (F := Ideal) a b y : EReal) = ∑ k : Fin 4096, A k.val (y 0).val * B k.val (y 1).val := by
  unfold out0_2
  rw [View.canon_unit_zero (by funext a; fin_cases a <;> rfl), View.ld_unit_zero (by funext a; fin_cases a <;> rfl),
    View.ld_unit_zero (by funext a; fin_cases a <;> rfl)]
  pointwise [k0_pay1]
  exact Finset.sum_congr rfl fun k _ => congrArg₂ _ (ha _) (hb _)

/-- The activations, which the host computes. -/
theorem entry : V m c main_v2 = truncf .bf16 (mulf
    (maximumf (m ((c : Thread nD τ).loc main_arg0)) (broadcastInDim S4096x4096 ![] bcast_S_S4096x4096 (constant (F := Ideal) S_ .f32 0x00000000#32)))
    (maximumf (m ((c : Thread nD τ).loc main_arg0)) (broadcastInDim S4096x4096 ![] bcast_S_S4096x4096 (constant (F := Ideal) S_ .f32 0x00000000#32))))
    bitsLt_bf16_f32 := by
  show StableHlo.after [_, _, _, _, _, _] _ _ = _
  after_results
  rfl

/-- The activation's block: the square of the positive part of the saved values, which the host computes. -/
theorem iblk0 (t : Fin cfg0.N) (y : S4096x1024.Idx) : (iblk m c 0 t y : EReal)
    = max (at2 (M := 4096) (K := 4096) (m ((c : Thread nD τ).loc main_arg0)) (y 0).val (1024 * (t.val) + (y 1).val)) 0
      * max (at2 (M := 4096) (K := 4096) (m ((c : Thread nD τ).loc main_arg0)) (y 0).val (1024 * (t.val) + (y 1).val)) 0 := by
  blk_simp [iblk]
  refine (congrFun (entry m c) _).trans ?_
  pointwise
  refine congrArg (fun z : EReal => max z 0 * max z 0) (at2_eq (M := 4096) (K := 4096) _ _ _ _ ?_ ?_)
  all_goals (blk_simp [idx t]; try omega)

/-- The cotangent's block. -/
theorem iblk1 (t : Fin cfg0.N) (y : S4096x1024.Idx) : (iblk m c 1 t y : EReal)
    = at2 (M := 4096) (K := 1024) (m ((c : Thread nD τ).loc main_arg1)) (y 0).val (y 1).val := by
  blk_simp [iblk]
  entry_read
  pointwise
  refine at2_eq _ _ _ _ ?_ ?_
  all_goals (blk_simp [idx t]; try omega)

/-- The reference's activation at an entry. -/
theorem act (x : (⟨S4096x4096, .f32⟩ : BufTy).Contents (Elt Ideal)) (i : S4096x4096.Idx) :
    (Cert.RefFfDownDwIdeal.Read.val_main_v2 (F := Ideal) x i : EReal) = max (x i) 0 * max (x i) 0 := by
  rw [Cert.RefFfDownDwIdeal.Read.val_main_v2_apply, Cert.RefFfDownDwIdeal.Read.val_main_v1_apply, Cert.RefFfDownDwIdeal.Read.val_main_call0_v0_apply,
    Cert.RefFfDownDwIdeal.Read.val_main_call0_cst_apply]
  pointwise

/-- The result array is the reference's product. -/
theorem fin : ((dats m 0 c).arrAt 2 cfg0.N : S4096x1024.Idx → EReal)
    = Cert.RefFfDownDwIdeal.Read.val_main_v5 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  have e0 : (((win0_2.blk t).view.emb y : S4096x1024.Idx) 0).val = 1024 * (t.val) + (y 0).val := by blk_simp [idx t]; try omega
  have e1 : (((win0_2.blk t).view.emb y : S4096x1024.Idx) 1).val = (y 1).val := by blk_simp [idx t]; try omega
  refine (block _ _ (fun r k => max (at2 (M := 4096) (K := 4096) (m ((c : Thread nD τ).loc main_arg0)) r (1024 * (t.val) + k)) 0
      * max (at2 (M := 4096) (K := 4096) (m ((c : Thread nD τ).loc main_arg0)) r (1024 * (t.val) + k)) 0)
    (fun r k => at2 (M := 4096) (K := 1024) (m ((c : Thread nD τ).loc main_arg1)) r k) (iblk0 m c t) (iblk1 m c t) y).trans ?_
  refine Eq.trans ?_ ((Cert.RefFfDownDwIdeal.Read.val_main_v5_apply _ _ _).trans (Cert.RefFfDownDwIdeal.Read.val_main_v4_apply _ _ _)).symm
  refine Finset.sum_congr rfl fun k _ => (mul_comm _ _).trans (congrArg₂ _ (at2_eq _ _ _ _ ?_ ?_).symm ?_)
  · exact rfl
  · exact e1
  · refine ((act _ _).trans (congrArg (fun z : EReal => max z 0 * max z 0) (at2_eq _ _ _ _ ?_ ?_))).symm
    exacts [rfl, e0]

end Cert.FfDownDwIdeal.Prod

namespace Cert.FfDownDwIdeal

open Idealize.ShloMosaic Idealize.SL.Sem

/-- The reference's run terminates, keeps its arguments and leaves every semaphore at zero. -/
theorem frame_reference : Cert.quiescent_RefFfDownDwIdeal := fun m ρ _ =>
  (θ_run Cert.RefFfDownDwIdeal.defs _ _).mono
    (fun r h => ⟨fun c => (h c).2, Idealize.ShloMosaic.sem_eq_zero_of_no_sems (by decide) r.2⟩)
    (Cert.RefFfDownDwIdeal.Value.run (F := Ideal) m ρ)

/-- The reference's result is the kernel's. -/
theorem algebraic : Cert.algebraic_FfDownDwIdeal_RefFfDownDwIdeal := by
  intro m ρ m' ρ' _ hagree
  refine ⟨_, Cert.FfDownDwIdeal.Value.run_blocks (F := Ideal) m ρ, ?_⟩
  refine (θ_run Cert.RefFfDownDwIdeal.defs _ _).mono (fun _ h c => ⟨(h c).1.trans ?_, (h c).2⟩) (Cert.RefFfDownDwIdeal.Value.run (F := Ideal) m' ρ')
  obtain ⟨a0, a1⟩ := hagree c
  rw [a0, a1]
  exact (Cert.RefFfDownDwIdeal.Read.val_main_v5_eq (F := Ideal) _ _).trans (Prod.fin m c).symm

end Cert.FfDownDwIdeal
-- ==== Proof.FfUpDw.lean ====
module

public import proofs.«01_k».proof.Defs
public import proofs.«01_k».proof.Proof.Mat
public import Idealize.ShloMosaic.Lib.Pipeline.ValueKit
public import Idealize.ShloMosaic.Lib.Pointwise
public import Idealize.ShloMosaic.PureOps.Ideal.Laws
public import proofs.«01_k».proof.Proof.Gen.FfUpDw
public import proofs.«01_k».proof.Proof.Gen.FfUpDw.Skeleton
public import proofs.«01_k».proof.Proof.Gen.FfUpDw.Launch
public import proofs.«01_k».proof.Proof.Gen.FfUpDw.Points
public import proofs.«01_k».proof.Proof.Gen.FfUpDw.Frame
public import proofs.«01_k».proof.Proof.Gen.FfUpDwIdeal
public import proofs.«01_k».proof.Proof.Gen.FfUpDwIdeal.Skeleton
public import proofs.«01_k».proof.Proof.Gen.FfUpDwIdeal.Launch
public import proofs.«01_k».proof.Proof.Gen.FfUpDwIdeal.Points
public import proofs.«01_k».proof.Proof.Gen.FfUpDwIdeal.Frame
public import proofs.«01_k».proof.Proof.Gen.FfUpDwIdeal.Value
public import proofs.«01_k».proof.Proof.Gen.RefFfUpDwIdeal
public import proofs.«01_k».proof.Proof.Gen.RefFfUpDwIdeal.Run
public import proofs.«01_k».proof.Proof.Gen.RefFfUpDwIdeal.Read

/-! The gradient of the first feed-forward product's weights, one array for each of the four chips: the kernel's result array is the reference's. -/

@[expose] public section

set_option maxRecDepth 16384

namespace Cert.FfUpDwIdeal.Prod

open Cert.FfUpDwIdeal Cert.FfUpDwIdeal.Gen Idealize.ShloMosaic Idealize.ShloMosaic.TcCoe Idealize.SL.Sem Cert.Mat

variable (m : (ℓ : Loc nD τ sig) → Buf (Elt Ideal) ℓ) (c : Dev nD)

/-- The blocks that a grid point takes and gives. -/
theorem idx : ∀ t : Fin cfg0.N, win0_0.index t = ![0, 0] ∧ win0_1.index t = ![0, t.val] ∧ win0_2.index t = ![t.val, 0, 0] :=
  (by decide +kernel : ∀ t : Fin grid0.N, _)

/-- A block of the result is the product of the two blocks. -/
theorem block (a : FVec Ideal S4096x1024 .bf16) (b : FVec Ideal S4096x1024 .bf16) (A B : ℕ → ℕ → EReal)
    (ha : ∀ y : S4096x1024.Idx, (a y : EReal) = A (y 0).val (y 1).val) (hb : ∀ y : S4096x1024.Idx, (b y : EReal) = B (y 0).val (y 1).val) (y : S1x1024x1024.Idx) :
    (out0_2 (F := Ideal) a b y : EReal) = ∑ k : Fin 4096, A k.val (y 1).val * B k.val (y 2).val := by
  unfold out0_2
  rw [View.canon_unit_zero (by funext a; fin_cases a <;> rfl), View.ld_unit_zero (by funext a; fin_cases a <;> rfl),
    View.ld_unit_zero (by funext a; fin_cases a <;> rfl)]
  pointwise [k0_pay1]
  exact Finset.sum_congr rfl fun k _ => congrArg₂ _ (ha _) (hb _)

/-- The input's block. -/
theorem iblk0 (t : Fin cfg0.N) (y : S4096x1024.Idx) : (iblk m c 0 t y : EReal)
    = at2 (M := 4096) (K := 1024) (m ((c : Thread nD τ).loc main_arg0)) (y 0).val (y 1).val := by
  blk_simp [iblk]
  entry_read
  pointwise
  refine at2_eq _ _ _ _ ?_ ?_
  all_goals (blk_simp [idx t]; try omega)

/-- The cotangent's block. -/
theorem iblk1 (t : Fin cfg0.N) (y : S4096x1024.Idx) : (iblk m c 1 t y : EReal)
    = at2 (M := 4096) (K := 4096) (m ((c : Thread nD τ).loc main_arg1)) (y 0).val (1024 * (t.val) + (y 1).val) := by
  blk_simp [iblk]
  entry_read
  pointwise
  refine at2_eq _ _ _ _ ?_ ?_
  all_goals (blk_simp [idx t]; try omega)

/-- The result array is the reference's product. -/
theorem fin : ((dats m 0 c).arrAt 2 cfg0.N : S4x1024x1024.Idx → EReal)
    = Cert.RefFfUpDwIdeal.Read.val_main_v5 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  have e0 : (((win0_2.blk t).view.emb y : S4x1024x1024.Idx) 0).val = t.val := by
    have b0 : (y 0).val < 1 := (y 0).isLt
    blk_simp [idx t]; try omega
  have e1 : (((win0_2.blk t).view.emb y : S4x1024x1024.Idx) 1).val = (y 1).val := by blk_simp [idx t]; try omega
  have e2 : (((win0_2.blk t).view.emb y : S4x1024x1024.Idx) 2).val = (y 2).val := by blk_simp [idx t]; try omega
  refine (block _ _ (fun r k => at2 (M := 4096) (K := 1024) (m ((c : Thread nD τ).loc main_arg0)) r k)
    (fun r k => at2 (M := 4096) (K := 4096) (m ((c : Thread nD τ).loc main_arg1)) r (1024 * (t.val) + k)) (iblk0 m c t) (iblk1 m c t) y).trans ?_
  refine Eq.trans ?_ ((Cert.RefFfUpDwIdeal.Read.val_main_v5_apply _ _ _).trans ((Cert.RefFfUpDwIdeal.Read.val_main_v4_apply _ _ _).trans
    ((Cert.RefFfUpDwIdeal.Read.val_main_v3_apply _ _ _).trans (Cert.RefFfUpDwIdeal.Read.val_main_v2_apply _ _ _)))).symm
  have b1 : (y 1).val < 1024 := (y 1).isLt
  have b2 : (y 2).val < 1024 := (y 2).isLt
  refine Finset.sum_congr rfl fun k _ => (mul_comm _ _).trans (congrArg₂ _ (at2_eq _ _ _ _ ?_ ?_).symm (at2_eq _ _ _ _ ?_ ?_).symm)
  · exact rfl
  · refine Eq.trans (congrArg₂ (fun p q => ((p * 4 + q) * 1024 + (((win0_2.blk t).view.emb y : S4x1024x1024.Idx) 2).val) % 4096) e1 e0) ?_
    rw [e2]
    have : t.val < 4 := t.isLt
    omega
  · exact rfl
  · refine Eq.trans (congrArg₂ (fun p q => ((p * 4 + q) * 1024 + (((win0_2.blk t).view.emb y : S4x1024x1024.Idx) 2).val) / 4096) e1 e0) ?_
    rw [e2]
    have : t.val < 4 := t.isLt
    omega

end Cert.FfUpDwIdeal.Prod

namespace Cert.FfUpDwIdeal

open Idealize.ShloMosaic Idealize.SL.Sem

/-- The reference's run terminates, keeps its arguments and leaves every semaphore at zero. -/
theorem frame_reference : Cert.quiescent_RefFfUpDwIdeal := fun m ρ _ =>
  (θ_run Cert.RefFfUpDwIdeal.defs _ _).mono
    (fun r h => ⟨fun c => (h c).2, Idealize.ShloMosaic.sem_eq_zero_of_no_sems (by decide) r.2⟩)
    (Cert.RefFfUpDwIdeal.Value.run (F := Ideal) m ρ)

/-- The reference's result is the kernel's. -/
theorem algebraic : Cert.algebraic_FfUpDwIdeal_RefFfUpDwIdeal := by
  intro m ρ m' ρ' _ hagree
  refine ⟨_, Cert.FfUpDwIdeal.Value.run_blocks (F := Ideal) m ρ, ?_⟩
  refine (θ_run Cert.RefFfUpDwIdeal.defs _ _).mono (fun _ h c => ⟨(h c).1.trans ?_, (h c).2⟩) (Cert.RefFfUpDwIdeal.Value.run (F := Ideal) m' ρ')
  obtain ⟨a0, a1⟩ := hagree c
  rw [a0, a1]
  exact (Cert.RefFfUpDwIdeal.Read.val_main_v5_eq (F := Ideal) _ _).trans (Prod.fin m c).symm

end Cert.FfUpDwIdeal
-- ==== Proof.FfUpDx.lean ====
module

public import proofs.«01_k».proof.Defs
public import proofs.«01_k».proof.Proof.Mat
public import Idealize.ShloMosaic.Lib.Pipeline.ValueKit
public import Idealize.ShloMosaic.Lib.Pointwise
public import Idealize.ShloMosaic.PureOps.Ideal.Laws
public import proofs.«01_k».proof.Proof.Gen.FfUpDx
public import proofs.«01_k».proof.Proof.Gen.FfUpDx.Skeleton
public import proofs.«01_k».proof.Proof.Gen.FfUpDx.Launch
public import proofs.«01_k».proof.Proof.Gen.FfUpDx.Points
public import proofs.«01_k».proof.Proof.Gen.FfUpDx.Frame
public import proofs.«01_k».proof.Proof.Gen.FfUpDxIdeal
public import proofs.«01_k».proof.Proof.Gen.FfUpDxIdeal.Skeleton
public import proofs.«01_k».proof.Proof.Gen.FfUpDxIdeal.Launch
public import proofs.«01_k».proof.Proof.Gen.FfUpDxIdeal.Points
public import proofs.«01_k».proof.Proof.Gen.FfUpDxIdeal.Frame
public import proofs.«01_k».proof.Proof.Gen.FfUpDxIdeal.Value
public import proofs.«01_k».proof.Proof.Gen.RefFfUpDxIdeal
public import proofs.«01_k».proof.Proof.Gen.RefFfUpDxIdeal.Run
public import proofs.«01_k».proof.Proof.Gen.RefFfUpDxIdeal.Read

/-! The gradient of the first feed-forward product's input: the kernel's result array is the reference's product. -/

@[expose] public section

set_option maxRecDepth 16384

namespace Cert.FfUpDxIdeal.Prod

open Cert.FfUpDxIdeal Cert.FfUpDxIdeal.Gen Idealize.ShloMosaic Idealize.ShloMosaic.TcCoe Idealize.SL.Sem Cert.Mat

variable (m : (ℓ : Loc nD τ sig) → Buf (Elt Ideal) ℓ) (c : Dev nD)

/-- The blocks that a grid point takes and gives. -/
theorem idx : ∀ t : Fin cfg0.N, win0_0.index t = ![t.val, 0] ∧ win0_1.index t = ![0, 0, 0] ∧ win0_2.index t = ![t.val, 0] :=
  (by decide +kernel : ∀ t : Fin grid0.N, _)

/-- A block of the result is the sum of the four chips' products, which is the product of the two blocks. -/
theorem block (a : FVec Ideal S1024x4096 .bf16) (b : FVec Ideal S4x1024x1024 .bf16) (A B : ℕ → ℕ → EReal)
    (ha : ∀ y : S1024x4096.Idx, (a y : EReal) = A (y 0).val (y 1).val)
    (hb : ∀ y : S4x1024x1024.Idx, (b y : EReal) = B (y 1).val (1024 * (y 0).val + (y 2).val)) (y : S1024x1024.Idx) :
    (out0_2 (F := Ideal) a b y : EReal) = ∑ k : Fin 4096, A (y 0).val k.val * B (y 1).val k.val := by
  unfold out0_2
  rw [View.canon_unit_zero (by funext a; fin_cases a <;> rfl)]
  pointwise [k0_pay1]
  rw [sum_four (fun k => A (y 0).val k * B (y 1).val k)]
  refine congrArg₂ _ (congrArg₂ _ (congrArg₂ _ ?_ ?_) ?_) ?_
  all_goals
    refine Finset.sum_congr rfl fun k _ => congrArg₂ _ ((ha _).trans ?_) ((hb _).trans ?_)
  · rfl
  · exact congrArg (B _) (show 1024 * 0 + k.val = k.val by omega)
  · rfl
  · exact congrArg (B _) (show 1024 * 1 + k.val = 1024 + k.val by omega)
  · rfl
  · exact congrArg (B _) (show 1024 * 2 + k.val = 2048 + k.val by omega)
  · rfl
  · exact congrArg (B _) (show 1024 * 3 + k.val = 3072 + k.val by omega)

/-- The cotangent's block. -/
theorem iblk0 (t : Fin cfg0.N) (y : S1024x4096.Idx) : (iblk m c 0 t y : EReal)
    = at2 (M := 4096) (K := 4096) (m ((c : Thread nD τ).loc main_arg1)) (1024 * (t.val) + (y 0).val) (y 1).val := by
  blk_simp [iblk]
  entry_read
  pointwise
  refine at2_eq _ _ _ _ ?_ ?_
  all_goals (blk_simp [idx t]; try omega)

/-- The weights' block: the host lays the weights out chip by chip. -/
theorem iblk1 (t : Fin cfg0.N) (y : S4x1024x1024.Idx) : (iblk m c 1 t y : EReal)
    = at2 (M := 1024) (K := 4096) (m ((c : Thread nD τ).loc main_arg0)) (y 1).val (1024 * (y 0).val + (y 2).val) := by
  blk_simp [iblk]
  entry_read
  pointwise
  have e0 : (((win0_1.blk t).view.emb y : S4x1024x1024.Idx) 0).val = (y 0).val := by blk_simp [idx t]; try omega
  have e1 : (((win0_1.blk t).view.emb y : S4x1024x1024.Idx) 1).val = (y 1).val := by blk_simp [idx t]; try omega
  have e2 : (((win0_1.blk t).view.emb y : S4x1024x1024.Idx) 2).val = (y 2).val := by blk_simp [idx t]; try omega
  refine at2_eq _ _ _ _ e1 ((congrArg₂ (fun p q : ℕ => p * 1024 + q) e0 e2).trans ?_)
  omega

/-- The result array is the reference's product. -/
theorem fin : ((dats m 0 c).arrAt 2 cfg0.N : S4096x1024.Idx → EReal)
    = Cert.RefFfUpDxIdeal.Read.val_main_v2 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  have e0 : (((win0_2.blk t).view.emb y : S4096x1024.Idx) 0).val = 1024 * (t.val) + (y 0).val := by blk_simp [idx t]; try omega
  have e1 : (((win0_2.blk t).view.emb y : S4096x1024.Idx) 1).val = (y 1).val := by blk_simp [idx t]; try omega
  refine (block _ _ (fun r k => at2 (M := 4096) (K := 4096) (m ((c : Thread nD τ).loc main_arg1)) (1024 * (t.val) + r) k)
    (fun r k => at2 (M := 1024) (K := 4096) (m ((c : Thread nD τ).loc main_arg0)) r k) (iblk0 m c t) (iblk1 m c t) y).trans ?_
  refine Eq.trans ?_ (Cert.RefFfUpDxIdeal.Read.val_main_v2_apply _ _ _).symm
  refine Finset.sum_congr rfl fun k _ => congrArg₂ _ (at2_eq _ _ _ _ ?_ ?_).symm (at2_eq _ _ _ _ ?_ ?_).symm
  exacts [e0, rfl, e1, rfl]

end Cert.FfUpDxIdeal.Prod

namespace Cert.FfUpDxIdeal

open Idealize.ShloMosaic Idealize.SL.Sem

/-- The reference's run terminates, keeps its arguments and leaves every semaphore at zero. -/
theorem frame_reference : Cert.quiescent_RefFfUpDxIdeal := fun m ρ _ =>
  (θ_run Cert.RefFfUpDxIdeal.defs _ _).mono
    (fun r h => ⟨fun c => (h c).2, Idealize.ShloMosaic.sem_eq_zero_of_no_sems (by decide) r.2⟩)
    (Cert.RefFfUpDxIdeal.Value.run (F := Ideal) m ρ)

/-- The reference's result is the kernel's. -/
theorem algebraic : Cert.algebraic_FfUpDxIdeal_RefFfUpDxIdeal := by
  intro m ρ m' ρ' _ hagree
  refine ⟨_, Cert.FfUpDxIdeal.Value.run_blocks (F := Ideal) m ρ, ?_⟩
  refine (θ_run Cert.RefFfUpDxIdeal.defs _ _).mono (fun _ h c => ⟨(h c).1.trans ?_, (h c).2⟩) (Cert.RefFfUpDxIdeal.Value.run (F := Ideal) m' ρ')
  obtain ⟨a0, a1⟩ := hagree c
  rw [a0, a1]
  exact (Cert.RefFfUpDxIdeal.Read.val_main_v2_eq (F := Ideal) _ _).trans (Prod.fin m c).symm

end Cert.FfUpDxIdeal
-- ==== Proof.OutDw.lean ====
module

public import proofs.«01_k».proof.Defs
public import proofs.«01_k».proof.Proof.Mat
public import Idealize.ShloMosaic.Lib.Pipeline.ValueKit
public import Idealize.ShloMosaic.Lib.Pointwise
public import Idealize.ShloMosaic.PureOps.Ideal.Laws
public import proofs.«01_k».proof.Proof.Gen.OutDw
public import proofs.«01_k».proof.Proof.Gen.OutDw.Skeleton
public import proofs.«01_k».proof.Proof.Gen.OutDw.Launch
public import proofs.«01_k».proof.Proof.Gen.OutDw.Points
public import proofs.«01_k».proof.Proof.Gen.OutDw.Frame
public import proofs.«01_k».proof.Proof.Gen.OutDwIdeal
public import proofs.«01_k».proof.Proof.Gen.OutDwIdeal.Skeleton
public import proofs.«01_k».proof.Proof.Gen.OutDwIdeal.Launch
public import proofs.«01_k».proof.Proof.Gen.OutDwIdeal.Points
public import proofs.«01_k».proof.Proof.Gen.OutDwIdeal.Frame
public import proofs.«01_k».proof.Proof.Gen.OutDwIdeal.Value
public import proofs.«01_k».proof.Proof.Gen.RefOutDwIdeal
public import proofs.«01_k».proof.Proof.Gen.RefOutDwIdeal.Run
public import proofs.«01_k».proof.Proof.Gen.RefOutDwIdeal.Read

/-! The gradient of the output projection's weights: the kernel's result array is the reference's product. -/

@[expose] public section

set_option maxRecDepth 16384

namespace Cert.OutDwIdeal.Prod

open Cert.OutDwIdeal Cert.OutDwIdeal.Gen Idealize.ShloMosaic Idealize.ShloMosaic.TcCoe Idealize.SL.Sem Cert.Mat

variable (m : (ℓ : Loc nD τ sig) → Buf (Elt Ideal) ℓ) (c : Dev nD)

/-- The blocks that a grid point takes and gives. -/
theorem idx : ∀ t : Fin cfg0.N, win0_0.index t = ![0, t.val] ∧ win0_1.index t = ![0, 0] ∧ win0_2.index t = ![t.val, 0] :=
  (by decide +kernel : ∀ t : Fin grid0.N, _)

/-- A block of the result is the product of the two blocks. -/
theorem block (a : FVec Ideal S4096x1024 .bf16) (b : FVec Ideal S4096x1024 .bf16) (A B : ℕ → ℕ → EReal)
    (ha : ∀ y : S4096x1024.Idx, (a y : EReal) = A (y 0).val (y 1).val) (hb : ∀ y : S4096x1024.Idx, (b y : EReal) = B (y 0).val (y 1).val) (y : S1024x1024.Idx) :
    (out0_2 (F := Ideal) a b y : EReal) = ∑ k : Fin 4096, A k.val (y 0).val * B k.val (y 1).val := by
  unfold out0_2
  rw [View.canon_unit_zero (by funext a; fin_cases a <;> rfl), View.ld_unit_zero (by funext a; fin_cases a <;> rfl),
    View.ld_unit_zero (by funext a; fin_cases a <;> rfl)]
  pointwise [k0_pay1]
  exact Finset.sum_congr rfl fun k _ => congrArg₂ _ (ha _) (hb _)

/-- The input's block. -/
theorem iblk0 (t : Fin cfg0.N) (y : S4096x1024.Idx) : (iblk m c 0 t y : EReal)
    = at2 (M := 4096) (K := 2048) (m ((c : Thread nD τ).loc main_arg0)) (y 0).val (1024 * (t.val) + (y 1).val) := by
  blk_simp [iblk]
  entry_read
  pointwise
  refine at2_eq _ _ _ _ ?_ ?_
  all_goals (blk_simp [idx t]; try omega)

/-- The cotangent's block. -/
theorem iblk1 (t : Fin cfg0.N) (y : S4096x1024.Idx) : (iblk m c 1 t y : EReal)
    = at2 (M := 4096) (K := 1024) (m ((c : Thread nD τ).loc main_arg1)) (y 0).val (y 1).val := by
  blk_simp [iblk]
  entry_read
  pointwise
  refine at2_eq _ _ _ _ ?_ ?_
  all_goals (blk_simp [idx t]; try omega)

/-- The result array is the reference's product. -/
theorem fin : ((dats m 0 c).arrAt 2 cfg0.N : S2048x1024.Idx → EReal)
    = Cert.RefOutDwIdeal.Read.val_main_v3 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  have e0 : (((win0_2.blk t).view.emb y : S2048x1024.Idx) 0).val = 1024 * (t.val) + (y 0).val := by blk_simp [idx t]; try omega
  have e1 : (((win0_2.blk t).view.emb y : S2048x1024.Idx) 1).val = (y 1).val := by blk_simp [idx t]; try omega
  refine (block _ _ (fun r k => at2 (M := 4096) (K := 2048) (m ((c : Thread nD τ).loc main_arg0)) r (1024 * (t.val) + k))
    (fun r k => at2 (M := 4096) (K := 1024) (m ((c : Thread nD τ).loc main_arg1)) r k) (iblk0 m c t) (iblk1 m c t) y).trans ?_
  refine Eq.trans ?_ ((Cert.RefOutDwIdeal.Read.val_main_v3_apply _ _ _).trans (Cert.RefOutDwIdeal.Read.val_main_v2_apply _ _ _)).symm
  refine Finset.sum_congr rfl fun k _ => (mul_comm _ _).trans (congrArg₂ _ (at2_eq _ _ _ _ ?_ ?_).symm (at2_eq _ _ _ _ ?_ ?_).symm)
  exacts [rfl, e1, rfl, e0]

end Cert.OutDwIdeal.Prod

namespace Cert.OutDwIdeal

open Idealize.ShloMosaic Idealize.SL.Sem

/-- The reference's run terminates, keeps its arguments and leaves every semaphore at zero. -/
theorem frame_reference : Cert.quiescent_RefOutDwIdeal := fun m ρ _ =>
  (θ_run Cert.RefOutDwIdeal.defs _ _).mono
    (fun r h => ⟨fun c => (h c).2, Idealize.ShloMosaic.sem_eq_zero_of_no_sems (by decide) r.2⟩)
    (Cert.RefOutDwIdeal.Value.run (F := Ideal) m ρ)

/-- The reference's result is the kernel's. -/
theorem algebraic : Cert.algebraic_OutDwIdeal_RefOutDwIdeal := by
  intro m ρ m' ρ' _ hagree
  refine ⟨_, Cert.OutDwIdeal.Value.run_blocks (F := Ideal) m ρ, ?_⟩
  refine (θ_run Cert.RefOutDwIdeal.defs _ _).mono (fun _ h c => ⟨(h c).1.trans ?_, (h c).2⟩) (Cert.RefOutDwIdeal.Value.run (F := Ideal) m' ρ')
  obtain ⟨a0, a1⟩ := hagree c
  rw [a0, a1]
  exact (Cert.RefOutDwIdeal.Read.val_main_v3_eq (F := Ideal) _ _).trans (Prod.fin m c).symm

end Cert.OutDwIdeal
-- ==== Proof.OutDx.lean ====
module

public import proofs.«01_k».proof.Defs
public import proofs.«01_k».proof.Proof.Mat
public import Idealize.ShloMosaic.Lib.Pipeline.ValueKit
public import Idealize.ShloMosaic.Lib.Pointwise
public import Idealize.ShloMosaic.PureOps.Ideal.Laws
public import proofs.«01_k».proof.Proof.Gen.OutDx
public import proofs.«01_k».proof.Proof.Gen.OutDx.Skeleton
public import proofs.«01_k».proof.Proof.Gen.OutDx.Launch
public import proofs.«01_k».proof.Proof.Gen.OutDx.Points
public import proofs.«01_k».proof.Proof.Gen.OutDx.Frame
public import proofs.«01_k».proof.Proof.Gen.OutDxIdeal
public import proofs.«01_k».proof.Proof.Gen.OutDxIdeal.Skeleton
public import proofs.«01_k».proof.Proof.Gen.OutDxIdeal.Launch
public import proofs.«01_k».proof.Proof.Gen.OutDxIdeal.Points
public import proofs.«01_k».proof.Proof.Gen.OutDxIdeal.Frame
public import proofs.«01_k».proof.Proof.Gen.OutDxIdeal.Value
public import proofs.«01_k».proof.Proof.Gen.RefOutDxIdeal
public import proofs.«01_k».proof.Proof.Gen.RefOutDxIdeal.Run
public import proofs.«01_k».proof.Proof.Gen.RefOutDxIdeal.Read

/-! The gradient of the output projection's input: the kernel's result array is the reference's product. -/

@[expose] public section

set_option maxRecDepth 16384

namespace Cert.OutDxIdeal.Prod

open Cert.OutDxIdeal Cert.OutDxIdeal.Gen Idealize.ShloMosaic Idealize.ShloMosaic.TcCoe Idealize.SL.Sem Cert.Mat

variable (m : (ℓ : Loc nD τ sig) → Buf (Elt Ideal) ℓ) (c : Dev nD)

/-- The blocks that a grid point takes and gives. -/
theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

/-- A block of the result is the product of the two blocks. -/
theorem block (a : FVec Ideal S1024x1024 .bf16) (b : FVec Ideal S1024x1024 .bf16) (A B : ℕ → ℕ → EReal)
    (ha : ∀ y : S1024x1024.Idx, (a y : EReal) = A (y 0).val (y 1).val) (hb : ∀ y : S1024x1024.Idx, (b y : EReal) = B (y 0).val (y 1).val) (y : S1024x1024.Idx) :
    (out0_2 (F := Ideal) a b y : EReal) = ∑ k : Fin 1024, A (y 0).val k.val * B (y 1).val k.val := by
  unfold out0_2
  rw [View.canon_unit_zero (by funext a; fin_cases a <;> rfl), View.ld_unit_zero (by funext a; fin_cases a <;> rfl),
    View.ld_unit_zero (by funext a; fin_cases a <;> rfl)]
  pointwise [k0_pay1]
  exact Finset.sum_congr rfl fun k _ => congrArg₂ _ (ha _) (hb _)

/-- The cotangent's block. -/
theorem iblk0 (t : Fin cfg0.N) (y : S1024x1024.Idx) : (iblk m c 0 t y : EReal)
    = at2 (M := 4096) (K := 1024) (m ((c : Thread nD τ).loc main_arg1)) (1024 * (t.val / 2) + (y 0).val) (y 1).val := by
  blk_simp [iblk]
  entry_read
  pointwise
  refine at2_eq _ _ _ _ ?_ ?_
  all_goals (blk_simp [idx t]; try omega)

/-- The weights' block. -/
theorem iblk1 (t : Fin cfg0.N) (y : S1024x1024.Idx) : (iblk m c 1 t y : EReal)
    = at2 (M := 2048) (K := 1024) (m ((c : Thread nD τ).loc main_arg0)) (1024 * (t.val % 2) + (y 0).val) (y 1).val := by
  blk_simp [iblk]
  entry_read
  pointwise
  refine at2_eq _ _ _ _ ?_ ?_
  all_goals (blk_simp [idx t]; try omega)

/-- The result array is the reference's product. -/
theorem fin : ((dats m 0 c).arrAt 2 cfg0.N : S4096x2048.Idx → EReal)
    = Cert.RefOutDxIdeal.Read.val_main_v2 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  have e0 : (((win0_2.blk t).view.emb y : S4096x2048.Idx) 0).val = 1024 * (t.val / 2) + (y 0).val := by blk_simp [idx t]; try omega
  have e1 : (((win0_2.blk t).view.emb y : S4096x2048.Idx) 1).val = 1024 * (t.val % 2) + (y 1).val := by blk_simp [idx t]; try omega
  refine (block _ _ (fun r k => at2 (M := 4096) (K := 1024) (m ((c : Thread nD τ).loc main_arg1)) (1024 * (t.val / 2) + r) k)
    (fun r k => at2 (M := 2048) (K := 1024) (m ((c : Thread nD τ).loc main_arg0)) (1024 * (t.val % 2) + r) k) (iblk0 m c t) (iblk1 m c t) y).trans ?_
  refine Eq.trans ?_ (Cert.RefOutDxIdeal.Read.val_main_v2_apply _ _ _).symm
  refine Finset.sum_congr rfl fun k _ => congrArg₂ _ (at2_eq _ _ _ _ ?_ ?_).symm (at2_eq _ _ _ _ ?_ ?_).symm
  exacts [e0, rfl, e1, rfl]

end Cert.OutDxIdeal.Prod

namespace Cert.OutDxIdeal

open Idealize.ShloMosaic Idealize.SL.Sem

/-- The reference's run terminates, keeps its arguments and leaves every semaphore at zero. -/
theorem frame_reference : Cert.quiescent_RefOutDxIdeal := fun m ρ _ =>
  (θ_run Cert.RefOutDxIdeal.defs _ _).mono
    (fun r h => ⟨fun c => (h c).2, Idealize.ShloMosaic.sem_eq_zero_of_no_sems (by decide) r.2⟩)
    (Cert.RefOutDxIdeal.Value.run (F := Ideal) m ρ)

/-- The reference's result is the kernel's. -/
theorem algebraic : Cert.algebraic_OutDxIdeal_RefOutDxIdeal := by
  intro m ρ m' ρ' _ hagree
  refine ⟨_, Cert.OutDxIdeal.Value.run_blocks (F := Ideal) m ρ, ?_⟩
  refine (θ_run Cert.RefOutDxIdeal.defs _ _).mono (fun _ h c => ⟨(h c).1.trans ?_, (h c).2⟩) (Cert.RefOutDxIdeal.Value.run (F := Ideal) m' ρ')
  obtain ⟨a0, a1⟩ := hagree c
  rw [a0, a1]
  exact (Cert.RefOutDxIdeal.Read.val_main_v2_eq (F := Ideal) _ _).trans (Prod.fin m c).symm

end Cert.OutDxIdeal
-- ==== Proof.InDw.lean ====
module

public import proofs.«01_k».proof.Defs
public import proofs.«01_k».proof.Proof.Mat
public import Idealize.ShloMosaic.Lib.Pipeline.ValueKit
public import Idealize.ShloMosaic.Lib.Pointwise
public import Idealize.ShloMosaic.PureOps.Ideal.Laws
public import proofs.«01_k».proof.Proof.Gen.InDw
public import proofs.«01_k».proof.Proof.Gen.InDw.Skeleton
public import proofs.«01_k».proof.Proof.Gen.InDw.Launch
public import proofs.«01_k».proof.Proof.Gen.InDw.Points
public import proofs.«01_k».proof.Proof.Gen.InDw.Frame
public import proofs.«01_k».proof.Proof.Gen.InDwIdeal
public import proofs.«01_k».proof.Proof.Gen.InDwIdeal.Skeleton
public import proofs.«01_k».proof.Proof.Gen.InDwIdeal.Launch
public import proofs.«01_k».proof.Proof.Gen.InDwIdeal.Points
public import proofs.«01_k».proof.Proof.Gen.InDwIdeal.Frame
public import proofs.«01_k».proof.Proof.Gen.InDwIdeal.Value
public import proofs.«01_k».proof.Proof.Gen.RefInDwIdeal
public import proofs.«01_k».proof.Proof.Gen.RefInDwIdeal.Run
public import proofs.«01_k».proof.Proof.Gen.RefInDwIdeal.Read

/-! The gradient of the input projection's weights: the kernel's result array is the reference's product. -/

@[expose] public section

set_option maxRecDepth 16384

namespace Cert.InDwIdeal.Prod

open Cert.InDwIdeal Cert.InDwIdeal.Gen Idealize.ShloMosaic Idealize.ShloMosaic.TcCoe Idealize.SL.Sem Cert.Mat

variable (m : (ℓ : Loc nD τ sig) → Buf (Elt Ideal) ℓ) (c : Dev nD)

/-- The blocks that a grid point takes and gives. -/
theorem idx : ∀ t : Fin cfg0.N, win0_0.index t = ![0, 0] ∧ win0_1.index t = ![0, t.val] ∧ win0_2.index t = ![0, t.val] :=
  (by decide +kernel : ∀ t : Fin grid0.N, _)

/-- A block of the result is the product of the two blocks. -/
theorem block (a : FVec Ideal S4096x1024 .bf16) (b : FVec Ideal S4096x768 .bf16) (A B : ℕ → ℕ → EReal)
    (ha : ∀ y : S4096x1024.Idx, (a y : EReal) = A (y 0).val (y 1).val) (hb : ∀ y : S4096x768.Idx, (b y : EReal) = B (y 0).val (y 1).val) (y : S1024x768.Idx) :
    (out0_2 (F := Ideal) a b y : EReal) = ∑ k : Fin 4096, A k.val (y 0).val * B k.val (y 1).val := by
  unfold out0_2
  rw [View.canon_unit_zero (by funext a; fin_cases a <;> rfl), View.ld_unit_zero (by funext a; fin_cases a <;> rfl),
    View.ld_unit_zero (by funext a; fin_cases a <;> rfl)]
  pointwise [k0_pay1]
  exact Finset.sum_congr rfl fun k _ => congrArg₂ _ (ha _) (hb _)

/-- The input's block. -/
theorem iblk0 (t : Fin cfg0.N) (y : S4096x1024.Idx) : (iblk m c 0 t y : EReal)
    = at2 (M := 4096) (K := 1024) (m ((c : Thread nD τ).loc main_arg0)) (y 0).val (y 1).val := by
  blk_simp [iblk]
  entry_read
  pointwise
  refine at2_eq _ _ _ _ ?_ ?_
  all_goals (blk_simp [idx t]; try omega)

/-- The cotangent's block. -/
theorem iblk1 (t : Fin cfg0.N) (y : S4096x768.Idx) : (iblk m c 1 t y : EReal)
    = at2 (M := 4096) (K := 4608) (m ((c : Thread nD τ).loc main_arg1)) (y 0).val (768 * (t.val) + (y 1).val) := by
  blk_simp [iblk]
  entry_read
  pointwise
  refine at2_eq _ _ _ _ ?_ ?_
  all_goals (blk_simp [idx t]; try omega)

/-- The result array is the reference's product. -/
theorem fin : ((dats m 0 c).arrAt 2 cfg0.N : S1024x4608.Idx → EReal)
    = Cert.RefInDwIdeal.Read.val_main_v3 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  have e0 : (((win0_2.blk t).view.emb y : S1024x4608.Idx) 0).val = (y 0).val := by blk_simp [idx t]; try omega
  have e1 : (((win0_2.blk t).view.emb y : S1024x4608.Idx) 1).val = 768 * (t.val) + (y 1).val := by blk_simp [idx t]; try omega
  refine (block _ _ (fun r k => at2 (M := 4096) (K := 1024) (m ((c : Thread nD τ).loc main_arg0)) r k)
    (fun r k => at2 (M := 4096) (K := 4608) (m ((c : Thread nD τ).loc main_arg1)) r (768 * (t.val) + k)) (iblk0 m c t) (iblk1 m c t) y).trans ?_
  refine Eq.trans ?_ ((Cert.RefInDwIdeal.Read.val_main_v3_apply _ _ _).trans (Cert.RefInDwIdeal.Read.val_main_v2_apply _ _ _)).symm
  refine Finset.sum_congr rfl fun k _ => (mul_comm _ _).trans (congrArg₂ _ (at2_eq _ _ _ _ ?_ ?_).symm (at2_eq _ _ _ _ ?_ ?_).symm)
  exacts [rfl, e1, rfl, e0]

end Cert.InDwIdeal.Prod

namespace Cert.InDwIdeal

open Idealize.ShloMosaic Idealize.SL.Sem

/-- The reference's run terminates, keeps its arguments and leaves every semaphore at zero. -/
theorem frame_reference : Cert.quiescent_RefInDwIdeal := fun m ρ _ =>
  (θ_run Cert.RefInDwIdeal.defs _ _).mono
    (fun r h => ⟨fun c => (h c).2, Idealize.ShloMosaic.sem_eq_zero_of_no_sems (by decide) r.2⟩)
    (Cert.RefInDwIdeal.Value.run (F := Ideal) m ρ)

/-- The reference's result is the kernel's. -/
theorem algebraic : Cert.algebraic_InDwIdeal_RefInDwIdeal := by
  intro m ρ m' ρ' _ hagree
  refine ⟨_, Cert.InDwIdeal.Value.run_blocks (F := Ideal) m ρ, ?_⟩
  refine (θ_run Cert.RefInDwIdeal.defs _ _).mono (fun _ h c => ⟨(h c).1.trans ?_, (h c).2⟩) (Cert.RefInDwIdeal.Value.run (F := Ideal) m' ρ')
  obtain ⟨a0, a1⟩ := hagree c
  rw [a0, a1]
  exact (Cert.RefInDwIdeal.Read.val_main_v3_eq (F := Ideal) _ _).trans (Prod.fin m c).symm

end Cert.InDwIdeal
-- ==== Proof.InDx.lean ====
module

public import proofs.«01_k».proof.Defs
public import proofs.«01_k».proof.Proof.Mat
public import Idealize.ShloMosaic.Lib.Pipeline.ValueKit
public import Idealize.ShloMosaic.Lib.Pointwise
public import Idealize.ShloMosaic.PureOps.Ideal.Laws
public import proofs.«01_k».proof.Proof.Gen.InDx
public import proofs.«01_k».proof.Proof.Gen.InDx.Skeleton
public import proofs.«01_k».proof.Proof.Gen.InDx.Launch
public import proofs.«01_k».proof.Proof.Gen.InDx.Points
public import proofs.«01_k».proof.Proof.Gen.InDx.Frame
public import proofs.«01_k».proof.Proof.Gen.InDxIdeal
public import proofs.«01_k».proof.Proof.Gen.InDxIdeal.Skeleton
public import proofs.«01_k».proof.Proof.Gen.InDxIdeal.Launch
public import proofs.«01_k».proof.Proof.Gen.InDxIdeal.Points
public import proofs.«01_k».proof.Proof.Gen.InDxIdeal.Frame
public import proofs.«01_k».proof.Proof.Gen.InDxIdeal.Value
public import proofs.«01_k».proof.Proof.Gen.RefInDxIdeal
public import proofs.«01_k».proof.Proof.Gen.RefInDxIdeal.Run
public import proofs.«01_k».proof.Proof.Gen.RefInDxIdeal.Read

/-! The gradient of the input projection's input: the kernel's result array is the reference's product. -/

@[expose] public section

set_option maxRecDepth 16384

namespace Cert.InDxIdeal.Prod

open Cert.InDxIdeal Cert.InDxIdeal.Gen Idealize.ShloMosaic Idealize.ShloMosaic.TcCoe Idealize.SL.Sem Cert.Mat

variable (m : (ℓ : Loc nD τ sig) → Buf (Elt Ideal) ℓ) (c : Dev nD)

/-- The blocks that a grid point takes and gives. -/
theorem idx : ∀ t : Fin cfg0.N, win0_0.index t = ![t.val, 0] ∧ win0_1.index t = ![0, 0] ∧ win0_2.index t = ![t.val, 0] :=
  (by decide +kernel : ∀ t : Fin grid0.N, _)

/-- A block of the result is the product of the two blocks. -/
theorem block (a : FVec Ideal S1024x4608 .bf16) (b : FVec Ideal S1024x4608 .bf16) (A B : ℕ → ℕ → EReal)
    (ha : ∀ y : S1024x4608.Idx, (a y : EReal) = A (y 0).val (y 1).val) (hb : ∀ y : S1024x4608.Idx, (b y : EReal) = B (y 0).val (y 1).val) (y : S1024x1024.Idx) :
    (out0_2 (F := Ideal) a b y : EReal) = ∑ k : Fin 4608, A (y 0).val k.val * B (y 1).val k.val := by
  unfold out0_2
  rw [View.canon_unit_zero (by funext a; fin_cases a <;> rfl), View.ld_unit_zero (by funext a; fin_cases a <;> rfl),
    View.ld_unit_zero (by funext a; fin_cases a <;> rfl)]
  pointwise [k0_pay1]
  exact Finset.sum_congr rfl fun k _ => congrArg₂ _ (ha _) (hb _)

/-- The cotangent's block. -/
theorem iblk0 (t : Fin cfg0.N) (y : S1024x4608.Idx) : (iblk m c 0 t y : EReal)
    = at2 (M := 4096) (K := 4608) (m ((c : Thread nD τ).loc main_arg1)) (1024 * (t.val) + (y 0).val) (y 1).val := by
  blk_simp [iblk]
  entry_read
  pointwise
  refine at2_eq _ _ _ _ ?_ ?_
  all_goals (blk_simp [idx t]; try omega)

/-- The weights' block. -/
theorem iblk1 (t : Fin cfg0.N) (y : S1024x4608.Idx) : (iblk m c 1 t y : EReal)
    = at2 (M := 1024) (K := 4608) (m ((c : Thread nD τ).loc main_arg0)) (y 0).val (y 1).val := by
  blk_simp [iblk]
  entry_read
  pointwise
  refine at2_eq _ _ _ _ ?_ ?_
  all_goals (blk_simp [idx t]; try omega)

/-- The result array is the reference's product. -/
theorem fin : ((dats m 0 c).arrAt 2 cfg0.N : S4096x1024.Idx → EReal)
    = Cert.RefInDxIdeal.Read.val_main_v2 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  have e0 : (((win0_2.blk t).view.emb y : S4096x1024.Idx) 0).val = 1024 * (t.val) + (y 0).val := by blk_simp [idx t]; try omega
  have e1 : (((win0_2.blk t).view.emb y : S4096x1024.Idx) 1).val = (y 1).val := by blk_simp [idx t]; try omega
  refine (block _ _ (fun r k => at2 (M := 4096) (K := 4608) (m ((c : Thread nD τ).loc main_arg1)) (1024 * (t.val) + r) k)
    (fun r k => at2 (M := 1024) (K := 4608) (m ((c : Thread nD τ).loc main_arg0)) r k) (iblk0 m c t) (iblk1 m c t) y).trans ?_
  refine Eq.trans ?_ (Cert.RefInDxIdeal.Read.val_main_v2_apply _ _ _).symm
  refine Finset.sum_congr rfl fun k _ => congrArg₂ _ (at2_eq _ _ _ _ ?_ ?_).symm (at2_eq _ _ _ _ ?_ ?_).symm
  exacts [e0, rfl, e1, rfl]

end Cert.InDxIdeal.Prod

namespace Cert.InDxIdeal

open Idealize.ShloMosaic Idealize.SL.Sem

/-- The reference's run terminates, keeps its arguments and leaves every semaphore at zero. -/
theorem frame_reference : Cert.quiescent_RefInDxIdeal := fun m ρ _ =>
  (θ_run Cert.RefInDxIdeal.defs _ _).mono
    (fun r h => ⟨fun c => (h c).2, Idealize.ShloMosaic.sem_eq_zero_of_no_sems (by decide) r.2⟩)
    (Cert.RefInDxIdeal.Value.run (F := Ideal) m ρ)

/-- The reference's result is the kernel's. -/
theorem algebraic : Cert.algebraic_InDxIdeal_RefInDxIdeal := by
  intro m ρ m' ρ' _ hagree
  refine ⟨_, Cert.InDxIdeal.Value.run_blocks (F := Ideal) m ρ, ?_⟩
  refine (θ_run Cert.RefInDxIdeal.defs _ _).mono (fun _ h c => ⟨(h c).1.trans ?_, (h c).2⟩) (Cert.RefInDxIdeal.Value.run (F := Ideal) m' ρ')
  obtain ⟨a0, a1⟩ := hagree c
  rw [a0, a1]
  exact (Cert.RefInDxIdeal.Read.val_main_v2_eq (F := Ideal) _ _).trans (Prod.fin m c).symm

end Cert.InDxIdeal
-- ==== Proof.FfDownFwd.lean ====
module

public import proofs.«01_k».proof.Defs
public import proofs.«01_k».proof.Proof.Mat
public import Idealize.ShloMosaic.Lib.Pipeline.ValueKit
public import Idealize.ShloMosaic.Lib.Pointwise
public import Idealize.ShloMosaic.PureOps.Ideal.Laws
public import proofs.«01_k».proof.Proof.Gen.FfDownFwd
public import proofs.«01_k».proof.Proof.Gen.FfDownFwd.Skeleton
public import proofs.«01_k».proof.Proof.Gen.FfDownFwd.Launch
public import proofs.«01_k».proof.Proof.Gen.FfDownFwd.Points
public import proofs.«01_k».proof.Proof.Gen.FfDownFwd.Frame
public import proofs.«01_k».proof.Proof.Gen.FfDownFwdIdeal
public import proofs.«01_k».proof.Proof.Gen.FfDownFwdIdeal.Skeleton
public import proofs.«01_k».proof.Proof.Gen.FfDownFwdIdeal.Launch
public import proofs.«01_k».proof.Proof.Gen.FfDownFwdIdeal.Points
public import proofs.«01_k».proof.Proof.Gen.FfDownFwdIdeal.Frame
public import proofs.«01_k».proof.Proof.Gen.FfDownFwdIdeal.Value
public import proofs.«01_k».proof.Proof.Gen.RefFfDownFwdIdeal
public import proofs.«01_k».proof.Proof.Gen.RefFfDownFwdIdeal.Run
public import proofs.«01_k».proof.Proof.Gen.RefFfDownFwdIdeal.Read

/-! The second feed-forward product added to the residual: the kernel's result array is the reference's. -/

@[expose] public section

set_option maxRecDepth 16384

namespace Cert.FfDownFwdIdeal.Prod

open Cert.FfDownFwdIdeal Cert.FfDownFwdIdeal.Gen Idealize.ShloMosaic Idealize.ShloMosaic.TcCoe Idealize.SL.Sem Cert.Mat

variable (m : (ℓ : Loc nD τ sig) → Buf (Elt Ideal) ℓ) (c : Dev nD)

/-- The blocks that a grid point takes and gives. -/
theorem idx : ∀ t : Fin cfg0.N, win0_0.index t = ![t.val / 2, 0] ∧ win0_1.index t = ![0, t.val % 2] ∧ win0_2.index t = ![t.val / 2, t.val % 2] ∧ win0_3.index t = ![t.val / 2, t.val % 2] :=
  (by decide +kernel : ∀ t : Fin grid0.N, _)

/-- A block of the result is the product of the two blocks added to the third. -/
theorem block (a : FVec Ideal S1024x4096 .bf16) (b : FVec Ideal S4096x512 .bf16) (x : FVec Ideal S1024x512 .f32) (A B : ℕ → ℕ → EReal)
    (ha : ∀ y : S1024x4096.Idx, (a y : EReal) = A (y 0).val (y 1).val) (hb : ∀ y : S4096x512.Idx, (b y : EReal) = B (y 0).val (y 1).val) (y : S1024x512.Idx) :
    (out0_3 (F := Ideal) a b x y : EReal) = x y + ∑ k : Fin 4096, A (y 0).val k.val * B k.val (y 1).val := by
  unfold out0_3
  rw [View.canon_unit_zero (by funext a; fin_cases a <;> rfl), View.ld_unit_zero (by funext a; fin_cases a <;> rfl),
    View.ld_unit_zero (by funext a; fin_cases a <;> rfl), View.ld_unit_zero (by funext a; fin_cases a <;> rfl)]
  pointwise [k0_pay1]
  rw [add_comm]
  exact congrArg₂ _ rfl (Finset.sum_congr rfl fun k _ => congrArg₂ _ (ha _) (hb _))

/-- The activations, which the host computes. -/
theorem entry : V m c main_v2 = truncf .bf16 (mulf
    (maximumf (m ((c : Thread nD τ).loc main_arg1)) (broadcastInDim S4096x4096 ![] bcast_S_S4096x4096 (constant (F := Ideal) S_ .f32 0x00000000#32)))
    (maximumf (m ((c : Thread nD τ).loc main_arg1)) (broadcastInDim S4096x4096 ![] bcast_S_S4096x4096 (constant (F := Ideal) S_ .f32 0x00000000#32))))
    bitsLt_bf16_f32 := by
  show StableHlo.after [_, _, _, _, _, _] _ _ = _
  after_results
  rfl

/-- The activation's block: the square of the positive part of the saved values, which the host computes. -/
theorem iblk0 (t : Fin cfg0.N) (y : S1024x4096.Idx) : (iblk m c 0 t y : EReal)
    = max (at2 (M := 4096) (K := 4096) (m ((c : Thread nD τ).loc main_arg1)) (1024 * (t.val / 2) + (y 0).val) (y 1).val) 0
      * max (at2 (M := 4096) (K := 4096) (m ((c : Thread nD τ).loc main_arg1)) (1024 * (t.val / 2) + (y 0).val) (y 1).val) 0 := by
  blk_simp [iblk]
  refine (congrFun (entry m c) _).trans ?_
  pointwise
  refine congrArg (fun z : EReal => max z 0 * max z 0) (at2_eq (M := 4096) (K := 4096) _ _ _ _ ?_ ?_)
  all_goals (blk_simp [idx t]; try omega)

/-- The weights' block. -/
theorem iblk1 (t : Fin cfg0.N) (y : S4096x512.Idx) : (iblk m c 1 t y : EReal)
    = at2 (M := 4096) (K := 1024) (m ((c : Thread nD τ).loc main_arg2)) (y 0).val (512 * (t.val % 2) + (y 1).val) := by
  blk_simp [iblk]
  entry_read
  pointwise
  refine at2_eq _ _ _ _ ?_ ?_
  all_goals (blk_simp [idx t]; try omega)

/-- The residual's block. -/
theorem iblk2 (t : Fin cfg0.N) (y : S1024x512.Idx) : (iblk m c 2 t y : EReal)
    = at2 (M := 4096) (K := 1024) (m ((c : Thread nD τ).loc main_arg0)) (1024 * (t.val / 2) + (y 0).val) (512 * (t.val % 2) + (y 1).val) := by
  blk_simp [iblk]
  entry_read
  pointwise
  refine at2_eq _ _ _ _ ?_ ?_
  all_goals (blk_simp [idx t]; try omega)

/-- The reference's activation at an entry. -/
theorem act (x : (⟨S4096x4096, .f32⟩ : BufTy).Contents (Elt Ideal)) (i : S4096x4096.Idx) :
    (Cert.RefFfDownFwdIdeal.Read.val_main_v1 (F := Ideal) x i : EReal) = max (x i) 0 * max (x i) 0 := by
  rw [Cert.RefFfDownFwdIdeal.Read.val_main_v1_apply, Cert.RefFfDownFwdIdeal.Read.val_main_v0_apply, Cert.RefFfDownFwdIdeal.Read.val_main_call0_v0_apply,
    Cert.RefFfDownFwdIdeal.Read.val_main_call0_cst_apply]
  pointwise

/-- The result array is the reference's product. -/
theorem fin : ((dats m 0 c).arrAt 3 cfg0.N : S4096x1024.Idx → EReal)
    = Cert.RefFfDownFwdIdeal.Read.val_main_v3 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  have e0 : (((win0_3.blk t).view.emb y : S4096x1024.Idx) 0).val = 1024 * (t.val / 2) + (y 0).val := by blk_simp [idx t]; try omega
  have e1 : (((win0_3.blk t).view.emb y : S4096x1024.Idx) 1).val = 512 * (t.val % 2) + (y 1).val := by blk_simp [idx t]; try omega
  refine (block _ _ _ (fun r k => max (at2 (M := 4096) (K := 4096) (m ((c : Thread nD τ).loc main_arg1)) (1024 * (t.val / 2) + r) k) 0
      * max (at2 (M := 4096) (K := 4096) (m ((c : Thread nD τ).loc main_arg1)) (1024 * (t.val / 2) + r) k) 0)
    (fun r k => at2 (M := 4096) (K := 1024) (m ((c : Thread nD τ).loc main_arg2)) r (512 * (t.val % 2) + k)) (iblk0 m c t) (iblk1 m c t) y).trans ?_
  rw [iblk2]
  refine Eq.trans ?_ (Cert.RefFfDownFwdIdeal.Read.val_main_v3_apply (F := Ideal) _ _ _ _).symm
  refine congrArg₂ (fun p q : EReal => p + q) (at2_eq _ _ _ _ e0 e1).symm ?_
  refine Eq.trans ?_ (Cert.RefFfDownFwdIdeal.Read.val_main_v2_apply _ _ _).symm
  refine Finset.sum_congr rfl fun k _ => congrArg₂ _ ?_ (at2_eq _ _ _ _ ?_ ?_).symm
  · refine ((act _ _).trans (congrArg (fun z : EReal => max z 0 * max z 0) (at2_eq _ _ _ _ ?_ ?_))).symm
    exacts [e0, rfl]
  · exact rfl
  · exact e1

end Cert.FfDownFwdIdeal.Prod

namespace Cert.FfDownFwdIdeal

open Idealize.ShloMosaic Idealize.SL.Sem

/-- The reference's run terminates, keeps its arguments and leaves every semaphore at zero. -/
theorem frame_reference : Cert.quiescent_RefFfDownFwdIdeal := fun m ρ _ =>
  (θ_run Cert.RefFfDownFwdIdeal.defs _ _).mono
    (fun r h => ⟨fun c => (h c).2, Idealize.ShloMosaic.sem_eq_zero_of_no_sems (by decide) r.2⟩)
    (Cert.RefFfDownFwdIdeal.Value.run (F := Ideal) m ρ)

/-- The reference's result is the kernel's. -/
theorem algebraic : Cert.algebraic_FfDownFwdIdeal_RefFfDownFwdIdeal := by
  intro m ρ m' ρ' _ hagree
  refine ⟨_, Cert.FfDownFwdIdeal.Value.run_blocks (F := Ideal) m ρ, ?_⟩
  refine (θ_run Cert.RefFfDownFwdIdeal.defs _ _).mono (fun _ h c => ⟨(h c).1.trans ?_, (h c).2⟩) (Cert.RefFfDownFwdIdeal.Value.run (F := Ideal) m' ρ')
  obtain ⟨a0, a1, a2⟩ := hagree c
  rw [a0, a1, a2]
  exact (Cert.RefFfDownFwdIdeal.Read.val_main_v3_eq (F := Ideal) _ _ _).trans (Prod.fin m c).symm

end Cert.FfDownFwdIdeal
-- ==== Proof.FfUpFwd.lean ====
module

public import proofs.«01_k».proof.Defs
public import proofs.«01_k».proof.Proof.Mat
public import Idealize.ShloMosaic.Lib.Pipeline.ValueKit
public import Idealize.ShloMosaic.Lib.Pointwise
public import Idealize.ShloMosaic.PureOps.Ideal.Laws
public import proofs.«01_k».proof.Proof.Gen.FfUpFwd
public import proofs.«01_k».proof.Proof.Gen.FfUpFwd.Skeleton
public import proofs.«01_k».proof.Proof.Gen.FfUpFwd.Launch
public import proofs.«01_k».proof.Proof.Gen.FfUpFwd.Points
public import proofs.«01_k».proof.Proof.Gen.FfUpFwd.Frame
public import proofs.«01_k».proof.Proof.Gen.FfUpFwdIdeal
public import proofs.«01_k».proof.Proof.Gen.FfUpFwdIdeal.Skeleton
public import proofs.«01_k».proof.Proof.Gen.FfUpFwdIdeal.Launch
public import proofs.«01_k».proof.Proof.Gen.FfUpFwdIdeal.Points
public import proofs.«01_k».proof.Proof.Gen.FfUpFwdIdeal.Frame
public import proofs.«01_k».proof.Proof.Gen.FfUpFwdIdeal.Value
public import proofs.«01_k».proof.Proof.Gen.RefFfUpFwdIdeal
public import proofs.«01_k».proof.Proof.Gen.RefFfUpFwdIdeal.Run
public import proofs.«01_k».proof.Proof.Gen.RefFfUpFwdIdeal.Read

/-! The first feed-forward product and its activation: the kernel's two result arrays are the reference's. -/

@[expose] public section

set_option maxRecDepth 16384

namespace Cert.FfUpFwdIdeal.Prod

open Cert.FfUpFwdIdeal Cert.FfUpFwdIdeal.Gen Idealize.ShloMosaic Idealize.ShloMosaic.TcCoe Idealize.SL.Sem Cert.Mat

variable (m : (ℓ : Loc nD τ sig) → Buf (Elt Ideal) ℓ) (c : Dev nD)

/-- The blocks that a grid point takes and gives. -/
theorem idx : ∀ t : Fin cfg0.N, win0_0.index t = ![t.val / 4, 0] ∧ win0_1.index t = ![t.val % 4, 0, 0] ∧ win0_2.index t = ![t.val / 4, t.val % 4] ∧ win0_3.index t = ![t.val / 4, t.val % 4] :=
  (by decide +kernel : ∀ t : Fin grid0.N, _)

/-- The product of the two blocks, at an entry. -/
theorem prod (a : FVec Ideal S1024x1024 .bf16) (b : FVec Ideal S1x1024x1024 .bf16) (A B : ℕ → ℕ → EReal)
    (ha : ∀ y : S1024x1024.Idx, (a y : EReal) = A (y 0).val (y 1).val) (hb : ∀ y : S1x1024x1024.Idx, (b y : EReal) = B (y 1).val (y 2).val) (y : S1024x1024.Idx) :
    (k0_pay1 (F := Ideal) a b y : EReal) = ∑ k : Fin 1024, A (y 0).val k.val * B k.val (y 1).val := by
  pointwise [k0_pay1]
  exact Finset.sum_congr rfl fun k _ => congrArg₂ _ (ha _) (hb _)

/-- A block of the first result is the product of the two blocks. -/
theorem block (a : FVec Ideal S1024x1024 .bf16) (b : FVec Ideal S1x1024x1024 .bf16) (A B : ℕ → ℕ → EReal)
    (ha : ∀ y : S1024x1024.Idx, (a y : EReal) = A (y 0).val (y 1).val) (hb : ∀ y : S1x1024x1024.Idx, (b y : EReal) = B (y 1).val (y 2).val) (y : S1024x1024.Idx) :
    (out0_2 (F := Ideal) a b y : EReal) = ∑ k : Fin 1024, A (y 0).val k.val * B k.val (y 1).val := by
  unfold out0_2
  rw [View.canon_unit_zero (by funext a; fin_cases a <;> rfl), View.ld_unit_zero (by funext a; fin_cases a <;> rfl),
    View.ld_unit_zero (by funext a; fin_cases a <;> rfl)]
  exact prod a b A B ha hb y

/-- A block of the second result is the square of the positive part of the product. -/
theorem blockAct (a : FVec Ideal S1024x1024 .bf16) (b : FVec Ideal S1x1024x1024 .bf16) (A B : ℕ → ℕ → EReal)
    (ha : ∀ y : S1024x1024.Idx, (a y : EReal) = A (y 0).val (y 1).val) (hb : ∀ y : S1x1024x1024.Idx, (b y : EReal) = B (y 1).val (y 2).val) (y : S1024x1024.Idx) :
    (out0_3 (F := Ideal) a b y : EReal) = max (∑ k : Fin 1024, A (y 0).val k.val * B k.val (y 1).val) 0 * max (∑ k : Fin 1024, A (y 0).val k.val * B k.val (y 1).val) 0 := by
  unfold out0_3
  rw [View.canon_unit_zero (by funext a; fin_cases a <;> rfl), View.ld_unit_zero (by funext a; fin_cases a <;> rfl),
    View.ld_unit_zero (by funext a; fin_cases a <;> rfl)]
  pointwise [k0_pay2]
  exact congrArg (fun z : EReal => max z 0 * max z 0) (prod a b A B ha hb y)

/-- The input's block. -/
theorem iblk0 (t : Fin cfg0.N) (y : S1024x1024.Idx) : (iblk m c 0 t y : EReal)
    = at2 (M := 4096) (K := 1024) (m ((c : Thread nD τ).loc main_arg0)) (1024 * (t.val / 4) + (y 0).val) (y 1).val := by
  blk_simp [iblk]
  entry_read
  pointwise
  refine at2_eq _ _ _ _ ?_ ?_
  all_goals (blk_simp [idx t]; try omega)

/-- The weights' block: one chip's columns. -/
theorem iblk1 (t : Fin cfg0.N) (y : S1x1024x1024.Idx) : (iblk m c 1 t y : EReal)
    = at2 (M := 1024) (K := 4096) (m ((c : Thread nD τ).loc main_arg1)) (y 1).val (1024 * (t.val % 4) + (y 2).val) := by
  blk_simp [iblk]
  entry_read
  pointwise
  have b0 : (y 0).val < 1 := (y 0).isLt
  have e0 : (((win0_1.blk t).view.emb y : S4x1024x1024.Idx) 0).val = t.val % 4 := by blk_simp [idx t]; try omega
  have e1 : (((win0_1.blk t).view.emb y : S4x1024x1024.Idx) 1).val = (y 1).val := by blk_simp [idx t]; try omega
  have e2 : (((win0_1.blk t).view.emb y : S4x1024x1024.Idx) 2).val = (y 2).val := by blk_simp [idx t]; try omega
  refine at2_eq _ _ _ _ e1 ((congrArg₂ (fun p q : ℕ => p * 1024 + q) e0 e2).trans ?_)
  omega

/-- The reference's activation at an entry. -/
theorem act (x : (⟨S4096x1024, .f32⟩ : BufTy).Contents (Elt Ideal)) (w : (⟨S1024x4096, .f32⟩ : BufTy).Contents (Elt Ideal)) (i : S4096x4096.Idx) :
    (Cert.RefFfUpFwdIdeal.Read.val_main_v3 (F := Ideal) x w i : EReal)
      = max (Cert.RefFfUpFwdIdeal.Read.val_main_v0 (F := Ideal) x w i : EReal) 0 * max (Cert.RefFfUpFwdIdeal.Read.val_main_v0 (F := Ideal) x w i : EReal) 0 := by
  rw [Cert.RefFfUpFwdIdeal.Read.val_main_v3_apply, Cert.RefFfUpFwdIdeal.Read.val_main_v2_apply, Cert.RefFfUpFwdIdeal.Read.val_main_v1_apply,
    Cert.RefFfUpFwdIdeal.Read.val_main_call0_v0_apply, Cert.RefFfUpFwdIdeal.Read.val_main_call0_cst_apply]
  generalize Cert.RefFfUpFwdIdeal.Read.val_main_v0 (F := Ideal) x w i = z
  pointwise

/-- The result array is the reference's product. -/
theorem fin : ((dats m 0 c).arrAt 2 cfg0.N : S4096x4096.Idx → EReal)
    = Cert.RefFfUpFwdIdeal.Read.val_main_v0 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  have e0 : (((win0_2.blk t).view.emb y : S4096x4096.Idx) 0).val = 1024 * (t.val / 4) + (y 0).val := by blk_simp [idx t]; try omega
  have e1 : (((win0_2.blk t).view.emb y : S4096x4096.Idx) 1).val = 1024 * (t.val % 4) + (y 1).val := by blk_simp [idx t]; try omega
  refine (block _ _ (fun r k => at2 (M := 4096) (K := 1024) (m ((c : Thread nD τ).loc main_arg0)) (1024 * (t.val / 4) + r) k)
    (fun r k => at2 (M := 1024) (K := 4096) (m ((c : Thread nD τ).loc main_arg1)) r (1024 * (t.val % 4) + k)) (iblk0 m c t) (iblk1 m c t) y).trans ?_
  refine Eq.trans ?_ (Cert.RefFfUpFwdIdeal.Read.val_main_v0_apply _ _ _).symm
  refine Finset.sum_congr rfl fun k _ => congrArg₂ _ (at2_eq _ _ _ _ ?_ ?_).symm (at2_eq _ _ _ _ ?_ ?_).symm
  exacts [e0, rfl, rfl, e1]

/-- The second result array is the reference's activation. -/
theorem finAct : ((dats m 0 c).arrAt 3 cfg0.N : S4096x4096.Idx → EReal)
    = Cert.RefFfUpFwdIdeal.Read.val_main_v3 (F := Ideal) (m ((c : Thread nD τ).loc main_arg0)) (m ((c : Thread nD τ).loc main_arg1)) := by
  refine (dats m 0 c).arrAt_eq_of_covers 3 _ (by decide +kernel) fun t hf y => ?_
  blk_simp
  rw [after0_3]
  have e0 : (((win0_3.blk t).view.emb y : S4096x4096.Idx) 0).val = 1024 * (t.val / 4) + (y 0).val := by blk_simp [idx t]; try omega
  have e1 : (((win0_3.blk t).view.emb y : S4096x4096.Idx) 1).val = 1024 * (t.val % 4) + (y 1).val := by blk_simp [idx t]; try omega
  refine (blockAct _ _ (fun r k => at2 (M := 4096) (K := 1024) (m ((c : Thread nD τ).loc main_arg0)) (1024 * (t.val / 4) + r) k)
    (fun r k => at2 (M := 1024) (K := 4096) (m ((c : Thread nD τ).loc main_arg1)) r (1024 * (t.val % 4) + k)) (iblk0 m c t) (iblk1 m c t) y).trans ?_
  refine Eq.trans (congrArg (fun z : EReal => max z 0 * max z 0) ?_) (act _ _ _).symm
  refine Eq.trans ?_ (Cert.RefFfUpFwdIdeal.Read.val_main_v0_apply _ _ _).symm
  refine Finset.sum_congr rfl fun k _ => congrArg₂ _ (at2_eq _ _ _ _ ?_ ?_).symm (at2_eq _ _ _ _ ?_ ?_).symm
  exacts [e0, rfl, rfl, e1]

end Cert.FfUpFwdIdeal.Prod

namespace Cert.FfUpFwdIdeal

open Idealize.ShloMosaic Idealize.SL.Sem

/-- The reference's run terminates, keeps its arguments and leaves every semaphore at zero. -/
theorem frame_reference : Cert.quiescent_RefFfUpFwdIdeal := fun m ρ _ =>
  (θ_run Cert.RefFfUpFwdIdeal.defs _ _).mono
    (fun r h => ⟨fun c => (h c).2.2, Idealize.ShloMosaic.sem_eq_zero_of_no_sems (by decide) r.2⟩)
    (Cert.RefFfUpFwdIdeal.Value.run (F := Ideal) m ρ)

/-- The reference's results are the kernel's. -/
theorem algebraic : Cert.algebraic_FfUpFwdIdeal_RefFfUpFwdIdeal := by
  intro m ρ m' ρ' _ hagree
  refine ⟨_, _, Cert.FfUpFwdIdeal.Value.run_blocks (F := Ideal) m ρ, ?_⟩
  refine (θ_run Cert.RefFfUpFwdIdeal.defs _ _).mono (fun _ h c => ⟨(h c).1.trans ?_, (h c).2.1.trans ?_, (h c).2.2⟩) (Cert.RefFfUpFwdIdeal.Value.run (F := Ideal) m' ρ')
  all_goals
    obtain ⟨a0, a1⟩ := hagree c
    rw [a0, a1]
  · exact (Cert.RefFfUpFwdIdeal.Read.val_main_v0_eq (F := Ideal) _ _).trans (Prod.fin m c).symm
  · exact (Cert.RefFfUpFwdIdeal.Read.val_main_v3_eq (F := Ideal) _ _).trans (Prod.finAct m c).symm

end Cert.FfUpFwdIdeal
-- ==== Proof.OutFwd.lean ====
module

public import proofs.«01_k».proof.Defs
public import proofs.«01_k».proof.Proof.Mat
public import Idealize.ShloMosaic.Lib.Pipeline.ValueKit
public import Idealize.ShloMosaic.Lib.Pointwise
public import Idealize.ShloMosaic.PureOps.Ideal.Laws
public import proofs.«01_k».proof.Proof.Gen.OutFwd
public import proofs.«01_k».proof.Proof.Gen.OutFwd.Skeleton
public import proofs.«01_k».proof.Proof.Gen.OutFwd.Launch
public import proofs.«01_k».proof.Proof.Gen.OutFwd.Points
public import proofs.«01_k».proof.Proof.Gen.OutFwd.Frame
public import proofs.«01_k».proof.Proof.Gen.OutFwdIdeal
public import proofs.«01_k».proof.Proof.Gen.OutFwdIdeal.Skeleton
public import proofs.«01_k».proof.Proof.Gen.OutFwdIdeal.Launch
public import proofs.«01_k».proof.Proof.Gen.OutFwdIdeal.Points
public import proofs.«01_k».proof.Proof.Gen.OutFwdIdeal.Frame
public import proofs.«01_k».proof.Proof.Gen.OutFwdIdeal.Value
public import proofs.«01_k».proof.Proof.Gen.RefOutFwdIdeal
public import proofs.«01_k».proof.Proof.Gen.RefOutFwdIdeal.Run
public import proofs.«01_k».proof.Proof.Gen.RefOutFwdIdeal.Read

/-! The output projection added to the residual: the kernel's result array is the reference's. -/

@[expose] public section

set_option maxRecDepth 16384

namespace Cert.OutFwdIdeal.Prod

open Cert.OutFwdIdeal Cert.OutFwdIdeal.Gen Idealize.ShloMosaic Idealize.ShloMosaic.TcCoe Idealize.SL.Sem Cert.Mat

variable (m : (ℓ : Loc nD τ sig) → Buf (Elt Ideal) ℓ) (c : Dev nD)

/-- The blocks that a grid point takes and gives. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- A block of the result is the product of the two blocks added to the third. -/
theorem block (a : FVec Ideal S1024x2048 .bf16) (b : FVec Ideal S2048x1024 .bf16) (x : FVec Ideal S1024x1024 .f32) (A B : ℕ → ℕ → EReal)
    (ha : ∀ y : S1024x2048.Idx, (a y : EReal) = A (y 0).val (y 1).val) (hb : ∀ y : S2048x1024.Idx, (b y : EReal) = B (y 0).val (y 1).val) (y : S1024x1024.Idx) :
    (out0_3 (F := Ideal) a b x y : EReal) = x y + ∑ k : Fin 2048, A (y 0).val k.val * B k.val (y 1).val := by
  unfold out0_3
  rw [View.canon_unit_zero (by funext a; fin_cases a <;> rfl), View.ld_unit_zero (by funext a; fin_cases a <;> rfl),
    View.ld_unit_zero (by funext a; fin_cases a <;> rfl), View.ld_unit_zero (by funext a; fin_cases a <;> rfl)]
  pointwise [k0_pay1]
  rw [add_comm]
  exact congrArg₂ _ rfl (Finset.sum_congr rfl fun k _ => congrArg₂ _ (ha _) (hb _))

/-- The mixers' block. -/
theorem iblk0 (t : Fin cfg0.N) (y : S1024x2048.Idx) : (iblk m c 0 t y : EReal)
    = at2 (M := 4096) (K := 2048) (m ((c : Thread nD τ).loc main_arg1)) (1024 * (t.val) + (y 0).val) (y 1).val := by
  blk_simp [iblk]
  entry_read
  pointwise
  refine at2_eq _ _ _ _ ?_ ?_
  all_goals (blk_simp [idx t]; try omega)

/-- The weights' block. -/
theorem iblk1 (t : Fin cfg0.N) (y : S2048x1024.Idx) : (iblk m c 1 t y : EReal)
    = at2 (M := 2048) (K := 1024) (m ((c : Thread nD τ).loc main_arg2)) (y 0).val (y 1).val := by
  blk_simp [iblk]
  entry_read
  pointwise
  refine at2_eq _ _ _ _ ?_ ?_
  all_goals (blk_simp [idx t]; try omega)

/-- The residual's block. -/
theorem iblk2 (t : Fin cfg0.N) (y : S1024x1024.Idx) : (iblk m c 2 t y : EReal)
    = at2 (M := 4096) (K := 1024) (m ((c : Thread nD τ).loc main_arg0)) (1024 * (t.val) + (y 0).val) (y 1).val := by
  blk_simp [iblk]
  entry_read
  pointwise
  refine at2_eq _ _ _ _ ?_ ?_
  all_goals (blk_simp [idx t]; try omega)

/-- The result array is the reference's product. -/
theorem fin : ((dats m 0 c).arrAt 3 cfg0.N : S4096x1024.Idx → EReal)
    = Cert.RefOutFwdIdeal.Read.val_main_v1 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  have e0 : (((win0_3.blk t).view.emb y : S4096x1024.Idx) 0).val = 1024 * (t.val) + (y 0).val := by blk_simp [idx t]; try omega
  have e1 : (((win0_3.blk t).view.emb y : S4096x1024.Idx) 1).val = (y 1).val := by blk_simp [idx t]; try omega
  refine (block _ _ _ (fun r k => at2 (M := 4096) (K := 2048) (m ((c : Thread nD τ).loc main_arg1)) (1024 * (t.val) + r) k)
    (fun r k => at2 (M := 2048) (K := 1024) (m ((c : Thread nD τ).loc main_arg2)) r k) (iblk0 m c t) (iblk1 m c t) y).trans ?_
  rw [iblk2]
  refine Eq.trans ?_ (Cert.RefOutFwdIdeal.Read.val_main_v1_apply (F := Ideal) _ _ _ _).symm
  refine congrArg₂ (fun p q : EReal => p + q) (at2_eq _ _ _ _ e0 e1).symm ?_
  refine Eq.trans ?_ (Cert.RefOutFwdIdeal.Read.val_main_v0_apply _ _ _).symm
  refine Finset.sum_congr rfl fun k _ => congrArg₂ _ (at2_eq _ _ _ _ ?_ ?_).symm (at2_eq _ _ _ _ ?_ ?_).symm
  exacts [e0, rfl, rfl, e1]

end Cert.OutFwdIdeal.Prod

namespace Cert.OutFwdIdeal

open Idealize.ShloMosaic Idealize.SL.Sem

/-- The reference's run terminates, keeps its arguments and leaves every semaphore at zero. -/
theorem frame_reference : Cert.quiescent_RefOutFwdIdeal := fun m ρ _ =>
  (θ_run Cert.RefOutFwdIdeal.defs _ _).mono
    (fun r h => ⟨fun c => (h c).2, Idealize.ShloMosaic.sem_eq_zero_of_no_sems (by decide) r.2⟩)
    (Cert.RefOutFwdIdeal.Value.run (F := Ideal) m ρ)

/-- The reference's result is the kernel's. -/
theorem algebraic : Cert.algebraic_OutFwdIdeal_RefOutFwdIdeal := by
  intro m ρ m' ρ' _ hagree
  refine ⟨_, Cert.OutFwdIdeal.Value.run_blocks (F := Ideal) m ρ, ?_⟩
  refine (θ_run Cert.RefOutFwdIdeal.defs _ _).mono (fun _ h c => ⟨(h c).1.trans ?_, (h c).2⟩) (Cert.RefOutFwdIdeal.Value.run (F := Ideal) m' ρ')
  obtain ⟨a0, a1, a2⟩ := hagree c
  rw [a0, a1, a2]
  exact (Cert.RefOutFwdIdeal.Read.val_main_v1_eq (F := Ideal) _ _ _).trans (Prod.fin m c).symm

end Cert.OutFwdIdeal
-- ==== Proof.InDtDw.lean ====
module

public import proofs.«01_k».proof.Defs
public import proofs.«01_k».proof.Proof.Mat
public import Idealize.ShloMosaic.Lib.Pipeline.ValueKit
public import Idealize.ShloMosaic.Lib.Pointwise
public import Idealize.ShloMosaic.PureOps.Ideal.Laws
public import proofs.«01_k».proof.Proof.Gen.InDtDw
public import proofs.«01_k».proof.Proof.Gen.InDtDw.Skeleton
public import proofs.«01_k».proof.Proof.Gen.InDtDw.Launch
public import proofs.«01_k».proof.Proof.Gen.InDtDw.Points
public import proofs.«01_k».proof.Proof.Gen.InDtDw.Frame
public import proofs.«01_k».proof.Proof.Gen.InDtDwIdeal
public import proofs.«01_k».proof.Proof.Gen.InDtDwIdeal.Skeleton
public import proofs.«01_k».proof.Proof.Gen.InDtDwIdeal.Launch
public import proofs.«01_k».proof.Proof.Gen.InDtDwIdeal.Points
public import proofs.«01_k».proof.Proof.Gen.InDtDwIdeal.Frame
public import proofs.«01_k».proof.Proof.Gen.InDtDwIdeal.Value
public import proofs.«01_k».proof.Proof.Gen.RefInDtDwIdeal
public import proofs.«01_k».proof.Proof.Gen.RefInDtDwIdeal.Run
public import proofs.«01_k».proof.Proof.Gen.RefInDtDwIdeal.Read

/-! The gradient of the input projection's weights of step sizes: the kernel's result array is the reference's product. -/

@[expose] public section

set_option maxRecDepth 16384

namespace Cert.InDtDwIdeal.Prod

open Cert.InDtDwIdeal Cert.InDtDwIdeal.Gen Idealize.ShloMosaic Idealize.ShloMosaic.TcCoe Idealize.SL.Sem Cert.Mat

variable (m : (ℓ : Loc nD τ sig) → Buf (Elt Ideal) ℓ) (c : Dev nD)

/-- The blocks that a grid point takes and gives. -/
theorem idx : ∀ t : Fin cfg0.N, win0_0.index t = ![0, 0] ∧ win0_1.index t = ![0, 0] ∧ win0_2.index t = ![0, 0] :=
  (by decide +kernel : ∀ t : Fin grid0.N, _)

/-- A block of the result is the product of the two blocks. -/
theorem block (a : FVec Ideal S4096x1024 .bf16) (b : FVec Ideal S4096x256 .bf16) (A B : ℕ → ℕ → EReal)
    (ha : ∀ y : S4096x1024.Idx, (a y : EReal) = A (y 0).val (y 1).val) (hb : ∀ y : S4096x256.Idx, (b y : EReal) = B (y 0).val (y 1).val) (y : S1024x256.Idx) :
    (out0_2 (F := Ideal) a b y : EReal) = ∑ k : Fin 4096, A k.val (y 0).val * B k.val (y 1).val := by
  unfold out0_2
  rw [View.canon_unit_zero (by funext a; fin_cases a <;> rfl), View.ld_unit_zero (by funext a; fin_cases a <;> rfl),
    View.ld_unit_zero (by funext a; fin_cases a <;> rfl)]
  pointwise [k0_pay1]
  exact Finset.sum_congr rfl fun k _ => congrArg₂ _ (ha _) (hb _)

/-- The input's block. -/
theorem iblk0 (t : Fin cfg0.N) (y : S4096x1024.Idx) : (iblk m c 0 t y : EReal)
    = at2 (M := 4096) (K := 1024) (m ((c : Thread nD τ).loc main_arg0)) (y 0).val (y 1).val := by
  blk_simp [iblk]
  entry_read
  pointwise
  refine at2_eq _ _ _ _ ?_ ?_
  all_goals (blk_simp [idx t]; try omega)

/-- The cotangent's block. -/
theorem iblk1 (t : Fin cfg0.N) (y : S4096x256.Idx) : (iblk m c 1 t y : EReal)
    = at2 (M := 4096) (K := 256) (m ((c : Thread nD τ).loc main_arg1)) (y 0).val (y 1).val := by
  blk_simp [iblk]
  entry_read
  pointwise
  refine at2_eq _ _ _ _ ?_ ?_
  all_goals (blk_simp [idx t]; try omega)

/-- The result array is the reference's product. -/
theorem fin : ((dats m 0 c).arrAt 2 cfg0.N : S1024x256.Idx → EReal)
    = Cert.RefInDtDwIdeal.Read.val_main_v3 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  have e0 : (((win0_2.blk t).view.emb y : S1024x256.Idx) 0).val = (y 0).val := by blk_simp [idx t]; try omega
  have e1 : (((win0_2.blk t).view.emb y : S1024x256.Idx) 1).val = (y 1).val := by blk_simp [idx t]; try omega
  refine (block _ _ (fun r k => at2 (M := 4096) (K := 1024) (m ((c : Thread nD τ).loc main_arg0)) r k)
    (fun r k => at2 (M := 4096) (K := 256) (m ((c : Thread nD τ).loc main_arg1)) r k) (iblk0 m c t) (iblk1 m c t) y).trans ?_
  refine Eq.trans ?_ ((Cert.RefInDtDwIdeal.Read.val_main_v3_apply _ _ _).trans (Cert.RefInDtDwIdeal.Read.val_main_v2_apply _ _ _)).symm
  refine Finset.sum_congr rfl fun k _ => (mul_comm _ _).trans (congrArg₂ _ (at2_eq _ _ _ _ ?_ ?_).symm (at2_eq _ _ _ _ ?_ ?_).symm)
  exacts [rfl, e1, rfl, e0]

end Cert.InDtDwIdeal.Prod

namespace Cert.InDtDwIdeal

open Idealize.ShloMosaic Idealize.SL.Sem

/-- The reference's run terminates, keeps its arguments and leaves every semaphore at zero. -/
theorem frame_reference : Cert.quiescent_RefInDtDwIdeal := fun m ρ _ =>
  (θ_run Cert.RefInDtDwIdeal.defs _ _).mono
    (fun r h => ⟨fun c => (h c).2, Idealize.ShloMosaic.sem_eq_zero_of_no_sems (by decide) r.2⟩)
    (Cert.RefInDtDwIdeal.Value.run (F := Ideal) m ρ)

/-- The reference's result is the kernel's. -/
theorem algebraic : Cert.algebraic_InDtDwIdeal_RefInDtDwIdeal := by
  intro m ρ m' ρ' _ hagree
  refine ⟨_, Cert.InDtDwIdeal.Value.run_blocks (F := Ideal) m ρ, ?_⟩
  refine (θ_run Cert.RefInDtDwIdeal.defs _ _).mono (fun _ h c => ⟨(h c).1.trans ?_, (h c).2⟩) (Cert.RefInDtDwIdeal.Value.run (F := Ideal) m' ρ')
  obtain ⟨a0, a1⟩ := hagree c
  rw [a0, a1]
  exact (Cert.RefInDtDwIdeal.Read.val_main_v3_eq (F := Ideal) _ _).trans (Prod.fin m c).symm

end Cert.InDtDwIdeal
-- ==== Proof.InDtDx.lean ====
module

public import proofs.«01_k».proof.Defs
public import proofs.«01_k».proof.Proof.Mat
public import Idealize.ShloMosaic.Lib.Pipeline.ValueKit
public import Idealize.ShloMosaic.Lib.Pointwise
public import Idealize.ShloMosaic.PureOps.Ideal.Laws
public import proofs.«01_k».proof.Proof.Gen.InDtDx
public import proofs.«01_k».proof.Proof.Gen.InDtDx.Skeleton
public import proofs.«01_k».proof.Proof.Gen.InDtDx.Launch
public import proofs.«01_k».proof.Proof.Gen.InDtDx.Points
public import proofs.«01_k».proof.Proof.Gen.InDtDx.Frame
public import proofs.«01_k».proof.Proof.Gen.InDtDxIdeal
public import proofs.«01_k».proof.Proof.Gen.InDtDxIdeal.Skeleton
public import proofs.«01_k».proof.Proof.Gen.InDtDxIdeal.Launch
public import proofs.«01_k».proof.Proof.Gen.InDtDxIdeal.Points
public import proofs.«01_k».proof.Proof.Gen.InDtDxIdeal.Frame
public import proofs.«01_k».proof.Proof.Gen.InDtDxIdeal.Value
public import proofs.«01_k».proof.Proof.Gen.RefInDtDxIdeal
public import proofs.«01_k».proof.Proof.Gen.RefInDtDxIdeal.Run
public import proofs.«01_k».proof.Proof.Gen.RefInDtDxIdeal.Read

/-! The gradient of the input through the input projection's columns of step sizes, added to the one through the main columns: the
    kernel's result array is the reference's. -/

@[expose] public section

set_option maxRecDepth 16384

namespace Cert.InDtDxIdeal.Prod

open Cert.InDtDxIdeal Cert.InDtDxIdeal.Gen Idealize.ShloMosaic Idealize.ShloMosaic.TcCoe Idealize.SL.Sem Cert.Mat

variable (m : (ℓ : Loc nD τ sig) → Buf (Elt Ideal) ℓ) (c : Dev nD)

/-- The blocks that a grid point takes and gives. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- A block of the result is the product of the two blocks added to the third. -/
theorem block (a : FVec Ideal S1024x256 .bf16) (b : FVec Ideal S1024x256 .bf16) (x : FVec Ideal S1024x1024 .f32) (A B : ℕ → ℕ → EReal)
    (ha : ∀ y : S1024x256.Idx, (a y : EReal) = A (y 0).val (y 1).val) (hb : ∀ y : S1024x256.Idx, (b y : EReal) = B (y 0).val (y 1).val) (y : S1024x1024.Idx) :
    (out0_3 (F := Ideal) a b x y : EReal) = x y + ∑ k : Fin 256, A (y 0).val k.val * B (y 1).val k.val := by
  unfold out0_3
  rw [View.canon_unit_zero (by funext a; fin_cases a <;> rfl), View.ld_unit_zero (by funext a; fin_cases a <;> rfl),
    View.ld_unit_zero (by funext a; fin_cases a <;> rfl), View.ld_unit_zero (by funext a; fin_cases a <;> rfl)]
  pointwise [k0_pay1]
  rw [add_comm]
  exact congrArg₂ _ rfl (Finset.sum_congr rfl fun k _ => congrArg₂ _ (ha _) (hb _))

/-- The cotangent's block. -/
theorem iblk0 (t : Fin cfg0.N) (y : S1024x256.Idx) : (iblk m c 0 t y : EReal)
    = at2 (M := 4096) (K := 256) (m ((c : Thread nD τ).loc main_arg2)) (1024 * (t.val) + (y 0).val) (y 1).val := by
  blk_simp [iblk]
  entry_read
  pointwise
  refine at2_eq _ _ _ _ ?_ ?_
  all_goals (blk_simp [idx t]; try omega)

/-- The weights' block. -/
theorem iblk1 (t : Fin cfg0.N) (y : S1024x256.Idx) : (iblk m c 1 t y : EReal)
    = at2 (M := 1024) (K := 256) (m ((c : Thread nD τ).loc main_arg1)) (y 0).val (y 1).val := by
  blk_simp [iblk]
  entry_read
  pointwise
  refine at2_eq _ _ _ _ ?_ ?_
  all_goals (blk_simp [idx t]; try omega)

/-- The block of the gradient that comes in. -/
theorem iblk2 (t : Fin cfg0.N) (y : S1024x1024.Idx) : (iblk m c 2 t y : EReal)
    = at2 (M := 4096) (K := 1024) (m ((c : Thread nD τ).loc main_arg0)) (1024 * (t.val) + (y 0).val) (y 1).val := by
  blk_simp [iblk]
  entry_read
  pointwise
  refine at2_eq _ _ _ _ ?_ ?_
  all_goals (blk_simp [idx t]; try omega)

/-- The result array is the reference's product added to the gradient that comes in. -/
theorem fin : ((dats m 0 c).arrAt 3 cfg0.N : S4096x1024.Idx → EReal)
    = Cert.RefInDtDxIdeal.Read.val_main_v3 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  have e0 : (((win0_3.blk t).view.emb y : S4096x1024.Idx) 0).val = 1024 * (t.val) + (y 0).val := by blk_simp [idx t]; try omega
  have e1 : (((win0_3.blk t).view.emb y : S4096x1024.Idx) 1).val = (y 1).val := by blk_simp [idx t]; try omega
  refine (block _ _ _ (fun r k => at2 (M := 4096) (K := 256) (m ((c : Thread nD τ).loc main_arg2)) (1024 * (t.val) + r) k)
    (fun r k => at2 (M := 1024) (K := 256) (m ((c : Thread nD τ).loc main_arg1)) r k) (iblk0 m c t) (iblk1 m c t) y).trans ?_
  rw [iblk2]
  refine Eq.trans ?_ (Cert.RefInDtDxIdeal.Read.val_main_v3_apply (F := Ideal) _ _ _ _).symm
  refine congrArg₂ (fun p q : EReal => p + q) (at2_eq _ _ _ _ e0 e1).symm ?_
  refine Eq.trans ?_ (Cert.RefInDtDxIdeal.Read.val_main_v2_apply _ _ _).symm
  refine Finset.sum_congr rfl fun k _ => congrArg₂ _ (at2_eq _ _ _ _ ?_ ?_).symm (at2_eq _ _ _ _ ?_ ?_).symm
  exacts [e0, rfl, e1, rfl]

end Cert.InDtDxIdeal.Prod

namespace Cert.InDtDxIdeal

open Idealize.ShloMosaic Idealize.SL.Sem

/-- The reference's run terminates, keeps its arguments and leaves every semaphore at zero. -/
theorem frame_reference : Cert.quiescent_RefInDtDxIdeal := fun m ρ _ =>
  (θ_run Cert.RefInDtDxIdeal.defs _ _).mono
    (fun r h => ⟨fun c => (h c).2, Idealize.ShloMosaic.sem_eq_zero_of_no_sems (by decide) r.2⟩)
    (Cert.RefInDtDxIdeal.Value.run (F := Ideal) m ρ)

/-- The reference's result is the kernel's. -/
theorem algebraic : Cert.algebraic_InDtDxIdeal_RefInDtDxIdeal := by
  intro m ρ m' ρ' _ hagree
  refine ⟨_, Cert.InDtDxIdeal.Value.run_blocks (F := Ideal) m ρ, ?_⟩
  refine (θ_run Cert.RefInDtDxIdeal.defs _ _).mono (fun _ h c => ⟨(h c).1.trans ?_, (h c).2⟩) (Cert.RefInDtDxIdeal.Value.run (F := Ideal) m' ρ')
  obtain ⟨a0, a1, a2⟩ := hagree c
  rw [a0, a1, a2]
  exact (Cert.RefInDtDxIdeal.Read.val_main_v3_eq (F := Ideal) _ _ _).trans (Prod.fin m c).symm

end Cert.InDtDxIdeal
-- ==== Proof.InDtFwd.lean ====
module

public import proofs.«01_k».proof.Defs
public import proofs.«01_k».proof.Proof.Mat
public import Idealize.ShloMosaic.Lib.Pipeline.ValueKit
public import Idealize.ShloMosaic.Lib.Pointwise
public import Idealize.ShloMosaic.PureOps.Ideal.Laws
public import proofs.«01_k».proof.Proof.Gen.InDtFwd
public import proofs.«01_k».proof.Proof.Gen.InDtFwd.Skeleton
public import proofs.«01_k».proof.Proof.Gen.InDtFwd.Launch
public import proofs.«01_k».proof.Proof.Gen.InDtFwd.Points
public import proofs.«01_k».proof.Proof.Gen.InDtFwd.Frame
public import proofs.«01_k».proof.Proof.Gen.InDtFwdIdeal
public import proofs.«01_k».proof.Proof.Gen.InDtFwdIdeal.Skeleton
public import proofs.«01_k».proof.Proof.Gen.InDtFwdIdeal.Launch
public import proofs.«01_k».proof.Proof.Gen.InDtFwdIdeal.Points
public import proofs.«01_k».proof.Proof.Gen.InDtFwdIdeal.Frame
public import proofs.«01_k».proof.Proof.Gen.InDtFwdIdeal.Value
public import proofs.«01_k».proof.Proof.Gen.RefInDtFwdIdeal
public import proofs.«01_k».proof.Proof.Gen.RefInDtFwdIdeal.Run
public import proofs.«01_k».proof.Proof.Gen.RefInDtFwdIdeal.Read

/-! The input projection's columns of step sizes: the kernel's result array is the reference's product. -/

@[expose] public section

set_option maxRecDepth 16384

namespace Cert.InDtFwdIdeal.Prod

open Cert.InDtFwdIdeal Cert.InDtFwdIdeal.Gen Idealize.ShloMosaic Idealize.ShloMosaic.TcCoe Idealize.SL.Sem Cert.Mat

variable (m : (ℓ : Loc nD τ sig) → Buf (Elt Ideal) ℓ) (c : Dev nD)

/-- The blocks that a grid point takes and gives. -/
theorem idx : ∀ t : Fin cfg0.N, win0_0.index t = ![t.val, 0] ∧ win0_1.index t = ![0, 0] ∧ win0_2.index t = ![t.val, 0] :=
  (by decide +kernel : ∀ t : Fin grid0.N, _)

/-- A block of the result is the product of the two blocks. -/
theorem block (a : FVec Ideal S1024x1024 .bf16) (b : FVec Ideal S1024x256 .bf16) (A B : ℕ → ℕ → EReal)
    (ha : ∀ y : S1024x1024.Idx, (a y : EReal) = A (y 0).val (y 1).val) (hb : ∀ y : S1024x256.Idx, (b y : EReal) = B (y 0).val (y 1).val) (y : S1024x256.Idx) :
    (out0_2 (F := Ideal) a b y : EReal) = ∑ k : Fin 1024, A (y 0).val k.val * B k.val (y 1).val := by
  unfold out0_2
  rw [View.canon_unit_zero (by funext a; fin_cases a <;> rfl), View.ld_unit_zero (by funext a; fin_cases a <;> rfl),
    View.ld_unit_zero (by funext a; fin_cases a <;> rfl)]
  pointwise [k0_pay1]
  exact Finset.sum_congr rfl fun k _ => congrArg₂ _ (ha _) (hb _)

/-- The input's block. -/
theorem iblk0 (t : Fin cfg0.N) (y : S1024x1024.Idx) : (iblk m c 0 t y : EReal)
    = at2 (M := 4096) (K := 1024) (m ((c : Thread nD τ).loc main_arg0)) (1024 * t.val + (y 0).val) (y 1).val := by
  blk_simp [iblk]
  entry_read
  pointwise
  refine at2_eq _ _ _ _ ?_ ?_
  all_goals (blk_simp [idx t]; try omega)

/-- The weights' block. -/
theorem iblk1 (t : Fin cfg0.N) (y : S1024x256.Idx) : (iblk m c 1 t y : EReal)
    = at2 (M := 1024) (K := 256) (m ((c : Thread nD τ).loc main_arg1)) (y 0).val (y 1).val := by
  blk_simp [iblk]
  entry_read
  pointwise
  refine at2_eq _ _ _ _ ?_ ?_
  all_goals (blk_simp [idx t]; try omega)

/-- The result array is the reference's product. -/
theorem fin : ((dats m 0 c).arrAt 2 cfg0.N : S4096x256.Idx → EReal)
    = Cert.RefInDtFwdIdeal.Read.val_main_v0 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  have e0 : (((win0_2.blk t).view.emb y : S4096x256.Idx) 0).val = 1024 * t.val + (y 0).val := by blk_simp [idx t]; try omega
  have e1 : (((win0_2.blk t).view.emb y : S4096x256.Idx) 1).val = (y 1).val := by blk_simp [idx t]; try omega
  refine (block _ _ (fun r k => at2 (M := 4096) (K := 1024) (m ((c : Thread nD τ).loc main_arg0)) (1024 * t.val + r) k)
    (fun r k => at2 (M := 1024) (K := 256) (m ((c : Thread nD τ).loc main_arg1)) r k) (iblk0 m c t) (iblk1 m c t) y).trans ?_
  refine Eq.trans ?_ (Cert.RefInDtFwdIdeal.Read.val_main_v0_apply _ _ _).symm
  refine Finset.sum_congr rfl fun k _ => congrArg₂ _ (at2_eq _ _ _ _ ?_ ?_).symm (at2_eq _ _ _ _ ?_ ?_).symm
  exacts [e0, rfl, rfl, e1]

end Cert.InDtFwdIdeal.Prod

namespace Cert.InDtFwdIdeal

open Idealize.ShloMosaic Idealize.SL.Sem

/-- The reference's run terminates, keeps its arguments and leaves every semaphore at zero. -/
theorem frame_reference : Cert.quiescent_RefInDtFwdIdeal := fun m ρ _ =>
  (θ_run Cert.RefInDtFwdIdeal.defs _ _).mono
    (fun r h => ⟨fun c => (h c).2, Idealize.ShloMosaic.sem_eq_zero_of_no_sems (by decide) r.2⟩)
    (Cert.RefInDtFwdIdeal.Value.run (F := Ideal) m ρ)

/-- The reference's result is the kernel's. -/
theorem algebraic : Cert.algebraic_InDtFwdIdeal_RefInDtFwdIdeal := by
  intro m ρ m' ρ' _ hagree
  refine ⟨_, Cert.InDtFwdIdeal.Value.run_blocks (F := Ideal) m ρ, ?_⟩
  refine (θ_run Cert.RefInDtFwdIdeal.defs _ _).mono (fun _ h c => ⟨(h c).1.trans ?_, (h c).2⟩) (Cert.RefInDtFwdIdeal.Value.run (F := Ideal) m' ρ')
  obtain ⟨a0, a1⟩ := hagree c
  rw [a0, a1]
  exact (Cert.RefInDtFwdIdeal.Read.val_main_v0_eq (F := Ideal) _ _).trans (Prod.fin m c).symm

end Cert.InDtFwdIdeal
-- ==== Proof.InFwd.lean ====
module

public import proofs.«01_k».proof.Defs
public import proofs.«01_k».proof.Proof.Mat
public import Idealize.ShloMosaic.Lib.Pipeline.ValueKit
public import Idealize.ShloMosaic.Lib.Pointwise
public import Idealize.ShloMosaic.PureOps.Ideal.Laws
public import proofs.«01_k».proof.Proof.Gen.InFwd
public import proofs.«01_k».proof.Proof.Gen.InFwd.Skeleton
public import proofs.«01_k».proof.Proof.Gen.InFwd.Launch
public import proofs.«01_k».proof.Proof.Gen.InFwd.Points
public import proofs.«01_k».proof.Proof.Gen.InFwd.Frame
public import proofs.«01_k».proof.Proof.Gen.InFwdIdeal
public import proofs.«01_k».proof.Proof.Gen.InFwdIdeal.Skeleton
public import proofs.«01_k».proof.Proof.Gen.InFwdIdeal.Launch
public import proofs.«01_k».proof.Proof.Gen.InFwdIdeal.Points
public import proofs.«01_k».proof.Proof.Gen.InFwdIdeal.Frame
public import proofs.«01_k».proof.Proof.Gen.InFwdIdeal.Value
public import proofs.«01_k».proof.Proof.Gen.RefInFwdIdeal
public import proofs.«01_k».proof.Proof.Gen.RefInFwdIdeal.Run
public import proofs.«01_k».proof.Proof.Gen.RefInFwdIdeal.Read

/-! The input projection: the kernel's result array is the reference's product. -/

@[expose] public section

set_option maxRecDepth 16384

namespace Cert.InFwdIdeal.Prod

open Cert.InFwdIdeal Cert.InFwdIdeal.Gen Idealize.ShloMosaic Idealize.ShloMosaic.TcCoe Idealize.SL.Sem Cert.Mat

variable (m : (ℓ : Loc nD τ sig) → Buf (Elt Ideal) ℓ) (c : Dev nD)

/-- The blocks that a grid point takes and gives. -/
theorem idx : ∀ t : Fin cfg0.N, win0_0.index t = ![t.val / 3, 0] ∧ win0_1.index t = ![0, t.val % 3] ∧ win0_2.index t = ![t.val / 3, t.val % 3] :=
  (by decide +kernel : ∀ t : Fin grid0.N, _)

/-- A block of the result is the product of the two blocks. -/
theorem block (a : FVec Ideal S1024x1024 .bf16) (b : FVec Ideal S1024x1536 .bf16) (A B : ℕ → ℕ → EReal)
    (ha : ∀ y : S1024x1024.Idx, (a y : EReal) = A (y 0).val (y 1).val) (hb : ∀ y : S1024x1536.Idx, (b y : EReal) = B (y 0).val (y 1).val) (y : S1024x1536.Idx) :
    (out0_2 (F := Ideal) a b y : EReal) = ∑ k : Fin 1024, A (y 0).val k.val * B k.val (y 1).val := by
  unfold out0_2
  rw [View.canon_unit_zero (by funext a; fin_cases a <;> rfl), View.ld_unit_zero (by funext a; fin_cases a <;> rfl),
    View.ld_unit_zero (by funext a; fin_cases a <;> rfl)]
  pointwise [k0_pay1]
  exact Finset.sum_congr rfl fun k _ => congrArg₂ _ (ha _) (hb _)

/-- The input's block. -/
theorem iblk0 (t : Fin cfg0.N) (y : S1024x1024.Idx) : (iblk m c 0 t y : EReal)
    = at2 (M := 4096) (K := 1024) (m ((c : Thread nD τ).loc main_arg0)) (1024 * (t.val / 3) + (y 0).val) (y 1).val := by
  blk_simp [iblk]
  entry_read
  pointwise
  refine at2_eq _ _ _ _ ?_ ?_
  all_goals (blk_simp [idx t]; try omega)

/-- The weights' block. -/
theorem iblk1 (t : Fin cfg0.N) (y : S1024x1536.Idx) : (iblk m c 1 t y : EReal)
    = at2 (M := 1024) (K := 4608) (m ((c : Thread nD τ).loc main_arg1)) (y 0).val (1536 * (t.val % 3) + (y 1).val) := by
  blk_simp [iblk]
  entry_read
  pointwise
  refine at2_eq _ _ _ _ ?_ ?_
  all_goals (blk_simp [idx t]; try omega)

/-- The result array is the reference's product. -/
theorem fin : ((dats m 0 c).arrAt 2 cfg0.N : S4096x4608.Idx → EReal)
    = Cert.RefInFwdIdeal.Read.val_main_v0 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  have e0 : (((win0_2.blk t).view.emb y : S4096x4608.Idx) 0).val = 1024 * (t.val / 3) + (y 0).val := by blk_simp [idx t]; try omega
  have e1 : (((win0_2.blk t).view.emb y : S4096x4608.Idx) 1).val = 1536 * (t.val % 3) + (y 1).val := by blk_simp [idx t]; try omega
  refine (block _ _ (fun r k => at2 (M := 4096) (K := 1024) (m ((c : Thread nD τ).loc main_arg0)) (1024 * (t.val / 3) + r) k)
    (fun r k => at2 (M := 1024) (K := 4608) (m ((c : Thread nD τ).loc main_arg1)) r (1536 * (t.val % 3) + k)) (iblk0 m c t) (iblk1 m c t) y).trans ?_
  refine Eq.trans ?_ (Cert.RefInFwdIdeal.Read.val_main_v0_apply _ _ _).symm
  refine Finset.sum_congr rfl fun k _ => congrArg₂ _ (at2_eq _ _ _ _ ?_ ?_).symm (at2_eq _ _ _ _ ?_ ?_).symm
  exacts [e0, rfl, rfl, e1]

end Cert.InFwdIdeal.Prod

namespace Cert.InFwdIdeal

open Idealize.ShloMosaic Idealize.SL.Sem

/-- The reference's run terminates, keeps its arguments and leaves every semaphore at zero. -/
theorem frame_reference : Cert.quiescent_RefInFwdIdeal := fun m ρ _ =>
  (θ_run Cert.RefInFwdIdeal.defs _ _).mono
    (fun r h => ⟨fun c => (h c).2, Idealize.ShloMosaic.sem_eq_zero_of_no_sems (by decide) r.2⟩)
    (Cert.RefInFwdIdeal.Value.run (F := Ideal) m ρ)

/-- The reference's result is the kernel's. -/
theorem algebraic : Cert.algebraic_InFwdIdeal_RefInFwdIdeal := by
  intro m ρ m' ρ' _ hagree
  refine ⟨_, Cert.InFwdIdeal.Value.run_blocks (F := Ideal) m ρ, ?_⟩
  refine (θ_run Cert.RefInFwdIdeal.defs _ _).mono (fun _ h c => ⟨(h c).1.trans ?_, (h c).2⟩) (Cert.RefInFwdIdeal.Value.run (F := Ideal) m' ρ')
  obtain ⟨a0, a1⟩ := hagree c
  rw [a0, a1]
  exact (Cert.RefInFwdIdeal.Read.val_main_v0_eq (F := Ideal) _ _).trans (Prod.fin m c).symm

end Cert.InFwdIdeal
-- ==== Proof.Row.lean ====
module

public import proofs.«01_k».proof.Proof.Mat
public import proofs.«01_k».proof.Proof.Up

/-! The gradient of a row's root-mean-square normalisation over the extended reals, and sums over rows block by block. -/

@[expose] public section

namespace Cert.Row

open Idealize.ShloMosaic

/-- The mean square of a row of `n` numbers with the small constant; `w` stands for `n`. -/
noncomputable def ms (n : ℕ) (w : EReal) (x : ℕ → EReal) : EReal :=
  Ideal.div (∑ k : Fin n, x k.val * x k.val) w + Ideal.ofBits .f32 0x3727C5AC#32
/-- Its inverse root. -/
noncomputable def rs (n : ℕ) (w : EReal) (x : ℕ → EReal) : EReal := Ideal.rsqrt (ms n w x)
/-- The gradient of the row's mean square, from the scale `g` and the incoming gradient `d`. -/
noncomputable def co (n : ℕ) (w : EReal) (x g d : ℕ → EReal) : EReal :=
  Ideal.div ((∑ k : Fin n, x k.val * (d k.val * g k.val)) * (Ideal.ofBits .f32 0xBF000000#32 * Ideal.div (rs n w x) (ms n w x))) w
/-- The gradient of a row's entry. -/
noncomputable def dx (n : ℕ) (w : EReal) (x g d : ℕ → EReal) (q : ℕ) : EReal := d q * g q * rs n w x + x q * co n w x g d + co n w x g d * x q
/-- A row's part of the scale's gradient. -/
noncomputable def dg (n : ℕ) (w : EReal) (x d : ℕ → EReal) (q : ℕ) : EReal := x q * rs n w x * d q

/-- A vector's entry at a number (its remainder by the length). -/
noncomputable def at1 {N : ℕ} [NeZero N] (g : (⟨1, ![N]⟩ : Shape).Idx → EReal) (q : ℕ) : EReal := g (ValueIdx.ix1 (Fin.ofNat N q))

/-- A vector's entry, at the number that its index stands for. -/
theorem at1_eq {N : ℕ} [NeZero N] (g : (⟨1, ![N]⟩ : Shape).Idx → EReal) (i : (⟨1, ![N]⟩ : Shape).Idx) (q : ℕ) (h : (i 0).val = q) : g i = at1 g q := by
  subst h
  refine congrArg g (funext fun a => Fin.ext ?_)
  fin_cases a
  exact (Nat.mod_eq_of_lt (i 0).isLt).symm

/-- A sum over 4096 rows, block by block. -/
theorem sum_blocks (f : ℕ → EReal) : ∑ r : Fin 4096, f r.val = ∑ k ∈ Finset.range 8, ∑ r : Fin 512, f (512 * k + r.val) := by
  rw [Fin.sum_univ_tiles 8 512 (by norm_num), Finset.sum_range]
  refine Finset.sum_congr rfl fun k _ => Finset.sum_congr rfl fun r _ => ?_
  show f (k.val * 512 + r.val) = _
  rw [Nat.mul_comm]

/-- The zero that a reference's sums start from. -/
theorem zero_lit : (FloatOps.ofBits (F := Ideal) .f32 0x00000000#32 : EReal) = 0 := Cert.Up.lit_zero.trans EReal.coe_zero

end Cert.Row
-- ==== Proof.GateBwd.lean ====
module

public import proofs.«01_k».proof.Defs
public import proofs.«01_k».proof.Proof.Row
public import Idealize.ShloMosaic.Lib.Pipeline.ValueKit
public import Idealize.ShloMosaic.Lib.Pointwise
public import Idealize.ShloMosaic.PureOps.Ideal.Laws
public import proofs.«01_k».proof.Proof.Gen.GateBwd
public import proofs.«01_k».proof.Proof.Gen.GateBwd.Skeleton
public import proofs.«01_k».proof.Proof.Gen.GateBwd.Launch
public import proofs.«01_k».proof.Proof.Gen.GateBwd.Points
public import proofs.«01_k».proof.Proof.Gen.GateBwd.Frame
public import proofs.«01_k».proof.Proof.Gen.GateBwdIdeal
public import proofs.«01_k».proof.Proof.Gen.GateBwdIdeal.Skeleton
public import proofs.«01_k».proof.Proof.Gen.GateBwdIdeal.Launch
public import proofs.«01_k».proof.Proof.Gen.GateBwdIdeal.Points
public import proofs.«01_k».proof.Proof.Gen.GateBwdIdeal.Frame
public import proofs.«01_k».proof.Proof.Gen.GateBwdIdeal.Value
public import proofs.«01_k».proof.Proof.Gen.RefGateBwdIdeal
public import proofs.«01_k».proof.Proof.Gen.RefGateBwdIdeal.Run
public import proofs.«01_k».proof.Proof.Gen.RefGateBwdIdeal.Read

/-! The gradient of the gated normalisation: the kernel's five result arrays are the reference's. -/

@[expose] public section

set_option maxRecDepth 16384

namespace Cert.GateBwdIdeal.Gate

open Idealize.ShloMosaic Cert.Mat Cert.Row Cert.Up

/-- A group's length. -/
noncomputable abbrev len : EReal := Ideal.ofBits .f32 0x44000000#32
/-- The logistic function. -/
noncomputable def sg (z : EReal) : EReal := Ideal.div 1 (1 + Ideal.exp (-z))
/-- The gate: a number times its logistic. -/
noncomputable def si (z : EReal) : EReal := z * sg z
/-- The gate's gradient. -/
noncomputable def dsi (w z : EReal) : EReal := w * sg z + z * w * (sg z * (1 - sg z))

/-- The logistic's derivative in its two forms, at infinities too. -/
theorem dsg (z : EReal) : Ideal.div 1 ((1 + Ideal.exp (-z)) * (1 + Ideal.exp (-z))) * Ideal.exp (-z) = sg z * (1 - sg z) := by
  unfold sg
  induction z using EReal.rec with
  | bot =>
    have e : Ideal.exp (-(⊥ : EReal)) = ⊤ := by rw [EReal.neg_bot]; rfl
    have i : Ideal.div 1 (⊤ : EReal) = 0 := by rw [Ideal.div, if_neg EReal.top_ne_zero, EReal.inv_top, mul_zero]
    have s : (1 : EReal) + ⊤ = ⊤ := by rw [← EReal.coe_one, EReal.coe_add_top]
    rw [e, s, EReal.top_mul_top, i, zero_mul, zero_mul]
  | top =>
    have e : Ideal.exp (-(⊤ : EReal)) = 0 := by rw [EReal.neg_top]; rfl
    have i : Ideal.div 1 (1 : EReal) = 1 := by rw [← EReal.coe_one, div_real _ _ one_ne_zero, div_one]
    have s : (1 : EReal) - 1 = 0 := by rw [← EReal.coe_one, ← EReal.coe_sub, sub_self, EReal.coe_zero]
    rw [e, add_zero, mul_one, i, mul_zero, s, mul_zero]
  | coe x =>
    have h : (1 : ℝ) + Real.exp (-x) ≠ 0 := (add_pos one_pos (Real.exp_pos _)).ne'
    rw [← EReal.coe_neg, Ideal.exp_coe, ← EReal.coe_one, ← EReal.coe_add, ← EReal.coe_mul, div_real _ _ (mul_ne_zero h h), div_real _ _ h,
      ← EReal.coe_mul, ← EReal.coe_sub, ← EReal.coe_mul]
    congr 1
    field_simp
    ring

/-- The gate's gradient as the kernel takes it. -/
theorem dsi_eq (w z : EReal) : w * sg z + (0 - (0 - z * w * Ideal.div 1 ((1 + Ideal.exp (-z)) * (1 + Ideal.exp (-z)))) * Ideal.exp (-z)) = dsi w z := by
  rw [zero_sub (z * w * _), neg_mul, zero_sub, neg_neg, mul_assoc (z * w), dsg]
  rfl

/-- The arguments: the scan's result, the activations, the projection, the skip, the scale and the incoming gradient. -/
structure Args where
  y : (⟨2, ![4096, 1024]⟩ : Shape).Idx → EReal
  xb : (⟨2, ![4096, 1536]⟩ : Shape).Idx → EReal
  p : (⟨2, ![4096, 4608]⟩ : Shape).Idx → EReal
  s : (⟨1, ![16]⟩ : Shape).Idx → EReal
  g : (⟨1, ![1024]⟩ : Shape).Idx → EReal
  d : (⟨2, ![4096, 2048]⟩ : Shape).Idx → EReal

variable (A : Args)

/-- The activations' entry at two numbers. -/
noncomputable def xs (r q : ℕ) : EReal := at2 (M := 4096) (K := 1536) A.xb r q
/-- The gate's argument. -/
noncomputable def zz (r q : ℕ) : EReal := at2 (M := 4096) (K := 4608) A.p r (2048 + q)
/-- The incoming gradient. -/
noncomputable def ct (r q : ℕ) : EReal := at2 (M := 4096) (K := 2048) A.d r (1024 + q)
/-- The skip of a column's head. -/
noncomputable def sk (q : ℕ) : EReal := at1 (N := 16) A.s (q / 64)
/-- The scan's result with the skip, -/
noncomputable def pre (r q : ℕ) : EReal := at2 (M := 4096) (K := 1024) A.y r q + sk A q * xs A r q
/-- gated. -/
noncomputable def vv (r q : ℕ) : EReal := pre A r q * si (zz A r q)
/-- Its gradient through the normalisation of the column's group. -/
noncomputable def dv (r q : ℕ) : EReal :=
  dx 512 len (fun k => vv A r (512 * (q / 512) + k)) (fun k => at1 (N := 1024) A.g (512 * (q / 512) + k)) (fun k => ct A r (512 * (q / 512) + k)) (q % 512)
/-- The gradient of the scan's result, -/
noncomputable def dy (r q : ℕ) : EReal := dv A r q * si (zz A r q)
/-- of the activations, -/
noncomputable def dxs (r q : ℕ) : EReal := sk A q * dy A r q
/-- of the gate's argument, -/
noncomputable def dz (r q : ℕ) : EReal := dsi (pre A r q * dv A r q) (zz A r q)
/-- a row's part of the skip's, -/
noncomputable def dsk (r q : ℕ) : EReal := dy A r q * xs A r q
/-- and of the scale's. -/
noncomputable def dgg (r q : ℕ) : EReal :=
  dg 512 len (fun k => vv A r (512 * (q / 512) + k)) (fun k => ct A r (512 * (q / 512) + k)) (q % 512)

end Cert.GateBwdIdeal.Gate

namespace Cert.GateBwdIdeal.Gate

open Cert.RefGateBwdIdeal Cert.RefGateBwdIdeal.Gen Cert.RefGateBwdIdeal.Read Idealize.ShloMosaic Idealize.ShloMosaic.TcCoe Cert.Mat Cert.Row

variable (A : Args)

/-! The rows and columns that the reference's indices stand for. -/

/-- [2, 2048, 1024]: row. -/
abbrev r3 (i : S2x2048x1024.Idx) : ℕ := 2048 * (i 0).val + (i 1).val
/-- [2, 2048, 16, 64]: row, -/
abbrev rh (i : S2x2048x16x64.Idx) : ℕ := 2048 * (i 0).val + (i 1).val
/-- and column. -/
abbrev ch (i : S2x2048x16x64.Idx) : ℕ := 64 * (i 2).val + (i 3).val
/-- [2, 2048, 2, 512]: row, -/
abbrev rg (i : S2x2048x2x512.Idx) : ℕ := 2048 * (i 0).val + (i 1).val
/-- and column. -/
abbrev cg (i : S2x2048x2x512.Idx) : ℕ := 512 * (i 2).val + (i 3).val
/-- [2, 2048, 2, 1]: row. -/
abbrev rk (i : S2x2048x2x1.Idx) : ℕ := 2048 * (i 0).val + (i 1).val
/-- [2, 2048, 2]: row. -/
abbrev rj (i : S2x2048x2.Idx) : ℕ := 2048 * (i 0).val + (i 1).val

/-- The extents. -/
theorem b3 (i : S2x2048x1024.Idx) : (i 0).val < 2 ∧ (i 1).val < 2048 ∧ (i 2).val < 1024 := ⟨(i 0).isLt, (i 1).isLt, (i 2).isLt⟩
theorem bh (i : S2x2048x16x64.Idx) : (i 0).val < 2 ∧ (i 1).val < 2048 ∧ (i 2).val < 16 ∧ (i 3).val < 64 := ⟨(i 0).isLt, (i 1).isLt, (i 2).isLt, (i 3).isLt⟩
theorem bg (i : S2x2048x2x512.Idx) : (i 0).val < 2 ∧ (i 1).val < 2048 ∧ (i 2).val < 2 ∧ (i 3).val < 512 := ⟨(i 0).isLt, (i 1).isLt, (i 2).isLt, (i 3).isLt⟩
theorem bk (i : S2x2048x2x1.Idx) : (i 0).val < 2 ∧ (i 1).val < 2048 ∧ (i 2).val < 2 ∧ (i 3).val < 1 := ⟨(i 0).isLt, (i 1).isLt, (i 2).isLt, (i 3).isLt⟩
theorem b2 (i : S4096x1024.Idx) : (i 0).val < 4096 ∧ (i 1).val < 1024 := ⟨(i 0).isLt, (i 1).isLt⟩

/-- The one that the logistic starts from. -/
theorem one_lit : (FloatOps.ofBits (F := Ideal) .f32 0x3F800000#32 : EReal) = 1 := Cert.Up.lit_one.trans EReal.coe_one

/-- The activations by heads. -/
theorem l7 (i : S2x2048x16x64.Idx) : (val_main_v7 (F := Ideal) A.xb i : EReal) = xs A (rh i) (ch i) := by
  rw [val_main_v7_apply, val_main_v0_apply]
  have := bh i
  refine at2_eq _ _ _ _ ?_ ?_
  all_goals (dsimp only [r3, rh, ch]; omega)

/-- The skip by heads. -/
theorem l8 (i : S1x1x16x64.Idx) : (val_main_v8 (F := Ideal) A.s i : EReal) = at1 (N := 16) A.s (i 2).val := by
  rw [val_main_v8_apply, val_main_v5_apply, val_main_v4_apply]
  exact at1_eq _ _ _ rfl

/-- The scan's result with the skip. -/
theorem l11 (i : S2x2048x16x64.Idx) : (val_main_v11 (F := Ideal) A.y A.xb A.s i : EReal) = pre A (rh i) (ch i) := by
  rw [val_main_v11_apply, val_main_v10_apply, val_main_v9_apply, l8, l7, val_main_v6_apply]
  have := bh i
  refine congrArg₂ (fun a b : EReal => a + b * _) (at2_eq _ _ _ _ ?_ ?_) (congrArg (at1 (N := 16) A.s) ?_)
  all_goals (dsimp only [r3, rh, ch]; omega)
theorem l12 (i : S2x2048x1024.Idx) : (val_main_v12 (F := Ideal) A.y A.xb A.s i : EReal) = pre A (r3 i) (i 2).val := by
  rw [val_main_v12_apply, l11]
  have := b3 i
  refine congrArg₂ (pre A) ?_ ?_
  all_goals (dsimp only [rh, ch, r3]; omega)

/-- The gate's argument. -/
theorem l13 (i : S2x2048x1024.Idx) : (val_main_v13 (F := Ideal) A.p i : EReal) = zz A (r3 i) (i 2).val := by
  rw [val_main_v13_apply, val_main_v1_apply]
  have := b3 i
  refine at2_eq _ _ _ _ ?_ ?_
  all_goals (dsimp only [r3, rh, ch]; omega)
/-- Its logistic, -/
theorem lsg (i : S2x2048x1024.Idx) : (val_main_v14_2 (F := Ideal) A.p i : EReal) = sg (zz A (r3 i) (i 2).val) := by
  rw [val_main_v14_2_apply, val_main_call0_v4_apply, val_main_call0_cst_0_apply, val_main_call0_v3_apply, val_main_call0_v2_apply,
    val_main_call0_cst_apply, val_main_call0_v1_apply, val_main_call0_v0_apply, l13, one_lit]
  rfl
/-- its derivative, -/
theorem lds (i : S2x2048x1024.Idx) : (val_main_v14_1 (F := Ideal) A.p i : EReal) = sg (zz A (r3 i) (i 2).val) * (1 - sg (zz A (r3 i) (i 2).val)) := by
  rw [val_main_v14_1_apply, val_main_call0_v7_apply, val_main_call0_v6_apply, val_main_call0_cst_1_apply, lsg, one_lit]
  rfl
/-- and the gate. -/
theorem lsi (i : S2x2048x1024.Idx) : (val_main_v14_0 (F := Ideal) A.p i : EReal) = si (zz A (r3 i) (i 2).val) := by
  rw [val_main_v14_0_apply, lsg, l13]
  rfl

/-- The gated rows by groups. -/
theorem l16 (i : S2x2048x2x512.Idx) : (val_main_v16 (F := Ideal) A.y A.xb A.p A.s i : EReal) = vv A (rg i) (cg i) := by
  rw [val_main_v16_apply, val_main_v15_apply, l12, lsi]
  have := bg i
  refine congrArg₂ (vv A) ?_ ?_
  all_goals (dsimp only [r3, rg, cg]; omega)

/-- The group's mean square. -/
theorem l23 (i : S2x2048x2x1.Idx) : (val_main_v23 (F := Ideal) A.y A.xb A.p A.s i : EReal) = ms 512 len fun k => vv A (rk i) (512 * (i 2).val + k) := by
  rw [val_main_v23_apply, val_main_v22_apply, val_main_cst_1_apply, val_main_v21_apply, val_main_v20_apply, val_main_cst_0_apply, val_main_v19_apply,
    val_main_v18_apply, val_main_cst_apply, zero_lit, zero_add]
  refine congrArg (fun z : EReal => Ideal.div z len + Ideal.ofBits .f32 0x3727C5AC#32) ?_
  refine Finset.sum_congr rfl fun k _ => ?_
  rw [val_main_v17_apply, l16]
  rfl
theorem l24 (i : S2x2048x2x1.Idx) : (val_main_v24 (F := Ideal) A.y A.xb A.p A.s i : EReal) = rs 512 len fun k => vv A (rk i) (512 * (i 2).val + k) := by
  rw [val_main_v24_apply, l23]
  rfl

/-- The incoming gradient. -/
theorem l3 (i : S2x2048x1024.Idx) : (val_main_v3 (F := Ideal) A.d i : EReal) = ct A (r3 i) (i 2).val := by
  rw [val_main_v3_apply, val_main_v2_apply]
  have := b3 i
  refine at2_eq _ _ _ _ ?_ ?_
  all_goals (dsimp only [r3, rh, ch]; omega)
/-- Times the scale, by groups. -/
theorem l40 (i : S2x2048x2x512.Idx) : (val_main_v40 (F := Ideal) A.g A.d i : EReal) = ct A (rg i) (cg i) * at1 (N := 1024) A.g (cg i) := by
  rw [val_main_v40_apply, val_main_v38_apply, l3, val_main_v37_apply, val_main_v31_apply]
  have := bg i
  refine congrArg₂ (fun a b : EReal => a * b) (congrArg₂ (ct A) ?_ ?_) (at1_eq _ _ _ ?_)
  all_goals (dsimp only [r3, rg, cg]; omega)

/-- The gradient of the group's mean square. -/
theorem l50 (i : S2x2048x2x512.Idx) : (val_main_v50 (F := Ideal) A.y A.xb A.p A.s A.g A.d i : EReal)
    = co 512 len (fun k => vv A (rg i) (512 * (i 2).val + k)) (fun k => at1 (N := 1024) A.g (512 * (i 2).val + k)) (fun k => ct A (rg i) (512 * (i 2).val + k)) := by
  rw [val_main_v50_apply, val_main_v49_apply, val_main_cst_7_apply, zero_lit, zero_add, Fin.sum_univ_one,
    val_main_v48_apply, val_main_v47_apply, val_main_cst_6_apply, val_main_v46_apply, val_main_v27_apply, val_main_v26_apply, val_main_cst_2_apply,
    val_main_v25_apply, l24, l23, val_main_v43_apply, val_main_v42_apply, val_main_cst_5_apply, zero_lit, zero_add]
  refine congrArg (fun z : EReal => Ideal.div (z * (Ideal.ofBits .f32 0xBF000000#32 * Ideal.div (rs 512 len fun k => vv A (rg i) (512 * (i 2).val + k))
    (ms 512 len fun k => vv A (rg i) (512 * (i 2).val + k)))) len) ?_
  refine Finset.sum_congr rfl fun k _ => ?_
  rw [val_main_v41_apply, l16, l40]
  have := bg i
  have e0 : rg (idx_main_v42 (idx_main_v43 (idx_main_v49 (idx_main_v50 i) 0)) k) = rg i := by
    dsimp only [rg]; omega
  have e1 : cg (idx_main_v42 (idx_main_v43 (idx_main_v49 (idx_main_v50 i) 0)) k) = 512 * (i 2).val + k.val := by
    dsimp only [cg]; omega
  rw [e0, e1]
  rfl

/-- The gradient through the normalisation, by groups. -/
theorem l54 (i : S2x2048x2x512.Idx) : (val_main_v54 (F := Ideal) A.y A.xb A.p A.s A.g A.d i : EReal) = dv A (rg i) (cg i) := by
  rw [val_main_v54_apply, val_main_v53_apply, val_main_v52_apply, val_main_v51_apply, val_main_v45_apply, val_main_v44_apply, l50, l24, l40, l16]
  have := bg i
  have e0 : cg i / 512 = (i 2).val := by dsimp only [cg]; omega
  have e1 : cg i % 512 = (i 3).val := by dsimp only [cg]; omega
  unfold dv
  rw [e0, e1]
  rfl
/-- The same by columns. -/
theorem l55 (i : S2x2048x1024.Idx) : (val_main_v55 (F := Ideal) A.y A.xb A.p A.s A.g A.d i : EReal) = dv A (r3 i) (i 2).val := by
  rw [val_main_v55_apply, l54]
  have := b3 i
  refine congrArg₂ (dv A) ?_ ?_
  all_goals (dsimp only [r3, rg, cg]; omega)

/-- The gradient of the scan's result by heads. -/
theorem l60 (i : S2x2048x16x64.Idx) : (val_main_v60 (F := Ideal) A.y A.xb A.p A.s A.g A.d i : EReal) = dy A (rh i) (ch i) := by
  rw [val_main_v60_apply, val_main_v57_apply, l55, lsi]
  have := bh i
  refine congrArg₂ (dy A) ?_ ?_
  all_goals (dsimp only [r3, rh, ch]; omega)

/-- The reference's first result, -/
theorem ref68 (i : S4096x1024.Idx) : (val_main_v68 (F := Ideal) A.y A.xb A.p A.s A.g A.d i : EReal) = dy A (i 0).val (i 1).val := by
  rw [val_main_v68_apply, l60]
  have := b2 i
  refine congrArg₂ (dy A) ?_ ?_
  all_goals (dsimp only [rh, ch]; omega)

/-- its second, -/
theorem ref67 (i : S4096x1024.Idx) : (val_main_v67 (F := Ideal) A.y A.xb A.p A.s A.g A.d i : EReal) = dxs A (i 0).val (i 1).val := by
  rw [val_main_v67_apply, val_main_v62_apply, val_main_v61_apply, l8, l60]
  have := b2 i
  refine congrArg₂ (fun a b : EReal => a * b) (congrArg (at1 (N := 16) A.s) ?_) (congrArg₂ (dy A) ?_ ?_)
  all_goals (dsimp only [rh, ch]; omega)

/-- its third, -/
theorem ref69 (i : S4096x1024.Idx) : (val_main_v69 (F := Ideal) A.y A.xb A.p A.s A.g A.d i : EReal) = dz A (i 0).val (i 1).val := by
  rw [val_main_v69_apply, val_main_v59_apply, val_main_v58_apply, val_main_call1_v1_apply, val_main_call1_v2_apply, val_main_call1_v0_apply, lds, lsg, l13,
    val_main_v56_apply, l12, l55]
  have := b2 i
  refine congrArg₂ (dz A) ?_ ?_
  all_goals (dsimp only [r3]; omega)

/-- The host's sum over several axes from zero, along a parametrisation of the indices it adds up. -/
theorem sum_along {s t : Shape} {axes : List (Fin s.rank)} (h : s.ReducesTo axes t) {κ : Type} [Fintype κ] (j : t.Idx)
    (f : κ → s.Idx) (hf : Function.Injective f) (hp : ∀ i, h.drop i = j ↔ ∃ k, f k = i) (X : s.Idx → EReal) :
    (Host.reduceAdd (F := Ideal) (φ := .f32) X (constant (F := Ideal) S_ .f32 0x00000000#32) h h_S_ : t.Idx → EReal) j = ∑ k, X (f k) := by
  simp only [Host.reduceAdd, Ideal.hostReduceAdd_def]
  refine (congrArg (Ideal.ofBits .f32 0x00000000#32 + ·) (Finset.sum_filter_eq_sum_of_fiber _ f hf hp _)).trans ?_
  exact (congrArg (fun z : EReal => z + _) zero_lit).trans (zero_add _)

/-- The sum over all rows of a column, -/
theorem l35 (j : S1024.Idx) : (val_main_v35 (F := Ideal) A.y A.xb A.p A.s A.d j : EReal) = ∑ r : Fin 4096, dgg A r.val (j 0).val := by
  unfold val_main_v35 val_main_cst_3
  refine (sum_along _ j (fun r : Fin 4096 => (ValueIdx.ix3 (⟨r.val / 2048, by omega⟩ : Fin 2) (⟨r.val % 2048, by omega⟩ : Fin 2048) (j 0 : Fin 1024) : S2x2048x1024.Idx)) ?_ ?_ _).trans ?_
  · intro a b e
    have h0 : a.val / 2048 = b.val / 2048 := congrArg Fin.val (congrFun e 0)
    have h1 : a.val % 2048 = b.val % 2048 := congrArg Fin.val (congrFun e 1)
    exact Fin.ext (by omega)
  · intro i
    have hb := b3 i
    constructor
    · intro e
      refine ⟨⟨2048 * (i 0).val + (i 1).val, by omega⟩, ?_⟩
      funext a; apply Fin.ext
      match a with
      | ⟨0, _⟩ => show (2048 * (i 0).val + (i 1).val) / 2048 = (i 0).val; omega
      | ⟨1, _⟩ => show (2048 * (i 0).val + (i 1).val) % 2048 = (i 1).val; omega
      | ⟨2, _⟩ => exact (congrArg Fin.val (congrFun e 0)).symm
    · rintro ⟨k, rfl⟩
      funext b; apply Fin.ext
      match b with
      | ⟨0, _⟩ => rfl
  · refine Finset.sum_congr rfl fun r _ => ?_
    rw [val_main_v34_apply, val_main_v30_apply, val_main_v29_apply, val_main_v28_apply, l24, l16, l3]
    have hj : (j 0).val < 1024 := (j 0).isLt
    have hr := r.isLt
    generalize hi : (ValueIdx.ix3 (⟨r.val / 2048, by omega⟩ : Fin 2) (⟨r.val % 2048, by omega⟩ : Fin 2048) (j 0 : Fin 1024) : S2x2048x1024.Idx) = i
    have i0 : (i 0).val = r.val / 2048 := by subst hi; rfl
    have i1 : (i 1).val = r.val % 2048 := by subst hi; rfl
    have i2 : (i 2).val = (j 0).val := by subst hi; rfl
    have e0 : rg (idx_main_v30 i) = r.val := by dsimp only [rg]; omega
    have e1 : cg (idx_main_v30 i) = 512 * ((j 0).val / 512) + (j 0).val % 512 := by dsimp only [cg]; omega
    have e2 : rk (idx_main_v28 (idx_main_v30 i)) = r.val := by dsimp only [rk]; omega
    have e3 : (idx_main_v28 (idx_main_v30 i) 2).val = (j 0).val / 512 := by dsimp only; omega
    have e4 : r3 i = r.val := by dsimp only [r3]; omega
    have e5 : (i 2).val = 512 * ((j 0).val / 512) + (j 0).val % 512 := by omega
    rw [e0, e1, e2, e3, e4, e5]
    rfl
/-- and of a head's lane. -/
theorem l64 (j : S16x64.Idx) : (val_main_v64 (F := Ideal) A.y A.xb A.p A.s A.g A.d j : EReal) = ∑ r : Fin 4096, dsk A r.val (64 * (j 0).val + (j 1).val) := by
  unfold val_main_v64 val_main_cst_8
  refine (sum_along _ j (fun r : Fin 4096 => (ValueIdx.ix4 (⟨r.val / 2048, by omega⟩ : Fin 2) (⟨r.val % 2048, by omega⟩ : Fin 2048) (j 0 : Fin 16) (j 1 : Fin 64) : S2x2048x16x64.Idx)) ?_ ?_ _).trans ?_
  · intro a b e
    have h0 : a.val / 2048 = b.val / 2048 := congrArg Fin.val (congrFun e 0)
    have h1 : a.val % 2048 = b.val % 2048 := congrArg Fin.val (congrFun e 1)
    exact Fin.ext (by omega)
  · intro i
    have hb := bh i
    constructor
    · intro e
      refine ⟨⟨2048 * (i 0).val + (i 1).val, by omega⟩, ?_⟩
      funext a; apply Fin.ext
      match a with
      | ⟨0, _⟩ => show (2048 * (i 0).val + (i 1).val) / 2048 = (i 0).val; omega
      | ⟨1, _⟩ => show (2048 * (i 0).val + (i 1).val) % 2048 = (i 1).val; omega
      | ⟨2, _⟩ => exact (congrArg Fin.val (congrFun e 0)).symm
      | ⟨3, _⟩ => exact (congrArg Fin.val (congrFun e 1)).symm
    · rintro ⟨k, rfl⟩
      funext b; apply Fin.ext
      match b with
      | ⟨0, _⟩ => rfl
      | ⟨1, _⟩ => rfl
  · refine Finset.sum_congr rfl fun r _ => ?_
    rw [val_main_v63_apply, l60, l7]
    refine congrArg (fun r : ℕ => dsk A r (64 * (j 0).val + (j 1).val)) ?_
    show 2048 * (r.val / 2048) + r.val % 2048 = r.val
    omega

/-- The scale's gradient in the reference, -/
theorem ref71 (i : S1x1024.Idx) : (val_main_v71 (F := Ideal) A.y A.xb A.p A.s A.d i : EReal) = ∑ r : Fin 4096, dgg A r.val (i 1).val := by
  rw [val_main_v71_apply]
  unfold val_main_v39 val_main_cst_4
  refine (sum_along _ _ (fun _ : Unit => (ValueIdx.ix3 (0 : Fin 1) (0 : Fin 1) (idx_main_v71 i 0 : Fin 1024) : S1x1x1024.Idx)) (fun _ _ _ => rfl) ?_ _).trans ?_
  · intro k
    have h0 : (k 0).val < 1 := (k 0).isLt
    have h1 : (k 1).val < 1 := (k 1).isLt
    constructor
    · intro e
      refine ⟨(), ?_⟩
      funext a; apply Fin.ext
      match a with
      | ⟨0, _⟩ => show 0 = (k 0).val; omega
      | ⟨1, _⟩ => show 0 = (k 1).val; omega
      | ⟨2, _⟩ => exact (congrArg Fin.val (congrFun e 0)).symm
    · rintro ⟨k, rfl⟩
      funext b; apply Fin.ext
      match b with
      | ⟨0, _⟩ => rfl
  · rw [Fintype.sum_unique, val_main_v36_apply, l35]
    have h0 : (i 0).val < 1 := (i 0).isLt
    refine Finset.sum_congr rfl fun r _ => congrArg (dgg A r.val) ?_
    show (0 * 1 + 0) * 1024 + ((i 0).val * 1024 + (i 1).val) = (i 1).val
    omega

/-- and the skip's. -/
theorem ref70 (i : S1x1024.Idx) : (val_main_v70 (F := Ideal) A.y A.xb A.p A.s A.g A.d i : EReal) = ∑ r : Fin 4096, dsk A r.val (i 1).val := by
  rw [val_main_v70_apply]
  unfold val_main_v66 val_main_cst_9
  refine (sum_along _ _ (fun _ : Unit => (ValueIdx.ix4 (0 : Fin 1) (0 : Fin 1) (idx_main_v70 i 0 : Fin 16) (idx_main_v70 i 1 : Fin 64) : S1x1x16x64.Idx)) (fun _ _ _ => rfl) ?_ _).trans ?_
  · intro k
    have h0 : (k 0).val < 1 := (k 0).isLt
    have h1 : (k 1).val < 1 := (k 1).isLt
    constructor
    · intro e
      refine ⟨(), ?_⟩
      funext a; apply Fin.ext
      match a with
      | ⟨0, _⟩ => show 0 = (k 0).val; omega
      | ⟨1, _⟩ => show 0 = (k 1).val; omega
      | ⟨2, _⟩ => exact (congrArg Fin.val (congrFun e 0)).symm
      | ⟨3, _⟩ => exact (congrArg Fin.val (congrFun e 1)).symm
    · rintro ⟨k, rfl⟩
      funext b; apply Fin.ext
      match b with
      | ⟨0, _⟩ => rfl
      | ⟨1, _⟩ => rfl
  · rw [Fintype.sum_unique, val_main_v65_apply, l64]
    have h0 : (i 0).val < 1 := (i 0).isLt
    have h1 : (i 1).val < 1024 := (i 1).isLt
    refine Finset.sum_congr rfl fun r _ => congrArg (dsk A r.val) ?_
    generalize hk : (ValueIdx.ix4 (0 : Fin 1) (0 : Fin 1) (idx_main_v70 i 0 : Fin 16) (idx_main_v70 i 1 : Fin 64) : S1x1x16x64.Idx) = k
    have k0 : (k 0).val = 0 := by subst hk; rfl
    have k1 : (k 1).val = 0 := by subst hk; rfl
    have k2 : (k 2).val = ((i 0).val * 1024 + (i 1).val) / 64 := by subst hk; rfl
    have k3 : (k 3).val = ((i 0).val * 1024 + (i 1).val) % 64 := by subst hk; rfl
    dsimp only
    omega

end Cert.GateBwdIdeal.Gate

namespace Cert.GateBwdIdeal.Gate

open Cert.GateBwdIdeal Cert.GateBwdIdeal.Gen Idealize.ShloMosaic Idealize.ShloMosaic.TcCoe Idealize.SL.Sem Cert.Mat Cert.Row

/-! A block: 512 rows of one group. -/

/-- The entries of a block's operands as functions of numbers. -/
structure Blk where
  Y : ℕ → ℕ → EReal
  X : ℕ → ℕ → EReal
  Z : ℕ → ℕ → EReal
  S : ℕ → EReal
  G : ℕ → EReal
  D : ℕ → ℕ → EReal

/-- The scan's result with the skip, -/
noncomputable def Blk.pre (B : Blk) (r q : ℕ) : EReal := B.Y r q + B.S q * B.X r q
/-- gated, -/
noncomputable def Blk.vv (B : Blk) (r q : ℕ) : EReal := B.pre r q * si (B.Z r q)
/-- its gradient, -/
noncomputable def Blk.dv (B : Blk) (r q : ℕ) : EReal := dx 512 len (B.vv r) B.G (B.D r) q
/-- and that of the scan's result. -/
noncomputable def Blk.dy (B : Blk) (r q : ℕ) : EReal := B.dv r q * si (B.Z r q)

/-- The operands have these entries. -/
structure Is (B : Blk) (y x z : FVec Ideal S512x512 .f32) (s g : FVec Ideal S1x512 .f32) (d : FVec Ideal S512x512 .f32) : Prop where
  hy : ∀ i : S512x512.Idx, (y i : EReal) = B.Y (i 0).val (i 1).val
  hx : ∀ i : S512x512.Idx, (x i : EReal) = B.X (i 0).val (i 1).val
  hz : ∀ i : S512x512.Idx, (z i : EReal) = B.Z (i 0).val (i 1).val
  hs : ∀ i : S1x512.Idx, (s i : EReal) = B.S (i 1).val
  hg : ∀ i : S1x512.Idx, (g i : EReal) = B.G (i 1).val
  hd : ∀ i : S512x512.Idx, (d i : EReal) = B.D (i 0).val (i 1).val

section Block

variable {B : Blk} {y x z : FVec Ideal S512x512 .f32} {s g : FVec Ideal S1x512 .f32} {d : FVec Ideal S512x512 .f32}

/-- The skip's sum in the kernel, -/
theorem bPre (h : Is B y x z s g d) (i : S512x512.Idx) : (k0_pay7 (F := Ideal) y x s i : EReal) = B.pre (i 0).val (i 1).val := by
  pointwise [k0_pay7, k0_pay5]
  simp only [h.hy, h.hx, h.hs]
  rfl
/-- the gate, -/
theorem bSi (h : Is B y x z s g d) (i : S512x512.Idx) : (k0_pay12 (F := Ideal) z i : EReal) = si (B.Z (i 0).val (i 1).val) := by
  pointwise [k0_pay12, k0_pay10, k0_pay9, k0_pay8]
  simp only [h.hz, zero_sub]
  rfl
/-- the gated rows, -/
theorem bV (h : Is B y x z s g d) (i : S512x512.Idx) : (k0_pay13 (F := Ideal) y x z s i : EReal) = B.vv (i 0).val (i 1).val := by
  pointwise [k0_pay13]
  simp only [bPre h, bSi h]
  rfl
/-- their mean squares -/
theorem bMs (h : Is B y x z s g d) (i : S512x1.Idx) : (k0_pay14 (F := Ideal) y x z s i : EReal) = ms 512 len (B.vv (i 0).val) := by
  pointwise [k0_pay14]
  simp only [bV h]
  rfl
/-- and inverse roots, -/
theorem bRs (h : Is B y x z s g d) (i : S512x1.Idx) : (k0_pay15 (F := Ideal) y x z s i : EReal) = rs 512 len (B.vv (i 0).val) := by
  pointwise [k0_pay15]
  rw [bMs h]
  rfl
/-- the root's gradient, -/
theorem bDr (h : Is B y x z s g d) (i : S512x1.Idx) : (k0_pay16 (F := Ideal) y x z s i : EReal)
    = Ideal.ofBits .f32 0xBF000000#32 * Ideal.div (rs 512 len (B.vv (i 0).val)) (ms 512 len (B.vv (i 0).val)) := by
  pointwise [k0_pay16]
  rw [bMs h, bRs h]
/-- and the gradient of the gated rows. -/
theorem bDv (h : Is B y x z s g d) (i : S512x512.Idx) :
    (k0_pay19 (F := Ideal) (k0_pay6 g) (k0_pay13 y x z s) (k0_pay15 y x z s) (k0_pay16 y x z s) d i : EReal) = B.dv (i 0).val (i 1).val := by
  pointwise [k0_pay19, k0_pay6]
  simp only [bV h, bRs h, bDr h, h.hg, h.hd, Fin.sum_univ_one]
  rfl

/-- A block's gradient of the scan's result, -/
theorem bDy (h : Is B y x z s g d) (i : S512x512.Idx) :
    (k0_pay20 (F := Ideal) (k0_pay6 g) (k0_pay12 z) (k0_pay13 y x z s) (k0_pay15 y x z s) (k0_pay16 y x z s) d i : EReal) = B.dy (i 0).val (i 1).val := by
  pointwise [k0_pay20]
  rw [bDv h, bSi h]
  rfl
/-- of the activations, -/
theorem bDx (h : Is B y x z s g d) (i : S512x512.Idx) :
    (k0_pay21 (F := Ideal) (k0_pay5 s) (k0_pay6 g) (k0_pay12 z) (k0_pay13 y x z s) (k0_pay15 y x z s) (k0_pay16 y x z s) d i : EReal)
      = B.S (i 1).val * B.dy (i 0).val (i 1).val := by
  pointwise [k0_pay21, k0_pay5]
  simp only [bDy h, h.hs]
  rfl
/-- of the gate's argument, -/
theorem bDz (h : Is B y x z s g d) (i : S512x512.Idx) :
    (k0_pay23 (F := Ideal) z (k0_pay6 g) (k0_pay7 y x s) (k0_pay8 z) (k0_pay10 z) (k0_pay11 z) (k0_pay13 y x z s) (k0_pay15 y x z s) (k0_pay16 y x z s) d i : EReal)
      = dsi (B.pre (i 0).val (i 1).val * B.dv (i 0).val (i 1).val) (B.Z (i 0).val (i 1).val) := by
  refine Eq.trans ?_ (dsi_eq _ _)
  pointwise [k0_pay23]
  rw [bDv h, bPre h]
  pointwise [k0_pay11, k0_pay10, k0_pay9, k0_pay8]
  simp only [h.hz, zero_sub]
  rfl
/-- and what it adds to the skip's -/
theorem bDs (h : Is B y x z s g d) (p : FVec Ideal S1x512 .f32) (i : S1x512.Idx) :
    (k0_pay1 (F := Ideal) (k0_pay22 x (k0_pay6 g) (k0_pay12 z) (k0_pay13 y x z s) (k0_pay15 y x z s) (k0_pay16 y x z s) d) p i : EReal)
      = p i + ∑ r : Fin 512, B.dy r.val (i 1).val * B.X r.val (i 1).val := by
  pointwise [k0_pay1, k0_pay22]
  simp only [bDy h, h.hx]
  rfl
/-- and to the scale's. -/
theorem bDg (h : Is B y x z s g d) (p : FVec Ideal S1x512 .f32) (i : S1x512.Idx) :
    (k0_pay2 (F := Ideal) (k0_pay18 (k0_pay13 y x z s) (k0_pay17 y x z s) d) p i : EReal)
      = p i + ∑ r : Fin 512, dg 512 len (B.vv r.val) (B.D r.val) (i 1).val := by
  pointwise [k0_pay2, k0_pay18, k0_pay17]
  simp only [bV h, bRs h, h.hd]
  rfl

end Block

variable (m : (ℓ : Loc nD τ sig) → Buf (Elt Ideal) ℓ) (c : Dev nD)

/-- A device's arguments. -/
noncomputable def args : Args :=
  ⟨m ((c : Thread nD τ).loc main_arg0), m ((c : Thread nD τ).loc main_arg1), m ((c : Thread nD τ).loc main_arg2),
    m ((c : Thread nD τ).loc main_arg3), m ((c : Thread nD τ).loc main_arg4), m ((c : Thread nD τ).loc main_arg5)⟩

/-- The operands' entries at a row block and a group. -/
noncomputable def Args.blk (A : Args) (a b : ℕ) : Blk where
  Y r q := at2 (M := 4096) (K := 1024) A.y (512 * a + r) (512 * b + q)
  X r q := xs A (512 * a + r) (512 * b + q)
  Z r q := zz A (512 * a + r) (512 * b + q)
  S q := sk A (512 * b + q)
  G q := at1 (N := 1024) A.g (512 * b + q)
  D r q := ct A (512 * a + r) (512 * b + q)

/-- A block's gradients are the arrays'. -/
theorem blk_dv (A : Args) (a b r q : ℕ) (hq : q < 512) : (A.blk a b).dv r q = dv A (512 * a + r) (512 * b + q) := by
  have e0 : (512 * b + q) / 512 = b := by omega
  have e1 : (512 * b + q) % 512 = q := by omega
  unfold dv
  rw [e0, e1]
  rfl
theorem blk_dy (A : Args) (a b r q : ℕ) (hq : q < 512) : (A.blk a b).dy r q = dy A (512 * a + r) (512 * b + q) :=
  congrArg (fun w : EReal => w * _) (blk_dv A a b r q hq)
theorem blk_dg (A : Args) (a b r q : ℕ) (hq : q < 512) :
    dg 512 len ((A.blk a b).vv r) ((A.blk a b).D r) q = dgg A (512 * a + r) (512 * b + q) := by
  have e0 : (512 * b + q) / 512 = b := by omega
  have e1 : (512 * b + q) % 512 = q := by omega
  unfold dgg
  rw [e0, e1]
  rfl

/-- The blocks that a grid point takes and gives. -/
theorem idx : ∀ t : Fin cfg0.N, win0_0.index t = ![t.val % 8, t.val / 8] ∧ win0_1.index t = ![t.val % 8, t.val / 8] ∧ win0_2.index t = ![t.val % 8, 4 + t.val / 8]
    ∧ win0_3.index t = ![0, t.val / 8] ∧ win0_4.index t = ![0, t.val / 8] ∧ win0_5.index t = ![t.val % 8, 2 + t.val / 8]
    ∧ win0_6.index t = ![t.val % 8, t.val / 8] ∧ win0_7.index t = ![t.val % 8, t.val / 8] ∧ win0_8.index t = ![t.val % 8, t.val / 8]
    ∧ win0_9.index t = ![0, t.val / 8] ∧ win0_10.index t = ![0, t.val / 8] :=
  (by decide +kernel : ∀ t : Fin grid0.N, _)

/-- The operands of a grid point. -/
theorem isBlk (t : Fin cfg0.N) : Is ((args m c).blk (t.val % 8) (t.val / 8)) (iblk m c 0 t) (iblk m c 1 t) (iblk m c 2 t) (iblk m c 3 t) (iblk m c 4 t) (iblk m c 5 t) where
  hy y := by
    blk_simp [iblk]
    rw [V_main_arg0]
    refine at2_eq _ _ _ _ ?_ ?_
    all_goals (blk_simp [idx t]; try omega)
  hx y := by
    blk_simp [iblk]
    rw [V_main_arg1]
    refine at2_eq _ _ _ _ ?_ ?_
    all_goals (blk_simp [idx t]; try omega)
  hz y := by
    blk_simp [iblk]
    rw [V_main_arg2]
    refine at2_eq _ _ _ _ ?_ ?_
    all_goals (blk_simp [idx t]; try omega)
  hs y := by
    blk_simp [iblk]
    entry_read
    pointwise
    refine at1_eq _ _ _ ?_
    blk_simp [idx t]
    show (t.val / 8 * 512 + (y 1).val) / 64 = _
    omega
  hg y := by
    blk_simp [iblk]
    entry_read
    pointwise
    refine at1_eq _ _ _ ?_
    all_goals (blk_simp [idx t]; try omega)
  hd y := by
    blk_simp [iblk]
    rw [V_main_arg5]
    refine at2_eq _ _ _ _ ?_ ?_
    all_goals (blk_simp [idx t]; try omega)

/-- What a point leaves in the first output's block, -/
theorem out6 (t : Fin cfg0.N) : (outsAt0 m c t.val t.isLt).1
    = k0_pay20 (F := Ideal) (k0_pay6 (iblk m c 4 t)) (k0_pay12 (iblk m c 2 t)) (k0_pay13 (iblk m c 0 t) (iblk m c 1 t) (iblk m c 2 t) (iblk m c 3 t))
      (k0_pay15 (iblk m c 0 t) (iblk m c 1 t) (iblk m c 2 t) (iblk m c 3 t)) (k0_pay16 (iblk m c 0 t) (iblk m c 1 t) (iblk m c 2 t) (iblk m c 3 t)) (iblk m c 5 t) := by
  by_cases h0 : t.val % 8 = 0
  · rw [outsAt0_A m c t h0]; dsimp only; frame_out
  · rw [outsAt0_B m c t h0]; dsimp only; frame_out
/-- in the second's, -/
theorem out7 (t : Fin cfg0.N) : (outsAt0 m c t.val t.isLt).2.1
    = k0_pay21 (F := Ideal) (k0_pay5 (iblk m c 3 t)) (k0_pay6 (iblk m c 4 t)) (k0_pay12 (iblk m c 2 t)) (k0_pay13 (iblk m c 0 t) (iblk m c 1 t) (iblk m c 2 t) (iblk m c 3 t))
      (k0_pay15 (iblk m c 0 t) (iblk m c 1 t) (iblk m c 2 t) (iblk m c 3 t)) (k0_pay16 (iblk m c 0 t) (iblk m c 1 t) (iblk m c 2 t) (iblk m c 3 t)) (iblk m c 5 t) := by
  by_cases h0 : t.val % 8 = 0
  · rw [outsAt0_A m c t h0]; dsimp only; frame_out
  · rw [outsAt0_B m c t h0]; dsimp only; frame_out
/-- in the third's, -/
theorem out8 (t : Fin cfg0.N) : (outsAt0 m c t.val t.isLt).2.2.1
    = k0_pay23 (F := Ideal) (iblk m c 2 t) (k0_pay6 (iblk m c 4 t)) (k0_pay7 (iblk m c 0 t) (iblk m c 1 t) (iblk m c 3 t)) (k0_pay8 (iblk m c 2 t)) (k0_pay10 (iblk m c 2 t))
      (k0_pay11 (iblk m c 2 t)) (k0_pay13 (iblk m c 0 t) (iblk m c 1 t) (iblk m c 2 t) (iblk m c 3 t))
      (k0_pay15 (iblk m c 0 t) (iblk m c 1 t) (iblk m c 2 t) (iblk m c 3 t)) (k0_pay16 (iblk m c 0 t) (iblk m c 1 t) (iblk m c 2 t) (iblk m c 3 t)) (iblk m c 5 t) := by
  by_cases h0 : t.val % 8 = 0
  · rw [outsAt0_A m c t h0]; dsimp only; frame_out
  · rw [outsAt0_B m c t h0]; dsimp only; frame_out
/-- in the skip's gradient at a group's first point -/
theorem out9_A (t : Fin cfg0.N) (h0 : t.val % 8 = 0) : (outsAt0 m c t.val t.isLt).2.2.2.1
    = k0_pay1 (F := Ideal) (k0_pay22 (iblk m c 1 t) (k0_pay6 (iblk m c 4 t)) (k0_pay12 (iblk m c 2 t)) (k0_pay13 (iblk m c 0 t) (iblk m c 1 t) (iblk m c 2 t) (iblk m c 3 t))
      (k0_pay15 (iblk m c 0 t) (iblk m c 1 t) (iblk m c 2 t) (iblk m c 3 t)) (k0_pay16 (iblk m c 0 t) (iblk m c 1 t) (iblk m c 2 t) (iblk m c 3 t)) (iblk m c 5 t)) (k0_pay3 (F := Ideal)) := by
  rw [outsAt0_A m c t h0]; dsimp only; frame_out
/-- and at a later one, -/
theorem out9_B (t : Fin cfg0.N) (h0 : ¬ t.val % 8 = 0) : (outsAt0 m c t.val t.isLt).2.2.2.1
    = k0_pay1 (F := Ideal) (k0_pay22 (iblk m c 1 t) (k0_pay6 (iblk m c 4 t)) (k0_pay12 (iblk m c 2 t)) (k0_pay13 (iblk m c 0 t) (iblk m c 1 t) (iblk m c 2 t) (iblk m c 3 t))
      (k0_pay15 (iblk m c 0 t) (iblk m c 1 t) (iblk m c 2 t) (iblk m c 3 t)) (k0_pay16 (iblk m c 0 t) (iblk m c 1 t) (iblk m c 2 t) (iblk m c 3 t)) (iblk m c 5 t))
      (outsAt0 m c (t.val - 1) (Nat.lt_of_le_of_lt (Nat.sub_le _ _) t.isLt)).2.2.2.1 := by
  rw [outsAt0_B m c t h0]; dsimp only; frame_out
/-- and in the scale's likewise. -/
theorem out10_A (t : Fin cfg0.N) (h0 : t.val % 8 = 0) : (outsAt0 m c t.val t.isLt).2.2.2.2
    = k0_pay2 (F := Ideal) (k0_pay18 (k0_pay13 (iblk m c 0 t) (iblk m c 1 t) (iblk m c 2 t) (iblk m c 3 t)) (k0_pay17 (iblk m c 0 t) (iblk m c 1 t) (iblk m c 2 t) (iblk m c 3 t)) (iblk m c 5 t))
      (k0_pay4 (F := Ideal)) := by
  rw [outsAt0_A m c t h0]; dsimp only; frame_out
theorem out10_B (t : Fin cfg0.N) (h0 : ¬ t.val % 8 = 0) : (outsAt0 m c t.val t.isLt).2.2.2.2
    = k0_pay2 (F := Ideal) (k0_pay18 (k0_pay13 (iblk m c 0 t) (iblk m c 1 t) (iblk m c 2 t) (iblk m c 3 t)) (k0_pay17 (iblk m c 0 t) (iblk m c 1 t) (iblk m c 2 t) (iblk m c 3 t)) (iblk m c 5 t))
      (outsAt0 m c (t.val - 1) (Nat.lt_of_le_of_lt (Nat.sub_le _ _) t.isLt)).2.2.2.2 := by
  rw [outsAt0_B m c t h0]; dsimp only; frame_out

/-- What a point adds to the skip's gradient, -/
theorem addS (t : Fin cfg0.N) (p : FVec Ideal S1x512 .f32) (y : S1x512.Idx) :
    (k0_pay1 (F := Ideal) (k0_pay22 (iblk m c 1 t) (k0_pay6 (iblk m c 4 t)) (k0_pay12 (iblk m c 2 t)) (k0_pay13 (iblk m c 0 t) (iblk m c 1 t) (iblk m c 2 t) (iblk m c 3 t))
      (k0_pay15 (iblk m c 0 t) (iblk m c 1 t) (iblk m c 2 t) (iblk m c 3 t)) (k0_pay16 (iblk m c 0 t) (iblk m c 1 t) (iblk m c 2 t) (iblk m c 3 t)) (iblk m c 5 t)) p y : EReal)
      = p y + ∑ r : Fin 512, dsk (args m c) (512 * (t.val % 8) + r.val) (512 * (t.val / 8) + (y 1).val) := by
  refine (bDs (isBlk m c t) p y).trans (congrArg (fun w : EReal => p y + w) ?_)
  exact Finset.sum_congr rfl fun r _ => congrArg (fun w : EReal => w * _) (blk_dy _ _ _ _ _ (y 1).isLt)
/-- and to the scale's. -/
theorem addG (t : Fin cfg0.N) (p : FVec Ideal S1x512 .f32) (y : S1x512.Idx) :
    (k0_pay2 (F := Ideal) (k0_pay18 (k0_pay13 (iblk m c 0 t) (iblk m c 1 t) (iblk m c 2 t) (iblk m c 3 t)) (k0_pay17 (iblk m c 0 t) (iblk m c 1 t) (iblk m c 2 t) (iblk m c 3 t)) (iblk m c 5 t)) p y : EReal)
      = p y + ∑ r : Fin 512, dgg (args m c) (512 * (t.val % 8) + r.val) (512 * (t.val / 8) + (y 1).val) := by
  refine (bDg (isBlk m c t) p y).trans (congrArg (fun w : EReal => p y + w) ?_)
  exact Finset.sum_congr rfl fun r _ => blk_dg _ _ _ _ _ (y 1).isLt

/-- The skip's gradient after a point: the sum over the group's blocks so far. -/
theorem accS : ∀ (n : ℕ) (hn : n < cfg0.N) (y : S1x512.Idx), ((outsAt0 m c n hn).2.2.2.1 y : EReal)
    = ∑ k ∈ Finset.range (n % 8 + 1), ∑ r : Fin 512, dsk (args m c) (512 * k + r.val) (512 * (n / 8) + (y 1).val) := by
  intro n
  induction n with
  | zero =>
    intro hn y
    refine (congrFun (out9_A m c ⟨0, hn⟩ rfl) y).trans ((addS m c ⟨0, hn⟩ _ y).trans ?_)
    rw [Finset.sum_range_one]
    exact (congrArg (fun z : EReal => z + _) zero_lit).trans (zero_add _)
  | succ n ih =>
    intro hn y
    by_cases h0 : (n + 1) % 8 = 0
    · refine (congrFun (out9_A m c ⟨n + 1, hn⟩ h0) y).trans ((addS m c ⟨n + 1, hn⟩ _ y).trans ?_)
      dsimp only
      rw [h0, Finset.sum_range_one]
      exact (congrArg (fun z : EReal => z + _) zero_lit).trans (zero_add _)
    · refine (congrFun (out9_B m c ⟨n + 1, hn⟩ h0) y).trans ((addS m c ⟨n + 1, hn⟩ _ y).trans ?_)
      have e0 : (n + 1) % 8 = n % 8 + 1 := by omega
      have e1 : (n + 1) / 8 = n / 8 := by omega
      dsimp only
      rw [e0, e1, Finset.sum_range_succ]
      exact congrArg (fun z : EReal => z + _) (ih (Nat.lt_of_succ_lt hn) y)

/-- The scale's gradient after a point. -/
theorem accG : ∀ (n : ℕ) (hn : n < cfg0.N) (y : S1x512.Idx), ((outsAt0 m c n hn).2.2.2.2 y : EReal)
    = ∑ k ∈ Finset.range (n % 8 + 1), ∑ r : Fin 512, dgg (args m c) (512 * k + r.val) (512 * (n / 8) + (y 1).val) := by
  intro n
  induction n with
  | zero =>
    intro hn y
    refine (congrFun (out10_A m c ⟨0, hn⟩ rfl) y).trans ((addG m c ⟨0, hn⟩ _ y).trans ?_)
    rw [Finset.sum_range_one]
    exact (congrArg (fun z : EReal => z + _) zero_lit).trans (zero_add _)
  | succ n ih =>
    intro hn y
    by_cases h0 : (n + 1) % 8 = 0
    · refine (congrFun (out10_A m c ⟨n + 1, hn⟩ h0) y).trans ((addG m c ⟨n + 1, hn⟩ _ y).trans ?_)
      dsimp only
      rw [h0, Finset.sum_range_one]
      exact (congrArg (fun z : EReal => z + _) zero_lit).trans (zero_add _)
    · refine (congrFun (out10_B m c ⟨n + 1, hn⟩ h0) y).trans ((addG m c ⟨n + 1, hn⟩ _ y).trans ?_)
      have e0 : (n + 1) % 8 = n % 8 + 1 := by omega
      have e1 : (n + 1) / 8 = n / 8 := by omega
      dsimp only
      rw [e0, e1, Finset.sum_range_succ]
      exact congrArg (fun z : EReal => z + _) (ih (Nat.lt_of_succ_lt hn) y)

/-- The first result array is the reference's, -/
theorem fin6 : ((dats m 0 c).arrAt 6 cfg0.N : S4096x1024.Idx → EReal)
    = Cert.RefGateBwdIdeal.Read.val_main_v68 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6]
  refine (congrFun (out6 m c t) y).trans ((bDy (isBlk m c t) y).trans ((blk_dy _ _ _ _ _ (y 1).isLt).trans ?_))
  refine Eq.trans (congrArg₂ (dy (args m c)) ?_ ?_) (ref68 (args m c) _).symm
  all_goals (blk_simp [idx t]; try omega)
/-- the second, -/
theorem fin7 : ((dats m 0 c).arrAt 7 cfg0.N : S4096x1024.Idx → EReal)
    = Cert.RefGateBwdIdeal.Read.val_main_v67 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t hf y => ?_
  blk_simp
  rw [after0_7]
  refine (congrFun (out7 m c t) y).trans ((bDx (isBlk m c t) y).trans ((congrArg (fun w : EReal => _ * w) (blk_dy _ _ _ _ _ (y 1).isLt)).trans ?_))
  refine Eq.trans (congrArg₂ (dxs (args m c)) ?_ ?_) (ref67 (args m c) _).symm
  all_goals (blk_simp [idx t]; try omega)
/-- the third, -/
theorem fin8 : ((dats m 0 c).arrAt 8 cfg0.N : S4096x1024.Idx → EReal)
    = Cert.RefGateBwdIdeal.Read.val_main_v69 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t hf y => ?_
  blk_simp
  rw [after0_8]
  refine (congrFun (out8 m c t) y).trans ((bDz (isBlk m c t) y).trans ?_)
  rw [blk_dv _ _ _ _ _ (y 1).isLt]
  refine Eq.trans (congrArg₂ (dz (args m c)) ?_ ?_) (ref69 (args m c) _).symm
  all_goals (blk_simp [idx t]; try omega)
/-- the fourth -/
theorem fin9 : ((dats m 0 c).arrAt 9 cfg0.N : S1x1024.Idx → EReal)
    = Cert.RefGateBwdIdeal.Read.val_main_v70 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) (m ((c : Thread nD τ).loc main_arg5)) := by
  refine (dats m 0 c).arrAt_eq_of_covers 9 _ (by decide +kernel) fun t hf y => ?_
  blk_simp
  rw [after0_9]
  have h7 := (flush0_9 t).mp hf
  have e1 : (((win0_9.blk t).view.emb y : S1x1024.Idx) 1).val = 512 * (t.val / 8) + (y 1).val := by blk_simp [idx t]; try omega
  refine (accS m c t.val t.isLt y).trans (Eq.trans ?_ (ref70 (args m c) _).symm)
  rw [e1, sum_blocks fun r => dsk (args m c) r (512 * (t.val / 8) + (y 1).val), show t.val % 8 + 1 = 8 by omega]
/-- and the fifth. -/
theorem fin10 : ((dats m 0 c).arrAt 10 cfg0.N : S1x1024.Idx → EReal)
    = Cert.RefGateBwdIdeal.Read.val_main_v71 (F := Ideal) (m ((c : Thread nD τ).loc main_arg0)) (m ((c : Thread nD τ).loc main_arg1))
        (m ((c : Thread nD τ).loc main_arg2)) (m ((c : Thread nD τ).loc main_arg3)) (m ((c : Thread nD τ).loc main_arg5)) := by
  refine (dats m 0 c).arrAt_eq_of_covers 10 _ (by decide +kernel) fun t hf y => ?_
  blk_simp
  rw [after0_10]
  have h7 := (flush0_10 t).mp hf
  have e1 : (((win0_10.blk t).view.emb y : S1x1024.Idx) 1).val = 512 * (t.val / 8) + (y 1).val := by blk_simp [idx t]; try omega
  refine (accG m c t.val t.isLt y).trans (Eq.trans ?_ (ref71 (args m c) _).symm)
  rw [e1, sum_blocks fun r => dgg (args m c) r (512 * (t.val / 8) + (y 1).val), show t.val % 8 + 1 = 8 by omega]

end Cert.GateBwdIdeal.Gate

namespace Cert.GateBwdIdeal

open Idealize.ShloMosaic Idealize.SL.Sem

/-- The reference's run terminates, keeps its arguments and leaves every semaphore at zero. -/
theorem frame_reference : Cert.quiescent_RefGateBwdIdeal := fun m ρ _ =>
  (θ_run Cert.RefGateBwdIdeal.defs _ _).mono
    (fun r h => ⟨fun c => (h c).2.2.2.2.2, Idealize.ShloMosaic.sem_eq_zero_of_no_sems (by decide) r.2⟩)
    (Cert.RefGateBwdIdeal.Value.run (F := Ideal) m ρ)

/-- The reference's results are the kernel's. -/
theorem algebraic : Cert.algebraic_GateBwdIdeal_RefGateBwdIdeal := by
  intro m ρ m' ρ' _ hagree
  refine ⟨_, _, _, _, _, Cert.GateBwdIdeal.Value.run_blocks (F := Ideal) m ρ, ?_⟩
  refine (θ_run Cert.RefGateBwdIdeal.defs _ _).mono
    (fun _ h c => ⟨(h c).1.trans ((Cert.RefGateBwdIdeal.Read.val_main_v68_eq (F := Ideal) m' c).trans ?_), (h c).2.1.trans ((Cert.RefGateBwdIdeal.Read.val_main_v67_eq (F := Ideal) m' c).trans ?_),
      (h c).2.2.1.trans ((Cert.RefGateBwdIdeal.Read.val_main_v69_eq (F := Ideal) m' c).trans ?_), (h c).2.2.2.1.trans ((Cert.RefGateBwdIdeal.Read.val_main_v70_eq (F := Ideal) m' c).trans ?_),
      (h c).2.2.2.2.1.trans ((Cert.RefGateBwdIdeal.Read.val_main_v71_eq (F := Ideal) m' c).trans ?_), (h c).2.2.2.2.2⟩)
    (Cert.RefGateBwdIdeal.Value.run (F := Ideal) m' ρ')
  all_goals
    obtain ⟨a0, a1, a2, a3, a4, a5⟩ := hagree c
    simp only [a0, a1, a2, a3, a4, a5]
  · exact (Gate.fin6 m c).symm
  · exact (Gate.fin7 m c).symm
  · exact (Gate.fin8 m c).symm
  · exact (Gate.fin9 m c).symm
  · exact (Gate.fin10 m c).symm

end Cert.GateBwdIdeal
-- ==== Proof.RmsBwd.lean ====
module

public import proofs.«01_k».proof.Defs
public import proofs.«01_k».proof.Proof.Row
public import Idealize.ShloMosaic.Lib.Pipeline.ValueKit
public import Idealize.ShloMosaic.Lib.Pointwise
public import Idealize.ShloMosaic.PureOps.Ideal.Laws
public import proofs.«01_k».proof.Proof.Gen.RmsBwd
public import proofs.«01_k».proof.Proof.Gen.RmsBwd.Skeleton
public import proofs.«01_k».proof.Proof.Gen.RmsBwd.Launch
public import proofs.«01_k».proof.Proof.Gen.RmsBwd.Points
public import proofs.«01_k».proof.Proof.Gen.RmsBwd.Frame
public import proofs.«01_k».proof.Proof.Gen.RmsBwdIdeal
public import proofs.«01_k».proof.Proof.Gen.RmsBwdIdeal.Skeleton
public import proofs.«01_k».proof.Proof.Gen.RmsBwdIdeal.Launch
public import proofs.«01_k».proof.Proof.Gen.RmsBwdIdeal.Points
public import proofs.«01_k».proof.Proof.Gen.RmsBwdIdeal.Frame
public import proofs.«01_k».proof.Proof.Gen.RmsBwdIdeal.Value
public import proofs.«01_k».proof.Proof.Gen.RefRmsBwdIdeal
public import proofs.«01_k».proof.Proof.Gen.RefRmsBwdIdeal.Run
public import proofs.«01_k».proof.Proof.Gen.RefRmsBwdIdeal.Read

/-! The gradient of a root-mean-square normalisation: the kernel's three result arrays are the reference's. -/

@[expose] public section

set_option maxRecDepth 16384

namespace Cert.RmsBwdIdeal.Norm

open Idealize.ShloMosaic

/-- The row's length. -/
noncomputable abbrev len : EReal := Ideal.ofBits .f32 0x44800000#32
/-- A row's mean square with the small constant. -/
noncomputable abbrev ms (x : ℕ → EReal) : EReal := Row.ms 1024 len x
/-- Its inverse root. -/
noncomputable abbrev rs (x : ℕ → EReal) : EReal := Row.rs 1024 len x
/-- The gradient of the row's mean square. -/
noncomputable abbrev co (x g d : ℕ → EReal) : EReal := Row.co 1024 len x g d
/-- The gradient of a row's entry. -/
noncomputable abbrev dx (x g d : ℕ → EReal) (q : ℕ) : EReal := Row.dx 1024 len x g d q
/-- A row's part of the scale's gradient. -/
noncomputable abbrev dg (x d : ℕ → EReal) (q : ℕ) : EReal := Row.dg 1024 len x d q

end Cert.RmsBwdIdeal.Norm

namespace Cert.RmsBwdIdeal.Norm

open Cert.RefRmsBwdIdeal Cert.RefRmsBwdIdeal.Read Idealize.ShloMosaic Cert.Mat Cert.Row

variable (x d e : S4096x1024.Idx → EReal) (g : S1024.Idx → EReal)

/-- The reference's mean square. -/
theorem refMs (i : S4096x1.Idx) : (val_main_v6 (F := Ideal) x i : EReal) = ms (at2 (M := 4096) (K := 1024) x (i 0).val) := by
  simp only [val_main_v6_apply, val_main_v5_apply, val_main_v4_apply, val_main_v3_apply, val_main_v2_apply, val_main_v1_apply, val_main_v0_apply,
    val_main_cst_apply, val_main_cst_0_apply, val_main_cst_1_apply]
  rw [zero_lit, zero_add]
  refine congrArg (fun z : EReal => Ideal.div z (Ideal.ofBits .f32 0x44800000#32) + Ideal.ofBits .f32 0x3727C5AC#32) ?_
  exact Finset.sum_congr rfl fun k _ => congrArg (fun z : EReal => z * z) (at2_eq _ _ _ _ rfl rfl)

/-- The reference's inverse root. -/
theorem refRs (i : S4096x1.Idx) : (val_main_v7 (F := Ideal) x i : EReal) = rs (at2 (M := 4096) (K := 1024) x (i 0).val) :=
  congrArg Ideal.rsqrt (refMs x i)

/-- The incoming gradient times the scale. -/
theorem refDg (i : S4096x1024.Idx) : (val_main_v20 (F := Ideal) g d i : EReal)
    = at2 (M := 4096) (K := 1024) d (i 0).val (i 1).val * at1 (N := 1024) g (i 1).val := by
  rw [val_main_v20_apply, val_main_v19_apply, val_main_v13_apply]
  exact congrArg₂ (fun a b : EReal => a * b) (at2_eq d _ _ _ rfl rfl) (at1_eq g _ _ rfl)

/-- The gradient of the mean square in the reference. -/
theorem refCo (i : S4096x1024.Idx) : (val_main_v31 (F := Ideal) x g d i : EReal)
    = co (at2 (M := 4096) (K := 1024) x (i 0).val) (at1 (N := 1024) g) (at2 (M := 4096) (K := 1024) d (i 0).val) := by
  rw [val_main_v31_apply, val_main_v30_apply, val_main_cst_7_apply, zero_lit, zero_add, Fin.sum_univ_one,
    val_main_v29_apply, val_main_v28_apply, val_main_cst_6_apply, val_main_v27_apply, val_main_v10_apply, val_main_v9_apply, val_main_cst_2_apply,
    val_main_v8_apply, refRs, refMs, val_main_v24_apply, val_main_v23_apply, val_main_cst_5_apply, zero_lit, zero_add]
  refine congrArg (fun z : EReal => Ideal.div (z * (Ideal.ofBits .f32 0xBF000000#32 * Ideal.div (rs (at2 (M := 4096) (K := 1024) x (i 0).val))
    (ms (at2 (M := 4096) (K := 1024) x (i 0).val)))) (Ideal.ofBits .f32 0x44800000#32)) ?_
  refine Finset.sum_congr rfl fun k _ => ?_
  rw [val_main_v22_apply]
  have e0 : (idx_main_v23 (idx_main_v24 (idx_main_v30 (idx_main_v31 i) 0)) k 0).val = (i 0).val := by
    show (i 0).val * 1 + 0 = (i 0).val
    omega
  refine congrArg₂ (fun a b : EReal => a * b) (at2_eq x _ _ _ e0 rfl) ((refDg d g _).trans ?_)
  rw [e0]

/-- The reference's gradient of an entry. -/
theorem refDx (i : S4096x1024.Idx) : (val_main_v36 (F := Ideal) x g d e i : EReal)
    = dx (at2 (M := 4096) (K := 1024) x (i 0).val) (at1 (N := 1024) g) (at2 (M := 4096) (K := 1024) d (i 0).val) (i 1).val
      + at2 (M := 4096) (K := 1024) e (i 0).val (i 1).val := by
  rw [val_main_v36_apply, val_main_v35_apply, val_main_v34_apply, val_main_v33_apply, val_main_v32_apply, val_main_v26_apply, val_main_v25_apply,
    refCo, refRs, refDg, at2_eq x i _ _ rfl rfl, at2_eq e i _ _ rfl rfl]
  rfl

/-- The reference's gradient of the scale. -/
theorem refDscale (i : S1x1024.Idx) : (val_main_v38 (F := Ideal) x d i : EReal)
    = ∑ r : Fin 4096, dg (at2 (M := 4096) (K := 1024) x r.val) (at2 (M := 4096) (K := 1024) d r.val) (i 1).val := by
  rw [val_main_v38_apply, val_main_v21_apply, val_main_cst_4_apply, zero_lit, zero_add, Fin.sum_univ_one, val_main_v18_apply, val_main_v17_apply,
    val_main_cst_3_apply, zero_lit, zero_add]
  refine Finset.sum_congr rfl fun k _ => ?_
  rw [val_main_v16_apply, val_main_v12_apply, val_main_v11_apply, refRs]
  refine congrArg₂ (fun a b : EReal => a * rs (at2 (M := 4096) (K := 1024) x k.val) * b) (at2_eq x _ _ _ rfl ?_) (at2_eq d _ _ _ rfl ?_)
  all_goals
    have h0 : (i 0).val < 1 := (i 0).isLt
    dsimp only
    omega

end Cert.RmsBwdIdeal.Norm

namespace Cert.RmsBwdIdeal.Norm

open Cert.RmsBwdIdeal Cert.RmsBwdIdeal.Gen Idealize.ShloMosaic Idealize.ShloMosaic.TcCoe Idealize.SL.Sem Cert.Mat Cert.Row

variable (m : (ℓ : Loc nD τ sig) → Buf (Elt Ideal) ℓ) (c : Dev nD)

/-- The blocks that a grid point takes and gives. -/
theorem idx : ∀ t : Fin cfg0.N, win0_0.index t = ![t.val, 0] ∧ win0_1.index t = ![0, 0] ∧ win0_2.index t = ![t.val, 0] ∧ win0_3.index t = ![t.val, 0]
    ∧ win0_4.index t = ![t.val, 0] ∧ win0_5.index t = ![t.val, 0] ∧ win0_6.index t = ![0, 0] :=
  (by decide +kernel : ∀ t : Fin grid0.N, _)

/-- The kernel's mean square of a block's row. -/
theorem blockMs (x : FVec Ideal S512x1024 .f32) (X : ℕ → ℕ → EReal) (hx : ∀ y : S512x1024.Idx, (x y : EReal) = X (y 0).val (y 1).val) (y : S512x1.Idx) :
    (k0_pay5 (F := Ideal) x y : EReal) = ms (X (y 0).val) := by
  pointwise [k0_pay5]
  simp only [hx]
  rfl

/-- The kernel's gradient of a block's entry. -/
theorem blockDx (x d e : FVec Ideal S512x1024 .f32) (g : FVec Ideal S1x1024 .f32) (X D E : ℕ → ℕ → EReal) (G : ℕ → EReal)
    (hx : ∀ y : S512x1024.Idx, (x y : EReal) = X (y 0).val (y 1).val) (hg : ∀ y : S1x1024.Idx, (g y : EReal) = G (y 1).val)
    (hd : ∀ y : S512x1024.Idx, (d y : EReal) = D (y 0).val (y 1).val) (he : ∀ y : S512x1024.Idx, (e y : EReal) = E (y 0).val (y 1).val) (y : S512x1024.Idx) :
    (k0_pay1 (F := Ideal) (k0_pay8 x g d) e y : EReal) = dx (X (y 0).val) G (D (y 0).val) (y 1).val + E (y 0).val (y 1).val := by
  pointwise [k0_pay1, k0_pay8, k0_pay6]
  simp only [blockMs x X hx, hx, hg, hd, he, Fin.sum_univ_one]
  rfl

/-- What a block adds to the scale's gradient. -/
theorem blockDg (x d : FVec Ideal S512x1024 .f32) (p : FVec Ideal S1x1024 .f32) (X D : ℕ → ℕ → EReal)
    (hx : ∀ y : S512x1024.Idx, (x y : EReal) = X (y 0).val (y 1).val) (hd : ∀ y : S512x1024.Idx, (d y : EReal) = D (y 0).val (y 1).val) (y : S1x1024.Idx) :
    (k0_pay3 (F := Ideal) (k0_pay7 x d) p y : EReal) = p y + ∑ r : Fin 512, dg (X r.val) (D r.val) (y 1).val := by
  pointwise [k0_pay3, k0_pay7, k0_pay6]
  simp only [blockMs x X hx, hx, hd]
  rfl

/-- An argument's rows of a grid point. -/
noncomputable def rows (x : S4096x1024.Idx → EReal) (t r q : ℕ) : EReal := at2 (M := 4096) (K := 1024) x (512 * t + r) q

/-- The rows' array at a block's entry, -/
theorem iblk0 (t : Fin cfg0.N) (y : S512x1024.Idx) : (iblk m c 0 t y : EReal)
    = rows (m ((c : Thread nD τ).loc main_arg0)) t.val (y 0).val (y 1).val := by
  blk_simp [iblk]
  rw [V_main_arg0]
  refine at2_eq _ _ _ _ ?_ ?_
  all_goals (blk_simp [idx t]; try omega)

/-- the scale, -/
theorem iblk1 (t : Fin cfg0.N) (y : S1x1024.Idx) : (iblk m c 1 t y : EReal) = at1 (N := 1024) (m ((c : Thread nD τ).loc main_arg1)) (y 1).val := by
  blk_simp [iblk]
  entry_read
  pointwise
  refine at1_eq _ _ _ ?_
  all_goals (blk_simp [idx t]; try omega)

/-- the incoming gradient, -/
theorem iblk2 (t : Fin cfg0.N) (y : S512x1024.Idx) : (iblk m c 2 t y : EReal)
    = rows (m ((c : Thread nD τ).loc main_arg2)) t.val (y 0).val (y 1).val := by
  blk_simp [iblk]
  rw [V_main_arg2]
  refine at2_eq _ _ _ _ ?_ ?_
  all_goals (blk_simp [idx t]; try omega)

/-- and the residual's gradient. -/
theorem iblk3 (t : Fin cfg0.N) (y : S512x1024.Idx) : (iblk m c 3 t y : EReal)
    = rows (m ((c : Thread nD τ).loc main_arg3)) t.val (y 0).val (y 1).val := by
  blk_simp [iblk]
  rw [V_main_arg3]
  refine at2_eq _ _ _ _ ?_ ?_
  all_goals (blk_simp [idx t]; try omega)

/-- What a point leaves in the first output's block, -/
theorem outX (t : Fin cfg0.N) : (outsAt0 m c t.val t.isLt).1
    = k0_pay1 (F := Ideal) (k0_pay8 (iblk m c 0 t) (iblk m c 1 t) (iblk m c 2 t)) (iblk m c 3 t) := by
  by_cases h0 : t.val % 8 = 0
  · rw [outsAt0_A m c t h0]; dsimp only; frame_out
  · rw [outsAt0_B m c t h0]; dsimp only; frame_out

/-- in the second's, -/
theorem outX16 (t : Fin cfg0.N) : ((outsAt0 m c t.val t.isLt).2.1 : S512x1024.Idx → EReal)
    = k0_pay1 (F := Ideal) (k0_pay8 (iblk m c 0 t) (iblk m c 1 t) (iblk m c 2 t)) (iblk m c 3 t) := by
  by_cases h0 : t.val % 8 = 0
  · rw [outsAt0_A m c t h0]; dsimp only; frame_out; rfl
  · rw [outsAt0_B m c t h0]; dsimp only; frame_out; rfl

/-- in the scale's gradient at the first point -/
theorem outG_A (t : Fin cfg0.N) (h0 : t.val % 8 = 0) : (outsAt0 m c t.val t.isLt).2.2
    = k0_pay3 (F := Ideal) (k0_pay7 (iblk m c 0 t) (iblk m c 2 t)) (k0_pay4 (F := Ideal)) := by
  rw [outsAt0_A m c t h0]; dsimp only; frame_out

/-- and at a later one. -/
theorem outG_B (t : Fin cfg0.N) (h0 : ¬ t.val % 8 = 0) : (outsAt0 m c t.val t.isLt).2.2
    = k0_pay3 (F := Ideal) (k0_pay7 (iblk m c 0 t) (iblk m c 2 t)) (outsAt0 m c (t.val - 1) (Nat.lt_of_le_of_lt (Nat.sub_le _ _) t.isLt)).2.2 := by
  rw [outsAt0_B m c t h0]; dsimp only; frame_out

/-- A row's part of the scale's gradient, from the arguments. -/
noncomputable def part (r q : ℕ) : EReal :=
  dg (at2 (M := 4096) (K := 1024) (m ((c : Thread nD τ).loc main_arg0)) r) (at2 (M := 4096) (K := 1024) (m ((c : Thread nD τ).loc main_arg2)) r) q

/-- The scale's gradient after a point: the sum over the blocks so far. -/
theorem accG : ∀ (n : ℕ) (hn : n < cfg0.N) (y : S1x1024.Idx), ((outsAt0 m c n hn).2.2 y : EReal)
    = ∑ k ∈ Finset.range (n + 1), ∑ r : Fin 512, part m c (512 * k + r.val) (y 1).val := by
  intro n
  induction n with
  | zero =>
    intro hn y
    refine (congrFun (outG_A m c ⟨0, hn⟩ rfl) y).trans ?_
    refine (blockDg _ _ _ (rows (m ((c : Thread nD τ).loc main_arg0)) 0) (rows (m ((c : Thread nD τ).loc main_arg2)) 0) (iblk0 m c ⟨0, hn⟩) (iblk2 m c ⟨0, hn⟩) y).trans ?_
    rw [Finset.sum_range_one]
    refine Eq.trans (congrArg (fun z : EReal => z + _) ?_) (zero_add _)
    exact zero_lit
  | succ n ih =>
    intro hn y
    have hN : cfg0.N = 8 := by decide +kernel
    refine (congrFun (outG_B m c ⟨n + 1, hn⟩ (by dsimp only; omega)) y).trans ?_
    refine (blockDg _ _ _ (rows (m ((c : Thread nD τ).loc main_arg0)) (n + 1)) (rows (m ((c : Thread nD τ).loc main_arg2)) (n + 1)) (iblk0 m c ⟨n + 1, hn⟩) (iblk2 m c ⟨n + 1, hn⟩) y).trans ?_
    rw [Finset.sum_range_succ]
    exact congrArg (fun z : EReal => z + _) (ih (Nat.lt_of_succ_lt hn) y)

/-- An entry of the kernel's gradient. -/
theorem entry (t : Fin cfg0.N) (y : S512x1024.Idx) (i : S4096x1024.Idx) (e0 : (i 0).val = 512 * t.val + (y 0).val) (e1 : (i 1).val = (y 1).val) :
    (k0_pay1 (F := Ideal) (k0_pay8 (iblk m c 0 t) (iblk m c 1 t) (iblk m c 2 t)) (iblk m c 3 t) y : EReal)
      = Cert.RefRmsBwdIdeal.Read.val_main_v36 (F := Ideal) (m ((c : Thread nD τ).loc main_arg0)) (m ((c : Thread nD τ).loc main_arg1))
        (m ((c : Thread nD τ).loc main_arg2)) (m ((c : Thread nD τ).loc main_arg3)) i := by
  refine (blockDx _ _ _ _ (rows (m ((c : Thread nD τ).loc main_arg0)) t.val) (rows (m ((c : Thread nD τ).loc main_arg2)) t.val) (rows (m ((c : Thread nD τ).loc main_arg3)) t.val) _ (iblk0 m c t) (iblk1 m c t) (iblk2 m c t) (iblk3 m c t) y).trans ?_
  refine Eq.trans ?_ (refDx _ _ _ _ _).symm
  rw [e0, e1]
  rfl

/-- The first result array is the reference's gradient, -/
theorem fin : ((dats m 0 c).arrAt 4 cfg0.N : S4096x1024.Idx → EReal)
    = Cert.RefRmsBwdIdeal.Read.val_main_v36 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  blk_simp
  rw [after0_4]
  refine (congrFun (outX m c t) y).trans (entry m c t y _ ?_ ?_)
  all_goals (blk_simp [idx t]; try omega)

/-- the second its cast, -/
theorem fin16 : ((dats m 0 c).arrAt 5 cfg0.N : S4096x1024.Idx → EReal)
    = Cert.RefRmsBwdIdeal.Read.val_main_v37 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 5 _ (by decide +kernel) fun t hf y => ?_
  blk_simp
  rw [after0_5]
  refine (congrFun (outX16 m c t) y).trans (entry m c t y _ ?_ ?_)
  all_goals (blk_simp [idx t]; try omega)

/-- and the third the scale's gradient. -/
theorem finG : ((dats m 0 c).arrAt 6 cfg0.N : S1x1024.Idx → EReal)
    = Cert.RefRmsBwdIdeal.Read.val_main_v38 (F := Ideal) (m ((c : Thread nD τ).loc main_arg0)) (m ((c : Thread nD τ).loc main_arg2)) := by
  refine (dats m 0 c).arrAt_eq_of_covers 6 _ (by decide +kernel) fun t hf y => ?_
  blk_simp
  rw [after0_6]
  have h7 := (flush0_6 t).mp hf
  have e1 : (((win0_6.blk t).view.emb y : S1x1024.Idx) 1).val = (y 1).val := by blk_simp [idx t]; try omega
  refine (accG m c t.val t.isLt y).trans ?_
  refine Eq.trans ?_ (refDscale _ _ _).symm
  rw [e1, sum_blocks fun r => dg (at2 (M := 4096) (K := 1024) (m ((c : Thread nD τ).loc main_arg0)) r)
    (at2 (M := 4096) (K := 1024) (m ((c : Thread nD τ).loc main_arg2)) r) (y 1).val]
  have hN : cfg0.N = 8 := by decide +kernel
  have ht : t.val < 8 := hN ▸ t.isLt
  rw [show t.val + 1 = 8 by omega]
  rfl

end Cert.RmsBwdIdeal.Norm

namespace Cert.RmsBwdIdeal

open Idealize.ShloMosaic Idealize.SL.Sem

/-- The reference's run terminates, keeps its arguments and leaves every semaphore at zero. -/
theorem frame_reference : Cert.quiescent_RefRmsBwdIdeal := fun m ρ _ =>
  (θ_run Cert.RefRmsBwdIdeal.defs _ _).mono
    (fun r h => ⟨fun c => (h c).2.2.2, Idealize.ShloMosaic.sem_eq_zero_of_no_sems (by decide) r.2⟩)
    (Cert.RefRmsBwdIdeal.Value.run (F := Ideal) m ρ)

/-- The reference's results are the kernel's. -/
theorem algebraic : Cert.algebraic_RmsBwdIdeal_RefRmsBwdIdeal := by
  intro m ρ m' ρ' _ hagree
  refine ⟨_, _, _, Cert.RmsBwdIdeal.Value.run_blocks (F := Ideal) m ρ, ?_⟩
  refine (θ_run Cert.RefRmsBwdIdeal.defs _ _).mono (fun _ h c => ⟨(h c).1.trans ?_, (h c).2.1.trans ?_, (h c).2.2.1.trans ?_, (h c).2.2.2⟩)
    (Cert.RefRmsBwdIdeal.Value.run (F := Ideal) m' ρ')
  all_goals
    obtain ⟨a0, a1, a2, a3⟩ := hagree c
    simp only [a0, a1, a2, a3]
  · exact (Cert.RefRmsBwdIdeal.Read.val_main_v36_eq (F := Ideal) _ _ _ _).trans (Norm.fin m c).symm
  · exact (Cert.RefRmsBwdIdeal.Read.val_main_v37_eq (F := Ideal) _ _ _ _).trans (Norm.fin16 m c).symm
  · exact (Cert.RefRmsBwdIdeal.Read.val_main_v38_eq (F := Ideal) _ _).trans (Norm.finG m c).symm

end Cert.RmsBwdIdeal
-- ==== Proof.LossHead.lean ====
module

public import proofs.«01_k».proof.Defs
public import proofs.«01_k».proof.Proof.Row
public import Idealize.ShloMosaic.Lib.Pipeline.ValueKit
public import Idealize.ShloMosaic.Lib.Pointwise
public import Idealize.ShloMosaic.PureOps.Ideal.Laws
public import proofs.«01_k».proof.Proof.Gen.LossHead
public import proofs.«01_k».proof.Proof.Gen.LossHead.Skeleton
public import proofs.«01_k».proof.Proof.Gen.LossHead.Launch
public import proofs.«01_k».proof.Proof.Gen.LossHead.Points
public import proofs.«01_k».proof.Proof.Gen.LossHead.Frame
public import proofs.«01_k».proof.Proof.Gen.LossHeadIdeal
public import proofs.«01_k».proof.Proof.Gen.LossHeadIdeal.Skeleton
public import proofs.«01_k».proof.Proof.Gen.LossHeadIdeal.Launch
public import proofs.«01_k».proof.Proof.Gen.LossHeadIdeal.Points
public import proofs.«01_k».proof.Proof.Gen.LossHeadIdeal.Frame
public import proofs.«01_k».proof.Proof.Gen.LossHeadIdeal.Value
public import proofs.«01_k».proof.Proof.Gen.RefLossHeadIdeal
public import proofs.«01_k».proof.Proof.Gen.RefLossHeadIdeal.Run
public import proofs.«01_k».proof.Proof.Gen.RefLossHeadIdeal.Read

/-! The loss head: the kernel's loss and its gradients are the reference's. -/

@[expose] public section

set_option maxRecDepth 16384

namespace Cert.LossHeadIdeal.Head

open Idealize.ShloMosaic Cert.Mat Cert.Row Cert.Up

/-- The row's length. -/
noncomputable abbrev len : EReal := Ideal.ofBits .f32 0x44800000#32
/-- One half. -/
noncomputable abbrev half : EReal := Ideal.ofBits .f32 0x3F000000#32
/-- The loss's gradient by a squared error. -/
noncomputable abbrev cf : EReal := Ideal.div half len
/-- A row's error, -/
noncomputable def err (x g t : ℕ → EReal) (q : ℕ) : EReal := x q * rs 1024 len x * g q - t q
/-- its gradient, -/
noncomputable def de (x g t : ℕ → EReal) (q : ℕ) : EReal := err x g t q * cf + cf * err x g t q
/-- and the row's mean square error. -/
noncomputable def ls (x g t : ℕ → EReal) : EReal := Ideal.div (∑ k : Fin 1024, err x g t k.val * err x g t k.val) len

/-- The literal 1024. -/
theorem lit_len : Ideal.ofBits .f32 0x44800000#32 = ((1024 : ℝ) : EReal) := by
  simp [Ideal.ofBits, Ideal.ieee, -EReal.coe_mul]; norm_num
/-- The literal 2. -/
theorem lit_two : Ideal.ofBits .f32 0x40000000#32 = ((2 : ℝ) : EReal) := by
  simp [Ideal.ofBits, Ideal.ieee, -EReal.coe_mul]; norm_num

/-- The loss's gradient by a squared error is positive and finite. -/
theorem cf_eq : cf = ((1 / 2048 : ℝ) : EReal) := by
  unfold cf half len
  rw [lit_half, lit_len, div_real _ _ (by norm_num)]
  norm_num

/-- The error's gradient in the reference. -/
theorem de_eq (e : EReal) : cf * (Ideal.ofBits .f32 0x40000000#32 * e) = e * cf + cf * e := by
  rw [cf_eq, lit_two]
  induction e using EReal.rec with
  | bot => rw [EReal.coe_mul_bot_of_pos (by norm_num), EReal.coe_mul_bot_of_pos (by norm_num), EReal.bot_mul_coe_of_pos (by norm_num), EReal.bot_add]
  | top => rw [EReal.coe_mul_top_of_pos (by norm_num), EReal.coe_mul_top_of_pos (by norm_num), EReal.top_mul_coe_of_pos (by norm_num), EReal.top_add_top]
  | coe x =>
    rw [← EReal.coe_mul, ← EReal.coe_mul, ← EReal.coe_mul, ← EReal.coe_mul, ← EReal.coe_add]
    congr 1
    ring

/-- Half of a sum is the halves' sum. -/
theorem half_sum (s : Finset ℕ) (f : ℕ → EReal) : half * ∑ k ∈ s, f k = ∑ k ∈ s, half * f k := by
  unfold half
  rw [lit_half]
  induction s using Finset.induction_on with
  | empty => rw [Finset.sum_empty, Finset.sum_empty, mul_zero]
  | insert a s h ih =>
    rw [Finset.sum_insert h, Finset.sum_insert h, ← ih, EReal.left_distrib_of_nonneg_of_ne_top (EReal.coe_nonneg.mpr (by norm_num)) (EReal.coe_ne_top _)]

end Cert.LossHeadIdeal.Head

namespace Cert.LossHeadIdeal.Head

open Cert.RefLossHeadIdeal Cert.RefLossHeadIdeal.Read Idealize.ShloMosaic Cert.Mat Cert.Row

variable (x t : S4096x1024.Idx → EReal) (g : S1024.Idx → EReal)

/-- An array's row. -/
noncomputable abbrev row (a : (⟨2, ![4096, 1024]⟩ : Shape).Idx → EReal) (r q : ℕ) : EReal := at2 (M := 4096) (K := 1024) a r q

/-- The reference's mean square. -/
theorem refMs (i : S4096x1.Idx) : (val_main_v6 (F := Ideal) x i : EReal) = ms 1024 len (row x (i 0).val) := by
  simp only [val_main_v6_apply, val_main_v5_apply, val_main_v4_apply, val_main_v3_apply, val_main_v2_apply, val_main_v1_apply, val_main_v0_apply,
    val_main_cst_apply, val_main_cst_0_apply, val_main_cst_1_apply]
  rw [zero_lit, zero_add]
  refine congrArg (fun z : EReal => Ideal.div z (Ideal.ofBits .f32 0x44800000#32) + Ideal.ofBits .f32 0x3727C5AC#32) ?_
  exact Finset.sum_congr rfl fun k _ => congrArg (fun z : EReal => z * z) (at2_eq _ _ _ _ rfl rfl)

/-- The reference's inverse root. -/
theorem refRs (i : S4096x1.Idx) : (val_main_v7 (F := Ideal) x i : EReal) = rs 1024 len (row x (i 0).val) :=
  congrArg Ideal.rsqrt (refMs x i)

/-- The reference's error, -/
theorem refErr (i : S4096x1024.Idx) : (val_main_v16 (F := Ideal) x g t i : EReal) = err (row x (i 0).val) (at1 (N := 1024) g) (row t (i 0).val) (i 1).val := by
  rw [val_main_v16_apply, val_main_v15_apply, val_main_v14_apply, val_main_v13_apply, val_main_v12_apply, val_main_v11_apply, refRs,
    at2_eq x i _ _ rfl rfl, at2_eq t i _ _ rfl rfl, at1_eq g (idx_main_v13 (idx_main_v14 i)) (i 1).val rfl]
  rfl

/-- the error's gradient, -/
theorem refDe (i : S4096x1024.Idx) : (val_main_v30 (F := Ideal) x g t i : EReal) = de (row x (i 0).val) (at1 (N := 1024) g) (row t (i 0).val) (i 1).val := by
  rw [val_main_v30_apply, val_main_v29_apply, val_main_v28_apply, val_main_v27_apply, val_main_cst_10_apply, val_main_v26_apply, val_main_v25_apply,
    val_main_cst_8_apply, val_main_cst_9_apply, val_main_v19_apply, val_main_v18_apply, val_main_cst_3_apply, refErr]
  refine Eq.trans (congrArg (fun o : EReal => Ideal.div (half * o) len * (Ideal.ofBits .f32 0x40000000#32 * _)) (Cert.Up.lit_one.trans EReal.coe_one)) ?_
  rw [mul_one]
  exact de_eq _

/-- the same times the scale. -/
theorem refDg (i : S4096x1024.Idx) : (val_main_v35 (F := Ideal) x g t i : EReal)
    = de (row x (i 0).val) (at1 (N := 1024) g) (row t (i 0).val) (i 1).val * at1 (N := 1024) g (i 1).val := by
  rw [val_main_v35_apply, val_main_v34_apply, val_main_v13_apply, refDe]
  exact congrArg (fun b : EReal => _ * b) (at1_eq g _ _ rfl)

/-- The gradient of the mean square in the reference. -/
theorem refCo (i : S4096x1024.Idx) : (val_main_v46 (F := Ideal) x g t i : EReal)
    = co 1024 len (row x (i 0).val) (at1 (N := 1024) g) (de (row x (i 0).val) (at1 (N := 1024) g) (row t (i 0).val)) := by
  rw [val_main_v46_apply, val_main_v45_apply, val_main_cst_15_apply, zero_lit, zero_add, Fin.sum_univ_one,
    val_main_v44_apply, val_main_v43_apply, val_main_cst_14_apply, val_main_v42_apply, val_main_v10_apply, val_main_v9_apply, val_main_cst_2_apply,
    val_main_v8_apply, refRs, refMs, val_main_v39_apply, val_main_v38_apply, val_main_cst_13_apply, zero_lit, zero_add]
  refine congrArg (fun z : EReal => Ideal.div (z * (Ideal.ofBits .f32 0xBF000000#32 * Ideal.div (rs 1024 len (row x (i 0).val))
    (ms 1024 len (row x (i 0).val)))) (Ideal.ofBits .f32 0x44800000#32)) ?_
  refine Finset.sum_congr rfl fun k _ => ?_
  rw [val_main_v37_apply]
  have e0 : (idx_main_v38 (idx_main_v39 (idx_main_v45 (idx_main_v46 i) 0)) k 0).val = (i 0).val := by
    show (i 0).val * 1 + 0 = (i 0).val
    omega
  refine congrArg₂ (fun a b : EReal => a * b) (at2_eq x _ _ _ e0 rfl) ((refDg x t g _).trans ?_)
  rw [e0]

/-- The reference's gradient of an entry. -/
theorem refDx (i : S4096x1024.Idx) : (val_main_v50 (F := Ideal) x g t i : EReal)
    = dx 1024 len (row x (i 0).val) (at1 (N := 1024) g) (de (row x (i 0).val) (at1 (N := 1024) g) (row t (i 0).val)) (i 1).val := by
  rw [val_main_v50_apply, val_main_v49_apply, val_main_v48_apply, val_main_v47_apply, val_main_v41_apply, val_main_v40_apply,
    refCo, refRs, refDg, at2_eq x i _ _ rfl rfl]
  rfl

/-- The reference's gradient of the scale. -/
theorem refDscale (i : S1x1024.Idx) : (val_main_v53 (F := Ideal) x g t i : EReal)
    = ∑ r : Fin 4096, dg 1024 len (row x r.val) (de (row x r.val) (at1 (N := 1024) g) (row t r.val)) (i 1).val := by
  rw [val_main_v53_apply, val_main_v36_apply, val_main_cst_12_apply, zero_lit, zero_add, Fin.sum_univ_one, val_main_v33_apply, val_main_v32_apply,
    val_main_cst_11_apply, zero_lit, zero_add]
  refine Finset.sum_congr rfl fun k _ => ?_
  rw [val_main_v31_apply, val_main_v12_apply, val_main_v11_apply, refRs, refDe]
  have e1 : (idx_main_v32 (idx_main_v33 (idx_main_v36 (idx_main_v53 i) 0)) k 1).val = (i 1).val := by
    have h0 : (i 0).val < 1 := (i 0).isLt
    dsimp only
    omega
  rw [e1]
  exact congrArg (fun a : EReal => a * rs 1024 len (row x k.val) * de (row x k.val) (at1 (N := 1024) g) (row t k.val) (i 1).val) (at2_eq x _ _ _ rfl e1)

/-- The reference's loss. -/
theorem refLoss (i : S1x128.Idx) : (val_main_v51 (F := Ideal) x g t i : EReal)
    = half * ∑ r : Fin 4096, ls (row x r.val) (at1 (N := 1024) g) (row t r.val) := by
  rw [val_main_v51_apply, val_main_v24_apply, val_main_cst_7_apply, val_main_v23_apply, val_main_cst_6_apply, zero_lit, zero_add]
  refine congrArg (fun z : EReal => half * z) ?_
  refine (Fintype.sum_equiv (⟨fun j => j 0, fun r => ValueIdx.ix1 r, fun j => by funext a; fin_cases a; rfl, fun _ => rfl⟩ : S4096.Idx ≃ Fin 4096) _
    (fun r : Fin 4096 => ls (row x r.val) (at1 (N := 1024) g) (row t r.val)) fun j => ?_)
  rw [val_main_v22_apply, val_main_v21_apply, val_main_cst_5_apply, val_main_v20_apply, val_main_cst_4_apply, zero_lit, zero_add]
  refine congrArg (fun z : EReal => Ideal.div z len) ?_
  refine Finset.sum_congr rfl fun k _ => ?_
  rw [val_main_v17_apply, refErr]
  rfl

end Cert.LossHeadIdeal.Head

namespace Cert.LossHeadIdeal.Head

open Cert.LossHeadIdeal Cert.LossHeadIdeal.Gen Idealize.ShloMosaic Idealize.ShloMosaic.TcCoe Idealize.SL.Sem Cert.Mat Cert.Row

section Block

variable (x t : FVec Ideal S512x1024 .f32) (g : FVec Ideal S1x1024 .f32) (X T : ℕ → ℕ → EReal) (G : ℕ → EReal)
  (hx : ∀ y : S512x1024.Idx, (x y : EReal) = X (y 0).val (y 1).val) (ht : ∀ y : S512x1024.Idx, (t y : EReal) = T (y 0).val (y 1).val)
  (hg : ∀ y : S1x1024.Idx, (g y : EReal) = G (y 1).val)

include hx in
/-- The kernel's mean square of a block's row, -/
theorem blockMs (y : S512x1.Idx) : (k0_pay9 (F := Ideal) x y : EReal) = ms 1024 len (X (y 0).val) := by
  pointwise [k0_pay9]
  simp only [hx]
  rfl
include hx ht hg in
/-- its error, -/
theorem blockErr (y : S512x1024.Idx) : (k0_pay13 (F := Ideal) t x g y : EReal) = err (X (y 0).val) G (T (y 0).val) (y 1).val := by
  pointwise [k0_pay13, k0_pay12, k0_pay10, k0_pay8]
  simp only [blockMs x X hx, hx, ht, hg]
  rfl
include hx ht hg in
/-- the error's gradient, -/
theorem blockDe (y : S512x1024.Idx) : (k0_pay1 (F := Ideal) (k0_pay13 t x g) (k0_pay15 (F := Ideal)) y : EReal) = de (X (y 0).val) G (T (y 0).val) (y 1).val := by
  pointwise [k0_pay1, k0_pay15]
  simp only [blockErr x t g X T G hx ht hg, Fin.sum_univ_one]
  rfl
include hx ht hg in
/-- the gradient of an entry, -/
theorem blockDx (y : S512x1024.Idx) :
    (k0_pay2 (F := Ideal) x (k0_pay8 g) (k0_pay10 x) (k0_pay11 x) (k0_pay13 t x g) (k0_pay15 (F := Ideal)) y : EReal)
      = dx 1024 len (X (y 0).val) G (de (X (y 0).val) G (T (y 0).val)) (y 1).val := by
  pointwise [k0_pay2, k0_pay11, k0_pay10, k0_pay8]
  simp only [blockMs x X hx, blockDe x t g X T G hx ht hg, hx, hg, Fin.sum_univ_one]
  rfl
include hx ht hg in
/-- what it adds to the scale's gradient -/
theorem blockDg (p : FVec Ideal S1x1024 .f32) (y : S1x1024.Idx) :
    (k0_pay4 (F := Ideal) (k0_pay12 x) (k0_pay13 t x g) (k0_pay15 (F := Ideal)) p y : EReal)
      = p y + ∑ r : Fin 512, dg 1024 len (X r.val) (de (X r.val) G (T r.val)) (y 1).val := by
  pointwise [k0_pay4, k0_pay12, k0_pay10]
  simp only [blockMs x X hx, blockDe x t g X T G hx ht hg, hx]
  rfl
include hx ht hg in
/-- and to the loss. -/
theorem blockLoss (p : FVec Ideal S1x128 .f32) (y : S1x128.Idx) :
    (k0_pay5 (F := Ideal) (k0_pay14 t x g) p y : EReal) = p y + half * ∑ r : Fin 512, ls (X r.val) G (T r.val) := by
  pointwise [k0_pay5, k0_pay14]
  simp only [blockErr x t g X T G hx ht hg, Fin.sum_univ_one]
  rfl

end Block

variable (m : (ℓ : Loc nD τ sig) → Buf (Elt Ideal) ℓ) (c : Dev nD)

/-- The blocks that a grid point takes and gives. -/
theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![0, 0] :=
  (by decide +kernel : ∀ t : Fin grid0.N, _)

/-- An argument's rows of a grid point. -/
noncomputable def rows (x : S4096x1024.Idx → EReal) (t r q : ℕ) : EReal := row x (512 * t + r) q

/-- The rows' array at a block's entry, -/
theorem iblk0 (t : Fin cfg0.N) (y : S512x1024.Idx) : (iblk m c 0 t y : EReal)
    = rows (m ((c : Thread nD τ).loc main_arg0)) t.val (y 0).val (y 1).val := by
  blk_simp [iblk]
  rw [V_main_arg0]
  refine at2_eq _ _ _ _ ?_ ?_
  all_goals (blk_simp [idx t]; try omega)

/-- the scale, -/
theorem iblk1 (t : Fin cfg0.N) (y : S1x1024.Idx) : (iblk m c 1 t y : EReal) = at1 (N := 1024) (m ((c : Thread nD τ).loc main_arg1)) (y 1).val := by
  blk_simp [iblk]
  entry_read
  pointwise
  refine at1_eq _ _ _ ?_
  all_goals (blk_simp [idx t]; try omega)

/-- and the targets. -/
theorem iblk2 (t : Fin cfg0.N) (y : S512x1024.Idx) : (iblk m c 2 t y : EReal)
    = rows (m ((c : Thread nD τ).loc main_arg2)) t.val (y 0).val (y 1).val := by
  blk_simp [iblk]
  rw [V_main_arg2]
  refine at2_eq _ _ _ _ ?_ ?_
  all_goals (blk_simp [idx t]; try omega)

/-- A point's gradient of the rows. -/
noncomputable def gx (t : Fin cfg0.N) : FVec Ideal S512x1024 .f32 :=
  k0_pay2 (F := Ideal) (iblk m c 0 t) (k0_pay8 (iblk m c 1 t)) (k0_pay10 (iblk m c 0 t)) (k0_pay11 (iblk m c 0 t))
    (k0_pay13 (iblk m c 2 t) (iblk m c 0 t) (iblk m c 1 t)) (k0_pay15 (F := Ideal))

/-- What a point leaves in the gradient's block, -/
theorem outX (t : Fin cfg0.N) : (outsAt0 m c t.val t.isLt).2.1 = gx m c t := by
  unfold gx
  by_cases h0 : t.val % 8 = 0
  · rw [outsAt0_A m c t h0]; dsimp only; frame_out
  · rw [outsAt0_B m c t h0]; dsimp only; frame_out

/-- in its cast's, -/
theorem outX16 (t : Fin cfg0.N) : ((outsAt0 m c t.val t.isLt).2.2.1 : S512x1024.Idx → EReal) = gx m c t := by
  unfold gx
  by_cases h0 : t.val % 8 = 0
  · rw [outsAt0_A m c t h0]; dsimp only; frame_out; rfl
  · rw [outsAt0_B m c t h0]; dsimp only; frame_out; rfl

/-- in the scale's gradient at the first point -/
theorem outG_A (t : Fin cfg0.N) (h0 : t.val % 8 = 0) : (outsAt0 m c t.val t.isLt).2.2.2
    = k0_pay4 (F := Ideal) (k0_pay12 (iblk m c 0 t)) (k0_pay13 (iblk m c 2 t) (iblk m c 0 t) (iblk m c 1 t)) (k0_pay15 (F := Ideal)) (k0_pay6 (F := Ideal)) := by
  rw [outsAt0_A m c t h0]; dsimp only; frame_out

/-- and at a later one, -/
theorem outG_B (t : Fin cfg0.N) (h0 : ¬ t.val % 8 = 0) : (outsAt0 m c t.val t.isLt).2.2.2
    = k0_pay4 (F := Ideal) (k0_pay12 (iblk m c 0 t)) (k0_pay13 (iblk m c 2 t) (iblk m c 0 t) (iblk m c 1 t)) (k0_pay15 (F := Ideal))
      (outsAt0 m c (t.val - 1) (Nat.lt_of_le_of_lt (Nat.sub_le _ _) t.isLt)).2.2.2 := by
  rw [outsAt0_B m c t h0]; dsimp only; frame_out

/-- and in the loss likewise. -/
theorem outL_A (t : Fin cfg0.N) (h0 : t.val % 8 = 0) : (outsAt0 m c t.val t.isLt).1
    = k0_pay5 (F := Ideal) (k0_pay14 (iblk m c 2 t) (iblk m c 0 t) (iblk m c 1 t)) (k0_pay7 (F := Ideal)) := by
  rw [outsAt0_A m c t h0]; dsimp only; frame_out
theorem outL_B (t : Fin cfg0.N) (h0 : ¬ t.val % 8 = 0) : (outsAt0 m c t.val t.isLt).1
    = k0_pay5 (F := Ideal) (k0_pay14 (iblk m c 2 t) (iblk m c 0 t) (iblk m c 1 t))
      (outsAt0 m c (t.val - 1) (Nat.lt_of_le_of_lt (Nat.sub_le _ _) t.isLt)).1 := by
  rw [outsAt0_B m c t h0]; dsimp only; frame_out

/-- The scale, from the arguments. -/
noncomputable abbrev sc : ℕ → EReal := at1 (N := 1024) (m ((c : Thread nD τ).loc main_arg1))
/-- A row of the input, -/
noncomputable abbrev xr (r : ℕ) : ℕ → EReal := row (m ((c : Thread nD τ).loc main_arg0)) r
/-- and of the targets. -/
noncomputable abbrev tr (r : ℕ) : ℕ → EReal := row (m ((c : Thread nD τ).loc main_arg2)) r
/-- A row's part of the scale's gradient, -/
noncomputable def part (r q : ℕ) : EReal := dg 1024 len (xr m c r) (de (xr m c r) (sc m c) (tr m c r)) q
/-- and of the loss. -/
noncomputable def lpart (r : ℕ) : EReal := ls (xr m c r) (sc m c) (tr m c r)

/-- What a point adds to the scale's gradient -/
theorem addG (t : Fin cfg0.N) (p : FVec Ideal S1x1024 .f32) (y : S1x1024.Idx) :
    (k0_pay4 (F := Ideal) (k0_pay12 (iblk m c 0 t)) (k0_pay13 (iblk m c 2 t) (iblk m c 0 t) (iblk m c 1 t)) (k0_pay15 (F := Ideal)) p y : EReal)
      = p y + ∑ r : Fin 512, part m c (512 * t.val + r.val) (y 1).val :=
  blockDg _ _ _ (rows (m ((c : Thread nD τ).loc main_arg0)) t.val) (rows (m ((c : Thread nD τ).loc main_arg2)) t.val) (sc m c) (iblk0 m c t) (iblk2 m c t) (iblk1 m c t) p y
/-- and to the loss. -/
theorem addL (t : Fin cfg0.N) (p : FVec Ideal S1x128 .f32) (y : S1x128.Idx) :
    (k0_pay5 (F := Ideal) (k0_pay14 (iblk m c 2 t) (iblk m c 0 t) (iblk m c 1 t)) p y : EReal)
      = p y + half * ∑ r : Fin 512, lpart m c (512 * t.val + r.val) :=
  blockLoss _ _ _ (rows (m ((c : Thread nD τ).loc main_arg0)) t.val) (rows (m ((c : Thread nD τ).loc main_arg2)) t.val) (sc m c) (iblk0 m c t) (iblk2 m c t) (iblk1 m c t) p y

/-- The scale's gradient after a point: the sum over the blocks so far. -/
theorem accG : ∀ (n : ℕ) (hn : n < cfg0.N) (y : S1x1024.Idx), ((outsAt0 m c n hn).2.2.2 y : EReal)
    = ∑ k ∈ Finset.range (n + 1), ∑ r : Fin 512, part m c (512 * k + r.val) (y 1).val := by
  intro n
  induction n with
  | zero =>
    intro hn y
    refine (congrFun (outG_A m c ⟨0, hn⟩ rfl) y).trans ((addG m c ⟨0, hn⟩ _ y).trans ?_)
    rw [Finset.sum_range_one]
    exact (congrArg (fun z : EReal => z + _) zero_lit).trans (zero_add _)
  | succ n ih =>
    intro hn y
    have hN : cfg0.N = 8 := by decide +kernel
    refine (congrFun (outG_B m c ⟨n + 1, hn⟩ (by dsimp only; omega)) y).trans ((addG m c ⟨n + 1, hn⟩ _ y).trans ?_)
    rw [Finset.sum_range_succ]
    exact congrArg (fun z : EReal => z + _) (ih (Nat.lt_of_succ_lt hn) y)

/-- The loss after a point. -/
theorem accL : ∀ (n : ℕ) (hn : n < cfg0.N) (y : S1x128.Idx), ((outsAt0 m c n hn).1 y : EReal)
    = ∑ k ∈ Finset.range (n + 1), half * ∑ r : Fin 512, lpart m c (512 * k + r.val) := by
  intro n
  induction n with
  | zero =>
    intro hn y
    refine (congrFun (outL_A m c ⟨0, hn⟩ rfl) y).trans ((addL m c ⟨0, hn⟩ _ y).trans ?_)
    rw [Finset.sum_range_one]
    exact (congrArg (fun z : EReal => z + _) zero_lit).trans (zero_add _)
  | succ n ih =>
    intro hn y
    have hN : cfg0.N = 8 := by decide +kernel
    refine (congrFun (outL_B m c ⟨n + 1, hn⟩ (by dsimp only; omega)) y).trans ((addL m c ⟨n + 1, hn⟩ _ y).trans ?_)
    rw [Finset.sum_range_succ]
    exact congrArg (fun z : EReal => z + _) (ih (Nat.lt_of_succ_lt hn) y)

/-- An entry of the kernel's gradient. -/
theorem entry (t : Fin cfg0.N) (y : S512x1024.Idx) (i : S4096x1024.Idx) (e0 : (i 0).val = 512 * t.val + (y 0).val) (e1 : (i 1).val = (y 1).val) :
    (gx m c t y : EReal)
      = Cert.RefLossHeadIdeal.Read.val_main_v50 (F := Ideal) (m ((c : Thread nD τ).loc main_arg0)) (m ((c : Thread nD τ).loc main_arg1))
        (m ((c : Thread nD τ).loc main_arg2)) i := by
  refine (blockDx _ _ _ (rows (m ((c : Thread nD τ).loc main_arg0)) t.val) (rows (m ((c : Thread nD τ).loc main_arg2)) t.val) (sc m c) (iblk0 m c t) (iblk2 m c t) (iblk1 m c t) y).trans ?_
  refine Eq.trans ?_ (refDx _ _ _ _).symm
  rw [e0, e1]
  rfl

/-- The loss is the reference's, -/
theorem finL : ((dats m 0 c).arrAt 3 cfg0.N : S1x128.Idx → EReal)
    = Cert.RefLossHeadIdeal.Read.val_main_v51 (F := Ideal) (m ((c : Thread nD τ).loc main_arg0)) (m ((c : Thread nD τ).loc main_arg1))
        (m ((c : Thread nD τ).loc main_arg2)) := by
  refine (dats m 0 c).arrAt_eq_of_covers 3 _ (by decide +kernel) fun t hf y => ?_
  blk_simp
  rw [after0_3]
  have h7 := (flush0_3 t).mp hf
  have hN : cfg0.N = 8 := by decide +kernel
  have ht : t.val < 8 := hN ▸ t.isLt
  refine (accL m c t.val t.isLt y).trans ?_
  refine Eq.trans ?_ (refLoss _ _ _ _).symm
  rw [show t.val + 1 = 8 by omega, ← half_sum]
  exact congrArg (fun z : EReal => half * z) (sum_blocks (lpart m c)).symm

/-- the gradient of the rows, -/
theorem finX : ((dats m 0 c).arrAt 4 cfg0.N : S4096x1024.Idx → EReal)
    = Cert.RefLossHeadIdeal.Read.val_main_v50 (F := Ideal) (m ((c : Thread nD τ).loc main_arg0)) (m ((c : Thread nD τ).loc main_arg1))
        (m ((c : Thread nD τ).loc main_arg2)) := by
  refine (dats m 0 c).arrAt_eq_of_covers 4 _ (by decide +kernel) fun t hf y => ?_
  blk_simp
  rw [after0_4]
  refine (congrFun (outX m c t) y).trans (entry m c t y _ ?_ ?_)
  all_goals (blk_simp [idx t]; try omega)

/-- its cast, -/
theorem finX16 : ((dats m 0 c).arrAt 5 cfg0.N : S4096x1024.Idx → EReal)
    = Cert.RefLossHeadIdeal.Read.val_main_v52 (F := Ideal) (m ((c : Thread nD τ).loc main_arg0)) (m ((c : Thread nD τ).loc main_arg1))
        (m ((c : Thread nD τ).loc main_arg2)) := by
  refine (dats m 0 c).arrAt_eq_of_covers 5 _ (by decide +kernel) fun t hf y => ?_
  blk_simp
  rw [after0_5]
  refine (congrFun (outX16 m c t) y).trans (entry m c t y _ ?_ ?_)
  all_goals (blk_simp [idx t]; try omega)

/-- and the scale's gradient. -/
theorem finG : ((dats m 0 c).arrAt 6 cfg0.N : S1x1024.Idx → EReal)
    = Cert.RefLossHeadIdeal.Read.val_main_v53 (F := Ideal) (m ((c : Thread nD τ).loc main_arg0)) (m ((c : Thread nD τ).loc main_arg1))
        (m ((c : Thread nD τ).loc main_arg2)) := by
  refine (dats m 0 c).arrAt_eq_of_covers 6 _ (by decide +kernel) fun t hf y => ?_
  blk_simp
  rw [after0_6]
  have h7 := (flush0_6 t).mp hf
  have hN : cfg0.N = 8 := by decide +kernel
  have ht : t.val < 8 := hN ▸ t.isLt
  have e1 : (((win0_6.blk t).view.emb y : S1x1024.Idx) 1).val = (y 1).val := by blk_simp [idx t]; try omega
  refine (accG m c t.val t.isLt y).trans ?_
  refine Eq.trans ?_ (refDscale _ _ _ _).symm
  rw [e1, show t.val + 1 = 8 by omega]
  exact (sum_blocks fun r => part m c r (y 1).val).symm

end Cert.LossHeadIdeal.Head

namespace Cert.LossHeadIdeal

open Idealize.ShloMosaic Idealize.SL.Sem

/-- The reference's run terminates, keeps its arguments and leaves every semaphore at zero. -/
theorem frame_reference : Cert.quiescent_RefLossHeadIdeal := fun m ρ _ =>
  (θ_run Cert.RefLossHeadIdeal.defs _ _).mono
    (fun r h => ⟨fun c => (h c).2.2.2.2, Idealize.ShloMosaic.sem_eq_zero_of_no_sems (by decide) r.2⟩)
    (Cert.RefLossHeadIdeal.Value.run (F := Ideal) m ρ)

/-- The reference's results are the kernel's. -/
theorem algebraic : Cert.algebraic_LossHeadIdeal_RefLossHeadIdeal := by
  intro m ρ m' ρ' _ hagree
  refine ⟨_, _, _, _, Cert.LossHeadIdeal.Value.run_blocks (F := Ideal) m ρ, ?_⟩
  refine (θ_run Cert.RefLossHeadIdeal.defs _ _).mono (fun _ h c => ⟨(h c).1.trans ((Cert.RefLossHeadIdeal.Read.val_main_v51_eq (F := Ideal) _ _ _).trans ?_),
    (h c).2.1.trans ((Cert.RefLossHeadIdeal.Read.val_main_v50_eq (F := Ideal) m' c).trans ?_),
    (h c).2.2.1.trans ((Cert.RefLossHeadIdeal.Read.val_main_v52_eq (F := Ideal) m' c).trans ?_),
    (h c).2.2.2.1.trans ((Cert.RefLossHeadIdeal.Read.val_main_v53_eq (F := Ideal) _ _ _).trans ?_), (h c).2.2.2.2⟩)
    (Cert.RefLossHeadIdeal.Value.run (F := Ideal) m' ρ')
  all_goals
    obtain ⟨a0, a1, a2⟩ := hagree c
    simp only [a0, a1, a2]
  exacts [(Head.finL m c).symm, (Head.finX m c).symm, (Head.finX16 m c).symm, (Head.finG m c).symm]

end Cert.LossHeadIdeal
-- ==== Proof.GateFwd.lean ====
module

public import proofs.«01_k».proof.Defs
public import proofs.«01_k».proof.Proof.GateBwd
public import Idealize.ShloMosaic.Lib.Pipeline.ValueKit
public import Idealize.ShloMosaic.Lib.Pointwise
public import Idealize.ShloMosaic.PureOps.Ideal.Laws
public import proofs.«01_k».proof.Proof.Gen.GateFwd
public import proofs.«01_k».proof.Proof.Gen.GateFwd.Skeleton
public import proofs.«01_k».proof.Proof.Gen.GateFwd.Launch
public import proofs.«01_k».proof.Proof.Gen.GateFwd.Points
public import proofs.«01_k».proof.Proof.Gen.GateFwd.Frame
public import proofs.«01_k».proof.Proof.Gen.GateFwdIdeal
public import proofs.«01_k».proof.Proof.Gen.GateFwdIdeal.Skeleton
public import proofs.«01_k».proof.Proof.Gen.GateFwdIdeal.Launch
public import proofs.«01_k».proof.Proof.Gen.GateFwdIdeal.Points
public import proofs.«01_k».proof.Proof.Gen.GateFwdIdeal.Frame
public import proofs.«01_k».proof.Proof.Gen.GateFwdIdeal.Value
public import proofs.«01_k».proof.Proof.Gen.RefGateFwdIdeal
public import proofs.«01_k».proof.Proof.Gen.RefGateFwdIdeal.Run
public import proofs.«01_k».proof.Proof.Gen.RefGateFwdIdeal.Read

/-! The Mamba-2 mixer's last lines (skip, gate, normalisation by groups, scale): the kernel's result array is the reference's. -/

@[expose] public section

set_option maxRecDepth 16384

namespace Cert.GateFwdIdeal.Gate

open Idealize.ShloMosaic Cert.Mat Cert.Row
open Cert.GateBwdIdeal.Gate (Args xs zz sk pre vv sg si len)

/-- The result at two numbers: the gated row over its group's root mean square, times the scale. -/
noncomputable def out (A : Args) (r q : ℕ) : EReal :=
  vv A r q * rs 512 len (fun k => vv A r (512 * (q / 512) + k)) * at1 (N := 1024) A.g q

end Cert.GateFwdIdeal.Gate

namespace Cert.GateFwdIdeal.Gate

open Cert.RefGateFwdIdeal Cert.RefGateFwdIdeal.Gen Cert.RefGateFwdIdeal.Read Idealize.ShloMosaic Idealize.ShloMosaic.TcCoe Cert.Mat Cert.Row
open Cert.GateBwdIdeal.Gate (Args xs zz sk pre vv sg si len one_lit)

variable (A : Args)

/-! The rows and columns that the reference's indices stand for. -/

/-- [2, 2048, 1024]: row. -/
abbrev r3 (i : S2x2048x1024.Idx) : ℕ := 2048 * (i 0).val + (i 1).val
/-- [2, 2048, 16, 64]: row, -/
abbrev rh (i : S2x2048x16x64.Idx) : ℕ := 2048 * (i 0).val + (i 1).val
/-- and column. -/
abbrev ch (i : S2x2048x16x64.Idx) : ℕ := 64 * (i 2).val + (i 3).val
/-- [2, 2048, 2, 512]: row, -/
abbrev rg (i : S2x2048x2x512.Idx) : ℕ := 2048 * (i 0).val + (i 1).val
/-- and column. -/
abbrev cg (i : S2x2048x2x512.Idx) : ℕ := 512 * (i 2).val + (i 3).val
/-- [2, 2048, 2, 1]: row. -/
abbrev rk (i : S2x2048x2x1.Idx) : ℕ := 2048 * (i 0).val + (i 1).val

/-- The extents. -/
theorem b3 (i : S2x2048x1024.Idx) : (i 0).val < 2 ∧ (i 1).val < 2048 ∧ (i 2).val < 1024 := ⟨(i 0).isLt, (i 1).isLt, (i 2).isLt⟩
theorem bh (i : S2x2048x16x64.Idx) : (i 0).val < 2 ∧ (i 1).val < 2048 ∧ (i 2).val < 16 ∧ (i 3).val < 64 := ⟨(i 0).isLt, (i 1).isLt, (i 2).isLt, (i 3).isLt⟩
theorem bg (i : S2x2048x2x512.Idx) : (i 0).val < 2 ∧ (i 1).val < 2048 ∧ (i 2).val < 2 ∧ (i 3).val < 512 := ⟨(i 0).isLt, (i 1).isLt, (i 2).isLt, (i 3).isLt⟩
theorem bk (i : S2x2048x2x1.Idx) : (i 0).val < 2 ∧ (i 1).val < 2048 ∧ (i 2).val < 2 ∧ (i 3).val < 1 := ⟨(i 0).isLt, (i 1).isLt, (i 2).isLt, (i 3).isLt⟩
theorem b2 (i : S4096x1024.Idx) : (i 0).val < 4096 ∧ (i 1).val < 1024 := ⟨(i 0).isLt, (i 1).isLt⟩

/-- The scan's result with the skip, by heads -/
theorem l8 (i : S2x2048x16x64.Idx) : (val_main_v8 (F := Ideal) A.y A.xb A.s i : EReal) = pre A (rh i) (ch i) := by
  rw [val_main_v8_apply, val_main_v7_apply, val_main_v6_apply, val_main_v5_apply, val_main_v4_apply, val_main_v3_apply, val_main_v2_apply, val_main_v0_apply]
  have := bh i
  refine congrArg₂ (fun a b : EReal => a + b) (at2_eq _ _ _ _ ?_ ?_) (congrArg₂ (fun a b : EReal => a * b) (at1_eq _ _ _ ?_) (at2_eq _ _ _ _ ?_ ?_))
  all_goals (dsimp only [rh, ch]; omega)
/-- and by columns. -/
theorem l9 (i : S2x2048x1024.Idx) : (val_main_v9 (F := Ideal) A.y A.xb A.s i : EReal) = pre A (r3 i) (i 2).val := by
  rw [val_main_v9_apply, l8]
  have := b3 i
  refine congrArg₂ (pre A) ?_ ?_
  all_goals (dsimp only [rh, ch, r3]; omega)

/-- The gate's argument -/
theorem l10 (i : S2x2048x1024.Idx) : (val_main_v10 (F := Ideal) A.p i : EReal) = zz A (r3 i) (i 2).val := by
  rw [val_main_v10_apply, val_main_v1_apply]
  have := b3 i
  refine at2_eq _ _ _ _ ?_ ?_
  all_goals (dsimp only [r3]; omega)
/-- and the gate. -/
theorem l11 (i : S2x2048x1024.Idx) : (val_main_v11 (F := Ideal) A.p i : EReal) = si (zz A (r3 i) (i 2).val) := by
  rw [val_main_v11_apply, val_main_call0_v5_apply, val_main_call0_v4_apply, val_main_call0_cst_0_apply, val_main_call0_v3_apply, val_main_call0_v2_apply,
    val_main_call0_cst_apply, val_main_call0_v1_apply, val_main_call0_v0_apply, l10, one_lit]
  rfl

/-- The gated rows by groups. -/
theorem l13 (i : S2x2048x2x512.Idx) : (val_main_v13 (F := Ideal) A.y A.xb A.p A.s i : EReal) = vv A (rg i) (cg i) := by
  rw [val_main_v13_apply, val_main_v12_apply, l9, l11]
  have := bg i
  refine congrArg₂ (vv A) ?_ ?_
  all_goals (dsimp only [r3, rg, cg]; omega)

/-- The group's inverse root of the mean square. -/
theorem l21 (i : S2x2048x2x1.Idx) : (val_main_v21 (F := Ideal) A.y A.xb A.p A.s i : EReal) = rs 512 len fun k => vv A (rk i) (512 * (i 2).val + k) := by
  rw [val_main_v21_apply, val_main_v20_apply, val_main_v19_apply, val_main_cst_1_apply, val_main_v18_apply, val_main_v17_apply, val_main_cst_0_apply,
    val_main_v16_apply, val_main_v15_apply, val_main_cst_apply, zero_lit, zero_add]
  refine congrArg (fun z : EReal => Ideal.rsqrt (Ideal.div z len + Ideal.ofBits .f32 0x3727C5AC#32)) ?_
  refine Finset.sum_congr rfl fun k _ => ?_
  rw [val_main_v14_apply, l13]
  rfl

/-- The normalised rows. -/
theorem l23 (i : S2x2048x2x512.Idx) : (val_main_v23 (F := Ideal) A.y A.xb A.p A.s i : EReal)
    = vv A (rg i) (cg i) * rs 512 len fun k => vv A (rg i) (512 * (i 2).val + k) := by
  rw [val_main_v23_apply, val_main_v22_apply, l21, l13]
  rfl

/-- The reference's result. -/
theorem ref (i : S4096x1024.Idx) : (val_main_v29 (F := Ideal) A.y A.xb A.p A.s A.g i : EReal) = out A (i 0).val (i 1).val := by
  rw [val_main_v29_apply, val_main_v28_apply, val_main_v27_apply, val_main_v26_apply, val_main_v25_apply, val_main_v24_apply, l23]
  have := b2 i
  generalize hk : idx_main_v24 (idx_main_v28 i) = k
  have e0 : rg k = (i 0).val := by subst hk; dsimp only [rg]; omega
  have e1 : cg k = (i 1).val := by subst hk; dsimp only [cg]; omega
  have e2 : (k 2).val = (i 1).val / 512 := by subst hk; dsimp only; omega
  rw [e0, e1, e2]
  refine congrArg (fun b : EReal => vv A (i 0).val (i 1).val * (rs 512 len fun k => vv A (i 0).val (512 * ((i 1).val / 512) + k)) * b) (at1_eq _ _ _ ?_)
  dsimp only
  omega

end Cert.GateFwdIdeal.Gate

namespace Cert.GateFwdIdeal.Gate

open Cert.GateFwdIdeal Cert.GateFwdIdeal.Gen Idealize.ShloMosaic Idealize.ShloMosaic.TcCoe Idealize.SL.Sem Cert.Mat Cert.Row
open Cert.GateBwdIdeal.Gate (Args Blk Args.blk xs zz sk pre vv sg si len)

/-- A block of the result: its rows gated and normalised. -/
theorem block (B : Blk) (y x z : FVec Ideal S512x512 .f32) (s g : FVec Ideal S1x512 .f32)
    (hy : ∀ i : S512x512.Idx, (y i : EReal) = B.Y (i 0).val (i 1).val) (hx : ∀ i : S512x512.Idx, (x i : EReal) = B.X (i 0).val (i 1).val)
    (hz : ∀ i : S512x512.Idx, (z i : EReal) = B.Z (i 0).val (i 1).val) (hs : ∀ i : S1x512.Idx, (s i : EReal) = B.S (i 1).val)
    (hg : ∀ i : S1x512.Idx, (g i : EReal) = B.G (i 1).val) (i : S512x512.Idx) :
    (out0_5 (F := Ideal) y x z s g i : EReal) = B.vv (i 0).val (i 1).val * rs 512 len (B.vv (i 0).val) * B.G (i 1).val := by
  unfold out0_5
  rw [View.canon_unit_zero (by funext a; fin_cases a <;> rfl), View.ld_unit_zero (by funext a; fin_cases a <;> rfl),
    View.ld_unit_zero (by funext a; fin_cases a <;> rfl), View.ld_unit_zero (by funext a; fin_cases a <;> rfl),
    View.ld_unit_zero (by funext a; fin_cases a <;> rfl), View.ld_unit_zero (by funext a; fin_cases a <;> rfl)]
  pointwise [k0_pay1]
  simp only [hy, hx, hz, hs, hg, zero_sub]
  rfl

variable (m : (ℓ : Loc nD τ sig) → Buf (Elt Ideal) ℓ) (c : Dev nD)

/-- A device's arguments (the call has no incoming gradient). -/
noncomputable def args : Args :=
  ⟨m ((c : Thread nD τ).loc main_arg0), m ((c : Thread nD τ).loc main_arg1), m ((c : Thread nD τ).loc main_arg2),
    m ((c : Thread nD τ).loc main_arg3), m ((c : Thread nD τ).loc main_arg4), fun _ => 0⟩

/-- The blocks that a grid point takes and gives. -/
theorem idx : ∀ t : Fin cfg0.N, win0_0.index t = ![t.val / 2, t.val % 2] ∧ win0_1.index t = ![t.val / 2, t.val % 2] ∧ win0_2.index t = ![t.val / 2, 4 + t.val % 2]
    ∧ win0_3.index t = ![0, t.val % 2] ∧ win0_4.index t = ![0, t.val % 2] ∧ win0_5.index t = ![t.val / 2, t.val % 2] :=
  (by decide +kernel : ∀ t : Fin grid0.N, _)

/-- The operands of a grid point: the scan's result, -/
theorem iblk0 (t : Fin cfg0.N) (y : S512x512.Idx) : (iblk m c 0 t y : EReal) = ((args m c).blk (t.val / 2) (t.val % 2)).Y (y 0).val (y 1).val := by
  blk_simp [iblk]
  rw [V_main_arg0]
  refine at2_eq _ _ _ _ ?_ ?_
  all_goals (blk_simp [idx t]; try omega)
/-- the activations, -/
theorem iblk1 (t : Fin cfg0.N) (y : S512x512.Idx) : (iblk m c 1 t y : EReal) = ((args m c).blk (t.val / 2) (t.val % 2)).X (y 0).val (y 1).val := by
  blk_simp [iblk]
  rw [V_main_arg1]
  refine at2_eq _ _ _ _ ?_ ?_
  all_goals (blk_simp [idx t]; try omega)
/-- the gate's argument, -/
theorem iblk2 (t : Fin cfg0.N) (y : S512x512.Idx) : (iblk m c 2 t y : EReal) = ((args m c).blk (t.val / 2) (t.val % 2)).Z (y 0).val (y 1).val := by
  blk_simp [iblk]
  rw [V_main_arg2]
  refine at2_eq _ _ _ _ ?_ ?_
  all_goals (blk_simp [idx t]; try omega)
/-- the skip -/
theorem iblk3 (t : Fin cfg0.N) (y : S1x512.Idx) : (iblk m c 3 t y : EReal) = ((args m c).blk (t.val / 2) (t.val % 2)).S (y 1).val := by
  blk_simp [iblk]
  entry_read
  pointwise
  refine at1_eq _ _ _ ?_
  blk_simp [idx t]
  show (t.val % 2 * 512 + (y 1).val) / 64 = _
  omega
/-- and the scale. -/
theorem iblk4 (t : Fin cfg0.N) (y : S1x512.Idx) : (iblk m c 4 t y : EReal) = ((args m c).blk (t.val / 2) (t.val % 2)).G (y 1).val := by
  blk_simp [iblk]
  entry_read
  pointwise
  refine at1_eq _ _ _ ?_
  all_goals (blk_simp [idx t]; try omega)

/-- The result array is the reference's. -/
theorem fin : ((dats m 0 c).arrAt 5 cfg0.N : S4096x1024.Idx → EReal)
    = Cert.RefGateFwdIdeal.Read.val_main_v29 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  have hy : (y 1).val < 512 := (y 1).isLt
  have e0 : (((win0_5.blk t).view.emb y : S4096x1024.Idx) 0).val = 512 * (t.val / 2) + (y 0).val := by blk_simp [idx t]; try omega
  have e1 : (((win0_5.blk t).view.emb y : S4096x1024.Idx) 1).val = 512 * (t.val % 2) + (y 1).val := by blk_simp [idx t]; try omega
  refine (block ((args m c).blk (t.val / 2) (t.val % 2)) _ _ _ _ _ (iblk0 m c t) (iblk1 m c t) (iblk2 m c t) (iblk3 m c t) (iblk4 m c t) y).trans ?_
  refine Eq.trans ?_ (ref (args m c) _).symm
  have e2 : (512 * (t.val % 2) + (y 1).val) / 512 = t.val % 2 := by omega
  rw [e0, e1]
  unfold out
  rw [e2]
  rfl

end Cert.GateFwdIdeal.Gate

namespace Cert.GateFwdIdeal

open Idealize.ShloMosaic Idealize.SL.Sem

/-- The reference's run terminates, keeps its arguments and leaves every semaphore at zero. -/
theorem frame_reference : Cert.quiescent_RefGateFwdIdeal := fun m ρ _ =>
  (θ_run Cert.RefGateFwdIdeal.defs _ _).mono
    (fun r h => ⟨fun c => (h c).2, Idealize.ShloMosaic.sem_eq_zero_of_no_sems (by decide) r.2⟩)
    (Cert.RefGateFwdIdeal.Value.run (F := Ideal) m ρ)

/-- The reference's result is the kernel's. -/
theorem algebraic : Cert.algebraic_GateFwdIdeal_RefGateFwdIdeal := by
  intro m ρ m' ρ' _ hagree
  refine ⟨_, Cert.GateFwdIdeal.Value.run_blocks (F := Ideal) m ρ, ?_⟩
  refine (θ_run Cert.RefGateFwdIdeal.defs _ _).mono (fun _ h c => ⟨(h c).1.trans ((Cert.RefGateFwdIdeal.Read.val_main_v29_eq (F := Ideal) m' c).trans ?_), (h c).2⟩)
    (Cert.RefGateFwdIdeal.Value.run (F := Ideal) m' ρ')
  obtain ⟨a0, a1, a2, a3, a4⟩ := hagree c
  simp only [a0, a1, a2, a3, a4]
  exact (Gate.fin m c).symm

end Cert.GateFwdIdeal
-- ==== Proof.RmsFwd.lean ====
module

public import proofs.«01_k».proof.Defs
public import proofs.«01_k».proof.Proof.Row
public import Idealize.ShloMosaic.Lib.Pipeline.ValueKit
public import Idealize.ShloMosaic.Lib.Pointwise
public import Idealize.ShloMosaic.PureOps.Ideal.Laws
public import proofs.«01_k».proof.Proof.Gen.RmsFwd
public import proofs.«01_k».proof.Proof.Gen.RmsFwd.Skeleton
public import proofs.«01_k».proof.Proof.Gen.RmsFwd.Launch
public import proofs.«01_k».proof.Proof.Gen.RmsFwd.Points
public import proofs.«01_k».proof.Proof.Gen.RmsFwd.Frame
public import proofs.«01_k».proof.Proof.Gen.RmsFwdIdeal
public import proofs.«01_k».proof.Proof.Gen.RmsFwdIdeal.Skeleton
public import proofs.«01_k».proof.Proof.Gen.RmsFwdIdeal.Launch
public import proofs.«01_k».proof.Proof.Gen.RmsFwdIdeal.Points
public import proofs.«01_k».proof.Proof.Gen.RmsFwdIdeal.Frame
public import proofs.«01_k».proof.Proof.Gen.RmsFwdIdeal.Value
public import proofs.«01_k».proof.Proof.Gen.RefRmsFwdIdeal
public import proofs.«01_k».proof.Proof.Gen.RefRmsFwdIdeal.Run
public import proofs.«01_k».proof.Proof.Gen.RefRmsFwdIdeal.Read

/-! The root-mean-square normalisation: the kernel's result array is the reference's. -/

@[expose] public section

set_option maxRecDepth 16384

namespace Cert.RmsFwdIdeal.Norm

open Idealize.ShloMosaic

/-- The row's length. -/
noncomputable abbrev len : EReal := Ideal.ofBits .f32 0x44800000#32
/-- A normalised row's entry times the scale. -/
noncomputable def nrm (x g : ℕ → EReal) (q : ℕ) : EReal := x q * Row.rs 1024 len x * g q

end Cert.RmsFwdIdeal.Norm

namespace Cert.RmsFwdIdeal.Norm

open Cert.RefRmsFwdIdeal Cert.RefRmsFwdIdeal.Read Idealize.ShloMosaic Cert.Mat Cert.Row

variable (x : S4096x1024.Idx → EReal) (g : S1024.Idx → EReal)

/-- The reference's inverse root. -/
theorem refRs (i : S4096x1.Idx) : (val_main_v7 (F := Ideal) x i : EReal) = rs 1024 len (at2 (M := 4096) (K := 1024) x (i 0).val) := by
  simp only [val_main_v7_apply, val_main_v6_apply, val_main_v5_apply, val_main_v4_apply, val_main_v3_apply, val_main_v2_apply, val_main_v1_apply,
    val_main_v0_apply, val_main_cst_apply, val_main_cst_0_apply, val_main_cst_1_apply]
  rw [zero_lit, zero_add]
  refine congrArg (fun z : EReal => Ideal.rsqrt (Ideal.div z (Ideal.ofBits .f32 0x44800000#32) + Ideal.ofBits .f32 0x3727C5AC#32)) ?_
  exact Finset.sum_congr rfl fun k _ => congrArg (fun z : EReal => z * z) (at2_eq _ _ _ _ rfl rfl)

/-- The reference's result. -/
theorem ref (i : S4096x1024.Idx) : (val_main_v13 (F := Ideal) x g i : EReal)
    = nrm (at2 (M := 4096) (K := 1024) x (i 0).val) (at1 (N := 1024) g) (i 1).val := by
  rw [val_main_v13_apply, val_main_v12_apply, val_main_v11_apply, val_main_v10_apply, val_main_v9_apply, val_main_v8_apply, refRs]
  exact congrArg₂ (fun a b : EReal => a * rs 1024 len (at2 (M := 4096) (K := 1024) x (i 0).val) * b) (at2_eq x _ _ _ rfl rfl) (at1_eq g _ _ rfl)

end Cert.RmsFwdIdeal.Norm

namespace Cert.RmsFwdIdeal.Norm

open Cert.RmsFwdIdeal Cert.RmsFwdIdeal.Gen Idealize.ShloMosaic Idealize.ShloMosaic.TcCoe Idealize.SL.Sem Cert.Mat Cert.Row

variable (m : (ℓ : Loc nD τ sig) → Buf (Elt Ideal) ℓ) (c : Dev nD)

/-- The blocks that a grid point takes and gives. -/
theorem idx : ∀ t : Fin cfg0.N, win0_0.index t = ![t.val, 0] ∧ win0_1.index t = ![0, 0] ∧ win0_2.index t = ![t.val, 0] :=
  (by decide +kernel : ∀ t : Fin grid0.N, _)

/-- A block of the result has the block's rows normalised. -/
theorem block (x : FVec Ideal S512x1024 .f32) (g : FVec Ideal S1x1024 .f32) (X : ℕ → ℕ → EReal) (G : ℕ → EReal)
    (hx : ∀ y : S512x1024.Idx, (x y : EReal) = X (y 0).val (y 1).val) (hg : ∀ y : S1x1024.Idx, (g y : EReal) = G (y 1).val) (y : S512x1024.Idx) :
    (out0_2 (F := Ideal) x g y : EReal) = nrm (X (y 0).val) G (y 1).val := by
  unfold out0_2
  rw [View.canon_unit_zero (by funext a; fin_cases a <;> rfl), View.ld_unit_zero (by funext a; fin_cases a <;> rfl),
    View.ld_unit_zero (by funext a; fin_cases a <;> rfl)]
  pointwise [k0_pay1]
  simp only [hx, hg]
  rfl

/-- The rows' array at a block's entry, -/
theorem iblk0 (t : Fin cfg0.N) (y : S512x1024.Idx) : (iblk m c 0 t y : EReal)
    = at2 (M := 4096) (K := 1024) (m ((c : Thread nD τ).loc main_arg0)) (512 * t.val + (y 0).val) (y 1).val := by
  blk_simp [iblk]
  rw [V_main_arg0]
  refine at2_eq _ _ _ _ ?_ ?_
  all_goals (blk_simp [idx t]; try omega)

/-- and the scale. -/
theorem iblk1 (t : Fin cfg0.N) (y : S1x1024.Idx) : (iblk m c 1 t y : EReal) = at1 (N := 1024) (m ((c : Thread nD τ).loc main_arg1)) (y 1).val := by
  blk_simp [iblk]
  entry_read
  pointwise
  refine at1_eq _ _ _ ?_
  all_goals (blk_simp [idx t]; try omega)

/-- The result array is the reference's. -/
theorem fin : ((dats m 0 c).arrAt 2 cfg0.N : S4096x1024.Idx → EReal)
    = Cert.RefRmsFwdIdeal.Read.val_main_v13 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  have e0 : (((win0_2.blk t).view.emb y : S4096x1024.Idx) 0).val = 512 * t.val + (y 0).val := by blk_simp [idx t]; try omega
  have e1 : (((win0_2.blk t).view.emb y : S4096x1024.Idx) 1).val = (y 1).val := by blk_simp [idx t]; try omega
  refine (block _ _ (fun r k => at2 (M := 4096) (K := 1024) (m ((c : Thread nD τ).loc main_arg0)) (512 * t.val + r) k) _ (iblk0 m c t) (iblk1 m c t) y).trans ?_
  refine Eq.trans ?_ (ref _ _ _).symm
  rw [e0, e1]

end Cert.RmsFwdIdeal.Norm

namespace Cert.RmsFwdIdeal

open Idealize.ShloMosaic Idealize.SL.Sem

/-- The reference's run terminates, keeps its arguments and leaves every semaphore at zero. -/
theorem frame_reference : Cert.quiescent_RefRmsFwdIdeal := fun m ρ _ =>
  (θ_run Cert.RefRmsFwdIdeal.defs _ _).mono
    (fun r h => ⟨fun c => (h c).2, Idealize.ShloMosaic.sem_eq_zero_of_no_sems (by decide) r.2⟩)
    (Cert.RefRmsFwdIdeal.Value.run (F := Ideal) m ρ)

/-- The reference's result is the kernel's. -/
theorem algebraic : Cert.algebraic_RmsFwdIdeal_RefRmsFwdIdeal := by
  intro m ρ m' ρ' _ hagree
  refine ⟨_, Cert.RmsFwdIdeal.Value.run_blocks (F := Ideal) m ρ, ?_⟩
  refine (θ_run Cert.RefRmsFwdIdeal.defs _ _).mono (fun _ h c => ⟨(h c).1.trans ?_, (h c).2⟩) (Cert.RefRmsFwdIdeal.Value.run (F := Ideal) m' ρ')
  obtain ⟨a0, a1⟩ := hagree c
  rw [a0, a1]
  exact (Cert.RefRmsFwdIdeal.Read.val_main_v13_eq (F := Ideal) _ _).trans (Norm.fin m c).symm

end Cert.RmsFwdIdeal
-- ==== Proof.ConvFwd.lean ====
module

public import proofs.«01_k».proof.Defs
public import proofs.«01_k».proof.Proof.Row
public import Idealize.ShloMosaic.Lib.Pipeline.ValueKit
public import Idealize.ShloMosaic.Lib.Pointwise
public import Idealize.ShloMosaic.Lib.Pipeline.ReadBack
public import Idealize.ShloMosaic.PureOps.Ideal.Laws
public import proofs.«01_k».proof.Proof.Gen.ConvFwd
public import proofs.«01_k».proof.Proof.Gen.ConvFwd.Skeleton
public import proofs.«01_k».proof.Proof.Gen.ConvFwd.Launch
public import proofs.«01_k».proof.Proof.Gen.ConvFwd.Points
public import proofs.«01_k».proof.Proof.Gen.ConvFwd.Frame
public import proofs.«01_k».proof.Proof.Gen.ConvFwdIdeal
public import proofs.«01_k».proof.Proof.Gen.ConvFwdIdeal.Skeleton
public import proofs.«01_k».proof.Proof.Gen.ConvFwdIdeal.Launch
public import proofs.«01_k».proof.Proof.Gen.ConvFwdIdeal.Points
public import proofs.«01_k».proof.Proof.Gen.ConvFwdIdeal.Frame
public import proofs.«01_k».proof.Proof.Gen.ConvFwdIdeal.Value
public import proofs.«01_k».proof.Proof.Gen.RefConvFwdIdeal
public import proofs.«01_k».proof.Proof.Gen.RefConvFwdIdeal.Run
public import proofs.«01_k».proof.Proof.Gen.RefConvFwdIdeal.Read
public import proofs.«01_k».proof.Proof.Mat
public import proofs.«01_k».proof.Proof.GateBwd

/-! # The convolution's forward call

The call takes a sequence and 128 columns at a time. It copies the block below 32 rows of zeros, so that a row
and the three before it can be read anywhere, and gives, for each row, the silu of the sum of the bias and of
the four products of a tap and a row. The reference puts three rows of zeros before each sequence and adds the
same four products to zero, and then the bias. `Conv.cv` is the sum in the call's order. -/

@[expose] public section

set_option maxRecDepth 16384

namespace Cert.Conv

open Idealize.ShloMosaic Cert.Mat Cert.Row

/-- A block's columns below 32 rows of zeros. -/
noncomputable def pad (X : ℕ → ℕ → EReal) (r q : ℕ) : EReal := if r < 32 then 0 else X (r - 32) q

/-- The sum at a row and a column: the bias and the four taps' products. -/
noncomputable def cv (X W : ℕ → ℕ → EReal) (B : ℕ → EReal) (r q : ℕ) : EReal :=
  B q + W 0 q * pad X (29 + r) q + W 1 q * pad X (30 + r) q + W 2 q * pad X (31 + r) q + W 3 q * pad X (32 + r) q

/-- The call's operands: the projection, the taps and the bias, -/
structure Args where
  p : FVec Ideal ⟨2, ![4096, 4608]⟩ .f32
  w : FVec Ideal ⟨2, ![4, 1536]⟩ .f32
  b : FVec Ideal ⟨1, ![1536]⟩ .f32

/-- a sequence's columns of the projection, -/
noncomputable def Args.xs (A : Args) (s r q : ℕ) : EReal := at2 (M := 4096) (K := 4608) A.p (2048 * s + r) (3072 + q)
/-- the taps, -/
noncomputable def Args.ws (A : Args) (k q : ℕ) : EReal := at2 (M := 4) (K := 1536) A.w k q
/-- the bias -/
noncomputable def Args.bs (A : Args) (q : ℕ) : EReal := at1 (N := 1536) A.b q
/-- and the sums. -/
noncomputable def Args.cv (A : Args) (s r q : ℕ) : EReal := Conv.cv (A.xs s) A.ws A.bs r q

/-- The rows and columns of a box of a block. -/
theorem box0 {M N h w o p : ℕ} (hb) (x : (Rect.unit (s := ⟨2, ![M, N]⟩) ![o, p] ![h, w] hb).shape.Idx) :
    ((Rect.unit (s := ⟨2, ![M, N]⟩) ![o, p] ![h, w] hb).emb x 0).val = o + (x 0).val := congrArg (o + ·) (one_mul _)
/-- and at its columns. -/
theorem box1 {M N h w o p : ℕ} (hb) (x : (Rect.unit (s := ⟨2, ![M, N]⟩) ![o, p] ![h, w] hb).shape.Idx) :
    ((Rect.unit (s := ⟨2, ![M, N]⟩) ![o, p] ![h, w] hb).emb x 1).val = p + (x 1).val := congrArg (p + ·) (one_mul _)

/-- A box loaded from a buffer that holds a block. -/
theorem load {sig : RefSig} {M N h w o p : ℕ} (arg : Memref sig .tc .vmem ⟨2, ![M, N]⟩ .f32) (harg : arg.IsWhole)
    (x : FVec Ideal ⟨2, ![M, N]⟩ .f32) (X : ℕ → ℕ → EReal) (hx : ∀ y, (x y : EReal) = X (y 0).val (y 1).val) (hb) :
    (View.readAt (Elt Ideal) arg.view (Rect.unit (s := ⟨2, ![M, N]⟩) ![o, p] ![h, w] hb).toLoadRect (harg.unread x) : (⟨2, ![h, w]⟩ : Shape).Idx → EReal)
      = fun j => X (o + (j 0).val) (p + (j 1).val) := by
  funext j
  refine ((congrFun (View.readAt_eq_ld _ _ _) j).trans ?_)
  rw [harg.read_unread]
  refine (hx _).trans (congrArg₂ X (box0 hb j) (box1 hb j))

/-- A box loaded from a buffer whose stores left a block. -/
theorem loads {sig : RefSig} {M N h w o p : ℕ} (arg : Memref sig .tc .vmem ⟨2, ![M, N]⟩ .f32)
    (L : List (View.Piece (Elt Ideal) ⟨2, ![M, N]⟩ .f32)) (X : ℕ → ℕ → EReal)
    (hx : (View.canon L : (⟨2, ![M, N]⟩ : Shape).Idx → EReal) = fun y => X (y 0).val (y 1).val) (hb) :
    (arg.view.readCov L (Rect.unit (s := ⟨2, ![M, N]⟩) ![o, p] ![h, w] hb).toLoadRect : (⟨2, ![h, w]⟩ : Shape).Idx → EReal)
      = fun j => X (o + (j 0).val) (p + (j 1).val) := by
  refine (View.readCov_eq_canon' _ _ _).trans (funext fun j => (congrFun hx _).trans ?_)
  exact congrArg₂ X (box0 hb j) (box1 hb j)

/-- The padded block where it is the block, and where it is zero. -/
theorem pad_add (X : ℕ → ℕ → EReal) (a r q q' : ℕ) (hq : q' = q) : X (a + r) q = pad X (32 + a + r) q' := by
  subst hq; unfold pad; rw [if_neg (by omega)]; congr 1; omega
/-- The copy's first 32 rows are zeros. -/
theorem pad_zero (X : ℕ → ℕ → EReal) (r q : ℕ) (h : r < 32) : (0 : EReal) = pad X r q := (if_pos h).symm

end Cert.Conv

namespace Cert.ConvFwdIdeal.Conv

open Cert.ConvFwdIdeal Cert.ConvFwdIdeal.Gen Idealize.ShloMosaic Idealize.ShloMosaic.TcCoe Idealize.SL.Sem Cert.Mat Cert.Row
open Cert.Conv
open Cert.GateBwdIdeal.Gate (sg si)

variable (X W : ℕ → ℕ → EReal) (B : ℕ → EReal)

/-- The padded copy of a block. -/
theorem copy (c : Dev nD) (arg2 : Memref sig .tc .vmem S2048x128 .f32) (harg2 : arg2.IsWhole) (x0 : FVec Ideal S2048x128 .f32)
    (h0 : ∀ y : S2048x128.Idx, (x0 y : EReal) = X (y 0).val (y 1).val) :
    (View.canon (kernelRun0_A.sl.HS0_9 (F := Ideal) c arg2 harg2 x0) : S2080x128.Idx → EReal) = fun y => pad X (y 0).val (y 1).val := by
  have h : View.PiecesOf (fun y : S2080x128.Idx => pad X (y 0).val (y 1).val) (kernelRun0_A.sl.HS0_9 (F := Ideal) c arg2 harg2 x0) := by
    refine ⟨?_, ?_, ?_, ?_, ?_, ?_, ?_, ?_, ?_, trivial⟩
    all_goals intro x
    all_goals dsimp only
    all_goals try unfold kernelRun0_A.sl.r
    all_goals pointwise [k0_pay2, k0_pay3, k0_pay4, k0_pay5, k0_pay6, k0_pay7, k0_pay8, k0_pay9, k0_pay10]
    all_goals try rw [load arg2 harg2 x0 X h0]
    all_goals erw [box0, box1]
    iterate 8 exact pad_add X _ _ _ _ rfl
    exact pad_zero X _ _ (by have := (x 0).isLt; simpa using this)
  funext y
  exact View.canon_apply_of_pieces (fun y : S2080x128.Idx => pad X (y 0).val (y 1).val) _ h.mem y (View.cover_of_tiledBy (kernelRun0_A.sl.HS0_9 (F := Ideal) c arg2 harg2 x0) ![32, 128] (by sl_kernel_rfl) y)

/-- A block of the result. -/
theorem block (c : Dev nD) (i : grid0.Coords) (arg2 : Memref sig .tc .vmem S2048x128 .f32) (harg2 : arg2.IsWhole) (arg3 : Memref sig .tc .vmem S32x128 .f32) (harg3 : arg3.IsWhole)
    (arg4 : Memref sig .tc .vmem S1x128 .f32) (harg4 : arg4.IsWhole) (arg5 : Memref sig .tc .vmem S2048x128 .f32) (harg5 : arg5.IsWhole)
    (arg6 : Memref sig .tc .vmem S2080x128 .f32) (harg6 : arg6.IsWhole)
    (x0 : FVec Ideal S2048x128 .f32) (x1 : FVec Ideal S32x128 .f32) (x2 : FVec Ideal S1x128 .f32)
    (h0 : ∀ y : S2048x128.Idx, (x0 y : EReal) = X (y 0).val (y 1).val) (h1 : ∀ y : S32x128.Idx, (x1 y : EReal) = W (y 0).val (y 1).val)
    (h2 : ∀ y : S1x128.Idx, (x2 y : EReal) = B (y 1).val) (y : S2048x128.Idx) :
    (out0_A_3 (F := Ideal) c i arg2 harg2 arg3 harg3 arg4 harg4 arg5 harg5 arg6 harg6 x0 x1 x2 y : EReal) = si (cv X W B (y 0).val (y 1).val) := by
  have h : View.PiecesOf (fun y : S2048x128.Idx => si (cv X W B (y 0).val (y 1).val))
      (kernelRun0_A (F := Ideal) c i arg2 harg2 arg3 harg3 arg4 harg4 arg5 harg5 arg6 harg6 x0 x1 x2).1 := by
    refine ⟨?_, ?_, ?_, ?_, ?_, ?_, ?_, ?_, trivial⟩
    all_goals intro x
    all_goals dsimp only
    all_goals simp only [kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.v42, kernelRun0_A.sl.v48, kernelRun0_A.sl.v54, kernelRun0_A.sl.v60, kernelRun0_A.sl.v79, kernelRun0_A.sl.v85, kernelRun0_A.sl.v91, kernelRun0_A.sl.v97, kernelRun0_A.sl.v116, kernelRun0_A.sl.v122, kernelRun0_A.sl.v128, kernelRun0_A.sl.v134, kernelRun0_A.sl.v153, kernelRun0_A.sl.v159, kernelRun0_A.sl.v165, kernelRun0_A.sl.v171, kernelRun0_A.sl.v190, kernelRun0_A.sl.v196, kernelRun0_A.sl.v202, kernelRun0_A.sl.v208, kernelRun0_A.sl.v227, kernelRun0_A.sl.v233, kernelRun0_A.sl.v239, kernelRun0_A.sl.v245, kernelRun0_A.sl.v264, kernelRun0_A.sl.v270, kernelRun0_A.sl.v276, kernelRun0_A.sl.v282, kernelRun0_A.sl.v301, kernelRun0_A.sl.v307, kernelRun0_A.sl.v313, kernelRun0_A.sl.v319]
    all_goals simp only [loads arg6 _ (pad X) (copy X c arg2 harg2 x0 h0), load arg3 harg3 x1 W h1, load arg4 harg4 x2 (fun _ => B) h2]
    all_goals pointwise [k0_pay1, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30]
    all_goals erw [box0, box1]
    all_goals simp only [si, sg, cv, zero_sub, zero_add, ← Nat.add_assoc, Nat.reduceAdd]
  unfold out0_A_3
  rw [View.read_writes_junk_eq_canon]
  exact View.canon_apply_of_pieces (fun y : S2048x128.Idx => si (cv X W B (y 0).val (y 1).val)) _ h.mem y (cover0_A_3 (F := Ideal) c i arg2 harg2 arg3 harg3 arg4 harg4 arg5 harg5 arg6 harg6 x0 x1 x2 y)

end Cert.ConvFwdIdeal.Conv

namespace Cert.ConvFwdIdeal.Conv

open Cert.RefConvFwdIdeal Cert.RefConvFwdIdeal.Gen Cert.RefConvFwdIdeal.Read Idealize.ShloMosaic Idealize.ShloMosaic.TcCoe Cert.Mat Cert.Row
open Cert.Conv
open Cert.GateBwdIdeal.Gate (sg si)

variable (A : Args)

/-- The columns of a sequence -/
theorem l1 (i : S2x2048x1536.Idx) : (val_main_v1 (F := Ideal) A.p i : EReal) = A.xs (i 0).val (i 1).val (i 2).val := by
  rw [val_main_v1_apply, val_main_v0_apply]
  have h0 : (i 0).val < 2 := (i 0).isLt
  have h1 : (i 1).val < 2048 := (i 1).isLt
  have h2 : (i 2).val < 1536 := (i 2).isLt
  refine at2_eq _ _ _ _ ?_ ?_
  all_goals (dsimp only; omega)
/-- and the columns below three rows of zeros. -/
theorem l3 (i : S2x2051x1536.Idx) : (val_main_v3 (F := Ideal) A.p i : EReal) = pad (A.xs (i 0).val) (29 + (i 1).val) (i 2).val := by
  unfold val_main_v3
  pointwise
  have h1 : (i 1).val < 2051 := (i 1).isLt
  unfold Conv.pad
  by_cases h : (i 1).val < 3
  · rw [dif_pos h, if_pos (by omega), val_main_v2_apply, val_main_cst_apply]
    exact zero_lit
  · have hn : ¬29 + (i 1).val < 32 := by omega
    have hr : (i 1).val - 3 = 29 + (i 1).val - 32 := by omega
    exact ((dif_neg h).trans (l1 A _)).trans ((congrArg (fun r => A.xs (i 0).val r (i 2).val) hr).trans (if_neg hn).symm)

/-- The product of the first tap with the columns, -/
theorem l9 (i : S2x2048x1536.Idx) : (val_main_v9 (F := Ideal) A.p A.w i : EReal) = A.ws 0 (i 2).val * pad (A.xs (i 0).val) (29 + (i 1).val) (i 2).val := by
  rw [val_main_v9_apply, val_main_v8_apply, val_main_v7_apply, val_main_v5_apply, val_main_v4_apply, val_main_v6_apply, l3]
  have h2 : (i 2).val < 1536 := (i 2).isLt
  refine congrArg₂ (fun a b : EReal => a * b) (at2_eq _ _ _ _ ?_ ?_) ?_
  · rfl
  · dsimp only; omega
  · rfl
/-- of the second, -/
theorem l17 (i : S2x2048x1536.Idx) : (val_main_v17 (F := Ideal) A.p A.w i : EReal) = A.ws 1 (i 2).val * pad (A.xs (i 0).val) (30 + (i 1).val) (i 2).val := by
  rw [val_main_v17_apply, val_main_v16_apply, val_main_v15_apply, val_main_v13_apply, val_main_v12_apply, val_main_v14_apply, l3]
  have h2 : (i 2).val < 1536 := (i 2).isLt
  refine congrArg₂ (fun a b : EReal => a * b) (at2_eq _ _ _ _ ?_ ?_) (congrArg (fun r => pad (A.xs (i 0).val) r (i 2).val) ?_)
  all_goals (dsimp only; try omega)
/-- of the third -/
theorem l24 (i : S2x2048x1536.Idx) : (val_main_v24 (F := Ideal) A.p A.w i : EReal) = A.ws 2 (i 2).val * pad (A.xs (i 0).val) (31 + (i 1).val) (i 2).val := by
  rw [val_main_v24_apply, val_main_v23_apply, val_main_v22_apply, val_main_v20_apply, val_main_v19_apply, val_main_v21_apply, l3]
  have h2 : (i 2).val < 1536 := (i 2).isLt
  refine congrArg₂ (fun a b : EReal => a * b) (at2_eq _ _ _ _ ?_ ?_) (congrArg (fun r => pad (A.xs (i 0).val) r (i 2).val) ?_)
  all_goals (dsimp only; try omega)
/-- and of the fourth, -/
theorem l31 (i : S2x2048x1536.Idx) : (val_main_v31 (F := Ideal) A.p A.w i : EReal) = A.ws 3 (i 2).val * pad (A.xs (i 0).val) (32 + (i 1).val) (i 2).val := by
  rw [val_main_v31_apply, val_main_v30_apply, val_main_v29_apply, val_main_v27_apply, val_main_v26_apply, val_main_v28_apply, l3]
  have h2 : (i 2).val < 1536 := (i 2).isLt
  refine congrArg₂ (fun a b : EReal => a * b) (at2_eq _ _ _ _ ?_ ?_) (congrArg (fun r => pad (A.xs (i 0).val) r (i 2).val) ?_)
  all_goals (dsimp only; try omega)

/-- and their sum with the bias, in the call's order. -/
theorem l35 (i : S2x2048x1536.Idx) : (val_main_v35 (F := Ideal) A.p A.w A.b i : EReal) = A.cv (i 0).val (i 1).val (i 2).val := by
  rw [val_main_v35_apply, val_main_v32_apply, val_main_v25_apply, val_main_v18_apply, val_main_v11_apply, val_main_v10_apply, val_main_cst_0_apply,
    l9, l17, l24, l31, val_main_v34_apply, val_main_v33_apply]
  refine (congrArg₂ (fun a b : EReal => a + _ + _ + _ + _ + b) zero_lit (at1_eq _ _ (i 2).val rfl)).trans ?_
  unfold Args.cv cv Args.bs
  rw [zero_add]
  ac_rfl

/-- The reference's result. -/
theorem ref (i : S4096x1536.Idx) : (val_main_v37 (F := Ideal) A.p A.w A.b i : EReal) = si (A.cv ((i 0).val / 2048) ((i 0).val % 2048) (i 1).val) := by
  have h0 : (i 0).val < 4096 := (i 0).isLt
  have h1 : (i 1).val < 1536 := (i 1).isLt
  rw [val_main_v37_apply, val_main_v36_apply, val_main_call0_v5_apply, val_main_call0_v4_apply, val_main_call0_cst_0_apply, val_main_call0_v3_apply, val_main_call0_v2_apply,
    val_main_call0_cst_apply, val_main_call0_v1_apply, val_main_call0_v0_apply, l35, Cert.GateBwdIdeal.Gate.one_lit]
  generalize hk : idx_main_v37 i = k
  have e0 : (k 0).val = (i 0).val / 2048 := by subst hk; dsimp only; omega
  have e1 : (k 1).val = (i 0).val % 2048 := by subst hk; dsimp only; omega
  have e2 : (k 2).val = (i 1).val := by subst hk; dsimp only; omega
  rw [e0, e1, e2]
  rfl

end Cert.ConvFwdIdeal.Conv

namespace Cert.ConvFwdIdeal.Conv

open Cert.ConvFwdIdeal Cert.ConvFwdIdeal.Gen Idealize.ShloMosaic Idealize.ShloMosaic.TcCoe Idealize.SL.Sem Cert.Mat Cert.Row
open Cert.Conv
open Cert.GateBwdIdeal.Gate (sg si)

variable (m : (ℓ : Loc nD τ sig) → Buf (Elt Ideal) ℓ) (c : Dev nD)

/-- A device's arguments. -/
noncomputable def args : Args :=
  ⟨m ((c : Thread nD τ).loc main_arg0), m ((c : Thread nD τ).loc main_arg1), m ((c : Thread nD τ).loc main_arg2)⟩

/-- The blocks that a grid point takes and gives. -/
theorem idx : ∀ t : Fin cfg0.N, win0_0.index t = ![t.val / 12, 24 + t.val % 12] ∧ win0_1.index t = ![0, t.val % 12] ∧ win0_2.index t = ![0, t.val % 12]
    ∧ win0_3.index t = ![t.val / 12, t.val % 12] :=
  (by decide +kernel : ∀ t : Fin grid0.N, _)

/-- The operands of a grid point: a sequence's columns, -/
theorem iblk0 (t : Fin cfg0.N) (y : S2048x128.Idx) : (iblk m c 0 t y : EReal) = (args m c).xs (t.val / 12) (y 0).val (128 * (t.val % 12) + (y 1).val) := by
  blk_simp [iblk]
  rw [V_main_arg0]
  refine at2_eq _ _ _ _ ?_ ?_
  all_goals (blk_simp [idx t]; try omega)
/-- the taps (below them, zeros) -/
theorem iblk1 (t : Fin cfg0.N) (y : S32x128.Idx) : (iblk m c 1 t y : EReal)
    = if (y 0).val < 4 then (args m c).ws (y 0).val (128 * (t.val % 12) + (y 1).val) else 0 := by
  have e : (V m c main_v0 : S32x1536.Idx → EReal) = pad S32x1536 ![0, 0] ![28, 0] ![0, 0] (args m c).w (sitofp (F := Ideal) .f32 (constantI S_ 32 0#32))
      pads_S4x1536_S32x1536_0280_000 h_S_ := rfl
  have h1 : (y 1).val < 128 := (y 1).isLt
  have e0 : (((win0_1.blk t).view.emb y : S32x1536.Idx) 0).val = (y 0).val := by blk_simp [idx t]; try omega
  have e1 : (((win0_1.blk t).view.emb y : S32x1536.Idx) 1).val = 128 * (t.val % 12) + (y 1).val := by blk_simp [idx t]; try omega
  blk_simp [iblk]
  rw [congrFun e _]
  pointwise
  by_cases h : (y 0).val < 4
  · rw [if_pos h]
    refine (dif_pos (e0.trans_lt h)).trans (at2_eq _ _ _ _ e0 e1)
  · rw [if_neg h]
    refine (dif_neg fun h' => h (e0.symm.trans_lt h')).trans ?_
    show (((0#32 : BitVec 32).toInt : ℝ) : EReal) = 0
    simp
/-- and the bias. -/
theorem iblk2 (t : Fin cfg0.N) (y : S1x128.Idx) : (iblk m c 2 t y : EReal) = (args m c).bs (128 * (t.val % 12) + (y 1).val) := by
  blk_simp [iblk]
  entry_read
  pointwise
  refine at1_eq _ _ _ ?_
  have h0 : (y 0).val < 1 := (y 0).isLt
  have e0 : (((win0_2.blk t).view.emb y : S1x1536.Idx) 0).val = 0 := by blk_simp [idx t]; try omega
  have e1 : (((win0_2.blk t).view.emb y : S1x1536.Idx) 1).val = 128 * (t.val % 12) + (y 1).val := by blk_simp [idx t]; try omega
  have e := Shape.rowMajor_reshapeEquiv shapeCasts_S1536_S1x1536 ((win0_2.blk t).view.emb y)
  rw [Shape.rowMajor_val_two, Shape.rowMajor_val_one, e0, e1, zero_mul, zero_add] at e
  exact e

/-- The result array is the reference's. -/
theorem fin : ((dats m 0 c).arrAt 3 cfg0.N : S4096x1536.Idx → EReal)
    = Cert.RefConvFwdIdeal.Read.val_main_v37 (F := Ideal) (m ((c : Thread nD τ).loc main_arg0)) (m ((c : Thread nD τ).loc main_arg1))
        (m ((c : Thread nD τ).loc main_arg2)) := by
  refine (dats m 0 c).arrAt_eq_of_covers 3 _ (by decide +kernel) fun t hf y => ?_
  blk_simp
  rw [after0_3]
  have h0 : (y 0).val < 2048 := (y 0).isLt
  have h1 : (y 1).val < 128 := (y 1).isLt
  have e0 : (((win0_3.blk t).view.emb y : S4096x1536.Idx) 0).val = 2048 * (t.val / 12) + (y 0).val := by blk_simp [idx t]; try omega
  have e1 : (((win0_3.blk t).view.emb y : S4096x1536.Idx) 1).val = 128 * (t.val % 12) + (y 1).val := by blk_simp [idx t]; try omega
  refine (block (fun r q => (args m c).xs (t.val / 12) r (128 * (t.val % 12) + q)) (fun k q => if k < 4 then (args m c).ws k (128 * (t.val % 12) + q) else 0)
    (fun q => (args m c).bs (128 * (t.val % 12) + q)) c _ _ _ _ _ _ _ _ _ _ _ _ _ _ (iblk0 m c t) (iblk1 m c t) (iblk2 m c t) y).trans ?_
  refine Eq.trans ?_ (ref (args m c) _).symm
  have e2 : (2048 * (t.val / 12) + (y 0).val) / 2048 = t.val / 12 := by omega
  have e3 : (2048 * (t.val / 12) + (y 0).val) % 2048 = (y 0).val := by omega
  rw [e0, e1, e2, e3]
  rfl

end Cert.ConvFwdIdeal.Conv

namespace Cert.ConvFwdIdeal

open Idealize.ShloMosaic Idealize.SL.Sem

/-- The reference's run terminates, keeps its arguments and leaves every semaphore at zero. -/
theorem frame_reference : Cert.quiescent_RefConvFwdIdeal := fun m ρ _ =>
  (θ_run Cert.RefConvFwdIdeal.defs _ _).mono
    (fun r h => ⟨fun c => (h c).2, Idealize.ShloMosaic.sem_eq_zero_of_no_sems (by decide) r.2⟩)
    (Cert.RefConvFwdIdeal.Value.run (F := Ideal) m ρ)

/-- The reference's result is the kernel's. -/
theorem algebraic : Cert.algebraic_ConvFwdIdeal_RefConvFwdIdeal := by
  intro m ρ m' ρ' _ hagree
  refine ⟨_, Cert.ConvFwdIdeal.Value.run_blocks (F := Ideal) m ρ, ?_⟩
  refine (θ_run Cert.RefConvFwdIdeal.defs _ _).mono (fun _ h c => ⟨(h c).1.trans ((Cert.RefConvFwdIdeal.Read.val_main_v37_eq (F := Ideal) m' c).trans ?_), (h c).2⟩)
    (Cert.RefConvFwdIdeal.Value.run (F := Ideal) m' ρ')
  obtain ⟨a0, a1, a2⟩ := hagree c
  simp only [a0, a1, a2]
  exact (Conv.fin m c).symm

end Cert.ConvFwdIdeal
-- ==== Proof.ConvBwd.lean ====
module

public import proofs.«01_k».proof.Defs
public import proofs.«01_k».proof.Proof.Row
public import Idealize.ShloMosaic.Lib.Pipeline.ValueKit
public import Idealize.ShloMosaic.Lib.Pointwise
public import Idealize.ShloMosaic.PureOps.Ideal.Laws
public import proofs.«01_k».proof.Proof.Gen.ConvBwd
public import proofs.«01_k».proof.Proof.Gen.ConvBwd.Skeleton
public import proofs.«01_k».proof.Proof.Gen.ConvBwd.Launch
public import proofs.«01_k».proof.Proof.Gen.ConvBwd.Points
public import proofs.«01_k».proof.Proof.Gen.ConvBwd.Frame
public import proofs.«01_k».proof.Proof.Gen.ConvBwdIdeal
public import proofs.«01_k».proof.Proof.Gen.ConvBwdIdeal.Skeleton
public import proofs.«01_k».proof.Proof.Gen.ConvBwdIdeal.Launch
public import proofs.«01_k».proof.Proof.Gen.ConvBwdIdeal.Points
public import proofs.«01_k».proof.Proof.Gen.ConvBwdIdeal.Frame
public import proofs.«01_k».proof.Proof.Gen.ConvBwdIdeal.Value
public import proofs.«01_k».proof.Proof.Gen.RefConvBwdIdeal
public import proofs.«01_k».proof.Proof.Gen.RefConvBwdIdeal.Run
public import proofs.«01_k».proof.Proof.Gen.RefConvBwdIdeal.Read
public import proofs.«01_k».proof.Proof.ConvFwd
public import Idealize.ShloMosaic.Lib.WritesUnit

/-! # The convolution's backward call

The call takes 128 columns at a time and visits both sequences at each. At a visit it copies the block below 32 rows of
zeros, takes the derivatives of the silu's arguments 256 rows at a time (`Conv.dc`), puts them above 32 rows of zeros, and adds
their sums to the bias's row. A row of the columns' gradient is the sum of the four taps' products with the derivatives of the
row and of the three after it (`Conv.dx`). A tap's gradient is the sum of the derivatives' products with the rows that the tap
takes (`Conv.tap`), added to the tap's row. The first visit (case A) clears the bias's row and the taps' rows; the second (case B)
adds to what the first left.

The reference pads each tap's product to 2051 rows, adds the four and drops the first three rows; it sums over both sequences at
once, and pads each tap's gradient to four rows before it adds them. -/

@[expose] public section

set_option maxRecDepth 16384

namespace Cert.Conv

open Idealize.ShloMosaic Cert.Mat Cert.Row
open Cert.GateBwdIdeal.Gate (sg si dsi dsi_eq)

/-- A sum's derivative: the silu's, for the incoming one -/
noncomputable def dc (X W : ℕ → ℕ → EReal) (B : ℕ → EReal) (Y : ℕ → ℕ → EReal) (r q : ℕ) : EReal := dsi (Y r q) (cv X W B r q)

/-- and a block's rows above zeros. -/
noncomputable def tail (D : ℕ → ℕ → EReal) (r q : ℕ) : EReal := if r < 2048 then D r q else 0

/-- A row inside the block is the block's own; -/
theorem tail_lt (D : ℕ → ℕ → EReal) (r q q' : ℕ) (h : r < 2048) (hq : q' = q) : D r q = tail D r q' := by
  subst hq; exact (if_pos h).symm
/-- a row past its end is zero. -/
theorem tail_zero (D : ℕ → ℕ → EReal) (r q : ℕ) : (0 : EReal) = tail D (2048 + r) q := (if_neg (by omega)).symm

/-- A block's gradient. -/
noncomputable def dx (X W : ℕ → ℕ → EReal) (B : ℕ → EReal) (Y : ℕ → ℕ → EReal) (r q : ℕ) : EReal :=
  W 0 q * tail (dc X W B Y) (3 + r) q + W 1 q * tail (dc X W B Y) (2 + r) q + W 2 q * tail (dc X W B Y) (1 + r) q + W 3 q * tail (dc X W B Y) r q

/-- A running sum of a block's rows, 256 rows at a time. -/
noncomputable def sums (D : ℕ → ℕ → EReal) (s : ℕ → EReal) : ℕ → ℕ → EReal
  | 0, q => s q
  | n + 1, q => sums D s n q + ∑ k : Fin 256, D (256 * n + k.val) q

/-- A block's rows summed, 256 at a time and at once. -/
theorem sum_eight (f : ℕ → EReal) : (((((((∑ k : Fin 256, f k.val) + ∑ k : Fin 256, f (256 + k.val)) + ∑ k : Fin 256, f (512 + k.val)) + ∑ k : Fin 256, f (768 + k.val))
      + ∑ k : Fin 256, f (1024 + k.val)) + ∑ k : Fin 256, f (1280 + k.val)) + ∑ k : Fin 256, f (1536 + k.val)) + ∑ k : Fin 256, f (1792 + k.val) = ∑ k : Fin 2048, f k.val := by
  simp only [← Finset.sum_range (fun k => f k), ← Finset.sum_range (fun k => f (256 + k)), ← Finset.sum_range (fun k => f (512 + k)), ← Finset.sum_range (fun k => f (768 + k)),
    ← Finset.sum_range (fun k => f (1024 + k)), ← Finset.sum_range (fun k => f (1280 + k)), ← Finset.sum_range (fun k => f (1536 + k)), ← Finset.sum_range (fun k => f (1792 + k))]
  rw [show (2048 : ℕ) = 1792 + 256 from rfl, Finset.sum_range_add, show (1792 : ℕ) = 1536 + 256 from rfl, Finset.sum_range_add, show (1536 : ℕ) = 1280 + 256 from rfl, Finset.sum_range_add,
    show (1280 : ℕ) = 1024 + 256 from rfl, Finset.sum_range_add, show (1024 : ℕ) = 768 + 256 from rfl, Finset.sum_range_add, show (768 : ℕ) = 512 + 256 from rfl, Finset.sum_range_add,
    show (512 : ℕ) = 256 + 256 from rfl, Finset.sum_range_add]

/-- After eight steps the running sum has gained all 2048 rows. -/
theorem sums_eight (D : ℕ → ℕ → EReal) (s : ℕ → EReal) (q : ℕ) : sums D s 8 q = s q + ∑ k : Fin 2048, D k.val q := by
  rw [← sum_eight fun r => D r q]
  simp only [sums, Nat.reduceMul, zero_add, add_assoc]

/-- A tap's gradient over a block. -/
noncomputable def tap (X : ℕ → ℕ → EReal) (D : ℕ → ℕ → EReal) (k q : ℕ) : EReal := ∑ r : Fin 2048, D r.val q * pad X (29 + k + r.val) q

/-- A tap's gradient as the call takes it: eight sums of 256 rows, added in turn to zero and then to what was there. -/
theorem tap_eight (X : ℕ → ℕ → EReal) (D : ℕ → ℕ → EReal) (k q : ℕ) (s t : EReal) (h : s = t) :
    s + ((((((((∑ r : Fin 256, tail D r.val q * pad X (29 + k + r.val) q) + ∑ r : Fin 256, tail D (256 + r.val) q * pad X (29 + k + 256 + r.val) q)
      + ∑ r : Fin 256, tail D (512 + r.val) q * pad X (29 + k + 512 + r.val) q) + ∑ r : Fin 256, tail D (768 + r.val) q * pad X (29 + k + 768 + r.val) q)
      + ∑ r : Fin 256, tail D (1024 + r.val) q * pad X (29 + k + 1024 + r.val) q) + ∑ r : Fin 256, tail D (1280 + r.val) q * pad X (29 + k + 1280 + r.val) q)
      + ∑ r : Fin 256, tail D (1536 + r.val) q * pad X (29 + k + 1536 + r.val) q) + ∑ r : Fin 256, tail D (1792 + r.val) q * pad X (29 + k + 1792 + r.val) q)
      = t + tap X D k q := by
  subst h
  simp only [add_assoc (29 + k)]
  rw [sum_eight fun r => tail D r q * pad X (29 + k + r) q]
  exact congrArg (s + ·) (Finset.sum_congr rfl fun r _ => congrArg (· * _) (if_pos r.isLt))

/-- The silu's derivative as the call writes it. -/
theorem dsk (w z : EReal) : w * Ideal.div 1 (1 + Ideal.exp (-z)) + -(-(z * w * Ideal.div 1 ((1 + Ideal.exp (-z)) * (1 + Ideal.exp (-z)))) * Ideal.exp (-z)) = dsi w z := by
  have h := dsi_eq w z
  simp only [zero_sub] at h
  exact h

/-- A sequence's incoming gradient -/
noncomputable def Args.dy (Y : FVec Ideal ⟨2, ![4096, 1536]⟩ .f32) (s r q : ℕ) : EReal := at2 (M := 4096) (K := 1536) Y (2048 * s + r) q
/-- and its sums' derivatives. -/
noncomputable def Args.dc (A : Args) (Y : FVec Ideal ⟨2, ![4096, 1536]⟩ .f32) (s r q : ℕ) : EReal := Conv.dc (A.xs s) A.ws A.bs (Args.dy Y s) r q

end Cert.Conv

namespace Cert.ConvBwdIdeal.Conv

open Cert.ConvBwdIdeal Cert.ConvBwdIdeal.Gen Idealize.ShloMosaic Idealize.ShloMosaic.TcCoe Idealize.SL.Sem Cert.Mat Cert.Row
open Cert.Conv

variable (X W : ℕ → ℕ → EReal) (B : ℕ → EReal) (Y : ℕ → ℕ → EReal)

/-- A one-row buffer's last store is what is read from it. -/
theorem last (arg : Memref sig .tc .vmem S1x128 .f32) (L : List (View.Piece (Elt Ideal) S1x128 .f32)) (hb hb') (f : FVec Ideal S1x128 .f32) :
    (arg.view.readCov ((⟨Rect.unit (s := S1x128) ![0, 0] S1x128.size hb, f⟩ : View.Piece (Elt Ideal) S1x128 .f32) :: L) (Rect.unit (s := S1x128) ![0, 0] S1x128.size hb').toLoadRect) = f := by
  rw [View.readCov_eq_canon', View.canon_cons_unit_zero (by funext a; fin_cases a <;> rfl)]
  refine funext fun j => congrArg f (funext fun a => Fin.ext ?_)
  fin_cases a
  · exact (box0 hb' j).trans (zero_add _)
  · exact (box1 hb' j).trans (zero_add _)

/-- A row's store in a buffer of rows. -/
theorem row (arg : View sig .tc .vmem S32x128 .f32) (b) (L : List (View.Piece (Elt Ideal) S32x128 .f32)) (k : ℕ) (hb) (f : FVec Ideal S1x128 .f32) (y : S32x128.Idx) :
    arg.read (Elt Ideal) (arg.writes (Elt Ideal) b ((⟨Rect.unit (s := S32x128) ![k, 0] ![1, 128] hb, f⟩ : View.Piece (Elt Ideal) S32x128 .f32) :: L)) y
      = if (y 0).val = k then f (ix2 0 (y 1)) else arg.read (Elt Ideal) (arg.writes (Elt Ideal) b L) y := by
  split_ifs with h
  · exact View.read_writes_cons_rows_of_mem arg b hb f L y (ix2 0 (y 1)) rfl h rfl
  · exact View.read_writes_cons_rows_of_not_mem (W := 1) arg b hb f L y rfl rfl (by omega)

/-- The running sum's next step. -/
theorem step (D : ℕ → ℕ → EReal) (s : ℕ → EReal) (n q : ℕ) (f : Fin 256 → EReal) (h : ∀ x, f x = D (256 * n + x.val) q) :
    sums D s n q + ∑ x, f x = sums D s (n + 1) q := congrArg (sums D s n q + ·) (Finset.sum_congr rfl fun x _ => h x)

/-- The rows a point reads before it adds to them, where it zeroed them. -/
theorem start_A_0 (arg7 : Memref sig .tc .vmem S32x128 .f32) (k : ℕ) (hb) :
    arg7.view.readCov (kernelRun0_A.sl.H5_1 (F := Ideal)) (Rect.unit (s := S32x128) ![k, 0] ![1, 128] hb).toLoadRect = (fun _ => (0 : EReal) : S1x128.Idx → EReal) := by
  unfold kernelRun0_A.sl.H5_1
  refine (View.readCov_fill arg7.view _ _ _ _ (fun a => by fin_cases a <;> rfl)).trans ?_
  funext j
  pointwise [k0_pay2]

/-- After 1 taps' rows were stored, a later tap's row is still zero. -/
theorem start_A_1 (c : Dev nD) (arg2 : Memref sig .tc .vmem S2048x128 .f32) (harg2 : arg2.IsWhole) (arg3 : Memref sig .tc .vmem S32x128 .f32) (harg3 : arg3.IsWhole)
    (arg4 : Memref sig .tc .vmem S1x128 .f32) (harg4 : arg4.IsWhole) (arg5 : Memref sig .tc .vmem S2048x128 .f32) (harg5 : arg5.IsWhole) (arg7 : Memref sig .tc .vmem S32x128 .f32) (arg9 arg10 : Memref sig .tc .vmem S2080x128 .f32)
    (x0 : FVec Ideal S2048x128 .f32) (x1 : FVec Ideal S32x128 .f32) (x2 : FVec Ideal S1x128 .f32) (x3 : FVec Ideal S2048x128 .f32) (hb) :
    arg7.view.readCov (kernelRun0_A.sl.H5_2 (F := Ideal) c arg2 harg2 arg3 harg3 arg4 harg4 arg5 harg5 arg7 arg9 arg10 x0 x1 x2 x3) (Rect.unit (s := S32x128) ![1, 0] ![1, 128] hb).toLoadRect
      = (fun _ => (0 : EReal) : S1x128.Idx → EReal) := by
  unfold kernelRun0_A.sl.H5_2
  rw [View.readCov_skip _ _ _ _ _ (by rfl)]
  exact start_A_0 arg7 1 hb

/-- After 2 taps' rows were stored, a later tap's row is still zero. -/
theorem start_A_2 (c : Dev nD) (arg2 : Memref sig .tc .vmem S2048x128 .f32) (harg2 : arg2.IsWhole) (arg3 : Memref sig .tc .vmem S32x128 .f32) (harg3 : arg3.IsWhole)
    (arg4 : Memref sig .tc .vmem S1x128 .f32) (harg4 : arg4.IsWhole) (arg5 : Memref sig .tc .vmem S2048x128 .f32) (harg5 : arg5.IsWhole) (arg7 : Memref sig .tc .vmem S32x128 .f32) (arg9 arg10 : Memref sig .tc .vmem S2080x128 .f32)
    (x0 : FVec Ideal S2048x128 .f32) (x1 : FVec Ideal S32x128 .f32) (x2 : FVec Ideal S1x128 .f32) (x3 : FVec Ideal S2048x128 .f32) (hb) :
    arg7.view.readCov (kernelRun0_A.sl.H5_3 (F := Ideal) c arg2 harg2 arg3 harg3 arg4 harg4 arg5 harg5 arg7 arg9 arg10 x0 x1 x2 x3) (Rect.unit (s := S32x128) ![2, 0] ![1, 128] hb).toLoadRect
      = (fun _ => (0 : EReal) : S1x128.Idx → EReal) := by
  unfold kernelRun0_A.sl.H5_3
  rw [View.readCov_skip _ _ _ _ _ (by rfl)]
  unfold kernelRun0_A.sl.H5_2
  rw [View.readCov_skip _ _ _ _ _ (by rfl)]
  exact start_A_0 arg7 2 hb

/-- After 3 taps' rows were stored, a later tap's row is still zero. -/
theorem start_A_3 (c : Dev nD) (arg2 : Memref sig .tc .vmem S2048x128 .f32) (harg2 : arg2.IsWhole) (arg3 : Memref sig .tc .vmem S32x128 .f32) (harg3 : arg3.IsWhole)
    (arg4 : Memref sig .tc .vmem S1x128 .f32) (harg4 : arg4.IsWhole) (arg5 : Memref sig .tc .vmem S2048x128 .f32) (harg5 : arg5.IsWhole) (arg7 : Memref sig .tc .vmem S32x128 .f32) (arg9 arg10 : Memref sig .tc .vmem S2080x128 .f32)
    (x0 : FVec Ideal S2048x128 .f32) (x1 : FVec Ideal S32x128 .f32) (x2 : FVec Ideal S1x128 .f32) (x3 : FVec Ideal S2048x128 .f32) (hb) :
    arg7.view.readCov (kernelRun0_A.sl.H5_4 (F := Ideal) c arg2 harg2 arg3 harg3 arg4 harg4 arg5 harg5 arg7 arg9 arg10 x0 x1 x2 x3) (Rect.unit (s := S32x128) ![3, 0] ![1, 128] hb).toLoadRect
      = (fun _ => (0 : EReal) : S1x128.Idx → EReal) := by
  unfold kernelRun0_A.sl.H5_4
  rw [View.readCov_skip _ _ _ _ _ (by rfl)]
  unfold kernelRun0_A.sl.H5_3
  rw [View.readCov_skip _ _ _ _ _ (by rfl)]
  unfold kernelRun0_A.sl.H5_2
  rw [View.readCov_skip _ _ _ _ _ (by rfl)]
  exact start_A_0 arg7 3 hb

/-- The padded copy of a block. -/
theorem copyA (c : Dev nD) (arg2 : Memref sig .tc .vmem S2048x128 .f32) (harg2 : arg2.IsWhole) (x0 : FVec Ideal S2048x128 .f32)
    (h0 : ∀ y : S2048x128.Idx, (x0 y : EReal) = X (y 0).val (y 1).val) :
    (View.canon (kernelRun0_A.sl.HS0_9 (F := Ideal) c arg2 harg2 x0) : S2080x128.Idx → EReal) = fun y => pad X (y 0).val (y 1).val := by
  have h : View.PiecesOf (fun y : S2080x128.Idx => pad X (y 0).val (y 1).val) (kernelRun0_A.sl.HS0_9 (F := Ideal) c arg2 harg2 x0) := by
    refine ⟨?_, ?_, ?_, ?_, ?_, ?_, ?_, ?_, ?_, trivial⟩
    all_goals intro x
    all_goals dsimp only
    all_goals pointwise [k0_pay4, k0_pay6, k0_pay7, k0_pay8, k0_pay9, k0_pay10, k0_pay11, k0_pay12, k0_pay13]
    all_goals try rw [load arg2 harg2 x0 X h0]
    all_goals erw [box0, box1]
    iterate 8 exact pad_add X _ _ _ _ rfl
    exact pad_zero X _ _ (by have := (x 0).isLt; simpa using this)
  funext y
  exact View.canon_apply_of_pieces (fun y : S2080x128.Idx => pad X (y 0).val (y 1).val) _ h.mem y (View.cover_of_tiledBy (kernelRun0_A.sl.HS0_9 (F := Ideal) c arg2 harg2 x0) ![32, 128] (by sl_kernel_rfl) y)

/-- The sums' derivatives above zeros. -/
theorem dcA (c : Dev nD) (arg2 : Memref sig .tc .vmem S2048x128 .f32) (harg2 : arg2.IsWhole) (arg3 : Memref sig .tc .vmem S32x128 .f32) (harg3 : arg3.IsWhole)
    (arg4 : Memref sig .tc .vmem S1x128 .f32) (harg4 : arg4.IsWhole) (arg5 : Memref sig .tc .vmem S2048x128 .f32) (harg5 : arg5.IsWhole)
    (arg9 : Memref sig .tc .vmem S2080x128 .f32)
    (x0 : FVec Ideal S2048x128 .f32) (x1 : FVec Ideal S32x128 .f32) (x2 : FVec Ideal S1x128 .f32) (x3 : FVec Ideal S2048x128 .f32)
    (h0 : ∀ y : S2048x128.Idx, (x0 y : EReal) = X (y 0).val (y 1).val) (h1 : ∀ y : S32x128.Idx, (x1 y : EReal) = W (y 0).val (y 1).val)
    (h2 : ∀ y : S1x128.Idx, (x2 y : EReal) = B (y 1).val) (h3 : ∀ y : S2048x128.Idx, (x3 y : EReal) = Y (y 0).val (y 1).val) :
    (View.canon (kernelRun0_A.sl.HS1_9 (F := Ideal) c arg2 harg2 arg3 harg3 arg4 harg4 arg5 harg5 arg9 x0 x1 x2 x3) : S2080x128.Idx → EReal) = fun y => tail (dc X W B Y) (y 0).val (y 1).val := by
  have h : View.PiecesOf (fun y : S2080x128.Idx => tail (dc X W B Y) (y 0).val (y 1).val) (kernelRun0_A.sl.HS1_9 (F := Ideal) c arg2 harg2 arg3 harg3 arg4 harg4 arg5 harg5 arg9 x0 x1 x2 x3) := by
    refine ⟨?_, ?_, ?_, ?_, ?_, ?_, ?_, ?_, ?_, trivial⟩
    all_goals intro x
    all_goals dsimp only
    all_goals try simp only [kernelRun0_A.sl.cst_103, kernelRun0_A.sl.cst_221, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.v49, kernelRun0_A.sl.v55, kernelRun0_A.sl.v61, kernelRun0_A.sl.v67, kernelRun0_A.sl.v96, kernelRun0_A.sl.v108, kernelRun0_A.sl.v114, kernelRun0_A.sl.v120, kernelRun0_A.sl.v126, kernelRun0_A.sl.v155, kernelRun0_A.sl.v167, kernelRun0_A.sl.v173, kernelRun0_A.sl.v179, kernelRun0_A.sl.v185, kernelRun0_A.sl.v214, kernelRun0_A.sl.v226, kernelRun0_A.sl.v232, kernelRun0_A.sl.v238, kernelRun0_A.sl.v244, kernelRun0_A.sl.v273, kernelRun0_A.sl.v285, kernelRun0_A.sl.v291, kernelRun0_A.sl.v297, kernelRun0_A.sl.v303, kernelRun0_A.sl.v332, kernelRun0_A.sl.v344, kernelRun0_A.sl.v350, kernelRun0_A.sl.v356, kernelRun0_A.sl.v362, kernelRun0_A.sl.v391, kernelRun0_A.sl.v403, kernelRun0_A.sl.v409, kernelRun0_A.sl.v415, kernelRun0_A.sl.v421, kernelRun0_A.sl.v450, kernelRun0_A.sl.v462, kernelRun0_A.sl.v468, kernelRun0_A.sl.v474, kernelRun0_A.sl.v480]
    all_goals try simp only [loads arg9 _ (pad X) (copyA X c arg2 harg2 x0 h0), load arg3 harg3 x1 W h1, load arg4 harg4 x2 (fun _ => B) h2, load arg5 harg5 x3 Y h3]
    all_goals pointwise [k0_pay5, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
    all_goals erw [box0, box1]
    iterate 8
      refine Eq.trans ?_ (tail_lt (dc X W B Y) _ _ _ (by have := (x 0).isLt; simp at this; omega) (zero_add _))
      simp only [dc, cv, zero_add, ← Nat.add_assoc, Nat.reduceAdd, zero_sub]
      exact dsk _ _
    exact tail_zero _ _ _
  funext y
  exact View.canon_apply_of_pieces (fun y : S2080x128.Idx => tail (dc X W B Y) (y 0).val (y 1).val) _ h.mem y
    (View.cover_of_tiledBy (kernelRun0_A.sl.HS1_9 (F := Ideal) c arg2 harg2 arg3 harg3 arg4 harg4 arg5 harg5 arg9 x0 x1 x2 x3) ![32, 128] (by sl_kernel_rfl) y)

/-- The gradient of a block. -/
theorem block4A (c : Dev nD) (i : grid0.Coords) (arg2 : Memref sig .tc .vmem S2048x128 .f32) (harg2 : arg2.IsWhole) (arg3 : Memref sig .tc .vmem S32x128 .f32) (harg3 : arg3.IsWhole)
    (arg4 : Memref sig .tc .vmem S1x128 .f32) (harg4 : arg4.IsWhole) (arg5 : Memref sig .tc .vmem S2048x128 .f32) (harg5 : arg5.IsWhole)
    (arg6 : Memref sig .tc .vmem S2048x128 .bf16) (harg6 : arg6.IsWhole) (arg7 : Memref sig .tc .vmem S32x128 .f32) (harg7 : arg7.IsWhole)
    (arg8 : Memref sig .tc .vmem S1x128 .f32) (harg8 : arg8.IsWhole) (arg9 : Memref sig .tc .vmem S2080x128 .f32) (harg9 : arg9.IsWhole)
    (arg10 : Memref sig .tc .vmem S2080x128 .f32) (harg10 : arg10.IsWhole) (hc0 : cond0_0 i)
    (x0 : FVec Ideal S2048x128 .f32) (x1 : FVec Ideal S32x128 .f32) (x2 : FVec Ideal S1x128 .f32) (x3 : FVec Ideal S2048x128 .f32)
    (h0 : ∀ y : S2048x128.Idx, (x0 y : EReal) = X (y 0).val (y 1).val) (h1 : ∀ y : S32x128.Idx, (x1 y : EReal) = W (y 0).val (y 1).val)
    (h2 : ∀ y : S1x128.Idx, (x2 y : EReal) = B (y 1).val) (h3 : ∀ y : S2048x128.Idx, (x3 y : EReal) = Y (y 0).val (y 1).val) (y : S2048x128.Idx) :
    (out0_A_4 (F := Ideal) c i arg2 harg2 arg3 harg3 arg4 harg4 arg5 harg5 arg6 harg6 arg7 harg7 arg8 harg8 arg9 harg9 arg10 harg10 hc0 x0 x1 x2 x3 y : EReal) = dx X W B Y (y 0).val (y 1).val := by
  have h : View.PiecesOf (fun y : S2048x128.Idx => (dx X W B Y (y 0).val (y 1).val : EReal)) (kernelRun0_A (F := Ideal) c i arg2 harg2 arg3 harg3 arg4 harg4 arg5 harg5 arg6 harg6 arg7 harg7 arg8 harg8 arg9 harg9 arg10 harg10 hc0 x0 x1 x2 x3).1 := by
    refine ⟨?_, ?_, ?_, ?_, ?_, ?_, ?_, ?_, trivial⟩
    all_goals intro x
    all_goals dsimp only
    all_goals try simp only [kernelRun0_A.sl.cst_103, kernelRun0_A.sl.cst_221, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.v49, kernelRun0_A.sl.v55, kernelRun0_A.sl.v61, kernelRun0_A.sl.v67, kernelRun0_A.sl.v96, kernelRun0_A.sl.v108, kernelRun0_A.sl.v114, kernelRun0_A.sl.v120, kernelRun0_A.sl.v126, kernelRun0_A.sl.v155, kernelRun0_A.sl.v167, kernelRun0_A.sl.v173, kernelRun0_A.sl.v179, kernelRun0_A.sl.v185, kernelRun0_A.sl.v214, kernelRun0_A.sl.v226, kernelRun0_A.sl.v232, kernelRun0_A.sl.v238, kernelRun0_A.sl.v244, kernelRun0_A.sl.v273, kernelRun0_A.sl.v285, kernelRun0_A.sl.v291, kernelRun0_A.sl.v297, kernelRun0_A.sl.v303, kernelRun0_A.sl.v332, kernelRun0_A.sl.v344, kernelRun0_A.sl.v350, kernelRun0_A.sl.v356, kernelRun0_A.sl.v362, kernelRun0_A.sl.v391, kernelRun0_A.sl.v403, kernelRun0_A.sl.v409, kernelRun0_A.sl.v415, kernelRun0_A.sl.v421, kernelRun0_A.sl.v450, kernelRun0_A.sl.v462, kernelRun0_A.sl.v468, kernelRun0_A.sl.v474, kernelRun0_A.sl.v480, kernelRun0_A.sl.v509, kernelRun0_A.sl.v518, kernelRun0_A.sl.v524, kernelRun0_A.sl.v530, kernelRun0_A.sl.v536, kernelRun0_A.sl.v545, kernelRun0_A.sl.v551, kernelRun0_A.sl.v557, kernelRun0_A.sl.v563, kernelRun0_A.sl.v572, kernelRun0_A.sl.v578, kernelRun0_A.sl.v584, kernelRun0_A.sl.v590, kernelRun0_A.sl.v599, kernelRun0_A.sl.v605, kernelRun0_A.sl.v611, kernelRun0_A.sl.v617, kernelRun0_A.sl.v626, kernelRun0_A.sl.v632, kernelRun0_A.sl.v638, kernelRun0_A.sl.v644, kernelRun0_A.sl.v653, kernelRun0_A.sl.v659, kernelRun0_A.sl.v665, kernelRun0_A.sl.v671, kernelRun0_A.sl.v680, kernelRun0_A.sl.v686, kernelRun0_A.sl.v692, kernelRun0_A.sl.v698, kernelRun0_A.sl.v707, kernelRun0_A.sl.v713, kernelRun0_A.sl.v719, kernelRun0_A.sl.v725]
    all_goals try simp only [loads arg9 _ (pad X) (copyA X c arg2 harg2 x0 h0), loads arg10 _ (tail (dc X W B Y)) (dcA X W B Y c arg2 harg2 arg3 harg3 arg4 harg4 arg5 harg5 arg9 x0 x1 x2 x3 h0 h1 h2 h3),
      load arg3 harg3 x1 W h1, load arg4 harg4 x2 (fun _ => B) h2, load arg5 harg5 x3 Y h3]
    all_goals pointwise [k0_pay1, k0_pay2, k0_pay3, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91]
    all_goals erw [box0, box1]
    all_goals simp only [Cert.Conv.dx, zero_add, ← Nat.add_assoc, Nat.reduceAdd]
  unfold out0_A_4
  rw [View.read_writes_junk_eq_canon]
  exact View.canon_apply_of_pieces (fun y : S2048x128.Idx => (dx X W B Y (y 0).val (y 1).val : EReal)) _ h.mem y (cover0_A_4 (F := Ideal) c i arg2 harg2 arg3 harg3 arg4 harg4 arg5 harg5 arg6 harg6 arg7 harg7 arg8 harg8 arg9 harg9 arg10 harg10 hc0 x0 x1 x2 x3 y)

/-- The bias row before the first rows, and after each 256 rows. -/
theorem db_A_1 (arg8 : Memref sig .tc .vmem S1x128 .f32) (hb) :
    (arg8.view.readCov (kernelRun0_A.sl.H6_1 (F := Ideal)) (Rect.unit (s := S1x128) ![0, 0] S1x128.size hb).toLoadRect : S1x128.Idx → EReal)
      = fun j => sums (dc X W B Y) (fun _ => 0) 0 (j 1).val := by
  unfold kernelRun0_A.sl.H6_1
  rw [last]
  funext j
  pointwise [k0_pay3]
  rfl

/-- The bias row of a sequence's first visit after 256 rows. -/
theorem db_A_2 (c : Dev nD) (arg2 : Memref sig .tc .vmem S2048x128 .f32) (harg2 : arg2.IsWhole) (arg3 : Memref sig .tc .vmem S32x128 .f32) (harg3 : arg3.IsWhole)
    (arg4 : Memref sig .tc .vmem S1x128 .f32) (harg4 : arg4.IsWhole) (arg5 : Memref sig .tc .vmem S2048x128 .f32) (harg5 : arg5.IsWhole)
    (arg8 : Memref sig .tc .vmem S1x128 .f32) (arg9 : Memref sig .tc .vmem S2080x128 .f32)
    (x0 : FVec Ideal S2048x128 .f32) (x1 : FVec Ideal S32x128 .f32) (x2 : FVec Ideal S1x128 .f32) (x3 : FVec Ideal S2048x128 .f32)
    (h0 : ∀ y : S2048x128.Idx, (x0 y : EReal) = X (y 0).val (y 1).val) (h1 : ∀ y : S32x128.Idx, (x1 y : EReal) = W (y 0).val (y 1).val)
    (h2 : ∀ y : S1x128.Idx, (x2 y : EReal) = B (y 1).val) (h3 : ∀ y : S2048x128.Idx, (x3 y : EReal) = Y (y 0).val (y 1).val) (hb) :
    (arg8.view.readCov (kernelRun0_A.sl.H6_2 (F := Ideal) c arg2 harg2 arg3 harg3 arg4 harg4 arg5 harg5 arg8 arg9 x0 x1 x2 x3) (Rect.unit (s := S1x128) ![0, 0] S1x128.size hb).toLoadRect : S1x128.Idx → EReal)
      = fun j => sums (dc X W B Y) (fun _ => 0) 1 (j 1).val := by
  unfold kernelRun0_A.sl.H6_2
  rw [last]
  simp only [kernelRun0_A.sl.r, kernelRun0_A.sl.r_1, kernelRun0_A.sl.r_2, kernelRun0_A.sl.v49, kernelRun0_A.sl.v55, kernelRun0_A.sl.v61, kernelRun0_A.sl.v67, kernelRun0_A.sl.v96]
  simp only [db_A_1 X W B Y, loads arg9 _ (pad X) (copyA X c arg2 harg2 x0 h0), load arg3 harg3 x1 W h1, load arg4 harg4 x2 (fun _ => B) h2, load arg5 harg5 x3 Y h3]
  funext j
  clear h0 h1 h2 h3
  pointwise [k0_pay14, k0_pay15, k0_pay16, k0_pay18]
  refine step _ _ 0 _ _ fun x => ?_
  simp only [dc, cv, zero_add, Nat.reduceMul, ← Nat.add_assoc, Nat.reduceAdd, zero_sub]
  exact dsk _ _

/-- The bias row of a sequence's first visit after 512 rows. -/
theorem db_A_3 (c : Dev nD) (arg2 : Memref sig .tc .vmem S2048x128 .f32) (harg2 : arg2.IsWhole) (arg3 : Memref sig .tc .vmem S32x128 .f32) (harg3 : arg3.IsWhole)
    (arg4 : Memref sig .tc .vmem S1x128 .f32) (harg4 : arg4.IsWhole) (arg5 : Memref sig .tc .vmem S2048x128 .f32) (harg5 : arg5.IsWhole)
    (arg8 : Memref sig .tc .vmem S1x128 .f32) (arg9 : Memref sig .tc .vmem S2080x128 .f32)
    (x0 : FVec Ideal S2048x128 .f32) (x1 : FVec Ideal S32x128 .f32) (x2 : FVec Ideal S1x128 .f32) (x3 : FVec Ideal S2048x128 .f32)
    (h0 : ∀ y : S2048x128.Idx, (x0 y : EReal) = X (y 0).val (y 1).val) (h1 : ∀ y : S32x128.Idx, (x1 y : EReal) = W (y 0).val (y 1).val)
    (h2 : ∀ y : S1x128.Idx, (x2 y : EReal) = B (y 1).val) (h3 : ∀ y : S2048x128.Idx, (x3 y : EReal) = Y (y 0).val (y 1).val) (hb) :
    (arg8.view.readCov (kernelRun0_A.sl.H6_3 (F := Ideal) c arg2 harg2 arg3 harg3 arg4 harg4 arg5 harg5 arg8 arg9 x0 x1 x2 x3) (Rect.unit (s := S1x128) ![0, 0] S1x128.size hb).toLoadRect : S1x128.Idx → EReal)
      = fun j => sums (dc X W B Y) (fun _ => 0) 2 (j 1).val := by
  unfold kernelRun0_A.sl.H6_3
  rw [last]
  simp only [kernelRun0_A.sl.r_3, kernelRun0_A.sl.r_4, kernelRun0_A.sl.v108, kernelRun0_A.sl.v114, kernelRun0_A.sl.v120, kernelRun0_A.sl.v126, kernelRun0_A.sl.v155]
  simp only [db_A_2 X W B Y c arg2 harg2 arg3 harg3 arg4 harg4 arg5 harg5 arg8 arg9 x0 x1 x2 x3 h0 h1 h2 h3, loads arg9 _ (pad X) (copyA X c arg2 harg2 x0 h0), load arg3 harg3 x1 W h1, load arg4 harg4 x2 (fun _ => B) h2, load arg5 harg5 x3 Y h3]
  funext j
  clear h0 h1 h2 h3
  pointwise [k0_pay19, k0_pay20, k0_pay21, k0_pay23]
  refine step _ _ 1 _ _ fun x => ?_
  simp only [dc, cv, zero_add, Nat.reduceMul, ← Nat.add_assoc, Nat.reduceAdd, zero_sub]
  exact dsk _ _

/-- The bias row of a sequence's first visit after 768 rows. -/
theorem db_A_4 (c : Dev nD) (arg2 : Memref sig .tc .vmem S2048x128 .f32) (harg2 : arg2.IsWhole) (arg3 : Memref sig .tc .vmem S32x128 .f32) (harg3 : arg3.IsWhole)
    (arg4 : Memref sig .tc .vmem S1x128 .f32) (harg4 : arg4.IsWhole) (arg5 : Memref sig .tc .vmem S2048x128 .f32) (harg5 : arg5.IsWhole)
    (arg8 : Memref sig .tc .vmem S1x128 .f32) (arg9 : Memref sig .tc .vmem S2080x128 .f32)
    (x0 : FVec Ideal S2048x128 .f32) (x1 : FVec Ideal S32x128 .f32) (x2 : FVec Ideal S1x128 .f32) (x3 : FVec Ideal S2048x128 .f32)
    (h0 : ∀ y : S2048x128.Idx, (x0 y : EReal) = X (y 0).val (y 1).val) (h1 : ∀ y : S32x128.Idx, (x1 y : EReal) = W (y 0).val (y 1).val)
    (h2 : ∀ y : S1x128.Idx, (x2 y : EReal) = B (y 1).val) (h3 : ∀ y : S2048x128.Idx, (x3 y : EReal) = Y (y 0).val (y 1).val) (hb) :
    (arg8.view.readCov (kernelRun0_A.sl.H6_4 (F := Ideal) c arg2 harg2 arg3 harg3 arg4 harg4 arg5 harg5 arg8 arg9 x0 x1 x2 x3) (Rect.unit (s := S1x128) ![0, 0] S1x128.size hb).toLoadRect : S1x128.Idx → EReal)
      = fun j => sums (dc X W B Y) (fun _ => 0) 3 (j 1).val := by
  unfold kernelRun0_A.sl.H6_4
  rw [last]
  simp only [kernelRun0_A.sl.cst_103, kernelRun0_A.sl.r_5, kernelRun0_A.sl.r_6, kernelRun0_A.sl.r_7, kernelRun0_A.sl.r_8, kernelRun0_A.sl.v167, kernelRun0_A.sl.v173, kernelRun0_A.sl.v179, kernelRun0_A.sl.v185, kernelRun0_A.sl.v214]
  simp only [db_A_3 X W B Y c arg2 harg2 arg3 harg3 arg4 harg4 arg5 harg5 arg8 arg9 x0 x1 x2 x3 h0 h1 h2 h3, loads arg9 _ (pad X) (copyA X c arg2 harg2 x0 h0), load arg3 harg3 x1 W h1, load arg4 harg4 x2 (fun _ => B) h2, load arg5 harg5 x3 Y h3]
  funext j
  clear h0 h1 h2 h3
  pointwise [k0_pay24, k0_pay25, k0_pay26, k0_pay27, k0_pay28, k0_pay29, k0_pay30, k0_pay31, k0_pay33]
  refine step _ _ 2 _ _ fun x => ?_
  simp only [dc, cv, zero_add, Nat.reduceMul, ← Nat.add_assoc, Nat.reduceAdd, zero_sub]
  exact dsk _ _

/-- The bias row of a sequence's first visit after 1024 rows. -/
theorem db_A_5 (c : Dev nD) (arg2 : Memref sig .tc .vmem S2048x128 .f32) (harg2 : arg2.IsWhole) (arg3 : Memref sig .tc .vmem S32x128 .f32) (harg3 : arg3.IsWhole)
    (arg4 : Memref sig .tc .vmem S1x128 .f32) (harg4 : arg4.IsWhole) (arg5 : Memref sig .tc .vmem S2048x128 .f32) (harg5 : arg5.IsWhole)
    (arg8 : Memref sig .tc .vmem S1x128 .f32) (arg9 : Memref sig .tc .vmem S2080x128 .f32)
    (x0 : FVec Ideal S2048x128 .f32) (x1 : FVec Ideal S32x128 .f32) (x2 : FVec Ideal S1x128 .f32) (x3 : FVec Ideal S2048x128 .f32)
    (h0 : ∀ y : S2048x128.Idx, (x0 y : EReal) = X (y 0).val (y 1).val) (h1 : ∀ y : S32x128.Idx, (x1 y : EReal) = W (y 0).val (y 1).val)
    (h2 : ∀ y : S1x128.Idx, (x2 y : EReal) = B (y 1).val) (h3 : ∀ y : S2048x128.Idx, (x3 y : EReal) = Y (y 0).val (y 1).val) (hb) :
    (arg8.view.readCov (kernelRun0_A.sl.H6_5 (F := Ideal) c arg2 harg2 arg3 harg3 arg4 harg4 arg5 harg5 arg8 arg9 x0 x1 x2 x3) (Rect.unit (s := S1x128) ![0, 0] S1x128.size hb).toLoadRect : S1x128.Idx → EReal)
      = fun j => sums (dc X W B Y) (fun _ => 0) 4 (j 1).val := by
  unfold kernelRun0_A.sl.H6_5
  rw [last]
  simp only [kernelRun0_A.sl.r_9, kernelRun0_A.sl.r_10, kernelRun0_A.sl.v226, kernelRun0_A.sl.v232, kernelRun0_A.sl.v238, kernelRun0_A.sl.v244, kernelRun0_A.sl.v273]
  simp only [db_A_4 X W B Y c arg2 harg2 arg3 harg3 arg4 harg4 arg5 harg5 arg8 arg9 x0 x1 x2 x3 h0 h1 h2 h3, loads arg9 _ (pad X) (copyA X c arg2 harg2 x0 h0), load arg3 harg3 x1 W h1, load arg4 harg4 x2 (fun _ => B) h2, load arg5 harg5 x3 Y h3]
  funext j
  clear h0 h1 h2 h3
  pointwise [k0_pay34, k0_pay35, k0_pay37]
  refine step _ _ 3 _ _ fun x => ?_
  simp only [dc, cv, zero_add, Nat.reduceMul, ← Nat.add_assoc, Nat.reduceAdd, zero_sub]
  exact dsk _ _

/-- The bias row of a sequence's first visit after 1280 rows. -/
theorem db_A_6 (c : Dev nD) (arg2 : Memref sig .tc .vmem S2048x128 .f32) (harg2 : arg2.IsWhole) (arg3 : Memref sig .tc .vmem S32x128 .f32) (harg3 : arg3.IsWhole)
    (arg4 : Memref sig .tc .vmem S1x128 .f32) (harg4 : arg4.IsWhole) (arg5 : Memref sig .tc .vmem S2048x128 .f32) (harg5 : arg5.IsWhole)
    (arg8 : Memref sig .tc .vmem S1x128 .f32) (arg9 : Memref sig .tc .vmem S2080x128 .f32)
    (x0 : FVec Ideal S2048x128 .f32) (x1 : FVec Ideal S32x128 .f32) (x2 : FVec Ideal S1x128 .f32) (x3 : FVec Ideal S2048x128 .f32)
    (h0 : ∀ y : S2048x128.Idx, (x0 y : EReal) = X (y 0).val (y 1).val) (h1 : ∀ y : S32x128.Idx, (x1 y : EReal) = W (y 0).val (y 1).val)
    (h2 : ∀ y : S1x128.Idx, (x2 y : EReal) = B (y 1).val) (h3 : ∀ y : S2048x128.Idx, (x3 y : EReal) = Y (y 0).val (y 1).val) (hb) :
    (arg8.view.readCov (kernelRun0_A.sl.H6_6 (F := Ideal) c arg2 harg2 arg3 harg3 arg4 harg4 arg5 harg5 arg8 arg9 x0 x1 x2 x3) (Rect.unit (s := S1x128) ![0, 0] S1x128.size hb).toLoadRect : S1x128.Idx → EReal)
      = fun j => sums (dc X W B Y) (fun _ => 0) 5 (j 1).val := by
  unfold kernelRun0_A.sl.H6_6
  rw [last]
  simp only [kernelRun0_A.sl.r_11, kernelRun0_A.sl.r_12, kernelRun0_A.sl.r_13, kernelRun0_A.sl.r_14, kernelRun0_A.sl.r_15, kernelRun0_A.sl.r_16, kernelRun0_A.sl.v285, kernelRun0_A.sl.v291, kernelRun0_A.sl.v297, kernelRun0_A.sl.v303, kernelRun0_A.sl.v332]
  simp only [db_A_5 X W B Y c arg2 harg2 arg3 harg3 arg4 harg4 arg5 harg5 arg8 arg9 x0 x1 x2 x3 h0 h1 h2 h3, loads arg9 _ (pad X) (copyA X c arg2 harg2 x0 h0), load arg3 harg3 x1 W h1, load arg4 harg4 x2 (fun _ => B) h2, load arg5 harg5 x3 Y h3]
  funext j
  clear h0 h1 h2 h3
  pointwise [k0_pay38, k0_pay39, k0_pay40, k0_pay41, k0_pay42, k0_pay43, k0_pay44, k0_pay45, k0_pay47]
  refine step _ _ 4 _ _ fun x => ?_
  simp only [dc, cv, zero_add, Nat.reduceMul, ← Nat.add_assoc, Nat.reduceAdd, zero_sub]
  exact dsk _ _

/-- The bias row of a sequence's first visit after 1536 rows. -/
theorem db_A_7 (c : Dev nD) (arg2 : Memref sig .tc .vmem S2048x128 .f32) (harg2 : arg2.IsWhole) (arg3 : Memref sig .tc .vmem S32x128 .f32) (harg3 : arg3.IsWhole)
    (arg4 : Memref sig .tc .vmem S1x128 .f32) (harg4 : arg4.IsWhole) (arg5 : Memref sig .tc .vmem S2048x128 .f32) (harg5 : arg5.IsWhole)
    (arg8 : Memref sig .tc .vmem S1x128 .f32) (arg9 : Memref sig .tc .vmem S2080x128 .f32)
    (x0 : FVec Ideal S2048x128 .f32) (x1 : FVec Ideal S32x128 .f32) (x2 : FVec Ideal S1x128 .f32) (x3 : FVec Ideal S2048x128 .f32)
    (h0 : ∀ y : S2048x128.Idx, (x0 y : EReal) = X (y 0).val (y 1).val) (h1 : ∀ y : S32x128.Idx, (x1 y : EReal) = W (y 0).val (y 1).val)
    (h2 : ∀ y : S1x128.Idx, (x2 y : EReal) = B (y 1).val) (h3 : ∀ y : S2048x128.Idx, (x3 y : EReal) = Y (y 0).val (y 1).val) (hb) :
    (arg8.view.readCov (kernelRun0_A.sl.H6_7 (F := Ideal) c arg2 harg2 arg3 harg3 arg4 harg4 arg5 harg5 arg8 arg9 x0 x1 x2 x3) (Rect.unit (s := S1x128) ![0, 0] S1x128.size hb).toLoadRect : S1x128.Idx → EReal)
      = fun j => sums (dc X W B Y) (fun _ => 0) 6 (j 1).val := by
  unfold kernelRun0_A.sl.H6_7
  rw [last]
  simp only [kernelRun0_A.sl.r_17, kernelRun0_A.sl.r_18, kernelRun0_A.sl.r_19, kernelRun0_A.sl.r_20, kernelRun0_A.sl.v344, kernelRun0_A.sl.v350, kernelRun0_A.sl.v356, kernelRun0_A.sl.v362, kernelRun0_A.sl.v391]
  simp only [db_A_6 X W B Y c arg2 harg2 arg3 harg3 arg4 harg4 arg5 harg5 arg8 arg9 x0 x1 x2 x3 h0 h1 h2 h3, loads arg9 _ (pad X) (copyA X c arg2 harg2 x0 h0), load arg3 harg3 x1 W h1, load arg4 harg4 x2 (fun _ => B) h2, load arg5 harg5 x3 Y h3]
  funext j
  clear h0 h1 h2 h3
  pointwise [k0_pay48, k0_pay49, k0_pay51, k0_pay52, k0_pay53]
  refine step _ _ 5 _ _ fun x => ?_
  simp only [dc, cv, zero_add, Nat.reduceMul, ← Nat.add_assoc, Nat.reduceAdd, zero_sub]
  exact dsk _ _

/-- The bias row of a sequence's first visit after 1792 rows. -/
theorem db_A_8 (c : Dev nD) (arg2 : Memref sig .tc .vmem S2048x128 .f32) (harg2 : arg2.IsWhole) (arg3 : Memref sig .tc .vmem S32x128 .f32) (harg3 : arg3.IsWhole)
    (arg4 : Memref sig .tc .vmem S1x128 .f32) (harg4 : arg4.IsWhole) (arg5 : Memref sig .tc .vmem S2048x128 .f32) (harg5 : arg5.IsWhole)
    (arg8 : Memref sig .tc .vmem S1x128 .f32) (arg9 : Memref sig .tc .vmem S2080x128 .f32)
    (x0 : FVec Ideal S2048x128 .f32) (x1 : FVec Ideal S32x128 .f32) (x2 : FVec Ideal S1x128 .f32) (x3 : FVec Ideal S2048x128 .f32)
    (h0 : ∀ y : S2048x128.Idx, (x0 y : EReal) = X (y 0).val (y 1).val) (h1 : ∀ y : S32x128.Idx, (x1 y : EReal) = W (y 0).val (y 1).val)
    (h2 : ∀ y : S1x128.Idx, (x2 y : EReal) = B (y 1).val) (h3 : ∀ y : S2048x128.Idx, (x3 y : EReal) = Y (y 0).val (y 1).val) (hb) :
    (arg8.view.readCov (kernelRun0_A.sl.H6_8 (F := Ideal) c arg2 harg2 arg3 harg3 arg4 harg4 arg5 harg5 arg8 arg9 x0 x1 x2 x3) (Rect.unit (s := S1x128) ![0, 0] S1x128.size hb).toLoadRect : S1x128.Idx → EReal)
      = fun j => sums (dc X W B Y) (fun _ => 0) 7 (j 1).val := by
  unfold kernelRun0_A.sl.H6_8
  rw [last]
  simp only [kernelRun0_A.sl.cst_221, kernelRun0_A.sl.r_21, kernelRun0_A.sl.r_22, kernelRun0_A.sl.r_23, kernelRun0_A.sl.v403, kernelRun0_A.sl.v409, kernelRun0_A.sl.v415, kernelRun0_A.sl.v421, kernelRun0_A.sl.v450]
  simp only [db_A_7 X W B Y c arg2 harg2 arg3 harg3 arg4 harg4 arg5 harg5 arg8 arg9 x0 x1 x2 x3 h0 h1 h2 h3, loads arg9 _ (pad X) (copyA X c arg2 harg2 x0 h0), load arg3 harg3 x1 W h1, load arg4 harg4 x2 (fun _ => B) h2, load arg5 harg5 x3 Y h3]
  funext j
  clear h0 h1 h2 h3
  pointwise [k0_pay54, k0_pay55, k0_pay56, k0_pay57, k0_pay59]
  refine step _ _ 6 _ _ fun x => ?_
  simp only [dc, cv, zero_add, Nat.reduceMul, ← Nat.add_assoc, Nat.reduceAdd, zero_sub]
  exact dsk _ _

/-- The bias row a point leaves. -/
theorem block6A (c : Dev nD) (i : grid0.Coords) (arg2 : Memref sig .tc .vmem S2048x128 .f32) (harg2 : arg2.IsWhole) (arg3 : Memref sig .tc .vmem S32x128 .f32) (harg3 : arg3.IsWhole)
    (arg4 : Memref sig .tc .vmem S1x128 .f32) (harg4 : arg4.IsWhole) (arg5 : Memref sig .tc .vmem S2048x128 .f32) (harg5 : arg5.IsWhole)
    (arg6 : Memref sig .tc .vmem S2048x128 .bf16) (harg6 : arg6.IsWhole) (arg7 : Memref sig .tc .vmem S32x128 .f32) (harg7 : arg7.IsWhole)
    (arg8 : Memref sig .tc .vmem S1x128 .f32) (harg8 : arg8.IsWhole) (arg9 : Memref sig .tc .vmem S2080x128 .f32) (harg9 : arg9.IsWhole)
    (arg10 : Memref sig .tc .vmem S2080x128 .f32) (harg10 : arg10.IsWhole) (hc0 : cond0_0 i)
    (x0 : FVec Ideal S2048x128 .f32) (x1 : FVec Ideal S32x128 .f32) (x2 : FVec Ideal S1x128 .f32) (x3 : FVec Ideal S2048x128 .f32)
    (h0 : ∀ y : S2048x128.Idx, (x0 y : EReal) = X (y 0).val (y 1).val) (h1 : ∀ y : S32x128.Idx, (x1 y : EReal) = W (y 0).val (y 1).val)
    (h2 : ∀ y : S1x128.Idx, (x2 y : EReal) = B (y 1).val) (h3 : ∀ y : S2048x128.Idx, (x3 y : EReal) = Y (y 0).val (y 1).val) (y : S1x128.Idx) :
    (out0_A_6 (F := Ideal) c i arg2 harg2 arg3 harg3 arg4 harg4 arg5 harg5 arg6 harg6 arg7 harg7 arg8 harg8 arg9 harg9 arg10 harg10 hc0 x0 x1 x2 x3 y : EReal) = sums (dc X W B Y) (fun _ => 0) 8 (y 1).val := by
  unfold out0_A_6
  rw [View.read_writes_junk_eq_canon]
  refine (congrFun (View.canon_cons_unit_zero (S := S1x128) (Val := Elt Ideal) (off := ![0, 0]) (by funext a; fin_cases a <;> rfl) _ _ _) y).trans ?_
  simp only [kernelRun0_A.sl.r_24, kernelRun0_A.sl.r_25, kernelRun0_A.sl.r_26, kernelRun0_A.sl.v462, kernelRun0_A.sl.v468, kernelRun0_A.sl.v474, kernelRun0_A.sl.v480, kernelRun0_A.sl.v509]
  simp only [db_A_8 X W B Y c arg2 harg2 arg3 harg3 arg4 harg4 arg5 harg5 arg8 arg9 x0 x1 x2 x3 h0 h1 h2 h3, loads arg9 _ (pad X) (copyA X c arg2 harg2 x0 h0), load arg3 harg3 x1 W h1, load arg4 harg4 x2 (fun _ => B) h2, load arg5 harg5 x3 Y h3]
  clear h0 h1 h2 h3
  pointwise [k0_pay60, k0_pay61, k0_pay63]
  refine step _ _ 7 _ _ fun x => ?_
  simp only [dc, cv, zero_add, Nat.reduceMul, ← Nat.add_assoc, Nat.reduceAdd, zero_sub]
  exact dsk _ _

/-- The rows of taps a point leaves. -/
theorem block5A (c : Dev nD) (i : grid0.Coords) (arg2 : Memref sig .tc .vmem S2048x128 .f32) (harg2 : arg2.IsWhole) (arg3 : Memref sig .tc .vmem S32x128 .f32) (harg3 : arg3.IsWhole)
    (arg4 : Memref sig .tc .vmem S1x128 .f32) (harg4 : arg4.IsWhole) (arg5 : Memref sig .tc .vmem S2048x128 .f32) (harg5 : arg5.IsWhole)
    (arg6 : Memref sig .tc .vmem S2048x128 .bf16) (harg6 : arg6.IsWhole) (arg7 : Memref sig .tc .vmem S32x128 .f32) (harg7 : arg7.IsWhole)
    (arg8 : Memref sig .tc .vmem S1x128 .f32) (harg8 : arg8.IsWhole) (arg9 : Memref sig .tc .vmem S2080x128 .f32) (harg9 : arg9.IsWhole)
    (arg10 : Memref sig .tc .vmem S2080x128 .f32) (harg10 : arg10.IsWhole) (hc0 : cond0_0 i)
    (x0 : FVec Ideal S2048x128 .f32) (x1 : FVec Ideal S32x128 .f32) (x2 : FVec Ideal S1x128 .f32) (x3 : FVec Ideal S2048x128 .f32)
    (h0 : ∀ y : S2048x128.Idx, (x0 y : EReal) = X (y 0).val (y 1).val) (h1 : ∀ y : S32x128.Idx, (x1 y : EReal) = W (y 0).val (y 1).val)
    (h2 : ∀ y : S1x128.Idx, (x2 y : EReal) = B (y 1).val) (h3 : ∀ y : S2048x128.Idx, (x3 y : EReal) = Y (y 0).val (y 1).val) (y : S32x128.Idx) :
    (out0_A_5 (F := Ideal) c i arg2 harg2 arg3 harg3 arg4 harg4 arg5 harg5 arg6 harg6 arg7 harg7 arg8 harg8 arg9 harg9 arg10 harg10 hc0 x0 x1 x2 x3 y : EReal)
      = if (y 0).val < 4 then (0 : EReal) + tap X (dc X W B Y) (y 0).val (y 1).val else 0 := by
  unfold out0_A_5
  refine (row _ _ _ 3 _ _ y).trans ?_
  by_cases c3 : (y 0).val = 3
  · rw [if_pos c3, if_pos (by omega), c3]
    simp only [kernelRun0_A.sl.r_39, kernelRun0_A.sl.r_40, kernelRun0_A.sl.r_41, kernelRun0_A.sl.v67, kernelRun0_A.sl.v126, kernelRun0_A.sl.v185, kernelRun0_A.sl.v244, kernelRun0_A.sl.v303, kernelRun0_A.sl.v362, kernelRun0_A.sl.v421, kernelRun0_A.sl.v480, kernelRun0_A.sl.v536, kernelRun0_A.sl.v563, kernelRun0_A.sl.v590, kernelRun0_A.sl.v617, kernelRun0_A.sl.v644, kernelRun0_A.sl.v671, kernelRun0_A.sl.v698, kernelRun0_A.sl.v725, kernelRun0_A.sl.v939]
    simp only [start_A_3 c arg2 harg2 arg3 harg3 arg4 harg4 arg5 harg5 arg7 arg9 arg10 x0 x1 x2 x3, loads arg9 _ (pad X) (copyA X c arg2 harg2 x0 h0), loads arg10 _ (tail (dc X W B Y)) (dcA X W B Y c arg2 harg2 arg3 harg3 arg4 harg4 arg5 harg5 arg9 x0 x1 x2 x3 h0 h1 h2 h3)]
    clear h0 h1 h2 h3
    pointwise [k0_pay1, k0_pay89, k0_pay90, k0_pay91]
    exact (zero_add _).symm.trans ((tap_eight X (dc X W B Y) 3 (y 1).val 0 0 rfl).trans (zero_add _))
  rw [if_neg c3]
  refine (row _ _ _ 2 _ _ y).trans ?_
  by_cases c2 : (y 0).val = 2
  · rw [if_pos c2, if_pos (by omega), c2]
    simp only [kernelRun0_A.sl.r_37, kernelRun0_A.sl.r_38, kernelRun0_A.sl.v61, kernelRun0_A.sl.v120, kernelRun0_A.sl.v179, kernelRun0_A.sl.v238, kernelRun0_A.sl.v297, kernelRun0_A.sl.v356, kernelRun0_A.sl.v415, kernelRun0_A.sl.v474, kernelRun0_A.sl.v536, kernelRun0_A.sl.v563, kernelRun0_A.sl.v590, kernelRun0_A.sl.v617, kernelRun0_A.sl.v644, kernelRun0_A.sl.v671, kernelRun0_A.sl.v698, kernelRun0_A.sl.v725, kernelRun0_A.sl.v886]
    simp only [start_A_2 c arg2 harg2 arg3 harg3 arg4 harg4 arg5 harg5 arg7 arg9 arg10 x0 x1 x2 x3, loads arg9 _ (pad X) (copyA X c arg2 harg2 x0 h0), loads arg10 _ (tail (dc X W B Y)) (dcA X W B Y c arg2 harg2 arg3 harg3 arg4 harg4 arg5 harg5 arg9 x0 x1 x2 x3 h0 h1 h2 h3)]
    clear h0 h1 h2 h3
    pointwise [k0_pay85, k0_pay86, k0_pay87, k0_pay88]
    exact (zero_add _).symm.trans ((tap_eight X (dc X W B Y) 2 (y 1).val 0 0 rfl).trans (zero_add _))
  rw [if_neg c2]
  refine (row _ _ _ 1 _ _ y).trans ?_
  by_cases c1 : (y 0).val = 1
  · rw [if_pos c1, if_pos (by omega), c1]
    simp only [kernelRun0_A.sl.r_36, kernelRun0_A.sl.v55, kernelRun0_A.sl.v114, kernelRun0_A.sl.v173, kernelRun0_A.sl.v232, kernelRun0_A.sl.v291, kernelRun0_A.sl.v350, kernelRun0_A.sl.v409, kernelRun0_A.sl.v468, kernelRun0_A.sl.v536, kernelRun0_A.sl.v563, kernelRun0_A.sl.v590, kernelRun0_A.sl.v617, kernelRun0_A.sl.v644, kernelRun0_A.sl.v671, kernelRun0_A.sl.v698, kernelRun0_A.sl.v725, kernelRun0_A.sl.v833]
    simp only [start_A_1 c arg2 harg2 arg3 harg3 arg4 harg4 arg5 harg5 arg7 arg9 arg10 x0 x1 x2 x3, loads arg9 _ (pad X) (copyA X c arg2 harg2 x0 h0), loads arg10 _ (tail (dc X W B Y)) (dcA X W B Y c arg2 harg2 arg3 harg3 arg4 harg4 arg5 harg5 arg9 x0 x1 x2 x3 h0 h1 h2 h3)]
    clear h0 h1 h2 h3
    pointwise [k0_pay83, k0_pay84]
    exact (zero_add _).symm.trans ((tap_eight X (dc X W B Y) 1 (y 1).val 0 0 rfl).trans (zero_add _))
  rw [if_neg c1]
  refine (row _ _ _ 0 _ _ y).trans ?_
  by_cases c0 : (y 0).val = 0
  · rw [if_pos c0, if_pos (by omega), c0]
    simp only [kernelRun0_A.sl.r_33, kernelRun0_A.sl.r_34, kernelRun0_A.sl.r_35, kernelRun0_A.sl.v49, kernelRun0_A.sl.v108, kernelRun0_A.sl.v167, kernelRun0_A.sl.v226, kernelRun0_A.sl.v285, kernelRun0_A.sl.v344, kernelRun0_A.sl.v403, kernelRun0_A.sl.v462, kernelRun0_A.sl.v536, kernelRun0_A.sl.v563, kernelRun0_A.sl.v590, kernelRun0_A.sl.v617, kernelRun0_A.sl.v644, kernelRun0_A.sl.v671, kernelRun0_A.sl.v698, kernelRun0_A.sl.v725, kernelRun0_A.sl.v780]
    simp only [start_A_0 arg7 0, loads arg9 _ (pad X) (copyA X c arg2 harg2 x0 h0), loads arg10 _ (tail (dc X W B Y)) (dcA X W B Y c arg2 harg2 arg3 harg3 arg4 harg4 arg5 harg5 arg9 x0 x1 x2 x3 h0 h1 h2 h3)]
    clear h0 h1 h2 h3
    pointwise [k0_pay79, k0_pay80, k0_pay81, k0_pay82]
    exact (zero_add _).symm.trans ((tap_eight X (dc X W B Y) 0 (y 1).val 0 0 rfl).trans (zero_add _))
  rw [if_neg c0]
  rw [if_neg (by omega)]
  unfold kernelRun0_A.sl.H5_1
  rw [View.read_writes_junk_eq_canon]
  refine (congrFun (View.canon_cons_unit_zero (S := S32x128) (Val := Elt Ideal) (off := ![0, 0]) (by funext a; fin_cases a <;> rfl) _ _ _) y).trans ?_
  pointwise [k0_pay2]

/-- The padded copy of a block. -/
theorem copyB (c : Dev nD) (arg2 : Memref sig .tc .vmem S2048x128 .f32) (harg2 : arg2.IsWhole) (x0 : FVec Ideal S2048x128 .f32)
    (h0 : ∀ y : S2048x128.Idx, (x0 y : EReal) = X (y 0).val (y 1).val) :
    (View.canon (kernelRun0_B.sl.HS0_9 (F := Ideal) c arg2 harg2 x0) : S2080x128.Idx → EReal) = fun y => pad X (y 0).val (y 1).val := by
  have h : View.PiecesOf (fun y : S2080x128.Idx => pad X (y 0).val (y 1).val) (kernelRun0_B.sl.HS0_9 (F := Ideal) c arg2 harg2 x0) := by
    refine ⟨?_, ?_, ?_, ?_, ?_, ?_, ?_, ?_, ?_, trivial⟩
    all_goals intro x
    all_goals dsimp only
    all_goals pointwise [k0_pay4, k0_pay6, k0_pay7, k0_pay8, k0_pay9, k0_pay10, k0_pay11, k0_pay12, k0_pay13]
    all_goals try rw [load arg2 harg2 x0 X h0]
    all_goals erw [box0, box1]
    iterate 8 exact pad_add X _ _ _ _ rfl
    exact pad_zero X _ _ (by have := (x 0).isLt; simpa using this)
  funext y
  exact View.canon_apply_of_pieces (fun y : S2080x128.Idx => pad X (y 0).val (y 1).val) _ h.mem y (View.cover_of_tiledBy (kernelRun0_B.sl.HS0_9 (F := Ideal) c arg2 harg2 x0) ![32, 128] (by sl_kernel_rfl) y)

/-- The sums' derivatives above zeros. -/
theorem dcB (c : Dev nD) (arg2 : Memref sig .tc .vmem S2048x128 .f32) (harg2 : arg2.IsWhole) (arg3 : Memref sig .tc .vmem S32x128 .f32) (harg3 : arg3.IsWhole)
    (arg4 : Memref sig .tc .vmem S1x128 .f32) (harg4 : arg4.IsWhole) (arg5 : Memref sig .tc .vmem S2048x128 .f32) (harg5 : arg5.IsWhole)
    (arg9 : Memref sig .tc .vmem S2080x128 .f32)
    (x0 : FVec Ideal S2048x128 .f32) (x1 : FVec Ideal S32x128 .f32) (x2 : FVec Ideal S1x128 .f32) (x3 : FVec Ideal S2048x128 .f32)
    (h0 : ∀ y : S2048x128.Idx, (x0 y : EReal) = X (y 0).val (y 1).val) (h1 : ∀ y : S32x128.Idx, (x1 y : EReal) = W (y 0).val (y 1).val)
    (h2 : ∀ y : S1x128.Idx, (x2 y : EReal) = B (y 1).val) (h3 : ∀ y : S2048x128.Idx, (x3 y : EReal) = Y (y 0).val (y 1).val) :
    (View.canon (kernelRun0_B.sl.HS1_9 (F := Ideal) c arg2 harg2 arg3 harg3 arg4 harg4 arg5 harg5 arg9 x0 x1 x2 x3) : S2080x128.Idx → EReal) = fun y => tail (dc X W B Y) (y 0).val (y 1).val := by
  have h : View.PiecesOf (fun y : S2080x128.Idx => tail (dc X W B Y) (y 0).val (y 1).val) (kernelRun0_B.sl.HS1_9 (F := Ideal) c arg2 harg2 arg3 harg3 arg4 harg4 arg5 harg5 arg9 x0 x1 x2 x3) := by
    refine ⟨?_, ?_, ?_, ?_, ?_, ?_, ?_, ?_, ?_, trivial⟩
    all_goals intro x
    all_goals dsimp only
    all_goals try simp only [kernelRun0_B.sl.cst_103, kernelRun0_B.sl.cst_221, kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_40, kernelRun0_B.sl.r_41, kernelRun0_B.sl.v49, kernelRun0_B.sl.v55, kernelRun0_B.sl.v61, kernelRun0_B.sl.v67, kernelRun0_B.sl.v108, kernelRun0_B.sl.v114, kernelRun0_B.sl.v120, kernelRun0_B.sl.v126, kernelRun0_B.sl.v155, kernelRun0_B.sl.v167, kernelRun0_B.sl.v173, kernelRun0_B.sl.v179, kernelRun0_B.sl.v185, kernelRun0_B.sl.v214, kernelRun0_B.sl.v226, kernelRun0_B.sl.v232, kernelRun0_B.sl.v238, kernelRun0_B.sl.v244, kernelRun0_B.sl.v273, kernelRun0_B.sl.v285, kernelRun0_B.sl.v291, kernelRun0_B.sl.v297, kernelRun0_B.sl.v303, kernelRun0_B.sl.v332, kernelRun0_B.sl.v344, kernelRun0_B.sl.v350, kernelRun0_B.sl.v356, kernelRun0_B.sl.v362, kernelRun0_B.sl.v391, kernelRun0_B.sl.v403, kernelRun0_B.sl.v409, kernelRun0_B.sl.v415, kernelRun0_B.sl.v421, kernelRun0_B.sl.v450, kernelRun0_B.sl.v462, kernelRun0_B.sl.v468, kernelRun0_B.sl.v474, kernelRun0_B.sl.v480]
    all_goals try simp only [loads arg9 _ (pad X) (copyB X c arg2 harg2 x0 h0), load arg3 harg3 x1 W h1, load arg4 harg4 x2 (fun _ => B) h2, load arg5 harg5 x3 Y h3]
    all_goals pointwise [k0_pay5, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
    all_goals erw [box0, box1]
    iterate 8
      refine Eq.trans ?_ (tail_lt (dc X W B Y) _ _ _ (by have := (x 0).isLt; simp at this; omega) (zero_add _))
      simp only [dc, cv, zero_add, ← Nat.add_assoc, Nat.reduceAdd, zero_sub]
      exact dsk _ _
    exact tail_zero _ _ _
  funext y
  exact View.canon_apply_of_pieces (fun y : S2080x128.Idx => tail (dc X W B Y) (y 0).val (y 1).val) _ h.mem y
    (View.cover_of_tiledBy (kernelRun0_B.sl.HS1_9 (F := Ideal) c arg2 harg2 arg3 harg3 arg4 harg4 arg5 harg5 arg9 x0 x1 x2 x3) ![32, 128] (by sl_kernel_rfl) y)

/-- The gradient of a block. -/
theorem block4B (c : Dev nD) (i : grid0.Coords) (arg2 : Memref sig .tc .vmem S2048x128 .f32) (harg2 : arg2.IsWhole) (arg3 : Memref sig .tc .vmem S32x128 .f32) (harg3 : arg3.IsWhole)
    (arg4 : Memref sig .tc .vmem S1x128 .f32) (harg4 : arg4.IsWhole) (arg5 : Memref sig .tc .vmem S2048x128 .f32) (harg5 : arg5.IsWhole)
    (arg6 : Memref sig .tc .vmem S2048x128 .bf16) (harg6 : arg6.IsWhole) (arg7 : Memref sig .tc .vmem S32x128 .f32) (harg7 : arg7.IsWhole)
    (arg8 : Memref sig .tc .vmem S1x128 .f32) (harg8 : arg8.IsWhole) (arg9 : Memref sig .tc .vmem S2080x128 .f32) (harg9 : arg9.IsWhole)
    (arg10 : Memref sig .tc .vmem S2080x128 .f32) (harg10 : arg10.IsWhole) (hc0 : ¬cond0_0 i)
    (x0 : FVec Ideal S2048x128 .f32) (x1 : FVec Ideal S32x128 .f32) (x2 : FVec Ideal S1x128 .f32) (x3 : FVec Ideal S2048x128 .f32) (xo5 : FVec Ideal S32x128 .f32) (xo6 : FVec Ideal S1x128 .f32)
    (h0 : ∀ y : S2048x128.Idx, (x0 y : EReal) = X (y 0).val (y 1).val) (h1 : ∀ y : S32x128.Idx, (x1 y : EReal) = W (y 0).val (y 1).val)
    (h2 : ∀ y : S1x128.Idx, (x2 y : EReal) = B (y 1).val) (h3 : ∀ y : S2048x128.Idx, (x3 y : EReal) = Y (y 0).val (y 1).val) (y : S2048x128.Idx) :
    (out0_B_4 (F := Ideal) c i arg2 harg2 arg3 harg3 arg4 harg4 arg5 harg5 arg6 harg6 arg7 harg7 arg8 harg8 arg9 harg9 arg10 harg10 hc0 x0 x1 x2 x3 xo5 xo6 y : EReal) = dx X W B Y (y 0).val (y 1).val := by
  have h : View.PiecesOf (fun y : S2048x128.Idx => (dx X W B Y (y 0).val (y 1).val : EReal)) (kernelRun0_B (F := Ideal) c i arg2 harg2 arg3 harg3 arg4 harg4 arg5 harg5 arg6 harg6 arg7 harg7 arg8 harg8 arg9 harg9 arg10 harg10 hc0 x0 x1 x2 x3 xo5 xo6).1 := by
    refine ⟨?_, ?_, ?_, ?_, ?_, ?_, ?_, ?_, trivial⟩
    all_goals intro x
    all_goals dsimp only
    all_goals try simp only [kernelRun0_B.sl.cst_103, kernelRun0_B.sl.cst_221, kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_40, kernelRun0_B.sl.r_41, kernelRun0_B.sl.v49, kernelRun0_B.sl.v55, kernelRun0_B.sl.v61, kernelRun0_B.sl.v67, kernelRun0_B.sl.v108, kernelRun0_B.sl.v114, kernelRun0_B.sl.v120, kernelRun0_B.sl.v126, kernelRun0_B.sl.v155, kernelRun0_B.sl.v167, kernelRun0_B.sl.v173, kernelRun0_B.sl.v179, kernelRun0_B.sl.v185, kernelRun0_B.sl.v214, kernelRun0_B.sl.v226, kernelRun0_B.sl.v232, kernelRun0_B.sl.v238, kernelRun0_B.sl.v244, kernelRun0_B.sl.v273, kernelRun0_B.sl.v285, kernelRun0_B.sl.v291, kernelRun0_B.sl.v297, kernelRun0_B.sl.v303, kernelRun0_B.sl.v332, kernelRun0_B.sl.v344, kernelRun0_B.sl.v350, kernelRun0_B.sl.v356, kernelRun0_B.sl.v362, kernelRun0_B.sl.v391, kernelRun0_B.sl.v403, kernelRun0_B.sl.v409, kernelRun0_B.sl.v415, kernelRun0_B.sl.v421, kernelRun0_B.sl.v450, kernelRun0_B.sl.v462, kernelRun0_B.sl.v468, kernelRun0_B.sl.v474, kernelRun0_B.sl.v480, kernelRun0_B.sl.v509, kernelRun0_B.sl.v518, kernelRun0_B.sl.v524, kernelRun0_B.sl.v530, kernelRun0_B.sl.v536, kernelRun0_B.sl.v545, kernelRun0_B.sl.v551, kernelRun0_B.sl.v557, kernelRun0_B.sl.v563, kernelRun0_B.sl.v572, kernelRun0_B.sl.v578, kernelRun0_B.sl.v584, kernelRun0_B.sl.v590, kernelRun0_B.sl.v599, kernelRun0_B.sl.v605, kernelRun0_B.sl.v611, kernelRun0_B.sl.v617, kernelRun0_B.sl.v626, kernelRun0_B.sl.v632, kernelRun0_B.sl.v638, kernelRun0_B.sl.v644, kernelRun0_B.sl.v653, kernelRun0_B.sl.v659, kernelRun0_B.sl.v665, kernelRun0_B.sl.v671, kernelRun0_B.sl.v680, kernelRun0_B.sl.v686, kernelRun0_B.sl.v692, kernelRun0_B.sl.v698, kernelRun0_B.sl.v707, kernelRun0_B.sl.v713, kernelRun0_B.sl.v719, kernelRun0_B.sl.v725]
    all_goals try simp only [loads arg9 _ (pad X) (copyB X c arg2 harg2 x0 h0), loads arg10 _ (tail (dc X W B Y)) (dcB X W B Y c arg2 harg2 arg3 harg3 arg4 harg4 arg5 harg5 arg9 x0 x1 x2 x3 h0 h1 h2 h3),
      load arg3 harg3 x1 W h1, load arg4 harg4 x2 (fun _ => B) h2, load arg5 harg5 x3 Y h3]
    all_goals pointwise [k0_pay1, k0_pay2, k0_pay3, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91]
    all_goals erw [box0, box1]
    all_goals simp only [Cert.Conv.dx, zero_add, ← Nat.add_assoc, Nat.reduceAdd]
  unfold out0_B_4
  rw [View.read_writes_junk_eq_canon]
  exact View.canon_apply_of_pieces (fun y : S2048x128.Idx => (dx X W B Y (y 0).val (y 1).val : EReal)) _ h.mem y (cover0_B_4 (F := Ideal) c i arg2 harg2 arg3 harg3 arg4 harg4 arg5 harg5 arg6 harg6 arg7 harg7 arg8 harg8 arg9 harg9 arg10 harg10 hc0 x0 x1 x2 x3 xo5 xo6 y)

/-- The bias row of a second visit after 256 rows, over what the first left. -/
theorem db_B_1 (S : ℕ → EReal) (c : Dev nD) (arg2 : Memref sig .tc .vmem S2048x128 .f32) (harg2 : arg2.IsWhole) (arg3 : Memref sig .tc .vmem S32x128 .f32) (harg3 : arg3.IsWhole)
    (arg4 : Memref sig .tc .vmem S1x128 .f32) (harg4 : arg4.IsWhole) (arg5 : Memref sig .tc .vmem S2048x128 .f32) (harg5 : arg5.IsWhole)
    (arg8 : Memref sig .tc .vmem S1x128 .f32) (harg8 : arg8.IsWhole) (arg9 : Memref sig .tc .vmem S2080x128 .f32)
    (x0 : FVec Ideal S2048x128 .f32) (x1 : FVec Ideal S32x128 .f32) (x2 : FVec Ideal S1x128 .f32) (x3 : FVec Ideal S2048x128 .f32) (xo6 : FVec Ideal S1x128 .f32)
    (h0 : ∀ y : S2048x128.Idx, (x0 y : EReal) = X (y 0).val (y 1).val) (h1 : ∀ y : S32x128.Idx, (x1 y : EReal) = W (y 0).val (y 1).val)
    (h2 : ∀ y : S1x128.Idx, (x2 y : EReal) = B (y 1).val) (h3 : ∀ y : S2048x128.Idx, (x3 y : EReal) = Y (y 0).val (y 1).val) (h6 : ∀ y : S1x128.Idx, (xo6 y : EReal) = S (y 1).val) (hb) :
    (arg8.view.readCov (kernelRun0_B.sl.H6_1 (F := Ideal) c arg2 harg2 arg3 harg3 arg4 harg4 arg5 harg5 arg8 harg8 arg9 x0 x1 x2 x3 xo6) (Rect.unit (s := S1x128) ![0, 0] S1x128.size hb).toLoadRect : S1x128.Idx → EReal)
      = fun j => sums (dc X W B Y) (S) 1 (j 1).val := by
  unfold kernelRun0_B.sl.H6_1
  rw [last]
  simp only [kernelRun0_B.sl.r, kernelRun0_B.sl.r_1, kernelRun0_B.sl.r_2, kernelRun0_B.sl.v49, kernelRun0_B.sl.v55, kernelRun0_B.sl.v61, kernelRun0_B.sl.v67]
  simp only [load arg8 harg8 xo6 (fun _ => S) h6, loads arg9 _ (pad X) (copyB X c arg2 harg2 x0 h0), load arg3 harg3 x1 W h1, load arg4 harg4 x2 (fun _ => B) h2, load arg5 harg5 x3 Y h3]
  funext j
  clear h0 h1 h2 h3 h6
  pointwise [k0_pay14, k0_pay15, k0_pay16, k0_pay18]
  change sums (dc X W B Y) S 0 _ + _ = _
  refine step _ _ 0 _ _ fun x => ?_
  simp only [dc, cv, zero_add, Nat.reduceMul, ← Nat.add_assoc, Nat.reduceAdd, zero_sub]
  exact dsk _ _

/-- The bias row of a second visit after 512 rows, over what the first left. -/
theorem db_B_2 (S : ℕ → EReal) (c : Dev nD) (arg2 : Memref sig .tc .vmem S2048x128 .f32) (harg2 : arg2.IsWhole) (arg3 : Memref sig .tc .vmem S32x128 .f32) (harg3 : arg3.IsWhole)
    (arg4 : Memref sig .tc .vmem S1x128 .f32) (harg4 : arg4.IsWhole) (arg5 : Memref sig .tc .vmem S2048x128 .f32) (harg5 : arg5.IsWhole)
    (arg8 : Memref sig .tc .vmem S1x128 .f32) (harg8 : arg8.IsWhole) (arg9 : Memref sig .tc .vmem S2080x128 .f32)
    (x0 : FVec Ideal S2048x128 .f32) (x1 : FVec Ideal S32x128 .f32) (x2 : FVec Ideal S1x128 .f32) (x3 : FVec Ideal S2048x128 .f32) (xo6 : FVec Ideal S1x128 .f32)
    (h0 : ∀ y : S2048x128.Idx, (x0 y : EReal) = X (y 0).val (y 1).val) (h1 : ∀ y : S32x128.Idx, (x1 y : EReal) = W (y 0).val (y 1).val)
    (h2 : ∀ y : S1x128.Idx, (x2 y : EReal) = B (y 1).val) (h3 : ∀ y : S2048x128.Idx, (x3 y : EReal) = Y (y 0).val (y 1).val) (h6 : ∀ y : S1x128.Idx, (xo6 y : EReal) = S (y 1).val) (hb) :
    (arg8.view.readCov (kernelRun0_B.sl.H6_2 (F := Ideal) c arg2 harg2 arg3 harg3 arg4 harg4 arg5 harg5 arg8 harg8 arg9 x0 x1 x2 x3 xo6) (Rect.unit (s := S1x128) ![0, 0] S1x128.size hb).toLoadRect : S1x128.Idx → EReal)
      = fun j => sums (dc X W B Y) (S) 2 (j 1).val := by
  unfold kernelRun0_B.sl.H6_2
  rw [last]
  simp only [kernelRun0_B.sl.r_3, kernelRun0_B.sl.r_4, kernelRun0_B.sl.v108, kernelRun0_B.sl.v114, kernelRun0_B.sl.v120, kernelRun0_B.sl.v126, kernelRun0_B.sl.v155]
  simp only [db_B_1 X W B Y S c arg2 harg2 arg3 harg3 arg4 harg4 arg5 harg5 arg8 harg8 arg9 x0 x1 x2 x3 xo6 h0 h1 h2 h3 h6, loads arg9 _ (pad X) (copyB X c arg2 harg2 x0 h0), load arg3 harg3 x1 W h1, load arg4 harg4 x2 (fun _ => B) h2, load arg5 harg5 x3 Y h3]
  funext j
  clear h0 h1 h2 h3 h6
  pointwise [k0_pay19, k0_pay20, k0_pay21, k0_pay23]
  refine step _ _ 1 _ _ fun x => ?_
  simp only [dc, cv, zero_add, Nat.reduceMul, ← Nat.add_assoc, Nat.reduceAdd, zero_sub]
  exact dsk _ _

/-- The bias row of a second visit after 768 rows, over what the first left. -/
theorem db_B_3 (S : ℕ → EReal) (c : Dev nD) (arg2 : Memref sig .tc .vmem S2048x128 .f32) (harg2 : arg2.IsWhole) (arg3 : Memref sig .tc .vmem S32x128 .f32) (harg3 : arg3.IsWhole)
    (arg4 : Memref sig .tc .vmem S1x128 .f32) (harg4 : arg4.IsWhole) (arg5 : Memref sig .tc .vmem S2048x128 .f32) (harg5 : arg5.IsWhole)
    (arg8 : Memref sig .tc .vmem S1x128 .f32) (harg8 : arg8.IsWhole) (arg9 : Memref sig .tc .vmem S2080x128 .f32)
    (x0 : FVec Ideal S2048x128 .f32) (x1 : FVec Ideal S32x128 .f32) (x2 : FVec Ideal S1x128 .f32) (x3 : FVec Ideal S2048x128 .f32) (xo6 : FVec Ideal S1x128 .f32)
    (h0 : ∀ y : S2048x128.Idx, (x0 y : EReal) = X (y 0).val (y 1).val) (h1 : ∀ y : S32x128.Idx, (x1 y : EReal) = W (y 0).val (y 1).val)
    (h2 : ∀ y : S1x128.Idx, (x2 y : EReal) = B (y 1).val) (h3 : ∀ y : S2048x128.Idx, (x3 y : EReal) = Y (y 0).val (y 1).val) (h6 : ∀ y : S1x128.Idx, (xo6 y : EReal) = S (y 1).val) (hb) :
    (arg8.view.readCov (kernelRun0_B.sl.H6_3 (F := Ideal) c arg2 harg2 arg3 harg3 arg4 harg4 arg5 harg5 arg8 harg8 arg9 x0 x1 x2 x3 xo6) (Rect.unit (s := S1x128) ![0, 0] S1x128.size hb).toLoadRect : S1x128.Idx → EReal)
      = fun j => sums (dc X W B Y) (S) 3 (j 1).val := by
  unfold kernelRun0_B.sl.H6_3
  rw [last]
  simp only [kernelRun0_B.sl.cst_103, kernelRun0_B.sl.r_5, kernelRun0_B.sl.r_6, kernelRun0_B.sl.r_7, kernelRun0_B.sl.r_8, kernelRun0_B.sl.v167, kernelRun0_B.sl.v173, kernelRun0_B.sl.v179, kernelRun0_B.sl.v185, kernelRun0_B.sl.v214]
  simp only [db_B_2 X W B Y S c arg2 harg2 arg3 harg3 arg4 harg4 arg5 harg5 arg8 harg8 arg9 x0 x1 x2 x3 xo6 h0 h1 h2 h3 h6, loads arg9 _ (pad X) (copyB X c arg2 harg2 x0 h0), load arg3 harg3 x1 W h1, load arg4 harg4 x2 (fun _ => B) h2, load arg5 harg5 x3 Y h3]
  funext j
  clear h0 h1 h2 h3 h6
  pointwise [k0_pay24, k0_pay25, k0_pay26, k0_pay27, k0_pay28, k0_pay29, k0_pay30, k0_pay31, k0_pay33]
  refine step _ _ 2 _ _ fun x => ?_
  simp only [dc, cv, zero_add, Nat.reduceMul, ← Nat.add_assoc, Nat.reduceAdd, zero_sub]
  exact dsk _ _

/-- The bias row of a second visit after 1024 rows, over what the first left. -/
theorem db_B_4 (S : ℕ → EReal) (c : Dev nD) (arg2 : Memref sig .tc .vmem S2048x128 .f32) (harg2 : arg2.IsWhole) (arg3 : Memref sig .tc .vmem S32x128 .f32) (harg3 : arg3.IsWhole)
    (arg4 : Memref sig .tc .vmem S1x128 .f32) (harg4 : arg4.IsWhole) (arg5 : Memref sig .tc .vmem S2048x128 .f32) (harg5 : arg5.IsWhole)
    (arg8 : Memref sig .tc .vmem S1x128 .f32) (harg8 : arg8.IsWhole) (arg9 : Memref sig .tc .vmem S2080x128 .f32)
    (x0 : FVec Ideal S2048x128 .f32) (x1 : FVec Ideal S32x128 .f32) (x2 : FVec Ideal S1x128 .f32) (x3 : FVec Ideal S2048x128 .f32) (xo6 : FVec Ideal S1x128 .f32)
    (h0 : ∀ y : S2048x128.Idx, (x0 y : EReal) = X (y 0).val (y 1).val) (h1 : ∀ y : S32x128.Idx, (x1 y : EReal) = W (y 0).val (y 1).val)
    (h2 : ∀ y : S1x128.Idx, (x2 y : EReal) = B (y 1).val) (h3 : ∀ y : S2048x128.Idx, (x3 y : EReal) = Y (y 0).val (y 1).val) (h6 : ∀ y : S1x128.Idx, (xo6 y : EReal) = S (y 1).val) (hb) :
    (arg8.view.readCov (kernelRun0_B.sl.H6_4 (F := Ideal) c arg2 harg2 arg3 harg3 arg4 harg4 arg5 harg5 arg8 harg8 arg9 x0 x1 x2 x3 xo6) (Rect.unit (s := S1x128) ![0, 0] S1x128.size hb).toLoadRect : S1x128.Idx → EReal)
      = fun j => sums (dc X W B Y) (S) 4 (j 1).val := by
  unfold kernelRun0_B.sl.H6_4
  rw [last]
  simp only [kernelRun0_B.sl.r_9, kernelRun0_B.sl.r_10, kernelRun0_B.sl.v226, kernelRun0_B.sl.v232, kernelRun0_B.sl.v238, kernelRun0_B.sl.v244, kernelRun0_B.sl.v273]
  simp only [db_B_3 X W B Y S c arg2 harg2 arg3 harg3 arg4 harg4 arg5 harg5 arg8 harg8 arg9 x0 x1 x2 x3 xo6 h0 h1 h2 h3 h6, loads arg9 _ (pad X) (copyB X c arg2 harg2 x0 h0), load arg3 harg3 x1 W h1, load arg4 harg4 x2 (fun _ => B) h2, load arg5 harg5 x3 Y h3]
  funext j
  clear h0 h1 h2 h3 h6
  pointwise [k0_pay34, k0_pay35, k0_pay37]
  refine step _ _ 3 _ _ fun x => ?_
  simp only [dc, cv, zero_add, Nat.reduceMul, ← Nat.add_assoc, Nat.reduceAdd, zero_sub]
  exact dsk _ _

/-- The bias row of a second visit after 1280 rows, over what the first left. -/
theorem db_B_5 (S : ℕ → EReal) (c : Dev nD) (arg2 : Memref sig .tc .vmem S2048x128 .f32) (harg2 : arg2.IsWhole) (arg3 : Memref sig .tc .vmem S32x128 .f32) (harg3 : arg3.IsWhole)
    (arg4 : Memref sig .tc .vmem S1x128 .f32) (harg4 : arg4.IsWhole) (arg5 : Memref sig .tc .vmem S2048x128 .f32) (harg5 : arg5.IsWhole)
    (arg8 : Memref sig .tc .vmem S1x128 .f32) (harg8 : arg8.IsWhole) (arg9 : Memref sig .tc .vmem S2080x128 .f32)
    (x0 : FVec Ideal S2048x128 .f32) (x1 : FVec Ideal S32x128 .f32) (x2 : FVec Ideal S1x128 .f32) (x3 : FVec Ideal S2048x128 .f32) (xo6 : FVec Ideal S1x128 .f32)
    (h0 : ∀ y : S2048x128.Idx, (x0 y : EReal) = X (y 0).val (y 1).val) (h1 : ∀ y : S32x128.Idx, (x1 y : EReal) = W (y 0).val (y 1).val)
    (h2 : ∀ y : S1x128.Idx, (x2 y : EReal) = B (y 1).val) (h3 : ∀ y : S2048x128.Idx, (x3 y : EReal) = Y (y 0).val (y 1).val) (h6 : ∀ y : S1x128.Idx, (xo6 y : EReal) = S (y 1).val) (hb) :
    (arg8.view.readCov (kernelRun0_B.sl.H6_5 (F := Ideal) c arg2 harg2 arg3 harg3 arg4 harg4 arg5 harg5 arg8 harg8 arg9 x0 x1 x2 x3 xo6) (Rect.unit (s := S1x128) ![0, 0] S1x128.size hb).toLoadRect : S1x128.Idx → EReal)
      = fun j => sums (dc X W B Y) (S) 5 (j 1).val := by
  unfold kernelRun0_B.sl.H6_5
  rw [last]
  simp only [kernelRun0_B.sl.r_11, kernelRun0_B.sl.r_12, kernelRun0_B.sl.r_13, kernelRun0_B.sl.r_14, kernelRun0_B.sl.r_15, kernelRun0_B.sl.r_16, kernelRun0_B.sl.v285, kernelRun0_B.sl.v291, kernelRun0_B.sl.v297, kernelRun0_B.sl.v303, kernelRun0_B.sl.v332]
  simp only [db_B_4 X W B Y S c arg2 harg2 arg3 harg3 arg4 harg4 arg5 harg5 arg8 harg8 arg9 x0 x1 x2 x3 xo6 h0 h1 h2 h3 h6, loads arg9 _ (pad X) (copyB X c arg2 harg2 x0 h0), load arg3 harg3 x1 W h1, load arg4 harg4 x2 (fun _ => B) h2, load arg5 harg5 x3 Y h3]
  funext j
  clear h0 h1 h2 h3 h6
  pointwise [k0_pay38, k0_pay39, k0_pay40, k0_pay41, k0_pay42, k0_pay43, k0_pay44, k0_pay45, k0_pay47]
  refine step _ _ 4 _ _ fun x => ?_
  simp only [dc, cv, zero_add, Nat.reduceMul, ← Nat.add_assoc, Nat.reduceAdd, zero_sub]
  exact dsk _ _

/-- The bias row of a second visit after 1536 rows, over what the first left. -/
theorem db_B_6 (S : ℕ → EReal) (c : Dev nD) (arg2 : Memref sig .tc .vmem S2048x128 .f32) (harg2 : arg2.IsWhole) (arg3 : Memref sig .tc .vmem S32x128 .f32) (harg3 : arg3.IsWhole)
    (arg4 : Memref sig .tc .vmem S1x128 .f32) (harg4 : arg4.IsWhole) (arg5 : Memref sig .tc .vmem S2048x128 .f32) (harg5 : arg5.IsWhole)
    (arg8 : Memref sig .tc .vmem S1x128 .f32) (harg8 : arg8.IsWhole) (arg9 : Memref sig .tc .vmem S2080x128 .f32)
    (x0 : FVec Ideal S2048x128 .f32) (x1 : FVec Ideal S32x128 .f32) (x2 : FVec Ideal S1x128 .f32) (x3 : FVec Ideal S2048x128 .f32) (xo6 : FVec Ideal S1x128 .f32)
    (h0 : ∀ y : S2048x128.Idx, (x0 y : EReal) = X (y 0).val (y 1).val) (h1 : ∀ y : S32x128.Idx, (x1 y : EReal) = W (y 0).val (y 1).val)
    (h2 : ∀ y : S1x128.Idx, (x2 y : EReal) = B (y 1).val) (h3 : ∀ y : S2048x128.Idx, (x3 y : EReal) = Y (y 0).val (y 1).val) (h6 : ∀ y : S1x128.Idx, (xo6 y : EReal) = S (y 1).val) (hb) :
    (arg8.view.readCov (kernelRun0_B.sl.H6_6 (F := Ideal) c arg2 harg2 arg3 harg3 arg4 harg4 arg5 harg5 arg8 harg8 arg9 x0 x1 x2 x3 xo6) (Rect.unit (s := S1x128) ![0, 0] S1x128.size hb).toLoadRect : S1x128.Idx → EReal)
      = fun j => sums (dc X W B Y) (S) 6 (j 1).val := by
  unfold kernelRun0_B.sl.H6_6
  rw [last]
  simp only [kernelRun0_B.sl.r_17, kernelRun0_B.sl.r_18, kernelRun0_B.sl.r_19, kernelRun0_B.sl.r_20, kernelRun0_B.sl.v344, kernelRun0_B.sl.v350, kernelRun0_B.sl.v356, kernelRun0_B.sl.v362, kernelRun0_B.sl.v391]
  simp only [db_B_5 X W B Y S c arg2 harg2 arg3 harg3 arg4 harg4 arg5 harg5 arg8 harg8 arg9 x0 x1 x2 x3 xo6 h0 h1 h2 h3 h6, loads arg9 _ (pad X) (copyB X c arg2 harg2 x0 h0), load arg3 harg3 x1 W h1, load arg4 harg4 x2 (fun _ => B) h2, load arg5 harg5 x3 Y h3]
  funext j
  clear h0 h1 h2 h3 h6
  pointwise [k0_pay48, k0_pay49, k0_pay51, k0_pay52, k0_pay53]
  refine step _ _ 5 _ _ fun x => ?_
  simp only [dc, cv, zero_add, Nat.reduceMul, ← Nat.add_assoc, Nat.reduceAdd, zero_sub]
  exact dsk _ _

/-- The bias row of a second visit after 1792 rows, over what the first left. -/
theorem db_B_7 (S : ℕ → EReal) (c : Dev nD) (arg2 : Memref sig .tc .vmem S2048x128 .f32) (harg2 : arg2.IsWhole) (arg3 : Memref sig .tc .vmem S32x128 .f32) (harg3 : arg3.IsWhole)
    (arg4 : Memref sig .tc .vmem S1x128 .f32) (harg4 : arg4.IsWhole) (arg5 : Memref sig .tc .vmem S2048x128 .f32) (harg5 : arg5.IsWhole)
    (arg8 : Memref sig .tc .vmem S1x128 .f32) (harg8 : arg8.IsWhole) (arg9 : Memref sig .tc .vmem S2080x128 .f32)
    (x0 : FVec Ideal S2048x128 .f32) (x1 : FVec Ideal S32x128 .f32) (x2 : FVec Ideal S1x128 .f32) (x3 : FVec Ideal S2048x128 .f32) (xo6 : FVec Ideal S1x128 .f32)
    (h0 : ∀ y : S2048x128.Idx, (x0 y : EReal) = X (y 0).val (y 1).val) (h1 : ∀ y : S32x128.Idx, (x1 y : EReal) = W (y 0).val (y 1).val)
    (h2 : ∀ y : S1x128.Idx, (x2 y : EReal) = B (y 1).val) (h3 : ∀ y : S2048x128.Idx, (x3 y : EReal) = Y (y 0).val (y 1).val) (h6 : ∀ y : S1x128.Idx, (xo6 y : EReal) = S (y 1).val) (hb) :
    (arg8.view.readCov (kernelRun0_B.sl.H6_7 (F := Ideal) c arg2 harg2 arg3 harg3 arg4 harg4 arg5 harg5 arg8 harg8 arg9 x0 x1 x2 x3 xo6) (Rect.unit (s := S1x128) ![0, 0] S1x128.size hb).toLoadRect : S1x128.Idx → EReal)
      = fun j => sums (dc X W B Y) (S) 7 (j 1).val := by
  unfold kernelRun0_B.sl.H6_7
  rw [last]
  simp only [kernelRun0_B.sl.cst_221, kernelRun0_B.sl.r_21, kernelRun0_B.sl.r_22, kernelRun0_B.sl.r_23, kernelRun0_B.sl.v403, kernelRun0_B.sl.v409, kernelRun0_B.sl.v415, kernelRun0_B.sl.v421, kernelRun0_B.sl.v450]
  simp only [db_B_6 X W B Y S c arg2 harg2 arg3 harg3 arg4 harg4 arg5 harg5 arg8 harg8 arg9 x0 x1 x2 x3 xo6 h0 h1 h2 h3 h6, loads arg9 _ (pad X) (copyB X c arg2 harg2 x0 h0), load arg3 harg3 x1 W h1, load arg4 harg4 x2 (fun _ => B) h2, load arg5 harg5 x3 Y h3]
  funext j
  clear h0 h1 h2 h3 h6
  pointwise [k0_pay54, k0_pay55, k0_pay56, k0_pay57, k0_pay59]
  refine step _ _ 6 _ _ fun x => ?_
  simp only [dc, cv, zero_add, Nat.reduceMul, ← Nat.add_assoc, Nat.reduceAdd, zero_sub]
  exact dsk _ _

/-- The bias row a point leaves. -/
theorem block6B (S : ℕ → EReal) (c : Dev nD) (i : grid0.Coords) (arg2 : Memref sig .tc .vmem S2048x128 .f32) (harg2 : arg2.IsWhole) (arg3 : Memref sig .tc .vmem S32x128 .f32) (harg3 : arg3.IsWhole)
    (arg4 : Memref sig .tc .vmem S1x128 .f32) (harg4 : arg4.IsWhole) (arg5 : Memref sig .tc .vmem S2048x128 .f32) (harg5 : arg5.IsWhole)
    (arg6 : Memref sig .tc .vmem S2048x128 .bf16) (harg6 : arg6.IsWhole) (arg7 : Memref sig .tc .vmem S32x128 .f32) (harg7 : arg7.IsWhole)
    (arg8 : Memref sig .tc .vmem S1x128 .f32) (harg8 : arg8.IsWhole) (arg9 : Memref sig .tc .vmem S2080x128 .f32) (harg9 : arg9.IsWhole)
    (arg10 : Memref sig .tc .vmem S2080x128 .f32) (harg10 : arg10.IsWhole) (hc0 : ¬cond0_0 i)
    (x0 : FVec Ideal S2048x128 .f32) (x1 : FVec Ideal S32x128 .f32) (x2 : FVec Ideal S1x128 .f32) (x3 : FVec Ideal S2048x128 .f32) (xo5 : FVec Ideal S32x128 .f32) (xo6 : FVec Ideal S1x128 .f32)
    (h0 : ∀ y : S2048x128.Idx, (x0 y : EReal) = X (y 0).val (y 1).val) (h1 : ∀ y : S32x128.Idx, (x1 y : EReal) = W (y 0).val (y 1).val)
    (h2 : ∀ y : S1x128.Idx, (x2 y : EReal) = B (y 1).val) (h3 : ∀ y : S2048x128.Idx, (x3 y : EReal) = Y (y 0).val (y 1).val) (h6 : ∀ y : S1x128.Idx, (xo6 y : EReal) = S (y 1).val) (y : S1x128.Idx) :
    (out0_B_6 (F := Ideal) c i arg2 harg2 arg3 harg3 arg4 harg4 arg5 harg5 arg6 harg6 arg7 harg7 arg8 harg8 arg9 harg9 arg10 harg10 hc0 x0 x1 x2 x3 xo5 xo6 y : EReal) = sums (dc X W B Y) (S) 8 (y 1).val := by
  unfold out0_B_6
  rw [View.read_writes_junk_eq_canon]
  refine (congrFun (View.canon_cons_unit_zero (S := S1x128) (Val := Elt Ideal) (off := ![0, 0]) (by funext a; fin_cases a <;> rfl) _ _ _) y).trans ?_
  simp only [kernelRun0_B.sl.r_24, kernelRun0_B.sl.r_25, kernelRun0_B.sl.r_26, kernelRun0_B.sl.v462, kernelRun0_B.sl.v468, kernelRun0_B.sl.v474, kernelRun0_B.sl.v480, kernelRun0_B.sl.v509]
  simp only [db_B_7 X W B Y S c arg2 harg2 arg3 harg3 arg4 harg4 arg5 harg5 arg8 harg8 arg9 x0 x1 x2 x3 xo6 h0 h1 h2 h3 h6, loads arg9 _ (pad X) (copyB X c arg2 harg2 x0 h0), load arg3 harg3 x1 W h1, load arg4 harg4 x2 (fun _ => B) h2, load arg5 harg5 x3 Y h3]
  clear h0 h1 h2 h3 h6
  pointwise [k0_pay60, k0_pay61, k0_pay63]
  refine step _ _ 7 _ _ fun x => ?_
  simp only [dc, cv, zero_add, Nat.reduceMul, ← Nat.add_assoc, Nat.reduceAdd, zero_sub]
  exact dsk _ _

/-- The rows of taps a point leaves. -/
theorem block5B (G : ℕ → ℕ → EReal) (c : Dev nD) (i : grid0.Coords) (arg2 : Memref sig .tc .vmem S2048x128 .f32) (harg2 : arg2.IsWhole) (arg3 : Memref sig .tc .vmem S32x128 .f32) (harg3 : arg3.IsWhole)
    (arg4 : Memref sig .tc .vmem S1x128 .f32) (harg4 : arg4.IsWhole) (arg5 : Memref sig .tc .vmem S2048x128 .f32) (harg5 : arg5.IsWhole)
    (arg6 : Memref sig .tc .vmem S2048x128 .bf16) (harg6 : arg6.IsWhole) (arg7 : Memref sig .tc .vmem S32x128 .f32) (harg7 : arg7.IsWhole)
    (arg8 : Memref sig .tc .vmem S1x128 .f32) (harg8 : arg8.IsWhole) (arg9 : Memref sig .tc .vmem S2080x128 .f32) (harg9 : arg9.IsWhole)
    (arg10 : Memref sig .tc .vmem S2080x128 .f32) (harg10 : arg10.IsWhole) (hc0 : ¬cond0_0 i)
    (x0 : FVec Ideal S2048x128 .f32) (x1 : FVec Ideal S32x128 .f32) (x2 : FVec Ideal S1x128 .f32) (x3 : FVec Ideal S2048x128 .f32) (xo5 : FVec Ideal S32x128 .f32) (xo6 : FVec Ideal S1x128 .f32)
    (h0 : ∀ y : S2048x128.Idx, (x0 y : EReal) = X (y 0).val (y 1).val) (h1 : ∀ y : S32x128.Idx, (x1 y : EReal) = W (y 0).val (y 1).val)
    (h2 : ∀ y : S1x128.Idx, (x2 y : EReal) = B (y 1).val) (h3 : ∀ y : S2048x128.Idx, (x3 y : EReal) = Y (y 0).val (y 1).val) (h5 : ∀ y : S32x128.Idx, (xo5 y : EReal) = G (y 0).val (y 1).val) (y : S32x128.Idx) :
    (out0_B_5 (F := Ideal) c i arg2 harg2 arg3 harg3 arg4 harg4 arg5 harg5 arg6 harg6 arg7 harg7 arg8 harg8 arg9 harg9 arg10 harg10 hc0 x0 x1 x2 x3 xo5 xo6 y : EReal)
      = if (y 0).val < 4 then G (y 0).val (y 1).val + tap X (dc X W B Y) (y 0).val (y 1).val else G (y 0).val (y 1).val := by
  unfold out0_B_5
  refine (row _ _ _ 3 _ _ y).trans ?_
  by_cases c3 : (y 0).val = 3
  · rw [if_pos c3, if_pos (by omega), c3]
    simp only [kernelRun0_B.sl.r_39, kernelRun0_B.sl.r_40, kernelRun0_B.sl.r_41, kernelRun0_B.sl.v67, kernelRun0_B.sl.v126, kernelRun0_B.sl.v185, kernelRun0_B.sl.v244, kernelRun0_B.sl.v303, kernelRun0_B.sl.v362, kernelRun0_B.sl.v421, kernelRun0_B.sl.v480, kernelRun0_B.sl.v536, kernelRun0_B.sl.v563, kernelRun0_B.sl.v590, kernelRun0_B.sl.v617, kernelRun0_B.sl.v644, kernelRun0_B.sl.v671, kernelRun0_B.sl.v698, kernelRun0_B.sl.v725, kernelRun0_B.sl.v939]
    simp only [load arg7 harg7 xo5 G h5, loads arg9 _ (pad X) (copyB X c arg2 harg2 x0 h0), loads arg10 _ (tail (dc X W B Y)) (dcB X W B Y c arg2 harg2 arg3 harg3 arg4 harg4 arg5 harg5 arg9 x0 x1 x2 x3 h0 h1 h2 h3)]
    clear h0 h1 h2 h3 h5
    pointwise [k0_pay1, k0_pay89, k0_pay90, k0_pay91]
    exact tap_eight X (dc X W B Y) 3 (y 1).val _ _ rfl
  rw [if_neg c3]
  refine (row _ _ _ 2 _ _ y).trans ?_
  by_cases c2 : (y 0).val = 2
  · rw [if_pos c2, if_pos (by omega), c2]
    simp only [kernelRun0_B.sl.r_37, kernelRun0_B.sl.r_38, kernelRun0_B.sl.v61, kernelRun0_B.sl.v120, kernelRun0_B.sl.v179, kernelRun0_B.sl.v238, kernelRun0_B.sl.v297, kernelRun0_B.sl.v356, kernelRun0_B.sl.v415, kernelRun0_B.sl.v474, kernelRun0_B.sl.v536, kernelRun0_B.sl.v563, kernelRun0_B.sl.v590, kernelRun0_B.sl.v617, kernelRun0_B.sl.v644, kernelRun0_B.sl.v671, kernelRun0_B.sl.v698, kernelRun0_B.sl.v725, kernelRun0_B.sl.v886]
    simp only [load arg7 harg7 xo5 G h5, loads arg9 _ (pad X) (copyB X c arg2 harg2 x0 h0), loads arg10 _ (tail (dc X W B Y)) (dcB X W B Y c arg2 harg2 arg3 harg3 arg4 harg4 arg5 harg5 arg9 x0 x1 x2 x3 h0 h1 h2 h3)]
    clear h0 h1 h2 h3 h5
    pointwise [k0_pay85, k0_pay86, k0_pay87, k0_pay88]
    exact tap_eight X (dc X W B Y) 2 (y 1).val _ _ rfl
  rw [if_neg c2]
  refine (row _ _ _ 1 _ _ y).trans ?_
  by_cases c1 : (y 0).val = 1
  · rw [if_pos c1, if_pos (by omega), c1]
    simp only [kernelRun0_B.sl.r_36, kernelRun0_B.sl.v55, kernelRun0_B.sl.v114, kernelRun0_B.sl.v173, kernelRun0_B.sl.v232, kernelRun0_B.sl.v291, kernelRun0_B.sl.v350, kernelRun0_B.sl.v409, kernelRun0_B.sl.v468, kernelRun0_B.sl.v536, kernelRun0_B.sl.v563, kernelRun0_B.sl.v590, kernelRun0_B.sl.v617, kernelRun0_B.sl.v644, kernelRun0_B.sl.v671, kernelRun0_B.sl.v698, kernelRun0_B.sl.v725, kernelRun0_B.sl.v833]
    simp only [load arg7 harg7 xo5 G h5, loads arg9 _ (pad X) (copyB X c arg2 harg2 x0 h0), loads arg10 _ (tail (dc X W B Y)) (dcB X W B Y c arg2 harg2 arg3 harg3 arg4 harg4 arg5 harg5 arg9 x0 x1 x2 x3 h0 h1 h2 h3)]
    clear h0 h1 h2 h3 h5
    pointwise [k0_pay83, k0_pay84]
    exact tap_eight X (dc X W B Y) 1 (y 1).val _ _ rfl
  rw [if_neg c1]
  refine (row _ _ _ 0 _ _ y).trans ?_
  by_cases c0 : (y 0).val = 0
  · rw [if_pos c0, if_pos (by omega), c0]
    simp only [kernelRun0_B.sl.r_33, kernelRun0_B.sl.r_34, kernelRun0_B.sl.r_35, kernelRun0_B.sl.v49, kernelRun0_B.sl.v108, kernelRun0_B.sl.v167, kernelRun0_B.sl.v226, kernelRun0_B.sl.v285, kernelRun0_B.sl.v344, kernelRun0_B.sl.v403, kernelRun0_B.sl.v462, kernelRun0_B.sl.v536, kernelRun0_B.sl.v563, kernelRun0_B.sl.v590, kernelRun0_B.sl.v617, kernelRun0_B.sl.v644, kernelRun0_B.sl.v671, kernelRun0_B.sl.v698, kernelRun0_B.sl.v725]
    simp only [load arg7 harg7 xo5 G h5, loads arg9 _ (pad X) (copyB X c arg2 harg2 x0 h0), loads arg10 _ (tail (dc X W B Y)) (dcB X W B Y c arg2 harg2 arg3 harg3 arg4 harg4 arg5 harg5 arg9 x0 x1 x2 x3 h0 h1 h2 h3)]
    clear h0 h1 h2 h3 h5
    pointwise [k0_pay79, k0_pay80, k0_pay81, k0_pay82]
    exact tap_eight X (dc X W B Y) 0 (y 1).val _ _ rfl
  rw [if_neg c0]
  rw [if_neg (by omega)]
  rw [View.writes_nil, harg7.read_unread]
  exact h5 y

end Cert.ConvBwdIdeal.Conv

namespace Cert.ConvBwdIdeal.Conv

open Cert.RefConvBwdIdeal Cert.RefConvBwdIdeal.Gen Cert.RefConvBwdIdeal.Read Idealize.ShloMosaic Idealize.ShloMosaic.TcCoe Cert.Mat Cert.Row
open Cert.Conv
open Cert.GateBwdIdeal.Gate (sg si dsi one_lit sum_along)

variable (A : Args) (Y : FVec Ideal ⟨2, ![4096, 1536]⟩ .f32)

/-- The columns of a sequence -/
theorem l1 (i : S2x2048x1536.Idx) : (val_main_v1 (F := Ideal) A.p i : EReal) = A.xs (i 0).val (i 1).val (i 2).val := by
  rw [val_main_v1_apply, val_main_v0_apply]
  have h0 : (i 0).val < 2 := (i 0).isLt
  have h1 : (i 1).val < 2048 := (i 1).isLt
  have h2 : (i 2).val < 1536 := (i 2).isLt
  refine at2_eq _ _ _ _ ?_ ?_
  all_goals (dsimp only; omega)
/-- and the columns below three rows of zeros. -/
theorem l3 (i : S2x2051x1536.Idx) : (val_main_v3 (F := Ideal) A.p i : EReal) = pad (A.xs (i 0).val) (29 + (i 1).val) (i 2).val := by
  unfold val_main_v3
  pointwise
  have h1 : (i 1).val < 2051 := (i 1).isLt
  unfold Conv.pad
  by_cases h : (i 1).val < 3
  · rw [dif_pos h, if_pos (by omega), val_main_v2_apply, val_main_cst_apply]
    exact zero_lit
  · have hn : ¬29 + (i 1).val < 32 := by omega
    have hr : (i 1).val - 3 = 29 + (i 1).val - 32 := by omega
    exact ((dif_neg h).trans (l1 A _)).trans ((congrArg (fun r => A.xs (i 0).val r (i 2).val) hr).trans (if_neg hn).symm)

/-- The columns that a tap takes, -/
theorem l7 (i : S2x2048x1536.Idx) : (val_main_v7 (F := Ideal) A.p i : EReal) = pad (A.xs (i 0).val) (29 + (i 1).val) (i 2).val := by
  rw [val_main_v7_apply, l3]
/-- the second tap one row further, -/
theorem l15 (i : S2x2048x1536.Idx) : (val_main_v15 (F := Ideal) A.p i : EReal) = pad (A.xs (i 0).val) (30 + (i 1).val) (i 2).val := by
  rw [val_main_v15_apply, l3]
  refine congrArg (fun r => pad (A.xs (i 0).val) r (i 2).val) ?_
  dsimp only; omega
/-- the third two, -/
theorem l22 (i : S2x2048x1536.Idx) : (val_main_v22 (F := Ideal) A.p i : EReal) = pad (A.xs (i 0).val) (31 + (i 1).val) (i 2).val := by
  rw [val_main_v22_apply, l3]
  refine congrArg (fun r => pad (A.xs (i 0).val) r (i 2).val) ?_
  dsimp only; omega
/-- and the fourth three: the row itself; -/
theorem l29 (i : S2x2048x1536.Idx) : (val_main_v29 (F := Ideal) A.p i : EReal) = pad (A.xs (i 0).val) (32 + (i 1).val) (i 2).val := by
  rw [val_main_v29_apply, l3]
  refine congrArg (fun r => pad (A.xs (i 0).val) r (i 2).val) ?_
  dsimp only; omega
/-- the taps -/
theorem l8 (i : S1x1x1536.Idx) : (val_main_v8 (F := Ideal) A.w i : EReal) = A.ws 0 (i 2).val := by
  rw [val_main_v8_apply, val_main_v6_apply, val_main_v5_apply]
  have h2 : (i 2).val < 1536 := (i 2).isLt
  refine at2_eq _ _ _ _ ?_ ?_
  all_goals (dsimp only; try omega)
/-- of the second tap, -/
theorem l16 (i : S1x1x1536.Idx) : (val_main_v16 (F := Ideal) A.w i : EReal) = A.ws 1 (i 2).val := by
  rw [val_main_v16_apply, val_main_v14_apply, val_main_v13_apply]
  have h2 : (i 2).val < 1536 := (i 2).isLt
  refine at2_eq _ _ _ _ ?_ ?_
  all_goals (dsimp only; try omega)
/-- the third -/
theorem l23 (i : S1x1x1536.Idx) : (val_main_v23 (F := Ideal) A.w i : EReal) = A.ws 2 (i 2).val := by
  rw [val_main_v23_apply, val_main_v21_apply, val_main_v20_apply]
  have h2 : (i 2).val < 1536 := (i 2).isLt
  refine at2_eq _ _ _ _ ?_ ?_
  all_goals (dsimp only; try omega)
/-- and the fourth, -/
theorem l30 (i : S1x1x1536.Idx) : (val_main_v30 (F := Ideal) A.w i : EReal) = A.ws 3 (i 2).val := by
  rw [val_main_v30_apply, val_main_v28_apply, val_main_v27_apply]
  have h2 : (i 2).val < 1536 := (i 2).isLt
  refine at2_eq _ _ _ _ ?_ ?_
  all_goals (dsimp only; try omega)

/-- and the products' sum with the bias, in the call's order. -/
theorem l36 (i : S2x2048x1536.Idx) : (val_main_v36 (F := Ideal) A.p A.w A.b i : EReal) = A.cv (i 0).val (i 1).val (i 2).val := by
  rw [val_main_v36_apply, val_main_v33_apply, val_main_v26_apply, val_main_v19_apply, val_main_v12_apply, val_main_v11_apply, val_main_cst_1_apply,
    val_main_v10_apply, val_main_v18_apply, val_main_v25_apply, val_main_v32_apply, val_main_v9_apply, val_main_v17_apply, val_main_v24_apply, val_main_v31_apply,
    l7, l15, l22, l29, l8, l16, l23, l30, val_main_v35_apply, val_main_v34_apply]
  refine (congrArg₂ (fun a b : EReal => a + _ + _ + _ + _ + b) zero_lit (at1_eq _ _ (i 2).val rfl)).trans ?_
  unfold Args.cv cv Args.bs
  rw [zero_add]
  ac_rfl

/-- The sums' derivatives. -/
theorem l40 (i : S2x2048x1536.Idx) : (val_main_v40 (F := Ideal) A.p A.w A.b Y i : EReal) = A.dc Y (i 0).val (i 1).val (i 2).val := by
  rw [val_main_v40_apply, val_main_call1_v1_apply, val_main_call1_v2_apply, val_main_call1_v0_apply, val_main_v37_1_apply, val_main_call0_v7_apply,
    val_main_call0_v6_apply, val_main_call0_cst_1_apply,
    val_main_v37_2_apply, val_main_call0_v4_apply, val_main_call0_cst_0_apply, val_main_call0_v3_apply, val_main_call0_v2_apply,
    val_main_call0_cst_apply, val_main_call0_v1_apply, val_main_call0_v0_apply, l36, one_lit, val_main_v39_apply]
  have h0 : (i 0).val < 2 := (i 0).isLt
  have h1 : (i 1).val < 2048 := (i 1).isLt
  have h2 : (i 2).val < 1536 := (i 2).isLt
  refine congrArg (fun w => dsi w (A.cv (i 0).val (i 1).val (i 2).val)) (at2_eq (M := 4096) (K := 1536) Y _ (2048 * (i 0).val + (i 1).val) (i 2).val ?_ ?_)
  all_goals (dsimp only; omega)

/-- A sum over both sequences' rows, and one over a single row. -/
theorem sum_rows (X : S2x2048x1536.Idx → EReal) (j : S1536.Idx) :
    (Host.reduceAdd (F := Ideal) (φ := .f32) X (constant (F := Ideal) S_ .f32 0x00000000#32) reducesTo_S2x2048x1536_S1536_d0_1 h_S_ : S1536.Idx → EReal) j
      = (∑ r : Fin 2048, X (ValueIdx.ix3 (0 : Fin 2) r (j 0 : Fin 1536))) + ∑ r : Fin 2048, X (ValueIdx.ix3 (1 : Fin 2) r (j 0 : Fin 1536)) := by
  refine (sum_along _ j (fun k : Fin 2 × Fin 2048 => (ValueIdx.ix3 k.1 k.2 (j 0 : Fin 1536) : S2x2048x1536.Idx)) ?_ ?_ X).trans ?_
  · intro a b e
    exact Prod.ext (congrFun e 0) (congrFun e 1)
  · intro i
    constructor
    · intro e
      refine ⟨(i 0, i 1), ?_⟩
      funext a; apply Fin.ext
      match a with
      | ⟨0, _⟩ => rfl
      | ⟨1, _⟩ => rfl
      | ⟨2, _⟩ => exact (congrArg Fin.val (congrFun e 0)).symm
    · rintro ⟨k, rfl⟩
      funext b; apply Fin.ext
      match b with
      | ⟨0, _⟩ => rfl
  · rw [Fintype.sum_prod_type, Fin.sum_univ_two]
/-- The host's second sum is over a single row: it changes nothing. -/
theorem sum_row (X : S1x1x1536.Idx → EReal) (j : S1536.Idx) :
    (Host.reduceAdd (F := Ideal) (φ := .f32) X (constant (F := Ideal) S_ .f32 0x00000000#32) reducesTo_S1x1x1536_S1536_d0_1 h_S_ : S1536.Idx → EReal) j
      = X (ValueIdx.ix3 (0 : Fin 1) (0 : Fin 1) (j 0 : Fin 1536)) := by
  refine (sum_along _ j (fun k : Fin 1 => (ValueIdx.ix3 k k (j 0 : Fin 1536) : S1x1x1536.Idx)) ?_ ?_ X).trans ?_
  · intro a b _
    exact Subsingleton.elim a b
  · intro i
    have h0 : (i 0).val < 1 := (i 0).isLt
    have h1 : (i 1).val < 1 := (i 1).isLt
    constructor
    · intro e
      refine ⟨0, ?_⟩
      funext a; apply Fin.ext
      match a with
      | ⟨0, _⟩ => show 0 = (i 0).val; omega
      | ⟨1, _⟩ => show 0 = (i 1).val; omega
      | ⟨2, _⟩ => exact (congrArg Fin.val (congrFun e 0)).symm
    · rintro ⟨k, rfl⟩
      funext b; apply Fin.ext
      match b with
      | ⟨0, _⟩ => rfl
  · exact Fin.sum_univ_one _

/-- The bias's gradient. -/
theorem l43 (j : S1536.Idx) : (val_main_v43 (F := Ideal) A.p A.w A.b Y j : EReal)
    = (∑ r : Fin 2048, A.dc Y 0 r.val (j 0).val) + ∑ r : Fin 2048, A.dc Y 1 r.val (j 0).val := by
  unfold val_main_v43
  refine (sum_row _ j).trans ?_
  rw [val_main_v42_apply]
  unfold val_main_v41
  refine (sum_rows _ _).trans ?_
  have h2 : (j 0).val < 1536 := (j 0).isLt
  refine congrArg₂ (· + ·) (Finset.sum_congr rfl fun r _ => ?_) (Finset.sum_congr rfl fun r _ => ?_)
  all_goals (rw [l40]; refine congrArg₂ (A.dc Y _) rfl ?_; show (0 * 1 + 0) * 1536 + (j 0).val = (j 0).val; omega)

/-- A sequence's part of a tap's gradient, -/
noncomputable def drow (s k q : ℕ) : EReal := Conv.tap (A.xs s) (A.dc Y s) k q

/-- and each tap's gradient: both sequences' parts. -/
theorem l49 (j : S1536.Idx) : (val_main_v49 (F := Ideal) A.p A.w A.b Y j : EReal) = drow A Y 0 3 (j 0).val + drow A Y 1 3 (j 0).val := by
  unfold val_main_v49
  refine (sum_row _ j).trans ?_
  rw [val_main_v48_apply]
  unfold val_main_v47
  refine (sum_rows _ _).trans ?_
  unfold drow Conv.tap
  have h2 : (j 0).val < 1536 := (j 0).isLt
  refine congrArg₂ (· + ·) (Finset.sum_congr rfl fun r _ => ?_) (Finset.sum_congr rfl fun r _ => ?_)
  all_goals
    rw [val_main_v46_apply, l40, l29]
    have e : (0 * 1 + 0) * 1536 + (j 0).val = (j 0).val := by omega
    exact congrArg₂ (fun q q' => A.dc Y _ r.val q * pad (A.xs _) (32 + r.val) q') e e
/-- The third tap's gradient is both sequences' parts, -/
theorem l58 (j : S1536.Idx) : (val_main_v58 (F := Ideal) A.p A.w A.b Y j : EReal) = drow A Y 0 2 (j 0).val + drow A Y 1 2 (j 0).val := by
  unfold val_main_v58
  refine (sum_row _ j).trans ?_
  rw [val_main_v57_apply]
  unfold val_main_v56
  refine (sum_rows _ _).trans ?_
  unfold drow Conv.tap
  have h2 : (j 0).val < 1536 := (j 0).isLt
  refine congrArg₂ (· + ·) (Finset.sum_congr rfl fun r _ => ?_) (Finset.sum_congr rfl fun r _ => ?_)
  all_goals
    rw [val_main_v55_apply, l40, l22]
    have e : (0 * 1 + 0) * 1536 + (j 0).val = (j 0).val := by omega
    exact congrArg₂ (fun q q' => A.dc Y _ r.val q * pad (A.xs _) (31 + r.val) q') e e
/-- and so is the second's -/
theorem l69 (j : S1536.Idx) : (val_main_v69 (F := Ideal) A.p A.w A.b Y j : EReal) = drow A Y 0 1 (j 0).val + drow A Y 1 1 (j 0).val := by
  unfold val_main_v69
  refine (sum_row _ j).trans ?_
  rw [val_main_v68_apply]
  unfold val_main_v67
  refine (sum_rows _ _).trans ?_
  unfold drow Conv.tap
  have h2 : (j 0).val < 1536 := (j 0).isLt
  refine congrArg₂ (· + ·) (Finset.sum_congr rfl fun r _ => ?_) (Finset.sum_congr rfl fun r _ => ?_)
  all_goals
    rw [val_main_v66_apply, l40, l15]
    have e : (0 * 1 + 0) * 1536 + (j 0).val = (j 0).val := by omega
    exact congrArg₂ (fun q q' => A.dc Y _ r.val q * pad (A.xs _) (30 + r.val) q') e e
/-- and the first's. -/
theorem l80 (j : S1536.Idx) : (val_main_v80 (F := Ideal) A.p A.w A.b Y j : EReal) = drow A Y 0 0 (j 0).val + drow A Y 1 0 (j 0).val := by
  unfold val_main_v80
  refine (sum_row _ j).trans ?_
  rw [val_main_v79_apply]
  unfold val_main_v78
  refine (sum_rows _ _).trans ?_
  unfold drow Conv.tap
  have h2 : (j 0).val < 1536 := (j 0).isLt
  refine congrArg₂ (· + ·) (Finset.sum_congr rfl fun r _ => ?_) (Finset.sum_congr rfl fun r _ => ?_)
  all_goals
    rw [val_main_v77_apply, l40, l7]
    have e : (0 * 1 + 0) * 1536 + (j 0).val = (j 0).val := by omega
    exact congrArg₂ (fun q q' => A.dc Y _ r.val q * pad (A.xs _) (29 + r.val) q') e e
/-- The gradients in their rows, -/
theorem l52 (i : S4x1536.Idx) : (val_main_v52 (F := Ideal) A.p A.w A.b Y i : EReal)
    = if (i 0).val = 3 then drow A Y 0 3 (i 1).val + drow A Y 1 3 (i 1).val else 0 := by
  unfold val_main_v52
  pointwise
  by_cases h : (i 0).val = 3
  · rw [if_pos h]
    have h' : 3 ≤ (i 0).val ∧ (i 0).val - 3 < 1 := by omega
    refine (dif_pos h').trans ?_
    rw [val_main_v51_apply, l49]
    rfl
  · rw [if_neg h]
    have h' : ¬(3 ≤ (i 0).val ∧ (i 0).val - 3 < 1) := by omega
    refine (dif_neg h').trans ?_
    rw [val_main_cst_7_apply]
    exact zero_lit
/-- the third tap's in row 2, -/
theorem l62 (i : S4x1536.Idx) : (val_main_v62 (F := Ideal) A.p A.w A.b Y i : EReal)
    = if (i 0).val = 2 then drow A Y 0 2 (i 1).val + drow A Y 1 2 (i 1).val else 0 := by
  unfold val_main_v62
  pointwise
  by_cases h : (i 0).val = 2
  · rw [if_pos h]
    have h' : 2 ≤ (i 0).val ∧ (i 0).val - 2 < 1 := by omega
    refine (dif_pos h').trans ?_
    rw [val_main_v61_apply, l58]
    rfl
  · rw [if_neg h]
    have h' : ¬(2 ≤ (i 0).val ∧ (i 0).val - 2 < 1) := by omega
    refine (dif_neg h').trans ?_
    rw [val_main_cst_11_apply]
    exact zero_lit
/-- the second's in row 1, -/
theorem l73 (i : S4x1536.Idx) : (val_main_v73 (F := Ideal) A.p A.w A.b Y i : EReal)
    = if (i 0).val = 1 then drow A Y 0 1 (i 1).val + drow A Y 1 1 (i 1).val else 0 := by
  unfold val_main_v73
  pointwise
  by_cases h : (i 0).val = 1
  · rw [if_pos h]
    have h' : 1 ≤ (i 0).val ∧ (i 0).val - 1 < 1 := by omega
    refine (dif_pos h').trans ?_
    rw [val_main_v72_apply, l69]
    rfl
  · rw [if_neg h]
    have h' : ¬(1 ≤ (i 0).val ∧ (i 0).val - 1 < 1) := by omega
    refine (dif_neg h').trans ?_
    rw [val_main_cst_15_apply]
    exact zero_lit
/-- the first's in row 0, -/
theorem l84 (i : S4x1536.Idx) : (val_main_v84 (F := Ideal) A.p A.w A.b Y i : EReal)
    = if (i 0).val = 0 then drow A Y 0 0 (i 1).val + drow A Y 1 0 (i 1).val else 0 := by
  unfold val_main_v84
  pointwise
  by_cases h : (i 0).val = 0
  · rw [if_pos h]
    have h' : (i 0).val < 1 := by omega
    refine (dif_pos h').trans ?_
    rw [val_main_v83_apply, l80]
    rfl
  · rw [if_neg h]
    have h' : ¬((i 0).val < 1) := by omega
    refine (dif_neg h').trans ?_
    rw [val_main_cst_19_apply]
    exact zero_lit
/-- added to one array -/
theorem l85 (i : S4x1536.Idx) : (val_main_v85 (F := Ideal) A.p A.w A.b Y i : EReal) = drow A Y 0 (i 0).val (i 1).val + drow A Y 1 (i 0).val (i 1).val := by
  rw [val_main_v85_apply, val_main_v74_apply, val_main_v63_apply, l52, l62, l73, l84]
  have h : (i 0).val < 4 := (i 0).isLt
  generalize (i 0).val = k at h
  generalize (i 1).val = q
  show ((_ + _ + _ + _ : EReal)) = _
  interval_cases k <;> simp
/-- above rows of zeros. -/
theorem refW (i : S32x1536.Idx) : (val_main_v90 (F := Ideal) A.p A.w A.b Y i : EReal)
    = if (i 0).val < 4 then drow A Y 0 (i 0).val (i 1).val + drow A Y 1 (i 0).val (i 1).val else 0 := by
  unfold val_main_v90
  pointwise
  by_cases h : (i 0).val < 4
  · rw [if_pos h]
    exact (dif_pos h).trans (l85 A Y _)
  · rw [if_neg h]
    refine (dif_neg h).trans ?_
    show (((0#32 : BitVec 32).toInt : ℝ) : EReal) = 0
    simp
/-- The bias's gradient as a row. -/
theorem refB (i : S1x1536.Idx) : (val_main_v91 (F := Ideal) A.p A.w A.b Y i : EReal)
    = (∑ r : Fin 2048, A.dc Y 0 r.val (i 1).val) + ∑ r : Fin 2048, A.dc Y 1 r.val (i 1).val := by
  rw [val_main_v91_apply, l43]
  have h0 : (i 0).val < 1 := (i 0).isLt
  have e : (i 0).val * 1536 + (i 1).val = (i 1).val := by omega
  exact congrArg (fun q => (∑ r : Fin 2048, A.dc Y 0 r.val q) + ∑ r : Fin 2048, A.dc Y 1 r.val q) e

/-- A tap times the derivatives, -/
theorem l45 (i : S2x2048x1536.Idx) : (val_main_v45 (F := Ideal) A.p A.w A.b Y i : EReal) = A.ws 3 (i 2).val * A.dc Y (i 0).val (i 1).val (i 2).val := by
  rw [val_main_v45_apply, val_main_v44_apply, l30, l40]; rfl
/-- the third tap, -/
theorem l54 (i : S2x2048x1536.Idx) : (val_main_v54 (F := Ideal) A.p A.w A.b Y i : EReal) = A.ws 2 (i 2).val * A.dc Y (i 0).val (i 1).val (i 2).val := by
  rw [val_main_v54_apply, val_main_v53_apply, l23, l40]; rfl
/-- the second -/
theorem l65 (i : S2x2048x1536.Idx) : (val_main_v65 (F := Ideal) A.p A.w A.b Y i : EReal) = A.ws 1 (i 2).val * A.dc Y (i 0).val (i 1).val (i 2).val := by
  rw [val_main_v65_apply, val_main_v64_apply, l16, l40]; rfl
/-- and the first; -/
theorem l76 (i : S2x2048x1536.Idx) : (val_main_v76 (F := Ideal) A.p A.w A.b Y i : EReal) = A.ws 0 (i 2).val * A.dc Y (i 0).val (i 1).val (i 2).val := by
  rw [val_main_v76_apply, val_main_v75_apply, l8, l40]; rfl
/-- moved down to the rows that it was taken from (below the last row, zeros). -/
theorem l50 (i : S2x2051x1536.Idx) (r : ℕ) (hr : (i 1).val = 3 + r) : (val_main_v50 (F := Ideal) A.p A.w A.b Y i : EReal)
    = A.ws 3 (i 2).val * tail (A.dc Y (i 0).val) r (i 2).val := by
  unfold val_main_v50
  pointwise
  unfold Conv.tail
  by_cases h : r < 2048
  · rw [if_pos h]
    have h' : 3 ≤ (i 1).val ∧ (i 1).val - 3 < 2048 := by omega
    have e : (i 1).val - 3 = r := by omega
    exact (dif_pos h').trans ((l45 A Y _).trans (congrArg (fun k => A.ws 3 (i 2).val * A.dc Y (i 0).val k (i 2).val) e))
  · rw [if_neg h, mul_zero]
    have h' : ¬(3 ≤ (i 1).val ∧ (i 1).val - 3 < 2048) := by omega
    refine (dif_neg h').trans ?_
    rw [val_main_cst_6_apply]
    exact zero_lit
/-- The third tap's product is moved down two rows, -/
theorem l59 (i : S2x2051x1536.Idx) (r : ℕ) (hr : (i 1).val = 3 + r) : (val_main_v59 (F := Ideal) A.p A.w A.b Y i : EReal)
    = A.ws 2 (i 2).val * tail (A.dc Y (i 0).val) (1 + r) (i 2).val := by
  unfold val_main_v59
  pointwise
  unfold Conv.tail
  by_cases h : 1 + r < 2048
  · rw [if_pos h]
    have h' : 2 ≤ (i 1).val ∧ (i 1).val - 2 < 2048 := by omega
    have e : (i 1).val - 2 = 1 + r := by omega
    exact (dif_pos h').trans ((l54 A Y _).trans (congrArg (fun k => A.ws 2 (i 2).val * A.dc Y (i 0).val k (i 2).val) e))
  · rw [if_neg h, mul_zero]
    have h' : ¬(2 ≤ (i 1).val ∧ (i 1).val - 2 < 2048) := by omega
    refine (dif_neg h').trans ?_
    rw [val_main_cst_10_apply]
    exact zero_lit
/-- the second's one, -/
theorem l70 (i : S2x2051x1536.Idx) (r : ℕ) (hr : (i 1).val = 3 + r) : (val_main_v70 (F := Ideal) A.p A.w A.b Y i : EReal)
    = A.ws 1 (i 2).val * tail (A.dc Y (i 0).val) (2 + r) (i 2).val := by
  unfold val_main_v70
  pointwise
  unfold Conv.tail
  by_cases h : 2 + r < 2048
  · rw [if_pos h]
    have h' : 1 ≤ (i 1).val ∧ (i 1).val - 1 < 2048 := by omega
    have e : (i 1).val - 1 = 2 + r := by omega
    exact (dif_pos h').trans ((l65 A Y _).trans (congrArg (fun k => A.ws 1 (i 2).val * A.dc Y (i 0).val k (i 2).val) e))
  · rw [if_neg h, mul_zero]
    have h' : ¬(1 ≤ (i 1).val ∧ (i 1).val - 1 < 2048) := by omega
    refine (dif_neg h').trans ?_
    rw [val_main_cst_14_apply]
    exact zero_lit
/-- and the first's not at all. -/
theorem l81 (i : S2x2051x1536.Idx) (r : ℕ) (hr : (i 1).val = 3 + r) : (val_main_v81 (F := Ideal) A.p A.w A.b Y i : EReal)
    = A.ws 0 (i 2).val * tail (A.dc Y (i 0).val) (3 + r) (i 2).val := by
  unfold val_main_v81
  pointwise
  unfold Conv.tail
  by_cases h : 3 + r < 2048
  · rw [if_pos h]
    have h' : (i 1).val < 2048 := by omega
    have e : (i 1).val = 3 + r := by omega
    exact (dif_pos h').trans ((l76 A Y _).trans (congrArg (fun k => A.ws 0 (i 2).val * A.dc Y (i 0).val k (i 2).val) e))
  · rw [if_neg h, mul_zero]
    have h' : ¬((i 1).val < 2048) := by omega
    refine (dif_neg h').trans ?_
    rw [val_main_cst_18_apply]
    exact zero_lit
/-- The columns' gradient. -/
theorem refX (i : S4096x1536.Idx) : (val_main_v89 (F := Ideal) A.p A.w A.b Y i : EReal)
    = Conv.dx (A.xs ((i 0).val / 2048)) A.ws A.bs (Args.dy Y ((i 0).val / 2048)) ((i 0).val % 2048) (i 1).val := by
  have h0 : (i 0).val < 4096 := (i 0).isLt
  have h1 : (i 1).val < 1536 := (i 1).isLt
  show (val_main_v88 (F := Ideal) A.p A.w A.b Y i : EReal) = _
  rw [val_main_v88_apply, val_main_v87_apply, val_main_v82_apply, val_main_v71_apply, val_main_v60_apply]
  generalize hk : idx_main_v88 i = k
  have e0 : (k 0).val = (i 0).val / 2048 := by subst hk; dsimp only; omega
  have e1 : (k 1).val = (i 0).val % 2048 := by subst hk; dsimp only; omega
  have e2 : (k 2).val = (i 1).val := by subst hk; dsimp only; omega
  rw [l50 A Y _ (k 1).val rfl, l59 A Y _ (k 1).val rfl, l70 A Y _ (k 1).val rfl, l81 A Y _ (k 1).val rfl]
  show A.ws 3 (k 2).val * tail (A.dc Y (k 0).val) (k 1).val (k 2).val + A.ws 2 (k 2).val * tail (A.dc Y (k 0).val) (1 + (k 1).val) (k 2).val
    + A.ws 1 (k 2).val * tail (A.dc Y (k 0).val) (2 + (k 1).val) (k 2).val + A.ws 0 (k 2).val * tail (A.dc Y (k 0).val) (3 + (k 1).val) (k 2).val = _
  rw [e0, e1, e2]
  unfold Conv.dx
  show _ = A.ws 0 _ * tail (A.dc Y ((i 0).val / 2048)) _ _ + A.ws 1 _ * tail (A.dc Y ((i 0).val / 2048)) _ _ + A.ws 2 _ * tail (A.dc Y ((i 0).val / 2048)) _ _ + A.ws 3 _ * tail (A.dc Y ((i 0).val / 2048)) _ _
  ac_rfl

end Cert.ConvBwdIdeal.Conv

namespace Cert.ConvBwdIdeal.Conv

open Cert.ConvBwdIdeal Cert.ConvBwdIdeal.Gen Idealize.ShloMosaic Idealize.ShloMosaic.TcCoe Idealize.SL.Sem Cert.Mat Cert.Row
open Cert.Conv
open Cert.GateBwdIdeal.Gate (sg si dsi)

variable (m : (ℓ : Loc nD τ sig) → Buf (Elt Ideal) ℓ) (c : Dev nD)

/-- A device's arguments -/
noncomputable def args : Args :=
  ⟨m ((c : Thread nD τ).loc main_arg0), m ((c : Thread nD τ).loc main_arg1), m ((c : Thread nD τ).loc main_arg2)⟩
/-- and its incoming gradient. -/
noncomputable def argY : FVec Ideal ⟨2, ![4096, 1536]⟩ .f32 := m ((c : Thread nD τ).loc main_arg3)

/-- The blocks that a grid point takes and gives: a block of columns at each sequence in turn. -/
theorem idx : ∀ t : Fin cfg0.N, win0_0.index t = ![t.val % 2, 24 + t.val / 2] ∧ win0_1.index t = ![0, t.val / 2] ∧ win0_2.index t = ![0, t.val / 2]
    ∧ win0_3.index t = ![t.val % 2, t.val / 2] ∧ win0_4.index t = ![t.val % 2, t.val / 2] ∧ win0_5.index t = ![0, t.val / 2] ∧ win0_6.index t = ![0, t.val / 2] :=
  (by decide +kernel : ∀ t : Fin grid0.N, _)

/-- A grid point's columns, taps (below them, zeros), bias and incoming gradient, from the arguments. -/
noncomputable def bX (t r q : ℕ) : EReal := (args m c).xs (t % 2) r (128 * (t / 2) + q)
/-- A grid point's taps, from the arguments: below the four, zeros. -/
noncomputable def bW (t k q : ℕ) : EReal := if k < 4 then (args m c).ws k (128 * (t / 2) + q) else 0
/-- A grid point's bias. -/
noncomputable def bB (t q : ℕ) : EReal := (args m c).bs (128 * (t / 2) + q)
/-- A grid point's incoming gradient. -/
noncomputable def bY (t r q : ℕ) : EReal := Args.dy (argY m c) (t % 2) r (128 * (t / 2) + q)

/-- The operands of a grid point are these. -/
theorem iblk0 (t : Fin cfg0.N) (y : S2048x128.Idx) : (iblk m c 0 t y : EReal) = bX m c t.val (y 0).val (y 1).val := by
  blk_simp [iblk]
  rw [V_main_arg0]
  refine at2_eq _ _ _ _ ?_ ?_
  all_goals (blk_simp [idx t]; try omega)
/-- A grid point's taps are the arguments', padded by the host. -/
theorem iblk1 (t : Fin cfg0.N) (y : S32x128.Idx) : (iblk m c 1 t y : EReal) = bW m c t.val (y 0).val (y 1).val := by
  have e : (V m c main_v0 : S32x1536.Idx → EReal) = pad S32x1536 ![0, 0] ![28, 0] ![0, 0] (args m c).w (sitofp (F := Ideal) .f32 (constantI S_ 32 0#32))
      pads_S4x1536_S32x1536_0280_000 h_S_ := rfl
  have h1 : (y 1).val < 128 := (y 1).isLt
  have e0 : (((win0_1.blk t).view.emb y : S32x1536.Idx) 0).val = (y 0).val := by blk_simp [idx t]; try omega
  have e1 : (((win0_1.blk t).view.emb y : S32x1536.Idx) 1).val = 128 * (t.val / 2) + (y 1).val := by blk_simp [idx t]; try omega
  unfold bW
  blk_simp [iblk]
  rw [congrFun e _]
  pointwise
  by_cases h : (y 0).val < 4
  · rw [if_pos h]
    refine (dif_pos (e0.trans_lt h)).trans (at2_eq _ _ _ _ e0 e1)
  · rw [if_neg h]
    refine (dif_neg fun h' => h (e0.symm.trans_lt h')).trans ?_
    show (((0#32 : BitVec 32).toInt : ℝ) : EReal) = 0
    simp
/-- Its bias is the argument's. -/
theorem iblk2 (t : Fin cfg0.N) (y : S1x128.Idx) : (iblk m c 2 t y : EReal) = bB m c t.val (y 1).val := by
  blk_simp [iblk]
  entry_read
  pointwise
  refine at1_eq _ _ _ ?_
  have h0 : (y 0).val < 1 := (y 0).isLt
  have e0 : (((win0_2.blk t).view.emb y : S1x1536.Idx) 0).val = 0 := by blk_simp [idx t]; try omega
  have e1 : (((win0_2.blk t).view.emb y : S1x1536.Idx) 1).val = 128 * (t.val / 2) + (y 1).val := by blk_simp [idx t]; try omega
  have e := Shape.rowMajor_reshapeEquiv shapeCasts_S1536_S1x1536 ((win0_2.blk t).view.emb y)
  rw [Shape.rowMajor_val_two, Shape.rowMajor_val_one, e0, e1, zero_mul, zero_add] at e
  exact e
/-- Its incoming gradient is the argument's. -/
theorem iblk3 (t : Fin cfg0.N) (y : S2048x128.Idx) : (iblk m c 3 t y : EReal) = bY m c t.val (y 0).val (y 1).val := by
  blk_simp [iblk]
  rw [V_main_arg3]
  refine at2_eq _ _ _ _ ?_ ?_
  all_goals (blk_simp [idx t]; try omega)

/-- A point's derivatives are the arguments' at its sequence and columns. -/
theorem dc_eq (t r q : ℕ) : Conv.dc (bX m c t) (bW m c t) (bB m c t) (bY m c t) r q = (args m c).dc (argY m c) (t % 2) r (128 * (t / 2) + q) := rfl
/-- So is a tap's gradient over the block, -/
theorem tap_eq (t k q : ℕ) : Conv.tap (bX m c t) (Conv.dc (bX m c t) (bW m c t) (bB m c t) (bY m c t)) k q
    = drow (args m c) (argY m c) (t % 2) k (128 * (t / 2) + q) := rfl
/-- and so is the columns' gradient. -/
theorem dx_eq (t r q : ℕ) : Conv.dx (bX m c t) (bW m c t) (bB m c t) (bY m c t) r q
    = Conv.dx ((args m c).xs (t % 2)) (args m c).ws (args m c).bs (Args.dy (argY m c) (t % 2)) r (128 * (t / 2) + q) := by
  have e (n : ℕ) : tail (Conv.dc (bX m c t) (bW m c t) (bB m c t) (bY m c t)) n q
      = tail (Conv.dc ((args m c).xs (t % 2)) (args m c).ws (args m c).bs (Args.dy (argY m c) (t % 2))) n (128 * (t / 2) + q) := rfl
  have w (k : ℕ) (h : k < 4) : bW m c t k q = (args m c).ws k (128 * (t / 2) + q) := if_pos h
  unfold Conv.dx
  rw [e, e, e, e, w 0 (by decide), w 1 (by decide), w 2 (by decide), w 3 (by decide)]

/-- What a grid point leaves of the columns' gradient, -/
theorem out4 (t : Fin cfg0.N) (y : S2048x128.Idx) : ((outsAt0 m c t.val t.isLt).1 y : EReal)
    = Conv.dx (bX m c t.val) (bW m c t.val) (bB m c t.val) (bY m c t.val) (y 0).val (y 1).val := by
  by_cases h : t.val % 2 = 0
  · rw [outsAt0_A m c t h]
    dsimp only
    exact block4A _ _ _ _ c _ _ _ _ _ _ _ _ _ _ _ _ _ _ _ _ _ _ _ _ _ _ _ _ (iblk0 m c t) (iblk1 m c t) (iblk2 m c t) (iblk3 m c t) y
  · rw [outsAt0_B m c t h]
    dsimp only
    exact block4B _ _ _ _ c _ _ _ _ _ _ _ _ _ _ _ _ _ _ _ _ _ _ _ _ _ _ _ _ _ _ (iblk0 m c t) (iblk1 m c t) (iblk2 m c t) (iblk3 m c t) y

/-- of the taps' at the first sequence -/
theorem out5A (t : Fin cfg0.N) (h : t.val % 2 = 0) (y : S32x128.Idx) : ((outsAt0 m c t.val t.isLt).2.1 y : EReal)
    = if (y 0).val < 4 then drow (args m c) (argY m c) 0 (y 0).val (128 * (t.val / 2) + (y 1).val) else 0 := by
  rw [outsAt0_A m c t h]
  dsimp only
  refine (block5A _ _ _ _ c _ _ _ _ _ _ _ _ _ _ _ _ _ _ _ _ _ _ _ _ _ _ _ _ (iblk0 m c t) (iblk1 m c t) (iblk2 m c t) (iblk3 m c t) y).trans ?_
  rw [tap_eq, h, zero_add]
/-- and at the second, -/
theorem out5B (t : Fin cfg0.N) (h : ¬t.val % 2 = 0) (y : S32x128.Idx) : ((outsAt0 m c t.val t.isLt).2.1 y : EReal)
    = if (y 0).val < 4 then drow (args m c) (argY m c) 0 (y 0).val (128 * (t.val / 2) + (y 1).val)
      + drow (args m c) (argY m c) 1 (y 0).val (128 * (t.val / 2) + (y 1).val) else 0 := by
  rw [outsAt0_B m c t h]
  dsimp only
  have hl : t.val - 1 < cfg0.N := Nat.lt_of_le_of_lt (Nat.sub_le _ _) t.isLt
  have hd : (t.val - 1) / 2 = t.val / 2 := by omega
  have h1 : t.val % 2 = 1 := by omega
  have h5 : ∀ y : S32x128.Idx, ((outsAt0 m c (t.val - 1) hl).2.1 y : EReal)
      = (fun k q : ℕ => if k < 4 then drow (args m c) (argY m c) 0 k (128 * (t.val / 2) + q) else 0) (y 0).val (y 1).val := by
    intro y
    refine (out5A m c ⟨t.val - 1, hl⟩ (by dsimp only; omega) y).trans ?_
    dsimp only
    rw [hd]
  refine (block5B _ _ _ _ (fun k q : ℕ => if k < 4 then drow (args m c) (argY m c) 0 k (128 * (t.val / 2) + q) else 0) c _ _ _ _ _ _ _ _ _ _ _ _ _ _ _ _ _ _ _ _ _ _ _ _ _ _ (iblk0 m c t) (iblk1 m c t) (iblk2 m c t) (iblk3 m c t) h5 y).trans ?_
  rw [tap_eq, h1]
  dsimp only
  by_cases h4 : (y 0).val < 4
  · rw [if_pos h4, if_pos h4, if_pos h4]
  · rw [if_neg h4, if_neg h4, if_neg h4]

/-- and of the bias's at the first -/
theorem out6A (t : Fin cfg0.N) (h : t.val % 2 = 0) (y : S1x128.Idx) : ((outsAt0 m c t.val t.isLt).2.2 y : EReal)
    = ∑ r : Fin 2048, (args m c).dc (argY m c) 0 r.val (128 * (t.val / 2) + (y 1).val) := by
  rw [outsAt0_A m c t h]
  dsimp only
  refine (block6A _ _ _ _ c _ _ _ _ _ _ _ _ _ _ _ _ _ _ _ _ _ _ _ _ _ _ _ _ (iblk0 m c t) (iblk1 m c t) (iblk2 m c t) (iblk3 m c t) y).trans ?_
  rw [sums_eight, zero_add]
  simp only [dc_eq, h]
/-- and the second. -/
theorem out6B (t : Fin cfg0.N) (h : ¬t.val % 2 = 0) (y : S1x128.Idx) : ((outsAt0 m c t.val t.isLt).2.2 y : EReal)
    = (∑ r : Fin 2048, (args m c).dc (argY m c) 0 r.val (128 * (t.val / 2) + (y 1).val))
      + ∑ r : Fin 2048, (args m c).dc (argY m c) 1 r.val (128 * (t.val / 2) + (y 1).val) := by
  rw [outsAt0_B m c t h]
  dsimp only
  have hl : t.val - 1 < cfg0.N := Nat.lt_of_le_of_lt (Nat.sub_le _ _) t.isLt
  have hd : (t.val - 1) / 2 = t.val / 2 := by omega
  have h1 : t.val % 2 = 1 := by omega
  have h6 : ∀ y : S1x128.Idx, ((outsAt0 m c (t.val - 1) hl).2.2 y : EReal)
      = (fun q : ℕ => ∑ r : Fin 2048, (args m c).dc (argY m c) 0 r.val (128 * (t.val / 2) + q)) (y 1).val := by
    intro y
    refine (out6A m c ⟨t.val - 1, hl⟩ (by dsimp only; omega) y).trans ?_
    dsimp only
    rw [hd]
  refine (block6B _ _ _ _ (fun q : ℕ => ∑ r : Fin 2048, (args m c).dc (argY m c) 0 r.val (128 * (t.val / 2) + q)) c _ _ _ _ _ _ _ _ _ _ _ _ _ _ _ _ _ _ _ _ _ _ _ _ _ _ (iblk0 m c t) (iblk1 m c t) (iblk2 m c t) (iblk3 m c t) h6 y).trans ?_
  rw [sums_eight]
  simp only [dc_eq, h1]

/-- The first result array is the reference's gradient of the columns, -/
theorem finX : ((dats m 0 c).arrAt 4 cfg0.N : S4096x1536.Idx → EReal)
    = Cert.RefConvBwdIdeal.Read.val_main_v89 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  blk_simp
  rw [after0_4]
  have h0 : (y 0).val < 2048 := (y 0).isLt
  have h1 : (y 1).val < 128 := (y 1).isLt
  have e0 : (((win0_4.blk t).view.emb y : S4096x1536.Idx) 0).val = 2048 * (t.val % 2) + (y 0).val := by blk_simp [idx t]; try omega
  have e1 : (((win0_4.blk t).view.emb y : S4096x1536.Idx) 1).val = 128 * (t.val / 2) + (y 1).val := by blk_simp [idx t]; try omega
  refine ((out4 m c t y).trans (dx_eq m c _ _ _)).trans (Eq.trans ?_ (refX (args m c) (argY m c) _).symm)
  have e2 : (2048 * (t.val % 2) + (y 0).val) / 2048 = t.val % 2 := by omega
  have e3 : (2048 * (t.val % 2) + (y 0).val) % 2048 = (y 0).val := by omega
  rw [e0, e1, e2, e3]

/-- the second that of the taps -/
theorem finW : ((dats m 0 c).arrAt 5 cfg0.N : S32x1536.Idx → EReal)
    = Cert.RefConvBwdIdeal.Read.val_main_v90 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 5 _ (by decide +kernel) fun t hf y => ?_
  blk_simp
  rw [after0_5]
  have h2 := (flush0_5 t).mp hf
  have h1 : (y 1).val < 128 := (y 1).isLt
  have e0 : (((win0_5.blk t).view.emb y : S32x1536.Idx) 0).val = (y 0).val := by blk_simp [idx t]; try omega
  have e1 : (((win0_5.blk t).view.emb y : S32x1536.Idx) 1).val = 128 * (t.val / 2) + (y 1).val := by blk_simp [idx t]; try omega
  refine (out5B m c t (by omega) y).trans (Eq.trans ?_ (refW (args m c) (argY m c) _).symm)
  rw [e0, e1]

/-- and the third that of the bias. -/
theorem finB : ((dats m 0 c).arrAt 6 cfg0.N : S1x1536.Idx → EReal)
    = Cert.RefConvBwdIdeal.Read.val_main_v91 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 6 _ (by decide +kernel) fun t hf y => ?_
  blk_simp
  rw [after0_6]
  have h2 := (flush0_6 t).mp hf
  have h1 : (y 1).val < 128 := (y 1).isLt
  have e1 : (((win0_6.blk t).view.emb y : S1x1536.Idx) 1).val = 128 * (t.val / 2) + (y 1).val := by blk_simp [idx t]; try omega
  refine (out6B m c t (by omega) y).trans (Eq.trans ?_ (refB (args m c) (argY m c) _).symm)
  rw [e1]

end Cert.ConvBwdIdeal.Conv

namespace Cert.ConvBwdIdeal

open Idealize.ShloMosaic Idealize.SL.Sem

/-- The reference's run terminates, keeps its arguments and leaves every semaphore at zero. -/
theorem frame_reference : Cert.quiescent_RefConvBwdIdeal := fun m ρ _ =>
  (θ_run Cert.RefConvBwdIdeal.defs _ _).mono
    (fun r h => ⟨fun c => (h c).2.2.2, Idealize.ShloMosaic.sem_eq_zero_of_no_sems (by decide) r.2⟩)
    (Cert.RefConvBwdIdeal.Value.run (F := Ideal) m ρ)

/-- The reference's results are the kernel's. -/
theorem algebraic : Cert.algebraic_ConvBwdIdeal_RefConvBwdIdeal := by
  intro m ρ m' ρ' _ hagree
  refine ⟨_, _, _, Cert.ConvBwdIdeal.Value.run_blocks (F := Ideal) m ρ, ?_⟩
  refine (θ_run Cert.RefConvBwdIdeal.defs _ _).mono (fun _ h c => ⟨(h c).1.trans ?_, (h c).2.1.trans ?_, (h c).2.2.1.trans ?_, (h c).2.2.2⟩)
    (Cert.RefConvBwdIdeal.Value.run (F := Ideal) m' ρ')
  all_goals
    obtain ⟨a0, a1, a2, a3⟩ := hagree c
  · exact (Cert.RefConvBwdIdeal.Read.val_main_v89_eq (F := Ideal) _ _).trans (by simp only [a0, a1, a2, a3]; exact (Conv.finX m c).symm)
  · exact (Cert.RefConvBwdIdeal.Read.val_main_v90_eq (F := Ideal) _ _).trans (by simp only [a0, a1, a2, a3]; exact (Conv.finW m c).symm)
  · exact (Cert.RefConvBwdIdeal.Read.val_main_v91_eq (F := Ideal) _ _).trans (by simp only [a0, a1, a2, a3]; exact (Conv.finB m c).symm)

end Cert.ConvBwdIdeal
-- ==== Proof.Adam.lean ====
module

public import Idealize.ShloMosaic.Lib.Pipeline.ValueKit
public import Idealize.ShloMosaic.Lib.Pointwise
public import Idealize.ShloMosaic.PureOps.Ideal.Laws

/-! The optimiser's step for one weight, and the layers' stacked arrays read as one matrix. -/

@[expose] public section

namespace Cert.Adam

open Idealize.ShloMosaic

/-- The gradient's new running mean, -/
noncomputable def mean (g m : EReal) : EReal := Ideal.ofBits .f32 0x3F666666#32 * m + Ideal.ofBits .f32 0x3DCCCCCD#32 * g
/-- that of its square, -/
noncomputable def square (g v : EReal) : EReal := Ideal.ofBits .f32 0x3F7FBE77#32 * v + Ideal.ofBits .f32 0x3A83126F#32 * (g * g)
/-- and the weight's change. -/
noncomputable def step (w g m v : EReal) : EReal :=
  Ideal.ofBits .f32 0xBA83126F#32 * (Ideal.div (Ideal.div (mean g m) (Ideal.ofBits .f32 0x3F26BD02#32))
    (Ideal.sqrt (Ideal.div (square g v) (Ideal.ofBits .f32 0x3C231ACC#32)) + Ideal.ofBits .f32 0x322BCC77#32) + Ideal.ofBits .f32 0x3C23D70A#32 * w)

/-- An entry of the stack, its layers' rows one below the other (the numbers' remainders by the extents). -/
def flat {L M K : ℕ} [NeZero L] [NeZero M] [NeZero K] (x : (⟨3, ![L, M, K]⟩ : Shape).Idx → EReal) (r c : ℕ) : EReal :=
  x (ValueIdx.ix3 (Fin.ofNat L (r / M)) (Fin.ofNat M (r % M)) (Fin.ofNat K c))

/-- An entry, at the row and column of the matrix that its index stands for. -/
theorem flat_eq {L M K : ℕ} [NeZero L] [NeZero M] [NeZero K] (x : (⟨3, ![L, M, K]⟩ : Shape).Idx → EReal) (i : (⟨3, ![L, M, K]⟩ : Shape).Idx) (r c : ℕ)
    (h0 : (i 0).val = r / M) (h1 : (i 1).val = r % M) (h2 : (i 2).val = c) : x i = flat x r c := by
  unfold flat
  rw [← h0, ← h1, ← h2]
  congr 1
  funext a
  apply Fin.ext
  fin_cases a
  · exact (Nat.mod_eq_of_lt (i 0).isLt).symm
  · exact (Nat.mod_eq_of_lt (i 1).isLt).symm
  · exact (Nat.mod_eq_of_lt (i 2).isLt).symm

end Cert.Adam
-- ==== Proof.AdamFf.lean ====
module

public import proofs.«01_k».proof.Defs
public import proofs.«01_k».proof.Proof.Adam
public import Idealize.ShloMosaic.Lib.Pipeline.ValueKit
public import Idealize.ShloMosaic.Lib.Pointwise
public import Idealize.ShloMosaic.PureOps.Ideal.Laws
public import proofs.«01_k».proof.Proof.Gen.AdamFf
public import proofs.«01_k».proof.Proof.Gen.AdamFf.Skeleton
public import proofs.«01_k».proof.Proof.Gen.AdamFf.Launch
public import proofs.«01_k».proof.Proof.Gen.AdamFf.Points
public import proofs.«01_k».proof.Proof.Gen.AdamFf.Frame
public import proofs.«01_k».proof.Proof.Gen.AdamFfIdeal
public import proofs.«01_k».proof.Proof.Gen.AdamFfIdeal.Skeleton
public import proofs.«01_k».proof.Proof.Gen.AdamFfIdeal.Launch
public import proofs.«01_k».proof.Proof.Gen.AdamFfIdeal.Points
public import proofs.«01_k».proof.Proof.Gen.AdamFfIdeal.Frame
public import proofs.«01_k».proof.Proof.Gen.AdamFfIdeal.Value
public import proofs.«01_k».proof.Proof.Gen.RefAdamFfIdeal
public import proofs.«01_k».proof.Proof.Gen.RefAdamFfIdeal.Run
public import proofs.«01_k».proof.Proof.Gen.RefAdamFfIdeal.Read

/-! The optimiser's step for a chip's part of the MLP's weights: the kernel's result arrays are the reference's. -/

@[expose] public section

set_option maxRecDepth 16384

namespace Cert.AdamFfIdeal.Step

open Cert.RefAdamFfIdeal Cert.RefAdamFfIdeal.Read Idealize.ShloMosaic Cert.Adam

variable (w g v u : S4x1024x1024.Idx → EReal)

/-- The reference's reshape of a stack, read at a row and a column. -/
theorem refFlat (x : S4x1024x1024.Idx → EReal) (i : S4096x1024.Idx) (r q : ℕ) (h0 : (i 0).val = r) (h1 : (i 1).val = q) :
    x (idx_main_v24 i) = flat (L := 4) (M := 1024) (K := 1024) x r q := by
  subst h0 h1
  have b : (i 1).val < 1024 := (i 1).isLt
  refine flat_eq _ _ _ _ ?_ ?_ ?_
  all_goals (dsimp only; omega)

/-- The reference's running mean at an entry, -/
theorem refMean (i : S4x1024x1024.Idx) : (val_main_v4 (F := Ideal) g v i : EReal) = mean (g i) (v i) := by
  simp only [val_main_v4_apply, val_main_v3_apply, val_main_v2_apply, val_main_v1_apply, val_main_v0_apply, val_main_cst_apply, val_main_cst_0_apply]
  rfl

/-- its running mean of the square, -/
theorem refSquare (i : S4x1024x1024.Idx) : (val_main_v10 (F := Ideal) g u i : EReal) = square (g i) (u i) := by
  simp only [val_main_v10_apply, val_main_v9_apply, val_main_v8_apply, val_main_v7_apply, val_main_v6_apply, val_main_v5_apply,
    val_main_cst_1_apply, val_main_cst_2_apply]
  rfl

/-- and the weight's change. -/
theorem refStep (i : S4x1024x1024.Idx) : (val_main_v23 (F := Ideal) w g v u i : EReal) = step (w i) (g i) (v i) (u i) := by
  simp only [val_main_v23_apply, val_main_v22_apply, val_main_v21_apply, val_main_v20_apply, val_main_v19_apply, val_main_v18_apply,
    val_main_v17_apply, val_main_v16_apply, val_main_v15_apply, val_main_v14_apply, val_main_v13_apply, val_main_v12_apply, val_main_v11_apply,
    val_main_cst_3_apply, val_main_cst_4_apply, val_main_cst_5_apply, val_main_cst_6_apply, val_main_cst_7_apply, refMean, refSquare]
  rfl

end Cert.AdamFfIdeal.Step

namespace Cert.AdamFfIdeal.Step

open Cert.AdamFfIdeal Cert.AdamFfIdeal.Gen Idealize.ShloMosaic Idealize.ShloMosaic.TcCoe Idealize.SL.Sem Cert.Adam

variable (m : (ℓ : Loc nD τ sig) → Buf (Elt Ideal) ℓ) (c : Dev nD)

/-- The blocks that a grid point takes and gives. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

/-- A block of the changes, -/
theorem block4 (w g v u : FVec Ideal S512x1024 .f32) (y : S512x1024.Idx) : (out0_4 (F := Ideal) w g v u y : EReal) = step (w y) (g y) (v y) (u y) := by
  unfold out0_4
  rw [View.canon_unit_zero (by funext a; fin_cases a <;> rfl), View.ld_unit_zero (by funext a; fin_cases a <;> rfl), View.ld_unit_zero (by funext a; fin_cases a <;> rfl),
    View.ld_unit_zero (by funext a; fin_cases a <;> rfl), View.ld_unit_zero (by funext a; fin_cases a <;> rfl)]
  pointwise [k0_pay4, k0_pay3, k0_pay2, k0_pay1]
  rfl

/-- of the running means -/
theorem block5 (w g v u : FVec Ideal S512x1024 .f32) (y : S512x1024.Idx) : (out0_5 (F := Ideal) w g v u y : EReal) = mean (g y) (v y) := by
  unfold out0_5
  rw [View.canon_unit_zero (by funext a; fin_cases a <;> rfl), View.ld_unit_zero (by funext a; fin_cases a <;> rfl), View.ld_unit_zero (by funext a; fin_cases a <;> rfl)]
  pointwise [k0_pay2, k0_pay1]
  rfl

/-- and of those of the square. -/
theorem block6 (w g v u : FVec Ideal S512x1024 .f32) (y : S512x1024.Idx) : (out0_6 (F := Ideal) w g v u y : EReal) = square (g y) (u y) := by
  unfold out0_6
  rw [View.canon_unit_zero (by funext a; fin_cases a <;> rfl), View.ld_unit_zero (by funext a; fin_cases a <;> rfl), View.ld_unit_zero (by funext a; fin_cases a <;> rfl)]
  pointwise [k0_pay3, k0_pay1]
  rfl

/-- The weights' block, -/
theorem iblk0 (t : Fin cfg0.N) (y : S512x1024.Idx) : (iblk m c 0 t y : EReal)
    = flat (L := 4) (M := 1024) (K := 1024) (m ((c : Thread nD τ).loc main_arg0)) (512 * t.val + (y 0).val) (y 1).val := by
  blk_simp [iblk]
  entry_read
  pointwise
  have e0 : (((win0_0.blk t).view.emb y : S4096x1024.Idx) 0).val = 512 * t.val + (y 0).val := by blk_simp [idx t]; try omega
  have e1 : (((win0_0.blk t).view.emb y : S4096x1024.Idx) 1).val = (y 1).val := by blk_simp [idx t]; try omega
  exact flat_eq _ _ _ _ (congrArg (· / 1024) e0) (congrArg (· % 1024) e0) e1

/-- the gradient's, -/
theorem iblk1 (t : Fin cfg0.N) (y : S512x1024.Idx) : (iblk m c 1 t y : EReal)
    = flat (L := 4) (M := 1024) (K := 1024) (m ((c : Thread nD τ).loc main_arg1)) (512 * t.val + (y 0).val) (y 1).val := by
  blk_simp [iblk]
  entry_read
  pointwise
  have e0 : (((win0_1.blk t).view.emb y : S4096x1024.Idx) 0).val = 512 * t.val + (y 0).val := by blk_simp [idx t]; try omega
  have e1 : (((win0_1.blk t).view.emb y : S4096x1024.Idx) 1).val = (y 1).val := by blk_simp [idx t]; try omega
  exact flat_eq _ _ _ _ (congrArg (· / 1024) e0) (congrArg (· % 1024) e0) e1

/-- the running mean's -/
theorem iblk2 (t : Fin cfg0.N) (y : S512x1024.Idx) : (iblk m c 2 t y : EReal)
    = flat (L := 4) (M := 1024) (K := 1024) (m ((c : Thread nD τ).loc main_arg2)) (512 * t.val + (y 0).val) (y 1).val := by
  blk_simp [iblk]
  entry_read
  pointwise
  have e0 : (((win0_2.blk t).view.emb y : S4096x1024.Idx) 0).val = 512 * t.val + (y 0).val := by blk_simp [idx t]; try omega
  have e1 : (((win0_2.blk t).view.emb y : S4096x1024.Idx) 1).val = (y 1).val := by blk_simp [idx t]; try omega
  exact flat_eq _ _ _ _ (congrArg (· / 1024) e0) (congrArg (· % 1024) e0) e1

/-- and that of the square's. -/
theorem iblk3 (t : Fin cfg0.N) (y : S512x1024.Idx) : (iblk m c 3 t y : EReal)
    = flat (L := 4) (M := 1024) (K := 1024) (m ((c : Thread nD τ).loc main_arg3)) (512 * t.val + (y 0).val) (y 1).val := by
  blk_simp [iblk]
  entry_read
  pointwise
  have e0 : (((win0_3.blk t).view.emb y : S4096x1024.Idx) 0).val = 512 * t.val + (y 0).val := by blk_simp [idx t]; try omega
  have e1 : (((win0_3.blk t).view.emb y : S4096x1024.Idx) 1).val = (y 1).val := by blk_simp [idx t]; try omega
  exact flat_eq _ _ _ _ (congrArg (· / 1024) e0) (congrArg (· % 1024) e0) e1

/-- The changes' array is the reference's, -/
theorem finStep : ((dats m 0 c).arrAt 4 cfg0.N : S4096x1024.Idx → EReal)
    = Cert.RefAdamFfIdeal.Read.val_main_v24 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4, block4, iblk0, iblk1, iblk2, iblk3]
  have e0 : (((win0_4.blk t).view.emb y : S4096x1024.Idx) 0).val = 512 * t.val + (y 0).val := by blk_simp [idx t]; try omega
  have e1 : (((win0_4.blk t).view.emb y : S4096x1024.Idx) 1).val = (y 1).val := by blk_simp [idx t]; try omega
  refine Eq.trans ?_ ((Cert.RefAdamFfIdeal.Read.val_main_v24_apply _ _ _ _ _).trans (refStep _ _ _ _ _)).symm
  exact congr (congr (congr (congrArg step (refFlat _ _ _ _ e0 e1).symm) (refFlat _ _ _ _ e0 e1).symm) (refFlat _ _ _ _ e0 e1).symm) (refFlat _ _ _ _ e0 e1).symm

/-- the running means' is -/
theorem finMean : ((dats m 0 c).arrAt 5 cfg0.N : S4096x1024.Idx → EReal)
    = Cert.RefAdamFfIdeal.Read.val_main_v25 (F := Ideal) (m ((c : Thread nD τ).loc main_arg1)) (m ((c : Thread nD τ).loc main_arg2)) := by
  refine (dats m 0 c).arrAt_eq_of_covers 5 _ (by decide +kernel) fun t hf y => ?_
  blk_simp
  rw [after0_5, block5, iblk1, iblk2]
  have e0 : (((win0_5.blk t).view.emb y : S4096x1024.Idx) 0).val = 512 * t.val + (y 0).val := by blk_simp [idx t]; try omega
  have e1 : (((win0_5.blk t).view.emb y : S4096x1024.Idx) 1).val = (y 1).val := by blk_simp [idx t]; try omega
  refine Eq.trans ?_ ((Cert.RefAdamFfIdeal.Read.val_main_v25_apply _ _ _).trans (refMean _ _ _)).symm
  exact congrArg₂ mean (refFlat _ _ _ _ e0 e1).symm (refFlat _ _ _ _ e0 e1).symm

/-- and that of the square's. -/
theorem finSquare : ((dats m 0 c).arrAt 6 cfg0.N : S4096x1024.Idx → EReal)
    = Cert.RefAdamFfIdeal.Read.val_main_v26 (F := Ideal) (m ((c : Thread nD τ).loc main_arg1)) (m ((c : Thread nD τ).loc main_arg3)) := by
  refine (dats m 0 c).arrAt_eq_of_covers 6 _ (by decide +kernel) fun t hf y => ?_
  blk_simp
  rw [after0_6, block6, iblk1, iblk3]
  have e0 : (((win0_6.blk t).view.emb y : S4096x1024.Idx) 0).val = 512 * t.val + (y 0).val := by blk_simp [idx t]; try omega
  have e1 : (((win0_6.blk t).view.emb y : S4096x1024.Idx) 1).val = (y 1).val := by blk_simp [idx t]; try omega
  refine Eq.trans ?_ ((Cert.RefAdamFfIdeal.Read.val_main_v26_apply _ _ _).trans (refSquare _ _ _)).symm
  exact congrArg₂ square (refFlat _ _ _ _ e0 e1).symm (refFlat _ _ _ _ e0 e1).symm

end Cert.AdamFfIdeal.Step

namespace Cert.AdamFfIdeal

open Idealize.ShloMosaic Idealize.SL.Sem

/-- The reference's run terminates, keeps its arguments and leaves every semaphore at zero. -/
theorem frame_reference : Cert.quiescent_RefAdamFfIdeal := fun m ρ _ =>
  (θ_run Cert.RefAdamFfIdeal.defs _ _).mono
    (fun r h => ⟨fun c => (h c).2.2.2, Idealize.ShloMosaic.sem_eq_zero_of_no_sems (by decide) r.2⟩)
    (Cert.RefAdamFfIdeal.Value.run (F := Ideal) m ρ)

/-- The reference's results are the kernel's. -/
theorem algebraic : Cert.algebraic_AdamFfIdeal_RefAdamFfIdeal := by
  intro m ρ m' ρ' _ hagree
  refine ⟨_, _, _, Cert.AdamFfIdeal.Value.run_blocks (F := Ideal) m ρ, ?_⟩
  refine (θ_run Cert.RefAdamFfIdeal.defs _ _).mono (fun _ h c => ⟨(h c).1.trans ?_, (h c).2.1.trans ?_, (h c).2.2.1.trans ?_, (h c).2.2.2⟩)
    (Cert.RefAdamFfIdeal.Value.run (F := Ideal) m' ρ')
  all_goals
    obtain ⟨a0, a1, a2, a3⟩ := hagree c
  · rw [a0, a1, a2, a3]
    exact (Cert.RefAdamFfIdeal.Read.val_main_v24_eq (F := Ideal) _ _ _ _).trans (Step.finStep m c).symm
  · rw [a1, a2]
    exact (Cert.RefAdamFfIdeal.Read.val_main_v25_eq (F := Ideal) _ _).trans (Step.finMean m c).symm
  · rw [a1, a3]
    exact (Cert.RefAdamFfIdeal.Read.val_main_v26_eq (F := Ideal) _ _).trans (Step.finSquare m c).symm

end Cert.AdamFfIdeal
-- ==== Proof.AdamOut.lean ====
module

public import proofs.«01_k».proof.Defs
public import proofs.«01_k».proof.Proof.Adam
public import Idealize.ShloMosaic.Lib.Pipeline.ValueKit
public import Idealize.ShloMosaic.Lib.Pointwise
public import Idealize.ShloMosaic.PureOps.Ideal.Laws
public import proofs.«01_k».proof.Proof.Gen.AdamOut
public import proofs.«01_k».proof.Proof.Gen.AdamOut.Skeleton
public import proofs.«01_k».proof.Proof.Gen.AdamOut.Launch
public import proofs.«01_k».proof.Proof.Gen.AdamOut.Points
public import proofs.«01_k».proof.Proof.Gen.AdamOut.Frame
public import proofs.«01_k».proof.Proof.Gen.AdamOutIdeal
public import proofs.«01_k».proof.Proof.Gen.AdamOutIdeal.Skeleton
public import proofs.«01_k».proof.Proof.Gen.AdamOutIdeal.Launch
public import proofs.«01_k».proof.Proof.Gen.AdamOutIdeal.Points
public import proofs.«01_k».proof.Proof.Gen.AdamOutIdeal.Frame
public import proofs.«01_k».proof.Proof.Gen.AdamOutIdeal.Value
public import proofs.«01_k».proof.Proof.Gen.RefAdamOutIdeal
public import proofs.«01_k».proof.Proof.Gen.RefAdamOutIdeal.Run
public import proofs.«01_k».proof.Proof.Gen.RefAdamOutIdeal.Read

/-! The optimiser's step for a chip's part of the output projection's weights: the kernel's result arrays are the reference's. -/

@[expose] public section

set_option maxRecDepth 16384

namespace Cert.AdamOutIdeal.Step

open Cert.RefAdamOutIdeal Cert.RefAdamOutIdeal.Read Idealize.ShloMosaic Cert.Adam

variable (w g v u : S4x512x1024.Idx → EReal)

/-- The reference's reshape of a stack, read at a row and a column. -/
theorem refFlat (x : S4x512x1024.Idx → EReal) (i : S2048x1024.Idx) (r q : ℕ) (h0 : (i 0).val = r) (h1 : (i 1).val = q) :
    x (idx_main_v24 i) = flat (L := 4) (M := 512) (K := 1024) x r q := by
  subst h0 h1
  have b : (i 1).val < 1024 := (i 1).isLt
  refine flat_eq _ _ _ _ ?_ ?_ ?_
  all_goals (dsimp only; omega)

/-- The reference's running mean at an entry, -/
theorem refMean (i : S4x512x1024.Idx) : (val_main_v4 (F := Ideal) g v i : EReal) = mean (g i) (v i) := by
  simp only [val_main_v4_apply, val_main_v3_apply, val_main_v2_apply, val_main_v1_apply, val_main_v0_apply, val_main_cst_apply, val_main_cst_0_apply]
  rfl

/-- its running mean of the square, -/
theorem refSquare (i : S4x512x1024.Idx) : (val_main_v10 (F := Ideal) g u i : EReal) = square (g i) (u i) := by
  simp only [val_main_v10_apply, val_main_v9_apply, val_main_v8_apply, val_main_v7_apply, val_main_v6_apply, val_main_v5_apply,
    val_main_cst_1_apply, val_main_cst_2_apply]
  rfl

/-- and the weight's change. -/
theorem refStep (i : S4x512x1024.Idx) : (val_main_v23 (F := Ideal) w g v u i : EReal) = step (w i) (g i) (v i) (u i) := by
  simp only [val_main_v23_apply, val_main_v22_apply, val_main_v21_apply, val_main_v20_apply, val_main_v19_apply, val_main_v18_apply,
    val_main_v17_apply, val_main_v16_apply, val_main_v15_apply, val_main_v14_apply, val_main_v13_apply, val_main_v12_apply, val_main_v11_apply,
    val_main_cst_3_apply, val_main_cst_4_apply, val_main_cst_5_apply, val_main_cst_6_apply, val_main_cst_7_apply, refMean, refSquare]
  rfl

end Cert.AdamOutIdeal.Step

namespace Cert.AdamOutIdeal.Step

open Cert.AdamOutIdeal Cert.AdamOutIdeal.Gen Idealize.ShloMosaic Idealize.ShloMosaic.TcCoe Idealize.SL.Sem Cert.Adam

variable (m : (ℓ : Loc nD τ sig) → Buf (Elt Ideal) ℓ) (c : Dev nD)

/-- The blocks that a grid point takes and gives. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

/-- A block of the changes, -/
theorem block4 (w g v u : FVec Ideal S512x1024 .f32) (y : S512x1024.Idx) : (out0_4 (F := Ideal) w g v u y : EReal) = step (w y) (g y) (v y) (u y) := by
  unfold out0_4
  rw [View.canon_unit_zero (by funext a; fin_cases a <;> rfl), View.ld_unit_zero (by funext a; fin_cases a <;> rfl), View.ld_unit_zero (by funext a; fin_cases a <;> rfl),
    View.ld_unit_zero (by funext a; fin_cases a <;> rfl), View.ld_unit_zero (by funext a; fin_cases a <;> rfl)]
  pointwise [k0_pay4, k0_pay3, k0_pay2, k0_pay1]
  rfl

/-- of the running means -/
theorem block5 (w g v u : FVec Ideal S512x1024 .f32) (y : S512x1024.Idx) : (out0_5 (F := Ideal) w g v u y : EReal) = mean (g y) (v y) := by
  unfold out0_5
  rw [View.canon_unit_zero (by funext a; fin_cases a <;> rfl), View.ld_unit_zero (by funext a; fin_cases a <;> rfl), View.ld_unit_zero (by funext a; fin_cases a <;> rfl)]
  pointwise [k0_pay2, k0_pay1]
  rfl

/-- and of those of the square. -/
theorem block6 (w g v u : FVec Ideal S512x1024 .f32) (y : S512x1024.Idx) : (out0_6 (F := Ideal) w g v u y : EReal) = square (g y) (u y) := by
  unfold out0_6
  rw [View.canon_unit_zero (by funext a; fin_cases a <;> rfl), View.ld_unit_zero (by funext a; fin_cases a <;> rfl), View.ld_unit_zero (by funext a; fin_cases a <;> rfl)]
  pointwise [k0_pay3, k0_pay1]
  rfl

/-- The weights' block, -/
theorem iblk0 (t : Fin cfg0.N) (y : S512x1024.Idx) : (iblk m c 0 t y : EReal)
    = flat (L := 4) (M := 512) (K := 1024) (m ((c : Thread nD τ).loc main_arg0)) (512 * t.val + (y 0).val) (y 1).val := by
  blk_simp [iblk]
  entry_read
  pointwise
  have e0 : (((win0_0.blk t).view.emb y : S2048x1024.Idx) 0).val = 512 * t.val + (y 0).val := by blk_simp [idx t]; try omega
  have e1 : (((win0_0.blk t).view.emb y : S2048x1024.Idx) 1).val = (y 1).val := by blk_simp [idx t]; try omega
  exact flat_eq _ _ _ _ (congrArg (· / 512) e0) (congrArg (· % 512) e0) e1

/-- the gradient's, -/
theorem iblk1 (t : Fin cfg0.N) (y : S512x1024.Idx) : (iblk m c 1 t y : EReal)
    = flat (L := 4) (M := 512) (K := 1024) (m ((c : Thread nD τ).loc main_arg1)) (512 * t.val + (y 0).val) (y 1).val := by
  blk_simp [iblk]
  entry_read
  pointwise
  have e0 : (((win0_1.blk t).view.emb y : S2048x1024.Idx) 0).val = 512 * t.val + (y 0).val := by blk_simp [idx t]; try omega
  have e1 : (((win0_1.blk t).view.emb y : S2048x1024.Idx) 1).val = (y 1).val := by blk_simp [idx t]; try omega
  exact flat_eq _ _ _ _ (congrArg (· / 512) e0) (congrArg (· % 512) e0) e1

/-- the running mean's -/
theorem iblk2 (t : Fin cfg0.N) (y : S512x1024.Idx) : (iblk m c 2 t y : EReal)
    = flat (L := 4) (M := 512) (K := 1024) (m ((c : Thread nD τ).loc main_arg2)) (512 * t.val + (y 0).val) (y 1).val := by
  blk_simp [iblk]
  entry_read
  pointwise
  have e0 : (((win0_2.blk t).view.emb y : S2048x1024.Idx) 0).val = 512 * t.val + (y 0).val := by blk_simp [idx t]; try omega
  have e1 : (((win0_2.blk t).view.emb y : S2048x1024.Idx) 1).val = (y 1).val := by blk_simp [idx t]; try omega
  exact flat_eq _ _ _ _ (congrArg (· / 512) e0) (congrArg (· % 512) e0) e1

/-- and that of the square's. -/
theorem iblk3 (t : Fin cfg0.N) (y : S512x1024.Idx) : (iblk m c 3 t y : EReal)
    = flat (L := 4) (M := 512) (K := 1024) (m ((c : Thread nD τ).loc main_arg3)) (512 * t.val + (y 0).val) (y 1).val := by
  blk_simp [iblk]
  entry_read
  pointwise
  have e0 : (((win0_3.blk t).view.emb y : S2048x1024.Idx) 0).val = 512 * t.val + (y 0).val := by blk_simp [idx t]; try omega
  have e1 : (((win0_3.blk t).view.emb y : S2048x1024.Idx) 1).val = (y 1).val := by blk_simp [idx t]; try omega
  exact flat_eq _ _ _ _ (congrArg (· / 512) e0) (congrArg (· % 512) e0) e1

/-- The changes' array is the reference's, -/
theorem finStep : ((dats m 0 c).arrAt 4 cfg0.N : S2048x1024.Idx → EReal)
    = Cert.RefAdamOutIdeal.Read.val_main_v24 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4, block4, iblk0, iblk1, iblk2, iblk3]
  have e0 : (((win0_4.blk t).view.emb y : S2048x1024.Idx) 0).val = 512 * t.val + (y 0).val := by blk_simp [idx t]; try omega
  have e1 : (((win0_4.blk t).view.emb y : S2048x1024.Idx) 1).val = (y 1).val := by blk_simp [idx t]; try omega
  refine Eq.trans ?_ ((Cert.RefAdamOutIdeal.Read.val_main_v24_apply _ _ _ _ _).trans (refStep _ _ _ _ _)).symm
  exact congr (congr (congr (congrArg step (refFlat _ _ _ _ e0 e1).symm) (refFlat _ _ _ _ e0 e1).symm) (refFlat _ _ _ _ e0 e1).symm) (refFlat _ _ _ _ e0 e1).symm

/-- the running means' is -/
theorem finMean : ((dats m 0 c).arrAt 5 cfg0.N : S2048x1024.Idx → EReal)
    = Cert.RefAdamOutIdeal.Read.val_main_v25 (F := Ideal) (m ((c : Thread nD τ).loc main_arg1)) (m ((c : Thread nD τ).loc main_arg2)) := by
  refine (dats m 0 c).arrAt_eq_of_covers 5 _ (by decide +kernel) fun t hf y => ?_
  blk_simp
  rw [after0_5, block5, iblk1, iblk2]
  have e0 : (((win0_5.blk t).view.emb y : S2048x1024.Idx) 0).val = 512 * t.val + (y 0).val := by blk_simp [idx t]; try omega
  have e1 : (((win0_5.blk t).view.emb y : S2048x1024.Idx) 1).val = (y 1).val := by blk_simp [idx t]; try omega
  refine Eq.trans ?_ ((Cert.RefAdamOutIdeal.Read.val_main_v25_apply _ _ _).trans (refMean _ _ _)).symm
  exact congrArg₂ mean (refFlat _ _ _ _ e0 e1).symm (refFlat _ _ _ _ e0 e1).symm

/-- and that of the square's. -/
theorem finSquare : ((dats m 0 c).arrAt 6 cfg0.N : S2048x1024.Idx → EReal)
    = Cert.RefAdamOutIdeal.Read.val_main_v26 (F := Ideal) (m ((c : Thread nD τ).loc main_arg1)) (m ((c : Thread nD τ).loc main_arg3)) := by
  refine (dats m 0 c).arrAt_eq_of_covers 6 _ (by decide +kernel) fun t hf y => ?_
  blk_simp
  rw [after0_6, block6, iblk1, iblk3]
  have e0 : (((win0_6.blk t).view.emb y : S2048x1024.Idx) 0).val = 512 * t.val + (y 0).val := by blk_simp [idx t]; try omega
  have e1 : (((win0_6.blk t).view.emb y : S2048x1024.Idx) 1).val = (y 1).val := by blk_simp [idx t]; try omega
  refine Eq.trans ?_ ((Cert.RefAdamOutIdeal.Read.val_main_v26_apply _ _ _).trans (refSquare _ _ _)).symm
  exact congrArg₂ square (refFlat _ _ _ _ e0 e1).symm (refFlat _ _ _ _ e0 e1).symm

end Cert.AdamOutIdeal.Step

namespace Cert.AdamOutIdeal

open Idealize.ShloMosaic Idealize.SL.Sem

/-- The reference's run terminates, keeps its arguments and leaves every semaphore at zero. -/
theorem frame_reference : Cert.quiescent_RefAdamOutIdeal := fun m ρ _ =>
  (θ_run Cert.RefAdamOutIdeal.defs _ _).mono
    (fun r h => ⟨fun c => (h c).2.2.2, Idealize.ShloMosaic.sem_eq_zero_of_no_sems (by decide) r.2⟩)
    (Cert.RefAdamOutIdeal.Value.run (F := Ideal) m ρ)

/-- The reference's results are the kernel's. -/
theorem algebraic : Cert.algebraic_AdamOutIdeal_RefAdamOutIdeal := by
  intro m ρ m' ρ' _ hagree
  refine ⟨_, _, _, Cert.AdamOutIdeal.Value.run_blocks (F := Ideal) m ρ, ?_⟩
  refine (θ_run Cert.RefAdamOutIdeal.defs _ _).mono (fun _ h c => ⟨(h c).1.trans ?_, (h c).2.1.trans ?_, (h c).2.2.1.trans ?_, (h c).2.2.2⟩)
    (Cert.RefAdamOutIdeal.Value.run (F := Ideal) m' ρ')
  all_goals
    obtain ⟨a0, a1, a2, a3⟩ := hagree c
  · rw [a0, a1, a2, a3]
    exact (Cert.RefAdamOutIdeal.Read.val_main_v24_eq (F := Ideal) _ _ _ _).trans (Step.finStep m c).symm
  · rw [a1, a2]
    exact (Cert.RefAdamOutIdeal.Read.val_main_v25_eq (F := Ideal) _ _).trans (Step.finMean m c).symm
  · rw [a1, a3]
    exact (Cert.RefAdamOutIdeal.Read.val_main_v26_eq (F := Ideal) _ _).trans (Step.finSquare m c).symm

end Cert.AdamOutIdeal
-- ==== Proof.AdamIn.lean ====
module

public import proofs.«01_k».proof.Defs
public import proofs.«01_k».proof.Proof.Adam
public import Idealize.ShloMosaic.Lib.Pipeline.ValueKit
public import Idealize.ShloMosaic.Lib.Pointwise
public import Idealize.ShloMosaic.PureOps.Ideal.Laws
public import proofs.«01_k».proof.Proof.Gen.AdamIn
public import proofs.«01_k».proof.Proof.Gen.AdamIn.Skeleton
public import proofs.«01_k».proof.Proof.Gen.AdamIn.Launch
public import proofs.«01_k».proof.Proof.Gen.AdamIn.Points
public import proofs.«01_k».proof.Proof.Gen.AdamIn.Frame
public import proofs.«01_k».proof.Proof.Gen.AdamInIdeal
public import proofs.«01_k».proof.Proof.Gen.AdamInIdeal.Skeleton
public import proofs.«01_k».proof.Proof.Gen.AdamInIdeal.Launch
public import proofs.«01_k».proof.Proof.Gen.AdamInIdeal.Points
public import proofs.«01_k».proof.Proof.Gen.AdamInIdeal.Frame
public import proofs.«01_k».proof.Proof.Gen.AdamInIdeal.Value
public import proofs.«01_k».proof.Proof.Gen.RefAdamInIdeal
public import proofs.«01_k».proof.Proof.Gen.RefAdamInIdeal.Run
public import proofs.«01_k».proof.Proof.Gen.RefAdamInIdeal.Read

/-! The optimiser's step for a chip's part of the input projection's weights: the kernel's result arrays are the reference's. -/

@[expose] public section

set_option maxRecDepth 16384

namespace Cert.AdamInIdeal.Step

open Cert.RefAdamInIdeal Cert.RefAdamInIdeal.Read Idealize.ShloMosaic Cert.Adam

variable (w g v u : S4x1024x1156.Idx → EReal)

/-- The reference's reshape of a stack, read at a row and a column. -/
theorem refFlat (x : S4x1024x1156.Idx → EReal) (i : S4096x1156.Idx) (r q : ℕ) (h0 : (i 0).val = r) (h1 : (i 1).val = q) :
    x (idx_main_v24 i) = flat (L := 4) (M := 1024) (K := 1156) x r q := by
  subst h0 h1
  have b : (i 1).val < 1156 := (i 1).isLt
  refine flat_eq _ _ _ _ ?_ ?_ ?_
  all_goals (dsimp only; omega)

/-- The reference's running mean at an entry, -/
theorem refMean (i : S4x1024x1156.Idx) : (val_main_v4 (F := Ideal) g v i : EReal) = mean (g i) (v i) := by
  simp only [val_main_v4_apply, val_main_v3_apply, val_main_v2_apply, val_main_v1_apply, val_main_v0_apply, val_main_cst_apply, val_main_cst_0_apply]
  rfl

/-- its running mean of the square, -/
theorem refSquare (i : S4x1024x1156.Idx) : (val_main_v10 (F := Ideal) g u i : EReal) = square (g i) (u i) := by
  simp only [val_main_v10_apply, val_main_v9_apply, val_main_v8_apply, val_main_v7_apply, val_main_v6_apply, val_main_v5_apply,
    val_main_cst_1_apply, val_main_cst_2_apply]
  rfl

/-- and the weight's change. -/
theorem refStep (i : S4x1024x1156.Idx) : (val_main_v23 (F := Ideal) w g v u i : EReal) = step (w i) (g i) (v i) (u i) := by
  simp only [val_main_v23_apply, val_main_v22_apply, val_main_v21_apply, val_main_v20_apply, val_main_v19_apply, val_main_v18_apply,
    val_main_v17_apply, val_main_v16_apply, val_main_v15_apply, val_main_v14_apply, val_main_v13_apply, val_main_v12_apply, val_main_v11_apply,
    val_main_cst_3_apply, val_main_cst_4_apply, val_main_cst_5_apply, val_main_cst_6_apply, val_main_cst_7_apply, refMean, refSquare]
  rfl

end Cert.AdamInIdeal.Step

namespace Cert.AdamInIdeal.Step

open Cert.AdamInIdeal Cert.AdamInIdeal.Gen Idealize.ShloMosaic Idealize.ShloMosaic.TcCoe Idealize.SL.Sem Cert.Adam

variable (m : (ℓ : Loc nD τ sig) → Buf (Elt Ideal) ℓ) (c : Dev nD)

/-- The blocks that a grid point takes and gives. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

/-- A block of the changes, -/
theorem block4 (w g v u : FVec Ideal S256x1156 .f32) (y : S256x1156.Idx) : (out0_4 (F := Ideal) w g v u y : EReal) = step (w y) (g y) (v y) (u y) := by
  unfold out0_4
  rw [View.canon_unit_zero (by funext a; fin_cases a <;> rfl), View.ld_unit_zero (by funext a; fin_cases a <;> rfl), View.ld_unit_zero (by funext a; fin_cases a <;> rfl),
    View.ld_unit_zero (by funext a; fin_cases a <;> rfl), View.ld_unit_zero (by funext a; fin_cases a <;> rfl)]
  pointwise [k0_pay4, k0_pay3, k0_pay2, k0_pay1]
  rfl

/-- of the running means -/
theorem block5 (w g v u : FVec Ideal S256x1156 .f32) (y : S256x1156.Idx) : (out0_5 (F := Ideal) w g v u y : EReal) = mean (g y) (v y) := by
  unfold out0_5
  rw [View.canon_unit_zero (by funext a; fin_cases a <;> rfl), View.ld_unit_zero (by funext a; fin_cases a <;> rfl), View.ld_unit_zero (by funext a; fin_cases a <;> rfl)]
  pointwise [k0_pay2, k0_pay1]
  rfl

/-- and of those of the square. -/
theorem block6 (w g v u : FVec Ideal S256x1156 .f32) (y : S256x1156.Idx) : (out0_6 (F := Ideal) w g v u y : EReal) = square (g y) (u y) := by
  unfold out0_6
  rw [View.canon_unit_zero (by funext a; fin_cases a <;> rfl), View.ld_unit_zero (by funext a; fin_cases a <;> rfl), View.ld_unit_zero (by funext a; fin_cases a <;> rfl)]
  pointwise [k0_pay3, k0_pay1]
  rfl

/-- The weights' block, -/
theorem iblk0 (t : Fin cfg0.N) (y : S256x1156.Idx) : (iblk m c 0 t y : EReal)
    = flat (L := 4) (M := 1024) (K := 1156) (m ((c : Thread nD τ).loc main_arg0)) (256 * t.val + (y 0).val) (y 1).val := by
  blk_simp [iblk]
  entry_read
  pointwise
  have e0 : (((win0_0.blk t).view.emb y : S4096x1156.Idx) 0).val = 256 * t.val + (y 0).val := by blk_simp [idx t]; try omega
  have e1 : (((win0_0.blk t).view.emb y : S4096x1156.Idx) 1).val = (y 1).val := by blk_simp [idx t]; try omega
  exact flat_eq _ _ _ _ (congrArg (· / 1024) e0) (congrArg (· % 1024) e0) e1

/-- the gradient's, -/
theorem iblk1 (t : Fin cfg0.N) (y : S256x1156.Idx) : (iblk m c 1 t y : EReal)
    = flat (L := 4) (M := 1024) (K := 1156) (m ((c : Thread nD τ).loc main_arg1)) (256 * t.val + (y 0).val) (y 1).val := by
  blk_simp [iblk]
  entry_read
  pointwise
  have e0 : (((win0_1.blk t).view.emb y : S4096x1156.Idx) 0).val = 256 * t.val + (y 0).val := by blk_simp [idx t]; try omega
  have e1 : (((win0_1.blk t).view.emb y : S4096x1156.Idx) 1).val = (y 1).val := by blk_simp [idx t]; try omega
  exact flat_eq _ _ _ _ (congrArg (· / 1024) e0) (congrArg (· % 1024) e0) e1

/-- the running mean's -/
theorem iblk2 (t : Fin cfg0.N) (y : S256x1156.Idx) : (iblk m c 2 t y : EReal)
    = flat (L := 4) (M := 1024) (K := 1156) (m ((c : Thread nD τ).loc main_arg2)) (256 * t.val + (y 0).val) (y 1).val := by
  blk_simp [iblk]
  entry_read
  pointwise
  have e0 : (((win0_2.blk t).view.emb y : S4096x1156.Idx) 0).val = 256 * t.val + (y 0).val := by blk_simp [idx t]; try omega
  have e1 : (((win0_2.blk t).view.emb y : S4096x1156.Idx) 1).val = (y 1).val := by blk_simp [idx t]; try omega
  exact flat_eq _ _ _ _ (congrArg (· / 1024) e0) (congrArg (· % 1024) e0) e1

/-- and that of the square's. -/
theorem iblk3 (t : Fin cfg0.N) (y : S256x1156.Idx) : (iblk m c 3 t y : EReal)
    = flat (L := 4) (M := 1024) (K := 1156) (m ((c : Thread nD τ).loc main_arg3)) (256 * t.val + (y 0).val) (y 1).val := by
  blk_simp [iblk]
  entry_read
  pointwise
  have e0 : (((win0_3.blk t).view.emb y : S4096x1156.Idx) 0).val = 256 * t.val + (y 0).val := by blk_simp [idx t]; try omega
  have e1 : (((win0_3.blk t).view.emb y : S4096x1156.Idx) 1).val = (y 1).val := by blk_simp [idx t]; try omega
  exact flat_eq _ _ _ _ (congrArg (· / 1024) e0) (congrArg (· % 1024) e0) e1

/-- The changes' array is the reference's, -/
theorem finStep : ((dats m 0 c).arrAt 4 cfg0.N : S4096x1156.Idx → EReal)
    = Cert.RefAdamInIdeal.Read.val_main_v24 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4, block4, iblk0, iblk1, iblk2, iblk3]
  have e0 : (((win0_4.blk t).view.emb y : S4096x1156.Idx) 0).val = 256 * t.val + (y 0).val := by blk_simp [idx t]; try omega
  have e1 : (((win0_4.blk t).view.emb y : S4096x1156.Idx) 1).val = (y 1).val := by blk_simp [idx t]; try omega
  refine Eq.trans ?_ ((Cert.RefAdamInIdeal.Read.val_main_v24_apply _ _ _ _ _).trans (refStep _ _ _ _ _)).symm
  exact congr (congr (congr (congrArg step (refFlat _ _ _ _ e0 e1).symm) (refFlat _ _ _ _ e0 e1).symm) (refFlat _ _ _ _ e0 e1).symm) (refFlat _ _ _ _ e0 e1).symm

/-- the running means' is -/
theorem finMean : ((dats m 0 c).arrAt 5 cfg0.N : S4096x1156.Idx → EReal)
    = Cert.RefAdamInIdeal.Read.val_main_v25 (F := Ideal) (m ((c : Thread nD τ).loc main_arg1)) (m ((c : Thread nD τ).loc main_arg2)) := by
  refine (dats m 0 c).arrAt_eq_of_covers 5 _ (by decide +kernel) fun t hf y => ?_
  blk_simp
  rw [after0_5, block5, iblk1, iblk2]
  have e0 : (((win0_5.blk t).view.emb y : S4096x1156.Idx) 0).val = 256 * t.val + (y 0).val := by blk_simp [idx t]; try omega
  have e1 : (((win0_5.blk t).view.emb y : S4096x1156.Idx) 1).val = (y 1).val := by blk_simp [idx t]; try omega
  refine Eq.trans ?_ ((Cert.RefAdamInIdeal.Read.val_main_v25_apply _ _ _).trans (refMean _ _ _)).symm
  exact congrArg₂ mean (refFlat _ _ _ _ e0 e1).symm (refFlat _ _ _ _ e0 e1).symm

/-- and that of the square's. -/
theorem finSquare : ((dats m 0 c).arrAt 6 cfg0.N : S4096x1156.Idx → EReal)
    = Cert.RefAdamInIdeal.Read.val_main_v26 (F := Ideal) (m ((c : Thread nD τ).loc main_arg1)) (m ((c : Thread nD τ).loc main_arg3)) := by
  refine (dats m 0 c).arrAt_eq_of_covers 6 _ (by decide +kernel) fun t hf y => ?_
  blk_simp
  rw [after0_6, block6, iblk1, iblk3]
  have e0 : (((win0_6.blk t).view.emb y : S4096x1156.Idx) 0).val = 256 * t.val + (y 0).val := by blk_simp [idx t]; try omega
  have e1 : (((win0_6.blk t).view.emb y : S4096x1156.Idx) 1).val = (y 1).val := by blk_simp [idx t]; try omega
  refine Eq.trans ?_ ((Cert.RefAdamInIdeal.Read.val_main_v26_apply _ _ _).trans (refSquare _ _ _)).symm
  exact congrArg₂ square (refFlat _ _ _ _ e0 e1).symm (refFlat _ _ _ _ e0 e1).symm

end Cert.AdamInIdeal.Step

namespace Cert.AdamInIdeal

open Idealize.ShloMosaic Idealize.SL.Sem

/-- The reference's run terminates, keeps its arguments and leaves every semaphore at zero. -/
theorem frame_reference : Cert.quiescent_RefAdamInIdeal := fun m ρ _ =>
  (θ_run Cert.RefAdamInIdeal.defs _ _).mono
    (fun r h => ⟨fun c => (h c).2.2.2, Idealize.ShloMosaic.sem_eq_zero_of_no_sems (by decide) r.2⟩)
    (Cert.RefAdamInIdeal.Value.run (F := Ideal) m ρ)

/-- The reference's results are the kernel's. -/
theorem algebraic : Cert.algebraic_AdamInIdeal_RefAdamInIdeal := by
  intro m ρ m' ρ' _ hagree
  refine ⟨_, _, _, Cert.AdamInIdeal.Value.run_blocks (F := Ideal) m ρ, ?_⟩
  refine (θ_run Cert.RefAdamInIdeal.defs _ _).mono (fun _ h c => ⟨(h c).1.trans ?_, (h c).2.1.trans ?_, (h c).2.2.1.trans ?_, (h c).2.2.2⟩)
    (Cert.RefAdamInIdeal.Value.run (F := Ideal) m' ρ')
  all_goals
    obtain ⟨a0, a1, a2, a3⟩ := hagree c
  · rw [a0, a1, a2, a3]
    exact (Cert.RefAdamInIdeal.Read.val_main_v24_eq (F := Ideal) _ _ _ _).trans (Step.finStep m c).symm
  · rw [a1, a2]
    exact (Cert.RefAdamInIdeal.Read.val_main_v25_eq (F := Ideal) _ _).trans (Step.finMean m c).symm
  · rw [a1, a3]
    exact (Cert.RefAdamInIdeal.Read.val_main_v26_eq (F := Ideal) _ _).trans (Step.finSquare m c).symm

end Cert.AdamInIdeal
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Finite
public import proofs.«01_k».proof.Proof.KVal
public import proofs.«01_k».proof.Proof.RefB
public import proofs.«01_k».proof.Proof.FfDownDx
public import proofs.«01_k».proof.Proof.FfDownDw
public import proofs.«01_k».proof.Proof.FfUpDw
public import proofs.«01_k».proof.Proof.FfUpDx
public import proofs.«01_k».proof.Proof.OutDw
public import proofs.«01_k».proof.Proof.OutDx
public import proofs.«01_k».proof.Proof.InDw
public import proofs.«01_k».proof.Proof.InDx
public import proofs.«01_k».proof.Proof.FfDownFwd
public import proofs.«01_k».proof.Proof.FfUpFwd
public import proofs.«01_k».proof.Proof.OutFwd
public import proofs.«01_k».proof.Proof.InDtDw
public import proofs.«01_k».proof.Proof.InDtDx
public import proofs.«01_k».proof.Proof.InDtFwd
public import proofs.«01_k».proof.Proof.InFwd
public import proofs.«01_k».proof.Proof.GateBwd
public import proofs.«01_k».proof.Proof.RmsBwd
public import proofs.«01_k».proof.Proof.LossHead
public import proofs.«01_k».proof.Proof.GateFwd
public import proofs.«01_k».proof.Proof.RmsFwd
public import proofs.«01_k».proof.Proof.ConvBwd
public import proofs.«01_k».proof.Proof.ConvFwd
public import proofs.«01_k».proof.Proof.AdamFf
public import proofs.«01_k».proof.Proof.AdamOut
public import proofs.«01_k».proof.Proof.AdamIn
public import Idealize.ShloMosaic.Adequacy
public import Idealize.ShloMosaic.Init

@[expose] public section

noncomputable section

namespace Cert.Proof

open Idealize.ShloMosaic Idealize.SL.Sem Cert.Up Cert.Model Cert.KernelIdeal

/-- The reference's run terminates, keeps its arguments and leaves every semaphore at zero. -/
theorem frame_reference : Cert.quiescent_ReferenceIdeal := fun m ρ _ =>
  (θ_run Cert.ReferenceIdeal.defs _ _).mono
    (fun r h => ⟨fun c => (h c).2.2.2.2.2.2, Idealize.ShloMosaic.sem_eq_zero_of_no_sems (by decide) r.2⟩)
    (Cert.ReferenceIdeal.Value.run (F := Ideal) m ρ)

/-- The reference's results on finite arguments are the kernel's. -/
theorem algebraic : Cert.algebraic_KernelIdeal_ReferenceIdeal_pre_finite := by
  intro m ρ m' ρ' hpre hagree
  have hr : ∀ c : Dev nD, Chunk.Real6 m c := fun c => by
    obtain ⟨h0, h1, h2, h3, h4, h5⟩ := Cert.Finite.reals _ _ _ _ _ _ (hpre c)
    exact ⟨h0, h1, h2, h3, h4, h5⟩
  let A : Dev nD → Cert.ReferenceIdeal.Read.Args := fun c => ⟨_, _, _, _, _, _, (hr c).p, (hr c).g, (hr c).b, (hr c).w, (hr c).s, (hr c).d⟩
  refine ⟨_, _, _, _, _, _, Cert.KernelIdeal.Value.run_blocks (F := Ideal) m ρ, ?_⟩
  refine (θ_run Cert.ReferenceIdeal.defs _ _).mono (fun _ h c => ⟨(h c).1.trans ?_, (h c).2.1.trans ?_, (h c).2.2.1.trans ?_,
    (h c).2.2.2.1.trans ?_, (h c).2.2.2.2.1.trans ?_, (h c).2.2.2.2.2.1.trans ?_, (h c).2.2.2.2.2.2⟩)
    (Cert.ReferenceIdeal.Value.run (F := Ideal) m' ρ')
  all_goals
    obtain ⟨a0, a1, a2, a3, a4, a5⟩ := hagree c
    rw [← StableHlo.launchContents_devRef m'] at a0 a1 a2 a3 a4 a5
  · refine (Cert.ReferenceIdeal.Read.val_main_v140_eq (F := Ideal) (StableHlo.launchContents m' c)).trans ?_
    rw [a0, a1, a2, a3, a4, a5]
    exact (Cert.ReferenceIdeal.Read.l140 (A c)).trans (Chunk.finU m c (hr c)).symm
  · refine (Cert.ReferenceIdeal.Read.val_main_v142_eq (F := Ideal) (StableHlo.launchContents m' c)).trans ?_
    rw [a0, a1, a3, a5]
    exact (Cert.ReferenceIdeal.Read.l142 (A c)).trans (Chunk.finV m c (hr c)).symm
  · refine (Cert.ReferenceIdeal.Read.val_main_v143_eq (F := Ideal) (StableHlo.launchContents m' c)).trans ?_
    rw [a0, a3, a5]
    exact (Cert.ReferenceIdeal.Read.l143 (A c)).trans (Chunk.finG m c (hr c)).symm
  · refine (Cert.ReferenceIdeal.Read.val_main_v144_eq (F := Ideal) (StableHlo.launchContents m' c)).trans ?_
    rw [a0, a3, a5]
    exact (Cert.ReferenceIdeal.Read.l144 (A c)).trans (Chunk.finB m c (hr c)).symm
  · refine (Cert.ReferenceIdeal.Read.val_main_v82_eq (F := Ideal) (StableHlo.launchContents m' c)).trans ?_
    rw [a0, a1, a2, a5]
    exact (Cert.ReferenceIdeal.Read.l82 (A c)).trans (Chunk.finW m c (hr c)).symm
  · refine (Cert.ReferenceIdeal.Read.val_main_v145_eq (F := Ideal) (StableHlo.launchContents m' c)).trans ?_
    rw [a0, a5]
    exact (Cert.ReferenceIdeal.Read.l145 (A c)).trans (Chunk.finS m c (hr c)).symm

/-- Everything stated: the gMLP pair, then the eight backward products, the four forward ones, the gradients of the row
    normalisation and of the gated one, their forward calls, the loss, the convolution's gradients and forward call,
    the three products of the step sizes' columns, and the optimiser's step for the products' weights. -/
theorem claim : Cert.Claim :=
  ⟨Cert.Kernel.Gen.facts,
   Cert.KernelIdeal.Gen.facts,
   Cert.ReferenceIdeal.Gen.facts,
   Cert.FfDownDx.Gen.facts,
   Cert.FfDownDxIdeal.Gen.facts,
   Cert.RefFfDownDxIdeal.Gen.facts,
   Cert.FfDownDw.Gen.facts,
   Cert.FfDownDwIdeal.Gen.facts,
   Cert.RefFfDownDwIdeal.Gen.facts,
   Cert.FfUpDw.Gen.facts,
   Cert.FfUpDwIdeal.Gen.facts,
   Cert.RefFfUpDwIdeal.Gen.facts,
   Cert.FfUpDx.Gen.facts,
   Cert.FfUpDxIdeal.Gen.facts,
   Cert.RefFfUpDxIdeal.Gen.facts,
   Cert.OutDw.Gen.facts,
   Cert.OutDwIdeal.Gen.facts,
   Cert.RefOutDwIdeal.Gen.facts,
   Cert.OutDx.Gen.facts,
   Cert.OutDxIdeal.Gen.facts,
   Cert.RefOutDxIdeal.Gen.facts,
   Cert.InDw.Gen.facts,
   Cert.InDwIdeal.Gen.facts,
   Cert.RefInDwIdeal.Gen.facts,
   Cert.InDx.Gen.facts,
   Cert.InDxIdeal.Gen.facts,
   Cert.RefInDxIdeal.Gen.facts,
   Cert.InFwd.Gen.facts,
   Cert.InFwdIdeal.Gen.facts,
   Cert.RefInFwdIdeal.Gen.facts,
   Cert.OutFwd.Gen.facts,
   Cert.OutFwdIdeal.Gen.facts,
   Cert.RefOutFwdIdeal.Gen.facts,
   Cert.FfUpFwd.Gen.facts,
   Cert.FfUpFwdIdeal.Gen.facts,
   Cert.RefFfUpFwdIdeal.Gen.facts,
   Cert.FfDownFwd.Gen.facts,
   Cert.FfDownFwdIdeal.Gen.facts,
   Cert.RefFfDownFwdIdeal.Gen.facts,
   Cert.RmsBwd.Gen.facts,
   Cert.RmsBwdIdeal.Gen.facts,
   Cert.RefRmsBwdIdeal.Gen.facts,
   Cert.GateBwd.Gen.facts,
   Cert.GateBwdIdeal.Gen.facts,
   Cert.RefGateBwdIdeal.Gen.facts,
   Cert.RmsFwd.Gen.facts,
   Cert.RmsFwdIdeal.Gen.facts,
   Cert.RefRmsFwdIdeal.Gen.facts,
   Cert.GateFwd.Gen.facts,
   Cert.GateFwdIdeal.Gen.facts,
   Cert.RefGateFwdIdeal.Gen.facts,
   Cert.LossHead.Gen.facts,
   Cert.LossHeadIdeal.Gen.facts,
   Cert.RefLossHeadIdeal.Gen.facts,
   Cert.ConvBwd.Gen.facts,
   Cert.ConvBwdIdeal.Gen.facts,
   Cert.RefConvBwdIdeal.Gen.facts,
   Cert.ConvFwd.Gen.facts,
   Cert.ConvFwdIdeal.Gen.facts,
   Cert.RefConvFwdIdeal.Gen.facts,
   Cert.InDtDw.Gen.facts,
   Cert.InDtDwIdeal.Gen.facts,
   Cert.RefInDtDwIdeal.Gen.facts,
   Cert.InDtDx.Gen.facts,
   Cert.InDtDxIdeal.Gen.facts,
   Cert.RefInDtDxIdeal.Gen.facts,
   Cert.InDtFwd.Gen.facts,
   Cert.InDtFwdIdeal.Gen.facts,
   Cert.RefInDtFwdIdeal.Gen.facts,
   Cert.AdamFf.Gen.facts,
   Cert.AdamFfIdeal.Gen.facts,
   Cert.RefAdamFfIdeal.Gen.facts,
   Cert.AdamOut.Gen.facts,
   Cert.AdamOutIdeal.Gen.facts,
   Cert.RefAdamOutIdeal.Gen.facts,
   Cert.AdamIn.Gen.facts,
   Cert.AdamInIdeal.Gen.facts,
   Cert.RefAdamInIdeal.Gen.facts,
   Cert.Finite.facts,
   fun m ρ _ => Cert.Kernel.Gen.frame m ρ,
   fun m ρ _ => Cert.KernelIdeal.Gen.frame m ρ,
   fun m ρ _ => Cert.KernelIdeal.Gen.frame m ρ,
   frame_reference,
   fun m ρ _ => frame_reference m ρ trivial,
   fun m ρ _ => Cert.FfDownDx.Gen.frame m ρ,
   fun m ρ _ => Cert.FfDownDxIdeal.Gen.frame m ρ,
   Cert.FfDownDxIdeal.frame_reference,
   fun m ρ _ => Cert.FfDownDw.Gen.frame m ρ,
   fun m ρ _ => Cert.FfDownDwIdeal.Gen.frame m ρ,
   Cert.FfDownDwIdeal.frame_reference,
   fun m ρ _ => Cert.FfUpDw.Gen.frame m ρ,
   fun m ρ _ => Cert.FfUpDwIdeal.Gen.frame m ρ,
   Cert.FfUpDwIdeal.frame_reference,
   fun m ρ _ => Cert.FfUpDx.Gen.frame m ρ,
   fun m ρ _ => Cert.FfUpDxIdeal.Gen.frame m ρ,
   Cert.FfUpDxIdeal.frame_reference,
   fun m ρ _ => Cert.OutDw.Gen.frame m ρ,
   fun m ρ _ => Cert.OutDwIdeal.Gen.frame m ρ,
   Cert.OutDwIdeal.frame_reference,
   fun m ρ _ => Cert.OutDx.Gen.frame m ρ,
   fun m ρ _ => Cert.OutDxIdeal.Gen.frame m ρ,
   Cert.OutDxIdeal.frame_reference,
   fun m ρ _ => Cert.InDw.Gen.frame m ρ,
   fun m ρ _ => Cert.InDwIdeal.Gen.frame m ρ,
   Cert.InDwIdeal.frame_reference,
   fun m ρ _ => Cert.InDx.Gen.frame m ρ,
   fun m ρ _ => Cert.InDxIdeal.Gen.frame m ρ,
   Cert.InDxIdeal.frame_reference,
   fun m ρ _ => Cert.InFwd.Gen.frame m ρ,
   fun m ρ _ => Cert.InFwdIdeal.Gen.frame m ρ,
   Cert.InFwdIdeal.frame_reference,
   fun m ρ _ => Cert.OutFwd.Gen.frame m ρ,
   fun m ρ _ => Cert.OutFwdIdeal.Gen.frame m ρ,
   Cert.OutFwdIdeal.frame_reference,
   fun m ρ _ => Cert.FfUpFwd.Gen.frame m ρ,
   fun m ρ _ => Cert.FfUpFwdIdeal.Gen.frame m ρ,
   Cert.FfUpFwdIdeal.frame_reference,
   fun m ρ _ => Cert.FfDownFwd.Gen.frame m ρ,
   fun m ρ _ => Cert.FfDownFwdIdeal.Gen.frame m ρ,
   Cert.FfDownFwdIdeal.frame_reference,
   fun m ρ _ => Cert.RmsBwd.Gen.frame m ρ,
   fun m ρ _ => Cert.RmsBwdIdeal.Gen.frame m ρ,
   Cert.RmsBwdIdeal.frame_reference,
   fun m ρ _ => Cert.GateBwd.Gen.frame m ρ,
   fun m ρ _ => Cert.GateBwdIdeal.Gen.frame m ρ,
   Cert.GateBwdIdeal.frame_reference,
   fun m ρ _ => Cert.RmsFwd.Gen.frame m ρ,
   fun m ρ _ => Cert.RmsFwdIdeal.Gen.frame m ρ,
   Cert.RmsFwdIdeal.frame_reference,
   fun m ρ _ => Cert.GateFwd.Gen.frame m ρ,
   fun m ρ _ => Cert.GateFwdIdeal.Gen.frame m ρ,
   Cert.GateFwdIdeal.frame_reference,
   fun m ρ _ => Cert.LossHead.Gen.frame m ρ,
   fun m ρ _ => Cert.LossHeadIdeal.Gen.frame m ρ,
   Cert.LossHeadIdeal.frame_reference,
   fun m ρ _ => Cert.ConvBwd.Gen.frame m ρ,
   fun m ρ _ => Cert.ConvBwdIdeal.Gen.frame m ρ,
   Cert.ConvBwdIdeal.frame_reference,
   fun m ρ _ => Cert.ConvFwd.Gen.frame m ρ,
   fun m ρ _ => Cert.ConvFwdIdeal.Gen.frame m ρ,
   Cert.ConvFwdIdeal.frame_reference,
   fun m ρ _ => Cert.InDtDw.Gen.frame m ρ,
   fun m ρ _ => Cert.InDtDwIdeal.Gen.frame m ρ,
   Cert.InDtDwIdeal.frame_reference,
   fun m ρ _ => Cert.InDtDx.Gen.frame m ρ,
   fun m ρ _ => Cert.InDtDxIdeal.Gen.frame m ρ,
   Cert.InDtDxIdeal.frame_reference,
   fun m ρ _ => Cert.InDtFwd.Gen.frame m ρ,
   fun m ρ _ => Cert.InDtFwdIdeal.Gen.frame m ρ,
   Cert.InDtFwdIdeal.frame_reference,
   fun m ρ _ => Cert.AdamFf.Gen.frame m ρ,
   fun m ρ _ => Cert.AdamFfIdeal.Gen.frame m ρ,
   Cert.AdamFfIdeal.frame_reference,
   fun m ρ _ => Cert.AdamOut.Gen.frame m ρ,
   fun m ρ _ => Cert.AdamOutIdeal.Gen.frame m ρ,
   Cert.AdamOutIdeal.frame_reference,
   fun m ρ _ => Cert.AdamIn.Gen.frame m ρ,
   fun m ρ _ => Cert.AdamInIdeal.Gen.frame m ρ,
   Cert.AdamInIdeal.frame_reference,
   trivial,
   algebraic,
   trivial,
   Cert.FfDownDxIdeal.algebraic,
   trivial,
   Cert.FfDownDwIdeal.algebraic,
   trivial,
   Cert.FfUpDwIdeal.algebraic,
   trivial,
   Cert.FfUpDxIdeal.algebraic,
   trivial,
   Cert.OutDwIdeal.algebraic,
   trivial,
   Cert.OutDxIdeal.algebraic,
   trivial,
   Cert.InDwIdeal.algebraic,
   trivial,
   Cert.InDxIdeal.algebraic,
   trivial,
   Cert.InFwdIdeal.algebraic,
   trivial,
   Cert.OutFwdIdeal.algebraic,
   trivial,
   Cert.FfUpFwdIdeal.algebraic,
   trivial,
   Cert.FfDownFwdIdeal.algebraic,
   trivial,
   Cert.RmsBwdIdeal.algebraic,
   trivial,
   Cert.GateBwdIdeal.algebraic,
   trivial,
   Cert.RmsFwdIdeal.algebraic,
   trivial,
   Cert.GateFwdIdeal.algebraic,
   trivial,
   Cert.LossHeadIdeal.algebraic,
   trivial,
   Cert.ConvBwdIdeal.algebraic,
   trivial,
   Cert.ConvFwdIdeal.algebraic,
   trivial,
   Cert.InDtDwIdeal.algebraic,
   trivial,
   Cert.InDtDxIdeal.algebraic,
   trivial,
   Cert.InDtFwdIdeal.algebraic,
   trivial,
   Cert.AdamFfIdeal.algebraic,
   trivial,
   Cert.AdamOutIdeal.algebraic,
   trivial,
   Cert.AdamInIdeal.algebraic⟩

end Cert.Proof

end
